-- ==== Defs.lean ====
def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_att [hPre_finite_att : Cert.Pre_finite_att.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_att.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_att [hPre_finite_att : Cert.Pre_finite_att.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_att.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))) = (fun _ => 1#1)

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_finite_in [hPre_finite_in : Cert.Pre_finite_in.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8)) (m ((c.tc : Thread Cert.InBwdIdeal.nD Cert.InBwdIdeal.τ).loc Cert.InBwdIdeal.main_arg9)) (m ((c.tc : Thread Cert.InBwdIdeal.nD Cert.InBwdIdeal.τ).loc Cert.InBwdIdeal.main_arg10)) (m ((c.tc : Thread Cert.InBwdIdeal.nD Cert.InBwdIdeal.τ).loc Cert.InBwdIdeal.main_arg11)) (m ((c.tc : Thread Cert.InBwdIdeal.nD Cert.InBwdIdeal.τ).loc Cert.InBwdIdeal.main_arg12)) (m ((c.tc : Thread Cert.InBwdIdeal.nD Cert.InBwdIdeal.τ).loc Cert.InBwdIdeal.main_arg13))) = (fun _ => 1#1)

def Pre_InRefIdeal (m : (ℓ : Loc Cert.InRefIdeal.nD Cert.InRefIdeal.τ Cert.InRefIdeal.sig) → Buf (Elt Ideal) ℓ) : Prop :=
  True

def Pre_InRefIdeal_finite_in [hPre_finite_in : Cert.Pre_finite_in.Facts] (m : (ℓ : Loc Cert.InRefIdeal.nD Cert.InRefIdeal.τ Cert.InRefIdeal.sig) → Buf (Elt Ideal) ℓ) : Prop :=
  ∀ c : Dev Cert.InRefIdeal.nD,
    (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7)) (m ((c.tc : Thread Cert.InRefIdeal.nD Cert.InRefIdeal.τ).loc Cert.InRefIdeal.main_arg8)) (m ((c.tc : Thread Cert.InRefIdeal.nD Cert.InRefIdeal.τ).loc Cert.InRefIdeal.main_arg9)) (m ((c.tc : Thread Cert.InRefIdeal.nD Cert.InRefIdeal.τ).loc Cert.InRefIdeal.main_arg10)) (m ((c.tc : Thread Cert.InRefIdeal.nD Cert.InRefIdeal.τ).loc Cert.InRefIdeal.main_arg11)) (m ((c.tc : Thread Cert.InRefIdeal.nD Cert.InRefIdeal.τ).loc Cert.InRefIdeal.main_arg12)) (m ((c.tc : Thread Cert.InRefIdeal.nD Cert.InRefIdeal.τ).loc Cert.InRefIdeal.main_arg13))) = (fun _ => 1#1)

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdIdeal_finite_out [hPre_finite_out : Cert.Pre_finite_out.Facts] (m : (ℓ : Loc Cert.OutBwdIdeal.nD Cert.OutBwdIdeal.τ Cert.OutBwdIdeal.sig) → Buf (Elt Ideal) ℓ) : Prop :=
  ∀ c : Dev Cert.OutBwdIdeal.nD,
    (Cert.Pre_finite_out.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6)) (m ((c.tc : Thread Cert.OutBwdIdeal.nD Cert.OutBwdIdeal.τ).loc Cert.OutBwdIdeal.main_arg7))) = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_finite_out [hPre_finite_out : Cert.Pre_finite_out.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_finite_out.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7))) = (fun _ => 1#1)

def Pre_MlaBwd (m : (ℓ : Loc Cert.MlaBwd.nD Cert.MlaBwd.τ Cert.MlaBwd.sig) → Buf (Elt Bits) ℓ) : Prop :=
  True

def Pre_MlaBwdIdeal (m : (ℓ : Loc Cert.MlaBwdIdeal.nD Cert.MlaBwdIdeal.τ Cert.MlaBwdIdeal.sig) → Buf (Elt Ideal) ℓ) : Prop :=
  True

def Pre_MlaBwdIdeal_finite_mla [hPre_finite_mla : Cert.Pre_finite_mla.Facts] (m : (ℓ : Loc Cert.MlaBwdIdeal.nD Cert.MlaBwdIdeal.τ Cert.MlaBwdIdeal.sig) → Buf (Elt Ideal) ℓ) : Prop :=
  ∀ c : Dev Cert.MlaBwdIdeal.nD,
    (Cert.Pre_finite_mla.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5)) (m ((c.tc : Thread Cert.MlaBwdIdeal.nD Cert.MlaBwdIdeal.τ).loc Cert.MlaBwdIdeal.main_arg6)) (m ((c.tc : Thread Cert.MlaBwdIdeal.nD Cert.MlaBwdIdeal.τ).loc Cert.MlaBwdIdeal.main_arg7)) (m ((c.tc : Thread Cert.MlaBwdIdeal.nD Cert.MlaBwdIdeal.τ).loc Cert.MlaBwdIdeal.main_arg8)) (m ((c.tc : Thread Cert.MlaBwdIdeal.nD Cert.MlaBwdIdeal.τ).loc Cert.MlaBwdIdeal.main_arg9))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_mla [hPre_finite_mla : Cert.Pre_finite_mla.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8)) (m ((c.tc : Thread Cert.MlaRefIdeal.nD Cert.MlaRefIdeal.τ).loc Cert.MlaRefIdeal.main_arg9))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_afw [hPre_finite_afw : Cert.Pre_finite_afw.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_afw.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))) = (fun _ => 1#1)

def Pre_AfwRefIdeal (m : (ℓ : Loc Cert.AfwRefIdeal.nD Cert.AfwRefIdeal.τ Cert.AfwRefIdeal.sig) → Buf (Elt Ideal) ℓ) : Prop :=
  True

def Pre_AfwRefIdeal_finite_afw [hPre_finite_afw : Cert.Pre_finite_afw.Facts] (m : (ℓ : Loc Cert.AfwRefIdeal.nD Cert.AfwRefIdeal.τ Cert.AfwRefIdeal.sig) → Buf (Elt Ideal) ℓ) : Prop :=
  ∀ c : Dev Cert.AfwRefIdeal.nD,
    (Cert.Pre_finite_afw.fn (F := Ideal) (m ((c.tc : Thread Cert.AfwRefIdeal.nD Cert.AfwRefIdeal.τ).loc Cert.AfwRefIdeal.main_arg0)) (m ((c.tc : Thread Cert.AfwRefIdeal.nD Cert.AfwRefIdeal.τ).loc Cert.AfwRefIdeal.main_arg1)) (m ((c.tc : Thread Cert.AfwRefIdeal.nD Cert.AfwRefIdeal.τ).loc Cert.AfwRefIdeal.main_arg2)) (m ((c.tc : Thread Cert.AfwRefIdeal.nD Cert.AfwRefIdeal.τ).loc Cert.AfwRefIdeal.main_arg3))) = (fun _ => 1#1)

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdIdeal_finite_inf [hPre_finite_inf : Cert.Pre_finite_inf.Facts] (m : (ℓ : Loc Cert.InFwdIdeal.nD Cert.InFwdIdeal.τ Cert.InFwdIdeal.sig) → Buf (Elt Ideal) ℓ) : Prop :=
  ∀ c : Dev Cert.InFwdIdeal.nD,
    (Cert.Pre_finite_inf.fn (F := Ideal) (m ((c.tc : Thread Cert.InFwdIdeal.nD Cert.InFwdIdeal.τ).loc Cert.InFwdIdeal.main_arg0)) (m ((c.tc : Thread Cert.InFwdIdeal.nD Cert.InFwdIdeal.τ).loc Cert.InFwdIdeal.main_arg1)) (m ((c.tc : Thread Cert.InFwdIdeal.nD Cert.InFwdIdeal.τ).loc Cert.InFwdIdeal.main_arg2))) = (fun _ => 1#1)

def Pre_InfRefIdeal (m : (ℓ : Loc Cert.InfRefIdeal.nD Cert.InfRefIdeal.τ Cert.InfRefIdeal.sig) → Buf (Elt Ideal) ℓ) : Prop :=
  True

def Pre_InfRefIdeal_finite_inf [hPre_finite_inf : Cert.Pre_finite_inf.Facts] (m : (ℓ : Loc Cert.InfRefIdeal.nD Cert.InfRefIdeal.τ Cert.InfRefIdeal.sig) → Buf (Elt Ideal) ℓ) : Prop :=
  ∀ c : Dev Cert.InfRefIdeal.nD,
    (Cert.Pre_finite_inf.fn (F := Ideal) (m ((c.tc : Thread Cert.InfRefIdeal.nD Cert.InfRefIdeal.τ).loc Cert.InfRefIdeal.main_arg0)) (m ((c.tc : Thread Cert.InfRefIdeal.nD Cert.InfRefIdeal.τ).loc Cert.InfRefIdeal.main_arg1)) (m ((c.tc : Thread Cert.InfRefIdeal.nD Cert.InfRefIdeal.τ).loc Cert.InfRefIdeal.main_arg2))) = (fun _ => 1#1)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnBwdIdeal_pre_finite_att [hAttnBwdIdeal : Cert.AttnBwdIdeal.Facts] [hPre_finite_att : Cert.Pre_finite_att.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_att m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_att [hAttnRefIdeal : Cert.AttnRefIdeal.Facts] [hPre_finite_att : Cert.Pre_finite_att.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_att m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7)
      ∧ r.2.mem ((c.tc : Thread Cert.InBwd.nD Cert.InBwd.τ).loc Cert.InBwd.main_arg8) = m ((c.tc : Thread Cert.InBwd.nD Cert.InBwd.τ).loc Cert.InBwd.main_arg8)
      ∧ r.2.mem ((c.tc : Thread Cert.InBwd.nD Cert.InBwd.τ).loc Cert.InBwd.main_arg9) = m ((c.tc : Thread Cert.InBwd.nD Cert.InBwd.τ).loc Cert.InBwd.main_arg9)
      ∧ r.2.mem ((c.tc : Thread Cert.InBwd.nD Cert.InBwd.τ).loc Cert.InBwd.main_arg10) = m ((c.tc : Thread Cert.InBwd.nD Cert.InBwd.τ).loc Cert.InBwd.main_arg10)
      ∧ r.2.mem ((c.tc : Thread Cert.InBwd.nD Cert.InBwd.τ).loc Cert.InBwd.main_arg11) = m ((c.tc : Thread Cert.InBwd.nD Cert.InBwd.τ).loc Cert.InBwd.main_arg11)
      ∧ r.2.mem ((c.tc : Thread Cert.InBwd.nD Cert.InBwd.τ).loc Cert.InBwd.main_arg12) = m ((c.tc : Thread Cert.InBwd.nD Cert.InBwd.τ).loc Cert.InBwd.main_arg12)
      ∧ r.2.mem ((c.tc : Thread Cert.InBwd.nD Cert.InBwd.τ).loc Cert.InBwd.main_arg13) = m ((c.tc : Thread Cert.InBwd.nD Cert.InBwd.τ).loc Cert.InBwd.main_arg13))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9)
      ∧ r.2.mem ((c.tc : Thread Cert.InBwdIdeal.nD Cert.InBwdIdeal.τ).loc Cert.InBwdIdeal.main_arg10) = m ((c.tc : Thread Cert.InBwdIdeal.nD Cert.InBwdIdeal.τ).loc Cert.InBwdIdeal.main_arg10)
      ∧ r.2.mem ((c.tc : Thread Cert.InBwdIdeal.nD Cert.InBwdIdeal.τ).loc Cert.InBwdIdeal.main_arg11) = m ((c.tc : Thread Cert.InBwdIdeal.nD Cert.InBwdIdeal.τ).loc Cert.InBwdIdeal.main_arg11)
      ∧ r.2.mem ((c.tc : Thread Cert.InBwdIdeal.nD Cert.InBwdIdeal.τ).loc Cert.InBwdIdeal.main_arg12) = m ((c.tc : Thread Cert.InBwdIdeal.nD Cert.InBwdIdeal.τ).loc Cert.InBwdIdeal.main_arg12)
      ∧ r.2.mem ((c.tc : Thread Cert.InBwdIdeal.nD Cert.InBwdIdeal.τ).loc Cert.InBwdIdeal.main_arg13) = m ((c.tc : Thread Cert.InBwdIdeal.nD Cert.InBwdIdeal.τ).loc Cert.InBwdIdeal.main_arg13))
      ∧ r.2.sem = fun _ => 0)

def quiescent_InBwdIdeal_pre_finite_in [hInBwdIdeal : Cert.InBwdIdeal.Facts] [hPre_finite_in : Cert.Pre_finite_in.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_finite_in m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9)
      ∧ r.2.mem ((c.tc : Thread Cert.InBwdIdeal.nD Cert.InBwdIdeal.τ).loc Cert.InBwdIdeal.main_arg10) = m ((c.tc : Thread Cert.InBwdIdeal.nD Cert.InBwdIdeal.τ).loc Cert.InBwdIdeal.main_arg10)
      ∧ r.2.mem ((c.tc : Thread Cert.InBwdIdeal.nD Cert.InBwdIdeal.τ).loc Cert.InBwdIdeal.main_arg11) = m ((c.tc : Thread Cert.InBwdIdeal.nD Cert.InBwdIdeal.τ).loc Cert.InBwdIdeal.main_arg11)
      ∧ r.2.mem ((c.tc : Thread Cert.InBwdIdeal.nD Cert.InBwdIdeal.τ).loc Cert.InBwdIdeal.main_arg12) = m ((c.tc : Thread Cert.InBwdIdeal.nD Cert.InBwdIdeal.τ).loc Cert.InBwdIdeal.main_arg12)
      ∧ r.2.mem ((c.tc : Thread Cert.InBwdIdeal.nD Cert.InBwdIdeal.τ).loc Cert.InBwdIdeal.main_arg13) = m ((c.tc : Thread Cert.InBwdIdeal.nD Cert.InBwdIdeal.τ).loc Cert.InBwdIdeal.main_arg13))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9)
      ∧ r.2.mem ((c.tc : Thread Cert.InRefIdeal.nD Cert.InRefIdeal.τ).loc Cert.InRefIdeal.main_arg10) = m ((c.tc : Thread Cert.InRefIdeal.nD Cert.InRefIdeal.τ).loc Cert.InRefIdeal.main_arg10)
      ∧ r.2.mem ((c.tc : Thread Cert.InRefIdeal.nD Cert.InRefIdeal.τ).loc Cert.InRefIdeal.main_arg11) = m ((c.tc : Thread Cert.InRefIdeal.nD Cert.InRefIdeal.τ).loc Cert.InRefIdeal.main_arg11)
      ∧ r.2.mem ((c.tc : Thread Cert.InRefIdeal.nD Cert.InRefIdeal.τ).loc Cert.InRefIdeal.main_arg12) = m ((c.tc : Thread Cert.InRefIdeal.nD Cert.InRefIdeal.τ).loc Cert.InRefIdeal.main_arg12)
      ∧ r.2.mem ((c.tc : Thread Cert.InRefIdeal.nD Cert.InRefIdeal.τ).loc Cert.InRefIdeal.main_arg13) = m ((c.tc : Thread Cert.InRefIdeal.nD Cert.InRefIdeal.τ).loc Cert.InRefIdeal.main_arg13))
      ∧ r.2.sem = fun _ => 0)

def quiescent_InRefIdeal_pre_finite_in [hInRefIdeal : Cert.InRefIdeal.Facts] [hPre_finite_in : Cert.Pre_finite_in.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_finite_in m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9)
      ∧ r.2.mem ((c.tc : Thread Cert.InRefIdeal.nD Cert.InRefIdeal.τ).loc Cert.InRefIdeal.main_arg10) = m ((c.tc : Thread Cert.InRefIdeal.nD Cert.InRefIdeal.τ).loc Cert.InRefIdeal.main_arg10)
      ∧ r.2.mem ((c.tc : Thread Cert.InRefIdeal.nD Cert.InRefIdeal.τ).loc Cert.InRefIdeal.main_arg11) = m ((c.tc : Thread Cert.InRefIdeal.nD Cert.InRefIdeal.τ).loc Cert.InRefIdeal.main_arg11)
      ∧ r.2.mem ((c.tc : Thread Cert.InRefIdeal.nD Cert.InRefIdeal.τ).loc Cert.InRefIdeal.main_arg12) = m ((c.tc : Thread Cert.InRefIdeal.nD Cert.InRefIdeal.τ).loc Cert.InRefIdeal.main_arg12)
      ∧ r.2.mem ((c.tc : Thread Cert.InRefIdeal.nD Cert.InRefIdeal.τ).loc Cert.InRefIdeal.main_arg13) = m ((c.tc : Thread Cert.InRefIdeal.nD Cert.InRefIdeal.τ).loc Cert.InRefIdeal.main_arg13))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4)
      ∧ r.2.mem ((c.tc : Thread Cert.OutBwd.nD Cert.OutBwd.τ).loc Cert.OutBwd.main_arg5) = m ((c.tc : Thread Cert.OutBwd.nD Cert.OutBwd.τ).loc Cert.OutBwd.main_arg5)
      ∧ r.2.mem ((c.tc : Thread Cert.OutBwd.nD Cert.OutBwd.τ).loc Cert.OutBwd.main_arg6) = m ((c.tc : Thread Cert.OutBwd.nD Cert.OutBwd.τ).loc Cert.OutBwd.main_arg6)
      ∧ r.2.mem ((c.tc : Thread Cert.OutBwd.nD Cert.OutBwd.τ).loc Cert.OutBwd.main_arg7) = m ((c.tc : Thread Cert.OutBwd.nD Cert.OutBwd.τ).loc Cert.OutBwd.main_arg7))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
      ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6)
      ∧ r.2.mem ((c.tc : Thread Cert.OutBwdIdeal.nD Cert.OutBwdIdeal.τ).loc Cert.OutBwdIdeal.main_arg7) = m ((c.tc : Thread Cert.OutBwdIdeal.nD Cert.OutBwdIdeal.τ).loc Cert.OutBwdIdeal.main_arg7))
      ∧ r.2.sem = fun _ => 0)

def quiescent_OutBwdIdeal_pre_finite_out [hOutBwdIdeal : Cert.OutBwdIdeal.Facts] [hPre_finite_out : Cert.Pre_finite_out.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal_finite_out m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
      ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6)
      ∧ r.2.mem ((c.tc : Thread Cert.OutBwdIdeal.nD Cert.OutBwdIdeal.τ).loc Cert.OutBwdIdeal.main_arg7) = m ((c.tc : Thread Cert.OutBwdIdeal.nD Cert.OutBwdIdeal.τ).loc Cert.OutBwdIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_OutRefIdeal_pre_finite_out [hOutRefIdeal : Cert.OutRefIdeal.Facts] [hPre_finite_out : Cert.Pre_finite_out.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_finite_out m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_MlaBwd [hMlaBwd : Cert.MlaBwd.Facts] : Prop :=
  ∀ (m : (ℓ : Loc Cert.MlaBwd.nD Cert.MlaBwd.τ Cert.MlaBwd.sig) → Buf (Elt Bits) ℓ) (g : Dev Cert.MlaBwd.nD → PrngReg), Pre_MlaBwd m →
    θ_run (Cert.MlaBwd.defs (F := Bits)) (onTc (τ := Cert.MlaBwd.τ) (Cert.MlaBwd.main (F := Bits))) ⟨m, fun _ => 0, g⟩ (fun r => (∀ c : Dev Cert.MlaBwd.nD,
      r.2.mem ((c.tc : Thread Cert.MlaBwd.nD Cert.MlaBwd.τ).loc Cert.MlaBwd.main_arg0) = m ((c.tc : Thread Cert.MlaBwd.nD Cert.MlaBwd.τ).loc Cert.MlaBwd.main_arg0)
      ∧ r.2.mem ((c.tc : Thread Cert.MlaBwd.nD Cert.MlaBwd.τ).loc Cert.MlaBwd.main_arg1) = m ((c.tc : Thread Cert.MlaBwd.nD Cert.MlaBwd.τ).loc Cert.MlaBwd.main_arg1)
      ∧ r.2.mem ((c.tc : Thread Cert.MlaBwd.nD Cert.MlaBwd.τ).loc Cert.MlaBwd.main_arg2) = m ((c.tc : Thread Cert.MlaBwd.nD Cert.MlaBwd.τ).loc Cert.MlaBwd.main_arg2)
      ∧ r.2.mem ((c.tc : Thread Cert.MlaBwd.nD Cert.MlaBwd.τ).loc Cert.MlaBwd.main_arg3) = m ((c.tc : Thread Cert.MlaBwd.nD Cert.MlaBwd.τ).loc Cert.MlaBwd.main_arg3)
      ∧ r.2.mem ((c.tc : Thread Cert.MlaBwd.nD Cert.MlaBwd.τ).loc Cert.MlaBwd.main_arg4) = m ((c.tc : Thread Cert.MlaBwd.nD Cert.MlaBwd.τ).loc Cert.MlaBwd.main_arg4)
      ∧ r.2.mem ((c.tc : Thread Cert.MlaBwd.nD Cert.MlaBwd.τ).loc Cert.MlaBwd.main_arg5) = m ((c.tc : Thread Cert.MlaBwd.nD Cert.MlaBwd.τ).loc Cert.MlaBwd.main_arg5)
      ∧ r.2.mem ((c.tc : Thread Cert.MlaBwd.nD Cert.MlaBwd.τ).loc Cert.MlaBwd.main_arg6) = m ((c.tc : Thread Cert.MlaBwd.nD Cert.MlaBwd.τ).loc Cert.MlaBwd.main_arg6)
      ∧ r.2.mem ((c.tc : Thread Cert.MlaBwd.nD Cert.MlaBwd.τ).loc Cert.MlaBwd.main_arg7) = m ((c.tc : Thread Cert.MlaBwd.nD Cert.MlaBwd.τ).loc Cert.MlaBwd.main_arg7)
      ∧ r.2.mem ((c.tc : Thread Cert.MlaBwd.nD Cert.MlaBwd.τ).loc Cert.MlaBwd.main_arg8) = m ((c.tc : Thread Cert.MlaBwd.nD Cert.MlaBwd.τ).loc Cert.MlaBwd.main_arg8)
      ∧ r.2.mem ((c.tc : Thread Cert.MlaBwd.nD Cert.MlaBwd.τ).loc Cert.MlaBwd.main_arg9) = m ((c.tc : Thread Cert.MlaBwd.nD Cert.MlaBwd.τ).loc Cert.MlaBwd.main_arg9))
      ∧ r.2.sem = fun _ => 0)

def quiescent_MlaBwdIdeal [hMlaBwdIdeal : Cert.MlaBwdIdeal.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg), Pre_MlaBwdIdeal m →
    θ_run (Cert.MlaBwdIdeal.defs (F := Ideal)) (onTc (τ := Cert.MlaBwdIdeal.τ) (Cert.MlaBwdIdeal.main (F := Ideal))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
      ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4)
      ∧ r.2.mem ((c.tc : Thread Cert.MlaBwdIdeal.nD Cert.MlaBwdIdeal.τ).loc Cert.MlaBwdIdeal.main_arg5) = m ((c.tc : Thread Cert.MlaBwdIdeal.nD Cert.MlaBwdIdeal.τ).loc Cert.MlaBwdIdeal.main_arg5)
      ∧ r.2.mem ((c.tc : Thread Cert.MlaBwdIdeal.nD Cert.MlaBwdIdeal.τ).loc Cert.MlaBwdIdeal.main_arg6) = m ((c.tc : Thread Cert.MlaBwdIdeal.nD Cert.MlaBwdIdeal.τ).loc Cert.MlaBwdIdeal.main_arg6)
      ∧ r.2.mem ((c.tc : Thread Cert.MlaBwdIdeal.nD Cert.MlaBwdIdeal.τ).loc Cert.MlaBwdIdeal.main_arg7) = m ((c.tc : Thread Cert.MlaBwdIdeal.nD Cert.MlaBwdIdeal.τ).loc Cert.MlaBwdIdeal.main_arg7)
      ∧ r.2.mem ((c.tc : Thread Cert.MlaBwdIdeal.nD Cert.MlaBwdIdeal.τ).loc Cert.MlaBwdIdeal.main_arg8) = m ((c.tc : Thread Cert.MlaBwdIdeal.nD Cert.MlaBwdIdeal.τ).loc Cert.MlaBwdIdeal.main_arg8)
      ∧ r.2.mem ((c.tc : Thread Cert.MlaBwdIdeal.nD Cert.MlaBwdIdeal.τ).loc Cert.MlaBwdIdeal.main_arg9) = m ((c.tc : Thread Cert.MlaBwdIdeal.nD Cert.MlaBwdIdeal.τ).loc Cert.MlaBwdIdeal.main_arg9))
      ∧ r.2.sem = fun _ => 0)

def quiescent_MlaBwdIdeal_pre_finite_mla [hMlaBwdIdeal : Cert.MlaBwdIdeal.Facts] [hPre_finite_mla : Cert.Pre_finite_mla.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg), Pre_MlaBwdIdeal_finite_mla m →
    θ_run (Cert.MlaBwdIdeal.defs (F := Ideal)) (onTc (τ := Cert.MlaBwdIdeal.τ) (Cert.MlaBwdIdeal.main (F := Ideal))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
      ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4)
      ∧ r.2.mem ((c.tc : Thread Cert.MlaBwdIdeal.nD Cert.MlaBwdIdeal.τ).loc Cert.MlaBwdIdeal.main_arg5) = m ((c.tc : Thread Cert.MlaBwdIdeal.nD Cert.MlaBwdIdeal.τ).loc Cert.MlaBwdIdeal.main_arg5)
      ∧ r.2.mem ((c.tc : Thread Cert.MlaBwdIdeal.nD Cert.MlaBwdIdeal.τ).loc Cert.MlaBwdIdeal.main_arg6) = m ((c.tc : Thread Cert.MlaBwdIdeal.nD Cert.MlaBwdIdeal.τ).loc Cert.MlaBwdIdeal.main_arg6)
      ∧ r.2.mem ((c.tc : Thread Cert.MlaBwdIdeal.nD Cert.MlaBwdIdeal.τ).loc Cert.MlaBwdIdeal.main_arg7) = m ((c.tc : Thread Cert.MlaBwdIdeal.nD Cert.MlaBwdIdeal.τ).loc Cert.MlaBwdIdeal.main_arg7)
      ∧ r.2.mem ((c.tc : Thread Cert.MlaBwdIdeal.nD Cert.MlaBwdIdeal.τ).loc Cert.MlaBwdIdeal.main_arg8) = m ((c.tc : Thread Cert.MlaBwdIdeal.nD Cert.MlaBwdIdeal.τ).loc Cert.MlaBwdIdeal.main_arg8)
      ∧ r.2.mem ((c.tc : Thread Cert.MlaBwdIdeal.nD Cert.MlaBwdIdeal.τ).loc Cert.MlaBwdIdeal.main_arg9) = m ((c.tc : Thread Cert.MlaBwdIdeal.nD Cert.MlaBwdIdeal.τ).loc Cert.MlaBwdIdeal.main_arg9))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8)
      ∧ r.2.mem ((c.tc : Thread Cert.MlaRefIdeal.nD Cert.MlaRefIdeal.τ).loc Cert.MlaRefIdeal.main_arg9) = m ((c.tc : Thread Cert.MlaRefIdeal.nD Cert.MlaRefIdeal.τ).loc Cert.MlaRefIdeal.main_arg9))
      ∧ r.2.sem = fun _ => 0)

def quiescent_MlaRefIdeal_pre_finite_mla [hMlaRefIdeal : Cert.MlaRefIdeal.Facts] [hPre_finite_mla : Cert.Pre_finite_mla.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_mla m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8)
      ∧ r.2.mem ((c.tc : Thread Cert.MlaRefIdeal.nD Cert.MlaRefIdeal.τ).loc Cert.MlaRefIdeal.main_arg9) = m ((c.tc : Thread Cert.MlaRefIdeal.nD Cert.MlaRefIdeal.τ).loc Cert.MlaRefIdeal.main_arg9))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_finite_afw [hAttnFwdIdeal : Cert.AttnFwdIdeal.Facts] [hPre_finite_afw : Cert.Pre_finite_afw.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_afw m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AfwRefIdeal [hAfwRefIdeal : Cert.AfwRefIdeal.Facts] : Prop :=
  ∀ (m : (ℓ : Loc Cert.AfwRefIdeal.nD Cert.AfwRefIdeal.τ Cert.AfwRefIdeal.sig) → Buf (Elt Ideal) ℓ) (g : Dev Cert.AfwRefIdeal.nD → PrngReg), Pre_AfwRefIdeal m →
    θ_run (Cert.AfwRefIdeal.defs (F := Ideal)) (onTc (τ := Cert.AfwRefIdeal.τ) (Cert.AfwRefIdeal.main (F := Ideal))) ⟨m, fun _ => 0, g⟩ (fun r => (∀ c : Dev Cert.AfwRefIdeal.nD,
      r.2.mem ((c.tc : Thread Cert.AfwRefIdeal.nD Cert.AfwRefIdeal.τ).loc Cert.AfwRefIdeal.main_arg0) = m ((c.tc : Thread Cert.AfwRefIdeal.nD Cert.AfwRefIdeal.τ).loc Cert.AfwRefIdeal.main_arg0)
      ∧ r.2.mem ((c.tc : Thread Cert.AfwRefIdeal.nD Cert.AfwRefIdeal.τ).loc Cert.AfwRefIdeal.main_arg1) = m ((c.tc : Thread Cert.AfwRefIdeal.nD Cert.AfwRefIdeal.τ).loc Cert.AfwRefIdeal.main_arg1)
      ∧ r.2.mem ((c.tc : Thread Cert.AfwRefIdeal.nD Cert.AfwRefIdeal.τ).loc Cert.AfwRefIdeal.main_arg2) = m ((c.tc : Thread Cert.AfwRefIdeal.nD Cert.AfwRefIdeal.τ).loc Cert.AfwRefIdeal.main_arg2)
      ∧ r.2.mem ((c.tc : Thread Cert.AfwRefIdeal.nD Cert.AfwRefIdeal.τ).loc Cert.AfwRefIdeal.main_arg3) = m ((c.tc : Thread Cert.AfwRefIdeal.nD Cert.AfwRefIdeal.τ).loc Cert.AfwRefIdeal.main_arg3))
      ∧ r.2.sem = fun _ => 0)

def quiescent_AfwRefIdeal_pre_finite_afw [hAfwRefIdeal : Cert.AfwRefIdeal.Facts] [hPre_finite_afw : Cert.Pre_finite_afw.Facts] : Prop :=
  ∀ (m : (ℓ : Loc Cert.AfwRefIdeal.nD Cert.AfwRefIdeal.τ Cert.AfwRefIdeal.sig) → Buf (Elt Ideal) ℓ) (g : Dev Cert.AfwRefIdeal.nD → PrngReg), Pre_AfwRefIdeal_finite_afw m →
    θ_run (Cert.AfwRefIdeal.defs (F := Ideal)) (onTc (τ := Cert.AfwRefIdeal.τ) (Cert.AfwRefIdeal.main (F := Ideal))) ⟨m, fun _ => 0, g⟩ (fun r => (∀ c : Dev Cert.AfwRefIdeal.nD,
      r.2.mem ((c.tc : Thread Cert.AfwRefIdeal.nD Cert.AfwRefIdeal.τ).loc Cert.AfwRefIdeal.main_arg0) = m ((c.tc : Thread Cert.AfwRefIdeal.nD Cert.AfwRefIdeal.τ).loc Cert.AfwRefIdeal.main_arg0)
      ∧ r.2.mem ((c.tc : Thread Cert.AfwRefIdeal.nD Cert.AfwRefIdeal.τ).loc Cert.AfwRefIdeal.main_arg1) = m ((c.tc : Thread Cert.AfwRefIdeal.nD Cert.AfwRefIdeal.τ).loc Cert.AfwRefIdeal.main_arg1)
      ∧ r.2.mem ((c.tc : Thread Cert.AfwRefIdeal.nD Cert.AfwRefIdeal.τ).loc Cert.AfwRefIdeal.main_arg2) = m ((c.tc : Thread Cert.AfwRefIdeal.nD Cert.AfwRefIdeal.τ).loc Cert.AfwRefIdeal.main_arg2)
      ∧ r.2.mem ((c.tc : Thread Cert.AfwRefIdeal.nD Cert.AfwRefIdeal.τ).loc Cert.AfwRefIdeal.main_arg3) = m ((c.tc : Thread Cert.AfwRefIdeal.nD Cert.AfwRefIdeal.τ).loc Cert.AfwRefIdeal.main_arg3))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdIdeal_pre_finite_inf [hInFwdIdeal : Cert.InFwdIdeal.Facts] [hPre_finite_inf : Cert.Pre_finite_inf.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal_finite_inf m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InfRefIdeal [hInfRefIdeal : Cert.InfRefIdeal.Facts] : Prop :=
  ∀ (m : (ℓ : Loc Cert.InfRefIdeal.nD Cert.InfRefIdeal.τ Cert.InfRefIdeal.sig) → Buf (Elt Ideal) ℓ) (g : Dev Cert.InfRefIdeal.nD → PrngReg), Pre_InfRefIdeal m →
    θ_run (Cert.InfRefIdeal.defs (F := Ideal)) (onTc (τ := Cert.InfRefIdeal.τ) (Cert.InfRefIdeal.main (F := Ideal))) ⟨m, fun _ => 0, g⟩ (fun r => (∀ c : Dev Cert.InfRefIdeal.nD,
      r.2.mem ((c.tc : Thread Cert.InfRefIdeal.nD Cert.InfRefIdeal.τ).loc Cert.InfRefIdeal.main_arg0) = m ((c.tc : Thread Cert.InfRefIdeal.nD Cert.InfRefIdeal.τ).loc Cert.InfRefIdeal.main_arg0)
      ∧ r.2.mem ((c.tc : Thread Cert.InfRefIdeal.nD Cert.InfRefIdeal.τ).loc Cert.InfRefIdeal.main_arg1) = m ((c.tc : Thread Cert.InfRefIdeal.nD Cert.InfRefIdeal.τ).loc Cert.InfRefIdeal.main_arg1)
      ∧ r.2.mem ((c.tc : Thread Cert.InfRefIdeal.nD Cert.InfRefIdeal.τ).loc Cert.InfRefIdeal.main_arg2) = m ((c.tc : Thread Cert.InfRefIdeal.nD Cert.InfRefIdeal.τ).loc Cert.InfRefIdeal.main_arg2))
      ∧ r.2.sem = fun _ => 0)

def quiescent_InfRefIdeal_pre_finite_inf [hInfRefIdeal : Cert.InfRefIdeal.Facts] [hPre_finite_inf : Cert.Pre_finite_inf.Facts] : Prop :=
  ∀ (m : (ℓ : Loc Cert.InfRefIdeal.nD Cert.InfRefIdeal.τ Cert.InfRefIdeal.sig) → Buf (Elt Ideal) ℓ) (g : Dev Cert.InfRefIdeal.nD → PrngReg), Pre_InfRefIdeal_finite_inf m →
    θ_run (Cert.InfRefIdeal.defs (F := Ideal)) (onTc (τ := Cert.InfRefIdeal.τ) (Cert.InfRefIdeal.main (F := Ideal))) ⟨m, fun _ => 0, g⟩ (fun r => (∀ c : Dev Cert.InfRefIdeal.nD,
      r.2.mem ((c.tc : Thread Cert.InfRefIdeal.nD Cert.InfRefIdeal.τ).loc Cert.InfRefIdeal.main_arg0) = m ((c.tc : Thread Cert.InfRefIdeal.nD Cert.InfRefIdeal.τ).loc Cert.InfRefIdeal.main_arg0)
      ∧ r.2.mem ((c.tc : Thread Cert.InfRefIdeal.nD Cert.InfRefIdeal.τ).loc Cert.InfRefIdeal.main_arg1) = m ((c.tc : Thread Cert.InfRefIdeal.nD Cert.InfRefIdeal.τ).loc Cert.InfRefIdeal.main_arg1)
      ∧ r.2.mem ((c.tc : Thread Cert.InfRefIdeal.nD Cert.InfRefIdeal.τ).loc Cert.InfRefIdeal.main_arg2) = m ((c.tc : Thread Cert.InfRefIdeal.nD Cert.InfRefIdeal.τ).loc Cert.InfRefIdeal.main_arg2))
      ∧ r.2.sem = fun _ => 0)

def preserves_AttnBwd_AttnBwdIdeal : Prop :=
  IdealRules.named_const.Statement Cert.AttnBwdIdeal.κ "scale_log2e" .f32 0x3DD53B95#32 (((Real.sqrt 192)⁻¹ * (Real.log 2)⁻¹ : ℝ) : EReal)
  ∧ IdealRules.named_const.Statement Cert.AttnBwdIdeal.κ "scale" .f32 0x3D93CD3A#32 (((Real.sqrt 192)⁻¹ : ℝ) : EReal)

def algebraic_AttnBwdIdeal_AttnRefIdeal_pre_finite_att [hAttnBwdIdeal : Cert.AttnBwdIdeal.Facts] [hAttnRefIdeal : Cert.AttnRefIdeal.Facts] [hPre_finite_att : Cert.Pre_finite_att.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBwdIdeal_finite_att m →
    (∀ c : Dev Cert.AttnBwdIdeal.nD,
      m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
      ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
      ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)
      ∧ m' ((c.tc : Thread Cert.AttnRefIdeal.nD Cert.AttnRefIdeal.τ).loc Cert.AttnRefIdeal.main_arg3) = m ((c.tc : Thread Cert.AttnBwdIdeal.nD Cert.AttnBwdIdeal.τ).loc Cert.AttnBwdIdeal.main_arg3)
      ∧ m' ((c.tc : Thread Cert.AttnRefIdeal.nD Cert.AttnRefIdeal.τ).loc Cert.AttnRefIdeal.main_arg4) = m ((c.tc : Thread Cert.AttnBwdIdeal.nD Cert.AttnBwdIdeal.τ).loc Cert.AttnBwdIdeal.main_arg4)) →
    ∃ (v0 : (c : Dev Cert.AttnBwdIdeal.nD) → Buf (Elt Ideal) ((c.tc : Thread Cert.AttnBwdIdeal.nD Cert.AttnBwdIdeal.τ).loc Cert.AttnBwdIdeal.main_v47_0)) (v1 : (c : Dev Cert.AttnBwdIdeal.nD) → Buf (Elt Ideal) ((c.tc : Thread Cert.AttnBwdIdeal.nD Cert.AttnBwdIdeal.τ).loc Cert.AttnBwdIdeal.main_v47_1)) (v2 : (c : Dev Cert.AttnBwdIdeal.nD) → Buf (Elt Ideal) ((c.tc : Thread Cert.AttnBwdIdeal.nD Cert.AttnBwdIdeal.τ).loc Cert.AttnBwdIdeal.main_v47_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v47_0) = v0 c
          ∧ r.2.mem ((c.tc : Thread Cert.AttnBwdIdeal.nD Cert.AttnBwdIdeal.τ).loc Cert.AttnBwdIdeal.main_v47_1) = v1 c
          ∧ r.2.mem ((c.tc : Thread Cert.AttnBwdIdeal.nD Cert.AttnBwdIdeal.τ).loc Cert.AttnBwdIdeal.main_v47_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v71) = v0 c
          ∧ r.2.mem ((c.tc : Thread Cert.AttnRefIdeal.nD Cert.AttnRefIdeal.τ).loc Cert.AttnRefIdeal.main_v74) = v1 c
          ∧ r.2.mem ((c.tc : Thread Cert.AttnRefIdeal.nD Cert.AttnRefIdeal.τ).loc Cert.AttnRefIdeal.main_v75) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_FfnBwd_FfnBwdIdeal : Prop :=
  True

def algebraic_FfnBwdIdeal_FfnRefIdeal_pre_finite_ffn [hFfnBwdIdeal : Cert.FfnBwdIdeal.Facts] [hFfnRefIdeal : Cert.FfnRefIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_finite_ffn m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)
      ∧ m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4)
      ∧ m' ((c.tc : Thread Cert.FfnRefIdeal.nD Cert.FfnRefIdeal.τ).loc Cert.FfnRefIdeal.main_arg5) = m ((c.tc : Thread Cert.FfnBwdIdeal.nD Cert.FfnBwdIdeal.τ).loc Cert.FfnBwdIdeal.main_arg5)
      ∧ m' ((c.tc : Thread Cert.FfnRefIdeal.nD Cert.FfnRefIdeal.τ).loc Cert.FfnRefIdeal.main_arg6) = m ((c.tc : Thread Cert.FfnBwdIdeal.nD Cert.FfnBwdIdeal.τ).loc Cert.FfnBwdIdeal.main_arg6)) →
    ∃ (v0 : (c : Dev Cert.FfnBwdIdeal.nD) → Buf (Elt Ideal) ((c.tc : Thread Cert.FfnBwdIdeal.nD Cert.FfnBwdIdeal.τ).loc Cert.FfnBwdIdeal.main_v25_0)) (v1 : (c : Dev Cert.FfnBwdIdeal.nD) → Buf (Elt Ideal) ((c.tc : Thread Cert.FfnBwdIdeal.nD Cert.FfnBwdIdeal.τ).loc Cert.FfnBwdIdeal.main_v25_1)) (v2 : (c : Dev Cert.FfnBwdIdeal.nD) → Buf (Elt Ideal) ((c.tc : Thread Cert.FfnBwdIdeal.nD Cert.FfnBwdIdeal.τ).loc Cert.FfnBwdIdeal.main_v25_2)) (v3 : (c : Dev Cert.FfnBwdIdeal.nD) → Buf (Elt Ideal) ((c.tc : Thread Cert.FfnBwdIdeal.nD Cert.FfnBwdIdeal.τ).loc Cert.FfnBwdIdeal.main_v25_3)) (v4 : (c : Dev Cert.FfnBwdIdeal.nD) → Buf (Elt Ideal) ((c.tc : Thread Cert.FfnBwdIdeal.nD Cert.FfnBwdIdeal.τ).loc Cert.FfnBwdIdeal.main_v25_4)) (v5 : (c : Dev Cert.FfnBwdIdeal.nD) → Buf (Elt Ideal) ((c.tc : Thread Cert.FfnBwdIdeal.nD Cert.FfnBwdIdeal.τ).loc Cert.FfnBwdIdeal.main_v25_5)) (v6 : (c : Dev Cert.FfnBwdIdeal.nD) → Buf (Elt Ideal) ((c.tc : Thread Cert.FfnBwdIdeal.nD Cert.FfnBwdIdeal.τ).loc Cert.FfnBwdIdeal.main_v25_6)) (v7 : (c : Dev Cert.FfnBwdIdeal.nD) → Buf (Elt Ideal) ((c.tc : Thread Cert.FfnBwdIdeal.nD Cert.FfnBwdIdeal.τ).loc Cert.FfnBwdIdeal.main_v25_7)) (v8 : (c : Dev Cert.FfnBwdIdeal.nD) → Buf (Elt Ideal) ((c.tc : Thread Cert.FfnBwdIdeal.nD Cert.FfnBwdIdeal.τ).loc Cert.FfnBwdIdeal.main_v25_8)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v25_0) = v0 c
          ∧ r.2.mem ((c.tc : Thread Cert.FfnBwdIdeal.nD Cert.FfnBwdIdeal.τ).loc Cert.FfnBwdIdeal.main_v25_1) = v1 c
          ∧ r.2.mem ((c.tc : Thread Cert.FfnBwdIdeal.nD Cert.FfnBwdIdeal.τ).loc Cert.FfnBwdIdeal.main_v25_2) = v2 c
          ∧ r.2.mem ((c.tc : Thread Cert.FfnBwdIdeal.nD Cert.FfnBwdIdeal.τ).loc Cert.FfnBwdIdeal.main_v25_3) = v3 c
          ∧ r.2.mem ((c.tc : Thread Cert.FfnBwdIdeal.nD Cert.FfnBwdIdeal.τ).loc Cert.FfnBwdIdeal.main_v25_4) = v4 c
          ∧ r.2.mem ((c.tc : Thread Cert.FfnBwdIdeal.nD Cert.FfnBwdIdeal.τ).loc Cert.FfnBwdIdeal.main_v25_5) = v5 c
          ∧ r.2.mem ((c.tc : Thread Cert.FfnBwdIdeal.nD Cert.FfnBwdIdeal.τ).loc Cert.FfnBwdIdeal.main_v25_6) = v6 c
          ∧ r.2.mem ((c.tc : Thread Cert.FfnBwdIdeal.nD Cert.FfnBwdIdeal.τ).loc Cert.FfnBwdIdeal.main_v25_7) = v7 c
          ∧ r.2.mem ((c.tc : Thread Cert.FfnBwdIdeal.nD Cert.FfnBwdIdeal.τ).loc Cert.FfnBwdIdeal.main_v25_8) = v8 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v107) = v0 c
          ∧ r.2.mem ((c.tc : Thread Cert.FfnRefIdeal.nD Cert.FfnRefIdeal.τ).loc Cert.FfnRefIdeal.main_v109) = v1 c
          ∧ r.2.mem ((c.tc : Thread Cert.FfnRefIdeal.nD Cert.FfnRefIdeal.τ).loc Cert.FfnRefIdeal.main_v111) = v2 c
          ∧ r.2.mem ((c.tc : Thread Cert.FfnRefIdeal.nD Cert.FfnRefIdeal.τ).loc Cert.FfnRefIdeal.main_v113) = v3 c
          ∧ r.2.mem ((c.tc : Thread Cert.FfnRefIdeal.nD Cert.FfnRefIdeal.τ).loc Cert.FfnRefIdeal.main_v114) = v4 c
          ∧ r.2.mem ((c.tc : Thread Cert.FfnRefIdeal.nD Cert.FfnRefIdeal.τ).loc Cert.FfnRefIdeal.main_v116) = v5 c
          ∧ r.2.mem ((c.tc : Thread Cert.FfnRefIdeal.nD Cert.FfnRefIdeal.τ).loc Cert.FfnRefIdeal.main_v117) = v6 c
          ∧ r.2.mem ((c.tc : Thread Cert.FfnRefIdeal.nD Cert.FfnRefIdeal.τ).loc Cert.FfnRefIdeal.main_v118) = v7 c
          ∧ r.2.mem ((c.tc : Thread Cert.FfnRefIdeal.nD Cert.FfnRefIdeal.τ).loc Cert.FfnRefIdeal.main_v104) = v8 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_InBwd_InBwdIdeal : Prop :=
  True

def algebraic_InBwdIdeal_InRefIdeal_pre_finite_in [hInBwdIdeal : Cert.InBwdIdeal.Facts] [hInRefIdeal : Cert.InRefIdeal.Facts] [hPre_finite_in : Cert.Pre_finite_in.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InRefIdeal.nD Cert.InRefIdeal.τ Cert.InRefIdeal.sig) → Buf (Elt Ideal) ℓ) (g' : Dev Cert.InRefIdeal.nD → PrngReg), Pre_InBwdIdeal_finite_in m →
    (∀ c : Dev Cert.InBwdIdeal.nD,
      m' ((c.tc : Thread Cert.InRefIdeal.nD Cert.InRefIdeal.τ).loc Cert.InRefIdeal.main_arg0) = m ((c.tc : Thread Cert.InBwdIdeal.nD Cert.InBwdIdeal.τ).loc Cert.InBwdIdeal.main_arg0)
      ∧ m' ((c.tc : Thread Cert.InRefIdeal.nD Cert.InRefIdeal.τ).loc Cert.InRefIdeal.main_arg1) = m ((c.tc : Thread Cert.InBwdIdeal.nD Cert.InBwdIdeal.τ).loc Cert.InBwdIdeal.main_arg1)
      ∧ m' ((c.tc : Thread Cert.InRefIdeal.nD Cert.InRefIdeal.τ).loc Cert.InRefIdeal.main_arg2) = m ((c.tc : Thread Cert.InBwdIdeal.nD Cert.InBwdIdeal.τ).loc Cert.InBwdIdeal.main_arg2)
      ∧ m' ((c.tc : Thread Cert.InRefIdeal.nD Cert.InRefIdeal.τ).loc Cert.InRefIdeal.main_arg3) = m ((c.tc : Thread Cert.InBwdIdeal.nD Cert.InBwdIdeal.τ).loc Cert.InBwdIdeal.main_arg3)
      ∧ m' ((c.tc : Thread Cert.InRefIdeal.nD Cert.InRefIdeal.τ).loc Cert.InRefIdeal.main_arg4) = m ((c.tc : Thread Cert.InBwdIdeal.nD Cert.InBwdIdeal.τ).loc Cert.InBwdIdeal.main_arg4)
      ∧ m' ((c.tc : Thread Cert.InRefIdeal.nD Cert.InRefIdeal.τ).loc Cert.InRefIdeal.main_arg5) = m ((c.tc : Thread Cert.InBwdIdeal.nD Cert.InBwdIdeal.τ).loc Cert.InBwdIdeal.main_arg5)
      ∧ m' ((c.tc : Thread Cert.InRefIdeal.nD Cert.InRefIdeal.τ).loc Cert.InRefIdeal.main_arg6) = m ((c.tc : Thread Cert.InBwdIdeal.nD Cert.InBwdIdeal.τ).loc Cert.InBwdIdeal.main_arg6)
      ∧ m' ((c.tc : Thread Cert.InRefIdeal.nD Cert.InRefIdeal.τ).loc Cert.InRefIdeal.main_arg7) = m ((c.tc : Thread Cert.InBwdIdeal.nD Cert.InBwdIdeal.τ).loc Cert.InBwdIdeal.main_arg7)
      ∧ m' ((c.tc : Thread Cert.InRefIdeal.nD Cert.InRefIdeal.τ).loc Cert.InRefIdeal.main_arg8) = m ((c.tc : Thread Cert.InBwdIdeal.nD Cert.InBwdIdeal.τ).loc Cert.InBwdIdeal.main_arg8)
      ∧ m' ((c.tc : Thread Cert.InRefIdeal.nD Cert.InRefIdeal.τ).loc Cert.InRefIdeal.main_arg9) = m ((c.tc : Thread Cert.InBwdIdeal.nD Cert.InBwdIdeal.τ).loc Cert.InBwdIdeal.main_arg9)
      ∧ m' ((c.tc : Thread Cert.InRefIdeal.nD Cert.InRefIdeal.τ).loc Cert.InRefIdeal.main_arg10) = m ((c.tc : Thread Cert.InBwdIdeal.nD Cert.InBwdIdeal.τ).loc Cert.InBwdIdeal.main_arg10)
      ∧ m' ((c.tc : Thread Cert.InRefIdeal.nD Cert.InRefIdeal.τ).loc Cert.InRefIdeal.main_arg11) = m ((c.tc : Thread Cert.InBwdIdeal.nD Cert.InBwdIdeal.τ).loc Cert.InBwdIdeal.main_arg11)
      ∧ m' ((c.tc : Thread Cert.InRefIdeal.nD Cert.InRefIdeal.τ).loc Cert.InRefIdeal.main_arg12) = m ((c.tc : Thread Cert.InBwdIdeal.nD Cert.InBwdIdeal.τ).loc Cert.InBwdIdeal.main_arg12)
      ∧ m' ((c.tc : Thread Cert.InRefIdeal.nD Cert.InRefIdeal.τ).loc Cert.InRefIdeal.main_arg13) = m ((c.tc : Thread Cert.InBwdIdeal.nD Cert.InBwdIdeal.τ).loc Cert.InBwdIdeal.main_arg13)) →
    ∃ (v0 : (c : Dev Cert.InBwdIdeal.nD) → Buf (Elt Ideal) ((c.tc : Thread Cert.InBwdIdeal.nD Cert.InBwdIdeal.τ).loc Cert.InBwdIdeal.main_v38_0)) (v1 : (c : Dev Cert.InBwdIdeal.nD) → Buf (Elt Ideal) ((c.tc : Thread Cert.InBwdIdeal.nD Cert.InBwdIdeal.τ).loc Cert.InBwdIdeal.main_v38_1)) (v2 : (c : Dev Cert.InBwdIdeal.nD) → Buf (Elt Ideal) ((c.tc : Thread Cert.InBwdIdeal.nD Cert.InBwdIdeal.τ).loc Cert.InBwdIdeal.main_v38_2)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v38_0) = v0 c
          ∧ r.2.mem ((c.tc : Thread Cert.InBwdIdeal.nD Cert.InBwdIdeal.τ).loc Cert.InBwdIdeal.main_v38_1) = v1 c
          ∧ r.2.mem ((c.tc : Thread Cert.InBwdIdeal.nD Cert.InBwdIdeal.τ).loc Cert.InBwdIdeal.main_v38_2) = v2 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
          ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
          ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9)
          ∧ r.2.mem ((c.tc : Thread Cert.InBwdIdeal.nD Cert.InBwdIdeal.τ).loc Cert.InBwdIdeal.main_arg10) = m ((c.tc : Thread Cert.InBwdIdeal.nD Cert.InBwdIdeal.τ).loc Cert.InBwdIdeal.main_arg10)
          ∧ r.2.mem ((c.tc : Thread Cert.InBwdIdeal.nD Cert.InBwdIdeal.τ).loc Cert.InBwdIdeal.main_arg11) = m ((c.tc : Thread Cert.InBwdIdeal.nD Cert.InBwdIdeal.τ).loc Cert.InBwdIdeal.main_arg11)
          ∧ r.2.mem ((c.tc : Thread Cert.InBwdIdeal.nD Cert.InBwdIdeal.τ).loc Cert.InBwdIdeal.main_arg12) = m ((c.tc : Thread Cert.InBwdIdeal.nD Cert.InBwdIdeal.τ).loc Cert.InBwdIdeal.main_arg12)
          ∧ r.2.mem ((c.tc : Thread Cert.InBwdIdeal.nD Cert.InBwdIdeal.τ).loc Cert.InBwdIdeal.main_arg13) = m ((c.tc : Thread Cert.InBwdIdeal.nD Cert.InBwdIdeal.τ).loc Cert.InBwdIdeal.main_arg13))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v58) = v0 c
          ∧ r.2.mem ((c.tc : Thread Cert.InRefIdeal.nD Cert.InRefIdeal.τ).loc Cert.InRefIdeal.main_v61) = v1 c
          ∧ r.2.mem ((c.tc : Thread Cert.InRefIdeal.nD Cert.InRefIdeal.τ).loc Cert.InRefIdeal.main_v57) = v2 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7)
          ∧ r.2.mem ((c.tc : Thread Cert.InRefIdeal.nD Cert.InRefIdeal.τ).loc Cert.InRefIdeal.main_arg8) = m' ((c.tc : Thread Cert.InRefIdeal.nD Cert.InRefIdeal.τ).loc Cert.InRefIdeal.main_arg8)
          ∧ r.2.mem ((c.tc : Thread Cert.InRefIdeal.nD Cert.InRefIdeal.τ).loc Cert.InRefIdeal.main_arg9) = m' ((c.tc : Thread Cert.InRefIdeal.nD Cert.InRefIdeal.τ).loc Cert.InRefIdeal.main_arg9)
          ∧ r.2.mem ((c.tc : Thread Cert.InRefIdeal.nD Cert.InRefIdeal.τ).loc Cert.InRefIdeal.main_arg10) = m' ((c.tc : Thread Cert.InRefIdeal.nD Cert.InRefIdeal.τ).loc Cert.InRefIdeal.main_arg10)
          ∧ r.2.mem ((c.tc : Thread Cert.InRefIdeal.nD Cert.InRefIdeal.τ).loc Cert.InRefIdeal.main_arg11) = m' ((c.tc : Thread Cert.InRefIdeal.nD Cert.InRefIdeal.τ).loc Cert.InRefIdeal.main_arg11)
          ∧ r.2.mem ((c.tc : Thread Cert.InRefIdeal.nD Cert.InRefIdeal.τ).loc Cert.InRefIdeal.main_arg12) = m' ((c.tc : Thread Cert.InRefIdeal.nD Cert.InRefIdeal.τ).loc Cert.InRefIdeal.main_arg12)
          ∧ r.2.mem ((c.tc : Thread Cert.InRefIdeal.nD Cert.InRefIdeal.τ).loc Cert.InRefIdeal.main_arg13) = m' ((c.tc : Thread Cert.InRefIdeal.nD Cert.InRefIdeal.τ).loc Cert.InRefIdeal.main_arg13))

def preserves_OutBwd_OutBwdIdeal : Prop :=
  True

def algebraic_OutBwdIdeal_OutRefIdeal_pre_finite_out [hOutBwdIdeal : Cert.OutBwdIdeal.Facts] [hOutRefIdeal : Cert.OutRefIdeal.Facts] [hPre_finite_out : Cert.Pre_finite_out.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutBwdIdeal_finite_out m →
    (∀ c : Dev Cert.OutBwdIdeal.nD,
      m' ((c.tc : Thread Cert.OutRefIdeal.nD Cert.OutRefIdeal.τ).loc Cert.OutRefIdeal.main_arg0) = m ((c.tc : Thread Cert.OutBwdIdeal.nD Cert.OutBwdIdeal.τ).loc Cert.OutBwdIdeal.main_arg0)
      ∧ m' ((c.tc : Thread Cert.OutRefIdeal.nD Cert.OutRefIdeal.τ).loc Cert.OutRefIdeal.main_arg1) = m ((c.tc : Thread Cert.OutBwdIdeal.nD Cert.OutBwdIdeal.τ).loc Cert.OutBwdIdeal.main_arg1)
      ∧ m' ((c.tc : Thread Cert.OutRefIdeal.nD Cert.OutRefIdeal.τ).loc Cert.OutRefIdeal.main_arg2) = m ((c.tc : Thread Cert.OutBwdIdeal.nD Cert.OutBwdIdeal.τ).loc Cert.OutBwdIdeal.main_arg2)
      ∧ m' ((c.tc : Thread Cert.OutRefIdeal.nD Cert.OutRefIdeal.τ).loc Cert.OutRefIdeal.main_arg3) = m ((c.tc : Thread Cert.OutBwdIdeal.nD Cert.OutBwdIdeal.τ).loc Cert.OutBwdIdeal.main_arg3)
      ∧ m' ((c.tc : Thread Cert.OutRefIdeal.nD Cert.OutRefIdeal.τ).loc Cert.OutRefIdeal.main_arg4) = m ((c.tc : Thread Cert.OutBwdIdeal.nD Cert.OutBwdIdeal.τ).loc Cert.OutBwdIdeal.main_arg4)
      ∧ m' ((c.tc : Thread Cert.OutRefIdeal.nD Cert.OutRefIdeal.τ).loc Cert.OutRefIdeal.main_arg5) = m ((c.tc : Thread Cert.OutBwdIdeal.nD Cert.OutBwdIdeal.τ).loc Cert.OutBwdIdeal.main_arg5)
      ∧ m' ((c.tc : Thread Cert.OutRefIdeal.nD Cert.OutRefIdeal.τ).loc Cert.OutRefIdeal.main_arg6) = m ((c.tc : Thread Cert.OutBwdIdeal.nD Cert.OutBwdIdeal.τ).loc Cert.OutBwdIdeal.main_arg6)
      ∧ m' ((c.tc : Thread Cert.OutRefIdeal.nD Cert.OutRefIdeal.τ).loc Cert.OutRefIdeal.main_arg7) = m ((c.tc : Thread Cert.OutBwdIdeal.nD Cert.OutBwdIdeal.τ).loc Cert.OutBwdIdeal.main_arg7)) →
    ∃ (v0 : (c : Dev Cert.OutBwdIdeal.nD) → Buf (Elt Ideal) ((c.tc : Thread Cert.OutBwdIdeal.nD Cert.OutBwdIdeal.τ).loc Cert.OutBwdIdeal.main_v8_0)) (v1 : (c : Dev Cert.OutBwdIdeal.nD) → Buf (Elt Ideal) ((c.tc : Thread Cert.OutBwdIdeal.nD Cert.OutBwdIdeal.τ).loc Cert.OutBwdIdeal.main_v8_1)) (v2 : (c : Dev Cert.OutBwdIdeal.nD) → Buf (Elt Ideal) ((c.tc : Thread Cert.OutBwdIdeal.nD Cert.OutBwdIdeal.τ).loc Cert.OutBwdIdeal.main_v8_2)) (v3 : (c : Dev Cert.OutBwdIdeal.nD) → Buf (Elt Ideal) ((c.tc : Thread Cert.OutBwdIdeal.nD Cert.OutBwdIdeal.τ).loc Cert.OutBwdIdeal.main_v8_3)) (v4 : (c : Dev Cert.OutBwdIdeal.nD) → Buf (Elt Ideal) ((c.tc : Thread Cert.OutBwdIdeal.nD Cert.OutBwdIdeal.τ).loc Cert.OutBwdIdeal.main_v8_4)) (v5 : (c : Dev Cert.OutBwdIdeal.nD) → Buf (Elt Ideal) ((c.tc : Thread Cert.OutBwdIdeal.nD Cert.OutBwdIdeal.τ).loc Cert.OutBwdIdeal.main_v8_5)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v8_0) = v0 c
          ∧ r.2.mem ((c.tc : Thread Cert.OutBwdIdeal.nD Cert.OutBwdIdeal.τ).loc Cert.OutBwdIdeal.main_v8_1) = v1 c
          ∧ r.2.mem ((c.tc : Thread Cert.OutBwdIdeal.nD Cert.OutBwdIdeal.τ).loc Cert.OutBwdIdeal.main_v8_2) = v2 c
          ∧ r.2.mem ((c.tc : Thread Cert.OutBwdIdeal.nD Cert.OutBwdIdeal.τ).loc Cert.OutBwdIdeal.main_v8_3) = v3 c
          ∧ r.2.mem ((c.tc : Thread Cert.OutBwdIdeal.nD Cert.OutBwdIdeal.τ).loc Cert.OutBwdIdeal.main_v8_4) = v4 c
          ∧ r.2.mem ((c.tc : Thread Cert.OutBwdIdeal.nD Cert.OutBwdIdeal.τ).loc Cert.OutBwdIdeal.main_v8_5) = v5 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
          ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
          ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6)
          ∧ r.2.mem ((c.tc : Thread Cert.OutBwdIdeal.nD Cert.OutBwdIdeal.τ).loc Cert.OutBwdIdeal.main_arg7) = m ((c.tc : Thread Cert.OutBwdIdeal.nD Cert.OutBwdIdeal.τ).loc Cert.OutBwdIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v100) = v0 c
          ∧ r.2.mem ((c.tc : Thread Cert.OutRefIdeal.nD Cert.OutRefIdeal.τ).loc Cert.OutRefIdeal.main_v102) = v1 c
          ∧ r.2.mem ((c.tc : Thread Cert.OutRefIdeal.nD Cert.OutRefIdeal.τ).loc Cert.OutRefIdeal.main_v104) = v2 c
          ∧ r.2.mem ((c.tc : Thread Cert.OutRefIdeal.nD Cert.OutRefIdeal.τ).loc Cert.OutRefIdeal.main_v106) = v3 c
          ∧ r.2.mem ((c.tc : Thread Cert.OutRefIdeal.nD Cert.OutRefIdeal.τ).loc Cert.OutRefIdeal.main_v81) = v4 c
          ∧ r.2.mem ((c.tc : Thread Cert.OutRefIdeal.nD Cert.OutRefIdeal.τ).loc Cert.OutRefIdeal.main_v69) = v5 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def preserves_MlaBwd_MlaBwdIdeal : Prop :=
  True

def algebraic_MlaBwdIdeal_MlaRefIdeal_pre_finite_mla [hMlaBwdIdeal : Cert.MlaBwdIdeal.Facts] [hMlaRefIdeal : Cert.MlaRefIdeal.Facts] [hPre_finite_mla : Cert.Pre_finite_mla.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaBwdIdeal_finite_mla m →
    (∀ c : Dev Cert.MlaBwdIdeal.nD,
      m' ((c.tc : Thread Cert.MlaRefIdeal.nD Cert.MlaRefIdeal.τ).loc Cert.MlaRefIdeal.main_arg0) = m ((c.tc : Thread Cert.MlaBwdIdeal.nD Cert.MlaBwdIdeal.τ).loc Cert.MlaBwdIdeal.main_arg0)
      ∧ m' ((c.tc : Thread Cert.MlaRefIdeal.nD Cert.MlaRefIdeal.τ).loc Cert.MlaRefIdeal.main_arg1) = m ((c.tc : Thread Cert.MlaBwdIdeal.nD Cert.MlaBwdIdeal.τ).loc Cert.MlaBwdIdeal.main_arg1)
      ∧ m' ((c.tc : Thread Cert.MlaRefIdeal.nD Cert.MlaRefIdeal.τ).loc Cert.MlaRefIdeal.main_arg2) = m ((c.tc : Thread Cert.MlaBwdIdeal.nD Cert.MlaBwdIdeal.τ).loc Cert.MlaBwdIdeal.main_arg2)
      ∧ m' ((c.tc : Thread Cert.MlaRefIdeal.nD Cert.MlaRefIdeal.τ).loc Cert.MlaRefIdeal.main_arg3) = m ((c.tc : Thread Cert.MlaBwdIdeal.nD Cert.MlaBwdIdeal.τ).loc Cert.MlaBwdIdeal.main_arg3)
      ∧ m' ((c.tc : Thread Cert.MlaRefIdeal.nD Cert.MlaRefIdeal.τ).loc Cert.MlaRefIdeal.main_arg4) = m ((c.tc : Thread Cert.MlaBwdIdeal.nD Cert.MlaBwdIdeal.τ).loc Cert.MlaBwdIdeal.main_arg4)
      ∧ m' ((c.tc : Thread Cert.MlaRefIdeal.nD Cert.MlaRefIdeal.τ).loc Cert.MlaRefIdeal.main_arg5) = m ((c.tc : Thread Cert.MlaBwdIdeal.nD Cert.MlaBwdIdeal.τ).loc Cert.MlaBwdIdeal.main_arg5)
      ∧ m' ((c.tc : Thread Cert.MlaRefIdeal.nD Cert.MlaRefIdeal.τ).loc Cert.MlaRefIdeal.main_arg6) = m ((c.tc : Thread Cert.MlaBwdIdeal.nD Cert.MlaBwdIdeal.τ).loc Cert.MlaBwdIdeal.main_arg6)
      ∧ m' ((c.tc : Thread Cert.MlaRefIdeal.nD Cert.MlaRefIdeal.τ).loc Cert.MlaRefIdeal.main_arg7) = m ((c.tc : Thread Cert.MlaBwdIdeal.nD Cert.MlaBwdIdeal.τ).loc Cert.MlaBwdIdeal.main_arg7)
      ∧ m' ((c.tc : Thread Cert.MlaRefIdeal.nD Cert.MlaRefIdeal.τ).loc Cert.MlaRefIdeal.main_arg8) = m ((c.tc : Thread Cert.MlaBwdIdeal.nD Cert.MlaBwdIdeal.τ).loc Cert.MlaBwdIdeal.main_arg8)
      ∧ m' ((c.tc : Thread Cert.MlaRefIdeal.nD Cert.MlaRefIdeal.τ).loc Cert.MlaRefIdeal.main_arg9) = m ((c.tc : Thread Cert.MlaBwdIdeal.nD Cert.MlaBwdIdeal.τ).loc Cert.MlaBwdIdeal.main_arg9)) →
    ∃ (v0 : (c : Dev Cert.MlaBwdIdeal.nD) → Buf (Elt Ideal) ((c.tc : Thread Cert.MlaBwdIdeal.nD Cert.MlaBwdIdeal.τ).loc Cert.MlaBwdIdeal.main_v48_0)) (v1 : (c : Dev Cert.MlaBwdIdeal.nD) → Buf (Elt Ideal) ((c.tc : Thread Cert.MlaBwdIdeal.nD Cert.MlaBwdIdeal.τ).loc Cert.MlaBwdIdeal.main_v48_1)) (v2 : (c : Dev Cert.MlaBwdIdeal.nD) → Buf (Elt Ideal) ((c.tc : Thread Cert.MlaBwdIdeal.nD Cert.MlaBwdIdeal.τ).loc Cert.MlaBwdIdeal.main_v49)) (v3 : (c : Dev Cert.MlaBwdIdeal.nD) → Buf (Elt Ideal) ((c.tc : Thread Cert.MlaBwdIdeal.nD Cert.MlaBwdIdeal.τ).loc Cert.MlaBwdIdeal.main_v51)) (v4 : (c : Dev Cert.MlaBwdIdeal.nD) → Buf (Elt Ideal) ((c.tc : Thread Cert.MlaBwdIdeal.nD Cert.MlaBwdIdeal.τ).loc Cert.MlaBwdIdeal.main_v48_4)) (v5 : (c : Dev Cert.MlaBwdIdeal.nD) → Buf (Elt Ideal) ((c.tc : Thread Cert.MlaBwdIdeal.nD Cert.MlaBwdIdeal.τ).loc Cert.MlaBwdIdeal.main_v48_5)) (v6 : (c : Dev Cert.MlaBwdIdeal.nD) → Buf (Elt Ideal) ((c.tc : Thread Cert.MlaBwdIdeal.nD Cert.MlaBwdIdeal.τ).loc Cert.MlaBwdIdeal.main_v48_6)),
      θ_run (Cert.MlaBwdIdeal.defs (F := Ideal)) (onTc (τ := Cert.MlaBwdIdeal.τ) (Cert.MlaBwdIdeal.main (F := Ideal))) ⟨m, fun _ => 0, g⟩ (fun r => ∀ c : Dev Cert.MlaBwdIdeal.nD,
          r.2.mem ((c.tc : Thread Cert.MlaBwdIdeal.nD Cert.MlaBwdIdeal.τ).loc Cert.MlaBwdIdeal.main_v48_0) = v0 c
          ∧ r.2.mem ((c.tc : Thread Cert.MlaBwdIdeal.nD Cert.MlaBwdIdeal.τ).loc Cert.MlaBwdIdeal.main_v48_1) = v1 c
          ∧ r.2.mem ((c.tc : Thread Cert.MlaBwdIdeal.nD Cert.MlaBwdIdeal.τ).loc Cert.MlaBwdIdeal.main_v49) = v2 c
          ∧ r.2.mem ((c.tc : Thread Cert.MlaBwdIdeal.nD Cert.MlaBwdIdeal.τ).loc Cert.MlaBwdIdeal.main_v51) = v3 c
          ∧ r.2.mem ((c.tc : Thread Cert.MlaBwdIdeal.nD Cert.MlaBwdIdeal.τ).loc Cert.MlaBwdIdeal.main_v48_4) = v4 c
          ∧ r.2.mem ((c.tc : Thread Cert.MlaBwdIdeal.nD Cert.MlaBwdIdeal.τ).loc Cert.MlaBwdIdeal.main_v48_5) = v5 c
          ∧ r.2.mem ((c.tc : Thread Cert.MlaBwdIdeal.nD Cert.MlaBwdIdeal.τ).loc Cert.MlaBwdIdeal.main_v48_6) = v6 c
          ∧ r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
          ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
          ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
          ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
          ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4)
          ∧ r.2.mem ((c.tc : Thread Cert.MlaBwdIdeal.nD Cert.MlaBwdIdeal.τ).loc Cert.MlaBwdIdeal.main_arg5) = m ((c.tc : Thread Cert.MlaBwdIdeal.nD Cert.MlaBwdIdeal.τ).loc Cert.MlaBwdIdeal.main_arg5)
          ∧ r.2.mem ((c.tc : Thread Cert.MlaBwdIdeal.nD Cert.MlaBwdIdeal.τ).loc Cert.MlaBwdIdeal.main_arg6) = m ((c.tc : Thread Cert.MlaBwdIdeal.nD Cert.MlaBwdIdeal.τ).loc Cert.MlaBwdIdeal.main_arg6)
          ∧ r.2.mem ((c.tc : Thread Cert.MlaBwdIdeal.nD Cert.MlaBwdIdeal.τ).loc Cert.MlaBwdIdeal.main_arg7) = m ((c.tc : Thread Cert.MlaBwdIdeal.nD Cert.MlaBwdIdeal.τ).loc Cert.MlaBwdIdeal.main_arg7)
          ∧ r.2.mem ((c.tc : Thread Cert.MlaBwdIdeal.nD Cert.MlaBwdIdeal.τ).loc Cert.MlaBwdIdeal.main_arg8) = m ((c.tc : Thread Cert.MlaBwdIdeal.nD Cert.MlaBwdIdeal.τ).loc Cert.MlaBwdIdeal.main_arg8)
          ∧ r.2.mem ((c.tc : Thread Cert.MlaBwdIdeal.nD Cert.MlaBwdIdeal.τ).loc Cert.MlaBwdIdeal.main_arg9) = m ((c.tc : Thread Cert.MlaBwdIdeal.nD Cert.MlaBwdIdeal.τ).loc Cert.MlaBwdIdeal.main_arg9))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v196) = v0 c
          ∧ r.2.mem ((c.tc : Thread Cert.MlaRefIdeal.nD Cert.MlaRefIdeal.τ).loc Cert.MlaRefIdeal.main_v198) = v1 c
          ∧ r.2.mem ((c.tc : Thread Cert.MlaRefIdeal.nD Cert.MlaRefIdeal.τ).loc Cert.MlaRefIdeal.main_v200) = v2 c
          ∧ r.2.mem ((c.tc : Thread Cert.MlaRefIdeal.nD Cert.MlaRefIdeal.τ).loc Cert.MlaRefIdeal.main_v202) = v3 c
          ∧ r.2.mem ((c.tc : Thread Cert.MlaRefIdeal.nD Cert.MlaRefIdeal.τ).loc Cert.MlaRefIdeal.main_v208) = v4 c
          ∧ r.2.mem ((c.tc : Thread Cert.MlaRefIdeal.nD Cert.MlaRefIdeal.τ).loc Cert.MlaRefIdeal.main_v193) = v5 c
          ∧ r.2.mem ((c.tc : Thread Cert.MlaRefIdeal.nD Cert.MlaRefIdeal.τ).loc Cert.MlaRefIdeal.main_v168) = v6 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5)
          ∧ r.2.mem ((c.tc : Thread Cert.MlaRefIdeal.nD Cert.MlaRefIdeal.τ).loc Cert.MlaRefIdeal.main_arg6) = m' ((c.tc : Thread Cert.MlaRefIdeal.nD Cert.MlaRefIdeal.τ).loc Cert.MlaRefIdeal.main_arg6)
          ∧ r.2.mem ((c.tc : Thread Cert.MlaRefIdeal.nD Cert.MlaRefIdeal.τ).loc Cert.MlaRefIdeal.main_arg7) = m' ((c.tc : Thread Cert.MlaRefIdeal.nD Cert.MlaRefIdeal.τ).loc Cert.MlaRefIdeal.main_arg7)
          ∧ r.2.mem ((c.tc : Thread Cert.MlaRefIdeal.nD Cert.MlaRefIdeal.τ).loc Cert.MlaRefIdeal.main_arg8) = m' ((c.tc : Thread Cert.MlaRefIdeal.nD Cert.MlaRefIdeal.τ).loc Cert.MlaRefIdeal.main_arg8)
          ∧ r.2.mem ((c.tc : Thread Cert.MlaRefIdeal.nD Cert.MlaRefIdeal.τ).loc Cert.MlaRefIdeal.main_arg9) = m' ((c.tc : Thread Cert.MlaRefIdeal.nD Cert.MlaRefIdeal.τ).loc Cert.MlaRefIdeal.main_arg9))

def preserves_AttnFwd_AttnFwdIdeal : Prop :=
  IdealRules.named_const.Statement Cert.AttnFwdIdeal.κ "scale_log2e" .f32 0x3DD53B95#32 (((Real.sqrt 192)⁻¹ * (Real.log 2)⁻¹ : ℝ) : EReal)
  ∧ IdealRules.named_const.Statement Cert.AttnFwdIdeal.κ "log2e" .f32 0x3FB8AA3B#32 (((Real.log 2)⁻¹ : ℝ) : EReal)

def algebraic_AttnFwdIdeal_AfwRefIdeal_pre_finite_afw [hAttnFwdIdeal : Cert.AttnFwdIdeal.Facts] [hAfwRefIdeal : Cert.AfwRefIdeal.Facts] [hPre_finite_afw : Cert.Pre_finite_afw.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AfwRefIdeal.nD Cert.AfwRefIdeal.τ Cert.AfwRefIdeal.sig) → Buf (Elt Ideal) ℓ) (g' : Dev Cert.AfwRefIdeal.nD → PrngReg), Pre_AttnFwdIdeal_finite_afw m →
    (∀ c : Dev Cert.AttnFwdIdeal.nD,
      m' ((c.tc : Thread Cert.AfwRefIdeal.nD Cert.AfwRefIdeal.τ).loc Cert.AfwRefIdeal.main_arg0) = m ((c.tc : Thread Cert.AttnFwdIdeal.nD Cert.AttnFwdIdeal.τ).loc Cert.AttnFwdIdeal.main_arg0)
      ∧ m' ((c.tc : Thread Cert.AfwRefIdeal.nD Cert.AfwRefIdeal.τ).loc Cert.AfwRefIdeal.main_arg1) = m ((c.tc : Thread Cert.AttnFwdIdeal.nD Cert.AttnFwdIdeal.τ).loc Cert.AttnFwdIdeal.main_arg1)
      ∧ m' ((c.tc : Thread Cert.AfwRefIdeal.nD Cert.AfwRefIdeal.τ).loc Cert.AfwRefIdeal.main_arg2) = m ((c.tc : Thread Cert.AttnFwdIdeal.nD Cert.AttnFwdIdeal.τ).loc Cert.AttnFwdIdeal.main_arg2)
      ∧ m' ((c.tc : Thread Cert.AfwRefIdeal.nD Cert.AfwRefIdeal.τ).loc Cert.AfwRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v11_0)) (v1 : (c : Dev Cert.AttnFwdIdeal.nD) → Buf (Elt Ideal) ((c.tc : Thread Cert.AttnFwdIdeal.nD Cert.AttnFwdIdeal.τ).loc Cert.AttnFwdIdeal.main_v11_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v11_0) = v0 c
          ∧ r.2.mem ((c.tc : Thread Cert.AttnFwdIdeal.nD Cert.AttnFwdIdeal.τ).loc Cert.AttnFwdIdeal.main_v11_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AfwRefIdeal.defs (F := Ideal)) (onTc (τ := Cert.AfwRefIdeal.τ) (Cert.AfwRefIdeal.main (F := Ideal))) ⟨m', fun _ => 0, g'⟩ (fun r => ∀ c : Dev Cert.AfwRefIdeal.nD,
          r.2.mem ((c.tc : Thread Cert.AfwRefIdeal.nD Cert.AfwRefIdeal.τ).loc Cert.AfwRefIdeal.main_v28) = v0 c
          ∧ r.2.mem ((c.tc : Thread Cert.AfwRefIdeal.nD Cert.AfwRefIdeal.τ).loc Cert.AfwRefIdeal.main_v30) = v1 c
          ∧ r.2.mem ((c.tc : Thread Cert.AfwRefIdeal.nD Cert.AfwRefIdeal.τ).loc Cert.AfwRefIdeal.main_arg0) = m' ((c.tc : Thread Cert.AfwRefIdeal.nD Cert.AfwRefIdeal.τ).loc Cert.AfwRefIdeal.main_arg0)
          ∧ r.2.mem ((c.tc : Thread Cert.AfwRefIdeal.nD Cert.AfwRefIdeal.τ).loc Cert.AfwRefIdeal.main_arg1) = m' ((c.tc : Thread Cert.AfwRefIdeal.nD Cert.AfwRefIdeal.τ).loc Cert.AfwRefIdeal.main_arg1)
          ∧ r.2.mem ((c.tc : Thread Cert.AfwRefIdeal.nD Cert.AfwRefIdeal.τ).loc Cert.AfwRefIdeal.main_arg2) = m' ((c.tc : Thread Cert.AfwRefIdeal.nD Cert.AfwRefIdeal.τ).loc Cert.AfwRefIdeal.main_arg2)
          ∧ r.2.mem ((c.tc : Thread Cert.AfwRefIdeal.nD Cert.AfwRefIdeal.τ).loc Cert.AfwRefIdeal.main_arg3) = m' ((c.tc : Thread Cert.AfwRefIdeal.nD Cert.AfwRefIdeal.τ).loc Cert.AfwRefIdeal.main_arg3))

def preserves_InFwd_InFwdIdeal : Prop :=
  True

def algebraic_InFwdIdeal_InfRefIdeal_pre_finite_inf [hInFwdIdeal : Cert.InFwdIdeal.Facts] [hInfRefIdeal : Cert.InfRefIdeal.Facts] [hPre_finite_inf : Cert.Pre_finite_inf.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InfRefIdeal.nD Cert.InfRefIdeal.τ Cert.InfRefIdeal.sig) → Buf (Elt Ideal) ℓ) (g' : Dev Cert.InfRefIdeal.nD → PrngReg), Pre_InFwdIdeal_finite_inf m →
    (∀ c : Dev Cert.InFwdIdeal.nD,
      m' ((c.tc : Thread Cert.InfRefIdeal.nD Cert.InfRefIdeal.τ).loc Cert.InfRefIdeal.main_arg0) = m ((c.tc : Thread Cert.InFwdIdeal.nD Cert.InFwdIdeal.τ).loc Cert.InFwdIdeal.main_arg0)
      ∧ m' ((c.tc : Thread Cert.InfRefIdeal.nD Cert.InfRefIdeal.τ).loc Cert.InfRefIdeal.main_arg1) = m ((c.tc : Thread Cert.InFwdIdeal.nD Cert.InFwdIdeal.τ).loc Cert.InFwdIdeal.main_arg1)
      ∧ m' ((c.tc : Thread Cert.InfRefIdeal.nD Cert.InfRefIdeal.τ).loc Cert.InfRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v5_0)) (v1 : (c : Dev Cert.InFwdIdeal.nD) → Buf (Elt Ideal) ((c.tc : Thread Cert.InFwdIdeal.nD Cert.InFwdIdeal.τ).loc Cert.InFwdIdeal.main_v5_1)) (v2 : (c : Dev Cert.InFwdIdeal.nD) → Buf (Elt Ideal) ((c.tc : Thread Cert.InFwdIdeal.nD Cert.InFwdIdeal.τ).loc Cert.InFwdIdeal.main_v5_2)) (v3 : (c : Dev Cert.InFwdIdeal.nD) → Buf (Elt Ideal) ((c.tc : Thread Cert.InFwdIdeal.nD Cert.InFwdIdeal.τ).loc Cert.InFwdIdeal.main_v5_3)) (v4 : (c : Dev Cert.InFwdIdeal.nD) → Buf (Elt Ideal) ((c.tc : Thread Cert.InFwdIdeal.nD Cert.InFwdIdeal.τ).loc Cert.InFwdIdeal.main_v5_4)) (v5 : (c : Dev Cert.InFwdIdeal.nD) → Buf (Elt Ideal) ((c.tc : Thread Cert.InFwdIdeal.nD Cert.InFwdIdeal.τ).loc Cert.InFwdIdeal.main_v5_5)) (v6 : (c : Dev Cert.InFwdIdeal.nD) → Buf (Elt Ideal) ((c.tc : Thread Cert.InFwdIdeal.nD Cert.InFwdIdeal.τ).loc Cert.InFwdIdeal.main_v5_6)) (v7 : (c : Dev Cert.InFwdIdeal.nD) → Buf (Elt Ideal) ((c.tc : Thread Cert.InFwdIdeal.nD Cert.InFwdIdeal.τ).loc Cert.InFwdIdeal.main_v5_7)) (v8 : (c : Dev Cert.InFwdIdeal.nD) → Buf (Elt Ideal) ((c.tc : Thread Cert.InFwdIdeal.nD Cert.InFwdIdeal.τ).loc Cert.InFwdIdeal.main_v5_8)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v5_0) = v0 c
          ∧ r.2.mem ((c.tc : Thread Cert.InFwdIdeal.nD Cert.InFwdIdeal.τ).loc Cert.InFwdIdeal.main_v5_1) = v1 c
          ∧ r.2.mem ((c.tc : Thread Cert.InFwdIdeal.nD Cert.InFwdIdeal.τ).loc Cert.InFwdIdeal.main_v5_2) = v2 c
          ∧ r.2.mem ((c.tc : Thread Cert.InFwdIdeal.nD Cert.InFwdIdeal.τ).loc Cert.InFwdIdeal.main_v5_3) = v3 c
          ∧ r.2.mem ((c.tc : Thread Cert.InFwdIdeal.nD Cert.InFwdIdeal.τ).loc Cert.InFwdIdeal.main_v5_4) = v4 c
          ∧ r.2.mem ((c.tc : Thread Cert.InFwdIdeal.nD Cert.InFwdIdeal.τ).loc Cert.InFwdIdeal.main_v5_5) = v5 c
          ∧ r.2.mem ((c.tc : Thread Cert.InFwdIdeal.nD Cert.InFwdIdeal.τ).loc Cert.InFwdIdeal.main_v5_6) = v6 c
          ∧ r.2.mem ((c.tc : Thread Cert.InFwdIdeal.nD Cert.InFwdIdeal.τ).loc Cert.InFwdIdeal.main_v5_7) = v7 c
          ∧ r.2.mem ((c.tc : Thread Cert.InFwdIdeal.nD Cert.InFwdIdeal.τ).loc Cert.InFwdIdeal.main_v5_8) = v8 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InfRefIdeal.defs (F := Ideal)) (onTc (τ := Cert.InfRefIdeal.τ) (Cert.InfRefIdeal.main (F := Ideal))) ⟨m', fun _ => 0, g'⟩ (fun r => ∀ c : Dev Cert.InfRefIdeal.nD,
          r.2.mem ((c.tc : Thread Cert.InfRefIdeal.nD Cert.InfRefIdeal.τ).loc Cert.InfRefIdeal.main_v25) = v0 c
          ∧ r.2.mem ((c.tc : Thread Cert.InfRefIdeal.nD Cert.InfRefIdeal.τ).loc Cert.InfRefIdeal.main_v17) = v1 c
          ∧ r.2.mem ((c.tc : Thread Cert.InfRefIdeal.nD Cert.InfRefIdeal.τ).loc Cert.InfRefIdeal.main_v18) = v2 c
          ∧ r.2.mem ((c.tc : Thread Cert.InfRefIdeal.nD Cert.InfRefIdeal.τ).loc Cert.InfRefIdeal.main_v19) = v3 c
          ∧ r.2.mem ((c.tc : Thread Cert.InfRefIdeal.nD Cert.InfRefIdeal.τ).loc Cert.InfRefIdeal.main_v20) = v4 c
          ∧ r.2.mem ((c.tc : Thread Cert.InfRefIdeal.nD Cert.InfRefIdeal.τ).loc Cert.InfRefIdeal.main_v21) = v5 c
          ∧ r.2.mem ((c.tc : Thread Cert.InfRefIdeal.nD Cert.InfRefIdeal.τ).loc Cert.InfRefIdeal.main_v22) = v6 c
          ∧ r.2.mem ((c.tc : Thread Cert.InfRefIdeal.nD Cert.InfRefIdeal.τ).loc Cert.InfRefIdeal.main_v23) = v7 c
          ∧ r.2.mem ((c.tc : Thread Cert.InfRefIdeal.nD Cert.InfRefIdeal.τ).loc Cert.InfRefIdeal.main_v26) = v8 c
          ∧ r.2.mem ((c.tc : Thread Cert.InfRefIdeal.nD Cert.InfRefIdeal.τ).loc Cert.InfRefIdeal.main_arg0) = m' ((c.tc : Thread Cert.InfRefIdeal.nD Cert.InfRefIdeal.τ).loc Cert.InfRefIdeal.main_arg0)
          ∧ r.2.mem ((c.tc : Thread Cert.InfRefIdeal.nD Cert.InfRefIdeal.τ).loc Cert.InfRefIdeal.main_arg1) = m' ((c.tc : Thread Cert.InfRefIdeal.nD Cert.InfRefIdeal.τ).loc Cert.InfRefIdeal.main_arg1)
          ∧ r.2.mem ((c.tc : Thread Cert.InfRefIdeal.nD Cert.InfRefIdeal.τ).loc Cert.InfRefIdeal.main_arg2) = m' ((c.tc : Thread Cert.InfRefIdeal.nD Cert.InfRefIdeal.τ).loc Cert.InfRefIdeal.main_arg2))

def Claim : Prop :=
  ∃ (hAttnBwd : Cert.AttnBwd.Facts) (hAttnBwdIdeal : Cert.AttnBwdIdeal.Facts) (hAttnRefIdeal : Cert.AttnRefIdeal.Facts) (hFfnBwd : Cert.FfnBwd.Facts) (hFfnBwdIdeal : Cert.FfnBwdIdeal.Facts) (hFfnRefIdeal : Cert.FfnRefIdeal.Facts) (hInBwd : Cert.InBwd.Facts) (hInBwdIdeal : Cert.InBwdIdeal.Facts) (hInRefIdeal : Cert.InRefIdeal.Facts) (hOutBwd : Cert.OutBwd.Facts) (hOutBwdIdeal : Cert.OutBwdIdeal.Facts) (hOutRefIdeal : Cert.OutRefIdeal.Facts) (hMlaBwd : Cert.MlaBwd.Facts) (hMlaBwdIdeal : Cert.MlaBwdIdeal.Facts) (hMlaRefIdeal : Cert.MlaRefIdeal.Facts) (hAttnFwd : Cert.AttnFwd.Facts) (hAttnFwdIdeal : Cert.AttnFwdIdeal.Facts) (hAfwRefIdeal : Cert.AfwRefIdeal.Facts) (hInFwd : Cert.InFwd.Facts) (hInFwdIdeal : Cert.InFwdIdeal.Facts) (hInfRefIdeal : Cert.InfRefIdeal.Facts) (hPre_finite_att : Cert.Pre_finite_att.Facts) (hPre_finite_ffn : Cert.Pre_finite_ffn.Facts) (hPre_finite_in : Cert.Pre_finite_in.Facts) (hPre_finite_out : Cert.Pre_finite_out.Facts) (hPre_finite_mla : Cert.Pre_finite_mla.Facts) (hPre_finite_afw : Cert.Pre_finite_afw.Facts) (hPre_finite_inf : Cert.Pre_finite_inf.Facts),
    quiescent_AttnBwd (hAttnBwd := hAttnBwd)
    ∧ quiescent_AttnBwdIdeal (hAttnBwdIdeal := hAttnBwdIdeal)
    ∧ quiescent_AttnBwdIdeal_pre_finite_att (hAttnBwdIdeal := hAttnBwdIdeal) (hPre_finite_att := hPre_finite_att)
    ∧ quiescent_AttnRefIdeal (hAttnRefIdeal := hAttnRefIdeal)
    ∧ quiescent_AttnRefIdeal_pre_finite_att (hAttnRefIdeal := hAttnRefIdeal) (hPre_finite_att := hPre_finite_att)
    ∧ quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_InBwd (hInBwd := hInBwd)
    ∧ quiescent_InBwdIdeal (hInBwdIdeal := hInBwdIdeal)
    ∧ quiescent_InBwdIdeal_pre_finite_in (hInBwdIdeal := hInBwdIdeal) (hPre_finite_in := hPre_finite_in)
    ∧ quiescent_InRefIdeal (hInRefIdeal := hInRefIdeal)
    ∧ quiescent_InRefIdeal_pre_finite_in (hInRefIdeal := hInRefIdeal) (hPre_finite_in := hPre_finite_in)
    ∧ quiescent_OutBwd (hOutBwd := hOutBwd)
    ∧ quiescent_OutBwdIdeal (hOutBwdIdeal := hOutBwdIdeal)
    ∧ quiescent_OutBwdIdeal_pre_finite_out (hOutBwdIdeal := hOutBwdIdeal) (hPre_finite_out := hPre_finite_out)
    ∧ quiescent_OutRefIdeal (hOutRefIdeal := hOutRefIdeal)
    ∧ quiescent_OutRefIdeal_pre_finite_out (hOutRefIdeal := hOutRefIdeal) (hPre_finite_out := hPre_finite_out)
    ∧ quiescent_MlaBwd (hMlaBwd := hMlaBwd)
    ∧ quiescent_MlaBwdIdeal (hMlaBwdIdeal := hMlaBwdIdeal)
    ∧ quiescent_MlaBwdIdeal_pre_finite_mla (hMlaBwdIdeal := hMlaBwdIdeal) (hPre_finite_mla := hPre_finite_mla)
    ∧ quiescent_MlaRefIdeal (hMlaRefIdeal := hMlaRefIdeal)
    ∧ quiescent_MlaRefIdeal_pre_finite_mla (hMlaRefIdeal := hMlaRefIdeal) (hPre_finite_mla := hPre_finite_mla)
    ∧ quiescent_AttnFwd (hAttnFwd := hAttnFwd)
    ∧ quiescent_AttnFwdIdeal (hAttnFwdIdeal := hAttnFwdIdeal)
    ∧ quiescent_AttnFwdIdeal_pre_finite_afw (hAttnFwdIdeal := hAttnFwdIdeal) (hPre_finite_afw := hPre_finite_afw)
    ∧ quiescent_AfwRefIdeal (hAfwRefIdeal := hAfwRefIdeal)
    ∧ quiescent_AfwRefIdeal_pre_finite_afw (hAfwRefIdeal := hAfwRefIdeal) (hPre_finite_afw := hPre_finite_afw)
    ∧ quiescent_InFwd (hInFwd := hInFwd)
    ∧ quiescent_InFwdIdeal (hInFwdIdeal := hInFwdIdeal)
    ∧ quiescent_InFwdIdeal_pre_finite_inf (hInFwdIdeal := hInFwdIdeal) (hPre_finite_inf := hPre_finite_inf)
    ∧ quiescent_InfRefIdeal (hInfRefIdeal := hInfRefIdeal)
    ∧ quiescent_InfRefIdeal_pre_finite_inf (hInfRefIdeal := hInfRefIdeal) (hPre_finite_inf := hPre_finite_inf)
    ∧ preserves_AttnBwd_AttnBwdIdeal
    ∧ algebraic_AttnBwdIdeal_AttnRefIdeal_pre_finite_att (hAttnBwdIdeal := hAttnBwdIdeal) (hAttnRefIdeal := hAttnRefIdeal) (hPre_finite_att := hPre_finite_att)
    ∧ preserves_FfnBwd_FfnBwdIdeal
    ∧ algebraic_FfnBwdIdeal_FfnRefIdeal_pre_finite_ffn (hFfnBwdIdeal := hFfnBwdIdeal) (hFfnRefIdeal := hFfnRefIdeal) (hPre_finite_ffn := hPre_finite_ffn)
    ∧ preserves_InBwd_InBwdIdeal
    ∧ algebraic_InBwdIdeal_InRefIdeal_pre_finite_in (hInBwdIdeal := hInBwdIdeal) (hInRefIdeal := hInRefIdeal) (hPre_finite_in := hPre_finite_in)
    ∧ preserves_OutBwd_OutBwdIdeal
    ∧ algebraic_OutBwdIdeal_OutRefIdeal_pre_finite_out (hOutBwdIdeal := hOutBwdIdeal) (hOutRefIdeal := hOutRefIdeal) (hPre_finite_out := hPre_finite_out)
    ∧ preserves_MlaBwd_MlaBwdIdeal
    ∧ algebraic_MlaBwdIdeal_MlaRefIdeal_pre_finite_mla (hMlaBwdIdeal := hMlaBwdIdeal) (hMlaRefIdeal := hMlaRefIdeal) (hPre_finite_mla := hPre_finite_mla)
    ∧ preserves_AttnFwd_AttnFwdIdeal
    ∧ algebraic_AttnFwdIdeal_AfwRefIdeal_pre_finite_afw (hAttnFwdIdeal := hAttnFwdIdeal) (hAfwRefIdeal := hAfwRefIdeal) (hPre_finite_afw := hPre_finite_afw)
    ∧ preserves_InFwd_InFwdIdeal
    ∧ algebraic_InFwdIdeal_InfRefIdeal_pre_finite_inf (hInFwdIdeal := hInFwdIdeal) (hInfRefIdeal := hInfRefIdeal) (hPre_finite_inf := hPre_finite_inf)
-- ==== Pre_finite_afw.lean ====
abbrev S2x4096x4x192 : Shape := ⟨4, ![2, 4096, 4, 192]⟩
abbrev S2x4096x4x128 : Shape := ⟨4, ![2, 4096, 4, 128]⟩
abbrev S2x4096x64 : Shape := ⟨3, ![2, 4096, 64]⟩
abbrev S_ : Shape := ⟨0, ![]⟩

class Facts : Prop where
  bcast_S_S2x4096x4x192 : S_.BroadcastsInDim S2x4096x4x192 (![] : Fin 0 → Fin S2x4096x4x192.rank)
  reducesTo_S2x4096x4x192_S_d0_1_2_3 : S2x4096x4x192.ReducesTo [0, 1, 2, 3] S_
  h_S_ : 0 < S_.numel
  bcast_S_S2x4096x4x128 : S_.BroadcastsInDim S2x4096x4x128 (![] : Fin 0 → Fin S2x4096x4x128.rank)
  reducesTo_S2x4096x4x128_S_d0_1_2_3 : S2x4096x4x128.ReducesTo [0, 1, 2, 3] S_
  bcast_S_S2x4096x64 : S_.BroadcastsInDim S2x4096x64 (![] : Fin 0 → Fin S2x4096x64.rank)
  reducesTo_S2x4096x64_S_d0_1_2 : S2x4096x64.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2x4096x4x192 .f32) (main_arg1 : FVec F S2x4096x4x128 .f32) (main_arg2 : FVec F S2x4096x64 .f32) (main_arg3 : FVec F S2x4096x4x128 .f32) : IVec S_ 1 :=
  let main_v0 : FVec F S2x4096x4x192 .f32 := Host.absf main_arg0
  let main_cst : FVec F S_ .f32 := constant S_ .f32 0x7F800000#32
  let main_v1 : FVec F S2x4096x4x192 .f32 := broadcastInDim S2x4096x4x192 ![] bcast_S_S2x4096x4x192 main_cst
  let main_v2 : IVec S2x4096x4x192 1 := cmpf .olt main_v0 main_v1
  let main_c : IVec S_ 1 := constantI S_ 1 1#1
  let main_v3 : IVec S_ 1 := (fun x v => Host.reduce IntOp.andi x v reducesTo_S2x4096x4x192_S_d0_1_2_3 h_S_) main_v2 main_c
  let main_v4 : FVec F S2x4096x4x128 .f32 := Host.absf main_arg1
  let main_cst_0 : FVec F S_ .f32 := constant S_ .f32 0x7F800000#32
  let main_v5 : FVec F S2x4096x4x128 .f32 := broadcastInDim S2x4096x4x128 ![] bcast_S_S2x4096x4x128 main_cst_0
  let main_v6 : IVec S2x4096x4x128 1 := cmpf .olt main_v4 main_v5
  let main_c_1 : IVec S_ 1 := constantI S_ 1 1#1
  let main_v7 : IVec S_ 1 := (fun x v => Host.reduce IntOp.andi x v reducesTo_S2x4096x4x128_S_d0_1_2_3 h_S_) main_v6 main_c_1
  let main_v8 : FVec F S2x4096x64 .f32 := Host.absf main_arg2
  let main_cst_2 : FVec F S_ .f32 := constant S_ .f32 0x7F800000#32
  let main_v9 : FVec F S2x4096x64 .f32 := broadcastInDim S2x4096x64 ![] bcast_S_S2x4096x64 main_cst_2
  let main_v10 : IVec S2x4096x64 1 := cmpf .olt main_v8 main_v9
  let main_c_3 : IVec S_ 1 := constantI S_ 1 1#1
  let main_v11 : IVec S_ 1 := (fun x v => Host.reduce IntOp.andi x v reducesTo_S2x4096x64_S_d0_1_2 h_S_) main_v10 main_c_3
  let main_v12 : FVec F S2x4096x4x128 .f32 := Host.absf main_arg3
  let main_cst_4 : FVec F S_ .f32 := constant S_ .f32 0x7F800000#32
  let main_v13 : FVec F S2x4096x4x128 .f32 := broadcastInDim S2x4096x4x128 ![] bcast_S_S2x4096x4x128 main_cst_4
  let main_v14 : IVec S2x4096x4x128 1 := cmpf .olt main_v12 main_v13
  let main_c_5 : IVec S_ 1 := constantI S_ 1 1#1
  let main_v15 : IVec S_ 1 := (fun x v => Host.reduce IntOp.andi x v reducesTo_S2x4096x4x128_S_d0_1_2_3 h_S_) main_v14 main_c_5
  fn_part1 (F := F) main_v3 main_v7 main_v11 main_v15
-- ==== Pre_finite_att.lean ====
abbrev S2x4096x4x192 : Shape := ⟨4, ![2, 4096, 4, 192]⟩
abbrev S2x4096x4x128 : Shape := ⟨4, ![2, 4096, 4, 128]⟩
abbrev S2x4096x64 : Shape := ⟨3, ![2, 4096, 64]⟩
abbrev S_ : Shape := ⟨0, ![]⟩

class Facts : Prop where
  bcast_S_S2x4096x4x192 : S_.BroadcastsInDim S2x4096x4x192 (![] : Fin 0 → Fin S2x4096x4x192.rank)
  reducesTo_S2x4096x4x192_S_d0_1_2_3 : S2x4096x4x192.ReducesTo [0, 1, 2, 3] S_
  h_S_ : 0 < S_.numel
  bcast_S_S2x4096x4x128 : S_.BroadcastsInDim S2x4096x4x128 (![] : Fin 0 → Fin S2x4096x4x128.rank)
  reducesTo_S2x4096x4x128_S_d0_1_2_3 : S2x4096x4x128.ReducesTo [0, 1, 2, 3] S_
  bcast_S_S2x4096x64 : S_.BroadcastsInDim S2x4096x64 (![] : Fin 0 → Fin S2x4096x64.rank)
  reducesTo_S2x4096x64_S_d0_1_2 : S2x4096x64.ReducesTo [0, 1, 2] S_

variable [Facts]

def fn_part1 {F : FTy → Type} [FloatOps F] (main_arg4 : FVec F S2x4096x4x128 .f32) (main_v3 : IVec S_ 1) (main_v7 : IVec S_ 1) (main_v11 : IVec S_ 1) (main_v15 : IVec S_ 1) : IVec S_ 1 :=
  let main_v16 : FVec F S2x4096x4x128 .f32 := Host.absf main_arg4
  let main_cst_6 : FVec F S_ .f32 := constant S_ .f32 0x7F800000#32
  let main_v17 : FVec F S2x4096x4x128 .f32 := broadcastInDim S2x4096x4x128 ![] bcast_S_S2x4096x4x128 main_cst_6
  let main_v18 : IVec S2x4096x4x128 1 := cmpf .olt main_v16 main_v17
  let main_c_7 : IVec S_ 1 := constantI S_ 1 1#1
  let main_v19 : IVec S_ 1 := (fun x v => Host.reduce IntOp.andi x v reducesTo_S2x4096x4x128_S_d0_1_2_3 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2x4096x4x192 .f32) (main_arg1 : FVec F S2x4096x4x128 .f32) (main_arg2 : FVec F S2x4096x64 .f32) (main_arg3 : FVec F S2x4096x4x128 .f32) (main_arg4 : FVec F S2x4096x4x128 .f32) : IVec S_ 1 :=
  let main_v0 : FVec F S2x4096x4x192 .f32 := Host.absf main_arg0
  let main_cst : FVec F S_ .f32 := constant S_ .f32 0x7F800000#32
  let main_v1 : FVec F S2x4096x4x192 .f32 := broadcastInDim S2x4096x4x192 ![] bcast_S_S2x4096x4x192 main_cst
  let main_v2 : IVec S2x4096x4x192 1 := cmpf .olt main_v0 main_v1
  let main_c : IVec S_ 1 := constantI S_ 1 1#1
  let main_v3 : IVec S_ 1 := (fun x v => Host.reduce IntOp.andi x v reducesTo_S2x4096x4x192_S_d0_1_2_3 h_S_) main_v2 main_c
  let main_v4 : FVec F S2x4096x4x128 .f32 := Host.absf main_arg1
  let main_cst_0 : FVec F S_ .f32 := constant S_ .f32 0x7F800000#32
  let main_v5 : FVec F S2x4096x4x128 .f32 := broadcastInDim S2x4096x4x128 ![] bcast_S_S2x4096x4x128 main_cst_0
  let main_v6 : IVec S2x4096x4x128 1 := cmpf .olt main_v4 main_v5
  let main_c_1 : IVec S_ 1 := constantI S_ 1 1#1
  let main_v7 : IVec S_ 1 := (fun x v => Host.reduce IntOp.andi x v reducesTo_S2x4096x4x128_S_d0_1_2_3 h_S_) main_v6 main_c_1
  let main_v8 : FVec F S2x4096x64 .f32 := Host.absf main_arg2
  let main_cst_2 : FVec F S_ .f32 := constant S_ .f32 0x7F800000#32
  let main_v9 : FVec F S2x4096x64 .f32 := broadcastInDim S2x4096x64 ![] bcast_S_S2x4096x64 main_cst_2
  let main_v10 : IVec S2x4096x64 1 := cmpf .olt main_v8 main_v9
  let main_c_3 : IVec S_ 1 := constantI S_ 1 1#1
  let main_v11 : IVec S_ 1 := (fun x v => Host.reduce IntOp.andi x v reducesTo_S2x4096x64_S_d0_1_2 h_S_) main_v10 main_c_3
  let main_v12 : FVec F S2x4096x4x128 .f32 := Host.absf main_arg3
  let main_cst_4 : FVec F S_ .f32 := constant S_ .f32 0x7F800000#32
  let main_v13 : FVec F S2x4096x4x128 .f32 := broadcastInDim S2x4096x4x128 ![] bcast_S_S2x4096x4x128 main_cst_4
  let main_v14 : IVec S2x4096x4x128 1 := cmpf .olt main_v12 main_v13
  let main_c_5 : IVec S_ 1 := constantI S_ 1 1#1
  let main_v15 : IVec S_ 1 := (fun x v => Host.reduce IntOp.andi x v reducesTo_S2x4096x4x128_S_d0_1_2_3 h_S_) main_v14 main_c_5
  fn_part1 (F := F) main_arg4 main_v3 main_v7 main_v11 main_v15
-- ==== Pre_finite_ffn.lean ====
abbrev S2x4096x1024 : Shape := ⟨3, ![2, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1x2816x1024 .f32) (main_arg5 : FVec F S1024 .f32) (main_arg6 : FVec F S2x4096x1024 .f32) (main_v3 : IVec S_ 1) (main_v7 : IVec S_ 1) (main_v11 : IVec S_ 1) (main_v15 : IVec S_ 1) : IVec S_ 1 :=
  let main_v16 : FVec F S1x2816x1024 .f32 := Host.absf main_arg4
  let main_cst_6 : FVec F S_ .f32 := constant S_ .f32 0x7F800000#32
  let main_v17 : FVec F S1x2816x1024 .f32 := broadcastInDim S1x2816x1024 ![] bcast_S_S1x2816x1024 main_cst_6
  let main_v18 : IVec S1x2816x1024 1 := cmpf .olt main_v16 main_v17
  let main_c_7 : IVec S_ 1 := constantI S_ 1 1#1
  let main_v19 : IVec S_ 1 := (fun x v => Host.reduce IntOp.andi x v reducesTo_S1x2816x1024_S_d0_1_2 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S2x4096x1024 .f32 := Host.absf main_arg6
  let main_cst_10 : FVec F S_ .f32 := constant S_ .f32 0x7F800000#32
  let main_v25 : FVec F S2x4096x1024 .f32 := broadcastInDim S2x4096x1024 ![] bcast_S_S2x4096x1024 main_cst_10
  let main_v26 : IVec S2x4096x1024 1 := cmpf .olt main_v24 main_v25
  let main_c_11 : IVec S_ 1 := constantI S_ 1 1#1
  let main_v27 : IVec S_ 1 := (fun x v => Host.reduce IntOp.andi x v reducesTo_S2x4096x1024_S_d0_1_2 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S2x4096x1024 .f32) (main_arg1 : FVec F S1x1024 .f32) (main_arg2 : FVec F S1x1024x2816 .f32) (main_arg3 : FVec F S1x1024x2816 .f32) (main_arg4 : FVec F S1x2816x1024 .f32) (main_arg5 : FVec F S1024 .f32) (main_arg6 : FVec F S2x4096x1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024x2816 .f32 := Host.absf main_arg2
  let main_cst_2 : FVec F S_ .f32 := constant S_ .f32 0x7F800000#32
  let main_v9 : FVec F S1x1024x2816 .f32 := broadcastInDim S1x1024x2816 ![] bcast_S_S1x1024x2816 main_cst_2
  let main_v10 : IVec S1x1024x2816 1 := cmpf .olt main_v8 main_v9
  let main_c_3 : IVec S_ 1 := constantI S_ 1 1#1
  let main_v11 : IVec S_ 1 := (fun x v => Host.reduce IntOp.andi x v reducesTo_S1x1024x2816_S_d0_1_2 h_S_) main_v10 main_c_3
  let main_v12 : FVec F S1x1024x2816 .f32 := Host.absf main_arg3
  let main_cst_4 : FVec F S_ .f32 := constant S_ .f32 0x7F800000#32
  let main_v13 : FVec F S1x1024x2816 .f32 := broadcastInDim S1x1024x2816 ![] bcast_S_S1x1024x2816 main_cst_4
  let main_v14 : IVec S1x1024x2816 1 := cmpf .olt main_v12 main_v13
  let main_c_5 : IVec S_ 1 := constantI S_ 1 1#1
  let main_v15 : IVec S_ 1 := (fun x v => Host.reduce IntOp.andi x v reducesTo_S1x1024x2816_S_d0_1_2 h_S_) main_v14 main_c_5
  fn_part1 (F := F) main_arg4 main_arg5 main_arg6 main_v3 main_v7 main_v11 main_v15
-- ==== Pre_finite_in.lean ====
abbrev S2x4096x512 : Shape := ⟨3, ![2, 4096, 512]⟩
abbrev S2x4096x384 : Shape := ⟨3, ![2, 4096, 384]⟩
abbrev S2x4096x256 : Shape := ⟨3, ![2, 4096, 256]⟩
abbrev S2x4096x64 : Shape := ⟨3, ![2, 4096, 64]⟩
abbrev S2x4096x1024 : Shape := ⟨3, ![2, 4096, 1024]⟩
abbrev S1x1024 : Shape := ⟨2, ![1, 1024]⟩
abbrev S1x1024x3264 : Shape := ⟨3, ![1, 1024, 3264]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S2x4096x384 : S_.BroadcastsInDim S2x4096x384 (![] : Fin 0 → Fin S2x4096x384.rank)
  reducesTo_S2x4096x384_S_d0_1_2 : S2x4096x384.ReducesTo [0, 1, 2] S_
  bcast_S_S2x4096x256 : S_.BroadcastsInDim S2x4096x256 (![] : Fin 0 → Fin S2x4096x256.rank)
  reducesTo_S2x4096x256_S_d0_1_2 : S2x4096x256.ReducesTo [0, 1, 2] S_
  bcast_S_S2x4096x64 : S_.BroadcastsInDim S2x4096x64 (![] : Fin 0 → Fin S2x4096x64.rank)
  reducesTo_S2x4096x64_S_d0_1_2 : S2x4096x64.ReducesTo [0, 1, 2] S_
  bcast_S_S2x4096x1024 : S_.BroadcastsInDim S2x4096x1024 (![] : Fin 0 → Fin S2x4096x1024.rank)
  reducesTo_S2x4096x1024_S_d0_1_2 : S2x4096x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x3264 : S_.BroadcastsInDim S1x1024x3264 (![] : Fin 0 → Fin S1x1024x3264.rank)
  reducesTo_S1x1024x3264_S_d0_1_2 : S1x1024x3264.ReducesTo [0, 1, 2] S_

variable [Facts]

def fn_part4 {F : FTy → Type} [FloatOps F] (main_v55 : IVec S_ 1) (main_v67 : IVec S_ 1) : IVec S_ 1 :=
  let main_v68 : IVec S_ 1 := andi main_v67 main_v55
  main_v68

def fn_part3 {F : FTy → Type} [FloatOps F] (main_arg12 : FVec F S1x1024 .f32) (main_arg13 : FVec F S1x1024x3264 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S1x1024 .f32 := Host.absf main_arg12
  let main_cst_22 : FVec F S_ .f32 := constant S_ .f32 0x7F800000#32
  let main_v49 : FVec F S1x1024 .f32 := broadcastInDim S1x1024 ![] bcast_S_S1x1024 main_cst_22
  let main_v50 : IVec S1x1024 1 := cmpf .olt main_v48 main_v49
  let main_c_23 : IVec S_ 1 := constantI S_ 1 1#1
  let main_v51 : IVec S_ 1 := (fun x v => Host.reduce IntOp.andi x v reducesTo_S1x1024_S_d0_1 h_S_) main_v50 main_c_23
  let main_v52 : FVec F S1x1024x3264 .f32 := Host.absf main_arg13
  let main_cst_24 : FVec F S_ .f32 := constant S_ .f32 0x7F800000#32
  let main_v53 : FVec F S1x1024x3264 .f32 := broadcastInDim S1x1024x3264 ![] bcast_S_S1x1024x3264 main_cst_24
  let main_v54 : IVec S1x1024x3264 1 := cmpf .olt main_v52 main_v53
  let main_c_25 : IVec S_ 1 := constantI S_ 1 1#1
  let main_v55 : IVec S_ 1 := (fun x v => Host.reduce IntOp.andi x v reducesTo_S1x1024x3264_S_d0_1_2 h_S_) main_v54 main_c_25
  let main_v56 : IVec S_ 1 := andi main_v3 main_v7
  let main_v57 : IVec S_ 1 := andi main_v56 main_v11
  let main_v58 : IVec S_ 1 := andi main_v57 main_v15
  let main_v59 : IVec S_ 1 := andi main_v58 main_v19
  let main_v60 : IVec S_ 1 := andi main_v59 main_v23
  let main_v61 : IVec S_ 1 := andi main_v60 main_v27
  let main_v62 : IVec S_ 1 := andi main_v61 main_v31
  let main_v63 : IVec S_ 1 := andi main_v62 main_v35
  let main_v64 : IVec S_ 1 := andi main_v63 main_v39
  let main_v65 : IVec S_ 1 := andi main_v64 main_v43
  let main_v66 : IVec S_ 1 := andi main_v65 main_v47
  let main_v67 : IVec S_ 1 := andi main_v66 main_v51
  fn_part4 (F := F) main_v55 main_v67

def fn_part2 {F : FTy → Type} [FloatOps F] (main_arg8 : FVec F S2x4096x256 .f32) (main_arg9 : FVec F S2x4096x64 .f32) (main_arg10 : FVec F S2x4096x1024 .f32) (main_arg11 : FVec F S2x4096x1024 .f32) (main_arg12 : FVec F S1x1024 .f32) (main_arg13 : FVec F S1x1024x3264 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S2x4096x256 .f32 := Host.absf main_arg8
  let main_cst_14 : FVec F S_ .f32 := constant S_ .f32 0x7F800000#32
  let main_v33 : FVec F S2x4096x256 .f32 := broadcastInDim S2x4096x256 ![] bcast_S_S2x4096x256 main_cst_14
  let main_v34 : IVec S2x4096x256 1 := cmpf .olt main_v32 main_v33
  let main_c_15 : IVec S_ 1 := constantI S_ 1 1#1
  let main_v35 : IVec S_ 1 := (fun x v => Host.reduce IntOp.andi x v reducesTo_S2x4096x256_S_d0_1_2 h_S_) main_v34 main_c_15
  let main_v36 : FVec F S2x4096x64 .f32 := Host.absf main_arg9
  let main_cst_16 : FVec F S_ .f32 := constant S_ .f32 0x7F800000#32
  let main_v37 : FVec F S2x4096x64 .f32 := broadcastInDim S2x4096x64 ![] bcast_S_S2x4096x64 main_cst_16
  let main_v38 : IVec S2x4096x64 1 := cmpf .olt main_v36 main_v37
  let main_c_17 : IVec S_ 1 := constantI S_ 1 1#1
  let main_v39 : IVec S_ 1 := (fun x v => Host.reduce IntOp.andi x v reducesTo_S2x4096x64_S_d0_1_2 h_S_) main_v38 main_c_17
  let main_v40 : FVec F S2x4096x1024 .f32 := Host.absf main_arg10
  let main_cst_18 : FVec F S_ .f32 := constant S_ .f32 0x7F800000#32
  let main_v41 : FVec F S2x4096x1024 .f32 := broadcastInDim S2x4096x1024 ![] bcast_S_S2x4096x1024 main_cst_18
  let main_v42 : IVec S2x4096x1024 1 := cmpf .olt main_v40 main_v41
  let main_c_19 : IVec S_ 1 := constantI S_ 1 1#1
  let main_v43 : IVec S_ 1 := (fun x v => Host.reduce IntOp.andi x v reducesTo_S2x4096x1024_S_d0_1_2 h_S_) main_v42 main_c_19
  let main_v44 : FVec F S2x4096x1024 .f32 := Host.absf main_arg11
  let main_cst_20 : FVec F S_ .f32 := constant S_ .f32 0x7F800000#32
  let main_v45 : FVec F S2x4096x1024 .f32 := broadcastInDim S2x4096x1024 ![] bcast_S_S2x4096x1024 main_cst_20
  let main_v46 : IVec S2x4096x1024 1 := cmpf .olt main_v44 main_v45
  let main_c_21 : IVec S_ 1 := constantI S_ 1 1#1
  let main_v47 : IVec S_ 1 := (fun x v => Host.reduce IntOp.andi x v reducesTo_S2x4096x1024_S_d0_1_2 h_S_) main_v46 main_c_21
  fn_part3 (F := F) main_arg12 main_arg13 main_v3 main_v7 main_v11 main_v15 main_v19 main_v23 main_v27 main_v31 main_v35 main_v39 main_v43 main_v47

def fn_part1 {F : FTy → Type} [FloatOps F] (main_arg4 : FVec F S2x4096x512 .f32) (main_arg5 : FVec F S2x4096x512 .f32) (main_arg6 : FVec F S2x4096x512 .f32) (main_arg7 : FVec F S2x4096x384 .f32) (main_arg8 : FVec F S2x4096x256 .f32) (main_arg9 : FVec F S2x4096x64 .f32) (main_arg10 : FVec F S2x4096x1024 .f32) (main_arg11 : FVec F S2x4096x1024 .f32) (main_arg12 : FVec F S1x1024 .f32) (main_arg13 : FVec F S1x1024x3264 .f32) (main_v3 : IVec S_ 1) (main_v7 : IVec S_ 1) (main_v11 : IVec S_ 1) (main_v15 : IVec S_ 1) : IVec S_ 1 :=
  let main_v16 : FVec F S2x4096x512 .f32 := Host.absf main_arg4
  let main_cst_6 : FVec F S_ .f32 := constant S_ .f32 0x7F800000#32
  let main_v17 : FVec F S2x4096x512 .f32 := broadcastInDim S2x4096x512 ![] bcast_S_S2x4096x512 main_cst_6
  let main_v18 : IVec S2x4096x512 1 := cmpf .olt main_v16 main_v17
  let main_c_7 : IVec S_ 1 := constantI S_ 1 1#1
  let main_v19 : IVec S_ 1 := (fun x v => Host.reduce IntOp.andi x v reducesTo_S2x4096x512_S_d0_1_2 h_S_) main_v18 main_c_7
  let main_v20 : FVec F S2x4096x512 .f32 := Host.absf main_arg5
  let main_cst_8 : FVec F S_ .f32 := constant S_ .f32 0x7F800000#32
  let main_v21 : FVec F S2x4096x512 .f32 := broadcastInDim S2x4096x512 ![] bcast_S_S2x4096x512 main_cst_8
  let main_v22 : IVec S2x4096x512 1 := cmpf .olt main_v20 main_v21
  let main_c_9 : IVec S_ 1 := constantI S_ 1 1#1
  let main_v23 : IVec S_ 1 := (fun x v => Host.reduce IntOp.andi x v reducesTo_S2x4096x512_S_d0_1_2 h_S_) main_v22 main_c_9
  let main_v24 : FVec F S2x4096x512 .f32 := Host.absf main_arg6
  let main_cst_10 : FVec F S_ .f32 := constant S_ .f32 0x7F800000#32
  let main_v25 : FVec F S2x4096x512 .f32 := broadcastInDim S2x4096x512 ![] bcast_S_S2x4096x512 main_cst_10
  let main_v26 : IVec S2x4096x512 1 := cmpf .olt main_v24 main_v25
  let main_c_11 : IVec S_ 1 := constantI S_ 1 1#1
  let main_v27 : IVec S_ 1 := (fun x v => Host.reduce IntOp.andi x v reducesTo_S2x4096x512_S_d0_1_2 h_S_) main_v26 main_c_11
  let main_v28 : FVec F S2x4096x384 .f32 := Host.absf main_arg7
  let main_cst_12 : FVec F S_ .f32 := constant S_ .f32 0x7F800000#32
  let main_v29 : FVec F S2x4096x384 .f32 := broadcastInDim S2x4096x384 ![] bcast_S_S2x4096x384 main_cst_12
  let main_v30 : IVec S2x4096x384 1 := cmpf .olt main_v28 main_v29
  let main_c_13 : IVec S_ 1 := constantI S_ 1 1#1
  let main_v31 : IVec S_ 1 := (fun x v => Host.reduce IntOp.andi x v reducesTo_S2x4096x384_S_d0_1_2 h_S_) main_v30 main_c_13
  fn_part2 (F := F) main_arg8 main_arg9 main_arg10 main_arg11 main_arg12 main_arg13 main_v3 main_v7 main_v11 main_v15 main_v19 main_v23 main_v27 main_v31

def fn {F : FTy → Type} [FloatOps F] (main_arg0 : FVec F S2x4096x512 .f32) (main_arg1 : FVec F S2x4096x512 .f32) (main_arg2 : FVec F S2x4096x512 .f32) (main_arg3 : FVec F S2x4096x512 .f32) (main_arg4 : FVec F S2x4096x512 .f32) (main_arg5 : FVec F S2x4096x512 .f32) (main_arg6 : FVec F S2x4096x512 .f32) (main_arg7 : FVec F S2x4096x384 .f32) (main_arg8 : FVec F S2x4096x256 .f32) (main_arg9 : FVec F S2x4096x64 .f32) (main_arg10 : FVec F S2x4096x1024 .f32) (main_arg11 : FVec F S2x4096x1024 .f32) (main_arg12 : FVec F S1x1024 .f32) (main_arg13 : FVec F S1x1024x3264 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S2x4096x512 .f32 := Host.absf main_arg1
  let main_cst_0 : FVec F S_ .f32 := constant S_ .f32 0x7F800000#32
  let main_v5 : FVec F S2x4096x512 .f32 := broadcastInDim S2x4096x512 ![] bcast_S_S2x4096x512 main_cst_0
  let main_v6 : IVec S2x4096x512 1 := cmpf .olt main_v4 main_v5
  let main_c_1 : IVec S_ 1 := constantI S_ 1 1#1
  let main_v7 : IVec S_ 1 := (fun x v => Host.reduce IntOp.andi x v reducesTo_S2x4096x512_S_d0_1_2 h_S_) main_v6 main_c_1
  let main_v8 : FVec F S2x4096x512 .f32 := Host.absf main_arg2
  let main_cst_2 : FVec F S_ .f32 := constant S_ .f32 0x7F800000#32
  let main_v9 : FVec F S2x4096x512 .f32 := broadcastInDim S2x4096x512 ![] bcast_S_S2x4096x512 main_cst_2
  let main_v10 : IVec S2x4096x512 1 := cmpf .olt main_v8 main_v9
  let main_c_3 : IVec S_ 1 := constantI S_ 1 1#1
  let main_v11 : IVec S_ 1 := (fun x v => Host.reduce IntOp.andi x v reducesTo_S2x4096x512_S_d0_1_2 h_S_) main_v10 main_c_3
  let main_v12 : FVec F S2x4096x512 .f32 := Host.absf main_arg3
  let main_cst_4 : FVec F S_ .f32 := constant S_ .f32 0x7F800000#32
  let main_v13 : FVec F S2x4096x512 .f32 := broadcastInDim S2x4096x512 ![] bcast_S_S2x4096x512 main_cst_4
  let main_v14 : IVec S2x4096x512 1 := cmpf .olt main_v12 main_v13
  let main_c_5 : IVec S_ 1 := constantI S_ 1 1#1
  let main_v15 : IVec S_ 1 := (fun x v => Host.reduce IntOp.andi x v reducesTo_S2x4096x512_S_d0_1_2 h_S_) main_v14 main_c_5
  fn_part1 (F := F) main_arg4 main_arg5 main_arg6 main_arg7 main_arg8 main_arg9 main_arg10 main_arg11 main_arg12 main_arg13 main_v3 main_v7 main_v11 main_v15
-- ==== Pre_finite_inf.lean ====
abbrev S2x4096x1024 : Shape := ⟨3, ![2, 4096, 1024]⟩
abbrev S1x1024 : Shape := ⟨2, ![1, 1024]⟩
abbrev S1x1024x3264 : Shape := ⟨3, ![1, 1024, 3264]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x3264 : S_.BroadcastsInDim S1x1024x3264 (![] : Fin 0 → Fin S1x1024x3264.rank)
  reducesTo_S1x1024x3264_S_d0_1_2 : S1x1024x3264.ReducesTo [0, 1, 2] S_

variable [Facts]

def fn {F : FTy → Type} [FloatOps F] (main_arg0 : FVec F S2x4096x1024 .f32) (main_arg1 : FVec F S1x1024 .f32) (main_arg2 : FVec F S1x1024x3264 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024x3264 .f32 := Host.absf main_arg2
  let main_cst_2 : FVec F S_ .f32 := constant S_ .f32 0x7F800000#32
  let main_v9 : FVec F S1x1024x3264 .f32 := broadcastInDim S1x1024x3264 ![] bcast_S_S1x1024x3264 main_cst_2
  let main_v10 : IVec S1x1024x3264 1 := cmpf .olt main_v8 main_v9
  let main_c_3 : IVec S_ 1 := constantI S_ 1 1#1
  let main_v11 : IVec S_ 1 := (fun x v => Host.reduce IntOp.andi x v reducesTo_S1x1024x3264_S_d0_1_2 h_S_) main_v10 main_c_3
  let main_v12 : IVec S_ 1 := andi main_v3 main_v7
  let main_v13 : IVec S_ 1 := andi main_v12 main_v11
  main_v13
-- ==== Pre_finite_mla.lean ====
abbrev S2x4096x4x192 : Shape := ⟨4, ![2, 4096, 4, 192]⟩
abbrev S2x4096x4x128 : Shape := ⟨4, ![2, 4096, 4, 128]⟩
abbrev S2x4096x4x64 : Shape := ⟨4, ![2, 4096, 4, 64]⟩
abbrev S2x4096x384 : Shape := ⟨3, ![2, 4096, 384]⟩
abbrev S2x4096x256 : Shape := ⟨3, ![2, 4096, 256]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S_ : Shape := ⟨0, ![]⟩

class Facts : Prop where
  bcast_S_S2x4096x4x192 : S_.BroadcastsInDim S2x4096x4x192 (![] : Fin 0 → Fin S2x4096x4x192.rank)
  reducesTo_S2x4096x4x192_S_d0_1_2_3 : S2x4096x4x192.ReducesTo [0, 1, 2, 3] S_
  h_S_ : 0 < S_.numel
  bcast_S_S2x4096x4x128 : S_.BroadcastsInDim S2x4096x4x128 (![] : Fin 0 → Fin S2x4096x4x128.rank)
  reducesTo_S2x4096x4x128_S_d0_1_2_3 : S2x4096x4x128.ReducesTo [0, 1, 2, 3] S_
  bcast_S_S2x4096x4x64 : S_.BroadcastsInDim S2x4096x4x64 (![] : Fin 0 → Fin S2x4096x4x64.rank)
  reducesTo_S2x4096x4x64_S_d0_1_2_3 : S2x4096x4x64.ReducesTo [0, 1, 2, 3] S_
  bcast_S_S2x4096x384 : S_.BroadcastsInDim S2x4096x384 (![] : Fin 0 → Fin S2x4096x384.rank)
  reducesTo_S2x4096x384_S_d0_1_2 : S2x4096x384.ReducesTo [0, 1, 2] S_
  bcast_S_S2x4096x256 : S_.BroadcastsInDim S2x4096x256 (![] : Fin 0 → Fin S2x4096x256.rank)
  reducesTo_S2x4096x256_S_d0_1_2 : S2x4096x256.ReducesTo [0, 1, 2] S_
  bcast_S_S1x384 : S_.BroadcastsInDim S1x384 (![] : Fin 0 → Fin S1x384.rank)
  reducesTo_S1x384_S_d0_1 : S1x384.ReducesTo [0, 1] S_
  bcast_S_S1x384x768 : S_.BroadcastsInDim S1x384x768 (![] : Fin 0 → Fin S1x384x768.rank)
  reducesTo_S1x384x768_S_d0_1_2 : S1x384x768.ReducesTo [0, 1, 2] S_
  bcast_S_S1x256 : S_.BroadcastsInDim S1x256 (![] : Fin 0 → Fin S1x256.rank)
  reducesTo_S1x256_S_d0_1 : S1x256.ReducesTo [0, 1] S_
  bcast_S_S1x256x1024 : S_.BroadcastsInDim S1x256x1024 (![] : Fin 0 → Fin S1x256x1024.rank)
  reducesTo_S1x256x1024_S_d0_1_2 : S1x256x1024.ReducesTo [0, 1, 2] S_

variable [Facts]

def fn_part2 {F : FTy → Type} [FloatOps F] (main_arg8 : FVec F S1x256 .f32) (main_arg9 : FVec F S1x256x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x256 .f32 := Host.absf main_arg8
  let main_cst_14 : FVec F S_ .f32 := constant S_ .f32 0x7F800000#32
  let main_v33 : FVec F S1x256 .f32 := broadcastInDim S1x256 ![] bcast_S_S1x256 main_cst_14
  let main_v34 : IVec S1x256 1 := cmpf .olt main_v32 main_v33
  let main_c_15 : IVec S_ 1 := constantI S_ 1 1#1
  let main_v35 : IVec S_ 1 := (fun x v => Host.reduce IntOp.andi x v reducesTo_S1x256_S_d0_1 h_S_) main_v34 main_c_15
  let main_v36 : FVec F S1x256x1024 .f32 := Host.absf main_arg9
  let main_cst_16 : FVec F S_ .f32 := constant S_ .f32 0x7F800000#32
  let main_v37 : FVec F S1x256x1024 .f32 := broadcastInDim S1x256x1024 ![] bcast_S_S1x256x1024 main_cst_16
  let main_v38 : IVec S1x256x1024 1 := cmpf .olt main_v36 main_v37
  let main_c_17 : IVec S_ 1 := constantI S_ 1 1#1
  let main_v39 : IVec S_ 1 := (fun x v => Host.reduce IntOp.andi x v reducesTo_S1x256x1024_S_d0_1_2 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg4 : FVec F S2x4096x384 .f32) (main_arg5 : FVec F S2x4096x256 .f32) (main_arg6 : FVec F S1x384 .f32) (main_arg7 : FVec F S1x384x768 .f32) (main_arg8 : FVec F S1x256 .f32) (main_arg9 : FVec F S1x256x1024 .f32) (main_v3 : IVec S_ 1) (main_v7 : IVec S_ 1) (main_v11 : IVec S_ 1) (main_v15 : IVec S_ 1) : IVec S_ 1 :=
  let main_v16 : FVec F S2x4096x384 .f32 := Host.absf main_arg4
  let main_cst_6 : FVec F S_ .f32 := constant S_ .f32 0x7F800000#32
  let main_v17 : FVec F S2x4096x384 .f32 := broadcastInDim S2x4096x384 ![] bcast_S_S2x4096x384 main_cst_6
  let main_v18 : IVec S2x4096x384 1 := cmpf .olt main_v16 main_v17
  let main_c_7 : IVec S_ 1 := constantI S_ 1 1#1
  let main_v19 : IVec S_ 1 := (fun x v => Host.reduce IntOp.andi x v reducesTo_S2x4096x384_S_d0_1_2 h_S_) main_v18 main_c_7
  let main_v20 : FVec F S2x4096x256 .f32 := Host.absf main_arg5
  let main_cst_8 : FVec F S_ .f32 := constant S_ .f32 0x7F800000#32
  let main_v21 : FVec F S2x4096x256 .f32 := broadcastInDim S2x4096x256 ![] bcast_S_S2x4096x256 main_cst_8
  let main_v22 : IVec S2x4096x256 1 := cmpf .olt main_v20 main_v21
  let main_c_9 : IVec S_ 1 := constantI S_ 1 1#1
  let main_v23 : IVec S_ 1 := (fun x v => Host.reduce IntOp.andi x v reducesTo_S2x4096x256_S_d0_1_2 h_S_) main_v22 main_c_9
  let main_v24 : FVec F S1x384 .f32 := Host.absf main_arg6
  let main_cst_10 : FVec F S_ .f32 := constant S_ .f32 0x7F800000#32
  let main_v25 : FVec F S1x384 .f32 := broadcastInDim S1x384 ![] bcast_S_S1x384 main_cst_10
  let main_v26 : IVec S1x384 1 := cmpf .olt main_v24 main_v25
  let main_c_11 : IVec S_ 1 := constantI S_ 1 1#1
  let main_v27 : IVec S_ 1 := (fun x v => Host.reduce IntOp.andi x v reducesTo_S1x384_S_d0_1 h_S_) main_v26 main_c_11
  let main_v28 : FVec F S1x384x768 .f32 := Host.absf main_arg7
  let main_cst_12 : FVec F S_ .f32 := constant S_ .f32 0x7F800000#32
  let main_v29 : FVec F S1x384x768 .f32 := broadcastInDim S1x384x768 ![] bcast_S_S1x384x768 main_cst_12
  let main_v30 : IVec S1x384x768 1 := cmpf .olt main_v28 main_v29
  let main_c_13 : IVec S_ 1 := constantI S_ 1 1#1
  let main_v31 : IVec S_ 1 := (fun x v => Host.reduce IntOp.andi x v reducesTo_S1x384x768_S_d0_1_2 h_S_) main_v30 main_c_13
  fn_part2 (F := F) main_arg8 main_arg9 main_v3 main_v7 main_v11 main_v15 main_v19 main_v23 main_v27 main_v31

def fn {F : FTy → Type} [FloatOps F] (main_arg0 : FVec F S2x4096x4x192 .f32) (main_arg1 : FVec F S2x4096x4x128 .f32) (main_arg2 : FVec F S2x4096x4x64 .f32) (main_arg3 : FVec F S2x4096x4x128 .f32) (main_arg4 : FVec F S2x4096x384 .f32) (main_arg5 : FVec F S2x4096x256 .f32) (main_arg6 : FVec F S1x384 .f32) (main_arg7 : FVec F S1x384x768 .f32) (main_arg8 : FVec F S1x256 .f32) (main_arg9 : FVec F S1x256x1024 .f32) : IVec S_ 1 :=
  let main_v0 : FVec F S2x4096x4x192 .f32 := Host.absf main_arg0
  let main_cst : FVec F S_ .f32 := constant S_ .f32 0x7F800000#32
  let main_v1 : FVec F S2x4096x4x192 .f32 := broadcastInDim S2x4096x4x192 ![] bcast_S_S2x4096x4x192 main_cst
  let main_v2 : IVec S2x4096x4x192 1 := cmpf .olt main_v0 main_v1
  let main_c : IVec S_ 1 := constantI S_ 1 1#1
  let main_v3 : IVec S_ 1 := (fun x v => Host.reduce IntOp.andi x v reducesTo_S2x4096x4x192_S_d0_1_2_3 h_S_) main_v2 main_c
  let main_v4 : FVec F S2x4096x4x128 .f32 := Host.absf main_arg1
  let main_cst_0 : FVec F S_ .f32 := constant S_ .f32 0x7F800000#32
  let main_v5 : FVec F S2x4096x4x128 .f32 := broadcastInDim S2x4096x4x128 ![] bcast_S_S2x4096x4x128 main_cst_0
  let main_v6 : IVec S2x4096x4x128 1 := cmpf .olt main_v4 main_v5
  let main_c_1 : IVec S_ 1 := constantI S_ 1 1#1
  let main_v7 : IVec S_ 1 := (fun x v => Host.reduce IntOp.andi x v reducesTo_S2x4096x4x128_S_d0_1_2_3 h_S_) main_v6 main_c_1
  let main_v8 : FVec F S2x4096x4x64 .f32 := Host.absf main_arg2
  let main_cst_2 : FVec F S_ .f32 := constant S_ .f32 0x7F800000#32
  let main_v9 : FVec F S2x4096x4x64 .f32 := broadcastInDim S2x4096x4x64 ![] bcast_S_S2x4096x4x64 main_cst_2
  let main_v10 : IVec S2x4096x4x64 1 := cmpf .olt main_v8 main_v9
  let main_c_3 : IVec S_ 1 := constantI S_ 1 1#1
  let main_v11 : IVec S_ 1 := (fun x v => Host.reduce IntOp.andi x v reducesTo_S2x4096x4x64_S_d0_1_2_3 h_S_) main_v10 main_c_3
  let main_v12 : FVec F S2x4096x4x128 .f32 := Host.absf main_arg3
  let main_cst_4 : FVec F S_ .f32 := constant S_ .f32 0x7F800000#32
  let main_v13 : FVec F S2x4096x4x128 .f32 := broadcastInDim S2x4096x4x128 ![] bcast_S_S2x4096x4x128 main_cst_4
  let main_v14 : IVec S2x4096x4x128 1 := cmpf .olt main_v12 main_v13
  let main_c_5 : IVec S_ 1 := constantI S_ 1 1#1
  let main_v15 : IVec S_ 1 := (fun x v => Host.reduce IntOp.andi x v reducesTo_S2x4096x4x128_S_d0_1_2_3 h_S_) main_v14 main_c_5
  fn_part1 (F := F) main_arg4 main_arg5 main_arg6 main_arg7 main_arg8 main_arg9 main_v3 main_v7 main_v11 main_v15
-- ==== Pre_finite_out.lean ====
abbrev S2x4096x1024 : Shape := ⟨3, ![2, 4096, 1024]⟩
abbrev S2x4096x512 : Shape := ⟨3, ![2, 4096, 512]⟩
abbrev S1x512 : Shape := ⟨2, ![1, 512]⟩
abbrev S1x1024x1024 : Shape := ⟨3, ![1, 1024, 1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S2x4096x512 : S_.BroadcastsInDim S2x4096x512 (![] : Fin 0 → Fin S2x4096x512.rank)
  reducesTo_S2x4096x512_S_d0_1_2 : S2x4096x512.ReducesTo [0, 1, 2] S_
  bcast_S_S1x512 : S_.BroadcastsInDim S1x512 (![] : Fin 0 → Fin S1x512.rank)
  reducesTo_S1x512_S_d0_1 : S1x512.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S2x4096x512 .f32) (main_arg5 : FVec F S1x512 .f32) (main_arg6 : FVec F S1x512 .f32) (main_arg7 : FVec F S1x1024x1024 .f32) (main_v3 : IVec S_ 1) (main_v7 : IVec S_ 1) (main_v11 : IVec S_ 1) (main_v15 : IVec S_ 1) : IVec S_ 1 :=
  let main_v16 : FVec F S2x4096x512 .f32 := Host.absf main_arg4
  let main_cst_6 : FVec F S_ .f32 := constant S_ .f32 0x7F800000#32
  let main_v17 : FVec F S2x4096x512 .f32 := broadcastInDim S2x4096x512 ![] bcast_S_S2x4096x512 main_cst_6
  let main_v18 : IVec S2x4096x512 1 := cmpf .olt main_v16 main_v17
  let main_c_7 : IVec S_ 1 := constantI S_ 1 1#1
  let main_v19 : IVec S_ 1 := (fun x v => Host.reduce IntOp.andi x v reducesTo_S2x4096x512_S_d0_1_2 h_S_) main_v18 main_c_7
  let main_v20 : FVec F S1x512 .f32 := Host.absf main_arg5
  let main_cst_8 : FVec F S_ .f32 := constant S_ .f32 0x7F800000#32
  let main_v21 : FVec F S1x512 .f32 := broadcastInDim S1x512 ![] bcast_S_S1x512 main_cst_8
  let main_v22 : IVec S1x512 1 := cmpf .olt main_v20 main_v21
  let main_c_9 : IVec S_ 1 := constantI S_ 1 1#1
  let main_v23 : IVec S_ 1 := (fun x v => Host.reduce IntOp.andi x v reducesTo_S1x512_S_d0_1 h_S_) main_v22 main_c_9
  let main_v24 : FVec F S1x512 .f32 := Host.absf main_arg6
  let main_cst_10 : FVec F S_ .f32 := constant S_ .f32 0x7F800000#32
  let main_v25 : FVec F S1x512 .f32 := broadcastInDim S1x512 ![] bcast_S_S1x512 main_cst_10
  let main_v26 : IVec S1x512 1 := cmpf .olt main_v24 main_v25
  let main_c_11 : IVec S_ 1 := constantI S_ 1 1#1
  let main_v27 : IVec S_ 1 := (fun x v => Host.reduce IntOp.andi x v reducesTo_S1x512_S_d0_1 h_S_) main_v26 main_c_11
  let main_v28 : FVec F S1x1024x1024 .f32 := Host.absf main_arg7
  let main_cst_12 : FVec F S_ .f32 := constant S_ .f32 0x7F800000#32
  let main_v29 : FVec F S1x1024x1024 .f32 := broadcastInDim S1x1024x1024 ![] bcast_S_S1x1024x1024 main_cst_12
  let main_v30 : IVec S1x1024x1024 1 := cmpf .olt main_v28 main_v29
  let main_c_13 : IVec S_ 1 := constantI S_ 1 1#1
  let main_v31 : IVec S_ 1 := (fun x v => Host.reduce IntOp.andi x v reducesTo_S1x1024x1024_S_d0_1_2 h_S_) main_v30 main_c_13
  fn_part2 (F := F) main_v3 main_v7 main_v11 main_v15 main_v19 main_v23 main_v27 main_v31

def fn {F : FTy → Type} [FloatOps F] (main_arg0 : FVec F S2x4096x1024 .f32) (main_arg1 : FVec F S2x4096x512 .f32) (main_arg2 : FVec F S2x4096x512 .f32) (main_arg3 : FVec F S2x4096x512 .f32) (main_arg4 : FVec F S2x4096x512 .f32) (main_arg5 : FVec F S1x512 .f32) (main_arg6 : FVec F S1x512 .f32) (main_arg7 : FVec F S1x1024x1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S2x4096x512 .f32 := Host.absf main_arg1
  let main_cst_0 : FVec F S_ .f32 := constant S_ .f32 0x7F800000#32
  let main_v5 : FVec F S2x4096x512 .f32 := broadcastInDim S2x4096x512 ![] bcast_S_S2x4096x512 main_cst_0
  let main_v6 : IVec S2x4096x512 1 := cmpf .olt main_v4 main_v5
  let main_c_1 : IVec S_ 1 := constantI S_ 1 1#1
  let main_v7 : IVec S_ 1 := (fun x v => Host.reduce IntOp.andi x v reducesTo_S2x4096x512_S_d0_1_2 h_S_) main_v6 main_c_1
  let main_v8 : FVec F S2x4096x512 .f32 := Host.absf main_arg2
  let main_cst_2 : FVec F S_ .f32 := constant S_ .f32 0x7F800000#32
  let main_v9 : FVec F S2x4096x512 .f32 := broadcastInDim S2x4096x512 ![] bcast_S_S2x4096x512 main_cst_2
  let main_v10 : IVec S2x4096x512 1 := cmpf .olt main_v8 main_v9
  let main_c_3 : IVec S_ 1 := constantI S_ 1 1#1
  let main_v11 : IVec S_ 1 := (fun x v => Host.reduce IntOp.andi x v reducesTo_S2x4096x512_S_d0_1_2 h_S_) main_v10 main_c_3
  let main_v12 : FVec F S2x4096x512 .f32 := Host.absf main_arg3
  let main_cst_4 : FVec F S_ .f32 := constant S_ .f32 0x7F800000#32
  let main_v13 : FVec F S2x4096x512 .f32 := broadcastInDim S2x4096x512 ![] bcast_S_S2x4096x512 main_cst_4
  let main_v14 : IVec S2x4096x512 1 := cmpf .olt main_v12 main_v13
  let main_c_5 : IVec S_ 1 := constantI S_ 1 1#1
  let main_v15 : IVec S_ 1 := (fun x v => Host.reduce IntOp.andi x v reducesTo_S2x4096x512_S_d0_1_2 h_S_) main_v14 main_c_5
  fn_part1 (F := F) main_arg4 main_arg5 main_arg6 main_arg7 main_v3 main_v7 main_v11 main_v15
-- ==== AttnBwd.lean ====
abbrev S2x4096x4x192 : Shape := ⟨4, ![2, 4096, 4, 192]⟩
abbrev S2x4096x4x128 : Shape := ⟨4, ![2, 4096, 4, 128]⟩
abbrev S2x4096x64 : Shape := ⟨3, ![2, 4096, 64]⟩
abbrev S2x4096x1x64 : Shape := ⟨4, ![2, 4096, 1, 64]⟩
abbrev S2x4096x4x64 : Shape := ⟨4, ![2, 4096, 4, 64]⟩
abbrev S_ : Shape := ⟨0, ![]⟩
abbrev S2x4x4096x4096 : Shape := ⟨4, ![2, 4, 4096, 4096]⟩
abbrev S2x4x4096 : Shape := ⟨3, ![2, 4, 4096]⟩
abbrev S2x4x4096x1 : Shape := ⟨4, ![2, 4, 4096, 1]⟩
abbrev S2x4x4096x128 : Shape := ⟨4, ![2, 4, 4096, 128]⟩
abbrev S4x2x4096 : Shape := ⟨3, ![4, 2, 4096]⟩
abbrev S4x1x8192 : Shape := ⟨3, ![4, 1, 8192]⟩
abbrev S2x4096x4 : Shape := ⟨3, ![2, 4096, 4]⟩
abbrev S8192x4 : Shape := ⟨2, ![8192, 4]⟩
abbrev S4x8192 : Shape := ⟨2, ![4, 8192]⟩
abbrev S2x4096x4x256 : Shape := ⟨4, ![2, 4096, 4, 256]⟩
abbrev S8192x1024 : Shape := ⟨2, ![8192, 1024]⟩
abbrev S8192x512 : Shape := ⟨2, ![8192, 512]⟩
abbrev S1024x8192 : Shape := ⟨2, ![1024, 8192]⟩
abbrev S4096x256 : Shape := ⟨2, ![4096, 256]⟩
abbrev S2048x256 : Shape := ⟨2, ![2048, 256]⟩
abbrev S2048x128 : Shape := ⟨2, ![2048, 128]⟩
abbrev S4096x128 : Shape := ⟨2, ![4096, 128]⟩
abbrev S1x1x4096 : Shape := ⟨3, ![1, 1, 4096]⟩
abbrev S256x4096 : Shape := ⟨2, ![256, 4096]⟩
abbrev S512x256 : Shape := ⟨2, ![512, 256]⟩
abbrev S512x4096 : Shape := ⟨2, ![512, 4096]⟩
abbrev S1x4096 : Shape := ⟨2, ![1, 4096]⟩
abbrev S512x128 : Shape := ⟨2, ![512, 128]⟩
abbrev S2048x4096 : Shape := ⟨2, ![2048, 4096]⟩

abbrev nBuf : Space → Nat
  | .hbm => 65
  | .vmem => 18
  | .smem => 0
  | _ => 0

abbrev bufTy : (tb : Table) → Fin (tcTables nBuf tb) → BufTy
  | .hbm, ⟨0, _⟩ => ⟨S2x4096x4x192, .f32⟩
  | .hbm, ⟨1, _⟩ => ⟨S2x4096x4x128, .f32⟩
  | .hbm, ⟨2, _⟩ => ⟨S2x4096x64, .f32⟩
  | .hbm, ⟨3, _⟩ => ⟨S2x4096x4x128, .f32⟩
  | .hbm, ⟨4, _⟩ => ⟨S2x4096x4x128, .f32⟩
  | .hbm, ⟨5, _⟩ => ⟨S2x4096x1x64, .f32⟩
  | .hbm, ⟨6, _⟩ => ⟨S2x4096x4x64, .f32⟩
  | .hbm, ⟨7, _⟩ => ⟨S2x4096x4x192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2x4x4096x4096, .f32⟩
  | .hbm, ⟨16, _⟩ => ⟨S_, .f32⟩
  | .hbm, ⟨17, _⟩ => ⟨S2x4x4096, .f32⟩
  | .hbm, ⟨18, _⟩ => ⟨S2x4x4096x1, .f32⟩
  | .hbm, ⟨19, _⟩ => ⟨S2x4x4096x4096, .f32⟩
  | .hbm, ⟨20, _⟩ => ⟨S2x4x4096x4096, .f32⟩
  | .hbm, ⟨21, _⟩ => ⟨S2x4x4096x4096, .f32⟩
  | .hbm, ⟨22, _⟩ => ⟨S2x4x4096x4096, .f32⟩
  | .hbm, ⟨23, _⟩ => ⟨S2x4x4096x4096, .f32⟩
  | .hbm, ⟨24, _⟩ => ⟨S2x4x4096x4096, .f32⟩
  | .hbm, ⟨25, _⟩ => ⟨S2x4x4096x4096, .f32⟩
  | .hbm, ⟨26, _⟩ => ⟨S_, .f32⟩
  | .hbm, ⟨27, _⟩ => ⟨S2x4x4096, .f32⟩
  | .hbm, ⟨28, _⟩ => ⟨S2x4x4096x1, .f32⟩
  | .hbm, ⟨29, _⟩ => ⟨S2x4x4096x128, .f32⟩
  | .hbm, ⟨30, _⟩ => ⟨S2x4x4096x128, .f32⟩
  | .hbm, ⟨31, _⟩ => ⟨S2x4x4096x128, .f32⟩
  | .hbm, ⟨32, _⟩ => ⟨S2x4x4096x1, .f32⟩
  | .hbm, ⟨33, _⟩ => ⟨S2x4x4096x1, .f32⟩
  | .hbm, ⟨34, _⟩ => ⟨S2x4x4096x1, .f32⟩
  | .hbm, ⟨35, _⟩ => ⟨S2x4x4096x1, .f32⟩
  | .hbm, ⟨36, _⟩ => ⟨S2x4x4096x1, .f32⟩
  | .hbm, ⟨37, _⟩ => ⟨S2x4x4096x1, .f32⟩
  | .hbm, ⟨38, _⟩ => ⟨S2x4096x4x128, .f32⟩
  | .hbm, ⟨39, _⟩ => ⟨S2x4x4096, .f32⟩
  | .hbm, ⟨40, _⟩ => ⟨S4x2x4096, .f32⟩
  | .hbm, ⟨41, _⟩ => ⟨S4x1x8192, .f32⟩
  | .hbm, ⟨42, _⟩ => ⟨S2x4096x4x128, .f32⟩
  | .hbm, ⟨43, _⟩ => ⟨S_, .f32⟩
  | .hbm, ⟨44, _⟩ => ⟨S2x4096x4, .f32⟩
  | .hbm, ⟨45, _⟩ => ⟨S8192x4, .f32⟩
  | .hbm, ⟨46, _⟩ => ⟨S4x8192, .f32⟩
  | .hbm, ⟨47, _⟩ => ⟨S4x1x8192, .f32⟩
  | .hbm, ⟨48, _⟩ => ⟨S_, .i32⟩
  | .hbm, ⟨49, _⟩ => ⟨S_, .f32⟩
  | .hbm, ⟨50, _⟩ => ⟨S2x4096x4x256, .f32⟩
  | .hbm, ⟨51, _⟩ => ⟨S8192x1024, .f32⟩
  | .hbm, ⟨52, _⟩ => ⟨S8192x1024, .bf16⟩
  | .hbm, ⟨53, _⟩ => ⟨S_, .i32⟩
  | .hbm, ⟨54, _⟩ => ⟨S_, .f32⟩
  | .hbm, ⟨55, _⟩ => ⟨S2x4096x4x256, .f32⟩
  | .hbm, ⟨56, _⟩ => ⟨S8192x1024, .f32⟩
  | .hbm, ⟨57, _⟩ => ⟨S8192x1024, .bf16⟩
  | .hbm, ⟨58, _⟩ => ⟨S8192x512, .f32⟩
  | .hbm, ⟨59, _⟩ => ⟨S8192x512, .bf16⟩
  | .hbm, ⟨60, _⟩ => ⟨S8192x512, .f32⟩
  | .hbm, ⟨61, _⟩ => ⟨S8192x512, .bf16⟩
  | .hbm, ⟨62, _⟩ => ⟨S1024x8192, .f32⟩
  | .hbm, ⟨63, _⟩ => ⟨S8192x1024, .f32⟩
  | .hbm, ⟨64, _⟩ => ⟨S8192x512, .f32⟩
  | .local _ .vmem, ⟨0, _⟩ => ⟨S4096x256, .bf16⟩
  | .local _ .vmem, ⟨1, _⟩ => ⟨S4096x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S4096x128, .bf16⟩
  | .local _ .vmem, ⟨7, _⟩ => ⟨S4096x128, .bf16⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S256x4096, .f32⟩
  | .local _ .vmem, ⟨13, _⟩ => ⟨S256x4096, .f32⟩
  | .local _ .vmem, ⟨14, _⟩ => ⟨S2048x256, .f32⟩
  | .local _ .vmem, ⟨15, _⟩ => ⟨S2048x256, .f32⟩
  | .local _ .vmem, ⟨16, _⟩ => ⟨S2048x128, .f32⟩
  | .local _ .vmem, ⟨17, _⟩ => ⟨S2048x128, .f32⟩
  | _, _ => ⟨S2x4096x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c : Ref sig .tc := ⟨.hbm, 48, rfl⟩
abbrev main_call0_v0 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_5 : Ref sig .tc := ⟨.hbm, 53, rfl⟩
abbrev main_call1_v0 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47_0 : Ref sig .tc := ⟨.hbm, 62, rfl⟩
abbrev main_v47_1 : Ref sig .tc := ⟨.hbm, 63, rfl⟩
abbrev main_v47_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 2], ![false, false, false]⟩

def k0_cond1 (i : grid0.Coords) : BitVec 1 :=
  let arg2 : BitVec 32 := BitVec.ofNat 32 (i 2).val
  let c0_i32 : BitVec 32 := 0#32
  let v112 : BitVec 1 := Scalar.cmpi .eq arg2 c0_i32
  let v113 : BitVec 32 := Scalar.extui v112
  let c0_i32_82 : BitVec 32 := 0#32
  let v114 : BitVec 1 := Scalar.cmpi .ne v113 c0_i32_82
  v114

def k0_cond2 (i : grid0.Coords) : BitVec 1 :=
  let arg2 : BitVec 32 := BitVec.ofNat 32 (i 2).val
  let c0_i32_83 : BitVec 32 := 0#32
  let v115 : BitVec 1 := Scalar.cmpi .ne arg2 c0_i32_83
  let v116 : BitVec 32 := Scalar.extui v115
  let c0_i32_84 : BitVec 32 := 0#32
  let v117 : BitVec 1 := Scalar.cmpi .ne v116 c0_i32_84
  v117

def k0_cond3 (i : grid0.Coords) : BitVec 1 :=
  let arg2 : BitVec 32 := BitVec.ofNat 32 (i 2).val
  let c1_i32 : BitVec 32 := 1#32
  let v118 : BitVec 1 := Scalar.cmpi .eq arg2 c1_i32
  let v119 : BitVec 32 := Scalar.extui v118
  let c0_i32_85 : BitVec 32 := 0#32
  let v120 : BitVec 1 := Scalar.cmpi .ne v119 c0_i32_85
  v120

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AttnBwdIdeal.lean ====
variable {F : FTy → Type} [FloatOps F] [Named F]
def κ : String → Option EReal := fun
  | "scale" => some (((Real.sqrt 192)⁻¹ : ℝ) : EReal)
  | "scale_log2e" => some (((Real.sqrt 192)⁻¹ * (Real.log 2)⁻¹ : ℝ) : EReal)
  | _ => none
-- ==== AttnRefIdeal.lean ====
abbrev S2x4096x4x192 : Shape := ⟨4, ![2, 4096, 4, 192]⟩
abbrev S2x4096x4x128 : Shape := ⟨4, ![2, 4096, 4, 128]⟩
abbrev S2x4096x64 : Shape := ⟨3, ![2, 4096, 64]⟩
abbrev S2x4096x1x64 : Shape := ⟨4, ![2, 4096, 1, 64]⟩
abbrev S2x4096x4x64 : Shape := ⟨4, ![2, 4096, 4, 64]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩
abbrev S2x4x4096x64 : Shape := ⟨4, ![2, 4, 4096, 64]⟩
abbrev S2x4x4096x128 : Shape := ⟨4, ![2, 4, 4096, 128]⟩
abbrev S2x4096x4x256 : Shape := ⟨4, ![2, 4096, 4, 256]⟩
abbrev S8192x1024 : Shape := ⟨2, ![8192, 1024]⟩
abbrev S1024x8192 : Shape := ⟨2, ![1024, 8192]⟩
abbrev S8192x512 : Shape := ⟨2, ![8192, 512]⟩

abbrev nBuf : Space → Nat
  | .hbm => 100
  | .vmem => 0
  | .smem => 0
  | _ => 0

abbrev bufTy : (tb : Table) → Fin (tcTables nBuf tb) → BufTy
  | .hbm, ⟨0, _⟩ => ⟨S2x4096x4x192, .f32⟩
  | .hbm, ⟨1, _⟩ => ⟨S2x4096x4x128, .f32⟩
  | .hbm, ⟨2, _⟩ => ⟨S2x4096x64, .f32⟩
  | .hbm, ⟨3, _⟩ => ⟨S2x4096x4x128, .f32⟩
  | .hbm, ⟨4, _⟩ => ⟨S2x4096x4x128, .f32⟩
  | .hbm, ⟨5, _⟩ => ⟨S2x4096x1x64, .f32⟩
  | .hbm, ⟨6, _⟩ => ⟨S2x4096x4x64, .f32⟩
  | .hbm, ⟨7, _⟩ => ⟨S2x4096x4x128, .f32⟩
  | .hbm, ⟨8, _⟩ => ⟨S2x4096x4x64, .f32⟩
  | .hbm, ⟨9, _⟩ => ⟨S2x4x4096x4096, .f32⟩
  | .hbm, ⟨10, _⟩ => ⟨S2x4x4096x4096, .f32⟩
  | .hbm, ⟨11, _⟩ => ⟨S2x4x4096x4096, .f32⟩
  | .hbm, ⟨12, _⟩ => ⟨S_, .f32⟩
  | .hbm, ⟨13, _⟩ => ⟨S_, .f32⟩
  | .hbm, ⟨14, _⟩ => ⟨S2x4x4096x4096, .f32⟩
  | .hbm, ⟨15, _⟩ => ⟨S2x4x4096x4096, .f32⟩
  | .hbm, ⟨16, _⟩ => ⟨S_, .f32⟩
  | .hbm, ⟨17, _⟩ => ⟨S2x4x4096, .f32⟩
  | .hbm, ⟨18, _⟩ => ⟨S2x4x4096x1, .f32⟩
  | .hbm, ⟨19, _⟩ => ⟨S2x4x4096x4096, .f32⟩
  | .hbm, ⟨20, _⟩ => ⟨S2x4x4096x4096, .i1⟩
  | .hbm, ⟨21, _⟩ => ⟨S2x4x4096x4096, .f32⟩
  | .hbm, ⟨22, _⟩ => ⟨S_, .f32⟩
  | .hbm, ⟨23, _⟩ => ⟨S2x4x4096, .f32⟩
  | .hbm, ⟨24, _⟩ => ⟨S_, .f32⟩
  | .hbm, ⟨25, _⟩ => ⟨S2x4x4096, .f32⟩
  | .hbm, ⟨26, _⟩ => ⟨S2x4x4096, .f32⟩
  | .hbm, ⟨27, _⟩ => ⟨S_, .f32⟩
  | .hbm, ⟨28, _⟩ => ⟨S2x4x4096, .f32⟩
  | .hbm, ⟨29, _⟩ => ⟨S2x4x4096, .i1⟩
  | .hbm, ⟨30, _⟩ => ⟨S_, .f32⟩
  | .hbm, ⟨31, _⟩ => ⟨S2x4x4096, .f32⟩
  | .hbm, ⟨32, _⟩ => ⟨S2x4x4096, .i1⟩
  | .hbm, ⟨33, _⟩ => ⟨S_, .f32⟩
  | .hbm, ⟨34, _⟩ => ⟨S2x4x4096, .f32⟩
  | .hbm, ⟨35, _⟩ => ⟨S_, .f32⟩
  | .hbm, ⟨36, _⟩ => ⟨S2x4x4096, .f32⟩
  | .hbm, ⟨37, _⟩ => ⟨S_, .f32⟩
  | .hbm, ⟨38, _⟩ => ⟨S2x4x4096, .f32⟩
  | .hbm, ⟨39, _⟩ => ⟨S2x4x4096, .f32⟩
  | .hbm, ⟨40, _⟩ => ⟨S2x4x4096, .f32⟩
  | .hbm, ⟨41, _⟩ => ⟨S2x4x4096x1, .f32⟩
  | .hbm, ⟨42, _⟩ => ⟨S2x4x4096x4096, .f32⟩
  | .hbm, ⟨43, _⟩ => ⟨S2x4x4096x4096, .f32⟩
  | .hbm, ⟨44, _⟩ => ⟨S2x4x4096x4096, .f32⟩
  | .hbm, ⟨45, _⟩ => ⟨S_, .f32⟩
  | .hbm, ⟨46, _⟩ => ⟨S2x4x4096, .f32⟩
  | .hbm, ⟨47, _⟩ => ⟨S2x4x4096x1, .f32⟩
  | .hbm, ⟨48, _⟩ => ⟨S2x4x4096x4096, .f32⟩
  | .hbm, ⟨49, _⟩ => ⟨S2x4x4096x4096, .f32⟩
  | .hbm, ⟨50, _⟩ => ⟨S2x4x4096x1, .f32⟩
  | .hbm, ⟨51, _⟩ => ⟨S_, .f32⟩
  | .hbm, ⟨52, _⟩ => ⟨S2x4x4096x1, .f32⟩
  | .hbm, ⟨53, _⟩ => ⟨S2x4x4096x1, .f32⟩
  | .hbm, ⟨54, _⟩ => ⟨S2x4x128x4096, .f32⟩
  | .hbm, ⟨55, _⟩ => ⟨S2x4096x4x128, .f32⟩
  | .hbm, ⟨56, _⟩ => ⟨S2x4x128x4096, .f32⟩
  | .hbm, ⟨57, _⟩ => ⟨S2x4x4096x4096, .f32⟩
  | .hbm, ⟨58, _⟩ => ⟨S2x4x128x4096, .f32⟩
  | .hbm, ⟨59, _⟩ => ⟨S2x4096x4x128, .f32⟩
  | .hbm, ⟨60, _⟩ => ⟨S2x4x4096x4096, .f32⟩
  | .hbm, ⟨61, _⟩ => ⟨S2x4x4096x4096, .f32⟩
  | .hbm, ⟨62, _⟩ => ⟨S2x4x4096x4096, .f32⟩
  | .hbm, ⟨63, _⟩ => ⟨S_, .f32⟩
  | .hbm, ⟨64, _⟩ => ⟨S2x4x4096, .f32⟩
  | .hbm, ⟨65, _⟩ => ⟨S2x4x4096x1, .f32⟩
  | .hbm, ⟨66, _⟩ => ⟨S2x4x4096x1, .f32⟩
  | .hbm, ⟨67, _⟩ => ⟨S2x4x4096x4096, .f32⟩
  | .hbm, ⟨68, _⟩ => ⟨S2x4x4096x4096, .f32⟩
  | .hbm, ⟨69, _⟩ => ⟨S_, .f32⟩
  | .hbm, ⟨70, _⟩ => ⟨S2x4x4096, .f32⟩
  | .hbm, ⟨71, _⟩ => ⟨S2x4x4096x4096, .f32⟩
  | .hbm, ⟨72, _⟩ => ⟨S2x4x4096x4096, .f32⟩
  | .hbm, ⟨73, _⟩ => ⟨S2x4x4096x4096, .f32⟩
  | .hbm, ⟨74, _⟩ => ⟨S2x4x4096x4096, .f32⟩
  | .hbm, ⟨75, _⟩ => ⟨S2x4x4096x4096, .f32⟩
  | .hbm, ⟨76, _⟩ => ⟨S2x4x4096x64, .f32⟩
  | .hbm, ⟨77, _⟩ => ⟨S2x4096x4x64, .f32⟩
  | .hbm, ⟨78, _⟩ => ⟨S2x4x4096x64, .f32⟩
  | .hbm, ⟨79, _⟩ => ⟨S2x4096x4x64, .f32⟩
  | .hbm, ⟨80, _⟩ => ⟨S2x4x4096x128, .f32⟩
  | .hbm, ⟨81, _⟩ => ⟨S2x4096x4x128, .f32⟩
  | .hbm, ⟨82, _⟩ => ⟨S2x4x4096x128, .f32⟩
  | .hbm, ⟨83, _⟩ => ⟨S2x4096x4x128, .f32⟩
  | .hbm, ⟨84, _⟩ => ⟨S_, .f32⟩
  | .hbm, ⟨85, _⟩ => ⟨S2x4096x4x192, .f32⟩
  | .hbm, ⟨86, _⟩ => ⟨S_, .f32⟩
  | .hbm, ⟨87, _⟩ => ⟨S2x4096x4x192, .f32⟩
  | .hbm, ⟨88, _⟩ => ⟨S2x4096x4x192, .f32⟩
  | .hbm, ⟨89, _⟩ => ⟨S_, .i32⟩
  | .hbm, ⟨90, _⟩ => ⟨S_, .f32⟩
  | .hbm, ⟨91, _⟩ => ⟨S2x4096x4x256, .f32⟩
  | .hbm, ⟨92, _⟩ => ⟨S8192x1024, .f32⟩
  | .hbm, ⟨93, _⟩ => ⟨S1024x8192, .f32⟩
  | .hbm, ⟨94, _⟩ => ⟨S2x4096x4x192, .f32⟩
  | .hbm, ⟨95, _⟩ => ⟨S_, .i32⟩
  | .hbm, ⟨96, _⟩ => ⟨S_, .f32⟩
  | .hbm, ⟨97, _⟩ => ⟨S2x4096x4x256, .f32⟩
  | .hbm, ⟨98, _⟩ => ⟨S8192x1024, .f32⟩
  | .hbm, ⟨99, _⟩ => ⟨S8192x512, .f32⟩
  | _, _ => ⟨S2x4096x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_12 : Ref sig .tc := ⟨.hbm, 84, rfl⟩
abbrev main_v66 : Ref sig .tc := ⟨.hbm, 85, rfl⟩
abbrev main_cst_13 : Ref sig .tc := ⟨.hbm, 86, rfl⟩
abbrev main_v67 : Ref sig .tc := ⟨.hbm, 87, rfl⟩
abbrev main_v68 : Ref sig .tc := ⟨.hbm, 88, rfl⟩
abbrev main_c : Ref sig .tc := ⟨.hbm, 89, rfl⟩
abbrev main_call0_v0 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_14 : Ref sig .tc := ⟨.hbm, 95, rfl⟩
abbrev main_call1_v0 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== FfnBwd.lean ====
abbrev S2x4096x1024 : Shape := ⟨3, ![2, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S2816x1024 : Shape := ⟨2, ![2816, 1024]⟩
abbrev S8192x2816 : Shape := ⟨2, ![8192, 2816]⟩
abbrev S8x128 : Shape := ⟨2, ![8, 128]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 44
  | .vmem => 26
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S2x4096x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S8192x1024, .f32⟩
  | .hbm, ⟨25, _⟩ => ⟨S8192x1024, .f32⟩
  | .hbm, ⟨26, _⟩ => ⟨S1024x2816, .f32⟩
  | .hbm, ⟨27, _⟩ => ⟨S2816x1024, .f32⟩
  | .hbm, ⟨28, _⟩ => ⟨S2816x1024, .bf16⟩
  | .hbm, ⟨29, _⟩ => ⟨S1024x2816, .f32⟩
  | .hbm, ⟨30, _⟩ => ⟨S2816x1024, .f32⟩
  | .hbm, ⟨31, _⟩ => ⟨S2816x1024, .bf16⟩
  | .hbm, ⟨32, _⟩ => ⟨S2816x1024, .f32⟩
  | .hbm, ⟨33, _⟩ => ⟨S2816x1024, .bf16⟩
  | .hbm, ⟨34, _⟩ => ⟨S1x1024, .f32⟩
  | .hbm, ⟨35, _⟩ => ⟨S8192x2816, .bf16⟩
  | .hbm, ⟨36, _⟩ => ⟨S8192x2816, .bf16⟩
  | .hbm, ⟨37, _⟩ => ⟨S8192x2816, .bf16⟩
  | .hbm, ⟨38, _⟩ => ⟨S8192x1024, .bf16⟩
  | .hbm, ⟨39, _⟩ => ⟨S8192x1024, .f32⟩
  | .hbm, ⟨40, _⟩ => ⟨S8192x1024, .bf16⟩
  | .hbm, ⟨41, _⟩ => ⟨S8x128, .f32⟩
  | .hbm, ⟨42, _⟩ => ⟨S1x1024, .f32⟩
  | .hbm, ⟨43, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2816x1024, .bf16⟩
  | .local _ .vmem, ⟨7, _⟩ => ⟨S2816x1024, .bf16⟩
  | .local _ .vmem, ⟨8, _⟩ => ⟨S2816x1024, .bf16⟩
  | .local _ .vmem, ⟨9, _⟩ => ⟨S1x1024, .f32⟩
  | .local _ .vmem, ⟨10, _⟩ => ⟨S1x1024, .f32⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S8x128, .f32⟩
  | .local _ .vmem, ⟨24, _⟩ => ⟨S1x1024, .f32⟩
  | .local _ .vmem, ⟨25, _⟩ => ⟨S1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25_0 : Ref sig .tc := ⟨.hbm, 35, rfl⟩
abbrev main_v25_1 : Ref sig .tc := ⟨.hbm, 36, rfl⟩
abbrev main_v25_2 : Ref sig .tc := ⟨.hbm, 37, rfl⟩
abbrev main_v25_3 : Ref sig .tc := ⟨.hbm, 38, rfl⟩
abbrev main_v25_4 : Ref sig .tc := ⟨.hbm, 39, rfl⟩
abbrev main_v25_5 : Ref sig .tc := ⟨.hbm, 40, rfl⟩
abbrev main_v25_6 : Ref sig .tc := ⟨.hbm, 41, rfl⟩
abbrev main_v25_7 : Ref sig .tc := ⟨.hbm, 42, rfl⟩
abbrev main_v25_8 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v58 : BitVec 32 := Scalar.extui v0
  let c0_i32_31 : BitVec 32 := 0#32
  let v59 : BitVec 1 := Scalar.cmpi .ne v58 c0_i32_31
  v59

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v60 : BitVec 1 := Scalar.xori v0 v_true
  let v61 : BitVec 32 := Scalar.extui v60
  let c0_i32_32 : BitVec 32 := 0#32
  let v62 : BitVec 1 := Scalar.cmpi .ne v61 c0_i32_32
  v62

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v126 : BitVec 32 := Scalar.extui v0
  let c0_i32_60 : BitVec 32 := 0#32
  let v127 : BitVec 1 := Scalar.cmpi .ne v126 c0_i32_60
  v127

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let true_61 : BitVec 1 := 1#1
  let v128 : BitVec 1 := Scalar.xori v0 true_61
  let v129 : BitVec 32 := Scalar.extui v128
  let c0_i32_62 : BitVec 32 := 0#32
  let v130 : BitVec 1 := Scalar.cmpi .ne v129 c0_i32_62
  v130

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== FfnRefIdeal.lean ====
abbrev S2x4096x1024 : Shape := ⟨3, ![2, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1024x2816 : Shape := ⟨2, ![1024, 2816]⟩
abbrev S2x4096x2816 : Shape := ⟨3, ![2, 4096, 2816]⟩
abbrev S2816x1024 : Shape := ⟨2, ![2816, 1024]⟩
abbrev S8192x2816 : Shape := ⟨2, ![8192, 2816]⟩
abbrev S8192x1024 : Shape := ⟨2, ![8192, 1024]⟩
abbrev S8x128 : Shape := ⟨2, ![8, 128]⟩

abbrev nBuf : Space → Nat
  | .hbm => 167
  | .vmem => 0
  | .smem => 0
  | _ => 0

abbrev hbmTy0_0 (i : Nat) : BufTy := match i % 128 with
  | 0 => ⟨S2x4096x1024, .f32⟩
  | 1 => ⟨S1x1024, .f32⟩
  | 2 => ⟨S1x1024x2816, .f32⟩
  | 3 => ⟨S1x1024x2816, .f32⟩
  | 4 => ⟨S1x2816x1024, .f32⟩
  | 5 => ⟨S1024, .f32⟩
  | 6 => ⟨S2x4096x1024, .f32⟩
  | 7 => ⟨S1024, .f32⟩
  | 8 => ⟨S2x4096x1024, .f32⟩
  | 9 => ⟨S_, .f32⟩
  | 10 => ⟨S2x4096, .f32⟩
  | 11 => ⟨S2x4096x1, .f32⟩
  | 12 => ⟨S_, .f32⟩
  | 13 => ⟨S2x4096x1, .f32⟩
  | 14 => ⟨S2x4096x1, .f32⟩
  | 15 => ⟨S_, .f32⟩
  | 16 => ⟨S2x4096x1, .f32⟩
  | 17 => ⟨S2x4096x1, .f32⟩
  | 18 => ⟨S2x4096x1, .f32⟩
  | 19 => ⟨S2x4096x1, .f32⟩
  | 20 => ⟨S_, .f32⟩
  | 21 => ⟨S2x4096x1, .f32⟩
  | 22 => ⟨S2x4096x1, .f32⟩
  | 23 => ⟨S2x4096x1024, .f32⟩
  | 24 => ⟨S2x4096x1024, .f32⟩
  | 25 => ⟨S1x1x1024, .f32⟩
  | 26 => ⟨S2x4096x1024, .f32⟩
  | 27 => ⟨S2x4096x1024, .f32⟩
  | 28 => ⟨S1024x2816, .f32⟩
  | 29 => ⟨S2x4096x2816, .f32⟩
  | 30 => ⟨S1024x2816, .f32⟩
  | 31 => ⟨S2x4096x2816, .f32⟩
  | 32 => ⟨S2x4096x2816, .f32⟩
  | 33 => ⟨S2x4096x2816, .f32⟩
  | 34 => ⟨S_, .f32⟩
  | 35 => ⟨S2x4096x2816, .f32⟩
  | 36 => ⟨S2x4096x2816, .f32⟩
  | 37 => ⟨S_, .f32⟩
  | 38 => ⟨S2x4096x2816, .f32⟩
  | 39 => ⟨S2x4096x2816, .f32⟩
  | 40 => ⟨S_, .f32⟩
  | 41 => ⟨S2x4096x2816, .f32⟩
  | 42 => ⟨S2x4096x2816, .f32⟩
  | 43 => ⟨S2x4096x2816, .f32⟩
  | 44 => ⟨S2x4096x2816, .f32⟩
  | 45 => ⟨S2x4096x2816, .f32⟩
  | 46 => ⟨S2816x1024, .f32⟩
  | 47 => ⟨S2x4096x1024, .f32⟩
  | 48 => ⟨S2x4096x1024, .f32⟩
  | 49 => ⟨S2x4096x1024, .f32⟩
  | 50 => ⟨S_, .f32⟩
  | 51 => ⟨S2x4096, .f32⟩
  | 52 => ⟨S2x4096x1, .f32⟩
  | 53 => ⟨S_, .f32⟩
  | 54 => ⟨S2x4096x1, .f32⟩
  | 55 => ⟨S2x4096x1, .f32⟩
  | 56 => ⟨S_, .f32⟩
  | 57 => ⟨S2x4096x1, .f32⟩
  | 58 => ⟨S2x4096x1, .f32⟩
  | 59 => ⟨S2x4096x1, .f32⟩
  | 60 => ⟨S2x4096x1, .f32⟩
  | 61 => ⟨S_, .f32⟩
  | 62 => ⟨S2x4096x1, .f32⟩
  | 63 => ⟨S2x4096x1, .f32⟩
  | 64 => ⟨S2x4096x1024, .f32⟩
  | 65 => ⟨S2x4096x1024, .f32⟩
  | 66 => ⟨S1x1x1024, .f32⟩
  | 67 => ⟨S2x4096x1024, .f32⟩
  | 68 => ⟨S2x4096x1024, .f32⟩
  | 69 => ⟨S2x4096x1024, .f32⟩
  | 70 => ⟨S2x4096x1024, .f32⟩
  | 71 => ⟨S_, .f32⟩
  | 72 => ⟨S2x4096x1024, .f32⟩
  | 73 => ⟨S2x4096x1024, .f32⟩
  | 74 => ⟨S_, .f32⟩
  | 75 => ⟨S2x4096, .f32⟩
  | 76 => ⟨S_, .f32⟩
  | 77 => ⟨S2x4096, .f32⟩
  | 78 => ⟨S2x4096, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S2x4096, .f32⟩
  | 87 => ⟨S_, .f32⟩
  | 88 => ⟨S2x4096, .f32⟩
  | 89 => ⟨S2x4096, .f32⟩
  | 90 => ⟨S2x4096x1024, .f32⟩
  | 91 => ⟨S2x4096x1024, .f32⟩
  | 92 => ⟨S2x4096x1024, .f32⟩
  | 93 => ⟨S_, .f32⟩
  | 94 => ⟨S1024, .f32⟩
  | 95 => ⟨S1x1x1024, .f32⟩
  | 96 => ⟨S2x4096x1024, .f32⟩
  | 97 => ⟨S2x4096x1024, .f32⟩
  | 98 => ⟨S_, .f32⟩
  | 99 => ⟨S1024, .f32⟩
  | 100 => ⟨S2x4096x1024, .f32⟩
  | 101 => ⟨S_, .f32⟩
  | 102 => ⟨S2x4096, .f32⟩
  | 103 => ⟨S2x4096x1, .f32⟩
  | 104 => ⟨S2x4096x1024, .f32⟩
  | 105 => ⟨S2x4096x1024, .f32⟩
  | 106 => ⟨S2x4096x1, .f32⟩
  | 107 => ⟨S_, .f32⟩
  | 108 => ⟨S2x4096x1, .f32⟩
  | 109 => ⟨S2x4096x1, .f32⟩
  | 110 => ⟨S_, .f32⟩
  | 111 => ⟨S2x4096, .f32⟩
  | 112 => ⟨S2x4096x1024, .f32⟩
  | 113 => ⟨S2x4096x1024, .f32⟩
  | 114 => ⟨S2x4096x1024, .f32⟩
  | 115 => ⟨S2x4096x1024, .f32⟩
  | 116 => ⟨S2x4096x1024, .f32⟩
  | 117 => ⟨S2x4096x2816, .f32⟩
  | 118 => ⟨S2x4096x2816, .f32⟩
  | 119 => ⟨S2x4096x2816, .f32⟩
  | 120 => ⟨S2x4096x2816, .f32⟩
  | 121 => ⟨S2x4096x2816, .f32⟩
  | 122 => ⟨S2x4096x2816, .f32⟩
  | 123 => ⟨S2x4096x2816, .f32⟩
  | 124 => ⟨S2x4096x1024, .f32⟩
  | 125 => ⟨S2x4096x1024, .f32⟩
  | 126 => ⟨S2x4096x1024, .f32⟩
  | 127 => ⟨S2x4096x1024, .f32⟩
  | _ => ⟨S2x4096x1024, .f32⟩

abbrev hbmTy0_1 (i : Nat) : BufTy := match i % 128 with
  | 0 => ⟨S_, .f32⟩
  | 1 => ⟨S1024, .f32⟩
  | 2 => ⟨S1x1x1024, .f32⟩
  | 3 => ⟨S2x4096x1024, .f32⟩
  | 4 => ⟨S2x4096x1024, .f32⟩
  | 5 => ⟨S_, .f32⟩
  | 6 => ⟨S1024, .f32⟩
  | 7 => ⟨S2x4096x1024, .f32⟩
  | 8 => ⟨S_, .f32⟩
  | 9 => ⟨S2x4096, .f32⟩
  | 10 => ⟨S2x4096x1, .f32⟩
  | 11 => ⟨S2x4096x1024, .f32⟩
  | 12 => ⟨S2x4096x1024, .f32⟩
  | 13 => ⟨S2x4096x1, .f32⟩
  | 14 => ⟨S_, .f32⟩
  | 15 => ⟨S2x4096x1, .f32⟩
  | 16 => ⟨S2x4096x1, .f32⟩
  | 17 => ⟨S_, .f32⟩
  | 18 => ⟨S2x4096, .f32⟩
  | 19 => ⟨S2x4096x1024, .f32⟩
  | 20 => ⟨S2x4096x1024, .f32⟩
  | 21 => ⟨S2x4096x1024, .f32⟩
  | 22 => ⟨S2x4096x1024, .f32⟩
  | 23 => ⟨S2x4096x1024, .f32⟩
  | 24 => ⟨S1x1024, .f32⟩
  | 25 => ⟨S2x4096x1024, .f32⟩
  | 26 => ⟨S8192x2816, .f32⟩
  | 27 => ⟨S8192x2816, .bf16⟩
  | 28 => ⟨S8192x2816, .f32⟩
  | 29 => ⟨S8192x2816, .bf16⟩
  | 30 => ⟨S8192x2816, .f32⟩
  | 31 => ⟨S8192x2816, .bf16⟩
  | 32 => ⟨S8192x1024, .f32⟩
  | 33 => ⟨S8192x1024, .bf16⟩
  | 34 => ⟨S8192x1024, .f32⟩
  | 35 => ⟨S8192x1024, .f32⟩
  | 36 => ⟨S8192x1024, .bf16⟩
  | 37 => ⟨S8x128, .f32⟩
  | 38 => ⟨S1x1024, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v21_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v21_1 : Ref sig .tc := ⟨.hbm, 43, rfl⟩
abbrev main_v21_0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_7 : Ref sig .tc := ⟨.hbm, 71, rfl⟩
abbrev main_v44 : Ref sig .tc := ⟨.hbm, 72, rfl⟩
abbrev main_v45 : Ref sig .tc := ⟨.hbm, 73, rfl⟩
abbrev main_cst_8 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_cst_10 : Ref sig .tc := ⟨.hbm, 79, rfl⟩
abbrev main_v49 : Ref sig .tc := ⟨.hbm, 80, rfl⟩
abbrev main_cst_11 : Ref sig .tc := ⟨.hbm, 81, rfl⟩
abbrev main_v50 : Ref sig .tc := ⟨.hbm, 82, rfl⟩
abbrev main_cst_12 : Ref sig .tc := ⟨.hbm, 83, rfl⟩
abbrev main_cst_13 : Ref sig .tc := ⟨.hbm, 84, rfl⟩
abbrev main_v51 : Ref sig .tc := ⟨.hbm, 85, rfl⟩
abbrev main_v52 : Ref sig .tc := ⟨.hbm, 86, rfl⟩
abbrev main_cst_14 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_15 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_16 : Ref sig .tc := ⟨.hbm, 98, rfl⟩
abbrev main_v62 : Ref sig .tc := ⟨.hbm, 99, rfl⟩
abbrev main_v63 : Ref sig .tc := ⟨.hbm, 100, rfl⟩
abbrev main_cst_17 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_18 : Ref sig .tc := ⟨.hbm, 107, rfl⟩
abbrev main_v69 : Ref sig .tc := ⟨.hbm, 108, rfl⟩
abbrev main_v70 : Ref sig .tc := ⟨.hbm, 109, rfl⟩
abbrev main_cst_19 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_20 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_21 : Ref sig .tc := ⟨.hbm, 133, rfl⟩
abbrev main_v89 : Ref sig .tc := ⟨.hbm, 134, rfl⟩
abbrev main_v90 : Ref sig .tc := ⟨.hbm, 135, rfl⟩
abbrev main_cst_22 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_23 : Ref sig .tc := ⟨.hbm, 142, rfl⟩
abbrev main_v96 : Ref sig .tc := ⟨.hbm, 143, rfl⟩
abbrev main_v97 : Ref sig .tc := ⟨.hbm, 144, rfl⟩
abbrev main_cst_24 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩

abbrev nD : Nat := 1
abbrev τ : Topo := Topo.v7x

variable {F : FTy → Type} [FloatOps F]
-- ==== InBwd.lean ====
abbrev S2x4096x512 : Shape := ⟨3, ![2, 4096, 512]⟩
abbrev S2x4096x384 : Shape := ⟨3, ![2, 4096, 384]⟩
abbrev S2x4096x256 : Shape := ⟨3, ![2, 4096, 256]⟩
abbrev S2x4096x64 : Shape := ⟨3, ![2, 4096, 64]⟩
abbrev S2x4096x1024 : Shape := ⟨3, ![2, 4096, 1024]⟩
abbrev S1x1024 : Shape := ⟨2, ![1, 1024]⟩
abbrev S1x1024x3264 : Shape := ⟨3, ![1, 1024, 3264]⟩
abbrev S8192x1024 : Shape := ⟨2, ![8192, 1024]⟩
abbrev S1024x3264 : Shape := ⟨2, ![1024, 3264]⟩
abbrev S3264x1024 : Shape := ⟨2, ![3264, 1024]⟩
abbrev S_ : Shape := ⟨0, ![]⟩
abbrev S3328x1024 : Shape := ⟨2, ![3328, 1024]⟩
abbrev S8192 : Shape := ⟨1, ![8192]⟩
abbrev S8192x1 : Shape := ⟨2, ![8192, 1]⟩
abbrev S512x1024 : Shape := ⟨2, ![512, 1024]⟩
abbrev S8192x512 : Shape := ⟨2, ![8192, 512]⟩
abbrev S8192x384 : Shape := ⟨2, ![8192, 384]⟩
abbrev S8192x256 : Shape := ⟨2, ![8192, 256]⟩
abbrev S8192x64 : Shape := ⟨2, ![8192, 64]⟩
abbrev S8192x128 : Shape := ⟨2, ![8192, 128]⟩
abbrev S8192x3328 : Shape := ⟨2, ![8192, 3328]⟩
abbrev S512x512 : Shape := ⟨2, ![512, 512]⟩
abbrev S512x384 : Shape := ⟨2, ![512, 384]⟩
abbrev S512x256 : Shape := ⟨2, ![512, 256]⟩
abbrev S512x128 : Shape := ⟨2, ![512, 128]⟩
abbrev S512x3328 : Shape := ⟨2, ![512, 3328]⟩
abbrev S256x512 : Shape := ⟨2, ![256, 512]⟩
abbrev S256x384 : Shape := ⟨2, ![256, 384]⟩
abbrev S256x256 : Shape := ⟨2, ![256, 256]⟩
abbrev S256x128 : Shape := ⟨2, ![256, 128]⟩
abbrev S256x1024 : Shape := ⟨2, ![256, 1024]⟩
abbrev S256x3328 : Shape := ⟨2, ![256, 3328]⟩
abbrev S256 : Shape := ⟨1, ![256]⟩
abbrev S256x1 : Shape := ⟨2, ![256, 1]⟩
abbrev S1024 : Shape := ⟨1, ![1024]⟩

abbrev nBuf : Space → Nat
  | .hbm => 62
  | .vmem => 33
  | .smem => 0
  | _ => 0

abbrev bufTy : (tb : Table) → Fin (tcTables nBuf tb) → BufTy
  | .hbm, ⟨0, _⟩ => ⟨S2x4096x512, .f32⟩
  | .hbm, ⟨1, _⟩ => ⟨S2x4096x512, .f32⟩
  | .hbm, ⟨2, _⟩ => ⟨S2x4096x512, .f32⟩
  | .hbm, ⟨3, _⟩ => ⟨S2x4096x512, .f32⟩
  | .hbm, ⟨4, _⟩ => ⟨S2x4096x512, .f32⟩
  | .hbm, ⟨5, _⟩ => ⟨S2x4096x512, .f32⟩
  | .hbm, ⟨6, _⟩ => ⟨S2x4096x512, .f32⟩
  | .hbm, ⟨7, _⟩ => ⟨S2x4096x384, .f32⟩
  | .hbm, ⟨8, _⟩ => ⟨S2x4096x256, .f32⟩
  | .hbm, ⟨9, _⟩ => ⟨S2x4096x64, .f32⟩
  | .hbm, ⟨10, _⟩ => ⟨S2x4096x1024, .f32⟩
  | .hbm, ⟨11, _⟩ => ⟨S2x4096x1024, .f32⟩
  | .hbm, ⟨12, _⟩ => ⟨S1x1024, .f32⟩
  | .hbm, ⟨13, _⟩ => ⟨S1x1024x3264, .f32⟩
  | .hbm, ⟨14, _⟩ => ⟨S8192x1024, .f32⟩
  | .hbm, ⟨15, _⟩ => ⟨S1024x3264, .f32⟩
  | .hbm, ⟨16, _⟩ => ⟨S3264x1024, .f32⟩
  | .hbm, ⟨17, _⟩ => ⟨S3264x1024, .bf16⟩
  | .hbm, ⟨18, _⟩ => ⟨S_, .i32⟩
  | .hbm, ⟨19, _⟩ => ⟨S_, .bf16⟩
  | .hbm, ⟨20, _⟩ => ⟨S3328x1024, .bf16⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | .hbm, ⟨37, _⟩ => ⟨S512x1024, .bf16⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .bf16⟩
  | .hbm, ⟨45, _⟩ => ⟨S8192x512, .f32⟩
  | .hbm, ⟨46, _⟩ => ⟨S8192x512, .bf16⟩
  | .hbm, ⟨47, _⟩ => ⟨S8192x512, .f32⟩
  | .hbm, ⟨48, _⟩ => ⟨S8192x512, .bf16⟩
  | .hbm, ⟨49, _⟩ => ⟨S8192x384, .f32⟩
  | .hbm, ⟨50, _⟩ => ⟨S8192x384, .bf16⟩
  | .hbm, ⟨51, _⟩ => ⟨S8192x256, .f32⟩
  | .hbm, ⟨52, _⟩ => ⟨S8192x256, .bf16⟩
  | .hbm, ⟨53, _⟩ => ⟨S8192x64, .f32⟩
  | .hbm, ⟨54, _⟩ => ⟨S8192x64, .bf16⟩
  | .hbm, ⟨55, _⟩ => ⟨S_, .i32⟩
  | .hbm, ⟨56, _⟩ => ⟨S_, .bf16⟩
  | .hbm, ⟨57, _⟩ => ⟨S8192x128, .bf16⟩
  | .hbm, ⟨58, _⟩ => ⟨S8192x1024, .f32⟩
  | .hbm, ⟨59, _⟩ => ⟨S8192x1024, .f32⟩
  | .hbm, ⟨60, _⟩ => ⟨S8192x3328, .bf16⟩
  | .hbm, ⟨61, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x384, .bf16⟩
  | .local _ .vmem, ⟨17, _⟩ => ⟨S512x384, .bf16⟩
  | .local _ .vmem, ⟨18, _⟩ => ⟨S512x256, .bf16⟩
  | .local _ .vmem, ⟨19, _⟩ => ⟨S512x256, .bf16⟩
  | .local _ .vmem, ⟨20, _⟩ => ⟨S512x128, .bf16⟩
  | .local _ .vmem, ⟨21, _⟩ => ⟨S512x128, .bf16⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S1x1024, .f32⟩
  | .local _ .vmem, ⟨27, _⟩ => ⟨S3328x1024, .bf16⟩
  | .local _ .vmem, ⟨28, _⟩ => ⟨S512x1024, .f32⟩
  | .local _ .vmem, ⟨29, _⟩ => ⟨S512x1024, .f32⟩
  | .local _ .vmem, ⟨30, _⟩ => ⟨S512x3328, .bf16⟩
  | .local _ .vmem, ⟨31, _⟩ => ⟨S512x3328, .bf16⟩
  | .local _ .vmem, ⟨32, _⟩ => ⟨S1x1024, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_2 : Ref sig .tc := ⟨.hbm, 55, rfl⟩
abbrev main_call1_v0 : Ref sig .tc := ⟨.hbm, 56, rfl⟩
abbrev main_v36 : Ref sig .tc := ⟨.hbm, 57, rfl⟩
abbrev main_v37 : Ref sig .tc := ⟨.hbm, 58, rfl⟩
abbrev main_v38_0 : Ref sig .tc := ⟨.hbm, 59, rfl⟩
abbrev main_v38_1 : Ref sig .tc := ⟨.hbm, 60, rfl⟩
abbrev main_v38_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v152 : BitVec 1 := Scalar.cmpi .eq arg0 c0_i32
  let v155 : BitVec 32 := Scalar.extui v152
  let c0_i32_101 : BitVec 32 := 0#32
  let v156 : BitVec 1 := Scalar.cmpi .ne v155 c0_i32_101
  v156

def k0_cond2 (i : grid0.Coords) : BitVec 1 :=
  let arg0 : BitVec 32 := BitVec.ofNat 32 (i 0).val
  let c0_i32 : BitVec 32 := 0#32
  let v152 : BitVec 1 := Scalar.cmpi .eq arg0 c0_i32
  let v_true : BitVec 1 := 1#1
  let v157 : BitVec 1 := Scalar.xori v152 v_true
  let v158 : BitVec 32 := Scalar.extui v157
  let c0_i32_102 : BitVec 32 := 0#32
  let v159 : BitVec 1 := Scalar.cmpi .ne v158 c0_i32_102
  v159

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3328x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x3328 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== InRefIdeal.lean ====
abbrev S2x4096x512 : Shape := ⟨3, ![2, 4096, 512]⟩
abbrev S2x4096x384 : Shape := ⟨3, ![2, 4096, 384]⟩
abbrev S2x4096x256 : Shape := ⟨3, ![2, 4096, 256]⟩
abbrev S2x4096x64 : Shape := ⟨3, ![2, 4096, 64]⟩
abbrev S2x4096x1024 : Shape := ⟨3, ![2, 4096, 1024]⟩
abbrev S1x1024 : Shape := ⟨2, ![1, 1024]⟩
abbrev S1x1024x3264 : Shape := ⟨3, ![1, 1024, 3264]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1024x3264 : Shape := ⟨2, ![1024, 3264]⟩
abbrev S2x4096x3264 : Shape := ⟨3, ![2, 4096, 3264]⟩
abbrev S3264x1024 : Shape := ⟨2, ![3264, 1024]⟩
abbrev S8192x1024 : Shape := ⟨2, ![8192, 1024]⟩
abbrev S8192x3264 : Shape := ⟨2, ![8192, 3264]⟩
abbrev S8192x3328 : Shape := ⟨2, ![8192, 3328]⟩

abbrev nBuf : Space → Nat
  | .hbm => 102
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S2x4096x512, .f32⟩
  | .hbm, ⟨2, _⟩ => ⟨S2x4096x512, .f32⟩
  | .hbm, ⟨3, _⟩ => ⟨S2x4096x512, .f32⟩
  | .hbm, ⟨4, _⟩ => ⟨S2x4096x512, .f32⟩
  | .hbm, ⟨5, _⟩ => ⟨S2x4096x512, .f32⟩
  | .hbm, ⟨6, _⟩ => ⟨S2x4096x512, .f32⟩
  | .hbm, ⟨7, _⟩ => ⟨S2x4096x384, .f32⟩
  | .hbm, ⟨8, _⟩ => ⟨S2x4096x256, .f32⟩
  | .hbm, ⟨9, _⟩ => ⟨S2x4096x64, .f32⟩
  | .hbm, ⟨10, _⟩ => ⟨S2x4096x1024, .f32⟩
  | .hbm, ⟨11, _⟩ => ⟨S2x4096x1024, .f32⟩
  | .hbm, ⟨12, _⟩ => ⟨S1x1024, .f32⟩
  | .hbm, ⟨13, _⟩ => ⟨S1x1024x3264, .f32⟩
  | .hbm, ⟨14, _⟩ => ⟨S1024, .f32⟩
  | .hbm, ⟨15, _⟩ => ⟨S2x4096x1024, .f32⟩
  | .hbm, ⟨16, _⟩ => ⟨S_, .f32⟩
  | .hbm, ⟨17, _⟩ => ⟨S2x4096, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x1, .f32⟩
  | .hbm, ⟨26, _⟩ => ⟨S2x4096x1, .f32⟩
  | .hbm, ⟨27, _⟩ => ⟨S_, .f32⟩
  | .hbm, ⟨28, _⟩ => ⟨S2x4096x1, .f32⟩
  | .hbm, ⟨29, _⟩ => ⟨S2x4096x1, .f32⟩
  | .hbm, ⟨30, _⟩ => ⟨S2x4096x1024, .f32⟩
  | .hbm, ⟨31, _⟩ => ⟨S2x4096x1024, .f32⟩
  | .hbm, ⟨32, _⟩ => ⟨S1x1x1024, .f32⟩
  | .hbm, ⟨33, _⟩ => ⟨S2x4096x1024, .f32⟩
  | .hbm, ⟨34, _⟩ => ⟨S2x4096x1024, .f32⟩
  | .hbm, ⟨35, _⟩ => ⟨S1024x3264, .f32⟩
  | .hbm, ⟨36, _⟩ => ⟨S2x4096x3264, .f32⟩
  | .hbm, ⟨37, _⟩ => ⟨S2x4096x512, .f32⟩
  | .hbm, ⟨38, _⟩ => ⟨S2x4096x512, .f32⟩
  | .hbm, ⟨39, _⟩ => ⟨S2x4096x512, .f32⟩
  | .hbm, ⟨40, _⟩ => ⟨S2x4096x512, .f32⟩
  | .hbm, ⟨41, _⟩ => ⟨S2x4096x512, .f32⟩
  | .hbm, ⟨42, _⟩ => ⟨S2x4096x384, .f32⟩
  | .hbm, ⟨43, _⟩ => ⟨S2x4096x256, .f32⟩
  | .hbm, ⟨44, _⟩ => ⟨S2x4096x64, .f32⟩
  | .hbm, ⟨45, _⟩ => ⟨S2x4096x512, .f32⟩
  | .hbm, ⟨46, _⟩ => ⟨S2x4096x512, .f32⟩
  | .hbm, ⟨47, _⟩ => ⟨S_, .f32⟩
  | .hbm, ⟨48, _⟩ => ⟨S2x4096x512, .f32⟩
  | .hbm, ⟨49, _⟩ => ⟨S2x4096x512, .f32⟩
  | .hbm, ⟨50, _⟩ => ⟨S_, .f32⟩
  | .hbm, ⟨51, _⟩ => ⟨S2x4096x512, .f32⟩
  | .hbm, ⟨52, _⟩ => ⟨S2x4096x512, .f32⟩
  | .hbm, ⟨53, _⟩ => ⟨S_, .f32⟩
  | .hbm, ⟨54, _⟩ => ⟨S2x4096x512, .f32⟩
  | .hbm, ⟨55, _⟩ => ⟨S2x4096x512, .f32⟩
  | .hbm, ⟨56, _⟩ => ⟨S2x4096x512, .f32⟩
  | .hbm, ⟨57, _⟩ => ⟨S2x4096x512, .f32⟩
  | .hbm, ⟨58, _⟩ => ⟨S2x4096x512, .f32⟩
  | .hbm, ⟨59, _⟩ => ⟨S2x4096x512, .f32⟩
  | .hbm, ⟨60, _⟩ => ⟨S2x4096x512, .f32⟩
  | .hbm, ⟨61, _⟩ => ⟨S2x4096x512, .f32⟩
  | .hbm, ⟨62, _⟩ => ⟨S2x4096x512, .f32⟩
  | .hbm, ⟨63, _⟩ => ⟨S2x4096x512, .f32⟩
  | .hbm, ⟨64, _⟩ => ⟨S2x4096x3264, .f32⟩
  | .hbm, ⟨65, _⟩ => ⟨S3264x1024, .f32⟩
  | .hbm, ⟨66, _⟩ => ⟨S1024x3264, .f32⟩
  | .hbm, ⟨67, _⟩ => ⟨S2x4096x1024, .f32⟩
  | .hbm, ⟨68, _⟩ => ⟨S1x1024x3264, .f32⟩
  | .hbm, ⟨69, _⟩ => ⟨S2x4096x1024, .f32⟩
  | .hbm, ⟨70, _⟩ => ⟨S_, .f32⟩
  | .hbm, ⟨71, _⟩ => ⟨S1024, .f32⟩
  | .hbm, ⟨72, _⟩ => ⟨S1x1x1024, .f32⟩
  | .hbm, ⟨73, _⟩ => ⟨S2x4096x1024, .f32⟩
  | .hbm, ⟨74, _⟩ => ⟨S2x4096x1024, .f32⟩
  | .hbm, ⟨75, _⟩ => ⟨S_, .f32⟩
  | .hbm, ⟨76, _⟩ => ⟨S1024, .f32⟩
  | .hbm, ⟨77, _⟩ => ⟨S2x4096x1024, .f32⟩
  | .hbm, ⟨78, _⟩ => ⟨S_, .f32⟩
  | .hbm, ⟨79, _⟩ => ⟨S2x4096, .f32⟩
  | .hbm, ⟨80, _⟩ => ⟨S2x4096x1, .f32⟩
  | .hbm, ⟨81, _⟩ => ⟨S2x4096x1024, .f32⟩
  | .hbm, ⟨82, _⟩ => ⟨S2x4096x1024, .f32⟩
  | .hbm, ⟨83, _⟩ => ⟨S2x4096x1024, .f32⟩
  | .hbm, ⟨84, _⟩ => ⟨S2x4096x1, .f32⟩
  | .hbm, ⟨85, _⟩ => ⟨S_, .f32⟩
  | .hbm, ⟨86, _⟩ => ⟨S2x4096x1, .f32⟩
  | .hbm, ⟨87, _⟩ => ⟨S2x4096x1, .f32⟩
  | .hbm, ⟨88, _⟩ => ⟨S_, .f32⟩
  | .hbm, ⟨89, _⟩ => ⟨S2x4096, .f32⟩
  | .hbm, ⟨90, _⟩ => ⟨S2x4096x1024, .f32⟩
  | .hbm, ⟨91, _⟩ => ⟨S2x4096x1024, .f32⟩
  | .hbm, ⟨92, _⟩ => ⟨S2x4096x1024, .f32⟩
  | .hbm, ⟨93, _⟩ => ⟨S2x4096x1024, .f32⟩
  | .hbm, ⟨94, _⟩ => ⟨S2x4096x1024, .f32⟩
  | .hbm, ⟨95, _⟩ => ⟨S1x1024, .f32⟩
  | .hbm, ⟨96, _⟩ => ⟨S8192x1024, .f32⟩
  | .hbm, ⟨97, _⟩ => ⟨S8192x3264, .f32⟩
  | .hbm, ⟨98, _⟩ => ⟨S_, .i32⟩
  | .hbm, ⟨99, _⟩ => ⟨S_, .f32⟩
  | .hbm, ⟨100, _⟩ => ⟨S8192x3328, .f32⟩
  | .hbm, ⟨101, _⟩ => ⟨S8192x3328, .bf16⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v27_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v27_1 : Ref sig .tc := ⟨.hbm, 56, rfl⟩
abbrev main_v27_0 : Ref sig .tc := ⟨.hbm, 57, rfl⟩
abbrev main_v28 : Ref sig .tc := ⟨.hbm, 58, rfl⟩
abbrev main_v29 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_3 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_4 : Ref sig .tc := ⟨.hbm, 75, rfl⟩
abbrev main_v41 : Ref sig .tc := ⟨.hbm, 76, rfl⟩
abbrev main_v42 : Ref sig .tc := ⟨.hbm, 77, rfl⟩
abbrev main_cst_5 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_6 : Ref sig .tc := ⟨.hbm, 85, rfl⟩
abbrev main_v49 : Ref sig .tc := ⟨.hbm, 86, rfl⟩
abbrev main_v50 : Ref sig .tc := ⟨.hbm, 87, rfl⟩
abbrev main_cst_7 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_c : Ref sig .tc := ⟨.hbm, 98, rfl⟩
abbrev main_call2_v0 : Ref sig .tc := ⟨.hbm, 99, rfl⟩
abbrev main_v60 : Ref sig .tc := ⟨.hbm, 100, rfl⟩
abbrev main_v61 : Ref sig .tc := ⟨.hbm, 101, rfl⟩

abbrev nD : Nat := 1
abbrev τ : Topo := Topo.v7x

variable {F : FTy → Type} [FloatOps F]
-- ==== OutBwd.lean ====
abbrev S2x4096x1024 : Shape := ⟨3, ![2, 4096, 1024]⟩
abbrev S2x4096x512 : Shape := ⟨3, ![2, 4096, 512]⟩
abbrev S1x512 : Shape := ⟨2, ![1, 512]⟩
abbrev S1x1024x1024 : Shape := ⟨3, ![1, 1024, 1024]⟩
abbrev S8192x1024 : Shape := ⟨2, ![8192, 1024]⟩
abbrev S8192x512 : Shape := ⟨2, ![8192, 512]⟩
abbrev S1024x1024 : Shape := ⟨2, ![1024, 1024]⟩
abbrev S4x1x8192 : Shape := ⟨3, ![4, 1, 8192]⟩
abbrev S1024x512 : Shape := ⟨2, ![1024, 512]⟩
abbrev S4x1x1024 : Shape := ⟨3, ![4, 1, 1024]⟩
abbrev S512x512 : Shape := ⟨2, ![512, 512]⟩
abbrev S8x512 : Shape := ⟨2, ![8, 512]⟩
abbrev S256x1024 : Shape := ⟨2, ![256, 1024]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S8x256 : Shape := ⟨2, ![8, 256]⟩
abbrev S1x256 : Shape := ⟨2, ![1, 256]⟩
abbrev S1x1x256 : Shape := ⟨3, ![1, 1, 256]⟩
abbrev S512 : Shape := ⟨1, ![512]⟩

abbrev nBuf : Space → Nat
  | .hbm => 22
  | .vmem => 23
  | .smem => 0
  | _ => 0

abbrev bufTy : (tb : Table) → Fin (tcTables nBuf tb) → BufTy
  | .hbm, ⟨0, _⟩ => ⟨S2x4096x1024, .f32⟩
  | .hbm, ⟨1, _⟩ => ⟨S2x4096x512, .f32⟩
  | .hbm, ⟨2, _⟩ => ⟨S2x4096x512, .f32⟩
  | .hbm, ⟨3, _⟩ => ⟨S2x4096x512, .f32⟩
  | .hbm, ⟨4, _⟩ => ⟨S2x4096x512, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S8192x1024, .f32⟩
  | .hbm, ⟨9, _⟩ => ⟨S8192x1024, .bf16⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S1024x1024, .f32⟩
  | .hbm, ⟨15, _⟩ => ⟨S1024x1024, .bf16⟩
  | .hbm, ⟨16, _⟩ => ⟨S8192x512, .f32⟩
  | .hbm, ⟨17, _⟩ => ⟨S8192x512, .bf16⟩
  | .hbm, ⟨18, _⟩ => ⟨S8192x512, .bf16⟩
  | .hbm, ⟨19, _⟩ => ⟨S4x1x8192, .f32⟩
  | .hbm, ⟨20, _⟩ => ⟨S1x512, .f32⟩
  | .hbm, ⟨21, _⟩ => ⟨S1x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1x512, .f32⟩
  | .local _ .vmem, ⟨11, _⟩ => ⟨S1x512, .f32⟩
  | .local _ .vmem, ⟨12, _⟩ => ⟨S1024x1024, .bf16⟩
  | .local _ .vmem, ⟨13, _⟩ => ⟨S1024x512, .f32⟩
  | .local _ .vmem, ⟨14, _⟩ => ⟨S1024x512, .f32⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S4x1x1024, .f32⟩
  | .local _ .vmem, ⟨20, _⟩ => ⟨S4x1x1024, .f32⟩
  | .local _ .vmem, ⟨21, _⟩ => ⟨S1x512, .f32⟩
  | .local _ .vmem, ⟨22, _⟩ => ⟨S1x512, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v602 : BitVec 32 := Scalar.extui v0
  let c0_i32_227 : BitVec 32 := 0#32
  let v603 : BitVec 1 := Scalar.cmpi .ne v602 c0_i32_227
  v603

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v604 : BitVec 1 := Scalar.xori v0 v_true
  let v605 : BitVec 32 := Scalar.extui v604
  let c0_i32_228 : BitVec 32 := 0#32
  let v606 : BitVec 1 := Scalar.cmpi .ne v605 c0_i32_228
  v606

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v610 : BitVec 32 := Scalar.extui v0
  let c0_i32_230 : BitVec 32 := 0#32
  let v611 : BitVec 1 := Scalar.cmpi .ne v610 c0_i32_230
  v611

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_231 : BitVec 1 := 1#1
  let v612 : BitVec 1 := Scalar.xori v0 true_231
  let v613 : BitVec 32 := Scalar.extui v612
  let c0_i32_232 : BitVec 32 := 0#32
  let v614 : BitVec 1 := Scalar.cmpi .ne v613 c0_i32_232
  v614

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== OutRefIdeal.lean ====
abbrev S2x4096x1024 : Shape := ⟨3, ![2, 4096, 1024]⟩
abbrev S2x4096x512 : Shape := ⟨3, ![2, 4096, 512]⟩
abbrev S1x512 : Shape := ⟨2, ![1, 512]⟩
abbrev S1x1024x1024 : Shape := ⟨3, ![1, 1024, 1024]⟩
abbrev S2x4096x8x64 : Shape := ⟨4, ![2, 4096, 8, 64]⟩
abbrev S_ : Shape := ⟨0, ![]⟩
abbrev S2x4096x8 : Shape := ⟨3, ![2, 4096, 8]⟩
abbrev S2x4096x8x1 : Shape := ⟨4, ![2, 4096, 8, 1]⟩
abbrev S512 : Shape := ⟨1, ![512]⟩
abbrev S8x64 : Shape := ⟨2, ![8, 64]⟩
abbrev S1x1x8x64 : Shape := ⟨4, ![1, 1, 8, 64]⟩
abbrev S2x4096 : Shape := ⟨2, ![2, 4096]⟩
abbrev S2x4096x1 : Shape := ⟨3, ![2, 4096, 1]⟩
abbrev S1x1x512 : Shape := ⟨3, ![1, 1, 512]⟩
abbrev S1024x1024 : Shape := ⟨2, ![1024, 1024]⟩
abbrev S8192x4x128 : Shape := ⟨3, ![8192, 4, 128]⟩
abbrev S8192x4 : Shape := ⟨2, ![8192, 4]⟩
abbrev S8192x512 : Shape := ⟨2, ![8192, 512]⟩
abbrev S4x8192 : Shape := ⟨2, ![4, 8192]⟩
abbrev S4x1x8192 : Shape := ⟨3, ![4, 1, 8192]⟩

abbrev nBuf : Space → Nat
  | .hbm => 149
  | .vmem => 0
  | .smem => 0
  | _ => 0

abbrev hbmTy0_0 (i : Nat) : BufTy := match i % 128 with
  | 0 => ⟨S2x4096x1024, .f32⟩
  | 1 => ⟨S2x4096x512, .f32⟩
  | 2 => ⟨S2x4096x512, .f32⟩
  | 3 => ⟨S2x4096x512, .f32⟩
  | 4 => ⟨S2x4096x512, .f32⟩
  | 5 => ⟨S1x512, .f32⟩
  | 6 => ⟨S1x512, .f32⟩
  | 7 => ⟨S1x1024x1024, .f32⟩
  | 8 => ⟨S2x4096x512, .f32⟩
  | 9 => ⟨S2x4096x8x64, .f32⟩
  | 10 => ⟨S2x4096x8x64, .f32⟩
  | 11 => ⟨S_, .f32⟩
  | 12 => ⟨S2x4096x8, .f32⟩
  | 13 => ⟨S2x4096x8x1, .f32⟩
  | 14 => ⟨S_, .f32⟩
  | 15 => ⟨S2x4096x8x1, .f32⟩
  | 16 => ⟨S2x4096x8x1, .f32⟩
  | 17 => ⟨S_, .f32⟩
  | 18 => ⟨S2x4096x8x1, .f32⟩
  | 19 => ⟨S2x4096x8x1, .f32⟩
  | 20 => ⟨S2x4096x8x1, .f32⟩
  | 21 => ⟨S2x4096x8x1, .f32⟩
  | 22 => ⟨S_, .f32⟩
  | 23 => ⟨S2x4096x8x1, .f32⟩
  | 24 => ⟨S2x4096x8x1, .f32⟩
  | 25 => ⟨S2x4096x8x64, .f32⟩
  | 26 => ⟨S2x4096x8x64, .f32⟩
  | 27 => ⟨S512, .f32⟩
  | 28 => ⟨S8x64, .f32⟩
  | 29 => ⟨S1x1x8x64, .f32⟩
  | 30 => ⟨S2x4096x8x64, .f32⟩
  | 31 => ⟨S2x4096x8x64, .f32⟩
  | 32 => ⟨S2x4096x512, .f32⟩
  | 33 => ⟨S2x4096x512, .f32⟩
  | 34 => ⟨S2x4096x512, .f32⟩
  | 35 => ⟨S_, .f32⟩
  | 36 => ⟨S2x4096x512, .f32⟩
  | 37 => ⟨S2x4096x512, .f32⟩
  | 38 => ⟨S_, .f32⟩
  | 39 => ⟨S2x4096x512, .f32⟩
  | 40 => ⟨S2x4096x512, .f32⟩
  | 41 => ⟨S_, .f32⟩
  | 42 => ⟨S2x4096x512, .f32⟩
  | 43 => ⟨S2x4096x512, .f32⟩
  | 44 => ⟨S2x4096x512, .f32⟩
  | 45 => ⟨S2x4096x512, .f32⟩
  | 46 => ⟨S2x4096x512, .f32⟩
  | 47 => ⟨S512, .f32⟩
  | 48 => ⟨S2x4096x512, .f32⟩
  | 49 => ⟨S_, .f32⟩
  | 50 => ⟨S2x4096, .f32⟩
  | 51 => ⟨S2x4096x1, .f32⟩
  | 52 => ⟨S_, .f32⟩
  | 53 => ⟨S2x4096x1, .f32⟩
  | 54 => ⟨S2x4096x1, .f32⟩
  | 55 => ⟨S_, .f32⟩
  | 56 => ⟨S2x4096x1, .f32⟩
  | 57 => ⟨S2x4096x1, .f32⟩
  | 58 => ⟨S2x4096x1, .f32⟩
  | 59 => ⟨S2x4096x1, .f32⟩
  | 60 => ⟨S_, .f32⟩
  | 61 => ⟨S2x4096x1, .f32⟩
  | 62 => ⟨S2x4096x1, .f32⟩
  | 63 => ⟨S2x4096x512, .f32⟩
  | 64 => ⟨S2x4096x512, .f32⟩
  | 65 => ⟨S1x1x512, .f32⟩
  | 66 => ⟨S2x4096x512, .f32⟩
  | 67 => ⟨S2x4096x512, .f32⟩
  | 68 => ⟨S2x4096x1024, .f32⟩
  | 69 => ⟨S1024x1024, .f32⟩
  | 70 => ⟨S2x4096x1024, .f32⟩
  | 71 => ⟨S1024x1024, .f32⟩
  | 72 => ⟨S1024x1024, .f32⟩
  | 73 => ⟨S2x4096x1024, .f32⟩
  | 74 => ⟨S1x1024x1024, .f32⟩
  | 75 => ⟨S2x4096x512, .f32⟩
  | 76 => ⟨S2x4096x512, .f32⟩
  | 77 => ⟨S2x4096x512, .f32⟩
  | 78 => ⟨S_, .f32⟩
  | 79 => ⟨S512, .f32⟩
  | 80 => ⟨S1x1x512, .f32⟩
  | 81 => ⟨S2x4096x512, .f32⟩
  | 82 => ⟨S2x4096x512, .f32⟩
  | 83 => ⟨S_, .f32⟩
  | 84 => ⟨S512, .f32⟩
  | 85 => ⟨S2x4096x512, .f32⟩
  | 86 => ⟨S_, .f32⟩
  | 87 => ⟨S2x4096, .f32⟩
  | 88 => ⟨S2x4096x1, .f32⟩
  | 89 => ⟨S2x4096x512, .f32⟩
  | 90 => ⟨S2x4096x512, .f32⟩
  | 91 => ⟨S2x4096x1, .f32⟩
  | 92 => ⟨S_, .f32⟩
  | 93 => ⟨S2x4096x1, .f32⟩
  | 94 => ⟨S2x4096x1, .f32⟩
  | 95 => ⟨S_, .f32⟩
  | 96 => ⟨S2x4096, .f32⟩
  | 97 => ⟨S2x4096x512, .f32⟩
  | 98 => ⟨S2x4096x512, .f32⟩
  | 99 => ⟨S2x4096x512, .f32⟩
  | 100 => ⟨S2x4096x512, .f32⟩
  | 101 => ⟨S2x4096x512, .f32⟩
  | 102 => ⟨S1x512, .f32⟩
  | 103 => ⟨S2x4096x512, .f32⟩
  | 104 => ⟨S2x4096x512, .f32⟩
  | 105 => ⟨S2x4096x512, .f32⟩
  | 106 => ⟨S2x4096x512, .f32⟩
  | 107 => ⟨S2x4096x512, .f32⟩
  | 108 => ⟨S2x4096x512, .f32⟩
  | 109 => ⟨S2x4096x8x64, .f32⟩
  | 110 => ⟨S2x4096x8x64, .f32⟩
  | 111 => ⟨S_, .f32⟩
  | 112 => ⟨S8x64, .f32⟩
  | 113 => ⟨S1x1x8x64, .f32⟩
  | 114 => ⟨S2x4096x8x64, .f32⟩
  | 115 => ⟨S2x4096x8x64, .f32⟩
  | 116 => ⟨S_, .f32⟩
  | 117 => ⟨S8x64, .f32⟩
  | 118 => ⟨S512, .f32⟩
  | 119 => ⟨S1x512, .f32⟩
  | 120 => ⟨S2x4096x8x64, .f32⟩
  | 121 => ⟨S_, .f32⟩
  | 122 => ⟨S2x4096x8, .f32⟩
  | 123 => ⟨S2x4096x8x1, .f32⟩
  | 124 => ⟨S2x4096x8x64, .f32⟩
  | 125 => ⟨S2x4096x8x64, .f32⟩
  | 126 => ⟨S2x4096x8x1, .f32⟩
  | 127 => ⟨S_, .f32⟩
  | _ => ⟨S2x4096x1024, .f32⟩

abbrev hbmTy0_1 (i : Nat) : BufTy := match i % 128 with
  | 0 => ⟨S2x4096x8x1, .f32⟩
  | 1 => ⟨S2x4096x8x1, .f32⟩
  | 2 => ⟨S_, .f32⟩
  | 3 => ⟨S2x4096x8, .f32⟩
  | 4 => ⟨S2x4096x8x64, .f32⟩
  | 5 => ⟨S2x4096x8x64, .f32⟩
  | 6 => ⟨S2x4096x8x64, .f32⟩
  | 7 => ⟨S2x4096x8x64, .f32⟩
  | 8 => ⟨S2x4096x8x64, .f32⟩
  | 9 => ⟨S2x4096x512, .f32⟩
  | 10 => ⟨S2x4096x512, .f32⟩
  | 11 => ⟨S8192x4x128, .f32⟩
  | 12 => ⟨S_, .f32⟩
  | 13 => ⟨S8192x4, .f32⟩
  | 14 => ⟨S8192x512, .f32⟩
  | 15 => ⟨S8192x512, .f32⟩
  | 16 => ⟨S8192x512, .bf16⟩
  | 17 => ⟨S8192x512, .f32⟩
  | 18 => ⟨S8192x512, .bf16⟩
  | 19 => ⟨S4x8192, .f32⟩
  | 20 => ⟨S4x1x8192, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v21_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v21_1 : Ref sig .tc := ⟨.hbm, 44, rfl⟩
abbrev main_v21_0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_v26 : Ref sig .tc := ⟨.hbm, 51, rfl⟩
abbrev main_cst_4 : Ref sig .tc := ⟨.hbm, 52, rfl⟩
abbrev main_v27 : Ref sig .tc := ⟨.hbm, 53, rfl⟩
abbrev main_v28 : Ref sig .tc := ⟨.hbm, 54, rfl⟩
abbrev main_cst_5 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_6 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_7 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_cst_9 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_10 : Ref sig .tc := ⟨.hbm, 92, rfl⟩
abbrev main_v61 : Ref sig .tc := ⟨.hbm, 93, rfl⟩
abbrev main_v62 : Ref sig .tc := ⟨.hbm, 94, rfl⟩
abbrev main_cst_11 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_12 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_13 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_14 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_15 : Ref sig .tc := ⟨.hbm, 127, rfl⟩
abbrev main_v88 : Ref sig .tc := ⟨.hbm, 128, rfl⟩
abbrev main_v89 : Ref sig .tc := ⟨.hbm, 129, rfl⟩
abbrev main_cst_16 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_17 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩

abbrev nD : Nat := 1
abbrev τ : Topo := Topo.v7x

variable {F : FTy → Type} [FloatOps F]
-- ==== MlaBwd.lean ====
abbrev S2x4096x4x192 : Shape := ⟨4, ![2, 4096, 4, 192]⟩
abbrev S2x4096x4x128 : Shape := ⟨4, ![2, 4096, 4, 128]⟩
abbrev S2x4096x4x64 : Shape := ⟨4, ![2, 4096, 4, 64]⟩
abbrev S2x4096x384 : Shape := ⟨3, ![2, 4096, 384]⟩
abbrev S2x4096x256 : Shape := ⟨3, ![2, 4096, 256]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S384x768 : Shape := ⟨2, ![384, 768]⟩
abbrev S768x384 : Shape := ⟨2, ![768, 384]⟩
abbrev S4x192x384 : Shape := ⟨3, ![4, 192, 384]⟩
abbrev S_ : Shape := ⟨0, ![]⟩
abbrev S4x256x384 : Shape := ⟨3, ![4, 256, 384]⟩
abbrev S1024x384 : Shape := ⟨2, ![1024, 384]⟩
abbrev S256x1024 : Shape := ⟨2, ![256, 1024]⟩
abbrev S256x4x256 : Shape := ⟨3, ![256, 4, 256]⟩
abbrev S256x4x128 : Shape := ⟨3, ![256, 4, 128]⟩
abbrev S256x512 : Shape := ⟨2, ![256, 512]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S8192x4x192 : Shape := ⟨3, ![8192, 4, 192]⟩
abbrev S8192x4x256 : Shape := ⟨3, ![8192, 4, 256]⟩
abbrev S8192x1024 : Shape := ⟨2, ![8192, 1024]⟩
abbrev S1024x8192 : Shape := ⟨2, ![1024, 8192]⟩
abbrev S8192x512 : Shape := ⟨2, ![8192, 512]⟩
abbrev S8192x384 : Shape := ⟨2, ![8192, 384]⟩
abbrev S8192x256 : Shape := ⟨2, ![8192, 256]⟩
abbrev S8192x128 : Shape := ⟨2, ![8192, 128]⟩
abbrev S1024x1024 : Shape := ⟨2, ![1024, 1024]⟩
abbrev S1024x512 : Shape := ⟨2, ![1024, 512]⟩
abbrev S1024x256 : Shape := ⟨2, ![1024, 256]⟩
abbrev S1024x128 : Shape := ⟨2, ![1024, 128]⟩
abbrev S128x384 : Shape := ⟨2, ![128, 384]⟩
abbrev S256x128 : Shape := ⟨2, ![256, 128]⟩
abbrev S1024 : Shape := ⟨1, ![1024]⟩
abbrev S1024x1 : Shape := ⟨2, ![1024, 1]⟩
abbrev S384 : Shape := ⟨1, ![384]⟩
abbrev S256 : Shape := ⟨1, ![256]⟩
abbrev S8192x64 : Shape := ⟨2, ![8192, 64]⟩

abbrev nBuf : Space → Nat
  | .hbm => 80
  | .vmem => 30
  | .smem => 0
  | _ => 0

abbrev bufTy : (tb : Table) → Fin (tcTables nBuf tb) → BufTy
  | .hbm, ⟨0, _⟩ => ⟨S2x4096x4x192, .f32⟩
  | .hbm, ⟨1, _⟩ => ⟨S2x4096x4x128, .f32⟩
  | .hbm, ⟨2, _⟩ => ⟨S2x4096x4x64, .f32⟩
  | .hbm, ⟨3, _⟩ => ⟨S2x4096x4x128, .f32⟩
  | .hbm, ⟨4, _⟩ => ⟨S2x4096x384, .f32⟩
  | .hbm, ⟨5, _⟩ => ⟨S2x4096x256, .f32⟩
  | .hbm, ⟨6, _⟩ => ⟨S1x384, .f32⟩
  | .hbm, ⟨7, _⟩ => ⟨S1x384x768, .f32⟩
  | .hbm, ⟨8, _⟩ => ⟨S1x256, .f32⟩
  | .hbm, ⟨9, _⟩ => ⟨S1x256x1024, .f32⟩
  | .hbm, ⟨10, _⟩ => ⟨S384x768, .f32⟩
  | .hbm, ⟨11, _⟩ => ⟨S768x384, .f32⟩
  | .hbm, ⟨12, _⟩ => ⟨S768x384, .bf16⟩
  | .hbm, ⟨13, _⟩ => ⟨S4x192x384, .bf16⟩
  | .hbm, ⟨14, _⟩ => ⟨S_, .i32⟩
  | .hbm, ⟨15, _⟩ => ⟨S_, .bf16⟩
  | .hbm, ⟨16, _⟩ => ⟨S4x256x384, .bf16⟩
  | .hbm, ⟨17, _⟩ => ⟨S1024x384, .bf16⟩
  | .hbm, ⟨18, _⟩ => ⟨S256x1024, .f32⟩
  | .hbm, ⟨19, _⟩ => ⟨S256x1024, .bf16⟩
  | .hbm, ⟨20, _⟩ => ⟨S256x4x256, .bf16⟩
  | .hbm, ⟨21, _⟩ => ⟨S256x4x128, .bf16⟩
  | .hbm, ⟨22, _⟩ => ⟨S256x512, .bf16⟩
  | .hbm, ⟨23, _⟩ => ⟨S256x4x128, .bf16⟩
  | .hbm, ⟨24, _⟩ => ⟨S256x512, .bf16⟩
  | .hbm, ⟨25, _⟩ => ⟨S256x1024, .bf16⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S4096, .f32⟩
  | .hbm, ⟨43, _⟩ => ⟨S4096x1, .f32⟩
  | .hbm, ⟨44, _⟩ => ⟨S1x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S4096x32, .f32⟩
  | .hbm, ⟨50, _⟩ => ⟨S_, .f32⟩
  | .hbm, ⟨51, _⟩ => ⟨S4096x64, .f32⟩
  | .hbm, ⟨52, _⟩ => ⟨S4096x128, .f32⟩
  | .hbm, ⟨53, _⟩ => ⟨S4096x32, .f32⟩
  | .hbm, ⟨54, _⟩ => ⟨S4096x128, .f32⟩
  | .hbm, ⟨55, _⟩ => ⟨S8192x4x192, .f32⟩
  | .hbm, ⟨56, _⟩ => ⟨S_, .i32⟩
  | .hbm, ⟨57, _⟩ => ⟨S_, .f32⟩
  | .hbm, ⟨58, _⟩ => ⟨S8192x4x256, .f32⟩
  | .hbm, ⟨59, _⟩ => ⟨S8192x1024, .f32⟩
  | .hbm, ⟨60, _⟩ => ⟨S1024x8192, .f32⟩
  | .hbm, ⟨61, _⟩ => ⟨S2x4096x4x192, .f32⟩
  | .hbm, ⟨62, _⟩ => ⟨S8192x4x192, .f32⟩
  | .hbm, ⟨63, _⟩ => ⟨S_, .i32⟩
  | .hbm, ⟨64, _⟩ => ⟨S_, .f32⟩
  | .hbm, ⟨65, _⟩ => ⟨S8192x4x256, .f32⟩
  | .hbm, ⟨66, _⟩ => ⟨S8192x1024, .f32⟩
  | .hbm, ⟨67, _⟩ => ⟨S8192x512, .f32⟩
  | .hbm, ⟨68, _⟩ => ⟨S8192x384, .f32⟩
  | .hbm, ⟨69, _⟩ => ⟨S8192x256, .f32⟩
  | .hbm, ⟨70, _⟩ => ⟨S8192x384, .bf16⟩
  | .hbm, ⟨71, _⟩ => ⟨S8192x256, .bf16⟩
  | .hbm, ⟨72, _⟩ => ⟨S8192x128, .bf16⟩
  | .hbm, ⟨73, _⟩ => ⟨S8192x1024, .bf16⟩
  | .hbm, ⟨74, _⟩ => ⟨S8192x1024, .bf16⟩
  | .hbm, ⟨75, _⟩ => ⟨S1x384, .f32⟩
  | .hbm, ⟨76, _⟩ => ⟨S1x256, .f32⟩
  | .hbm, ⟨77, _⟩ => ⟨S8192x64, .bf16⟩
  | .hbm, ⟨78, _⟩ => ⟨S8192x4x256, .bf16⟩
  | .hbm, ⟨79, _⟩ => ⟨S8192x4x192, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x512, .f32⟩
  | .local _ .vmem, ⟨5, _⟩ => ⟨S1024x512, .f32⟩
  | .local _ .vmem, ⟨6, _⟩ => ⟨S1024x384, .f32⟩
  | .local _ .vmem, ⟨7, _⟩ => ⟨S1024x384, .f32⟩
  | .local _ .vmem, ⟨8, _⟩ => ⟨S1024x256, .f32⟩
  | .local _ .vmem, ⟨9, _⟩ => ⟨S1024x256, .f32⟩
  | .local _ .vmem, ⟨10, _⟩ => ⟨S1x384, .f32⟩
  | .local _ .vmem, ⟨11, _⟩ => ⟨S1x256, .f32⟩
  | .local _ .vmem, ⟨12, _⟩ => ⟨S1024x384, .bf16⟩
  | .local _ .vmem, ⟨13, _⟩ => ⟨S256x1024, .bf16⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x384, .bf16⟩
  | .local _ .vmem, ⟨19, _⟩ => ⟨S1024x384, .bf16⟩
  | .local _ .vmem, ⟨20, _⟩ => ⟨S1024x256, .bf16⟩
  | .local _ .vmem, ⟨21, _⟩ => ⟨S1024x256, .bf16⟩
  | .local _ .vmem, ⟨22, _⟩ => ⟨S1024x128, .bf16⟩
  | .local _ .vmem, ⟨23, _⟩ => ⟨S1024x128, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1x384, .f32⟩
  | .local _ .vmem, ⟨29, _⟩ => ⟨S1x256, .f32⟩
  | _, _ => ⟨S2x4096x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_5 : Ref sig .tc := ⟨.hbm, 56, rfl⟩
abbrev main_call1_v0 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_6 : Ref sig .tc := ⟨.hbm, 63, rfl⟩
abbrev main_call2_v0 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48_0 : Ref sig .tc := ⟨.hbm, 70, rfl⟩
abbrev main_v48_1 : Ref sig .tc := ⟨.hbm, 71, rfl⟩
abbrev main_v48_2 : Ref sig .tc := ⟨.hbm, 72, rfl⟩
abbrev main_v48_3 : Ref sig .tc := ⟨.hbm, 73, rfl⟩
abbrev main_v48_4 : Ref sig .tc := ⟨.hbm, 74, rfl⟩
abbrev main_v48_5 : Ref sig .tc := ⟨.hbm, 75, rfl⟩
abbrev main_v48_6 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v227 : BitVec 32 := Scalar.extui v4
  let c0_i32_124 : BitVec 32 := 0#32
  let v228 : BitVec 1 := Scalar.cmpi .ne v227 c0_i32_124
  v228

def k0_cond2 (i : grid0.Coords) : BitVec 1 :=
  let arg0 : BitVec 32 := BitVec.ofNat 32 (i 0).val
  let c0_i32 : BitVec 32 := 0#32
  let v4 : BitVec 1 := Scalar.cmpi .eq arg0 c0_i32
  let v_true : BitVec 1 := 1#1
  let v229 : BitVec 1 := Scalar.xori v4 v_true
  let v230 : BitVec 32 := Scalar.extui v229
  let c0_i32_125 : BitVec 32 := 0#32
  let v231 : BitVec 1 := Scalar.cmpi .ne v230 c0_i32_125
  v231

def k0_cond3 (i : grid0.Coords) : BitVec 1 :=
  let arg0 : BitVec 32 := BitVec.ofNat 32 (i 0).val
  let c0_i32 : BitVec 32 := 0#32
  let v4 : BitVec 1 := Scalar.cmpi .eq arg0 c0_i32
  let v234 : BitVec 32 := Scalar.extui v4
  let c0_i32_127 : BitVec 32 := 0#32
  let v235 : BitVec 1 := Scalar.cmpi .ne v234 c0_i32_127
  v235

def k0_cond4 (i : grid0.Coords) : BitVec 1 :=
  let arg0 : BitVec 32 := BitVec.ofNat 32 (i 0).val
  let c0_i32 : BitVec 32 := 0#32
  let v4 : BitVec 1 := Scalar.cmpi .eq arg0 c0_i32
  let true_128 : BitVec 1 := 1#1
  let v236 : BitVec 1 := Scalar.xori v4 true_128
  let v237 : BitVec 32 := Scalar.extui v236
  let c0_i32_129 : BitVec 32 := 0#32
  let v238 : BitVec 1 := Scalar.cmpi .ne v237 c0_i32_129
  v238

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MlaRefIdeal.lean ====
abbrev S2x4096x4x192 : Shape := ⟨4, ![2, 4096, 4, 192]⟩
abbrev S2x4096x4x128 : Shape := ⟨4, ![2, 4096, 4, 128]⟩
abbrev S2x4096x4x64 : Shape := ⟨4, ![2, 4096, 4, 64]⟩
abbrev S2x4096x384 : Shape := ⟨3, ![2, 4096, 384]⟩
abbrev S2x4096x256 : Shape := ⟨3, ![2, 4096, 256]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S384 : Shape := ⟨1, ![384]⟩
abbrev S_ : Shape := ⟨0, ![]⟩
abbrev S2x4096 : Shape := ⟨2, ![2, 4096]⟩
abbrev S2x4096x1 : Shape := ⟨3, ![2, 4096, 1]⟩
abbrev S1x1x384 : Shape := ⟨3, ![1, 1, 384]⟩
abbrev S384x768 : Shape := ⟨2, ![384, 768]⟩
abbrev S2x4096x768 : Shape := ⟨3, ![2, 4096, 768]⟩
abbrev S256 : Shape := ⟨1, ![256]⟩
abbrev S1x1x256 : Shape := ⟨3, ![1, 1, 256]⟩
abbrev S256x1024 : Shape := ⟨2, ![256, 1024]⟩
abbrev S2x4096x1024 : Shape := ⟨3, ![2, 4096, 1024]⟩
abbrev S2x4096x64 : Shape := ⟨3, ![2, 4096, 64]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S2x4096x4x256 : Shape := ⟨4, ![2, 4096, 4, 256]⟩
abbrev S4096x1x32 : Shape := ⟨3, ![4096, 1, 32]⟩
abbrev S2x4096x4x32 : Shape := ⟨4, ![2, 4096, 4, 32]⟩
abbrev S1x4096x1x32 : Shape := ⟨4, ![1, 4096, 1, 32]⟩
abbrev S2x4096x32 : Shape := ⟨3, ![2, 4096, 32]⟩
abbrev S1x4096x32 : Shape := ⟨3, ![1, 4096, 32]⟩
abbrev S2x4096x1x64 : Shape := ⟨4, ![2, 4096, 1, 64]⟩
abbrev S1024x256 : Shape := ⟨2, ![1024, 256]⟩
abbrev S768x384 : Shape := ⟨2, ![768, 384]⟩
abbrev S8192x4x256 : Shape := ⟨3, ![8192, 4, 256]⟩
abbrev S8192x384 : Shape := ⟨2, ![8192, 384]⟩
abbrev S8192x256 : Shape := ⟨2, ![8192, 256]⟩
abbrev S8192x64 : Shape := ⟨2, ![8192, 64]⟩
abbrev S8192x4x192 : Shape := ⟨3, ![8192, 4, 192]⟩
abbrev S8192x4x128 : Shape := ⟨3, ![8192, 4, 128]⟩
abbrev S8192x512 : Shape := ⟨2, ![8192, 512]⟩
abbrev S8192x1024 : Shape := ⟨2, ![8192, 1024]⟩

abbrev nBuf : Space → Nat
  | .hbm => 249
  | .vmem => 0
  | .smem => 0
  | _ => 0

abbrev hbmTy0_0 (i : Nat) : BufTy := match i % 128 with
  | 0 => ⟨S2x4096x4x192, .f32⟩
  | 1 => ⟨S2x4096x4x128, .f32⟩
  | 2 => ⟨S2x4096x4x64, .f32⟩
  | 3 => ⟨S2x4096x4x128, .f32⟩
  | 4 => ⟨S2x4096x384, .f32⟩
  | 5 => ⟨S2x4096x256, .f32⟩
  | 6 => ⟨S1x384, .f32⟩
  | 7 => ⟨S1x384x768, .f32⟩
  | 8 => ⟨S1x256, .f32⟩
  | 9 => ⟨S1x256x1024, .f32⟩
  | 10 => ⟨S384, .f32⟩
  | 11 => ⟨S2x4096x384, .f32⟩
  | 12 => ⟨S_, .f32⟩
  | 13 => ⟨S2x4096, .f32⟩
  | 14 => ⟨S2x4096x1, .f32⟩
  | 15 => ⟨S_, .f32⟩
  | 16 => ⟨S2x4096x1, .f32⟩
  | 17 => ⟨S2x4096x1, .f32⟩
  | 18 => ⟨S_, .f32⟩
  | 19 => ⟨S2x4096x1, .f32⟩
  | 20 => ⟨S2x4096x1, .f32⟩
  | 21 => ⟨S2x4096x1, .f32⟩
  | 22 => ⟨S2x4096x1, .f32⟩
  | 23 => ⟨S_, .f32⟩
  | 24 => ⟨S2x4096x1, .f32⟩
  | 25 => ⟨S2x4096x1, .f32⟩
  | 26 => ⟨S2x4096x384, .f32⟩
  | 27 => ⟨S2x4096x384, .f32⟩
  | 28 => ⟨S1x1x384, .f32⟩
  | 29 => ⟨S2x4096x384, .f32⟩
  | 30 => ⟨S2x4096x384, .f32⟩
  | 31 => ⟨S384x768, .f32⟩
  | 32 => ⟨S2x4096x768, .f32⟩
  | 33 => ⟨S256, .f32⟩
  | 34 => ⟨S2x4096x256, .f32⟩
  | 35 => ⟨S_, .f32⟩
  | 36 => ⟨S2x4096, .f32⟩
  | 37 => ⟨S2x4096x1, .f32⟩
  | 38 => ⟨S_, .f32⟩
  | 39 => ⟨S2x4096x1, .f32⟩
  | 40 => ⟨S2x4096x1, .f32⟩
  | 41 => ⟨S_, .f32⟩
  | 42 => ⟨S2x4096x1, .f32⟩
  | 43 => ⟨S2x4096x1, .f32⟩
  | 44 => ⟨S2x4096x1, .f32⟩
  | 45 => ⟨S2x4096x1, .f32⟩
  | 46 => ⟨S_, .f32⟩
  | 47 => ⟨S2x4096x1, .f32⟩
  | 48 => ⟨S2x4096x1, .f32⟩
  | 49 => ⟨S2x4096x256, .f32⟩
  | 50 => ⟨S2x4096x256, .f32⟩
  | 51 => ⟨S1x1x256, .f32⟩
  | 52 => ⟨S2x4096x256, .f32⟩
  | 53 => ⟨S2x4096x256, .f32⟩
  | 54 => ⟨S256x1024, .f32⟩
  | 55 => ⟨S2x4096x1024, .f32⟩
  | 56 => ⟨S_, .f32⟩
  | 57 => ⟨S2x4096x64, .f32⟩
  | 58 => ⟨S32, .f32⟩
  | 59 => ⟨S_, .f32⟩
  | 60 => ⟨S32, .f32⟩
  | 61 => ⟨S32, .f32⟩
  | 62 => ⟨S_, .f32⟩
  | 63 => ⟨S32, .f32⟩
  | 64 => ⟨S32, .f32⟩
  | 65 => ⟨S_, .f32⟩
  | 66 => ⟨S32, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S4096, .f32⟩
  | 75 => ⟨S4096x1, .f32⟩
  | 76 => ⟨S1x32, .f32⟩
  | 77 => ⟨S4096x32, .f32⟩
  | 78 => ⟨S4096x32, .f32⟩
  | 79 => ⟨S4096x32, .f32⟩
  | 80 => ⟨S4096x32, .f32⟩
  | 81 => ⟨S4096x32, .f32⟩
  | 82 => ⟨S2x4096x4x192, .f32⟩
  | 83 => ⟨S2x4096x4x128, .f32⟩
  | 84 => ⟨S2x4096x4x64, .f32⟩
  | 85 => ⟨S2x4096x4x256, .f32⟩
  | 86 => ⟨S2x4096x4x128, .f32⟩
  | 87 => ⟨S2x4096x4x128, .f32⟩
  | 88 => ⟨S4096x1x32, .f32⟩
  | 89 => ⟨S4096x1x32, .f32⟩
  | 90 => ⟨S2x4096x4x32, .f32⟩
  | 91 => ⟨S2x4096x4x32, .f32⟩
  | 92 => ⟨S1x4096x1x32, .f32⟩
  | 93 => ⟨S2x4096x4x32, .f32⟩
  | 94 => ⟨S2x4096x4x32, .f32⟩
  | 95 => ⟨S1x4096x1x32, .f32⟩
  | 96 => ⟨S2x4096x4x32, .f32⟩
  | 97 => ⟨S2x4096x4x32, .f32⟩
  | 98 => ⟨S2x4096x4x32, .f32⟩
  | 99 => ⟨S1x4096x1x32, .f32⟩
  | 100 => ⟨S2x4096x4x32, .f32⟩
  | 101 => ⟨S2x4096x4x32, .f32⟩
  | 102 => ⟨S1x4096x1x32, .f32⟩
  | 103 => ⟨S2x4096x4x32, .f32⟩
  | 104 => ⟨S2x4096x4x32, .f32⟩
  | 105 => ⟨S2x4096x4x32, .f32⟩
  | 106 => ⟨S2x4096x4x64, .f32⟩
  | 107 => ⟨S2x4096x32, .f32⟩
  | 108 => ⟨S2x4096x32, .f32⟩
  | 109 => ⟨S1x4096x32, .f32⟩
  | 110 => ⟨S2x4096x32, .f32⟩
  | 111 => ⟨S2x4096x32, .f32⟩
  | 112 => ⟨S1x4096x32, .f32⟩
  | 113 => ⟨S2x4096x32, .f32⟩
  | 114 => ⟨S2x4096x32, .f32⟩
  | 115 => ⟨S2x4096x32, .f32⟩
  | 116 => ⟨S1x4096x32, .f32⟩
  | 117 => ⟨S2x4096x32, .f32⟩
  | 118 => ⟨S2x4096x32, .f32⟩
  | 119 => ⟨S1x4096x32, .f32⟩
  | 120 => ⟨S2x4096x32, .f32⟩
  | 121 => ⟨S2x4096x32, .f32⟩
  | 122 => ⟨S2x4096x32, .f32⟩
  | 123 => ⟨S2x4096x64, .f32⟩
  | 124 => ⟨S2x4096x4x192, .f32⟩
  | 125 => ⟨S2x4096x1x64, .f32⟩
  | 126 => ⟨S2x4096x4x64, .f32⟩
  | 127 => ⟨S_, .f32⟩
  | _ => ⟨S2x4096x4x192, .f32⟩

abbrev hbmTy0_1 (i : Nat) : BufTy := match i % 128 with
  | 0 => ⟨S2x4096x64, .f32⟩
  | 1 => ⟨S2x4096x1x64, .f32⟩
  | 2 => ⟨S_, .f32⟩
  | 3 => ⟨S2x4096x64, .f32⟩
  | 4 => ⟨S2x4096x4x128, .f32⟩
  | 5 => ⟨S2x4096x4x64, .f32⟩
  | 6 => ⟨S2x4096x32, .f32⟩
  | 7 => ⟨S2x4096x32, .f32⟩
  | 8 => ⟨S2x4096x32, .f32⟩
  | 9 => ⟨S2x4096x32, .f32⟩
  | 10 => ⟨S2x4096x32, .f32⟩
  | 11 => ⟨S2x4096x32, .f32⟩
  | 12 => ⟨S2x4096x32, .f32⟩
  | 13 => ⟨S2x4096x32, .f32⟩
  | 14 => ⟨S2x4096x32, .f32⟩
  | 15 => ⟨S2x4096x32, .f32⟩
  | 16 => ⟨S2x4096x32, .f32⟩
  | 17 => ⟨S2x4096x32, .f32⟩
  | 18 => ⟨S2x4096x32, .f32⟩
  | 19 => ⟨S2x4096x64, .f32⟩
  | 20 => ⟨S2x4096x4x32, .f32⟩
  | 21 => ⟨S2x4096x4x32, .f32⟩
  | 22 => ⟨S2x4096x4x32, .f32⟩
  | 23 => ⟨S2x4096x4x32, .f32⟩
  | 24 => ⟨S2x4096x4x32, .f32⟩
  | 25 => ⟨S2x4096x4x32, .f32⟩
  | 26 => ⟨S2x4096x4x32, .f32⟩
  | 27 => ⟨S2x4096x4x32, .f32⟩
  | 28 => ⟨S2x4096x4x32, .f32⟩
  | 29 => ⟨S2x4096x4x32, .f32⟩
  | 30 => ⟨S2x4096x4x32, .f32⟩
  | 31 => ⟨S2x4096x4x32, .f32⟩
  | 32 => ⟨S2x4096x4x32, .f32⟩
  | 33 => ⟨S2x4096x4x64, .f32⟩
  | 34 => ⟨S_, .f32⟩
  | 35 => ⟨S2x4096x4x256, .f32⟩
  | 36 => ⟨S_, .f32⟩
  | 37 => ⟨S2x4096x4x256, .f32⟩
  | 38 => ⟨S2x4096x4x256, .f32⟩
  | 39 => ⟨S2x4096x1024, .f32⟩
  | 40 => ⟨S_, .f32⟩
  | 41 => ⟨S2x4096x4x192, .f32⟩
  | 42 => ⟨S_, .f32⟩
  | 43 => ⟨S2x4096x4x192, .f32⟩
  | 44 => ⟨S2x4096x4x192, .f32⟩
  | 45 => ⟨S2x4096x768, .f32⟩
  | 46 => ⟨S1024x256, .f32⟩
  | 47 => ⟨S256x1024, .f32⟩
  | 48 => ⟨S2x4096x256, .f32⟩
  | 49 => ⟨S1x256x1024, .f32⟩
  | 50 => ⟨S2x4096x256, .f32⟩
  | 51 => ⟨S_, .f32⟩
  | 52 => ⟨S256, .f32⟩
  | 53 => ⟨S1x1x256, .f32⟩
  | 54 => ⟨S2x4096x256, .f32⟩
  | 55 => ⟨S2x4096x256, .f32⟩
  | 56 => ⟨S_, .f32⟩
  | 57 => ⟨S256, .f32⟩
  | 58 => ⟨S2x4096x256, .f32⟩
  | 59 => ⟨S_, .f32⟩
  | 60 => ⟨S2x4096, .f32⟩
  | 61 => ⟨S2x4096x1, .f32⟩
  | 62 => ⟨S2x4096x256, .f32⟩
  | 63 => ⟨S2x4096x256, .f32⟩
  | 64 => ⟨S2x4096x1, .f32⟩
  | 65 => ⟨S_, .f32⟩
  | 66 => ⟨S2x4096x1, .f32⟩
  | 67 => ⟨S2x4096x1, .f32⟩
  | 68 => ⟨S_, .f32⟩
  | 69 => ⟨S2x4096, .f32⟩
  | 70 => ⟨S2x4096x256, .f32⟩
  | 71 => ⟨S2x4096x256, .f32⟩
  | 72 => ⟨S2x4096x256, .f32⟩
  | 73 => ⟨S2x4096x256, .f32⟩
  | 74 => ⟨S2x4096x256, .f32⟩
  | 75 => ⟨S1x256, .f32⟩
  | 76 => ⟨S768x384, .f32⟩
  | 77 => ⟨S384x768, .f32⟩
  | 78 => ⟨S2x4096x384, .f32⟩
  | 79 => ⟨S1x384x768, .f32⟩
  | 80 => ⟨S2x4096x384, .f32⟩
  | 81 => ⟨S_, .f32⟩
  | 82 => ⟨S384, .f32⟩
  | 83 => ⟨S1x1x384, .f32⟩
  | 84 => ⟨S2x4096x384, .f32⟩
  | 85 => ⟨S2x4096x384, .f32⟩
  | 86 => ⟨S_, .f32⟩
  | 87 => ⟨S384, .f32⟩
  | 88 => ⟨S2x4096x384, .f32⟩
  | 89 => ⟨S_, .f32⟩
  | 90 => ⟨S2x4096, .f32⟩
  | 91 => ⟨S2x4096x1, .f32⟩
  | 92 => ⟨S2x4096x384, .f32⟩
  | 93 => ⟨S2x4096x384, .f32⟩
  | 94 => ⟨S2x4096x1, .f32⟩
  | 95 => ⟨S_, .f32⟩
  | 96 => ⟨S2x4096x1, .f32⟩
  | 97 => ⟨S2x4096x1, .f32⟩
  | 98 => ⟨S_, .f32⟩
  | 99 => ⟨S2x4096, .f32⟩
  | 100 => ⟨S2x4096x384, .f32⟩
  | 101 => ⟨S2x4096x384, .f32⟩
  | 102 => ⟨S2x4096x384, .f32⟩
  | 103 => ⟨S2x4096x384, .f32⟩
  | 104 => ⟨S2x4096x384, .f32⟩
  | 105 => ⟨S1x384, .f32⟩
  | 106 => ⟨S8192x4x256, .f32⟩
  | 107 => ⟨S8192x384, .f32⟩
  | 108 => ⟨S8192x384, .bf16⟩
  | 109 => ⟨S8192x256, .f32⟩
  | 110 => ⟨S8192x256, .bf16⟩
  | 111 => ⟨S8192x64, .f32⟩
  | 112 => ⟨S8192x64, .bf16⟩
  | 113 => ⟨S8192x4x192, .f32⟩
  | 114 => ⟨S8192x4x192, .bf16⟩
  | 115 => ⟨S8192x4x128, .f32⟩
  | 116 => ⟨S8192x512, .f32⟩
  | 117 => ⟨S8192x4x128, .f32⟩
  | 118 => ⟨S8192x512, .f32⟩
  | 119 => ⟨S8192x1024, .f32⟩
  | 120 => ⟨S8192x1024, .bf16⟩
  | _ => ⟨S2x4096x4x192, .f32⟩

abbrev hbmTy (i : Nat) : BufTy := match i / 128 with
  | 0 => hbmTy0_0 i
  | 1 => hbmTy0_1 i
  | _ => ⟨S2x4096x4x192, .f32⟩

abbrev bufTy : (tb : Table) → Fin (tcTables nBuf tb) → BufTy
  | .hbm, ⟨i, _⟩ => hbmTy i
  | _, _ => ⟨S2x4096x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_cst_11 : Ref sig .tc := ⟨.hbm, 68, rfl⟩
abbrev main_v46 : Ref sig .tc := ⟨.hbm, 69, rfl⟩
abbrev main_v47 : Ref sig .tc := ⟨.hbm, 70, rfl⟩
abbrev main_cst_12 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_cst_13 : Ref sig .tc := ⟨.hbm, 127, rfl⟩
abbrev main_v103 : Ref sig .tc := ⟨.hbm, 128, rfl⟩
abbrev main_v104 : Ref sig .tc := ⟨.hbm, 129, rfl⟩
abbrev main_cst_14 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_cst_15 : Ref sig .tc := ⟨.hbm, 162, rfl⟩
abbrev main_v136 : Ref sig .tc := ⟨.hbm, 163, rfl⟩
abbrev main_cst_16 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_cst_17 : Ref sig .tc := ⟨.hbm, 168, rfl⟩
abbrev main_v140 : Ref sig .tc := ⟨.hbm, 169, rfl⟩
abbrev main_cst_18 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_cst_19 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_cst_20 : Ref sig .tc := ⟨.hbm, 184, rfl⟩
abbrev main_v153 : Ref sig .tc := ⟨.hbm, 185, rfl⟩
abbrev main_v154 : Ref sig .tc := ⟨.hbm, 186, rfl⟩
abbrev main_cst_21 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_cst_22 : Ref sig .tc := ⟨.hbm, 193, rfl⟩
abbrev main_v160 : Ref sig .tc := ⟨.hbm, 194, rfl⟩
abbrev main_v161 : Ref sig .tc := ⟨.hbm, 195, rfl⟩
abbrev main_cst_23 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_cst_24 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_cst_25 : Ref sig .tc := ⟨.hbm, 214, rfl⟩
abbrev main_v178 : Ref sig .tc := ⟨.hbm, 215, rfl⟩
abbrev main_v179 : Ref sig .tc := ⟨.hbm, 216, rfl⟩
abbrev main_cst_26 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_cst_27 : Ref sig .tc := ⟨.hbm, 223, rfl⟩
abbrev main_v185 : Ref sig .tc := ⟨.hbm, 224, rfl⟩
abbrev main_v186 : Ref sig .tc := ⟨.hbm, 225, rfl⟩
abbrev main_cst_28 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩

abbrev nD : Nat := 1
abbrev τ : Topo := Topo.v7x

variable {F : FTy → Type} [FloatOps F]
-- ==== AttnFwd.lean ====
abbrev S2x4096x4x192 : Shape := ⟨4, ![2, 4096, 4, 192]⟩
abbrev S2x4096x4x128 : Shape := ⟨4, ![2, 4096, 4, 128]⟩
abbrev S2x4096x64 : Shape := ⟨3, ![2, 4096, 64]⟩
abbrev S2x4096x1x64 : Shape := ⟨4, ![2, 4096, 1, 64]⟩
abbrev S2x4096x4x64 : Shape := ⟨4, ![2, 4096, 4, 64]⟩
abbrev S_ : Shape := ⟨0, ![]⟩
abbrev S2x4096x4x256 : Shape := ⟨4, ![2, 4096, 4, 256]⟩
abbrev S8192x1024 : Shape := ⟨2, ![8192, 1024]⟩
abbrev S8192x512 : Shape := ⟨2, ![8192, 512]⟩
abbrev S4x1x8192 : Shape := ⟨3, ![4, 1, 8192]⟩
abbrev S1024x256 : Shape := ⟨2, ![1024, 256]⟩
abbrev S4096x256 : Shape := ⟨2, ![4096, 256]⟩
abbrev S4096x128 : Shape := ⟨2, ![4096, 128]⟩
abbrev S1024x128 : Shape := ⟨2, ![1024, 128]⟩
abbrev S1x1x1024 : Shape := ⟨3, ![1, 1, 1024]⟩
abbrev S256x256 : Shape := ⟨2, ![256, 256]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩
abbrev S1x1x256 : Shape := ⟨3, ![1, 1, 256]⟩

abbrev nBuf : Space → Nat
  | .hbm => 21
  | .vmem => 10
  | .smem => 0
  | _ => 0

abbrev bufTy : (tb : Table) → Fin (tcTables nBuf tb) → BufTy
  | .hbm, ⟨0, _⟩ => ⟨S2x4096x4x192, .f32⟩
  | .hbm, ⟨1, _⟩ => ⟨S2x4096x4x128, .f32⟩
  | .hbm, ⟨2, _⟩ => ⟨S2x4096x64, .f32⟩
  | .hbm, ⟨3, _⟩ => ⟨S2x4096x4x128, .f32⟩
  | .hbm, ⟨4, _⟩ => ⟨S2x4096x1x64, .f32⟩
  | .hbm, ⟨5, _⟩ => ⟨S2x4096x4x64, .f32⟩
  | .hbm, ⟨6, _⟩ => ⟨S2x4096x4x192, .f32⟩
  | .hbm, ⟨7, _⟩ => ⟨S_, .i32⟩
  | .hbm, ⟨8, _⟩ => ⟨S_, .f32⟩
  | .hbm, ⟨9, _⟩ => ⟨S2x4096x4x256, .f32⟩
  | .hbm, ⟨10, _⟩ => ⟨S8192x1024, .f32⟩
  | .hbm, ⟨11, _⟩ => ⟨S8192x1024, .bf16⟩
  | .hbm, ⟨12, _⟩ => ⟨S_, .i32⟩
  | .hbm, ⟨13, _⟩ => ⟨S_, .f32⟩
  | .hbm, ⟨14, _⟩ => ⟨S2x4096x4x256, .f32⟩
  | .hbm, ⟨15, _⟩ => ⟨S8192x1024, .f32⟩
  | .hbm, ⟨16, _⟩ => ⟨S8192x1024, .bf16⟩
  | .hbm, ⟨17, _⟩ => ⟨S8192x512, .f32⟩
  | .hbm, ⟨18, _⟩ => ⟨S8192x512, .bf16⟩
  | .hbm, ⟨19, _⟩ => ⟨S8192x512, .f32⟩
  | .hbm, ⟨20, _⟩ => ⟨S4x1x8192, .f32⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .f32⟩
  | .local _ .vmem, ⟨7, _⟩ => ⟨S1024x128, .f32⟩
  | .local _ .vmem, ⟨8, _⟩ => ⟨S1x1x1024, .f32⟩
  | .local _ .vmem, ⟨9, _⟩ => ⟨S1x1x1024, .f32⟩
  | _, _ => ⟨S2x4096x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![arg1.toNat, c0_i32.toNat, v1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnFwdIdeal.lean ====
variable {F : FTy → Type} [FloatOps F] [Named F]
def κ : String → Option EReal := fun
  | "log2e" => some (((Real.log 2)⁻¹ : ℝ) : EReal)
  | "scale_log2e" => some (((Real.sqrt 192)⁻¹ * (Real.log 2)⁻¹ : ℝ) : EReal)
  | _ => none
-- ==== AfwRefIdeal.lean ====
abbrev S2x4096x4x192 : Shape := ⟨4, ![2, 4096, 4, 192]⟩
abbrev S2x4096x4x128 : Shape := ⟨4, ![2, 4096, 4, 128]⟩
abbrev S2x4096x64 : Shape := ⟨3, ![2, 4096, 64]⟩
abbrev S2x4096x4x64 : Shape := ⟨4, ![2, 4096, 4, 64]⟩
abbrev S2x4x4096x4096 : Shape := ⟨4, ![2, 4, 4096, 4096]⟩
abbrev S2x4096x4096x4 : Shape := ⟨4, ![2, 4096, 4096, 4]⟩
abbrev S_ : Shape := ⟨0, ![]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩
abbrev S8192x512 : Shape := ⟨2, ![8192, 512]⟩
abbrev S4x2x4096 : Shape := ⟨3, ![4, 2, 4096]⟩
abbrev S4x1x8192 : Shape := ⟨3, ![4, 1, 8192]⟩

abbrev nBuf : Space → Nat
  | .hbm => 41
  | .vmem => 0
  | .smem => 0
  | _ => 0

abbrev bufTy : (tb : Table) → Fin (tcTables nBuf tb) → BufTy
  | .hbm, ⟨0, _⟩ => ⟨S2x4096x4x192, .f32⟩
  | .hbm, ⟨1, _⟩ => ⟨S2x4096x4x128, .f32⟩
  | .hbm, ⟨2, _⟩ => ⟨S2x4096x64, .f32⟩
  | .hbm, ⟨3, _⟩ => ⟨S2x4096x4x128, .f32⟩
  | .hbm, ⟨4, _⟩ => ⟨S2x4096x4x128, .f32⟩
  | .hbm, ⟨5, _⟩ => ⟨S2x4096x4x64, .f32⟩
  | .hbm, ⟨6, _⟩ => ⟨S2x4x4096x4096, .f32⟩
  | .hbm, ⟨7, _⟩ => ⟨S2x4096x4096x4, .f32⟩
  | .hbm, ⟨8, _⟩ => ⟨S2x4x4096x4096, .f32⟩
  | .hbm, ⟨9, _⟩ => ⟨S2x4x4096x4096, .f32⟩
  | .hbm, ⟨10, _⟩ => ⟨S_, .f32⟩
  | .hbm, ⟨11, _⟩ => ⟨S_, .f32⟩
  | .hbm, ⟨12, _⟩ => ⟨S2x4x4096x4096, .f32⟩
  | .hbm, ⟨13, _⟩ => ⟨S2x4x4096x4096, .f32⟩
  | .hbm, ⟨14, _⟩ => ⟨S_, .f32⟩
  | .hbm, ⟨15, _⟩ => ⟨S2x4x4096, .f32⟩
  | .hbm, ⟨16, _⟩ => ⟨S_, .f32⟩
  | .hbm, ⟨17, _⟩ => ⟨S2x4x4096, .f32⟩
  | .hbm, ⟨18, _⟩ => ⟨S2x4x4096, .f32⟩
  | .hbm, ⟨19, _⟩ => ⟨S2x4x4096x1, .f32⟩
  | .hbm, ⟨20, _⟩ => ⟨S2x4x4096x4096, .f32⟩
  | .hbm, ⟨21, _⟩ => ⟨S2x4x4096x4096, .f32⟩
  | .hbm, ⟨22, _⟩ => ⟨S2x4x4096x4096, .f32⟩
  | .hbm, ⟨23, _⟩ => ⟨S_, .f32⟩
  | .hbm, ⟨24, _⟩ => ⟨S2x4x4096, .f32⟩
  | .hbm, ⟨25, _⟩ => ⟨S2x4x4096x1, .f32⟩
  | .hbm, ⟨26, _⟩ => ⟨S2x4x4096x4096, .f32⟩
  | .hbm, ⟨27, _⟩ => ⟨S2x4x4096x4096, .f32⟩
  | .hbm, ⟨28, _⟩ => ⟨S2x4x128x4096, .f32⟩
  | .hbm, ⟨29, _⟩ => ⟨S2x4096x4x128, .f32⟩
  | .hbm, ⟨30, _⟩ => ⟨S2x4x4096x4096, .f32⟩
  | .hbm, ⟨31, _⟩ => ⟨S_, .f32⟩
  | .hbm, ⟨32, _⟩ => ⟨S2x4x4096, .f32⟩
  | .hbm, ⟨33, _⟩ => ⟨S2x4x4096, .f32⟩
  | .hbm, ⟨34, _⟩ => ⟨S_, .f32⟩
  | .hbm, ⟨35, _⟩ => ⟨S_, .f32⟩
  | .hbm, ⟨36, _⟩ => ⟨S2x4x4096, .f32⟩
  | .hbm, ⟨37, _⟩ => ⟨S2x4x4096, .f32⟩
  | .hbm, ⟨38, _⟩ => ⟨S8192x512, .f32⟩
  | .hbm, ⟨39, _⟩ => ⟨S4x2x4096, .f32⟩
  | .hbm, ⟨40, _⟩ => ⟨S4x1x8192, .f32⟩
  | _, _ => ⟨S2x4096x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== InFwd.lean ====
abbrev S2x4096x1024 : Shape := ⟨3, ![2, 4096, 1024]⟩
abbrev S1x1024 : Shape := ⟨2, ![1, 1024]⟩
abbrev S1x1024x3264 : Shape := ⟨3, ![1, 1024, 3264]⟩
abbrev S8192x1024 : Shape := ⟨2, ![8192, 1024]⟩
abbrev S1024x3264 : Shape := ⟨2, ![1024, 3264]⟩
abbrev S3264x1024 : Shape := ⟨2, ![3264, 1024]⟩
abbrev S_ : Shape := ⟨0, ![]⟩
abbrev S3328x1024 : Shape := ⟨2, ![3328, 1024]⟩
abbrev S8192x512 : Shape := ⟨2, ![8192, 512]⟩
abbrev S8192x384 : Shape := ⟨2, ![8192, 384]⟩
abbrev S8192x256 : Shape := ⟨2, ![8192, 256]⟩
abbrev S8192x128 : Shape := ⟨2, ![8192, 128]⟩
abbrev S512x1024 : Shape := ⟨2, ![512, 1024]⟩
abbrev S512x512 : Shape := ⟨2, ![512, 512]⟩
abbrev S512x384 : Shape := ⟨2, ![512, 384]⟩
abbrev S512x256 : Shape := ⟨2, ![512, 256]⟩
abbrev S512x128 : Shape := ⟨2, ![512, 128]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S384x1024 : Shape := ⟨2, ![384, 1024]⟩
abbrev S256x384 : Shape := ⟨2, ![256, 384]⟩
abbrev S256x256 : Shape := ⟨2, ![256, 256]⟩
abbrev S128x1024 : Shape := ⟨2, ![128, 1024]⟩
abbrev S256x128 : Shape := ⟨2, ![256, 128]⟩

abbrev nBuf : Space → Nat
  | .hbm => 19
  | .vmem => 22
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x3264, .f32⟩
  | .hbm, ⟨3, _⟩ => ⟨S8192x1024, .f32⟩
  | .hbm, ⟨4, _⟩ => ⟨S1024x3264, .f32⟩
  | .hbm, ⟨5, _⟩ => ⟨S3264x1024, .f32⟩
  | .hbm, ⟨6, _⟩ => ⟨S3264x1024, .bf16⟩
  | .hbm, ⟨7, _⟩ => ⟨S_, .i32⟩
  | .hbm, ⟨8, _⟩ => ⟨S_, .bf16⟩
  | .hbm, ⟨9, _⟩ => ⟨S3328x1024, .bf16⟩
  | .hbm, ⟨10, _⟩ => ⟨S8192x1024, .bf16⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x384, .f32⟩
  | .hbm, ⟨17, _⟩ => ⟨S8192x256, .f32⟩
  | .hbm, ⟨18, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3328x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x384, .f32⟩
  | .local _ .vmem, ⟨17, _⟩ => ⟨S512x384, .f32⟩
  | .local _ .vmem, ⟨18, _⟩ => ⟨S512x256, .f32⟩
  | .local _ .vmem, ⟨19, _⟩ => ⟨S512x256, .f32⟩
  | .local _ .vmem, ⟨20, _⟩ => ⟨S512x128, .f32⟩
  | .local _ .vmem, ⟨21, _⟩ => ⟨S512x128, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev main_v5_6 : Ref sig .tc := ⟨.hbm, 16, rfl⟩
abbrev main_v5_7 : Ref sig .tc := ⟨.hbm, 17, rfl⟩
abbrev main_v5_8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3328x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InfRefIdeal.lean ====
abbrev S2x4096x1024 : Shape := ⟨3, ![2, 4096, 1024]⟩
abbrev S1x1024 : Shape := ⟨2, ![1, 1024]⟩
abbrev S1x1024x3264 : Shape := ⟨3, ![1, 1024, 3264]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩
abbrev S1024x3264 : Shape := ⟨2, ![1024, 3264]⟩
abbrev S8192x3264 : Shape := ⟨2, ![8192, 3264]⟩
abbrev S8192x512 : Shape := ⟨2, ![8192, 512]⟩
abbrev S8192x384 : Shape := ⟨2, ![8192, 384]⟩
abbrev S8192x256 : Shape := ⟨2, ![8192, 256]⟩
abbrev S8192x64 : Shape := ⟨2, ![8192, 64]⟩
abbrev S8192x128 : Shape := ⟨2, ![8192, 128]⟩

abbrev nBuf : Space → Nat
  | .hbm => 35
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x3264, .f32⟩
  | .hbm, ⟨3, _⟩ => ⟨S1024, .f32⟩
  | .hbm, ⟨4, _⟩ => ⟨S2x4096x1024, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x1024, .f32⟩
  | .hbm, ⟨16, _⟩ => ⟨S2x4096x1024, .f32⟩
  | .hbm, ⟨17, _⟩ => ⟨S1x1x1024, .f32⟩
  | .hbm, ⟨18, _⟩ => ⟨S2x4096x1024, .f32⟩
  | .hbm, ⟨19, _⟩ => ⟨S2x4096x1024, .f32⟩
  | .hbm, ⟨20, _⟩ => ⟨S8192x1024, .f32⟩
  | .hbm, ⟨21, _⟩ => ⟨S1024x3264, .f32⟩
  | .hbm, ⟨22, _⟩ => ⟨S8192x3264, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x384, .f32⟩
  | .hbm, ⟨29, _⟩ => ⟨S8192x256, .f32⟩
  | .hbm, ⟨30, _⟩ => ⟨S8192x64, .f32⟩
  | .hbm, ⟨31, _⟩ => ⟨S8192x1024, .bf16⟩
  | .hbm, ⟨32, _⟩ => ⟨S_, .i32⟩
  | .hbm, ⟨33, _⟩ => ⟨S_, .f32⟩
  | .hbm, ⟨34, _⟩ => ⟨S8192x128, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_call0_v0 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Proof.Lift.lean ====
/- Lifting real arithmetic into the extended reals: the lemmas by which a value claim's programs, run on finite
   arguments, are read as real expressions. -/
module

public import Idealize.ShloMosaic.Lib.ReduceAll
public import Idealize.ShloMosaic.Lib.Pointwise
public import Idealize.ShloMosaic.Lib.ValueIdx
public import Idealize.ShloMosaic.PureOps.Ideal.Laws

@[expose] public section

set_option maxRecDepth 16384

noncomputable section

open Idealize.ShloMosaic

namespace Cert.Lift

/-! ## Sums, maxima and quotients of real elements -/

/-- A finite sum of real elements is the real sum. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A reduction by `maximum` from `-∞` over finitely many real elements, at least one, is one of them. -/
theorem fold_max_coe {n : ℕ} [NeZero n] (f : Fin n → ℝ) :
    ∃ M : ℝ, Finset.univ.fold max (⊥ : EReal) (fun k => ((f k : ℝ) : EReal)) = (M : EReal) := by
  classical
  have key : ∀ s : Finset (Fin n), s.Nonempty →
      ∃ M : ℝ, s.fold max (⊥ : EReal) (fun k => ((f k : ℝ) : EReal)) = (M : EReal) := by
    intro s
    induction s using Finset.induction_on with
    | empty => intro h; exact absurd h (by simp)
    | insert a s ha ih =>
      intro _
      rw [Finset.fold_insert ha]
      rcases s.eq_empty_or_nonempty with h | h
      · subst h; exact ⟨f a, by simp⟩
      · obtain ⟨M, hM⟩ := ih h
        exact ⟨max (f a) M, by rw [hM]; exact (EReal.coe_strictMono.monotone.map_max).symm⟩
  exact key _ ⟨0, Finset.mem_univ _⟩

/-- The real number that a reduction by `maximum` of real elements gives. -/
def rmax {n : ℕ} [NeZero n] (f : Fin n → ℝ) : ℝ := Classical.choose (fold_max_coe f)

theorem fold_max_eq {n : ℕ} [NeZero n] (f : Fin n → ℝ) :
    Finset.univ.fold max (⊥ : EReal) (fun k => ((f k : ℝ) : EReal)) = ((rmax f : ℝ) : EReal) :=
  Classical.choose_spec (fold_max_coe f)

/-- The same for a maximum and a start written in another way. -/
theorem fold_max_of {n : ℕ} [NeZero n] (op : EReal → EReal → EReal) [Std.Commutative op] [Std.Associative op] (hop : ∀ a b, op a b = max a b)
    (bot : EReal) (hbot : bot = ⊥) (f : Fin n → ℝ) :
    Finset.univ.fold op bot (fun k => ((f k : ℝ) : EReal)) = ((rmax f : ℝ) : EReal) := by
  obtain rfl : op = max := funext fun a => funext fun b => hop a b
  rw [hbot]
  exact fold_max_eq f

/-- The quotient of two reals, the divisor off zero. -/
theorem div_real {y : ℝ} (h : y ≠ 0) (x : ℝ) : Ideal.div (x : EReal) (y : EReal) = ((x / y : ℝ) : EReal) := by
  rw [Ideal.div_coe h, ← EReal.coe_mul, mul_one_div]

/-- The base-2 exponential at a real. -/
theorem exp2_real (x : ℝ) : Ideal.exp2 (x : EReal) = ((Real.exp (x * Real.log 2) : ℝ) : EReal) := by
  rw [Ideal.exp2_coe]
  congr 1
  show (2 : ℝ) ^ x = _
  rw [Real.rpow_def_of_pos (by norm_num), mul_comm]

/-- The logarithm at a positive real. -/
theorem log_real {x : ℝ} (h : 0 < x) : Ideal.log (x : EReal) = ((Real.log x : ℝ) : EReal) := by
  rw [Ideal.log_coe, if_neg (not_le.mpr h)]

/-- The reciprocal square root at a positive real. -/
theorem rsqrt_real {x : ℝ} (h : 0 < x) : Ideal.rsqrt (x : EReal) = (((Real.sqrt x)⁻¹ : ℝ) : EReal) := by
  rw [Ideal.rsqrt_coe, if_neg (not_lt.mpr h.le), if_neg h.ne']

/-! ## Finite arguments -/

/-- An extended real whose absolute value is below `+∞` is real. -/
theorem real_of_abs_lt (x : EReal) (h : max x (-x) < ⊤) : ∃ r : ℝ, x = (r : EReal) := by
  induction x with
  | bot => simp at h
  | coe r => exact ⟨r, rfl⟩
  | top => simp at h

/-- `jnp.all(jnp.abs(x) < jnp.inf)` being true, every element of `x` is real. -/
theorem real_of_all {s t u : Shape} {axes : List (Fin s.rank)} [Subsingleton t.Idx] (x y : FVec Ideal s .f32) (hy : ∀ i, y i = ⊤)
    (init : IVec u 1) (h : s.ReducesTo axes t) (hu : 0 < u.numel) (j : t.Idx)
    (e : Host.reduce IntOp.andi (cmpf .olt (Host.absf x) y) init h hu j = 1#1) (i : s.Idx) : ∃ r : ℝ, x i = (r : EReal) := by
  have e' := Host.reduce_andi_all _ _ _ _ j e i
  refine real_of_abs_lt _ ?_
  have h2 : Ideal.cmp .olt (max (x i) (-(x i))) (y i) = 1#1 := e'
  rw [hy i] at h2
  simp only [Ideal.cmp] at h2
  by_contra hc
  rw [decide_eq_false hc] at h2
  exact absurd h2 (by decide)

/-- The real array whose elements an array of reals has. -/
theorem exists_real {s : Shape} (x : FVec Ideal s .f32) (h : ∀ i, ∃ r : ℝ, x i = (r : EReal)) :
    ∃ f : s.Idx → ℝ, x = fun i => ((f i : ℝ) : EReal) :=
  ⟨fun i => Classical.choose (h i), funext fun i => Classical.choose_spec (h i)⟩

theorem ofBits_inf : Ideal.ofBits .f32 0x7F800000#32 = ⊤ := by simp [Ideal.ofBits, Ideal.ieee]
theorem ofBits_neg_inf : Ideal.ofBits .f32 0xFF800000#32 = ⊥ := by simp [Ideal.ofBits, Ideal.ieee]
theorem ofBits_two : Ideal.ofBits .f32 0x40000000#32 = ((2 : ℝ) : EReal) := by
  simp [Ideal.ofBits, Ideal.ieee]
  rw [← EReal.coe_mul]
  norm_num
theorem ofBits_192 : Ideal.ofBits .f32 0x43400000#32 = ((192 : ℝ) : EReal) := by
  simp [Ideal.ofBits, Ideal.ieee]
  rw [← EReal.coe_mul]
  norm_num

end Cert.Lift
-- ==== Proof.AttSpec.lean ====
/- The attention's gradients as real expressions: the softmax of the scaled scores, its weighted sum, and what the
   chain rule gives for q, k and v. Both programs of the attention's claim are shown to compute these. -/
module

public import proofs.«01_k».proof.Proof.Lift

@[expose] public section

noncomputable section

open Idealize.ShloMosaic

namespace Cert.Att

/-- The arguments: q (its first 128 lanes meet `kn`, its last 64 meet `kr`), k without its rotary part, k's rotary part
    (one for all heads), v, and the cotangent of the attention's output. -/
structure Args where
  q : Fin 2 → Fin 4096 → Fin 4 → Fin 192 → ℝ
  kn : Fin 2 → Fin 4096 → Fin 4 → Fin 128 → ℝ
  kr : Fin 2 → Fin 4096 → Fin 64 → ℝ
  v : Fin 2 → Fin 4096 → Fin 4 → Fin 128 → ℝ
  g : Fin 2 → Fin 4096 → Fin 4 → Fin 128 → ℝ

/-- The whole key of one head: `kn` then `kr`. -/
def Args.k (A : Args) (b : Fin 2) (s : Fin 4096) (h : Fin 4) (d : Fin 192) : ℝ :=
  if hd : d.val < 128 then A.kn b s h ⟨d.val, hd⟩ else A.kr b s ⟨d.val - 128, by omega⟩

/-- An array's rows padded with zeros from 192 lanes to 256. -/
def pad256 (f : Fin 192 → ℝ) (d : Fin 256) : ℝ := if hd : d.val < 192 then f ⟨d.val, hd⟩ else 0

/-- The scale of the scores. -/
def sc : ℝ := (Real.sqrt 192)⁻¹

/-- The softmax of a row. -/
def softmax {n : ℕ} (f : Fin n → ℝ) (j : Fin n) : ℝ := Real.exp (f j) / ∑ k, Real.exp (f k)

variable (A : Args)

def raw (b : Fin 2) (h : Fin 4) (i j : Fin 4096) : ℝ := ∑ d, A.q b i h d * A.k b j h d
def P (b : Fin 2) (h : Fin 4) (i j : Fin 4096) : ℝ := softmax (fun j => raw A b h i j * sc) j
def DP (b : Fin 2) (h : Fin 4) (i j : Fin 4096) : ℝ := ∑ e, A.g b i h e * A.v b j h e
def DS (b : Fin 2) (h : Fin 4) (i j : Fin 4096) : ℝ := P A b h i j * (DP A b h i j - ∑ k, P A b h i k * DP A b h i k)
/-- The gradients of v, k and q. -/
def dv (b : Fin 2) (s : Fin 4096) (h : Fin 4) (e : Fin 128) : ℝ := ∑ i, P A b h i s * A.g b i h e
def dk (b : Fin 2) (s : Fin 4096) (h : Fin 4) (d : Fin 192) : ℝ := (∑ i, DS A b h i s * A.q b i h d) * sc
def dq (b : Fin 2) (s : Fin 4096) (h : Fin 4) (d : Fin 192) : ℝ := (∑ j, DS A b h s j * A.k b j h d) * sc

/-! ## The softmax -/

theorem sum_exp_pos {n : ℕ} [NeZero n] (f : Fin n → ℝ) : 0 < ∑ k, Real.exp (f k) :=
  Finset.sum_pos (fun _ _ => Real.exp_pos _) ⟨0, Finset.mem_univ _⟩

/-- A softmax does not see a shift of its row. -/
theorem softmax_shift {n : ℕ} [NeZero n] (f : Fin n → ℝ) (M : ℝ) (j : Fin n) :
    Real.exp (f j - M) / ∑ k, Real.exp (f k - M) = softmax f j := by
  simp only [softmax, Real.exp_sub, ← Finset.sum_div]
  have := sum_exp_pos f
  have := Real.exp_pos M
  field_simp

/-- The softmax's derivative as the quotient's rule spells it. -/
theorem softmax_vjp {n : ℕ} [NeZero n] (f g : Fin n → ℝ) (M : ℝ) (j : Fin n) :
    (g j / (∑ k, Real.exp (f k - M))
        + -∑ k, g k * (1 / ((∑ k, Real.exp (f k - M)) * ∑ k, Real.exp (f k - M))) * Real.exp (f k - M)) * Real.exp (f j - M)
      = softmax f j * (g j - ∑ k, softmax f k * g k) := by
  simp only [← softmax_shift f M]
  have hl := sum_exp_pos fun k => f k - M
  set l := ∑ k, Real.exp (f k - M) with hl'
  have h2 : ∑ k, g k * (1 / (l * l)) * Real.exp (f k - M) = (∑ k, Real.exp (f k - M) / l * g k) / l := by
    rw [Finset.sum_div]
    exact Finset.sum_congr rfl fun k _ => by field_simp
  rw [h2]
  field_simp
  ring

/-! ## Padded rows -/

/-- A row padded with zeros, as the host's `pad` reads at an index. -/
theorem pad_eq (f : Fin 192 → ℝ) (d : Fin 256) (a b c : Prop) [Decidable a] [Decidable b] [Decidable c] (ha : a) (hb : b) (hc : c)
    (z : EReal) (hz : z = 0) :
    (if h : a ∧ b ∧ c ∧ d.val < 192 then ((f ⟨d.val, h.2.2.2⟩ : ℝ) : EReal) else z) = ((pad256 f d : ℝ) : EReal) := by
  by_cases h : d.val < 192
  · rw [dif_pos ⟨ha, hb, hc, h⟩, pad256, dif_pos h]
  · rw [dif_neg fun e => h e.2.2.2, pad256, dif_neg h, hz, EReal.coe_zero]

/-- The integer zero as a float is zero. -/
theorem sitofp_zero : (FloatOps.sitofp .f32 (0#32 : BitVec 32) : Ideal .f32) = (0 : EReal) := by
  show (((0#32 : BitVec 32).toInt : ℝ) : EReal) = 0
  simp

/-- Padded lanes add nothing to a product. -/
theorem sum_pad (f g : Fin 192 → ℝ) : ∑ d, pad256 f d * pad256 g d = ∑ d, f d * g d := by
  rw [Fin.sum_univ_two_halves 192 64 rfl]
  rw [add_eq_left.mpr]
  · exact Finset.sum_congr rfl fun d _ => by simp [pad256]
  · exact Finset.sum_eq_zero fun d _ => by simp [pad256]

end Cert.Att
-- ==== Proof.AttHost.lean ====
/- What the attention gradient's host lines give the kernel on real arguments: the padded q and k, v and the cotangent in
   rows, each row's log-sum and each row's sum of (cotangent · output). -/
module

public import proofs.«01_k».proof.Proof.AttSpec
public import proofs.«01_k».proof.Proof.Gen.AttnBwdIdeal.Frame
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.Att.Host

open Cert.AttnBwdIdeal Cert.AttnBwdIdeal.Gen Cert.Lift

/-! ## The host lines, composed -/

variable (x0 : FVec Ideal S2x4096x4x192 .f32) (x1 : FVec Ideal S2x4096x4x128 .f32) (x2 : FVec Ideal S2x4096x64 .f32)
  (x3 x4 : FVec Ideal S2x4096x4x128 .f32)

def key : FVec Ideal S2x4096x4x192 .f32 :=
  concatenate S2x4096x4x192 3 [⟨S2x4096x4x128, x1⟩, ⟨S2x4096x4x64, broadcastInDim S2x4096x4x64 ![0, 1, 2, 3] bcast_S2x4096x1x64_S2x4096x4x64_0_1_2_3
    (broadcastInDim S2x4096x1x64 ![0, 1, 3] bcast_S2x4096x64_S2x4096x1x64_0_1_3 x2)⟩] concatenates_S2x4096x4x128_S2x4096x4x64_S2x4096x4x192_d3
def ln2 : FVec Ideal S_ .f32 := Host.log (constant S_ .f32 0x40000000#32)
def log2e : FVec Ideal S_ .f32 := Host.divf (constant S_ .f32 0x3F800000#32) ln2
def scl : FVec Ideal S_ .f32 := mulf (Host.rsqrt (constant S_ .f32 0x43400000#32)) log2e
def scores : FVec Ideal S2x4x4096x4096 .f32 := Host.dotGeneral dot_S2x4096x4x192_S2x4096x4x192_S2x4x4096x4096_3_3_1_1_02_02 none x0 (key x1 x2)
def top : FVec Ideal S2x4x4096 .f32 := Host.reduce FloatOps.maximumf (scores x0 x1 x2) (constant S_ .f32 0xFF800000#32) reducesTo_S2x4x4096x4096_S2x4x4096_d3 h_S_
def topCol : FVec Ideal S2x4x4096x1 .f32 := broadcastInDim S2x4x4096x1 ![0, 1, 2] bcast_S2x4x4096_S2x4x4096x1_0_1_2 (top x0 x1 x2)
def ex : FVec Ideal S2x4x4096x4096 .f32 :=
  Host.exp (mulf (broadcastInDim S2x4x4096x4096 ![] bcast_S_S2x4x4096x4096 ln2)
    (mulf (subf (scores x0 x1 x2) (broadcastInDim S2x4x4096x4096 ![0, 1, 2, 3] bcast_S2x4x4096x1_S2x4x4096x4096_0_1_2_3 (topCol x0 x1 x2)))
      (broadcastInDim S2x4x4096x4096 ![] bcast_S_S2x4x4096x4096 scl)))
def lsum : FVec Ideal S2x4x4096 .f32 := Host.reduceAdd (ex x0 x1 x2) (constant S_ .f32 0x00000000#32) reducesTo_S2x4x4096x4096_S2x4x4096_d3 h_S_
def lsumCol : FVec Ideal S2x4x4096x1 .f32 := broadcastInDim S2x4x4096x1 ![0, 1, 2] bcast_S2x4x4096_S2x4x4096x1_0_1_2 (lsum x0 x1 x2)
def out : FVec Ideal S2x4x4096x128 .f32 :=
  Host.divf (Host.dotGeneral dot_S2x4x4096x4096_S2x4096x4x128_S2x4x4096x128_3_1_2_3_01_02 none (ex x0 x1 x2) x3)
    (broadcastInDim S2x4x4096x128 ![0, 1, 2, 3] bcast_S2x4x4096x1_S2x4x4096x128_0_1_2_3 (lsumCol x0 x1 x2))
def lseCol : FVec Ideal S2x4x4096x1 .f32 :=
  addf (mulf (topCol x0 x1 x2) (broadcastInDim S2x4x4096x1 ![] bcast_S_S2x4x4096x1 scl))
    (mulf (Host.log (lsumCol x0 x1 x2)) (broadcastInDim S2x4x4096x1 ![] bcast_S_S2x4x4096x1 log2e))
def lse : FVec Ideal S4x1x8192 .f32 :=
  shapeCast S4x1x8192 (transpose S4x2x4096 [1, 0, 2] (shapeCast S2x4x4096 (lseCol x0 x1 x2) shapeCasts_S2x4x4096x1_S2x4x4096)
    transposes_S2x4x4096_S4x2x4096_1_0_2) shapeCasts_S4x2x4096_S4x1x8192
def delta : FVec Ideal S4x1x8192 .f32 :=
  shapeCast S4x1x8192 (transpose S4x8192 [1, 0] (shapeCast S8192x4
    (Host.reduceAdd (mulf x4 (transpose S2x4096x4x128 [0, 2, 1, 3] (out x0 x1 x2 x3) transposes_S2x4x4096x128_S2x4096x4x128_0_2_1_3))
      (constant S_ .f32 0x00000000#32) reducesTo_S2x4096x4x128_S2x4096x4_d3 h_S_) shapeCasts_S2x4096x4_S8192x4)
    transposes_S8192x4_S4x8192_1_0) shapeCasts_S4x8192_S4x1x8192

/-! ## The kernel's operands are these -/

section Entry
variable (m : (ℓ : Loc nD τ sig) → Buf (Elt Ideal) ℓ) (c : Dev nD)

theorem V_lse : V m c main_v31 = lse (m ((c : Thread nD τ).loc main_arg0)) (m ((c : Thread nD τ).loc main_arg1)) (m ((c : Thread nD τ).loc main_arg2)) := by
  unfold V
  after_reads_simp
  rfl

theorem V_delta : V m c main_v36 = delta (m ((c : Thread nD τ).loc main_arg0)) (m ((c : Thread nD τ).loc main_arg1)) (m ((c : Thread nD τ).loc main_arg2))
    (m ((c : Thread nD τ).loc main_arg3)) (m ((c : Thread nD τ).loc main_arg4)) := by
  unfold V
  after_reads_simp
  rfl

theorem V_q : V m c main_v39 = (truncf .bf16 (shapeCast S8192x1024 (pad S2x4096x4x256 ![0, 0, 0, 0] ![0, 0, 0, 64] ![0, 0, 0, 0]
    (m ((c : Thread nD τ).loc main_arg0) : FVec Ideal S2x4096x4x192 .f32) (sitofp .f32 (constantI S_ 32 0#32) : FVec Ideal S_ .f32) pads_S2x4096x4x192_S2x4096x4x256_000_000_000_0640 h_S_)
    shapeCasts_S2x4096x4x256_S8192x1024) bitsLt_bf16_f32 : FVec Ideal S8192x1024 .bf16) := by
  rfl

theorem V_k : V m c main_v42 = (truncf .bf16 (shapeCast S8192x1024 (pad S2x4096x4x256 ![0, 0, 0, 0] ![0, 0, 0, 64] ![0, 0, 0, 0]
    (key (m ((c : Thread nD τ).loc main_arg1)) (m ((c : Thread nD τ).loc main_arg2))) (sitofp .f32 (constantI S_ 32 0#32) : FVec Ideal S_ .f32) pads_S2x4096x4x192_S2x4096x4x256_000_000_000_0640 h_S_)
    shapeCasts_S2x4096x4x256_S8192x1024) bitsLt_bf16_f32 : FVec Ideal S8192x1024 .bf16) := by
  unfold V
  after_reads_simp
  rfl

theorem V_v : V m c main_v44 = (truncf .bf16 (shapeCast S8192x512 (m ((c : Thread nD τ).loc main_arg3) : FVec Ideal S2x4096x4x128 .f32)
    shapeCasts_S2x4096x4x128_S8192x512) bitsLt_bf16_f32 : FVec Ideal S8192x512 .bf16) := by
  unfold V
  after_reads_simp
  rfl

theorem V_do : V m c main_v46 = (truncf .bf16 (shapeCast S8192x512 (m ((c : Thread nD τ).loc main_arg4) : FVec Ideal S2x4096x4x128 .f32)
    shapeCasts_S2x4096x4x128_S8192x512) bitsLt_bf16_f32 : FVec Ideal S8192x512 .bf16) := by
  unfold V
  after_reads_simp
  rfl

end Entry

/-! ## On real arguments -/

def X0 (A : Args) : FVec Ideal S2x4096x4x192 .f32 := fun i => ((A.q (i 0) (i 1) (i 2) (i 3) : ℝ) : EReal)
def X1 (A : Args) : FVec Ideal S2x4096x4x128 .f32 := fun i => ((A.kn (i 0) (i 1) (i 2) (i 3) : ℝ) : EReal)
def X2 (A : Args) : FVec Ideal S2x4096x64 .f32 := fun i => ((A.kr (i 0) (i 1) (i 2) : ℝ) : EReal)
def X3 (A : Args) : FVec Ideal S2x4096x4x128 .f32 := fun i => ((A.v (i 0) (i 1) (i 2) (i 3) : ℝ) : EReal)
def X4 (A : Args) : FVec Ideal S2x4096x4x128 .f32 := fun i => ((A.g (i 0) (i 1) (i 2) (i 3) : ℝ) : EReal)

variable (A : Args) (b : Fin 2) (h : Fin 4) (i j : Fin 4096)

theorem key_eq (d : Fin 192) : key (X1 A) (X2 A) (ix4 b i h d) = ((A.k b i h d : ℝ) : EReal) := by
  pointwise [key, X1, X2]
  by_cases hd : d.val < 128
  · rw [dif_pos hd, Args.k, dif_pos hd]
  · rw [dif_neg hd, Args.k, dif_neg hd]

theorem ln2_eq : ln2 ix0 = ((Real.log 2 : ℝ) : EReal) := by
  pointwise [ln2]
  rw [ofBits_two, log_real (by norm_num)]

theorem log2e_eq : log2e ix0 = ((1 / Real.log 2 : ℝ) : EReal) := by
  pointwise [log2e, ln2_eq]
  rw [← EReal.coe_one, div_real (Real.log_pos (by norm_num)).ne']

theorem scl_eq : scl ix0 = ((sc * (1 / Real.log 2) : ℝ) : EReal) := by
  pointwise [scl, log2e_eq]
  rw [ofBits_192, rsqrt_real (by norm_num), ← EReal.coe_mul]
  rfl

theorem scores_eq : scores (X0 A) (X1 A) (X2 A) (ix4 b h i j) = ((raw A b h i j : ℝ) : EReal) := by
  pointwise [scores, key_eq, X0]
  simp only [← EReal.coe_mul, sum_coe, raw]

/-- The row's greatest score. -/
def mx (A : Args) (b : Fin 2) (h : Fin 4) (i : Fin 4096) : ℝ := rmax fun j => raw A b h i j

theorem mx_eq (x : EReal) (hx : x = ⊥) :
    Finset.univ.fold (max : Ideal .f32 → Ideal .f32 → Ideal .f32) x (fun j => ((raw A b h i j : ℝ) : EReal)) = ((mx A b h i : ℝ) : EReal) := by
  subst hx
  exact fold_max_eq _

theorem top_eq : top (X0 A) (X1 A) (X2 A) (ix3 b h i) = ((mx A b h i : ℝ) : EReal) := by
  have key := mx_eq A b h i _ ofBits_neg_inf
  pointwise [top, scores_eq]
  generalize mx A b h i = M at key ⊢
  generalize (fun j => ((raw A b h i j : ℝ) : EReal)) = f at key ⊢
  exact key

theorem log2_ne : Real.log 2 ≠ 0 := (Real.log_pos (by norm_num)).ne'

/-- The exponentials over any arrays of scores and greatest scores. -/
def exOf (S : FVec Ideal S2x4x4096x4096 .f32) (T : FVec Ideal S2x4x4096 .f32) : FVec Ideal S2x4x4096x4096 .f32 :=
  Host.exp (mulf (broadcastInDim S2x4x4096x4096 ![] bcast_S_S2x4x4096x4096 ln2)
    (mulf (subf S (broadcastInDim S2x4x4096x4096 ![0, 1, 2, 3] bcast_S2x4x4096x1_S2x4x4096x4096_0_1_2_3
      (broadcastInDim S2x4x4096x1 ![0, 1, 2] bcast_S2x4x4096_S2x4x4096x1_0_1_2 T)))
      (broadcastInDim S2x4x4096x4096 ![] bcast_S_S2x4x4096x4096 scl)))

theorem exOf_eq (S : FVec Ideal S2x4x4096x4096 .f32) (T : FVec Ideal S2x4x4096 .f32) (r t : ℝ) (hr : S (ix4 b h i j) = ((r : ℝ) : EReal))
    (ht : T (ix3 b h i) = ((t : ℝ) : EReal)) : exOf S T (ix4 b h i j) = ((Real.exp (r * sc - t * sc) : ℝ) : EReal) := by
  pointwise [exOf, ln2_eq, scl_eq, hr, ht]
  simp only [← EReal.coe_sub, ← EReal.coe_mul, Ideal.exp_coe]
  congr 2
  have := log2_ne
  field_simp

theorem ex_eq : ex (X0 A) (X1 A) (X2 A) (ix4 b h i j) = ((Real.exp (raw A b h i j * sc - mx A b h i * sc) : ℝ) : EReal) :=
  exOf_eq b h i j (scores (X0 A) (X1 A) (X2 A)) (top (X0 A) (X1 A) (X2 A)) _ _ (scores_eq A b h i j) (top_eq A b h i)

/-- The row's sum of exponentials. -/
def ls (A : Args) (b : Fin 2) (h : Fin 4) (i : Fin 4096) : ℝ := ∑ j : Fin 4096, Real.exp (raw A b h i j * sc - mx A b h i * sc)

theorem ls_pos : 0 < ls A b h i := sum_exp_pos _

theorem lsum_eq : lsum (X0 A) (X1 A) (X2 A) (ix3 b h i) = ((ls A b h i : ℝ) : EReal) := by
  pointwise [lsum, ex_eq]
  simp only [sum_coe, zero_add, ls]

/-- What the forward pass saves of a row: its log-sum to base 2. -/
def rowLse (A : Args) (b : Fin 2) (h : Fin 4) (i : Fin 4096) : ℝ := mx A b h i * (sc * (1 / Real.log 2)) + Real.log (ls A b h i) * (1 / Real.log 2)

/-- The log-sums over any arrays of greatest scores and sums. -/
def lseOf (T L : FVec Ideal S2x4x4096 .f32) : FVec Ideal S2x4x4096x1 .f32 :=
  addf (mulf (broadcastInDim S2x4x4096x1 ![0, 1, 2] bcast_S2x4x4096_S2x4x4096x1_0_1_2 T) (broadcastInDim S2x4x4096x1 ![] bcast_S_S2x4x4096x1 scl))
    (mulf (Host.log (broadcastInDim S2x4x4096x1 ![0, 1, 2] bcast_S2x4x4096_S2x4x4096x1_0_1_2 L)) (broadcastInDim S2x4x4096x1 ![] bcast_S_S2x4x4096x1 log2e))

theorem lseOf_eq (T L : FVec Ideal S2x4x4096 .f32) (t l : ℝ) (ht : T (ix3 b h i) = ((t : ℝ) : EReal)) (hl : L (ix3 b h i) = ((l : ℝ) : EReal)) (hl0 : 0 < l)
    (z : Fin 1) : lseOf T L (ix4 b h i z) = ((t * (sc * (1 / Real.log 2)) + Real.log l * (1 / Real.log 2) : ℝ) : EReal) := by
  pointwise [lseOf, scl_eq, log2e_eq, ht, hl]
  rw [log_real hl0]
  simp only [← EReal.coe_mul, ← EReal.coe_add]

theorem lseCol_eq (z : Fin 1) : lseCol (X0 A) (X1 A) (X2 A) (ix4 b h i z) = ((rowLse A b h i : ℝ) : EReal) :=
  lseOf_eq b h i (top (X0 A) (X1 A) (X2 A)) (lsum (X0 A) (X1 A) (X2 A)) _ _ (top_eq A b h i) (lsum_eq A b h i) (ls_pos A b h i) z

theorem lse_eq (z : Fin 1) (s : Fin 8192) : lse (X0 A) (X1 A) (X2 A) (ix3 h z s)
    = ((rowLse A ⟨s.val / 4096, by omega⟩ h ⟨s.val % 4096, by omega⟩ : ℝ) : EReal) := by
  pointwise [lse, lseCol_eq]

theorem out_eq (e : Fin 128) : out (X0 A) (X1 A) (X2 A) (X3 A) (ix4 b h i e) = ((∑ j, P A b h i j * A.v b j h e : ℝ) : EReal) := by
  pointwise [out, lsumCol, lsum_eq, ex_eq, X3]
  simp only [← EReal.coe_mul, sum_coe]
  rw [div_real (ls_pos A b h i).ne', Finset.sum_div]
  congr 1
  refine Finset.sum_congr rfl fun j _ => ?_
  rw [P, ← softmax_shift _ (mx A b h i * sc)]
  exact (div_mul_eq_mul_div _ _ _).symm

/-- A row's sum of (cotangent · output), as the sum over the keys. -/
def rowDelta (A : Args) (b : Fin 2) (h : Fin 4) (i : Fin 4096) : ℝ := ∑ k, P A b h i k * DP A b h i k

theorem rowDelta_eq : ∑ e, A.g b i h e * ∑ j, P A b h i j * A.v b j h e = rowDelta A b h i := by
  simp only [rowDelta, DP, Finset.mul_sum]
  rw [Finset.sum_comm]
  exact Finset.sum_congr rfl fun _ _ => Finset.sum_congr rfl fun _ _ => by ring

theorem delta_eq (z : Fin 1) (s : Fin 8192) : delta (X0 A) (X1 A) (X2 A) (X3 A) (X4 A) (ix3 h z s)
    = ((rowDelta A ⟨s.val / 4096, by omega⟩ h ⟨s.val % 4096, by omega⟩ : ℝ) : EReal) := by
  pointwise [delta, out_eq, X4]
  simp only [← EReal.coe_mul, sum_coe, zero_add]
  congr 1
  have hh : (⟨s.val % 4096 * 4 + h.val, by omega⟩ : Fin 16384) = ⟨s.val % 4096 * 4 + h.val, by omega⟩ := rfl
  exact rowDelta_eq A _ _ _

/-! ## The operands at a row of all batch entries and a column of all heads -/

def row (b : Fin 2) (i : Fin 4096) : Fin 8192 := ⟨b.val * 4096 + i.val, by omega⟩
def col256 (h : Fin 4) (d : Fin 256) : Fin 1024 := ⟨h.val * 256 + d.val, by omega⟩
def col128 (h : Fin 4) (e : Fin 128) : Fin 512 := ⟨h.val * 128 + e.val, by omega⟩

theorem row_div (hb) : (⟨(row b i).val / 4096, hb⟩ : Fin 2) = b := Fin.ext (by simp only [row]; omega)
theorem row_mod (hb) : (⟨(row b i).val % 4096, hb⟩ : Fin 4096) = i := Fin.ext (by simp only [row]; omega)
theorem col256_div (d : Fin 256) (hb) : (⟨(col256 h d).val / 256, hb⟩ : Fin 4) = h := Fin.ext (by simp only [col256]; omega)
theorem col256_mod (d : Fin 256) (hb) : (⟨(col256 h d).val % 256, hb⟩ : Fin 256) = d := Fin.ext (by simp only [col256]; omega)
theorem col128_div (e : Fin 128) (hb) : (⟨(col128 h e).val / 128, hb⟩ : Fin 4) = h := Fin.ext (by simp only [col128]; omega)
theorem col128_mod (e : Fin 128) (hb) : (⟨(col128 h e).val % 128, hb⟩ : Fin 128) = e := Fin.ext (by simp only [col128]; omega)

/-- The padded rows of q or k, over any array that holds `f`. -/
theorem padded_eq (x : FVec Ideal S2x4096x4x192 .f32) (f : Fin 2 → Fin 4096 → Fin 4 → Fin 192 → ℝ) (hx : ∀ b i h d, x (ix4 b i h d) = ((f b i h d : ℝ) : EReal))
    (d : Fin 256) :
    (truncf .bf16 (shapeCast S8192x1024 (pad S2x4096x4x256 ![0, 0, 0, 0] ![0, 0, 0, 64] ![0, 0, 0, 0]
      x (sitofp .f32 (constantI S_ 32 0#32) : FVec Ideal S_ .f32) pads_S2x4096x4x192_S2x4096x4x256_000_000_000_0640 h_S_)
      shapeCasts_S2x4096x4x256_S8192x1024) bitsLt_bf16_f32 : FVec Ideal S8192x1024 .bf16) (ix2 (row b i) (col256 h d)) = ((pad256 (f b i h) d : ℝ) : EReal) := by
  pointwise [hx]
  have key := pad_eq (f ⟨(row b i).val / 4096, by omega⟩ ⟨(row b i).val % 4096, by omega⟩ ⟨(col256 h d).val / 256, by omega⟩) ⟨(col256 h d).val % 256, by omega⟩
    ((row b i).val / 4096 < 2) ((row b i).val % 4096 < 4096) ((col256 h d).val / 256 < 4) (by omega) (by omega) (by omega) _ sitofp_zero
  refine key.trans ?_
  simp only [row_div, row_mod, col256_div, col256_mod]

/-- The rows of v or the cotangent. -/
theorem flat_eq (x : FVec Ideal S2x4096x4x128 .f32) (f : Fin 2 → Fin 4096 → Fin 4 → Fin 128 → ℝ) (hx : ∀ b i h d, x (ix4 b i h d) = ((f b i h d : ℝ) : EReal))
    (e : Fin 128) :
    (truncf .bf16 (shapeCast S8192x512 x shapeCasts_S2x4096x4x128_S8192x512) bitsLt_bf16_f32 : FVec Ideal S8192x512 .bf16) (ix2 (row b i) (col128 h e))
      = ((f b i h e : ℝ) : EReal) := by
  pointwise [hx]
  simp only [row_div, row_mod, col128_div, col128_mod]

theorem lse_row (z : Fin 1) : lse (X0 A) (X1 A) (X2 A) (ix3 h z (row b i)) = ((rowLse A b h i : ℝ) : EReal) := by
  rw [lse_eq]
  simp only [row_div, row_mod]

theorem delta_row (z : Fin 1) : delta (X0 A) (X1 A) (X2 A) (X3 A) (X4 A) (ix3 h z (row b i)) = ((rowDelta A b h i : ℝ) : EReal) := by
  rw [delta_eq]
  simp only [row_div, row_mod]

/-- A score through the saved log-sum is its softmax. -/
theorem softmax_of_saved : Real.exp ((raw A b h i j * (sc * (Real.log 2)⁻¹) - rowLse A b h i) * Real.log 2) = P A b h i j := by
  have h2 := log2_ne
  have e : (raw A b h i j * (sc * (Real.log 2)⁻¹) - rowLse A b h i) * Real.log 2 = (raw A b h i j * sc - mx A b h i * sc) - Real.log (ls A b h i) := by
    rw [rowLse]
    field_simp
    ring
  rw [e, Real.exp_sub, Real.exp_log (ls_pos A b h i), P, ← softmax_shift _ (mx A b h i * sc)]
  rfl

end Cert.Att.Host
-- ==== Proof.AttPoint.lean ====
/- One grid point of the attention gradient on real blocks. -/
module

public import proofs.«01_k».proof.Proof.AttHost
public import proofs.«01_k».proof.Proof.Gen.AttnBwdIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Att.Point

open Cert.AttnBwdIdeal Cert.AttnBwdIdeal.Gen Cert.Lift

/-! ## One group of 512 keys -/

section Group
variable (x0 : Vec Ideal S4096x256 .bf16) (x3 : Vec Ideal S4096x128 .bf16) (x4 x5 : Vec Ideal S1x1x4096 .f32)
  (kg : Vec Ideal S512x256 .bf16) (vg : Vec Ideal S512x128 .bf16)
  (Q : Fin 4096 → Fin 256 → ℝ) (G : Fin 4096 → Fin 128 → ℝ) (L D : Fin 4096 → ℝ) (K : Fin 512 → Fin 256 → ℝ) (V : Fin 512 → Fin 128 → ℝ)

/-- A score through the saved log-sum. -/
def pt {n : ℕ} (Q : Fin 4096 → Fin 256 → ℝ) (L : Fin 4096 → ℝ) (K : Fin n → Fin 256 → ℝ) (s : Fin n) (i : Fin 4096) : ℝ :=
  Real.exp (((∑ d, K s d * Q i d) * (sc * (Real.log 2)⁻¹) - L i) * Real.log 2)

/-- The gradient of a score. -/
def ds {n : ℕ} (Q : Fin 4096 → Fin 256 → ℝ) (G : Fin 4096 → Fin 128 → ℝ) (L D : Fin 4096 → ℝ) (K : Fin n → Fin 256 → ℝ) (V : Fin n → Fin 128 → ℝ)
    (s : Fin n) (i : Fin 4096) : ℝ :=
  pt Q L K s i * (∑ e, V s e * G i e - D i)

theorem named_scale : (Named.named κ "scale" 0x3D93CD3A#32 : Ideal .f32) = ((sc : ℝ) : EReal) :=
  IdealRules.named_const.ideal_named_scalar _ _ _ _ rfl

theorem named_scale2 : (Named.named κ "scale_log2e" 0x3DD53B95#32 : Ideal .f32) = ((sc * (Real.log 2)⁻¹ : ℝ) : EReal) :=
  IdealRules.named_const.ideal_named_scalar _ _ _ _ rfl

variable (h0 : ∀ i d, x0 (ix2 i d) = ((Q i d : ℝ) : EReal)) (h3 : ∀ i e, x3 (ix2 i e) = ((G i e : ℝ) : EReal))
  (h4 : ∀ i, x4 (ix3 0 0 i) = ((L i : ℝ) : EReal)) (h5 : ∀ i, x5 (ix3 0 0 i) = ((D i : ℝ) : EReal))
  (hk : ∀ s d, kg (ix2 s d) = ((K s d : ℝ) : EReal)) (hv : ∀ s e, vg (ix2 s e) = ((V s e : ℝ) : EReal))

include h0 h4 hk in
theorem pay8_eq (s : Fin 512) (i : Fin 4096) : k0_pay8 (F := Ideal) x0 kg x4 (ix2 s i) = ((pt Q L K s i : ℝ) : EReal) := by
  pointwise [k0_pay8, k0_pay6, h0, h4, hk, named_scale2]
  simp only [← EReal.coe_mul, sum_coe, zero_add, ← EReal.coe_sub]
  exact exp2_real _

include h0 h3 h4 hk in
theorem pay9_eq (s : Fin 512) (e : Fin 128) : k0_pay9 (F := Ideal) x0 x3 kg x4 (ix2 s e) = ((∑ i, pt Q L K s i * G i e : ℝ) : EReal) := by
  have key := pay8_eq x0 x4 kg Q L K h0 h4 hk
  pointwise [k0_pay9, k0_pay7, h3, key]
  simp only [← EReal.coe_mul, sum_coe, zero_add]

include h0 h3 h4 h5 hk hv in
theorem pay10_eq (s : Fin 512) (i : Fin 4096) : k0_pay10 (F := Ideal) x0 x3 kg x4 vg x5 (ix2 s i) = ((ds Q G L D K V s i : ℝ) : EReal) := by
  have key := pay8_eq x0 x4 kg Q L K h0 h4 hk
  pointwise [k0_pay10, k0_pay7, h3, h5, hv, key]
  simp only [← EReal.coe_mul, sum_coe, zero_add, ← EReal.coe_sub, ds]

include h0 h3 h4 h5 hk hv in
theorem pay11_eq (s : Fin 512) (d : Fin 256) : k0_pay11 (F := Ideal) x0 x3 kg x4 vg x5 (ix2 s d)
    = (((∑ i, ds Q G L D K V s i * Q i d) * sc : ℝ) : EReal) := by
  have key := pay10_eq x0 x3 x4 x5 kg vg Q G L D K V h0 h3 h4 h5 hk hv
  pointwise [k0_pay11, k0_pay6, h0, key, named_scale]
  simp only [← EReal.coe_mul, sum_coe, zero_add]

theorem pay13_pay9 : k0_pay13 (F := Ideal) (k0_pay6 x0) (k0_pay7 x3) kg x4 = k0_pay9 x0 x3 kg x4 := rfl
theorem pay18_pay9 : k0_pay18 (F := Ideal) (k0_pay7 x3) (k0_pay16 (k0_pay6 x0) kg) x4 = k0_pay9 x0 x3 kg x4 := rfl
theorem pay22_pay9 : k0_pay22 (F := Ideal) (k0_pay6 x0) (k0_pay7 x3) kg x4 = k0_pay9 x0 x3 kg x4 := rfl
theorem pay14_pay10 : k0_pay14 (F := Ideal) (k0_pay6 x0) (k0_pay7 x3) kg x4 vg x5 = k0_pay10 x0 x3 kg x4 vg x5 := rfl
theorem pay19_pay10 : k0_pay19 (F := Ideal) (k0_pay7 x3) (k0_pay16 (k0_pay6 x0) kg) x4 vg x5 = k0_pay10 x0 x3 kg x4 vg x5 := rfl
theorem pay1_pay10 : k0_pay1 (F := Ideal) (k0_pay7 x3) (k0_pay21 (k0_pay6 x0) kg x4) vg x5 = k0_pay10 x0 x3 kg x4 vg x5 := rfl
theorem pay15_pay11 : k0_pay15 (F := Ideal) (k0_pay6 x0) (k0_pay7 x3) kg x4 vg x5 = k0_pay11 x0 x3 kg x4 vg x5 := rfl
theorem pay20_pay11 : k0_pay20 (F := Ideal) (k0_pay6 x0) (k0_pay7 x3) (k0_pay16 (k0_pay6 x0) kg) x4 vg x5 = k0_pay11 x0 x3 kg x4 vg x5 := rfl
theorem pay2_pay11 : k0_pay2 (F := Ideal) (k0_pay6 x0) (k0_pay7 x3) (k0_pay21 (k0_pay6 x0) kg x4) vg x5 = k0_pay11 x0 x3 kg x4 vg x5 := rfl

end Group

/-! ## One grid point: 2048 keys -/

section Point
variable (m : (ℓ : Loc nD τ sig) → Buf (Elt Ideal) ℓ) (c : Dev nD) (t : Fin cfg0.N)
  (Q : Fin 4096 → Fin 256 → ℝ) (G : Fin 4096 → Fin 128 → ℝ) (L D : Fin 4096 → ℝ) (K : Fin 2048 → Fin 256 → ℝ) (V : Fin 2048 → Fin 128 → ℝ)

/-- The point's blocks of q, k, v, the cotangent and the two saved rows hold these reals. -/
structure Holds : Prop where
  q : ∀ i d, (iblk m c 0 t : Vec Ideal S4096x256 .bf16) (ix2 i d) = ((Q i d : ℝ) : EReal)
  k : ∀ s d, (iblk m c 1 t : Vec Ideal S2048x256 .bf16) (ix2 s d) = ((K s d : ℝ) : EReal)
  v : ∀ s e, (iblk m c 2 t : Vec Ideal S2048x128 .bf16) (ix2 s e) = ((V s e : ℝ) : EReal)
  g : ∀ i e, (iblk m c 3 t : Vec Ideal S4096x128 .bf16) (ix2 i e) = ((G i e : ℝ) : EReal)
  l : ∀ i, (iblk m c 4 t : Vec Ideal S1x1x4096 .f32) (ix3 0 0 i) = ((L i : ℝ) : EReal)
  d : ∀ i, (iblk m c 5 t : Vec Ideal S1x1x4096 .f32) (ix3 0 0 i) = ((D i : ℝ) : EReal)

variable {m c t Q G L D K V} (H : Holds m c t Q G L D K V)
include H

theorem Holds.ld_k (o : ℕ) (ho : o + 512 ≤ 2048) (hr) (s : Fin 512) (d : Fin 256) :
    View.ld (iblk m c 1 t) (Rect.unit (s := S2048x256) ![o, 0] ![512, 256] hr) (ix2 s d) = ((K ⟨o + s.val, by omega⟩ d : ℝ) : EReal) := by
  have key := H.k
  pointwise [key]

theorem Holds.ld_v (o : ℕ) (ho : o + 512 ≤ 2048) (hr) (s : Fin 512) (d : Fin 128) :
    View.ld (iblk m c 2 t) (Rect.unit (s := S2048x128) ![o, 0] ![512, 128] hr) (ix2 s d) = ((V ⟨o + s.val, by omega⟩ d : ℝ) : EReal) := by
  have key := H.v
  pointwise [key]

theorem Holds.dv_group (o : ℕ) (ho : o + 512 ≤ 2048) (hr) (x : S512x128.Idx) (s : Fin 2048) (e : Fin 128) (hs : s.val = o + (x 0).val) (he : e.val = (x 1).val) :
    k0_pay9 (F := Ideal) (iblk m c 0 t) (iblk m c 3 t) (View.ld (iblk m c 1 t) (Rect.unit (s := S2048x256) ![o, 0] ![512, 256] hr)) (iblk m c 4 t) x
      = ((∑ i, pt Q L K s i * G i e : ℝ) : EReal) := by
  obtain ⟨a, b, rfl⟩ : ∃ a b, x = ix2 a b := ⟨x 0, x 1, by funext k; match k with | 0 => rfl | 1 => rfl⟩
  obtain rfl : e = b := Fin.ext he
  obtain rfl : s = ⟨o + a.val, lt_of_lt_of_le (Nat.add_lt_add_left a.isLt o) ho⟩ := Fin.ext hs
  exact pay9_eq (iblk m c 0 t) (iblk m c 3 t) (iblk m c 4 t) _ Q G L (fun s => K ⟨o + s.val, by omega⟩) H.q H.g H.l (H.ld_k o ho hr) a e

theorem Holds.ds_group (o : ℕ) (ho : o + 512 ≤ 2048) (hr) (hr') (a : Fin 512) (i : Fin 4096) (s : Fin 2048) (hs : s.val = o + a.val) :
    k0_pay10 (F := Ideal) (iblk m c 0 t) (iblk m c 3 t) (View.ld (iblk m c 1 t) (Rect.unit (s := S2048x256) ![o, 0] ![512, 256] hr)) (iblk m c 4 t)
        (View.ld (iblk m c 2 t) (Rect.unit (s := S2048x128) ![o, 0] ![512, 128] hr')) (iblk m c 5 t) (ix2 a i)
      = ((ds Q G L D K V s i : ℝ) : EReal) := by
  obtain rfl : s = ⟨o + a.val, lt_of_lt_of_le (Nat.add_lt_add_left a.isLt o) ho⟩ := Fin.ext hs
  exact pay10_eq (iblk m c 0 t) (iblk m c 3 t) (iblk m c 4 t) (iblk m c 5 t) _ _ Q G L D (fun s => K ⟨o + s.val, by omega⟩) (fun s => V ⟨o + s.val, by omega⟩)
    H.q H.g H.l H.d (H.ld_k o ho hr) (H.ld_v o ho hr') a i

theorem Holds.dk_group (o : ℕ) (ho : o + 512 ≤ 2048) (hr) (hr') (x : S512x256.Idx) (s : Fin 2048) (d : Fin 256) (hs : s.val = o + (x 0).val) (he : d.val = (x 1).val) :
    k0_pay11 (F := Ideal) (iblk m c 0 t) (iblk m c 3 t) (View.ld (iblk m c 1 t) (Rect.unit (s := S2048x256) ![o, 0] ![512, 256] hr)) (iblk m c 4 t)
        (View.ld (iblk m c 2 t) (Rect.unit (s := S2048x128) ![o, 0] ![512, 128] hr')) (iblk m c 5 t) x
      = (((∑ i, ds Q G L D K V s i * Q i d) * sc : ℝ) : EReal) := by
  obtain ⟨a, b, rfl⟩ : ∃ a b, x = ix2 a b := ⟨x 0, x 1, by funext k; match k with | 0 => rfl | 1 => rfl⟩
  obtain rfl : d = b := Fin.ext he
  obtain rfl : s = ⟨o + a.val, lt_of_lt_of_le (Nat.add_lt_add_left a.isLt o) ho⟩ := Fin.ext hs
  exact pay11_eq (iblk m c 0 t) (iblk m c 3 t) (iblk m c 4 t) (iblk m c 5 t) _ _ Q G L D (fun s => K ⟨o + s.val, by omega⟩) (fun s => V ⟨o + s.val, by omega⟩)
    H.q H.g H.l H.d (H.ld_k o ho hr) (H.ld_v o ho hr') a d

omit H in
/-- The product of the keys with the four groups' score gradients. -/
theorem part_eq (v3 : FVec Ideal S4096x128 .bf16) (d0 d1 d2 : FVec Ideal S512x4096 .bf16) (v91 : FVec Ideal S512x4096 .f32) (v95 : Vec Ideal S512x128 .bf16)
    (v98 : Vec Ideal S1x1x4096 .f32) (x1 : Vec Ideal S2048x256 .bf16) (W : Fin 2048 → Fin 4096 → ℝ) (d : Fin 256) (i : Fin 4096)
    (hk : ∀ s d, x1 (ix2 s d) = ((K s d : ℝ) : EReal))
    (w0 : ∀ (a : Fin 512) (s : Fin 2048), s.val = 0 + a.val → d0 (ix2 a i) = ((W s i : ℝ) : EReal))
    (w1 : ∀ (a : Fin 512) (s : Fin 2048), s.val = 512 + a.val → d1 (ix2 a i) = ((W s i : ℝ) : EReal))
    (w2 : ∀ (a : Fin 512) (s : Fin 2048), s.val = 1024 + a.val → d2 (ix2 a i) = ((W s i : ℝ) : EReal))
    (w3 : ∀ (a : Fin 512) (s : Fin 2048), s.val = 1536 + a.val → k0_pay1 v3 v91 v95 v98 (ix2 a i) = ((W s i : ℝ) : EReal)) :
    k0_pay3 (F := Ideal) v3 d0 d1 d2 v91 v95 v98 x1 (ix2 d i) = ((∑ s, K s d * W s i : ℝ) : EReal) := by
  pointwise [k0_pay3, hk]
  rw [← sum_coe]
  refine Finset.sum_congr rfl fun s _ => ?_
  rw [EReal.coe_mul]
  congr 1
  by_cases a : s.val < 512
  · rw [dif_pos a]
    exact w0 _ _ (Nat.zero_add _).symm
  rw [dif_neg a]
  by_cases b : s.val - 512 < 512
  · rw [dif_pos b]
    exact w1 _ _ (by simp only; omega)
  rw [dif_neg b]
  by_cases e : s.val - 512 - 512 < 512
  · rw [dif_pos e]
    exact w2 _ _ (by simp only; omega)
  rw [dif_neg e]
  exact w3 _ _ (by simp only; omega)

omit H in
/-- The second point's accumulation and scaling. -/
theorem pay5_pay4 (v3 : FVec Ideal S4096x128 .bf16) (d0 d1 d2 : FVec Ideal S512x4096 .bf16) (v91 : FVec Ideal S512x4096 .f32) (v95 : Vec Ideal S512x128 .bf16)
    (v98 : Vec Ideal S1x1x4096 .f32) (x1 : Vec Ideal S2048x256 .bf16) (w : Vec Ideal S256x4096 .f32) (d : Fin 256) (i : Fin 4096) :
    k0_pay5 (F := Ideal) (k0_pay4 v3 d0 d1 d2 v91 v95 v98 x1 w) (ix2 d i)
      = ((w (ix2 d i) : EReal) + k0_pay3 v3 d0 d1 d2 v91 v95 v98 x1 (ix2 d i)) * ((sc : ℝ) : EReal) := by
  pointwise [k0_pay5, k0_pay4, named_scale]

theorem Holds.dv_A (g0 : t.val % 2 = 0) (g1 : ¬t.val % 2 = 1) (s : Fin 2048) (e : Fin 128) :
    (outsAt0 m c t.val t.isLt).2.2 (ix2 s e) = ((∑ i, pt Q L K s i * G i e : ℝ) : EReal) := by
  rw [outsAt0_A m c t g0 g1 g1]
  frame_out
  simp only [pay13_pay9, pay18_pay9, pay22_pay9]
  canon_tiles x h <;> exact H.dv_group _ (by norm_num) _ x s e (by change s.val = _ at h0; omega) h1

theorem Holds.dv_B (g0 : ¬t.val % 2 = 0) (g1 : t.val % 2 = 1) (s : Fin 2048) (e : Fin 128) :
    (outsAt0 m c t.val t.isLt).2.2 (ix2 s e) = ((∑ i, pt Q L K s i * G i e : ℝ) : EReal) := by
  rw [outsAt0_B m c t g0 g1 g1]
  frame_out
  simp only [pay13_pay9, pay18_pay9, pay22_pay9]
  canon_tiles x h <;> exact H.dv_group _ (by norm_num) _ x s e (by change s.val = _ at h0; omega) h1

theorem Holds.dk_A (g0 : t.val % 2 = 0) (g1 : ¬t.val % 2 = 1) (s : Fin 2048) (d : Fin 256) :
    (outsAt0 m c t.val t.isLt).2.1 (ix2 s d) = (((∑ i, ds Q G L D K V s i * Q i d) * sc : ℝ) : EReal) := by
  rw [outsAt0_A m c t g0 g1 g1]
  frame_out
  simp only [pay15_pay11, pay20_pay11, pay2_pay11]
  canon_tiles x h <;> exact H.dk_group _ (by norm_num) _ _ x s d (by change s.val = _ at h0; omega) h1

theorem Holds.dk_B (g0 : ¬t.val % 2 = 0) (g1 : t.val % 2 = 1) (s : Fin 2048) (d : Fin 256) :
    (outsAt0 m c t.val t.isLt).2.1 (ix2 s d) = (((∑ i, ds Q G L D K V s i * Q i d) * sc : ℝ) : EReal) := by
  rw [outsAt0_B m c t g0 g1 g1]
  frame_out
  simp only [pay15_pay11, pay20_pay11, pay2_pay11]
  canon_tiles x h <;> exact H.dk_group _ (by norm_num) _ _ x s d (by change s.val = _ at h0; omega) h1

theorem Holds.dq_A (g0 : t.val % 2 = 0) (g1 : ¬t.val % 2 = 1) (d : Fin 256) (i : Fin 4096) :
    (outsAt0 m c t.val t.isLt).1 (ix2 d i) = ((∑ s, K s d * ds Q G L D K V s i : ℝ) : EReal) := by
  rw [outsAt0_A m c t g0 g1 g1]
  frame_out
  simp only [pay14_pay10, pay19_pay10]
  refine part_eq _ _ _ _ _ _ _ _ (ds Q G L D K V) d i H.k ?_ ?_ ?_ ?_ <;> intro a s hs
  · exact H.ds_group 0 (by norm_num) _ _ a i s hs
  · exact H.ds_group 512 (by norm_num) _ _ a i s hs
  · exact H.ds_group 1024 (by norm_num) _ _ a i s hs
  · rw [pay1_pay10]
    exact H.ds_group 1536 (by norm_num) _ _ a i s hs

theorem Holds.dq_B (g0 : ¬t.val % 2 = 0) (g1 : t.val % 2 = 1) (d : Fin 256) (i : Fin 4096) (p : ℝ) (hp)
    (hprev : (outsAt0 m c (t.val - 1) hp).1 (ix2 d i) = ((p : ℝ) : EReal)) :
    (outsAt0 m c t.val t.isLt).1 (ix2 d i) = (((p + ∑ s, K s d * ds Q G L D K V s i) * sc : ℝ) : EReal) := by
  rw [outsAt0_B m c t g0 g1 g1]
  frame_out
  simp only [pay14_pay10, pay19_pay10]
  rw [pay5_pay4, hprev]
  refine (congrArg (fun z : EReal => (((p : ℝ) : EReal) + z) * ((sc : ℝ) : EReal)) (part_eq _ _ _ _ _ _ _ _ (ds Q G L D K V) d i H.k ?_ ?_ ?_ ?_)).trans ?_
  · exact fun a s hs => H.ds_group 0 (by norm_num) _ _ a i s hs
  · exact fun a s hs => H.ds_group 512 (by norm_num) _ _ a i s hs
  · exact fun a s hs => H.ds_group 1024 (by norm_num) _ _ a i s hs
  · intro a s hs
    rw [pay1_pay10]
    exact H.ds_group 1536 (by norm_num) _ _ a i s hs
  · simp only [← EReal.coe_mul, ← EReal.coe_add]

end Point

end Cert.Att.Point
-- ==== Proof.AttArrays.lean ====
/- The attention gradient's three final arrays on real arguments. -/
module

public import proofs.«01_k».proof.Proof.AttPoint

@[expose] public section

set_option maxRecDepth 16384

noncomputable section

open Idealize.ShloMosaic Idealize.ShloMosaic.TcCoe Idealize.SL.Sem
open Idealize.ShloMosaic.Pipeline (Dat)

namespace Cert.Att.Arrays

open Cert.AttnBwdIdeal Cert.AttnBwdIdeal.Gen Cert.Lift Cert.Att.Host Cert.Att.Point

theorem idx : ∀ t : Fin cfg0.N, win0_0.index t = ![t.val / 8, t.val / 2 % 4] ∧ win0_1.index t = ![t.val / 8 * 2 + t.val % 2, t.val / 2 % 4]
    ∧ win0_2.index t = ![t.val / 8 * 2 + t.val % 2, t.val / 2 % 4] ∧ win0_3.index t = ![t.val / 8, t.val / 2 % 4]
    ∧ win0_4.index t = ![t.val / 2 % 4, 0, t.val / 8] ∧ win0_5.index t = ![t.val / 2 % 4, 0, t.val / 8]
    ∧ win0_6.index t = ![t.val / 2 % 4, t.val / 8] ∧ win0_7.index t = ![t.val / 8 * 2 + t.val % 2, t.val / 2 % 4]
    ∧ win0_8.index t = ![t.val / 8 * 2 + t.val % 2, t.val / 2 % 4] :=
  (by decide +kernel : ∀ t : Fin grid0.N, _)

theorem t_lt (t : Fin cfg0.N) : t.val < 16 := lt_of_lt_of_eq t.isLt N_0

/-! ## Where a block's elements lie -/

section
variable (t : Fin cfg0.N)

/-- The point's batch entry, head, and its keys' places. -/
def bt (t : Fin cfg0.N) : Fin 2 := ⟨t.val / 8, by have := t_lt t; omega⟩
def ht (t : Fin cfg0.N) : Fin 4 := ⟨t.val / 2 % 4, by omega⟩
def kt (t : Fin cfg0.N) (s : Fin 2048) : Fin 4096 := ⟨t.val % 2 * 2048 + s.val, by omega⟩

theorem emb0 (i : Fin 4096) (d : Fin 256) : (win0_0.blk t).view.emb (ix2 i d) = ix2 (row (bt t) i) (col256 (ht t) d) := by
  blk_ext [idx t] <;> simp only [row, col256, bt, ht]
theorem emb1 (s : Fin 2048) (d : Fin 256) : (win0_1.blk t).view.emb (ix2 s d) = ix2 (row (bt t) (kt t s)) (col256 (ht t) d) := by
  blk_ext [idx t] <;> simp only [row, col256, bt, ht, kt] <;> omega
theorem emb2 (s : Fin 2048) (e : Fin 128) : (win0_2.blk t).view.emb (ix2 s e) = ix2 (row (bt t) (kt t s)) (col128 (ht t) e) := by
  blk_ext [idx t] <;> simp only [row, col128, bt, ht, kt] <;> omega
theorem emb3 (i : Fin 4096) (e : Fin 128) : (win0_3.blk t).view.emb (ix2 i e) = ix2 (row (bt t) i) (col128 (ht t) e) := by
  blk_ext [idx t] <;> simp only [row, col128, bt, ht]
theorem emb4 (i : Fin 4096) : (win0_4.blk t).view.emb (ix3 0 0 i) = ix3 (ht t) 0 (row (bt t) i) := by
  blk_ext [idx t] <;> simp only [row, bt, ht, Nat.add_zero]
theorem emb5 (i : Fin 4096) : (win0_5.blk t).view.emb (ix3 0 0 i) = ix3 (ht t) 0 (row (bt t) i) := by
  blk_ext [idx t] <;> simp only [row, bt, ht, Nat.add_zero]
theorem emb6 (d : Fin 256) (i : Fin 4096) : (win0_6.blk t).view.emb (ix2 d i) = ix2 (col256 (ht t) d) (row (bt t) i) := by
  blk_ext [idx t] <;> simp only [row, col256, bt, ht]
theorem emb7 (s : Fin 2048) (d : Fin 256) : (win0_7.blk t).view.emb (ix2 s d) = ix2 (row (bt t) (kt t s)) (col256 (ht t) d) := by
  blk_ext [idx t] <;> simp only [row, col256, bt, ht, kt] <;> omega
theorem emb8 (s : Fin 2048) (e : Fin 128) : (win0_8.blk t).view.emb (ix2 s e) = ix2 (row (bt t) (kt t s)) (col128 (ht t) e) := by
  blk_ext [idx t] <;> simp only [row, col128, bt, ht, kt] <;> omega
end

/-! ## Each block is its operand read at the block's places -/

section
variable (c : Dev nD) (t : Fin cfg0.N) (f : (b : Ref sig .tc) → Buf (Elt Ideal) ((c : Thread nD τ).loc b))

theorem read0 (i : Fin 4096) (d : Fin 256) : ((cfg0.win 0).blk t).view.read (Elt Ideal) (f (Pipeline.arrRef spec0 0)) (ix2 i d) = f main_v39 ((win0_0.blk t).view.emb (ix2 i d)) := rfl
theorem read1 (s : Fin 2048) (d : Fin 256) : ((cfg0.win 1).blk t).view.read (Elt Ideal) (f (Pipeline.arrRef spec0 1)) (ix2 s d) = f main_v42 ((win0_1.blk t).view.emb (ix2 s d)) := rfl
theorem read2 (s : Fin 2048) (e : Fin 128) : ((cfg0.win 2).blk t).view.read (Elt Ideal) (f (Pipeline.arrRef spec0 2)) (ix2 s e) = f main_v44 ((win0_2.blk t).view.emb (ix2 s e)) := rfl
theorem read3 (i : Fin 4096) (e : Fin 128) : ((cfg0.win 3).blk t).view.read (Elt Ideal) (f (Pipeline.arrRef spec0 3)) (ix2 i e) = f main_v46 ((win0_3.blk t).view.emb (ix2 i e)) := rfl
theorem read4 (i : Fin 4096) : ((cfg0.win 4).blk t).view.read (Elt Ideal) (f (Pipeline.arrRef spec0 4)) (ix3 0 0 i) = f main_v31 ((win0_4.blk t).view.emb (ix3 0 0 i)) := rfl
theorem read5 (i : Fin 4096) : ((cfg0.win 5).blk t).view.read (Elt Ideal) (f (Pipeline.arrRef spec0 5)) (ix3 0 0 i) = f main_v36 ((win0_5.blk t).view.emb (ix3 0 0 i)) := rfl

end

/-! ## The blocks at a point -/

section
variable (m : (ℓ : Loc nD τ sig) → Buf (Elt Ideal) ℓ) (c : Dev nD) (A : Args)

/-- The arguments hold the reals `A`. -/
structure On : Prop where
  q : m ((c : Thread nD τ).loc main_arg0) = X0 A
  kn : m ((c : Thread nD τ).loc main_arg1) = X1 A
  kr : m ((c : Thread nD τ).loc main_arg2) = X2 A
  v : m ((c : Thread nD τ).loc main_arg3) = X3 A
  g : m ((c : Thread nD τ).loc main_arg4) = X4 A

variable {m c A} (O : On m c A) (t : Fin cfg0.N)
include O

theorem q_block (i : Fin 4096) (d : Fin 256) : (iblk m c 0 t : Vec Ideal S4096x256 .bf16) (ix2 i d) = ((pad256 (A.q (bt t) i (ht t)) d : ℝ) : EReal) := by
  refine (read0 c t (V m c) i d).trans ?_
  rw [emb0, V_q, O.q]
  exact padded_eq _ _ _ (X0 A) A.q (fun _ _ _ _ => rfl) d

theorem k_block (s : Fin 2048) (d : Fin 256) : (iblk m c 1 t : Vec Ideal S2048x256 .bf16) (ix2 s d) = ((pad256 (A.k (bt t) (kt t s) (ht t)) d : ℝ) : EReal) := by
  refine (read1 c t (V m c) s d).trans ?_
  rw [emb1, V_k, O.kn, O.kr]
  exact padded_eq _ _ _ (key (X1 A) (X2 A)) A.k (fun b i h d => key_eq A b h i d) d

theorem v_block (s : Fin 2048) (e : Fin 128) : (iblk m c 2 t : Vec Ideal S2048x128 .bf16) (ix2 s e) = ((A.v (bt t) (kt t s) (ht t) e : ℝ) : EReal) := by
  refine (read2 c t (V m c) s e).trans ?_
  rw [emb2, V_v, O.v]
  exact flat_eq _ _ _ (X3 A) A.v (fun _ _ _ _ => rfl) e

theorem g_block (i : Fin 4096) (e : Fin 128) : (iblk m c 3 t : Vec Ideal S4096x128 .bf16) (ix2 i e) = ((A.g (bt t) i (ht t) e : ℝ) : EReal) := by
  refine (read3 c t (V m c) i e).trans ?_
  rw [emb3, V_do, O.g]
  exact flat_eq _ _ _ (X4 A) A.g (fun _ _ _ _ => rfl) e

theorem l_block (i : Fin 4096) : (iblk m c 4 t : Vec Ideal S1x1x4096 .f32) (ix3 0 0 i) = ((rowLse A (bt t) (ht t) i : ℝ) : EReal) := by
  refine (read4 c t (V m c) i).trans ?_
  rw [emb4, V_lse, O.q, O.kn, O.kr]
  exact lse_row A _ _ _ 0

theorem d_block (i : Fin 4096) : (iblk m c 5 t : Vec Ideal S1x1x4096 .f32) (ix3 0 0 i) = ((rowDelta A (bt t) (ht t) i : ℝ) : EReal) := by
  refine (read5 c t (V m c) i).trans ?_
  rw [emb5, V_delta, O.q, O.kn, O.kr, O.v, O.g]
  exact delta_row A _ _ _ 0

theorem holds : Holds m c t (fun i => pad256 (A.q (bt t) i (ht t))) (fun i => A.g (bt t) i (ht t)) (rowLse A (bt t) (ht t)) (rowDelta A (bt t) (ht t))
    (fun s => pad256 (A.k (bt t) (kt t s) (ht t))) (fun s => A.v (bt t) (kt t s) (ht t)) :=
  ⟨q_block O t, k_block O t, v_block O t, g_block O t, l_block O t, d_block O t⟩

/-! ## What a point writes -/

omit O in
theorem pt_eq (A : Args) (b : Fin 2) (h : Fin 4) (f : Fin 2048 → Fin 4096) (s : Fin 2048) (i : Fin 4096) :
    pt (fun i => pad256 (A.q b i h)) (rowLse A b h) (fun s => pad256 (A.k b (f s) h)) s i = P A b h i (f s) := by
  rw [← softmax_of_saved, raw, pt, sum_pad]
  simp only [mul_comm (A.q _ _ _ _)]

omit O in
theorem ds_eq (A : Args) (b : Fin 2) (h : Fin 4) (f : Fin 2048 → Fin 4096) (s : Fin 2048) (i : Fin 4096) :
    ds (fun i => pad256 (A.q b i h)) (fun i => A.g b i h) (rowLse A b h) (rowDelta A b h) (fun s => pad256 (A.k b (f s) h)) (fun s => A.v b (f s) h) s i
      = DS A b h i (f s) := by
  rw [ds, pt_eq, DS, DP, rowDelta]
  simp only [mul_comm (A.g _ _ _ _)]

omit O in
theorem pad_sum {ι : Type} [Fintype ι] (w : ι → ℝ) (f : ι → Fin 192 → ℝ) (d : Fin 256) : (∑ i, w i * pad256 (f i) d) * sc = pad256 (fun d => (∑ i, w i * f i d) * sc) d := by
  by_cases hd : d.val < 192
  · simp [pad256, hd]
  · simp [pad256, hd]

theorem dv_point (s : Fin 2048) (e : Fin 128) : (outsAt0 m c t.val t.isLt).2.2 (ix2 s e) = ((dv A (bt t) (kt t s) (ht t) e : ℝ) : EReal) := by
  have key : (outsAt0 m c t.val t.isLt).2.2 (ix2 s e) = _ := if g : t.val % 2 = 0 then (holds O t).dv_A g (by omega) s e else (holds O t).dv_B g (by omega) s e
  rw [key]
  simp only [pt_eq, dv]

theorem dk_point (s : Fin 2048) (d : Fin 256) : (outsAt0 m c t.val t.isLt).2.1 (ix2 s d) = ((pad256 (dk A (bt t) (kt t s) (ht t)) d : ℝ) : EReal) := by
  have key : (outsAt0 m c t.val t.isLt).2.1 (ix2 s d) = _ := if g : t.val % 2 = 0 then (holds O t).dk_A g (by omega) s d else (holds O t).dk_B g (by omega) s d
  rw [key]
  simp only [ds_eq, pad_sum]
  rfl

/-- The second of a head's two points holds the whole gradient of q. -/
theorem dq_point (g : t.val % 2 = 1) (d : Fin 256) (i : Fin 4096) : (outsAt0 m c t.val t.isLt).1 (ix2 d i) = ((pad256 (dq A (bt t) i (ht t)) d : ℝ) : EReal) := by
  have hp : t.val - 1 < cfg0.N := lt_of_le_of_lt (Nat.sub_le _ _) t.isLt
  have hb : bt ⟨t.val - 1, hp⟩ = bt t := Fin.ext (by simp only [bt]; omega)
  have hh : ht ⟨t.val - 1, hp⟩ = ht t := Fin.ext (by simp only [ht]; omega)
  have prev := (holds O ⟨t.val - 1, hp⟩).dq_A (by simp only; omega) (by simp only; omega) d i
  rw [(holds O t).dq_B (by omega) g d i _ hp prev]
  simp only [ds_eq, hb, hh]
  congr 1
  have tot : ∀ f : Fin 4096 → ℝ, ∑ s, f (kt ⟨t.val - 1, hp⟩ s) + ∑ s, f (kt t s) = ∑ j, f j := fun f => by
    rw [Fin.sum_univ_two_halves 2048 2048 rfl]
    refine congrArg₂ (· + ·) ?_ ?_ <;> refine Finset.sum_congr rfl fun s _ => congrArg f (Fin.ext ?_) <;> simp only [kt] <;> omega
  rw [tot fun j => pad256 (A.k (bt t) j (ht t)) d * DS A (bt t) (ht t) i j]
  simp only [mul_comm (pad256 _ _), pad_sum]
  rfl

/-! ## The final arrays -/

omit O in
theorem two {n k : ℕ} (y : (⟨2, ![n, k]⟩ : Shape).Idx) : ∃ (a : Fin n) (b : Fin k), y = ix2 a b :=
  ⟨y 0, y 1, by funext k; match k with | 0 => rfl | 1 => rfl⟩

/-- The three gradients in the kernel's layouts. -/
def g6 (A : Args) (r : Fin 1024) (s : Fin 8192) : ℝ := pad256 (dq A ⟨s.val / 4096, by omega⟩ ⟨s.val % 4096, by omega⟩ ⟨r.val / 256, by omega⟩) ⟨r.val % 256, by omega⟩
def g7 (A : Args) (s : Fin 8192) (r : Fin 1024) : ℝ := pad256 (dk A ⟨s.val / 4096, by omega⟩ ⟨s.val % 4096, by omega⟩ ⟨r.val / 256, by omega⟩) ⟨r.val % 256, by omega⟩
def g8 (A : Args) (s : Fin 8192) (r : Fin 512) : ℝ := dv A ⟨s.val / 4096, by omega⟩ ⟨s.val % 4096, by omega⟩ ⟨r.val / 128, by omega⟩ ⟨r.val % 128, by omega⟩
def G6 (A : Args) : FVec Ideal S1024x8192 .f32 := fun i => ((g6 A (i 0) (i 1) : ℝ) : EReal)
def G7 (A : Args) : FVec Ideal S8192x1024 .f32 := fun i => ((g7 A (i 0) (i 1) : ℝ) : EReal)
def G8 (A : Args) : FVec Ideal S8192x512 .f32 := fun i => ((g8 A (i 0) (i 1) : ℝ) : EReal)

omit O in
theorem G6_at (b : Fin 2) (i : Fin 4096) (h : Fin 4) (d : Fin 256) : G6 A (ix2 (col256 h d) (row b i)) = ((pad256 (dq A b i h) d : ℝ) : EReal) := by
  show ((g6 A (col256 h d) (row b i) : ℝ) : EReal) = _
  unfold g6
  simp only [row_div, row_mod, col256_div, col256_mod]
omit O in
theorem G7_at (b : Fin 2) (i : Fin 4096) (h : Fin 4) (d : Fin 256) : G7 A (ix2 (row b i) (col256 h d)) = ((pad256 (dk A b i h) d : ℝ) : EReal) := by
  show ((g7 A (row b i) (col256 h d) : ℝ) : EReal) = _
  unfold g7
  simp only [row_div, row_mod, col256_div, col256_mod]
omit O in
theorem G8_at (b : Fin 2) (i : Fin 4096) (h : Fin 4) (e : Fin 128) : G8 A (ix2 (row b i) (col128 h e)) = ((dv A b i h e : ℝ) : EReal) := by
  show ((g8 A (row b i) (col128 h e) : ℝ) : EReal) = _
  unfold g8
  simp only [row_div, row_mod, col128_div, col128_mod]

omit O in
theorem flush6 : ∀ t : Fin cfg0.N, (cfg0.win 6).flush t = true → t.val % 2 = 1 :=
  (by decide +kernel : ∀ t : Fin grid0.N, (cfg0.win 6).flush t = true → t.val % 2 = 1)

theorem arr8 : (dats m 0 c).arrAt 8 cfg0.N = G8 A := by
  refine (dats m 0 c).arrAt_eq_of_covers 8 (G8 A) (by decide +kernel) fun t hf y => ?_
  obtain ⟨s, e, rfl⟩ := two (n := 2048) (k := 128) y
  rw [after0_8]
  exact (dv_point O t s e).trans ((congrArg (G8 A) (emb8 t s e)).trans (G8_at _ _ _ _)).symm

theorem arr7 : (dats m 0 c).arrAt 7 cfg0.N = G7 A := by
  refine (dats m 0 c).arrAt_eq_of_covers 7 (G7 A) (by decide +kernel) fun t hf y => ?_
  obtain ⟨s, d, rfl⟩ := two (n := 2048) (k := 256) y
  rw [after0_7]
  exact (dk_point O t s d).trans ((congrArg (G7 A) (emb7 t s d)).trans (G7_at _ _ _ _)).symm

theorem arr6 : (dats m 0 c).arrAt 6 cfg0.N = G6 A := by
  refine (dats m 0 c).arrAt_eq_of_covers 6 (G6 A) (by decide +kernel) fun t hf y => ?_
  obtain ⟨d, i, rfl⟩ := two (n := 256) (k := 4096) y
  rw [after0_6]
  exact (dq_point O t (flush6 t hf) d i).trans ((congrArg (G6 A) (emb6 t d i)).trans (G6_at _ _ _ _)).symm

end

end Cert.Att.Arrays
-- ==== Proof.AttRef.lean ====
/- The attention's reference on real arguments: its operations one after the other, down to the three gradients. -/
module

public import proofs.«01_k».proof.Proof.AttSpec
public import proofs.«01_k».proof.Proof.Gen.AttnRefIdeal.Read

@[expose] public section

set_option maxRecDepth 16384

noncomputable section

open Idealize.ShloMosaic Idealize.ShloMosaic.TcCoe Idealize.SL.Sem

namespace Cert.Att.Ref

open Cert.AttnRefIdeal Cert.AttnRefIdeal.Read Cert.Lift

/-- The arguments' arrays. -/
def X0 (A : Args) : (⟨S2x4096x4x192, .f32⟩ : BufTy).Contents (Elt Ideal) := fun i => ((A.q (i 0) (i 1) (i 2) (i 3) : ℝ) : EReal)
def X1 (A : Args) : (⟨S2x4096x4x128, .f32⟩ : BufTy).Contents (Elt Ideal) := fun i => ((A.kn (i 0) (i 1) (i 2) (i 3) : ℝ) : EReal)
def X2 (A : Args) : (⟨S2x4096x64, .f32⟩ : BufTy).Contents (Elt Ideal) := fun i => ((A.kr (i 0) (i 1) (i 2) : ℝ) : EReal)
def X3 (A : Args) : (⟨S2x4096x4x128, .f32⟩ : BufTy).Contents (Elt Ideal) := fun i => ((A.v (i 0) (i 1) (i 2) (i 3) : ℝ) : EReal)
def X4 (A : Args) : (⟨S2x4096x4x128, .f32⟩ : BufTy).Contents (Elt Ideal) := fun i => ((A.g (i 0) (i 1) (i 2) (i 3) : ℝ) : EReal)

variable (A : Args) (b : Fin 2) (h : Fin 4) (i j : Fin 4096)

theorem raw_split : raw A b h i j = ∑ d : Fin 128, A.q b i h ⟨d.val, by omega⟩ * A.kn b j h d
    + ∑ d : Fin 64, A.q b i h ⟨128 + d.val, by omega⟩ * A.kr b j d := by
  unfold raw
  rw [Fin.sum_univ_two_halves 128 64 rfl]
  refine congrArg₂ (· + ·) ?_ ?_ <;> exact Finset.sum_congr rfl fun d _ => by simp [Args.k]

theorem v7_eq : val_main_v7 (F := Ideal) ix0 = ((sc : ℝ) : EReal) := by
  pointwise [val_main_v7, val_main_cst]
  rw [ofBits_192, rsqrt_real (by norm_num)]
  rfl

theorem v9_eq : val_main_v9 (F := Ideal) (X0 A) (X1 A) (X2 A) (ix4 b h i j) = ((raw A b h i j * sc : ℝ) : EReal) := by
  pointwise [val_main_v9, val_main_v6, val_main_v4, val_main_v5, val_main_v2, val_main_v3, val_main_v1, val_main_v0, val_main_v8, X0, X1, X2, v7_eq]
  simp only [← EReal.coe_mul, sum_coe, ← EReal.coe_add, raw_split]

/-- The row's greatest score. -/
def mx (A : Args) (b : Fin 2) (h : Fin 4) (i : Fin 4096) : ℝ := rmax fun j => raw A b h i j * sc

theorem mx_eq (x : EReal) (hx : x = ⊥) :
    Finset.univ.fold (max : Ideal .f32 → Ideal .f32 → Ideal .f32) x (fun j => ((raw A b h i j * sc : ℝ) : EReal)) = ((mx A b h i : ℝ) : EReal) := by
  subst hx
  exact fold_max_eq _

theorem v10_eq : val_main_v10 (F := Ideal) (X0 A) (X1 A) (X2 A) (ix3 b h i) = ((mx A b h i : ℝ) : EReal) := by
  have key := mx_eq A b h i _ ofBits_neg_inf
  pointwise [val_main_v10, val_main_cst_0, v9_eq]
  generalize mx A b h i = M at key ⊢
  generalize (fun j => ((raw A b h i j * sc : ℝ) : EReal)) = f at key ⊢
  exact key

theorem max_of_bot (x y : Ideal .f32) (hx : x = (⊥ : EReal)) : max x y = y := by
  subst hx
  exact max_eq_right (bot_le (α := EReal))

theorem v16_eq : val_main_v16 (F := Ideal) (ix3 b h i) = (⊥ : EReal) := by
  pointwise [val_main_v16, val_main_cst_2]
  exact ofBits_neg_inf

theorem v17_eq : val_main_v17 (F := Ideal) (X0 A) (X1 A) (X2 A) (ix3 b h i) = ((mx A b h i : ℝ) : EReal) := by
  rw [val_main_v17_apply, v10_eq]
  exact max_of_bot _ _ (v16_eq b h i)

theorem v30_eq : val_main_v30 (F := Ideal) (X0 A) (X1 A) (X2 A) (ix4 b h i j)
    = ((Real.exp (raw A b h i j * sc - mx A b h i) : ℝ) : EReal) := by
  pointwise [val_main_v30, val_main_v29, val_main_v28, val_main_v27, v9_eq, v17_eq]
  simp only [← EReal.coe_sub, Ideal.exp_coe]

/-- The row's sum of exponentials. -/
def ls (A : Args) (b : Fin 2) (h : Fin 4) (i : Fin 4096) : ℝ := ∑ j : Fin 4096, Real.exp (raw A b h i j * sc - mx A b h i)

theorem ls_pos : 0 < ls A b h i := sum_exp_pos _

theorem v31_eq : val_main_v31 (F := Ideal) (X0 A) (X1 A) (X2 A) (ix3 b h i) = ((ls A b h i : ℝ) : EReal) := by
  pointwise [val_main_v31, val_main_cst_8, v30_eq]
  simp only [sum_coe, zero_add, ls]

theorem v34_eq : val_main_v34 (F := Ideal) (X0 A) (X1 A) (X2 A) (ix4 b h i j) = ((P A b h i j : ℝ) : EReal) := by
  pointwise [val_main_v34, val_main_v33, val_main_v32, v30_eq, v31_eq]
  rw [div_real (ls_pos A b h i).ne']
  exact congrArg _ (softmax_shift (fun j => raw A b h i j * sc) (mx A b h i) j)

theorem v41_eq : val_main_v41 (F := Ideal) (X3 A) (X4 A) (ix4 b h i j) = ((DP A b h i j : ℝ) : EReal) := by
  pointwise [val_main_v41, val_main_v40, X3, X4]
  simp only [← EReal.coe_mul, sum_coe, DP]

theorem v43_eq (e : Fin 128) : val_main_v43 (F := Ideal) (X0 A) (X1 A) (X2 A) (X4 A) (ix4 b i h e) = ((dv A b i h e : ℝ) : EReal) := by
  pointwise [val_main_v43, val_main_v42, val_main_v40, X4, v34_eq]
  simp only [← EReal.coe_mul, sum_coe, dv, mul_comm]

theorem v52_eq : val_main_v52 (F := Ideal) (X0 A) (X1 A) (X2 A) (X3 A) (X4 A) (ix3 b h i)
    = ((-∑ j : Fin 4096, DP A b h i j * (1 / (ls A b h i * ls A b h i)) * Real.exp (raw A b h i j * sc - mx A b h i) : ℝ) : EReal) := by
  pointwise [val_main_v52, val_main_cst_11, val_main_v49, val_main_v48, val_main_v47, val_main_cst_10, val_main_v46, val_main_v45, val_main_v44, val_main_v37, val_main_v36,
    val_main_cst_9, val_main_v35, val_main_v32, v31_eq, v30_eq, v41_eq]
  have hl : ls A b h i * ls A b h i ≠ 0 := (mul_pos (ls_pos A b h i) (ls_pos A b h i)).ne'
  rw [← EReal.coe_mul, ← EReal.coe_one, div_real hl]
  simp only [← EReal.coe_mul, sum_coe, ← EReal.coe_neg, Finset.univ_unique, Finset.sum_singleton]

theorem v57_eq : val_main_v57 (F := Ideal) (X0 A) (X1 A) (X2 A) (X3 A) (X4 A) (ix4 b h i j) = ((DS A b h i j * sc : ℝ) : EReal) := by
  pointwise [val_main_v57, val_main_v56, v7_eq, val_main_v55, val_main_v54, val_main_v53, v52_eq, v30_eq, val_main_v51, val_main_v50, val_main_v32, v31_eq, v41_eq]
  rw [div_real (ls_pos A b h i).ne']
  simp only [← EReal.coe_mul, ← EReal.coe_add]
  exact congrArg (fun x : ℝ => ((x * sc : ℝ) : EReal)) (softmax_vjp (fun j => raw A b h i j * sc) (DP A b h i) (mx A b h i) j)

theorem v68_eq (d : Fin 192) : val_main_v68 (F := Ideal) (X0 A) (X1 A) (X2 A) (X3 A) (X4 A) (ix4 b i h d) = ((dq A b i h d : ℝ) : EReal) := by
  pointwise [val_main_v68, val_main_v67, val_main_v66, val_main_cst_12, val_main_cst_13, val_main_v65, val_main_v64, val_main_v61, val_main_v60, v57_eq, X1, val_main_v1, val_main_v0, X2]
  have hs : ∀ x y, DS A b h i x * sc * y = DS A b h i x * y * sc := fun x y => mul_right_comm _ _ _
  by_cases hd : d.val < 128
  · rw [dif_neg (by omega), dif_pos hd]
    simp only [← EReal.coe_mul, sum_coe, zero_add, dq, Args.k, dif_pos hd, Finset.sum_mul, hs]
  · rw [dif_pos (by omega), dif_neg hd]
    simp only [← EReal.coe_mul, sum_coe, add_zero, dq, Args.k, dif_neg hd, Finset.sum_mul, hs]

theorem v72_eq (d : Fin 192) : val_main_v72 (F := Ideal) (X0 A) (X1 A) (X2 A) (X3 A) (X4 A) (ix4 b i h d) = ((dk A b i h d : ℝ) : EReal) := by
  pointwise [val_main_v72, val_main_v63, val_main_v62, val_main_v59, val_main_v58, v57_eq, X0, val_main_v2, val_main_v3]
  have hs : ∀ x, DS A b h x i * sc * A.q b x h d = DS A b h x i * A.q b x h d * sc := fun x => mul_right_comm _ _ _
  by_cases hd : d.val < 128
  · rw [dif_pos hd]
    simp only [← EReal.coe_mul, sum_coe, dk, Finset.sum_mul, hs]
  · rw [dif_neg hd]
    have hd' : (⟨128 + (d.val - 128), by omega⟩ : Fin 192) = d := Fin.ext (by simp; omega)
    simp only [hd', ← EReal.coe_mul, sum_coe, dk, Finset.sum_mul, hs]

/-! ## The results: the three gradients in the kernel's layouts -/

theorem v71_eq (r : Fin 1024) (s : Fin 8192) : val_main_v71 (F := Ideal) (X0 A) (X1 A) (X2 A) (X3 A) (X4 A) (ix2 r s)
    = ((pad256 (dq A ⟨s.val / 4096, by omega⟩ ⟨s.val % 4096, by omega⟩ ⟨r.val / 256, by omega⟩) ⟨r.val % 256, by omega⟩ : ℝ) : EReal) := by
  pointwise [val_main_v71, val_main_v70, val_main_v69, v68_eq, val_main_call0_v0, val_main_c]
  exact pad_eq (dq A ⟨s.val / 4096, by omega⟩ ⟨s.val % 4096, by omega⟩ ⟨r.val / 256, by omega⟩) ⟨r.val % 256, by omega⟩ (s.val / 4096 < 2) (s.val % 4096 < 4096) (r.val / 256 < 4) (by omega) (by omega) (by omega) _ sitofp_zero

theorem v74_eq (s : Fin 8192) (r : Fin 1024) : val_main_v74 (F := Ideal) (X0 A) (X1 A) (X2 A) (X3 A) (X4 A) (ix2 s r)
    = ((pad256 (dk A ⟨s.val / 4096, by omega⟩ ⟨s.val % 4096, by omega⟩ ⟨r.val / 256, by omega⟩) ⟨r.val % 256, by omega⟩ : ℝ) : EReal) := by
  pointwise [val_main_v74, val_main_v73, v72_eq, val_main_call1_v0, val_main_c_14]
  exact pad_eq (dk A ⟨s.val / 4096, by omega⟩ ⟨s.val % 4096, by omega⟩ ⟨r.val / 256, by omega⟩) ⟨r.val % 256, by omega⟩ (s.val / 4096 < 2) (s.val % 4096 < 4096) (r.val / 256 < 4) (by omega) (by omega) (by omega) _ sitofp_zero

theorem v75_eq (s : Fin 8192) (r : Fin 512) : val_main_v75 (F := Ideal) (X0 A) (X1 A) (X2 A) (X4 A) (ix2 s r)
    = ((dv A ⟨s.val / 4096, by omega⟩ ⟨s.val % 4096, by omega⟩ ⟨r.val / 128, by omega⟩ ⟨r.val % 128, by omega⟩ : ℝ) : EReal) := by
  pointwise [val_main_v75, v43_eq]

end Cert.Att.Ref
-- ==== Proof.AttClaim.lean ====
/- The attention gradient: from the stated precondition to real arguments, and the claim's parts. -/
module

public import proofs.«01_k».proof.Defs
public import proofs.«01_k».proof.Proof.AttArrays
public import proofs.«01_k».proof.Proof.AttRef
public import proofs.«01_k».proof.Proof.Gen.AttnBwd.Frame
public import proofs.«01_k».proof.Proof.Gen.AttnRefIdeal.Run
public import proofs.«01_k».proof.Proof.Gen.Pre_finite_att
public import Idealize.ShloMosaic.Lib.Claim

@[expose] public section

set_option maxRecDepth 16384

noncomputable section

open Idealize.ShloMosaic Idealize.ShloMosaic.TcCoe Idealize.SL.Sem

namespace Cert.Att.Claim

open Cert.Lift Cert.Att.Arrays

theorem and_one {a b : BitVec 1} (h : IntOp.andi a b = 1#1) : a = 1#1 ∧ b = 1#1 := by
  revert a b
  decide

section
open Cert.Pre_finite_att

/-- Where the precondition is true, all five arguments are real. -/
theorem real_of_pre (x0 : FVec Ideal S2x4096x4x192 .f32) (x1 : FVec Ideal S2x4096x4x128 .f32) (x2 : FVec Ideal S2x4096x64 .f32)
    (x3 x4 : FVec Ideal S2x4096x4x128 .f32) (h : fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ ∀ i, ∃ r : ℝ, x4 i = (r : EReal) := by
  have h' := congrFun h (fun k => k.elim0)
  obtain ⟨h', h4⟩ := and_one h'
  obtain ⟨h', h3⟩ := and_one h'
  obtain ⟨h', h2⟩ := and_one h'
  obtain ⟨h0, h1⟩ := and_one h'
  haveI : Subsingleton S_.Idx := ⟨fun a b => funext fun k => k.elim0⟩
  exact ⟨real_of_all x0 _ (fun _ => ofBits_inf) _ _ _ _ h0, real_of_all x1 _ (fun _ => ofBits_inf) _ _ _ _ h1,
    real_of_all x2 _ (fun _ => ofBits_inf) _ _ _ _ h2, real_of_all x3 _ (fun _ => ofBits_inf) _ _ _ _ h3,
    real_of_all x4 _ (fun _ => ofBits_inf) _ _ _ _ h4⟩

end

theorem four {a b c d : ℕ} (i : (⟨4, ![a, b, c, d]⟩ : Shape).Idx) : i = ix4 (i 0) (i 1) (i 2) (i 3) := by
  funext k; fin_cases k <;> rfl

theorem three {a b c : ℕ} (i : (⟨3, ![a, b, c]⟩ : Shape).Idx) : i = ix3 (i 0) (i 1) (i 2) := by
  funext k; fin_cases k <;> rfl

/-- The arguments as real arrays. -/
theorem args_of_pre (m : (ℓ : Loc Cert.AttnBwdIdeal.nD Cert.AttnBwdIdeal.τ Cert.AttnBwdIdeal.sig) → Buf (Elt Ideal) ℓ)
    (h : Cert.Pre_AttnBwdIdeal_finite_att m) (c : Dev Cert.AttnBwdIdeal.nD) : ∃ A : Args, On m c A := by
  obtain ⟨h0, h1, h2, h3, h4⟩ := real_of_pre _ _ _ _ _ (h c)
  obtain ⟨q, hq⟩ := exists_real _ h0
  obtain ⟨kn, hkn⟩ := exists_real _ h1
  obtain ⟨kr, hkr⟩ := exists_real _ h2
  obtain ⟨v, hv⟩ := exists_real _ h3
  obtain ⟨g, hg⟩ := exists_real _ h4
  refine ⟨⟨fun a b c d => q (ix4 a b c d), fun a b c d => kn (ix4 a b c d), fun a b c => kr (ix3 a b c),
    fun a b c d => v (ix4 a b c d), fun a b c d => g (ix4 a b c d)⟩, ⟨hq.trans ?_, hkn.trans ?_, hkr.trans ?_, hv.trans ?_, hg.trans ?_⟩⟩
  · exact funext fun i => congrArg (fun j => ((q j : ℝ) : EReal)) (four i)
  · exact funext fun i => congrArg (fun j => ((kn j : ℝ) : EReal)) (four i)
  · exact funext fun i => congrArg (fun j => ((kr j : ℝ) : EReal)) (three i)
  · exact funext fun i => congrArg (fun j => ((v j : ℝ) : EReal)) (four i)
  · exact funext fun i => congrArg (fun j => ((g j : ℝ) : EReal)) (four i)

theorem frame : Cert.quiescent_AttnBwd := fun m g _ => Cert.AttnBwd.Gen.frame m g

theorem frame_ideal : Cert.quiescent_AttnBwdIdeal := fun m g _ => Cert.AttnBwdIdeal.Gen.frame m g

theorem frame_ideal_pre : Cert.quiescent_AttnBwdIdeal_pre_finite_att := fun m g _ => Cert.AttnBwdIdeal.Gen.frame m g

theorem frame_ref : Cert.quiescent_AttnRefIdeal := fun m g _ =>
  (θ_run Cert.AttnRefIdeal.defs _ _).mono (fun r h => ⟨fun c => (h c).2.2.2, sem_eq_zero_of_no_sems (by decide) r.2⟩)
    (Cert.AttnRefIdeal.Value.run (F := Ideal) m g)

theorem frame_ref_pre : Cert.quiescent_AttnRefIdeal_pre_finite_att := fun m g _ => frame_ref m g trivial

theorem preserves : Cert.preserves_AttnBwd_AttnBwdIdeal :=
  ⟨IdealRules.named_const.statement Cert.AttnBwdIdeal.κ "scale_log2e" .f32 0x3DD53B95#32 _ rfl,
    IdealRules.named_const.statement Cert.AttnBwdIdeal.κ "scale" .f32 0x3D93CD3A#32 _ rfl⟩

section
open Cert.AttnRefIdeal Cert.AttnRefIdeal.Read

variable (A : Args)

theorem ref6 : val_main_v71 (F := Ideal) (Ref.X0 A) (Ref.X1 A) (Ref.X2 A) (Ref.X3 A) (Ref.X4 A) = G6 A := by
  funext i
  obtain ⟨a, b, rfl⟩ := two (n := 1024) (k := 8192) i
  exact Ref.v71_eq A a b

theorem ref7 : val_main_v74 (F := Ideal) (Ref.X0 A) (Ref.X1 A) (Ref.X2 A) (Ref.X3 A) (Ref.X4 A) = G7 A := by
  funext i
  obtain ⟨a, b, rfl⟩ := two (n := 8192) (k := 1024) i
  exact Ref.v74_eq A a b

theorem ref8 : val_main_v75 (F := Ideal) (Ref.X0 A) (Ref.X1 A) (Ref.X2 A) (Ref.X4 A) = G8 A := by
  funext i
  obtain ⟨a, b, rfl⟩ := two (n := 8192) (k := 512) i
  exact Ref.v75_eq A a b

/-- The plain gradient's run, on the real arguments `A`. -/
theorem ref_run (m : (ℓ : Loc nD τ sig) → Buf (Elt Ideal) ℓ) (g : Dev nD → PrngReg) (A : Dev nD → Args)
    (h : ∀ c : Dev nD, m ((c.tc : Thread nD τ).loc main_arg0) = Ref.X0 (A c) ∧ m ((c.tc : Thread nD τ).loc main_arg1) = Ref.X1 (A c)
      ∧ m ((c.tc : Thread nD τ).loc main_arg2) = Ref.X2 (A c) ∧ m ((c.tc : Thread nD τ).loc main_arg3) = Ref.X3 (A c)
      ∧ m ((c.tc : Thread nD τ).loc main_arg4) = Ref.X4 (A c)) :
    θ_run (defs (F := Ideal)) (onTc (τ := τ) (main (F := Ideal))) ⟨m, fun _ => 0, g⟩ fun r => ∀ c : Dev nD,
      r.2.mem ((c.tc : Thread nD τ).loc main_v71) = G6 (A c)
      ∧ r.2.mem ((c.tc : Thread nD τ).loc main_v74) = G7 (A c)
      ∧ r.2.mem ((c.tc : Thread nD τ).loc main_v75) = G8 (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c => ?_) (Value.run (F := Ideal) m g)
  obtain ⟨h0, h1, h2, h3, h4⟩ := h c
  obtain ⟨r0, r1, r2, rest⟩ := hr c
  refine ⟨r0.trans ?_, r1.trans ?_, r2.trans ?_, rest⟩
  · rw [val_main_v71_eq, h0, h1, h2, h3, h4]; exact ref6 _
  · rw [val_main_v74_eq, h0, h1, h2, h3, h4]; exact ref7 _
  · rw [val_main_v75_eq, h0, h1, h2, h4]; exact ref8 _

end

/-- The kernel and the plain gradient end with the same three arrays. -/
theorem algebraic : Cert.algebraic_AttnBwdIdeal_AttnRefIdeal_pre_finite_att := by
  pair_intro
  · exact Cert.AttnBwdIdeal.Value.run_blocks m g
  · choose A O using args_of_pre m hpre
    refine (θ_run Cert.AttnRefIdeal.defs _ _).mono (fun r hr c => ?_) (ref_run m' g' A fun c => ?_)
    · obtain ⟨r0, r1, r2, rest⟩ := hr c
      exact ⟨r0.trans (arr6 (O c)).symm, r1.trans (arr7 (O c)).symm, r2.trans (arr8 (O c)).symm, rest⟩
    · obtain ⟨a0, a1, a2, a3, a4⟩ := hagree c
      exact ⟨a0.trans (O c).q, a1.trans (O c).kn, a2.trans (O c).kr, a3.trans (O c).v, a4.trans (O c).g⟩

end Cert.Att.Claim
-- ==== Proof.Row.lean ====
/- One row's arithmetic over the reals: the root-mean-square norm and its gradient, the logistic function and the gate. -/
module

public import proofs.«01_k».proof.Proof.Lift

@[expose] public section

noncomputable section

open Idealize.ShloMosaic

namespace Cert.Row

open Cert.Lift

/-- The norm's 1e-6 as its float word has it. -/
def eps : ℝ := 8796093 * (2 : ℝ) ^ (-43 : ℤ)

theorem eps_pos : 0 < eps := by unfold eps; positivity

theorem ofBits_eps : Ideal.ofBits .f32 0x358637BD#32 = ((eps : ℝ) : EReal) := by
  simp [Ideal.ofBits, Ideal.ieee]
  rw [← EReal.coe_mul]
  unfold eps
  norm_num
theorem ofBits_1024 : Ideal.ofBits .f32 0x44800000#32 = ((1024 : ℝ) : EReal) := by
  simp [Ideal.ofBits, Ideal.ieee]
  rw [← EReal.coe_mul]
  norm_num
theorem ofBits_inv1024 : Ideal.ofBits .f32 0x3A800000#32 = ((1 / 1024 : ℝ) : EReal) := by
  simp [Ideal.ofBits, Ideal.ieee]
  rw [← EReal.coe_mul]
  norm_num
theorem ofBits_half : Ideal.ofBits .f32 0x3F000000#32 = ((1 / 2 : ℝ) : EReal) := by
  simp [Ideal.ofBits, Ideal.ieee]
  rw [← EReal.coe_mul]
  norm_num
theorem ofBits_neg_half : Ideal.ofBits .f32 0xBF000000#32 = ((-(1 / 2) : ℝ) : EReal) := by
  simp [Ideal.ofBits, Ideal.ieee]
  rw [← EReal.coe_mul]
  norm_num
theorem ofBits_one : Ideal.ofBits .f32 0x3F800000#32 = ((1 : ℝ) : EReal) := by
  simp [Ideal.ofBits, Ideal.ieee]
  rw [← EReal.coe_mul]
  norm_num
theorem ofBits_zero : Ideal.ofBits .f32 0x00000000#32 = ((0 : ℝ) : EReal) := by
  simp [Ideal.ofBits, Ideal.ieee]

section
variable {n : ℕ} (N : ℝ) (x g dy : Fin n → ℝ)

/-- The mean square and the norm's small number. -/
def ms : ℝ := (∑ k, x k * x k) / N + eps

/-- The reciprocal root. -/
def rr : ℝ := (Real.sqrt (ms N x))⁻¹

/-- The row, normed. -/
def hat (k : Fin n) : ℝ := x k * rr N x

/-- The norm with its gain. -/
def rms (k : Fin n) : ℝ := hat N x k * g k

/-- The norm's gradient of the row. -/
def rmsBwd (k : Fin n) : ℝ := rr N x * (dy k * g k - hat N x k * ((∑ j, dy j * g j * hat N x j) / N))

variable {N}

theorem ms_pos (hN : 0 < N) : 0 < ms N x := by
  have h : 0 ≤ ∑ k, x k * x k := Finset.sum_nonneg fun k _ => mul_self_nonneg _
  have := eps_pos
  unfold ms
  positivity

theorem rr_sq (hN : 0 < N) : rr N x / ms N x = rr N x * rr N x * rr N x := by
  have h := ms_pos x hN
  have e : rr N x * rr N x = (ms N x)⁻¹ := by
    unfold rr
    rw [← mul_inv, Real.mul_self_sqrt h.le]
  rw [e, div_eq_mul_inv, mul_comm]

/-- The gradient as it comes out of differentiating `x * rsqrt (mean (x * x) + eps)` operation by operation. -/
theorem rms_vjp (hN : 0 < N) (k : Fin n) :
    dy k * g k * rr N x + x k * ((∑ j, x j * (dy j * g j)) * (-(1 / 2) * (rr N x / ms N x)) / N)
      + (∑ j, x j * (dy j * g j)) * (-(1 / 2) * (rr N x / ms N x)) / N * x k = rmsBwd N x g dy k := by
  have e : ∑ j, dy j * g j * hat N x j = rr N x * ∑ j, x j * (dy j * g j) := by
    rw [Finset.mul_sum]
    exact Finset.sum_congr rfl fun j _ => by unfold hat; ring
  rw [rr_sq x hN, rmsBwd, e, hat]
  ring

end

/-- The logistic function. -/
def sg (z : ℝ) : ℝ := 1 / (1 + Real.exp (-z))

/-- The gate `z * sg z` and its slope. -/
def slope (z : ℝ) : ℝ := sg z * (1 + z * (1 - sg z))

theorem den_ne (z : ℝ) : 1 + Real.exp (-z) ≠ 0 := by positivity

theorem logistic_real (z : ℝ) : Ideal.logistic (z : EReal) = ((sg z : ℝ) : EReal) := by
  have h1 : (1 : EReal) = ((1 : ℝ) : EReal) := rfl
  rw [Ideal.logistic, ← EReal.coe_neg, Ideal.exp_coe, h1, ← EReal.coe_add, div_real (den_ne z)]
  rfl

/-- The gate's gradient as differentiating `z * logistic z` gives it. -/
theorem slope_vjp (z d : ℝ) : d * sg z + z * d * (sg z * (1 - sg z)) = d * slope z := by unfold slope; ring

/-- A row of the 2 × 4096 grid, counted in one axis. -/
def rowB (r : Fin 8192) : Fin 2 := ⟨r.val / 4096, by omega⟩
def rowS (r : Fin 8192) : Fin 4096 := ⟨r.val % 4096, by omega⟩

/-- Row `r` of the `i`-th tile of `w` rows. -/
def tileRow (n w : ℕ) (h : n * w = 8192) (i : ℕ) (r : Fin w) : Fin 8192 :=
  ⟨i % n * w + r.val, by
    have hn : 0 < n := Nat.pos_of_ne_zero (by rintro rfl; simp at h)
    calc i % n * w + r.val < i % n * w + w := by omega
      _ = (i % n + 1) * w := by ring
      _ ≤ n * w := Nat.mul_le_mul_right w (Nat.mod_lt i hn)
      _ = 8192 := h⟩

theorem sum_tiles (n w : ℕ) (h : n * w = 8192) (f : Fin 8192 → ℝ) :
    ∑ i ∈ Finset.range n, ∑ r, f (tileRow n w h i r) = ∑ r, f r := by
  rw [Finset.sum_range fun i => ∑ r, f (tileRow n w h i r), ← Fintype.sum_prod_type' (f := fun (i : Fin n) r => f (tileRow n w h i r))]
  refine Fintype.sum_equiv (finProdFinEquiv.trans (finCongr h)) _ _ fun p => congrArg f (Fin.ext ?_)
  simp [tileRow, Nat.mod_eq_of_lt p.1.isLt]
  ring

theorem sum_rows (f : Fin 2 → Fin 4096 → ℝ) : ∑ r, f (rowB r) (rowS r) = ∑ b, ∑ s, f b s := by
  rw [← Fintype.sum_prod_type' (f := f)]
  refine (Fintype.sum_equiv (finProdFinEquiv.trans (finCongr (by norm_num : 2 * 4096 = 8192))) _ _ fun p => ?_).symm
  have e : (finProdFinEquiv p).val = p.2.val + 4096 * p.1.val := rfl
  have h0 : rowB ((finProdFinEquiv.trans (finCongr (by norm_num : 2 * 4096 = 8192))) p) = p.1 := Fin.ext (by simp [rowB, -finProdFinEquiv_apply_val, e]; omega)
  have h1 : rowS ((finProdFinEquiv.trans (finCongr (by norm_num : 2 * 4096 = 8192))) p) = p.2 := Fin.ext (by simp [rowS, -finProdFinEquiv_apply_val, e])
  rw [h0, h1]

/-- A sum over the two leading axes. -/
theorem sum_lead {n0 n1 n2 : ℕ} (h : (⟨3, ![n0, n1, n2]⟩ : Shape).ReducesTo [0, 1] ⟨1, ![n2]⟩)
    (v : (⟨3, ![n0, n1, n2]⟩ : Shape).Idx → EReal) (init : EReal) (k : Fin n2) :
    Ideal.hostReduceAdd h v init (ix1 k) = init + ∑ i : Fin n0, ∑ j : Fin n1, v (ix3 i j k) := by
  refine congrArg (init + ·) ((Finset.sum_filter_eq_sum_of_fiber _ (fun p : Fin n0 × Fin n1 => ix3 p.1 p.2 k)
    (fun _ _ e => Prod.ext (congrFun e 0) (congrFun e 1)) (fun i => ⟨fun e => ⟨(i 0, i 1), ?_⟩, ?_⟩) v).trans ?_)
  · funext a
    apply Fin.ext
    match a with
    | ⟨0, _⟩ => rfl
    | ⟨1, _⟩ => rfl
    | ⟨2, _⟩ => exact (congrArg Fin.val (congrFun e 0)).symm
  · rintro ⟨p, rfl⟩
    funext b
    apply Fin.ext
    match b with
    | ⟨0, _⟩ => rfl
  · simp only [Fintype.sum_prod_type]

end Cert.Row
-- ==== Proof.FfnSpec.lean ====
/- The feed-forward layer, the last norm and the loss over the reals, one row at a time, and the gradient. -/
module

public import proofs.«01_k».proof.Proof.Row

@[expose] public section

noncomputable section

namespace Cert.Ffn

open Cert.Row

/-- The layer's arguments: the rows, the gains, the three weights and the target. -/
structure Args where
  x : Fin 2 → Fin 4096 → Fin 1024 → ℝ
  g2 : Fin 1024 → ℝ
  wg : Fin 1024 → Fin 2816 → ℝ
  wu : Fin 1024 → Fin 2816 → ℝ
  wd : Fin 2816 → Fin 1024 → ℝ
  gf : Fin 1024 → ℝ
  tg : Fin 2 → Fin 4096 → Fin 1024 → ℝ

section
variable (A : Args) (x h d : Fin 1024 → ℝ)

/-! ## Forward, from the normed row `h` -/

def gate (j : Fin 2816) : ℝ := ∑ k, h k * A.wg k j
def up (j : Fin 2816) : ℝ := ∑ k, h k * A.wu k j
def act (j : Fin 2816) : ℝ := gate A h j * sg (gate A h j) * up A h j
def x3 (k : Fin 1024) : ℝ := x k + ∑ j, act A h j * A.wd j k
def err (t : Fin 1024 → ℝ) (k : Fin 1024) : ℝ := rms 1024 (x3 A x h) A.gf k - t k

/-! ## Backward, from the last norm's row gradient `d` -/

def da (j : Fin 2816) : ℝ := ∑ k, d k * A.wd j k
def dup (j : Fin 2816) : ℝ := da A d j * (gate A h j * sg (gate A h j))
def dgate (j : Fin 2816) : ℝ := da A d j * up A h j * slope (gate A h j)
def dh (k : Fin 1024) : ℝ := ∑ j, dgate A h d j * A.wg k j + ∑ j, dup A h d j * A.wu k j

end

section
variable (A : Args) (b : Fin 2) (s : Fin 4096)

/-- One row's normed row, last residual, error and gradients. -/
def H : Fin 1024 → ℝ := rms 1024 (A.x b s) A.g2
def X3 : Fin 1024 → ℝ := x3 A (A.x b s) (H A b s)
def E : Fin 1024 → ℝ := err A (A.x b s) (H A b s) (A.tg b s)
def dy (k : Fin 1024) : ℝ := E A b s k * (1 / 1024)
def dx3 : Fin 1024 → ℝ := rmsBwd 1024 (X3 A b s) A.gf (dy A b s)
def dH : Fin 1024 → ℝ := dh A (H A b s) (dx3 A b s)
def dx2 (k : Fin 1024) : ℝ := dx3 A b s k + rmsBwd 1024 (A.x b s) A.g2 (dH A b s) k

/-- One row's share of the loss and of the gains' gradients. -/
def lossRow : ℝ := (∑ k, E A b s k * E A b s k) / 1024
def dgfRow (k : Fin 1024) : ℝ := dy A b s k * hat 1024 (X3 A b s) k
def dg2Row (k : Fin 1024) : ℝ := dH A b s k * hat 1024 (A.x b s) k

end

def loss (A : Args) : ℝ := 1 / 2 * ∑ b, ∑ s, lossRow A b s
def dgf (A : Args) (k : Fin 1024) : ℝ := ∑ b, ∑ s, dgfRow A b s k
def dg2 (A : Args) (k : Fin 1024) : ℝ := ∑ b, ∑ s, dg2Row A b s k

end Cert.Ffn
-- ==== Proof.FfnHost.lean ====
/- What the feed-forward layer's host lines give the kernel on real arguments: the normed rows, the rows, the target and the weights. -/
module

public import proofs.«01_k».proof.Proof.FfnSpec
public import proofs.«01_k».proof.Proof.Gen.FfnBwdIdeal.Frame
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.Ffn.Host

open Cert.FfnBwdIdeal Cert.FfnBwdIdeal.Gen Cert.Lift Cert.Row

/-! ## The host lines, composed -/

def flat (x : FVec Ideal S2x4096x1024 .f32) : FVec Ideal S8192x1024 .f32 := shapeCast S8192x1024 x shapeCasts_S2x4096x1024_S8192x1024
def meanSq (x : FVec Ideal S8192x1024 .f32) : FVec Ideal S8192x1 .f32 :=
  addf (Host.divf (broadcastInDim S8192x1 ![0] bcast_S8192_S8192x1_0
      (Host.reduceAdd (mulf x x) (constant S_ .f32 0x00000000#32) reducesTo_S8192x1024_S8192_d1 h_S_ : FVec Ideal S8192 .f32))
    (broadcastInDim S8192x1 ![] bcast_S_S8192x1 (constant S_ .f32 0x44800000#32)))
    (broadcastInDim S8192x1 ![] bcast_S_S8192x1 (constant S_ .f32 0x358637BD#32))
def normed (x : FVec Ideal S8192x1024 .f32) (g : FVec Ideal S1x1024 .f32) : FVec Ideal S8192x1024 .f32 :=
  mulf (mulf x (broadcastInDim S8192x1024 ![0, 1] bcast_S8192x1_S8192x1024_0_1 (Host.rsqrt (meanSq x))))
    (broadcastInDim S8192x1024 ![0, 1] bcast_S1x1024_S8192x1024_0_1 g)
def wT (w : FVec Ideal S1x1024x2816 .f32) : FVec Ideal S2816x1024 .bf16 :=
  truncf .bf16 (transpose S2816x1024 [1, 0] (shapeCast S1024x2816 w shapeCasts_S1x1024x2816_S1024x2816) transposes_S1024x2816_S2816x1024_1_0) bitsLt_bf16_f32
def wD (w : FVec Ideal S1x2816x1024 .f32) : FVec Ideal S2816x1024 .bf16 :=
  truncf .bf16 (shapeCast S2816x1024 w shapeCasts_S1x2816x1024_S2816x1024) bitsLt_bf16_f32

/-! ## The kernel's operands are these -/

section Entry
variable (m : (ℓ : Loc nD τ sig) → Buf (Elt Ideal) ℓ) (c : Dev nD)

theorem V_h : V m c main_v13 = (truncf .bf16 (normed (flat (m ((c : Thread nD τ).loc main_arg0))) (m ((c : Thread nD τ).loc main_arg1))) bitsLt_bf16_f32
    : FVec Ideal S8192x1024 .bf16) := by
  unfold V
  after_reads_simp
  rfl

theorem V_x : V m c main_v14 = flat (m ((c : Thread nD τ).loc main_arg0)) := by
  unfold V
  after_reads_simp
  rfl

theorem V_t : V m c main_v15 = flat (m ((c : Thread nD τ).loc main_arg6)) := by
  unfold V
  after_reads_simp
  rfl

theorem V_wg : V m c main_v18 = wT (m ((c : Thread nD τ).loc main_arg2)) := by
  unfold V
  after_reads_simp
  rfl

theorem V_wu : V m c main_v21 = wT (m ((c : Thread nD τ).loc main_arg3)) := by
  unfold V
  after_reads_simp
  rfl

theorem V_wd : V m c main_v23 = wD (m ((c : Thread nD τ).loc main_arg4)) := by
  unfold V
  after_reads_simp
  rfl

theorem V_gf : V m c main_v24 = (broadcastInDim S1x1024 ![1] bcast_S1024_S1x1024_1 (m ((c : Thread nD τ).loc main_arg5) : FVec Ideal S1024 .f32)
    : FVec Ideal S1x1024 .f32) := by
  unfold V
  after_reads_simp

theorem V_g2 : V m c main_arg1 = m ((c : Thread nD τ).loc main_arg1) := V_main_arg1 m c

end Entry

/-! ## On real arguments -/

def X0 (A : Args) : FVec Ideal S2x4096x1024 .f32 := fun i => ((A.x (i 0) (i 1) (i 2) : ℝ) : EReal)
def X1 (A : Args) : FVec Ideal S1x1024 .f32 := fun i => ((A.g2 (i 1) : ℝ) : EReal)
def X2 (A : Args) : FVec Ideal S1x1024x2816 .f32 := fun i => ((A.wg (i 1) (i 2) : ℝ) : EReal)
def X3 (A : Args) : FVec Ideal S1x1024x2816 .f32 := fun i => ((A.wu (i 1) (i 2) : ℝ) : EReal)
def X4 (A : Args) : FVec Ideal S1x2816x1024 .f32 := fun i => ((A.wd (i 1) (i 2) : ℝ) : EReal)
def X5 (A : Args) : FVec Ideal S1024 .f32 := fun i => ((A.gf (i 0) : ℝ) : EReal)
def X6 (A : Args) : FVec Ideal S2x4096x1024 .f32 := fun i => ((A.tg (i 0) (i 1) (i 2) : ℝ) : EReal)

variable (A : Args) (r : Fin 8192) (k : Fin 1024) (j : Fin 2816)

theorem flat_eq (f : Fin 2 → Fin 4096 → Fin 1024 → ℝ) (x : FVec Ideal S2x4096x1024 .f32) (h : ∀ b s k, x (ix3 b s k) = ((f b s k : ℝ) : EReal)) :
    flat x (ix2 r k) = ((f (rowB r) (rowS r) k : ℝ) : EReal) := by
  pointwise [flat, h]
  rfl

theorem meanSq_eq (x : FVec Ideal S8192x1024 .f32) (f : Fin 1024 → ℝ) (h : ∀ k, x (ix2 r k) = ((f k : ℝ) : EReal)) (z : Fin 1) :
    meanSq x (ix2 r z) = ((ms 1024 f : ℝ) : EReal) := by
  pointwise [meanSq, h]
  rw [ofBits_1024, ofBits_eps]
  simp only [← EReal.coe_mul, sum_coe, zero_add, div_real (by norm_num : (1024 : ℝ) ≠ 0), ← EReal.coe_add, ms]

theorem normed_eq (x : FVec Ideal S8192x1024 .f32) (g : FVec Ideal S1x1024 .f32) (f e : Fin 1024 → ℝ) (h : ∀ k, x (ix2 r k) = ((f k : ℝ) : EReal))
    (hg : ∀ z k, g (ix2 z k) = ((e k : ℝ) : EReal)) : normed x g (ix2 r k) = ((rms 1024 f e k : ℝ) : EReal) := by
  have key := meanSq_eq r x f h
  pointwise [normed, h, hg, key]
  rw [rsqrt_real (ms_pos f (by norm_num))]
  simp only [← EReal.coe_mul, rms, hat, rr]

theorem wT_eq (w : FVec Ideal S1x1024x2816 .f32) (f : Fin 1024 → Fin 2816 → ℝ) (h : ∀ z k j, w (ix3 z k j) = ((f k j : ℝ) : EReal)) :
    wT w (ix2 j k) = ((f k j : ℝ) : EReal) := by
  pointwise [wT, h]

theorem wD_eq (w : FVec Ideal S1x2816x1024 .f32) (f : Fin 2816 → Fin 1024 → ℝ) (h : ∀ z j k, w (ix3 z j k) = ((f j k : ℝ) : EReal)) :
    wD w (ix2 j k) = ((f j k : ℝ) : EReal) := by
  pointwise [wD, h]

end Cert.Ffn.Host
-- ==== Proof.FfnPoint.lean ====
/- One grid point of the feed-forward layer on real blocks. -/
module

public import proofs.«01_k».proof.Proof.FfnHost
public import proofs.«01_k».proof.Proof.Gen.FfnBwdIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ffn.Point

open Cert.FfnBwdIdeal Cert.FfnBwdIdeal.Gen Cert.Lift Cert.Row

/-! ## The body's values on real rows -/

section
variable (A : Args) (X N T : Fin 256 → Fin 1024 → ℝ) (r : Fin 256)

def Y : Fin 1024 → ℝ := x3 A (X r) (N r)
def er : Fin 1024 → ℝ := err A (X r) (N r) (T r)
def Dy (k : Fin 1024) : ℝ := er A X N T r k * (1 / 1024)
def D3 : Fin 1024 → ℝ := rmsBwd 1024 (Y A X N r) A.gf (Dy A X N T r)
def DN : Fin 1024 → ℝ := dh A (N r) (D3 A X N T r)
end

section Body
variable (x0 : Vec Ideal S256x1024 .bf16) (x1 x2 : Vec Ideal S256x1024 .f32) (x3 x4 x5 : Vec Ideal S2816x1024 .bf16) (x6 x7 : Vec Ideal S1x1024 .f32)
  (A : Args) (X N T : Fin 256 → Fin 1024 → ℝ)

/-- The blocks hold these reals. -/
structure Holds : Prop where
  n : ∀ r k, x0 (ix2 r k) = ((N r k : ℝ) : EReal)
  x : ∀ r k, x1 (ix2 r k) = ((X r k : ℝ) : EReal)
  t : ∀ r k, x2 (ix2 r k) = ((T r k : ℝ) : EReal)
  wg : ∀ j k, x3 (ix2 j k) = ((A.wg k j : ℝ) : EReal)
  wu : ∀ j k, x4 (ix2 j k) = ((A.wu k j : ℝ) : EReal)
  wd : ∀ j k, x5 (ix2 j k) = ((A.wd j k : ℝ) : EReal)
  gf : ∀ z k, x6 (ix2 z k) = ((A.gf k : ℝ) : EReal)
  g2 : ∀ z k, x7 (ix2 z k) = ((A.g2 k : ℝ) : EReal)

theorem pos : (0 : ℝ) < 1024 := by norm_num

variable {x0 x1 x2 x3 x4 x5 x6 x7 A X N T} (H : Holds x0 x1 x2 x3 x4 x5 x6 x7 A X N T)
  (r : Fin 256) (k : Fin 1024) (j : Fin 2816) (z : Fin 1)
include H

theorem Holds.pay7 : k0_pay7 (F := Ideal) x0 x3 (ix2 r j) = ((gate A (N r) j : ℝ) : EReal) := by
  have kn := H.n; have kg := H.wg
  pointwise [k0_pay7, k0_pay6, kn, kg]
  simp only [← EReal.coe_mul, sum_coe, zero_add, gate]

theorem Holds.pay8 : k0_pay8 (F := Ideal) x0 x4 (ix2 r j) = ((up A (N r) j : ℝ) : EReal) := by
  have kn := H.n; have ku := H.wu
  pointwise [k0_pay8, k0_pay6, kn, ku]
  simp only [← EReal.coe_mul, sum_coe, zero_add, up]

theorem Holds.pay9 : k0_pay9 (F := Ideal) x0 x3 (ix2 r j) = ((sg (gate A (N r) j) : ℝ) : EReal) :=
  (congrArg Ideal.logistic (H.pay7 r j)).trans (logistic_real _)

theorem Holds.pay10 : k0_pay10 (F := Ideal) x0 x3 (ix2 r j) = ((gate A (N r) j * sg (gate A (N r) j) : ℝ) : EReal) := by
  have p7 := H.pay7; have p9 := H.pay9
  pointwise [k0_pay10, p7, p9]
  simp only [← EReal.coe_mul]

theorem Holds.pay11 : k0_pay11 (F := Ideal) x0 x3 x4 (ix2 r j) = ((act A (N r) j : ℝ) : EReal) := by
  have p10 := H.pay10; have p8 := H.pay8
  pointwise [k0_pay11, p10, p8]
  simp only [← EReal.coe_mul, act]

theorem Holds.pay13 : k0_pay13 (F := Ideal) x0 x3 x4 x1 x5 (ix2 r k) = ((Y A X N r k : ℝ) : EReal) := by
  have p11 := H.pay11; have kx := H.x; have kd := H.wd
  pointwise [k0_pay13, k0_pay12, p11, kx, kd]
  simp only [← EReal.coe_mul, sum_coe, zero_add, ← EReal.coe_add, Y, Ffn.x3]

theorem Holds.pay14 : k0_pay14 (F := Ideal) x0 x3 x4 x1 x5 (ix2 r z) = ((rr 1024 (Y A X N r) : ℝ) : EReal) := by
  have p13 := H.pay13
  pointwise [k0_pay14, p13]
  rw [ofBits_1024, ofBits_eps]
  simp only [← EReal.coe_mul, sum_coe, zero_add, div_real pos.ne', ← EReal.coe_add]
  exact rsqrt_real (ms_pos (Y A X N r) pos)

theorem Holds.pay15 : k0_pay15 (F := Ideal) x0 x3 x4 x1 x5 (ix2 r k) = ((hat 1024 (Y A X N r) k : ℝ) : EReal) := by
  have p13 := H.pay13; have p14 := H.pay14
  pointwise [k0_pay15, p13, p14]
  simp only [← EReal.coe_mul, hat]

theorem Holds.pay17 : k0_pay17 (F := Ideal) x0 x3 x4 x1 x5 x6 (ix2 r k) = ((rms 1024 (Y A X N r) A.gf k : ℝ) : EReal) := by
  have p15 := H.pay15; have kf := H.gf
  pointwise [k0_pay17, k0_pay16, p15, kf]
  simp only [← EReal.coe_mul, rms]

theorem Holds.pay18 : k0_pay18 (F := Ideal) (k0_pay17 x0 x3 x4 x1 x5 x6) x2 (ix2 r k) = ((er A X N T r k : ℝ) : EReal) := by
  have p17 := H.pay17; have kt := H.t
  pointwise [k0_pay18, p17, kt]
  simp only [← EReal.coe_sub, er, err, Y]

theorem Holds.pay20 (w : Vec Ideal S8x128 .f32) (v : ℝ) (a : Fin 8) (l : Fin 128) (hw : w (ix2 a l) = ((v : ℝ) : EReal)) :
    k0_pay20 (F := Ideal) (k0_pay17 x0 x3 x4 x1 x5 x6) x2 w (ix2 a l)
      = ((v + 1 / 2 * ∑ r, (∑ k, er A X N T r k * er A X N T r k) / 1024 : ℝ) : EReal) := by
  have p18 := H.pay18
  pointwise [k0_pay20, p18, hw]
  rw [ofBits_1024, ofBits_half]
  simp only [← EReal.coe_mul, sum_coe, zero_add, div_real pos.ne', ← EReal.coe_add]

theorem Holds.pay21 : k0_pay21 (F := Ideal) (k0_pay17 x0 x3 x4 x1 x5 x6) x2 (ix2 r k) = ((Dy A X N T r k : ℝ) : EReal) := by
  have p18 := H.pay18
  pointwise [k0_pay21, p18]
  rw [ofBits_inv1024]
  simp only [← EReal.coe_mul, Dy]

theorem Holds.pay22 : k0_pay22 (F := Ideal) (k0_pay15 x0 x3 x4 x1 x5) (k0_pay17 x0 x3 x4 x1 x5 x6) x2 (ix2 z k)
    = ((∑ r, Dy A X N T r k * hat 1024 (Y A X N r) k : ℝ) : EReal) := by
  have p21 := H.pay21; have p15 := H.pay15
  pointwise [k0_pay22, p21, p15]
  simp only [← EReal.coe_mul, sum_coe, zero_add]

theorem Holds.pay23 (w : Vec Ideal S1x1024 .f32) (v : ℝ) (hw : w (ix2 z k) = ((v : ℝ) : EReal)) :
    k0_pay23 (F := Ideal) (k0_pay15 x0 x3 x4 x1 x5) (k0_pay17 x0 x3 x4 x1 x5 x6) x2 w (ix2 z k)
      = ((v + ∑ r, Dy A X N T r k * hat 1024 (Y A X N r) k : ℝ) : EReal) := by
  have p22 := H.pay22
  pointwise [k0_pay23, p22, hw]
  simp only [← EReal.coe_add]

/-- The last norm's gradient, as the body's later values take it. -/
def d3 (x0 : Vec Ideal S256x1024 .bf16) (x1 x2 : Vec Ideal S256x1024 .f32) (x3 x4 x5 : Vec Ideal S2816x1024 .bf16) (x6 : Vec Ideal S1x1024 .f32) : FVec Ideal S256x1024 .f32 :=
  k0_pay24 (k0_pay14 x0 x3 x4 x1 x5) (k0_pay15 x0 x3 x4 x1 x5) (k0_pay16 x6) (k0_pay17 x0 x3 x4 x1 x5 x6) x2

theorem Holds.d3 : d3 x0 x1 x2 x3 x4 x5 x6 (ix2 r k) = ((D3 A X N T r k : ℝ) : EReal) := by
  have p14 := H.pay14; have p15 := H.pay15; have p21 := H.pay21; have kf := H.gf
  pointwise [Point.d3, k0_pay24, k0_pay16, p14, p15, p21, kf]
  rw [ofBits_1024]
  simp only [← EReal.coe_mul, sum_coe, zero_add, div_real pos.ne', ← EReal.coe_sub, D3, rmsBwd]

theorem Holds.pay25 : k0_pay25 (F := Ideal) (Point.d3 x0 x1 x2 x3 x4 x5 x6) (ix2 r k) = ((D3 A X N T r k : ℝ) : EReal) := by
  have p := H.d3
  pointwise [k0_pay25, p]

theorem Holds.pay26 : k0_pay26 (F := Ideal) (Point.d3 x0 x1 x2 x3 x4 x5 x6) x5 (ix2 r j) = ((da A (D3 A X N T r) j : ℝ) : EReal) := by
  have p25 := H.pay25; have kd := H.wd
  pointwise [k0_pay26, p25, kd]
  simp only [← EReal.coe_mul, sum_coe, zero_add, da]

theorem Holds.pay27 : k0_pay27 (F := Ideal) (k0_pay10 x0 x3) (Point.d3 x0 x1 x2 x3 x4 x5 x6) x5 (ix2 r j) = ((dup A (N r) (D3 A X N T r) j : ℝ) : EReal) := by
  have p26 := H.pay26; have p10 := H.pay10
  pointwise [k0_pay27, p26, p10]
  simp only [← EReal.coe_mul, dup]

theorem Holds.pay28 : k0_pay28 (F := Ideal) (k0_pay7 x0 x3) (k0_pay8 x0 x4) (k0_pay9 x0 x3) (Point.d3 x0 x1 x2 x3 x4 x5 x6) x5 (ix2 r j)
    = ((dgate A (N r) (D3 A X N T r) j : ℝ) : EReal) := by
  have p26 := H.pay26; have p7 := H.pay7; have p8 := H.pay8; have p9 := H.pay9
  pointwise [k0_pay28, p26, p7, p8, p9]
  simp only [← EReal.coe_one, ← EReal.coe_mul, ← EReal.coe_sub, ← EReal.coe_add, dgate, Row.slope]

/-- The normed row's gradient, as the body's later values take it. -/
def dn (x0 : Vec Ideal S256x1024 .bf16) (x1 x2 : Vec Ideal S256x1024 .f32) (x3 x4 x5 : Vec Ideal S2816x1024 .bf16) (x6 : Vec Ideal S1x1024 .f32) : FVec Ideal S256x1024 .f32 :=
  k0_pay29 (k0_pay7 x0 x3) (k0_pay8 x0 x4) (k0_pay9 x0 x3) (k0_pay10 x0 x3) (d3 x0 x1 x2 x3 x4 x5 x6) x5 x3 x4

theorem Holds.dn : dn x0 x1 x2 x3 x4 x5 x6 (ix2 r k) = ((DN A X N T r k : ℝ) : EReal) := by
  have p28 := H.pay28; have p27 := H.pay27; have kg := H.wg; have ku := H.wu
  pointwise [Point.dn, k0_pay29, p28, p27, kg, ku]
  simp only [← EReal.coe_mul, sum_coe, zero_add, ← EReal.coe_add, DN, dh]

theorem Holds.pay30 : k0_pay30 (F := Ideal) (k0_pay12 x1) (ix2 r z) = ((rr 1024 (X r) : ℝ) : EReal) := by
  have kx := H.x
  pointwise [k0_pay30, k0_pay12, kx]
  rw [ofBits_1024, ofBits_eps]
  simp only [← EReal.coe_mul, sum_coe, zero_add, div_real pos.ne', ← EReal.coe_add]
  exact rsqrt_real (ms_pos (X r) pos)

theorem Holds.pay1 : k0_pay1 (F := Ideal) (k0_pay12 x1) (k0_pay31 (k0_pay12 x1)) (ix2 r k) = ((hat 1024 (X r) k : ℝ) : EReal) := by
  have p30 := H.pay30; have kx := H.x
  pointwise [k0_pay1, k0_pay31, k0_pay12, kx]
  pointwise [k0_pay12] at p30
  pointwise [p30]
  simp only [← EReal.coe_mul, hat]

theorem Holds.pay2 : k0_pay2 (F := Ideal) (k0_pay12 x1) (Point.dn x0 x1 x2 x3 x4 x5 x6) (k0_pay31 (k0_pay12 x1)) (ix2 z k)
    = ((∑ r, DN A X N T r k * hat 1024 (X r) k : ℝ) : EReal) := by
  have p1 := H.pay1; have pn := H.dn
  pointwise [k0_pay2, p1, pn]
  simp only [← EReal.coe_mul, sum_coe, zero_add]

theorem Holds.pay3 (w : Vec Ideal S1x1024 .f32) (v : ℝ) (hw : w (ix2 z k) = ((v : ℝ) : EReal)) :
    k0_pay3 (F := Ideal) (k0_pay12 x1) (Point.dn x0 x1 x2 x3 x4 x5 x6) (k0_pay31 (k0_pay12 x1)) w (ix2 z k)
      = ((v + ∑ r, DN A X N T r k * hat 1024 (X r) k : ℝ) : EReal) := by
  have p2 := H.pay2
  pointwise [k0_pay3, p2, hw]
  simp only [← EReal.coe_add]

theorem Holds.pay4 : k0_pay4 (F := Ideal) (k0_pay12 x1) (Point.d3 x0 x1 x2 x3 x4 x5 x6) (Point.dn x0 x1 x2 x3 x4 x5 x6) x7 (k0_pay30 (k0_pay12 x1)) (k0_pay31 (k0_pay12 x1))
      (ix2 r k) = ((D3 A X N T r k + rmsBwd 1024 (X r) A.g2 (DN A X N T r) k : ℝ) : EReal) := by
  have p1 := H.pay1; have pn := H.dn; have p3 := H.d3; have p30 := H.pay30; have kg := H.g2
  pointwise [k0_pay4, p1, pn, p3, p30, kg]
  rw [ofBits_1024]
  simp only [← EReal.coe_mul, sum_coe, zero_add, div_real pos.ne', ← EReal.coe_sub, ← EReal.coe_add, rmsBwd]

end Body

/-! ## What a point leaves -/

section Point
variable {m : (ℓ : Loc nD τ sig) → Buf (Elt Ideal) ℓ} {c : Dev nD} {t : Fin cfg0.N} {A : Args} {X N T : Fin 256 → Fin 1024 → ℝ}
  (ht : t.val < 32) (H : Holds (iblk m c 0 t) (iblk m c 1 t) (iblk m c 2 t) (iblk m c 3 t) (iblk m c 4 t) (iblk m c 5 t) (iblk m c 6 t) (iblk m c 7 t) A X N T)
  (r : Fin 256) (k : Fin 1024) (j : Fin 2816) (z : Fin 1) (a : Fin 8) (l : Fin 128)
include ht H

theorem out8 : (outsAt0 m c t.val t.isLt).1 (ix2 r j) = ((act A (N r) j : ℝ) : EReal) := by
  by_cases g : t.val % 32 = 0
  · rw [outsAt0_A m c t g g (by omega) g (by omega)]
    frame_out
    exact H.pay11 r j
  · rw [outsAt0_B m c t g g (by omega) g (by omega)]
    frame_out
    exact H.pay11 r j

theorem out9 : (outsAt0 m c t.val t.isLt).2.1 (ix2 r j) = ((dgate A (N r) (D3 A X N T r) j : ℝ) : EReal) := by
  by_cases g : t.val % 32 = 0
  · rw [outsAt0_A m c t g g (by omega) g (by omega)]
    frame_out
    exact H.pay28 r j
  · rw [outsAt0_B m c t g g (by omega) g (by omega)]
    frame_out
    exact H.pay28 r j

theorem out10 : (outsAt0 m c t.val t.isLt).2.2.1 (ix2 r j) = ((dup A (N r) (D3 A X N T r) j : ℝ) : EReal) := by
  by_cases g : t.val % 32 = 0
  · rw [outsAt0_A m c t g g (by omega) g (by omega)]
    frame_out
    exact H.pay27 r j
  · rw [outsAt0_B m c t g g (by omega) g (by omega)]
    frame_out
    exact H.pay27 r j

theorem out11 : (outsAt0 m c t.val t.isLt).2.2.2.1 (ix2 r k) = ((D3 A X N T r k : ℝ) : EReal) := by
  by_cases g : t.val % 32 = 0
  · rw [outsAt0_A m c t g g (by omega) g (by omega)]
    frame_out
    exact H.pay25 r k
  · rw [outsAt0_B m c t g g (by omega) g (by omega)]
    frame_out
    exact H.pay25 r k

theorem out12 : (outsAt0 m c t.val t.isLt).2.2.2.2.1 (ix2 r k) = ((D3 A X N T r k + rmsBwd 1024 (X r) A.g2 (DN A X N T r) k : ℝ) : EReal) := by
  by_cases g : t.val % 32 = 0
  · rw [outsAt0_A m c t g g (by omega) g (by omega)]
    frame_out
    exact H.pay4 r k
  · rw [outsAt0_B m c t g g (by omega) g (by omega)]
    frame_out
    exact H.pay4 r k

theorem out13 : (outsAt0 m c t.val t.isLt).2.2.2.2.2.1 (ix2 r k) = ((D3 A X N T r k + rmsBwd 1024 (X r) A.g2 (DN A X N T r) k : ℝ) : EReal) := by
  by_cases g : t.val % 32 = 0
  · rw [outsAt0_A m c t g g (by omega) g (by omega)]
    frame_out
    exact H.pay4 r k
  · rw [outsAt0_B m c t g g (by omega) g (by omega)]
    frame_out
    exact H.pay4 r k

omit ht in
theorem out14_first (g : t.val = 0) : (outsAt0 m c t.val t.isLt).2.2.2.2.2.2.1 (ix2 a l) = ((1 / 2 * ∑ r, (∑ k, er A X N T r k * er A X N T r k) / 1024 : ℝ) : EReal) := by
  have g' : t.val % 32 = 0 := by omega
  rw [outsAt0_A m c t g' g' (by omega) g' (by omega)]
  frame_out
  refine (H.pay20 (k0_pay19 (F := Ideal)) 0 a l ofBits_zero).trans ?_
  rw [zero_add]

theorem out14_next (g : t.val ≠ 0) (v : ℝ) (hv : (outsAt0 m c (t.val - 1) (Nat.lt_of_le_of_lt (Nat.sub_le _ _) t.isLt)).2.2.2.2.2.2.1 (ix2 a l) = ((v : ℝ) : EReal)) :
    (outsAt0 m c t.val t.isLt).2.2.2.2.2.2.1 (ix2 a l) = ((v + 1 / 2 * ∑ r, (∑ k, er A X N T r k * er A X N T r k) / 1024 : ℝ) : EReal) := by
  have g' : ¬t.val % 32 = 0 := by omega
  rw [outsAt0_B m c t g' g' (by omega) g' (by omega)]
  frame_out
  exact H.pay20 _ v a l hv

omit ht in
theorem out15_first (g : t.val = 0) : (outsAt0 m c t.val t.isLt).2.2.2.2.2.2.2.1 (ix2 z k) = ((∑ r, Dy A X N T r k * hat 1024 (Y A X N r) k : ℝ) : EReal) := by
  have g' : t.val % 32 = 0 := by omega
  rw [outsAt0_A m c t g' g' (by omega) g' (by omega)]
  frame_out
  exact H.pay22 k z

theorem out15_next (g : t.val ≠ 0) (v : ℝ) (hv : (outsAt0 m c (t.val - 1) (Nat.lt_of_le_of_lt (Nat.sub_le _ _) t.isLt)).2.2.2.2.2.2.2.1 (ix2 z k) = ((v : ℝ) : EReal)) :
    (outsAt0 m c t.val t.isLt).2.2.2.2.2.2.2.1 (ix2 z k) = ((v + ∑ r, Dy A X N T r k * hat 1024 (Y A X N r) k : ℝ) : EReal) := by
  have g' : ¬t.val % 32 = 0 := by omega
  rw [outsAt0_B m c t g' g' (by omega) g' (by omega)]
  frame_out
  exact H.pay23 k z _ v hv

omit ht in
theorem out16_first (g : t.val = 0) : (outsAt0 m c t.val t.isLt).2.2.2.2.2.2.2.2 (ix2 z k) = ((∑ r, DN A X N T r k * hat 1024 (X r) k : ℝ) : EReal) := by
  have g' : t.val % 32 = 0 := by omega
  rw [outsAt0_A m c t g' g' (by omega) g' (by omega)]
  frame_out
  exact H.pay2 k z

theorem out16_next (g : t.val ≠ 0) (v : ℝ) (hv : (outsAt0 m c (t.val - 1) (Nat.lt_of_le_of_lt (Nat.sub_le _ _) t.isLt)).2.2.2.2.2.2.2.2 (ix2 z k) = ((v : ℝ) : EReal)) :
    (outsAt0 m c t.val t.isLt).2.2.2.2.2.2.2.2 (ix2 z k) = ((v + ∑ r, DN A X N T r k * hat 1024 (X r) k : ℝ) : EReal) := by
  have g' : ¬t.val % 32 = 0 := by omega
  rw [outsAt0_B m c t g' g' (by omega) g' (by omega)]
  frame_out
  exact H.pay3 k z _ v hv

end Point

end Cert.Ffn.Point
-- ==== Proof.FfnArrays.lean ====
/- The feed-forward layer's nine final arrays on real arguments. -/
module

public import proofs.«01_k».proof.Proof.FfnPoint

@[expose] public section

set_option maxRecDepth 16384

noncomputable section

open Idealize.ShloMosaic Idealize.ShloMosaic.TcCoe Idealize.SL.Sem
open Idealize.ShloMosaic.Pipeline (Dat)

namespace Cert.Ffn.Arrays

open Cert.FfnBwdIdeal Cert.FfnBwdIdeal.Gen Cert.Lift Cert.Row Cert.Ffn.Host Cert.Ffn.Point

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![0, 0] ∧ win0_15.index t = ![0, 0] ∧ win0_16.index t = ![0, 0] :=
  (by decide +kernel : ∀ t : Fin grid0.N, _)

theorem t_lt (t : Fin cfg0.N) : t.val < 32 := lt_of_lt_of_eq t.isLt N_0

/-- A tile's row among all rows. -/
def R (i : ℕ) : Fin 256 → Fin 8192 := tileRow 32 256 (by norm_num) i

theorem R_val (t : Fin cfg0.N) (r : Fin 256) : (R t.val r).val = t.val * 256 + r.val := by
  simp only [R, tileRow, Nat.mod_eq_of_lt (t_lt t)]

/-! ## Where a block's elements lie -/

section
variable (t : Fin cfg0.N) (r : Fin 256) (k : Fin 1024) (j : Fin 2816) (z : Fin 1) (a : Fin 8) (l : Fin 128)

theorem emb0 : (win0_0.blk t).view.emb (ix2 r k) = ix2 (R t.val r) k := by
  blk_ext [idx t] <;> simp only [R_val, Nat.zero_add]
theorem emb1 : (win0_1.blk t).view.emb (ix2 r k) = ix2 (R t.val r) k := by
  blk_ext [idx t] <;> simp only [R_val, Nat.zero_add]
theorem emb2 : (win0_2.blk t).view.emb (ix2 r k) = ix2 (R t.val r) k := by
  blk_ext [idx t] <;> simp only [R_val, Nat.zero_add]
theorem emb3 : (win0_3.blk t).view.emb (ix2 j k) = ix2 j k := by
  blk_ext [idx t]
theorem emb4 : (win0_4.blk t).view.emb (ix2 j k) = ix2 j k := by
  blk_ext [idx t]
theorem emb5 : (win0_5.blk t).view.emb (ix2 j k) = ix2 j k := by
  blk_ext [idx t]
theorem emb6 : (win0_6.blk t).view.emb (ix2 z k) = ix2 z k := by
  blk_ext [idx t]
theorem emb7 : (win0_7.blk t).view.emb (ix2 z k) = ix2 z k := by
  blk_ext [idx t]
theorem emb8 : (win0_8.blk t).view.emb (ix2 r j) = ix2 (R t.val r) j := by
  blk_ext [idx t] <;> simp only [R_val, Nat.zero_add]
theorem emb9 : (win0_9.blk t).view.emb (ix2 r j) = ix2 (R t.val r) j := by
  blk_ext [idx t] <;> simp only [R_val, Nat.zero_add]
theorem emb10 : (win0_10.blk t).view.emb (ix2 r j) = ix2 (R t.val r) j := by
  blk_ext [idx t] <;> simp only [R_val, Nat.zero_add]
theorem emb11 : (win0_11.blk t).view.emb (ix2 r k) = ix2 (R t.val r) k := by
  blk_ext [idx t] <;> simp only [R_val, Nat.zero_add]
theorem emb12 : (win0_12.blk t).view.emb (ix2 r k) = ix2 (R t.val r) k := by
  blk_ext [idx t] <;> simp only [R_val, Nat.zero_add]
theorem emb13 : (win0_13.blk t).view.emb (ix2 r k) = ix2 (R t.val r) k := by
  blk_ext [idx t] <;> simp only [R_val, Nat.zero_add]
theorem emb14 : (win0_14.blk t).view.emb (ix2 a l) = ix2 a l := by
  blk_ext [idx t]
theorem emb15 : (win0_15.blk t).view.emb (ix2 z k) = ix2 z k := by
  blk_ext [idx t]
theorem emb16 : (win0_16.blk t).view.emb (ix2 z k) = ix2 z k := by
  blk_ext [idx t]
end

/-! ## Each block is its operand read at the block's places -/

section
variable (c : Dev nD) (t : Fin cfg0.N) (f : (b : Ref sig .tc) → Buf (Elt Ideal) ((c : Thread nD τ).loc b)) (r : Fin 256) (k : Fin 1024) (j : Fin 2816) (z : Fin 1)

theorem read0 : ((cfg0.win 0).blk t).view.read (Elt Ideal) (f (Pipeline.arrRef spec0 0)) (ix2 r k) = f main_v13 ((win0_0.blk t).view.emb (ix2 r k)) := rfl
theorem read1 : ((cfg0.win 1).blk t).view.read (Elt Ideal) (f (Pipeline.arrRef spec0 1)) (ix2 r k) = f main_v14 ((win0_1.blk t).view.emb (ix2 r k)) := rfl
theorem read2 : ((cfg0.win 2).blk t).view.read (Elt Ideal) (f (Pipeline.arrRef spec0 2)) (ix2 r k) = f main_v15 ((win0_2.blk t).view.emb (ix2 r k)) := rfl
theorem read3 : ((cfg0.win 3).blk t).view.read (Elt Ideal) (f (Pipeline.arrRef spec0 3)) (ix2 j k) = f main_v18 ((win0_3.blk t).view.emb (ix2 j k)) := rfl
theorem read4 : ((cfg0.win 4).blk t).view.read (Elt Ideal) (f (Pipeline.arrRef spec0 4)) (ix2 j k) = f main_v21 ((win0_4.blk t).view.emb (ix2 j k)) := rfl
theorem read5 : ((cfg0.win 5).blk t).view.read (Elt Ideal) (f (Pipeline.arrRef spec0 5)) (ix2 j k) = f main_v23 ((win0_5.blk t).view.emb (ix2 j k)) := rfl
theorem read6 : ((cfg0.win 6).blk t).view.read (Elt Ideal) (f (Pipeline.arrRef spec0 6)) (ix2 z k) = f main_v24 ((win0_6.blk t).view.emb (ix2 z k)) := rfl
theorem read7 : ((cfg0.win 7).blk t).view.read (Elt Ideal) (f (Pipeline.arrRef spec0 7)) (ix2 z k) = f main_arg1 ((win0_7.blk t).view.emb (ix2 z k)) := rfl

end

/-! ## The blocks at a point -/

section
variable (m : (ℓ : Loc nD τ sig) → Buf (Elt Ideal) ℓ) (c : Dev nD) (A : Args)

/-- The arguments hold the reals `A`. -/
structure On : Prop where
  x : m ((c : Thread nD τ).loc main_arg0) = Host.X0 A
  g2 : m ((c : Thread nD τ).loc main_arg1) = Host.X1 A
  wg : m ((c : Thread nD τ).loc main_arg2) = Host.X2 A
  wu : m ((c : Thread nD τ).loc main_arg3) = Host.X3 A
  wd : m ((c : Thread nD τ).loc main_arg4) = Host.X4 A
  gf : m ((c : Thread nD τ).loc main_arg5) = Host.X5 A
  tg : m ((c : Thread nD τ).loc main_arg6) = Host.X6 A

variable {m c A} (O : On m c A) (t : Fin cfg0.N)
include O

/-- The tile's rows of the argument, of the normed argument and of the target. -/
def tX (A : Args) (i : ℕ) (r : Fin 256) : Fin 1024 → ℝ := A.x (rowB (R i r)) (rowS (R i r))
def tN (A : Args) (i : ℕ) (r : Fin 256) : Fin 1024 → ℝ := H A (rowB (R i r)) (rowS (R i r))
def tT (A : Args) (i : ℕ) (r : Fin 256) : Fin 1024 → ℝ := A.tg (rowB (R i r)) (rowS (R i r))

theorem holds : Holds (iblk m c 0 t) (iblk m c 1 t) (iblk m c 2 t) (iblk m c 3 t) (iblk m c 4 t) (iblk m c 5 t) (iblk m c 6 t) (iblk m c 7 t) A
    (tX A t.val) (tN A t.val) (tT A t.val) := by
  constructor
  · intro r k
    refine (read0 c t (V m c) r k).trans ?_
    rw [emb0, V_h, O.x, O.g2]
    exact normed_eq _ _ _ _ _ _ (fun k => flat_eq _ _ A.x _ fun _ _ _ => rfl) fun _ _ => rfl
  · intro r k
    refine (read1 c t (V m c) r k).trans ?_
    rw [emb1, V_x, O.x]
    exact flat_eq _ _ A.x _ fun _ _ _ => rfl
  · intro r k
    refine (read2 c t (V m c) r k).trans ?_
    rw [emb2, V_t, O.tg]
    exact flat_eq _ _ A.tg _ fun _ _ _ => rfl
  · intro j k
    refine (read3 c t (V m c) k j).trans ?_
    rw [emb3, V_wg, O.wg]
    exact wT_eq _ _ _ A.wg fun _ _ _ => rfl
  · intro j k
    refine (read4 c t (V m c) k j).trans ?_
    rw [emb4, V_wu, O.wu]
    exact wT_eq _ _ _ A.wu fun _ _ _ => rfl
  · intro j k
    refine (read5 c t (V m c) k j).trans ?_
    rw [emb5, V_wd, O.wd]
    exact wD_eq _ _ _ A.wd fun _ _ _ => rfl
  · intro z k
    refine (read6 c t (V m c) k z).trans ?_
    rw [emb6, V_gf, O.gf]
    pointwise [X5]
  · intro z k
    refine (read7 c t (V m c) k z).trans ?_
    rw [emb7, V_g2, O.g2]
    rfl

/-! ## The results -/

def G8 (A : Args) : FVec Ideal S8192x2816 .bf16 := fun i => ((act A (H A (rowB (i 0)) (rowS (i 0))) (i 1) : ℝ) : EReal)
def G9 (A : Args) : FVec Ideal S8192x2816 .bf16 := fun i => ((dgate A (H A (rowB (i 0)) (rowS (i 0))) (dx3 A (rowB (i 0)) (rowS (i 0))) (i 1) : ℝ) : EReal)
def G10 (A : Args) : FVec Ideal S8192x2816 .bf16 := fun i => ((dup A (H A (rowB (i 0)) (rowS (i 0))) (dx3 A (rowB (i 0)) (rowS (i 0))) (i 1) : ℝ) : EReal)
def G11 (A : Args) : FVec Ideal S8192x1024 .bf16 := fun i => ((dx3 A (rowB (i 0)) (rowS (i 0)) (i 1) : ℝ) : EReal)
def G12 (A : Args) : FVec Ideal S8192x1024 .f32 := fun i => ((dx2 A (rowB (i 0)) (rowS (i 0)) (i 1) : ℝ) : EReal)
def G13 (A : Args) : FVec Ideal S8192x1024 .bf16 := fun i => ((dx2 A (rowB (i 0)) (rowS (i 0)) (i 1) : ℝ) : EReal)
def G14 (A : Args) : FVec Ideal S8x128 .f32 := fun _ => ((loss A : ℝ) : EReal)
def G15 (A : Args) : FVec Ideal S1x1024 .f32 := fun i => ((dgf A (i 1) : ℝ) : EReal)
def G16 (A : Args) : FVec Ideal S1x1024 .f32 := fun i => ((dg2 A (i 1) : ℝ) : EReal)

omit O in
theorem two {n k : ℕ} (y : (⟨2, ![n, k]⟩ : Shape).Idx) : ∃ (a : Fin n) (b : Fin k), y = ix2 a b :=
  ⟨y 0, y 1, by funext k; match k with | 0 => rfl | 1 => rfl⟩

/-! ## The running sums -/

omit O in
theorem tot (f : Fin 2 → Fin 4096 → ℝ) : ∑ i ∈ Finset.range 32, ∑ r, f (rowB (R i r)) (rowS (R i r)) = ∑ b, ∑ s, f b s :=
  (sum_tiles 32 256 (by norm_num) fun r => f (rowB r) (rowS r)).trans (sum_rows f)

theorem run14 (a : Fin 8) (l : Fin 128) : ∀ (n : ℕ) (hn : n < cfg0.N), (outsAt0 m c n hn).2.2.2.2.2.2.1 (ix2 a l)
    = ((∑ i ∈ Finset.range (n + 1), 1 / 2 * ∑ r, lossRow A (rowB (R i r)) (rowS (R i r)) : ℝ) : EReal)
  | 0, hn => by
    rw [Finset.sum_range_one]
    exact out14_first (holds O ⟨0, hn⟩) a l rfl
  | n + 1, hn => by
    rw [Finset.sum_range_succ]
    exact out14_next (t_lt ⟨n + 1, hn⟩) (holds O ⟨n + 1, hn⟩) a l (Nat.succ_ne_zero n) _ (run14 a l n (Nat.lt_of_succ_lt hn))

theorem run15 (z : Fin 1) (k : Fin 1024) : ∀ (n : ℕ) (hn : n < cfg0.N), (outsAt0 m c n hn).2.2.2.2.2.2.2.1 (ix2 z k)
    = ((∑ i ∈ Finset.range (n + 1), ∑ r, dgfRow A (rowB (R i r)) (rowS (R i r)) k : ℝ) : EReal)
  | 0, hn => by
    rw [Finset.sum_range_one]
    exact out15_first (holds O ⟨0, hn⟩) k z rfl
  | n + 1, hn => by
    rw [Finset.sum_range_succ]
    exact out15_next (t_lt ⟨n + 1, hn⟩) (holds O ⟨n + 1, hn⟩) k z (Nat.succ_ne_zero n) _ (run15 z k n (Nat.lt_of_succ_lt hn))

theorem run16 (z : Fin 1) (k : Fin 1024) : ∀ (n : ℕ) (hn : n < cfg0.N), (outsAt0 m c n hn).2.2.2.2.2.2.2.2 (ix2 z k)
    = ((∑ i ∈ Finset.range (n + 1), ∑ r, dg2Row A (rowB (R i r)) (rowS (R i r)) k : ℝ) : EReal)
  | 0, hn => by
    rw [Finset.sum_range_one]
    exact out16_first (holds O ⟨0, hn⟩) k z rfl
  | n + 1, hn => by
    rw [Finset.sum_range_succ]
    exact out16_next (t_lt ⟨n + 1, hn⟩) (holds O ⟨n + 1, hn⟩) k z (Nat.succ_ne_zero n) _ (run16 z k n (Nat.lt_of_succ_lt hn))

omit O in
theorem flushLast : ∀ t : Fin cfg0.N, ((cfg0.win 14).flush t = true → t.val = 31) ∧ ((cfg0.win 15).flush t = true → t.val = 31)
    ∧ ((cfg0.win 16).flush t = true → t.val = 31) :=
  (by decide +kernel : ∀ t : Fin grid0.N, ((cfg0.win 14).flush t = true → t.val = 31) ∧ ((cfg0.win 15).flush t = true → t.val = 31)
    ∧ ((cfg0.win 16).flush t = true → t.val = 31))

/-! ## The final arrays -/

theorem arr8 : (dats m 0 c).arrAt 8 cfg0.N = G8 A := by
  refine (dats m 0 c).arrAt_eq_of_covers 8 (G8 A) (by decide +kernel) fun t hf y => ?_
  obtain ⟨r, j, rfl⟩ := two (n := 256) (k := 2816) y
  rw [after0_8]
  exact (out8 (t_lt t) (holds O t) r j).trans (congrArg (G8 A) (emb8 t r j)).symm

theorem arr9 : (dats m 0 c).arrAt 9 cfg0.N = G9 A := by
  refine (dats m 0 c).arrAt_eq_of_covers 9 (G9 A) (by decide +kernel) fun t hf y => ?_
  obtain ⟨r, j, rfl⟩ := two (n := 256) (k := 2816) y
  rw [after0_9]
  exact (out9 (t_lt t) (holds O t) r j).trans (congrArg (G9 A) (emb9 t r j)).symm

theorem arr10 : (dats m 0 c).arrAt 10 cfg0.N = G10 A := by
  refine (dats m 0 c).arrAt_eq_of_covers 10 (G10 A) (by decide +kernel) fun t hf y => ?_
  obtain ⟨r, j, rfl⟩ := two (n := 256) (k := 2816) y
  rw [after0_10]
  exact (out10 (t_lt t) (holds O t) r j).trans (congrArg (G10 A) (emb10 t r j)).symm

theorem arr11 : (dats m 0 c).arrAt 11 cfg0.N = G11 A := by
  refine (dats m 0 c).arrAt_eq_of_covers 11 (G11 A) (by decide +kernel) fun t hf y => ?_
  obtain ⟨r, k, rfl⟩ := two (n := 256) (k := 1024) y
  rw [after0_11]
  exact (out11 (t_lt t) (holds O t) r k).trans (congrArg (G11 A) (emb11 t r k)).symm

theorem arr12 : (dats m 0 c).arrAt 12 cfg0.N = G12 A := by
  refine (dats m 0 c).arrAt_eq_of_covers 12 (G12 A) (by decide +kernel) fun t hf y => ?_
  obtain ⟨r, k, rfl⟩ := two (n := 256) (k := 1024) y
  rw [after0_12]
  exact (out12 (t_lt t) (holds O t) r k).trans (congrArg (G12 A) (emb12 t r k)).symm

theorem arr13 : (dats m 0 c).arrAt 13 cfg0.N = G13 A := by
  refine (dats m 0 c).arrAt_eq_of_covers 13 (G13 A) (by decide +kernel) fun t hf y => ?_
  obtain ⟨r, k, rfl⟩ := two (n := 256) (k := 1024) y
  rw [after0_13]
  exact (out13 (t_lt t) (holds O t) r k).trans (congrArg (G13 A) (emb13 t r k)).symm

theorem arr14 : (dats m 0 c).arrAt 14 cfg0.N = G14 A := by
  refine (dats m 0 c).arrAt_eq_of_covers 14 (G14 A) (by decide +kernel) fun t hf y => ?_
  obtain ⟨a, l, rfl⟩ := two (n := 8) (k := 128) y
  rw [after0_14]
  refine (run14 (A := A) O a l t.val t.isLt).trans ((congrArg (fun v : ℝ => (v : EReal)) ?_).trans (congrArg (G14 A) (emb14 t a l)).symm)
  rw [(flushLast t).1 hf, ← Finset.mul_sum, tot (lossRow A), loss]

theorem arr15 : (dats m 0 c).arrAt 15 cfg0.N = G15 A := by
  refine (dats m 0 c).arrAt_eq_of_covers 15 (G15 A) (by decide +kernel) fun t hf y => ?_
  obtain ⟨z, k, rfl⟩ := two (n := 1) (k := 1024) y
  rw [after0_15]
  refine (run15 (A := A) O z k t.val t.isLt).trans ((congrArg (fun v : ℝ => (v : EReal)) ?_).trans (congrArg (G15 A) (emb15 t k z)).symm)
  rw [(flushLast t).2.1 hf]
  exact tot fun b s => dgfRow A b s k

theorem arr16 : (dats m 0 c).arrAt 16 cfg0.N = G16 A := by
  refine (dats m 0 c).arrAt_eq_of_covers 16 (G16 A) (by decide +kernel) fun t hf y => ?_
  obtain ⟨z, k, rfl⟩ := two (n := 1) (k := 1024) y
  rw [after0_16]
  refine (run16 (A := A) O z k t.val t.isLt).trans ((congrArg (fun v : ℝ => (v : EReal)) ?_).trans (congrArg (G16 A) (emb16 t k z)).symm)
  rw [(flushLast t).2.2 hf]
  exact tot fun b s => dg2Row A b s k

end

end Cert.Ffn.Arrays
-- ==== Proof.FfnRef.lean ====
/- The feed-forward layer's reference on real arguments: its operations one after the other, down to its nine results. -/
module

public import proofs.«01_k».proof.Proof.FfnSpec
public import proofs.«01_k».proof.Proof.Gen.FfnRefIdeal.Read

@[expose] public section

set_option maxRecDepth 16384

noncomputable section

open Idealize.ShloMosaic Idealize.ShloMosaic.TcCoe Idealize.SL.Sem

namespace Cert.Ffn.Ref

open Cert.FfnRefIdeal Cert.FfnRefIdeal.Read Cert.Lift Cert.Row

/-- The arguments' arrays. -/
def X0 (A : Args) : (⟨S2x4096x1024, .f32⟩ : BufTy).Contents (Elt Ideal) := fun i => ((A.x (i 0) (i 1) (i 2) : ℝ) : EReal)
def X1 (A : Args) : (⟨S1x1024, .f32⟩ : BufTy).Contents (Elt Ideal) := fun i => ((A.g2 (i 1) : ℝ) : EReal)
def X2 (A : Args) : (⟨S1x1024x2816, .f32⟩ : BufTy).Contents (Elt Ideal) := fun i => ((A.wg (i 1) (i 2) : ℝ) : EReal)
def X3 (A : Args) : (⟨S1x1024x2816, .f32⟩ : BufTy).Contents (Elt Ideal) := fun i => ((A.wu (i 1) (i 2) : ℝ) : EReal)
def X4 (A : Args) : (⟨S1x2816x1024, .f32⟩ : BufTy).Contents (Elt Ideal) := fun i => ((A.wd (i 1) (i 2) : ℝ) : EReal)
def X5 (A : Args) : (⟨S1024, .f32⟩ : BufTy).Contents (Elt Ideal) := fun i => ((A.gf (i 0) : ℝ) : EReal)
def X6 (A : Args) : (⟨S2x4096x1024, .f32⟩ : BufTy).Contents (Elt Ideal) := fun i => ((A.tg (i 0) (i 1) (i 2) : ℝ) : EReal)

variable (A : Args) (b : Fin 2) (s : Fin 4096) (k : Fin 1024) (j : Fin 2816)

theorem pos : (0 : ℝ) < 1024 := by norm_num

/-! ## Forward -/

theorem v7_eq (z : Fin 1) : val_main_v7 (F := Ideal) (X0 A) (ix3 b s z) = ((ms 1024 (A.x b s) : ℝ) : EReal) := by
  pointwise [val_main_v7, val_main_v6, val_main_v5, val_main_v4, val_main_v3, val_main_v2, val_main_v1, val_main_cst, val_main_cst_0, val_main_cst_1, X0]
  rw [ofBits_1024, ofBits_eps]
  simp only [← EReal.coe_mul, sum_coe, zero_add, div_real pos.ne', ← EReal.coe_add, ms]

theorem v8_eq (z : Fin 1) : val_main_v8 (F := Ideal) (X0 A) (ix3 b s z) = ((rr 1024 (A.x b s) : ℝ) : EReal) := by
  pointwise [val_main_v8, v7_eq]
  exact rsqrt_real (ms_pos _ pos)

theorem v11_eq (z : Fin 1) : val_main_v11 (F := Ideal) (X0 A) (ix3 b s z)
    = ((-(1 / 2) * (rr 1024 (A.x b s) / ms 1024 (A.x b s)) : ℝ) : EReal) := by
  pointwise [val_main_v11, val_main_v10, val_main_cst_2, val_main_v9, v7_eq, v8_eq]
  rw [ofBits_neg_half]
  simp only [div_real (ms_pos (A.x b s) pos).ne', ← EReal.coe_mul]

theorem v13_eq : val_main_v13 (F := Ideal) (X0 A) (ix3 b s k) = ((hat 1024 (A.x b s) k : ℝ) : EReal) := by
  pointwise [val_main_v13, val_main_v12, v8_eq, X0]
  simp only [← EReal.coe_mul, hat]

theorem v16_eq : val_main_v16 (F := Ideal) (X0 A) (X1 A) (ix3 b s k) = ((H A b s k : ℝ) : EReal) := by
  pointwise [val_main_v16, val_main_v15, val_main_v14, val_main_v0, v13_eq, X1]
  simp only [← EReal.coe_mul, H, rms]

theorem v18_eq : val_main_v18 (F := Ideal) (X0 A) (X1 A) (X2 A) (ix3 b s j) = ((gate A (H A b s) j : ℝ) : EReal) := by
  pointwise [val_main_v18, val_main_v17, v16_eq, X2]
  simp only [← EReal.coe_mul, sum_coe, gate]

theorem v20_eq : val_main_v20 (F := Ideal) (X0 A) (X1 A) (X3 A) (ix3 b s j) = ((up A (H A b s) j : ℝ) : EReal) := by
  pointwise [val_main_v20, val_main_v19, v16_eq, X3]
  simp only [← EReal.coe_mul, sum_coe, up]

theorem sg_eq : val_main_v21_2 (F := Ideal) (X0 A) (X1 A) (X2 A) (ix3 b s j) = ((sg (gate A (H A b s) j) : ℝ) : EReal) := by
  pointwise [val_main_v21_2, val_main_call0_v4, val_main_call0_v3, val_main_call0_v2, val_main_call0_v1, val_main_call0_v0, val_main_call0_cst,
    val_main_call0_cst_0, v18_eq]
  simp only [← EReal.coe_neg, Ideal.exp_coe, ← EReal.coe_one, ← EReal.coe_add, div_real (den_ne _), sg]

theorem v22_eq : val_main_v22 (F := Ideal) (X0 A) (X1 A) (X2 A) (X3 A) (ix3 b s j) = ((act A (H A b s) j : ℝ) : EReal) := by
  pointwise [val_main_v22, val_main_v21_0, v18_eq, sg_eq, v20_eq]
  simp only [← EReal.coe_mul, act]

theorem v25_eq : val_main_v25 (F := Ideal) (X0 A) (X1 A) (X2 A) (X3 A) (X4 A) (ix3 b s k) = ((Ffn.X3 A b s k : ℝ) : EReal) := by
  pointwise [val_main_v25, val_main_v24, val_main_v23, v22_eq, X0, X4]
  simp only [← EReal.coe_mul, sum_coe, ← EReal.coe_add, Ffn.X3, x3]

theorem v32_eq (z : Fin 1) : val_main_v32 (F := Ideal) (X0 A) (X1 A) (X2 A) (X3 A) (X4 A) (ix3 b s z) = ((ms 1024 (Ffn.X3 A b s) : ℝ) : EReal) := by
  pointwise [val_main_v32, val_main_v31, val_main_v30, val_main_v29, val_main_v28, val_main_v27, val_main_v26, val_main_cst_3, val_main_cst_4, val_main_cst_5, v25_eq]
  rw [ofBits_1024, ofBits_eps]
  simp only [← EReal.coe_mul, sum_coe, zero_add, div_real pos.ne', ← EReal.coe_add, ms]

theorem v33_eq (z : Fin 1) : val_main_v33 (F := Ideal) (X0 A) (X1 A) (X2 A) (X3 A) (X4 A) (ix3 b s z) = ((rr 1024 (Ffn.X3 A b s) : ℝ) : EReal) := by
  pointwise [val_main_v33, v32_eq]
  exact rsqrt_real (ms_pos _ pos)

theorem v36_eq (z : Fin 1) : val_main_v36 (F := Ideal) (X0 A) (X1 A) (X2 A) (X3 A) (X4 A) (ix3 b s z)
    = ((-(1 / 2) * (rr 1024 (Ffn.X3 A b s) / ms 1024 (Ffn.X3 A b s)) : ℝ) : EReal) := by
  pointwise [val_main_v36, val_main_v35, val_main_cst_6, val_main_v34, v32_eq, v33_eq]
  rw [ofBits_neg_half]
  simp only [div_real (ms_pos (Ffn.X3 A b s) pos).ne', ← EReal.coe_mul]

theorem v38_eq : val_main_v38 (F := Ideal) (X0 A) (X1 A) (X2 A) (X3 A) (X4 A) (ix3 b s k) = ((hat 1024 (Ffn.X3 A b s) k : ℝ) : EReal) := by
  pointwise [val_main_v38, val_main_v37, v25_eq, v33_eq]
  simp only [← EReal.coe_mul, hat]

theorem v42_eq : val_main_v42 (F := Ideal) (X0 A) (X1 A) (X2 A) (X3 A) (X4 A) (X5 A) (X6 A) (ix3 b s k) = ((E A b s k : ℝ) : EReal) := by
  pointwise [val_main_v42, val_main_v41, val_main_v40, val_main_v39, v38_eq, X5, X6]
  simp only [← EReal.coe_mul, ← EReal.coe_sub, E, err, rms, Ffn.X3]

theorem v48_eq : val_main_v48 (F := Ideal) (X0 A) (X1 A) (X2 A) (X3 A) (X4 A) (X5 A) (X6 A) (ix2 b s) = ((lossRow A b s : ℝ) : EReal) := by
  pointwise [val_main_v48, val_main_v47, val_main_v46, val_main_v43, val_main_cst_8, val_main_cst_9, v42_eq]
  rw [ofBits_1024]
  simp only [← EReal.coe_mul, sum_coe, zero_add, div_real pos.ne', lossRow]

theorem v50_eq : val_main_v50 (F := Ideal) (X0 A) (X1 A) (X2 A) (X3 A) (X4 A) (X5 A) (X6 A) ix0 = ((loss A : ℝ) : EReal) := by
  have key := val_main_v49_apply (X0 A) (X1 A) (X2 A) (X3 A) (X4 A) (X5 A) (X6 A) ix0
  rw [sum_idx2] at key
  pointwise [val_main_v50, val_main_cst_11, key, val_main_cst_10, v48_eq]
  rw [ofBits_half]
  simp only [sum_coe, zero_add, ← EReal.coe_mul, loss]

/-! ## Backward -/

theorem v56_eq : val_main_v56 (F := Ideal) (X0 A) (X1 A) (X2 A) (X3 A) (X4 A) (X5 A) (X6 A) (ix3 b s k) = ((dy A b s k : ℝ) : EReal) := by
  pointwise [val_main_v56, val_main_v55, val_main_v54, val_main_v53, val_main_v52, val_main_v51, val_main_cst_12, val_main_cst_13, val_main_cst_14, val_main_v45, val_main_v44,
    val_main_cst_7, v42_eq]
  rw [ofBits_half, ofBits_1024, ofBits_two]
  simp only [← EReal.coe_mul, div_real pos.ne']
  exact congrArg _ (by unfold dy; ring)

theorem v62_eq : val_main_v62 (F := Ideal) (X0 A) (X1 A) (X2 A) (X3 A) (X4 A) (X5 A) (X6 A) (ix1 k) = ((dgf A k : ℝ) : EReal) := by
  pointwise [val_main_v62, val_main_v59, val_main_v58, val_main_v57, val_main_cst_15, val_main_cst_16, v38_eq, v56_eq, sum_lead]
  simp only [← EReal.coe_mul, sum_coe, zero_add, Finset.univ_unique, Finset.sum_singleton, dgf, dgfRow, mul_comm]

theorem v61_eq : val_main_v61 (F := Ideal) (X0 A) (X1 A) (X2 A) (X3 A) (X4 A) (X5 A) (X6 A) (ix3 b s k) = ((dy A b s k * A.gf k : ℝ) : EReal) := by
  pointwise [val_main_v61, val_main_v60, val_main_v39, v56_eq, X5]
  simp only [← EReal.coe_mul]

theorem v70_eq (z : Fin 1) : val_main_v70 (F := Ideal) (X0 A) (X1 A) (X2 A) (X3 A) (X4 A) (X5 A) (X6 A) (ix3 b s z)
    = (((∑ j, Ffn.X3 A b s j * (dy A b s j * A.gf j)) * (-(1 / 2) * (rr 1024 (Ffn.X3 A b s) / ms 1024 (Ffn.X3 A b s))) / 1024 : ℝ) : EReal) := by
  pointwise [val_main_v70, val_main_v69, val_main_cst_18, val_main_v68, val_main_v65, val_main_v64, val_main_v63, val_main_cst_17, v36_eq, v25_eq, v61_eq]
  rw [ofBits_1024]
  simp only [← EReal.coe_mul, sum_coe, zero_add, div_real pos.ne']

theorem v76_eq : val_main_v76 (F := Ideal) (X0 A) (X1 A) (X2 A) (X3 A) (X4 A) (X5 A) (X6 A) (ix3 b s k) = ((dx3 A b s k : ℝ) : EReal) := by
  pointwise [val_main_v76, val_main_v75, val_main_v74, val_main_v73, val_main_v72, val_main_v71, val_main_cst_19, val_main_v67, val_main_v66, v33_eq, v25_eq, v61_eq, v70_eq]
  simp only [← EReal.coe_mul, ← EReal.coe_add, sum_coe, zero_add, Finset.univ_unique, Finset.sum_singleton]
  exact congrArg _ (rms_vjp _ _ _ pos k)

theorem v77_eq : val_main_v77 (F := Ideal) (X0 A) (X1 A) (X2 A) (X3 A) (X4 A) (X5 A) (X6 A) (ix3 b s j) = ((da A (dx3 A b s) j : ℝ) : EReal) := by
  pointwise [val_main_v77, val_main_v23, v76_eq, X4]
  simp only [← EReal.coe_mul, sum_coe, da]

theorem v78_eq : val_main_v78 (F := Ideal) (X0 A) (X1 A) (X2 A) (X3 A) (X4 A) (X5 A) (X6 A) (ix3 b s j) = ((dup A (H A b s) (dx3 A b s) j : ℝ) : EReal) := by
  pointwise [val_main_v78, val_main_v21_0, v18_eq, sg_eq, v77_eq]
  simp only [← EReal.coe_mul]
  exact congrArg _ (mul_comm _ _)

theorem v80_eq : val_main_v80 (F := Ideal) (X0 A) (X1 A) (X2 A) (X3 A) (X4 A) (X5 A) (X6 A) (ix3 b s j) = ((dgate A (H A b s) (dx3 A b s) j : ℝ) : EReal) := by
  pointwise [val_main_v80, val_main_call1_v2, val_main_call1_v1, val_main_call1_v0, val_main_v79, val_main_v21_1, val_main_call0_v7, val_main_call0_v6, val_main_call0_cst_1,
    v18_eq, sg_eq, v20_eq, v77_eq]
  simp only [← EReal.coe_one, ← EReal.coe_mul, ← EReal.coe_sub, ← EReal.coe_add]
  exact congrArg _ (slope_vjp _ _)

theorem v83_eq : val_main_v83 (F := Ideal) (X0 A) (X1 A) (X2 A) (X3 A) (X4 A) (X5 A) (X6 A) (ix3 b s k) = ((dH A b s k : ℝ) : EReal) := by
  pointwise [val_main_v83, val_main_v82, val_main_v81, val_main_v17, val_main_v19, v78_eq, v80_eq, X2, X3]
  simp only [← EReal.coe_mul, sum_coe, ← EReal.coe_add]
  exact congrArg _ (add_comm _ _)

theorem v89_eq : val_main_v89 (F := Ideal) (X0 A) (X1 A) (X2 A) (X3 A) (X4 A) (X5 A) (X6 A) (ix1 k) = ((dg2 A k : ℝ) : EReal) := by
  pointwise [val_main_v89, val_main_v86, val_main_v85, val_main_v84, val_main_cst_20, val_main_cst_21, v13_eq, v83_eq, sum_lead]
  simp only [← EReal.coe_mul, sum_coe, zero_add, Finset.univ_unique, Finset.sum_singleton, dg2, dg2Row, mul_comm]

theorem v88_eq : val_main_v88 (F := Ideal) (X0 A) (X1 A) (X2 A) (X3 A) (X4 A) (X5 A) (X6 A) (ix3 b s k) = ((dH A b s k * A.g2 k : ℝ) : EReal) := by
  pointwise [val_main_v88, val_main_v87, val_main_v14, val_main_v0, v83_eq, X1]
  simp only [← EReal.coe_mul]

theorem v97_eq (z : Fin 1) : val_main_v97 (F := Ideal) (X0 A) (X1 A) (X2 A) (X3 A) (X4 A) (X5 A) (X6 A) (ix3 b s z)
    = (((∑ j, A.x b s j * (dH A b s j * A.g2 j)) * (-(1 / 2) * (rr 1024 (A.x b s) / ms 1024 (A.x b s))) / 1024 : ℝ) : EReal) := by
  pointwise [val_main_v97, val_main_v96, val_main_cst_23, val_main_v95, val_main_v92, val_main_v91, val_main_v90, val_main_cst_22, v11_eq, X0, v88_eq]
  rw [ofBits_1024]
  simp only [← EReal.coe_mul, sum_coe, zero_add, div_real pos.ne']

theorem v105_eq : val_main_v105 (F := Ideal) (X0 A) (X1 A) (X2 A) (X3 A) (X4 A) (X5 A) (X6 A) (ix3 b s k) = ((dx2 A b s k : ℝ) : EReal) := by
  pointwise [val_main_v105, val_main_v103, val_main_v102, val_main_v101, val_main_v100, val_main_v99, val_main_v98, val_main_cst_24, val_main_v94, val_main_v93, v8_eq,
    v76_eq, v88_eq, v97_eq, X0]
  simp only [← EReal.coe_mul, ← EReal.coe_add, sum_coe, zero_add, Finset.univ_unique, Finset.sum_singleton]
  exact congrArg (fun y : ℝ => ((dx3 A b s k + y : ℝ) : EReal)) (rms_vjp _ _ _ pos k)

/-! ## The results, rows in one axis -/

variable (r : Fin 8192)

theorem v107_eq : val_main_v107 (F := Ideal) (X0 A) (X1 A) (X2 A) (X3 A) (ix2 r j) = ((act A (H A (rowB r) (rowS r)) j : ℝ) : EReal) := by
  pointwise [val_main_v107, val_main_v106, v22_eq]
  rfl

theorem v109_eq : val_main_v109 (F := Ideal) (X0 A) (X1 A) (X2 A) (X3 A) (X4 A) (X5 A) (X6 A) (ix2 r j) = ((dgate A (H A (rowB r) (rowS r)) (dx3 A (rowB r) (rowS r)) j : ℝ) : EReal) := by
  pointwise [val_main_v109, val_main_v108, v80_eq]
  rfl

theorem v111_eq : val_main_v111 (F := Ideal) (X0 A) (X1 A) (X2 A) (X3 A) (X4 A) (X5 A) (X6 A) (ix2 r j) = ((dup A (H A (rowB r) (rowS r)) (dx3 A (rowB r) (rowS r)) j : ℝ) : EReal) := by
  pointwise [val_main_v111, val_main_v110, v78_eq]
  rfl

theorem v113_eq : val_main_v113 (F := Ideal) (X0 A) (X1 A) (X2 A) (X3 A) (X4 A) (X5 A) (X6 A) (ix2 r k) = ((dx3 A (rowB r) (rowS r) k : ℝ) : EReal) := by
  pointwise [val_main_v113, val_main_v112, v76_eq]
  rfl

theorem v114_eq : val_main_v114 (F := Ideal) (X0 A) (X1 A) (X2 A) (X3 A) (X4 A) (X5 A) (X6 A) (ix2 r k) = ((dx2 A (rowB r) (rowS r) k : ℝ) : EReal) := by
  pointwise [val_main_v114, v105_eq]
  rfl

theorem v116_eq : val_main_v116 (F := Ideal) (X0 A) (X1 A) (X2 A) (X3 A) (X4 A) (X5 A) (X6 A) (ix2 r k) = ((dx2 A (rowB r) (rowS r) k : ℝ) : EReal) := by
  pointwise [val_main_v116, val_main_v115, v105_eq]
  rfl

theorem v117_eq (a : Fin 8) (l : Fin 128) : val_main_v117 (F := Ideal) (X0 A) (X1 A) (X2 A) (X3 A) (X4 A) (X5 A) (X6 A) (ix2 a l) = ((loss A : ℝ) : EReal) := by
  pointwise [val_main_v117, v50_eq]

theorem v118_eq (z : Fin 1) : val_main_v118 (F := Ideal) (X0 A) (X1 A) (X2 A) (X3 A) (X4 A) (X5 A) (X6 A) (ix2 z k) = ((dgf A k : ℝ) : EReal) := by
  pointwise [val_main_v118, v62_eq]

theorem v104_eq (z : Fin 1) : val_main_v104 (F := Ideal) (X0 A) (X1 A) (X2 A) (X3 A) (X4 A) (X5 A) (X6 A) (ix2 z k) = ((dg2 A k : ℝ) : EReal) := by
  pointwise [val_main_v104, v89_eq]

end Cert.Ffn.Ref
-- ==== Proof.FfnClaim.lean ====
/- The feed-forward layer's gradient: from the stated precondition to real arguments, and the claim's parts. -/
module

public import proofs.«01_k».proof.Defs
public import proofs.«01_k».proof.Proof.FfnArrays
public import proofs.«01_k».proof.Proof.FfnRef
public import proofs.«01_k».proof.Proof.AttClaim
public import proofs.«01_k».proof.Proof.Gen.FfnBwd.Frame
public import proofs.«01_k».proof.Proof.Gen.FfnRefIdeal.Run
public import proofs.«01_k».proof.Proof.Gen.Pre_finite_ffn
public import Idealize.ShloMosaic.Lib.Claim

@[expose] public section

set_option maxRecDepth 16384

noncomputable section

open Idealize.ShloMosaic Idealize.ShloMosaic.TcCoe Idealize.SL.Sem

namespace Cert.Ffn.Claim

open Cert.Lift Cert.Ffn.Arrays Cert.Att.Claim

section
open Cert.Pre_finite_ffn

/-- Where the precondition is true, all seven arguments are real. -/
theorem real_of_pre (x0 : FVec Ideal S2x4096x1024 .f32) (x1 : FVec Ideal S1x1024 .f32) (x2 x3 : FVec Ideal S1x1024x2816 .f32)
    (x4 : FVec Ideal S1x2816x1024 .f32) (x5 : FVec Ideal S1024 .f32) (x6 : FVec Ideal S2x4096x1024 .f32) (h : fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal)) ∧ ∀ i, ∃ r : ℝ, x6 i = (r : EReal) := by
  have h' := congrFun h (fun k => k.elim0)
  obtain ⟨h', h6⟩ := and_one h'
  obtain ⟨h', h5⟩ := and_one h'
  obtain ⟨h', h4⟩ := and_one h'
  obtain ⟨h', h3⟩ := and_one h'
  obtain ⟨h', h2⟩ := and_one h'
  obtain ⟨h0, h1⟩ := and_one h'
  haveI : Subsingleton S_.Idx := ⟨fun a b => funext fun k => k.elim0⟩
  exact ⟨real_of_all x0 _ (fun _ => ofBits_inf) _ _ _ _ h0, real_of_all x1 _ (fun _ => ofBits_inf) _ _ _ _ h1,
    real_of_all x2 _ (fun _ => ofBits_inf) _ _ _ _ h2, real_of_all x3 _ (fun _ => ofBits_inf) _ _ _ _ h3,
    real_of_all x4 _ (fun _ => ofBits_inf) _ _ _ _ h4, real_of_all x5 _ (fun _ => ofBits_inf) _ _ _ _ h5,
    real_of_all x6 _ (fun _ => ofBits_inf) _ _ _ _ h6⟩

end

theorem one0 {b : ℕ} (i : (⟨1, ![b]⟩ : Shape).Idx) : i = ix1 (i 0) := by
  funext k; fin_cases k; rfl

theorem two1 {b : ℕ} (i : (⟨2, ![1, b]⟩ : Shape).Idx) : i = ix2 0 (i 1) := by
  funext k; fin_cases k
  · exact Subsingleton.elim (α := Fin 1) _ _
  · rfl

theorem three1 {b c : ℕ} (i : (⟨3, ![1, b, c]⟩ : Shape).Idx) : i = ix3 0 (i 1) (i 2) := by
  funext k; fin_cases k
  · exact Subsingleton.elim (α := Fin 1) _ _
  · rfl
  · rfl

/-- The arguments as real arrays. -/
theorem args_of_pre (m : (ℓ : Loc Cert.FfnBwdIdeal.nD Cert.FfnBwdIdeal.τ Cert.FfnBwdIdeal.sig) → Buf (Elt Ideal) ℓ)
    (h : Cert.Pre_FfnBwdIdeal_finite_ffn m) (c : Dev Cert.FfnBwdIdeal.nD) : ∃ A : Args, On m c A := by
  obtain ⟨h0, h1, h2, h3, h4, h5, h6⟩ := real_of_pre _ _ _ _ _ _ _ (h c)
  obtain ⟨x, hx⟩ := exists_real _ h0
  obtain ⟨g2, hg2⟩ := exists_real _ h1
  obtain ⟨wg, hwg⟩ := exists_real _ h2
  obtain ⟨wu, hwu⟩ := exists_real _ h3
  obtain ⟨wd, hwd⟩ := exists_real _ h4
  obtain ⟨gf, hgf⟩ := exists_real _ h5
  obtain ⟨tg, htg⟩ := exists_real _ h6
  refine ⟨⟨fun a b c => x (ix3 a b c), fun a => g2 (ix2 0 a), fun a b => wg (ix3 0 a b), fun a b => wu (ix3 0 a b), fun a b => wd (ix3 0 a b),
    fun a => gf (ix1 a), fun a b c => tg (ix3 a b c)⟩, ⟨hx.trans ?_, hg2.trans ?_, hwg.trans ?_, hwu.trans ?_, hwd.trans ?_, hgf.trans ?_, htg.trans ?_⟩⟩
  · exact funext fun i => congrArg (fun j => ((x j : ℝ) : EReal)) (three i)
  · exact funext fun i => congrArg (fun j => ((g2 j : ℝ) : EReal)) (two1 i)
  · exact funext fun i => congrArg (fun j => ((wg j : ℝ) : EReal)) (three1 i)
  · exact funext fun i => congrArg (fun j => ((wu j : ℝ) : EReal)) (three1 i)
  · exact funext fun i => congrArg (fun j => ((wd j : ℝ) : EReal)) (three1 i)
  · exact funext fun i => congrArg (fun j => ((gf j : ℝ) : EReal)) (one0 i)
  · exact funext fun i => congrArg (fun j => ((tg j : ℝ) : EReal)) (three i)

theorem frame : Cert.quiescent_FfnBwd := fun m g _ => Cert.FfnBwd.Gen.frame m g

theorem frame_ideal : Cert.quiescent_FfnBwdIdeal := fun m g _ => Cert.FfnBwdIdeal.Gen.frame m g

theorem frame_ideal_pre : Cert.quiescent_FfnBwdIdeal_pre_finite_ffn := fun m g _ => Cert.FfnBwdIdeal.Gen.frame m g

theorem frame_ref : Cert.quiescent_FfnRefIdeal := fun m g _ =>
  (θ_run Cert.FfnRefIdeal.defs _ _).mono (fun r h => ⟨fun c => (h c).2.2.2.2.2.2.2.2.2, sem_eq_zero_of_no_sems (by decide) r.2⟩)
    (Cert.FfnRefIdeal.Value.run (F := Ideal) m g)

theorem frame_ref_pre : Cert.quiescent_FfnRefIdeal_pre_finite_ffn := fun m g _ => frame_ref m g trivial

theorem preserves : Cert.preserves_FfnBwd_FfnBwdIdeal := by
  trivial

section
open Cert.FfnRefIdeal Cert.FfnRefIdeal.Read

variable (A : Args)

theorem ref8 {x0 x1 x2 x3} (h0 : x0 = Ref.X0 A) (h1 : x1 = Ref.X1 A) (h2 : x2 = Ref.X2 A) (h3 : x3 = Ref.X3 A) :
    val_main_v107 (F := Ideal) x0 x1 x2 x3 = G8 A := by
  subst h0 h1 h2 h3
  funext i
  obtain ⟨a, b, rfl⟩ := two (n := 8192) (k := 2816) i
  exact Ref.v107_eq A b a

theorem ref9 {x0 x1 x2 x3 x4 x5 x6} (h0 : x0 = Ref.X0 A) (h1 : x1 = Ref.X1 A) (h2 : x2 = Ref.X2 A) (h3 : x3 = Ref.X3 A) (h4 : x4 = Ref.X4 A) (h5 : x5 = Ref.X5 A) (h6 : x6 = Ref.X6 A) :
    val_main_v109 (F := Ideal) x0 x1 x2 x3 x4 x5 x6 = G9 A := by
  subst h0 h1 h2 h3 h4 h5 h6
  funext i
  obtain ⟨a, b, rfl⟩ := two (n := 8192) (k := 2816) i
  exact Ref.v109_eq A b a

theorem ref10 {x0 x1 x2 x3 x4 x5 x6} (h0 : x0 = Ref.X0 A) (h1 : x1 = Ref.X1 A) (h2 : x2 = Ref.X2 A) (h3 : x3 = Ref.X3 A) (h4 : x4 = Ref.X4 A) (h5 : x5 = Ref.X5 A) (h6 : x6 = Ref.X6 A) :
    val_main_v111 (F := Ideal) x0 x1 x2 x3 x4 x5 x6 = G10 A := by
  subst h0 h1 h2 h3 h4 h5 h6
  funext i
  obtain ⟨a, b, rfl⟩ := two (n := 8192) (k := 2816) i
  exact Ref.v111_eq A b a

theorem ref11 {x0 x1 x2 x3 x4 x5 x6} (h0 : x0 = Ref.X0 A) (h1 : x1 = Ref.X1 A) (h2 : x2 = Ref.X2 A) (h3 : x3 = Ref.X3 A) (h4 : x4 = Ref.X4 A) (h5 : x5 = Ref.X5 A) (h6 : x6 = Ref.X6 A) :
    val_main_v113 (F := Ideal) x0 x1 x2 x3 x4 x5 x6 = G11 A := by
  subst h0 h1 h2 h3 h4 h5 h6
  funext i
  obtain ⟨a, b, rfl⟩ := two (n := 8192) (k := 1024) i
  exact Ref.v113_eq A b a

theorem ref12 {x0 x1 x2 x3 x4 x5 x6} (h0 : x0 = Ref.X0 A) (h1 : x1 = Ref.X1 A) (h2 : x2 = Ref.X2 A) (h3 : x3 = Ref.X3 A) (h4 : x4 = Ref.X4 A) (h5 : x5 = Ref.X5 A) (h6 : x6 = Ref.X6 A) :
    val_main_v114 (F := Ideal) x0 x1 x2 x3 x4 x5 x6 = G12 A := by
  subst h0 h1 h2 h3 h4 h5 h6
  funext i
  obtain ⟨a, b, rfl⟩ := two (n := 8192) (k := 1024) i
  exact Ref.v114_eq A b a

theorem ref13 {x0 x1 x2 x3 x4 x5 x6} (h0 : x0 = Ref.X0 A) (h1 : x1 = Ref.X1 A) (h2 : x2 = Ref.X2 A) (h3 : x3 = Ref.X3 A) (h4 : x4 = Ref.X4 A) (h5 : x5 = Ref.X5 A) (h6 : x6 = Ref.X6 A) :
    val_main_v116 (F := Ideal) x0 x1 x2 x3 x4 x5 x6 = G13 A := by
  subst h0 h1 h2 h3 h4 h5 h6
  funext i
  obtain ⟨a, b, rfl⟩ := two (n := 8192) (k := 1024) i
  exact Ref.v116_eq A b a

theorem ref14 {x0 x1 x2 x3 x4 x5 x6} (h0 : x0 = Ref.X0 A) (h1 : x1 = Ref.X1 A) (h2 : x2 = Ref.X2 A) (h3 : x3 = Ref.X3 A) (h4 : x4 = Ref.X4 A) (h5 : x5 = Ref.X5 A) (h6 : x6 = Ref.X6 A) :
    val_main_v117 (F := Ideal) x0 x1 x2 x3 x4 x5 x6 = G14 A := by
  subst h0 h1 h2 h3 h4 h5 h6
  funext i
  obtain ⟨a, b, rfl⟩ := two (n := 8) (k := 128) i
  exact Ref.v117_eq A a b

theorem ref15 {x0 x1 x2 x3 x4 x5 x6} (h0 : x0 = Ref.X0 A) (h1 : x1 = Ref.X1 A) (h2 : x2 = Ref.X2 A) (h3 : x3 = Ref.X3 A) (h4 : x4 = Ref.X4 A) (h5 : x5 = Ref.X5 A) (h6 : x6 = Ref.X6 A) :
    val_main_v118 (F := Ideal) x0 x1 x2 x3 x4 x5 x6 = G15 A := by
  subst h0 h1 h2 h3 h4 h5 h6
  funext i
  obtain ⟨a, b, rfl⟩ := two (n := 1) (k := 1024) i
  exact Ref.v118_eq A b a

theorem ref16 {x0 x1 x2 x3 x4 x5 x6} (h0 : x0 = Ref.X0 A) (h1 : x1 = Ref.X1 A) (h2 : x2 = Ref.X2 A) (h3 : x3 = Ref.X3 A) (h4 : x4 = Ref.X4 A) (h5 : x5 = Ref.X5 A) (h6 : x6 = Ref.X6 A) :
    val_main_v104 (F := Ideal) x0 x1 x2 x3 x4 x5 x6 = G16 A := by
  subst h0 h1 h2 h3 h4 h5 h6
  funext i
  obtain ⟨a, b, rfl⟩ := two (n := 1) (k := 1024) i
  exact Ref.v104_eq A b a

/-- The plain gradient's run, on the real arguments `A`. -/
theorem ref_run (m : (ℓ : Loc nD τ sig) → Buf (Elt Ideal) ℓ) (g : Dev nD → PrngReg) (A : Dev nD → Args)
    (h : ∀ c : Dev nD, m ((c.tc : Thread nD τ).loc main_arg0) = Ref.X0 (A c)
      ∧ m ((c.tc : Thread nD τ).loc main_arg1) = Ref.X1 (A c)
      ∧ m ((c.tc : Thread nD τ).loc main_arg2) = Ref.X2 (A c)
      ∧ m ((c.tc : Thread nD τ).loc main_arg3) = Ref.X3 (A c)
      ∧ m ((c.tc : Thread nD τ).loc main_arg4) = Ref.X4 (A c)
      ∧ m ((c.tc : Thread nD τ).loc main_arg5) = Ref.X5 (A c)
      ∧ m ((c.tc : Thread nD τ).loc main_arg6) = Ref.X6 (A c)) :
    θ_run (defs (F := Ideal)) (onTc (τ := τ) (main (F := Ideal))) ⟨m, fun _ => 0, g⟩ fun r => ∀ c : Dev nD,
      r.2.mem ((c.tc : Thread nD τ).loc main_v107) = G8 (A c)
      ∧ r.2.mem ((c.tc : Thread nD τ).loc main_v109) = G9 (A c)
      ∧ r.2.mem ((c.tc : Thread nD τ).loc main_v111) = G10 (A c)
      ∧ r.2.mem ((c.tc : Thread nD τ).loc main_v113) = G11 (A c)
      ∧ r.2.mem ((c.tc : Thread nD τ).loc main_v114) = G12 (A c)
      ∧ r.2.mem ((c.tc : Thread nD τ).loc main_v116) = G13 (A c)
      ∧ r.2.mem ((c.tc : Thread nD τ).loc main_v117) = G14 (A c)
      ∧ r.2.mem ((c.tc : Thread nD τ).loc main_v118) = G15 (A c)
      ∧ r.2.mem ((c.tc : Thread nD τ).loc main_v104) = G16 (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r hr c => ?_) (Value.run (F := Ideal) m g)
  obtain ⟨h0, h1, h2, h3, h4, h5, h6⟩ := h c
  obtain ⟨r0, r1, r2, r3, r4, r5, r6, r7, r8, rest⟩ := hr c
  refine ⟨r0.trans ?_, r1.trans ?_, r2.trans ?_, r3.trans ?_, r4.trans ?_, r5.trans ?_, r6.trans ?_, r7.trans ?_, r8.trans ?_, rest⟩
  · exact (val_main_v107_eq _).trans (ref8 _ h0 h1 h2 h3)
  · exact (val_main_v109_eq _).trans (ref9 _ h0 h1 h2 h3 h4 h5 h6)
  · exact (val_main_v111_eq _).trans (ref10 _ h0 h1 h2 h3 h4 h5 h6)
  · exact (val_main_v113_eq _).trans (ref11 _ h0 h1 h2 h3 h4 h5 h6)
  · exact (val_main_v114_eq _).trans (ref12 _ h0 h1 h2 h3 h4 h5 h6)
  · exact (val_main_v116_eq _).trans (ref13 _ h0 h1 h2 h3 h4 h5 h6)
  · exact (val_main_v117_eq _).trans (ref14 _ h0 h1 h2 h3 h4 h5 h6)
  · exact (val_main_v118_eq _).trans (ref15 _ h0 h1 h2 h3 h4 h5 h6)
  · exact (val_main_v104_eq _).trans (ref16 _ h0 h1 h2 h3 h4 h5 h6)

end

/-- The kernel and the plain gradient end with the same nine arrays. -/
theorem algebraic : Cert.algebraic_FfnBwdIdeal_FfnRefIdeal_pre_finite_ffn := by
  pair_intro
  · exact Cert.FfnBwdIdeal.Value.run_blocks m g
  · choose A O using args_of_pre m hpre
    refine (θ_run Cert.FfnRefIdeal.defs _ _).mono (fun r hr c => ?_) (ref_run m' g' A fun c => ?_)
    · obtain ⟨r0, r1, r2, r3, r4, r5, r6, r7, r8, rest⟩ := hr c
      exact ⟨r0.trans (arr8 (O c)).symm, r1.trans (arr9 (O c)).symm, r2.trans (arr10 (O c)).symm, r3.trans (arr11 (O c)).symm, r4.trans (arr12 (O c)).symm, r5.trans (arr13 (O c)).symm, r6.trans (arr14 (O c)).symm, r7.trans (arr15 (O c)).symm, r8.trans (arr16 (O c)).symm, rest⟩
    · obtain ⟨a0, a1, a2, a3, a4, a5, a6⟩ := hagree c
      exact ⟨a0.trans (O c).x, a1.trans (O c).g2, a2.trans (O c).wg, a3.trans (O c).wu, a4.trans (O c).wd, a5.trans (O c).gf, a6.trans (O c).tg⟩

end Cert.Ffn.Claim
-- ==== Proof.InSpec.lean ====
/- The first norm, the input projection and the query's gate over the reals, one row at a time, and the gradient. -/
module

public import proofs.«01_k».proof.Proof.Row

@[expose] public section

noncomputable section

namespace Cert.In

open Cert.Row

/-- The arguments: the cotangents (the query, the value and the decay of both directions, the output gate, the two compressed rows, the
    rotary key, the skip), the rows, the gain and the projection. -/
structure Args where
  qf : Fin 2 → Fin 4096 → Fin 512 → ℝ
  qr : Fin 2 → Fin 4096 → Fin 512 → ℝ
  vf : Fin 2 → Fin 4096 → Fin 512 → ℝ
  vr : Fin 2 → Fin 4096 → Fin 512 → ℝ
  zf : Fin 2 → Fin 4096 → Fin 512 → ℝ
  zr : Fin 2 → Fin 4096 → Fin 512 → ℝ
  hg : Fin 2 → Fin 4096 → Fin 512 → ℝ
  cq : Fin 2 → Fin 4096 → Fin 384 → ℝ
  ck : Fin 2 → Fin 4096 → Fin 256 → ℝ
  kr : Fin 2 → Fin 4096 → Fin 64 → ℝ
  d : Fin 2 → Fin 4096 → Fin 1024 → ℝ
  x : Fin 2 → Fin 4096 → Fin 1024 → ℝ
  g : Fin 1024 → ℝ
  w : Fin 1024 → Fin 3264 → ℝ

/-- The query's column of the projection, before its gate, from the normed row `h`. -/
def hq (A : Args) (h : Fin 1024 → ℝ) (n : Fin 512) : ℝ := ∑ k, h k * A.w k ⟨n.val, by omega⟩

/-- Columns side by side. -/
def beside (n : ℕ) (f : Fin n → ℝ) (g : ℕ → ℝ) (i : ℕ) : ℝ := if h : i < n then f ⟨i, h⟩ else g (i - n)

theorem coe_beside (n : ℕ) (f : Fin n → ℝ) (g : ℕ → ℝ) (i : ℕ) :
    ((beside n f g i : ℝ) : EReal) = if h : i < n then ((f ⟨i, h⟩ : ℝ) : EReal) else ((g (i - n) : ℝ) : EReal) := by
  unfold beside
  split <;> rfl

/-- The eight parts of the projection's gradient, side by side; zero behind them. -/
def parts (q v zf zr hg : Fin 512 → ℝ) (cq : Fin 384 → ℝ) (ck : Fin 256 → ℝ) (kr : Fin 64 → ℝ) : ℕ → ℝ :=
  beside 512 q (beside 512 v (beside 512 zf (beside 512 zr (beside 512 hg (beside 384 cq (beside 256 ck (beside 64 kr fun _ => 0)))))))

theorem parts_zero (q v zf zr hg : Fin 512 → ℝ) (cq : Fin 384 → ℝ) (ck : Fin 256 → ℝ) (kr : Fin 64 → ℝ) (n : ℕ) (h : 3264 ≤ n) :
    parts q v zf zr hg cq ck kr n = 0 := by
  simp only [parts, beside]
  repeat rw [dif_neg (by omega)]

/-- The normed row's gradient, from the projection's. -/
def dh (A : Args) (p : ℕ → ℝ) (k : Fin 1024) : ℝ := ∑ n : Fin 3264, p n.val * A.w k n

section
variable (A : Args) (b : Fin 2) (s : Fin 4096)

def H : Fin 1024 → ℝ := rms 1024 (A.x b s) A.g
def dq (n : Fin 512) : ℝ := (A.qf b s n + A.qr b s n) * slope (hq A (H A b s) n)
def dv (n : Fin 512) : ℝ := A.vf b s n + A.vr b s n
def dp : ℕ → ℝ := parts (dq A b s) (dv A b s) (A.zf b s) (A.zr b s) (A.hg b s) (A.cq b s) (A.ck b s) (A.kr b s)
def dH : Fin 1024 → ℝ := dh A (dp A b s)
def dx (k : Fin 1024) : ℝ := A.d b s k + rmsBwd 1024 (A.x b s) A.g (dH A b s) k
def dgRow (k : Fin 1024) : ℝ := dH A b s k * hat 1024 (A.x b s) k

end

def dg (A : Args) (k : Fin 1024) : ℝ := ∑ b, ∑ s, dgRow A b s k

/-- A sum over the padded columns is the sum over the columns. -/
theorem sum_pad (f : ℕ → ℝ) (h : ∀ n, 3264 ≤ n → f n = 0) : ∑ n : Fin 3328, f n.val = ∑ n : Fin 3264, f n.val := by
  rw [Fin.sum_univ_eq_sum_range f 3328, Fin.sum_univ_eq_sum_range f 3264]
  refine (Finset.sum_subset (Finset.range_mono (by norm_num)) fun n _ hn => h n ?_).symm
  simpa using hn

end Cert.In
-- ==== Proof.InHost.lean ====
/- What the input projection's host lines give the kernel on real arguments: the cotangents' rows, the query's column of the projection, the padded
   rotary key and the padded weight. -/
module

public import proofs.«01_k».proof.Proof.InSpec
public import proofs.«01_k».proof.Proof.AttSpec
public import proofs.«01_k».proof.Proof.FfnHost
public import proofs.«01_k».proof.Proof.Gen.InBwdIdeal.Frame
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.In.Host

open Cert.InBwdIdeal Cert.InBwdIdeal.Gen Cert.Lift Cert.Row

/-! ## The host lines, composed -/

def flat5 (x : FVec Ideal S2x4096x512 .f32) : FVec Ideal S8192x512 .f32 := shapeCast S8192x512 x shapeCasts_S2x4096x512_S8192x512
def flat3 (x : FVec Ideal S2x4096x384 .f32) : FVec Ideal S8192x384 .f32 := shapeCast S8192x384 x shapeCasts_S2x4096x384_S8192x384
def flat2 (x : FVec Ideal S2x4096x256 .f32) : FVec Ideal S8192x256 .f32 := shapeCast S8192x256 x shapeCasts_S2x4096x256_S8192x256
def zero16 : FVec Ideal S_ .bf16 := sitofp .bf16 (constantI S_ 32 0#32)
def keyPad (x : FVec Ideal S2x4096x64 .f32) : FVec Ideal S8192x128 .bf16 :=
  pad S8192x128 ![0, 0] ![0, 64] ![0, 0] (truncf .bf16 (shapeCast S8192x64 x shapeCasts_S2x4096x64_S8192x64) bitsLt_bf16_f32 : FVec Ideal S8192x64 .bf16) zero16
    pads_S8192x64_S8192x128_000_0640 h_S_
def wPad (w : FVec Ideal S1x1024x3264 .f32) : FVec Ideal S3328x1024 .bf16 :=
  pad S3328x1024 ![0, 0] ![64, 0] ![0, 0]
    (truncf .bf16 (transpose S3264x1024 [1, 0] (shapeCast S1024x3264 w shapeCasts_S1x1024x3264_S1024x3264) transposes_S1024x3264_S3264x1024_1_0) bitsLt_bf16_f32
      : FVec Ideal S3264x1024 .bf16) zero16 pads_S3264x1024_S3328x1024_0640_000 h_S_
def query (h : FVec Ideal S8192x1024 .f32) (w : FVec Ideal S3328x1024 .bf16) : FVec Ideal S8192x512 .f32 :=
  Host.dotGeneral dot_S8192x1024_S512x1024_S8192x512_1_1_0_0_n_n none (truncf .bf16 h bitsLt_bf16_f32 : FVec Ideal S8192x1024 .bf16)
    (extractStridedSlice S512x1024 ![0, 0] w slices_S3328x1024_S512x1024_0_0 : FVec Ideal S512x1024 .bf16)

/-! ## The kernel's operands are these -/

section Entry
variable (m : (ℓ : Loc nD τ sig) → Buf (Elt Ideal) ℓ) (c : Dev nD)

theorem V_qf : V m c main_v20 = flat5 (m ((c : Thread nD τ).loc main_arg0)) := by
  unfold V
  after_reads_simp
  rfl

theorem V_qr : V m c main_v21 = flat5 (m ((c : Thread nD τ).loc main_arg1)) := by
  unfold V
  after_reads_simp
  rfl

theorem V_vf : V m c main_v22 = flat5 (m ((c : Thread nD τ).loc main_arg2)) := by
  unfold V
  after_reads_simp
  rfl

theorem V_vr : V m c main_v23 = flat5 (m ((c : Thread nD τ).loc main_arg3)) := by
  unfold V
  after_reads_simp
  rfl

theorem V_zf : V m c main_v25 = (truncf .bf16 (flat5 (m ((c : Thread nD τ).loc main_arg4))) bitsLt_bf16_f32 : FVec Ideal S8192x512 .bf16) := by
  unfold V
  after_reads_simp
  rfl

theorem V_zr : V m c main_v27 = (truncf .bf16 (flat5 (m ((c : Thread nD τ).loc main_arg5))) bitsLt_bf16_f32 : FVec Ideal S8192x512 .bf16) := by
  unfold V
  after_reads_simp
  rfl

theorem V_hg : V m c main_v29 = (truncf .bf16 (flat5 (m ((c : Thread nD τ).loc main_arg6))) bitsLt_bf16_f32 : FVec Ideal S8192x512 .bf16) := by
  unfold V
  after_reads_simp
  rfl

theorem V_hq : V m c main_v19 = query (Ffn.Host.normed (Ffn.Host.flat (m ((c : Thread nD τ).loc main_arg11))) (m ((c : Thread nD τ).loc main_arg12))) (wPad (m ((c : Thread nD τ).loc main_arg13))) := by
  unfold V
  after_reads_simp
  rfl

theorem V_cq : V m c main_v31 = (truncf .bf16 (flat3 (m ((c : Thread nD τ).loc main_arg7))) bitsLt_bf16_f32 : FVec Ideal S8192x384 .bf16) := by
  unfold V
  after_reads_simp
  rfl

theorem V_ck : V m c main_v33 = (truncf .bf16 (flat2 (m ((c : Thread nD τ).loc main_arg8))) bitsLt_bf16_f32 : FVec Ideal S8192x256 .bf16) := by
  unfold V
  after_reads_simp
  rfl

theorem V_kr : V m c main_v36 = keyPad (m ((c : Thread nD τ).loc main_arg9)) := by
  unfold V
  after_reads_simp
  rfl

theorem V_d : V m c main_v37 = Ffn.Host.flat (m ((c : Thread nD τ).loc main_arg10)) := by
  unfold V
  after_reads_simp
  rfl

theorem V_x : V m c main_v0 = Ffn.Host.flat (m ((c : Thread nD τ).loc main_arg11)) := by
  unfold V
  after_reads_simp
  rfl

theorem V_w : V m c main_v4 = wPad (m ((c : Thread nD τ).loc main_arg13)) := by
  unfold V
  after_reads_simp
  rfl

theorem V_g : V m c main_arg12 = m ((c : Thread nD τ).loc main_arg12) := V_main_arg12 m c

end Entry

/-! ## On real arguments -/

def X0 (A : Args) : FVec Ideal S2x4096x512 .f32 := fun i => ((A.qf (i 0) (i 1) (i 2) : ℝ) : EReal)
def X1 (A : Args) : FVec Ideal S2x4096x512 .f32 := fun i => ((A.qr (i 0) (i 1) (i 2) : ℝ) : EReal)
def X2 (A : Args) : FVec Ideal S2x4096x512 .f32 := fun i => ((A.vf (i 0) (i 1) (i 2) : ℝ) : EReal)
def X3 (A : Args) : FVec Ideal S2x4096x512 .f32 := fun i => ((A.vr (i 0) (i 1) (i 2) : ℝ) : EReal)
def X4 (A : Args) : FVec Ideal S2x4096x512 .f32 := fun i => ((A.zf (i 0) (i 1) (i 2) : ℝ) : EReal)
def X5 (A : Args) : FVec Ideal S2x4096x512 .f32 := fun i => ((A.zr (i 0) (i 1) (i 2) : ℝ) : EReal)
def X6 (A : Args) : FVec Ideal S2x4096x512 .f32 := fun i => ((A.hg (i 0) (i 1) (i 2) : ℝ) : EReal)
def X7 (A : Args) : FVec Ideal S2x4096x384 .f32 := fun i => ((A.cq (i 0) (i 1) (i 2) : ℝ) : EReal)
def X8 (A : Args) : FVec Ideal S2x4096x256 .f32 := fun i => ((A.ck (i 0) (i 1) (i 2) : ℝ) : EReal)
def X9 (A : Args) : FVec Ideal S2x4096x64 .f32 := fun i => ((A.kr (i 0) (i 1) (i 2) : ℝ) : EReal)
def X10 (A : Args) : FVec Ideal S2x4096x1024 .f32 := fun i => ((A.d (i 0) (i 1) (i 2) : ℝ) : EReal)
def X11 (A : Args) : FVec Ideal S2x4096x1024 .f32 := fun i => ((A.x (i 0) (i 1) (i 2) : ℝ) : EReal)
def X12 (A : Args) : FVec Ideal S1x1024 .f32 := fun i => ((A.g (i 1) : ℝ) : EReal)
def X13 (A : Args) : FVec Ideal S1x1024x3264 .f32 := fun i => ((A.w (i 1) (i 2) : ℝ) : EReal)

variable (A : Args) (r : Fin 8192) (k : Fin 1024) (j : Fin 512)

theorem flat5_eq (f : Fin 2 → Fin 4096 → Fin 512 → ℝ) (x : FVec Ideal S2x4096x512 .f32) (h : ∀ b s k, x (ix3 b s k) = ((f b s k : ℝ) : EReal)) :
    flat5 x (ix2 r j) = ((f (rowB r) (rowS r) j : ℝ) : EReal) := by
  pointwise [flat5, h]
  rfl

theorem flat3_eq (f : Fin 2 → Fin 4096 → Fin 384 → ℝ) (x : FVec Ideal S2x4096x384 .f32) (h : ∀ b s k, x (ix3 b s k) = ((f b s k : ℝ) : EReal)) (j : Fin 384) :
    flat3 x (ix2 r j) = ((f (rowB r) (rowS r) j : ℝ) : EReal) := by
  pointwise [flat3, h]
  rfl

theorem flat2_eq (f : Fin 2 → Fin 4096 → Fin 256 → ℝ) (x : FVec Ideal S2x4096x256 .f32) (h : ∀ b s k, x (ix3 b s k) = ((f b s k : ℝ) : EReal)) (j : Fin 256) :
    flat2 x (ix2 r j) = ((f (rowB r) (rowS r) j : ℝ) : EReal) := by
  pointwise [flat2, h]
  rfl

theorem zero16_eq (i : S_.Idx) : zero16 i = ((0 : ℝ) : EReal) := Att.sitofp_zero

theorem keyPad_eq (f : Fin 2 → Fin 4096 → Fin 64 → ℝ) (x : FVec Ideal S2x4096x64 .f32) (h : ∀ b s k, x (ix3 b s k) = ((f b s k : ℝ) : EReal)) (j : Fin 128) :
    keyPad x (ix2 r j) = ((beside 64 (f (rowB r) (rowS r)) (fun _ => 0) j.val : ℝ) : EReal) := by
  rw [coe_beside]
  pointwise [keyPad, h, zero16_eq]
  rfl

/-- The weight's row of a padded column. -/
def wRow (f : Fin 1024 → Fin 3264 → ℝ) (k : Fin 1024) : ℕ → ℝ := beside 3264 (f k) fun _ => 0

theorem wPad_eq (f : Fin 1024 → Fin 3264 → ℝ) (w : FVec Ideal S1x1024x3264 .f32) (h : ∀ z k n, w (ix3 z k n) = ((f k n : ℝ) : EReal)) (l : Fin 3328) :
    wPad w (ix2 l k) = ((wRow f k l.val : ℝ) : EReal) := by
  rw [wRow, coe_beside]
  pointwise [wPad, h, zero16_eq]

theorem query_eq (x : FVec Ideal S8192x1024 .f32) (w : FVec Ideal S3328x1024 .bf16) (f : Fin 1024 → ℝ)
    (hx : ∀ k, x (ix2 r k) = ((f k : ℝ) : EReal)) (hw : ∀ l k, w (ix2 l k) = ((wRow A.w k l.val : ℝ) : EReal)) :
    query x w (ix2 r j) = ((hq A f j : ℝ) : EReal) := by
  pointwise [query, hx, hw]
  simp only [← EReal.coe_mul, sum_coe, zero_add, hq]
  refine congrArg _ (Finset.sum_congr rfl fun k _ => congrArg (f k * ·) ?_)
  exact dif_pos (show j.val < 3264 by omega)

end Cert.In.Host
-- ==== Proof.InPoint.lean ====
/- One grid point of the input projection's gradient on real blocks: two groups of 256 rows. -/
module

public import proofs.«01_k».proof.Proof.InHost
public import proofs.«01_k».proof.Proof.Gen.InBwdIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.In.Point

open Cert.InBwdIdeal Cert.InBwdIdeal.Gen Cert.Lift Cert.Row

theorem pos : (0 : ℝ) < 1024 := by norm_num

/-! ## A group of 256 rows -/

section Group
variable (y0 y1 y2 y3 : Vec Ideal S256x512 .f32) (y4 y5 y6 : Vec Ideal S256x512 .bf16) (y7 : Vec Ideal S256x512 .f32) (y8 : Vec Ideal S256x384 .bf16) (y9 : Vec Ideal S256x256 .bf16) (y10 : Vec Ideal S256x128 .bf16) (y11 y12 : Vec Ideal S256x1024 .f32)
  (g : Vec Ideal S1x1024 .f32) (w : Vec Ideal S3328x1024 .bf16) (A : Args) (b : Fin 256 → Fin 2) (s : Fin 256 → Fin 4096)

/-- The group's rows, the gain and the weight hold these reals. -/
structure Group : Prop where
  qf : ∀ r (j : Fin 512), y0 (ix2 r j) = ((A.qf (b r) (s r) j : ℝ) : EReal)
  qr : ∀ r (j : Fin 512), y1 (ix2 r j) = ((A.qr (b r) (s r) j : ℝ) : EReal)
  vf : ∀ r (j : Fin 512), y2 (ix2 r j) = ((A.vf (b r) (s r) j : ℝ) : EReal)
  vr : ∀ r (j : Fin 512), y3 (ix2 r j) = ((A.vr (b r) (s r) j : ℝ) : EReal)
  zf : ∀ r (j : Fin 512), y4 (ix2 r j) = ((A.zf (b r) (s r) j : ℝ) : EReal)
  zr : ∀ r (j : Fin 512), y5 (ix2 r j) = ((A.zr (b r) (s r) j : ℝ) : EReal)
  hg : ∀ r (j : Fin 512), y6 (ix2 r j) = ((A.hg (b r) (s r) j : ℝ) : EReal)
  hq : ∀ r (j : Fin 512), y7 (ix2 r j) = ((In.hq A (In.H A (b r) (s r)) j : ℝ) : EReal)
  cq : ∀ r (j : Fin 384), y8 (ix2 r j) = ((A.cq (b r) (s r) j : ℝ) : EReal)
  ck : ∀ r (j : Fin 256), y9 (ix2 r j) = ((A.ck (b r) (s r) j : ℝ) : EReal)
  kr : ∀ r (j : Fin 128), y10 (ix2 r j) = ((beside 64 (A.kr (b r) (s r)) (fun _ => 0) j.val : ℝ) : EReal)
  d : ∀ r (j : Fin 1024), y11 (ix2 r j) = ((A.d (b r) (s r) j : ℝ) : EReal)
  x : ∀ r (j : Fin 1024), y12 (ix2 r j) = ((A.x (b r) (s r) j : ℝ) : EReal)
  g : ∀ z k, g (ix2 z k) = ((A.g k : ℝ) : EReal)
  w : ∀ l k, w (ix2 l k) = ((Host.wRow A.w k l.val : ℝ) : EReal)

variable {y0 y1 y2 y3 y4 y5 y6 y7 y8 y9 y10 y11 y12 g w A b s} (H : Group y0 y1 y2 y3 y4 y5 y6 y7 y8 y9 y10 y11 y12 g w A b s) (r : Fin 256) (k : Fin 1024) (j : Fin 512) (z : Fin 1)
include H

theorem Group.pay27 : k0_pay27 (F := Ideal) y0 y1 y7 (ix2 r j) = ((dq A (b r) (s r) j : ℝ) : EReal) := by
  have p0 := H.qf; have p1 := H.qr; have p7 := H.hq
  have sg : ∀ (r : Fin 256) (j : Fin 512), (logistic y7 : FVec Ideal S256x512 .f32) (ix2 r j) = ((Row.sg (In.hq A (In.H A (b r) (s r)) j) : ℝ) : EReal) :=
    fun r j => (congrArg Ideal.logistic (p7 r j)).trans (logistic_real _)
  pointwise [k0_pay27, p0, p1, p7, sg]
  simp only [← EReal.coe_one, ← EReal.coe_mul, ← EReal.coe_sub, ← EReal.coe_add, dq, Row.slope]

theorem Group.pay28 : k0_pay28 (F := Ideal) y2 y3 (ix2 r j) = ((dv A (b r) (s r) j : ℝ) : EReal) := by
  have p2 := H.vf; have p3 := H.vr
  pointwise [k0_pay28, p2, p3]
  simp only [← EReal.coe_add, dv]

theorem Group.pay31 : k0_pay31 (F := Ideal) y4 y5 y6 y8 y9 y10 (k0_pay27 y0 y1 y7) (k0_pay28 y2 y3) w (ix2 r k) = ((dH A (b r) (s r) k : ℝ) : EReal) := by
  have p4 := H.zf; have p5 := H.zr; have p6 := H.hg; have p8 := H.cq; have p9 := H.ck; have p10 := H.kr
  have p27 := H.pay27; have p28 := H.pay28; have pw := H.w
  have sum : ∑ l : Fin 3328, ((dp A (b r) (s r) l.val : ℝ) : EReal) * ((Host.wRow A.w k l.val : ℝ) : EReal) = ((dH A (b r) (s r) k : ℝ) : EReal) := by
    simp only [← EReal.coe_mul, sum_coe]
    refine congrArg _ ((sum_pad (fun n => dp A (b r) (s r) n * Host.wRow A.w k n) fun n hn => ?_).trans ?_)
    · rw [show dp A (b r) (s r) n = 0 from parts_zero _ _ _ _ _ _ _ _ n hn, zero_mul]
    · exact Finset.sum_congr rfl fun (n : Fin 3264) _ => congrArg (dp A (b r) (s r) n.val * ·) (dif_pos n.isLt)
  pointwise [k0_pay31, k0_pay29, k0_pay30, p4, p5, p6, p8, p9, p10, p27, p28, pw]
  simp only [dp, parts, coe_beside] at sum ⊢
  exact sum

theorem Group.pay32 : k0_pay32 (F := Ideal) y12 (ix2 r z) = ((rr 1024 (A.x (b r) (s r)) : ℝ) : EReal) := by
  have kx := H.x
  pointwise [k0_pay32, kx]
  rw [ofBits_1024, ofBits_eps]
  simp only [← EReal.coe_mul, sum_coe, zero_add, div_real pos.ne', ← EReal.coe_add]
  exact rsqrt_real (ms_pos (A.x (b r) (s r)) pos)

theorem Group.pay33 : k0_pay33 (F := Ideal) y12 (ix2 r k) = ((hat 1024 (A.x (b r) (s r)) k : ℝ) : EReal) := by
  have kx := H.x; have p32 := H.pay32
  pointwise [k0_pay33, kx, p32]
  simp only [← EReal.coe_mul, hat]

theorem Group.dx : k0_pay34 (F := Ideal) g y4 y5 y6 y8 y9 y10 y11 y12 (k0_pay27 y0 y1 y7) (k0_pay28 y2 y3) w (ix2 r k) = ((dx A (b r) (s r) k : ℝ) : EReal) := by
  have p31 := H.pay31; have p32 := H.pay32; have p33 := H.pay33; have kd := H.d; have kg := H.g
  pointwise [k0_pay34, p31, p32, p33, kd, kg]
  rw [ofBits_1024]
  simp only [← EReal.coe_mul, sum_coe, zero_add, div_real pos.ne', ← EReal.coe_sub, ← EReal.coe_add, In.dx, rmsBwd]

theorem Group.dg : k0_pay35 (F := Ideal) y4 y5 y6 y8 y9 y10 y12 (k0_pay27 y0 y1 y7) (k0_pay28 y2 y3) w (ix2 r k) = ((dgRow A (b r) (s r) k : ℝ) : EReal) := by
  have p31 := H.pay31; have p33 := H.pay33
  pointwise [k0_pay35, p31, p33]
  simp only [← EReal.coe_mul, dgRow]

end Group

section Second
variable (y0 y1 y2 y3 : Vec Ideal S256x512 .f32) (y4 y5 y6 : Vec Ideal S256x512 .bf16) (y7 : Vec Ideal S256x512 .f32) (y8 : Vec Ideal S256x384 .bf16) (y9 : Vec Ideal S256x256 .bf16) (y10 : Vec Ideal S256x128 .bf16) (y11 y12 : Vec Ideal S256x1024 .f32)
  (g : Vec Ideal S1x1024 .f32) (w : Vec Ideal S3328x1024 .bf16)

/-! The second group's values are the first group's functions. -/

theorem pay42_pay34 : k0_pay42 (F := Ideal) g y11 y12 (k0_pay38 y0 y1 y2 y3 y4 y5 y6 y7 y8 y9 y10 w) (k0_pay39 y12)
    = k0_pay34 g y4 y5 y6 y8 y9 y10 y11 y12 (k0_pay27 y0 y1 y7) (k0_pay28 y2 y3) w := rfl

theorem pay43_pay35 : k0_pay43 (F := Ideal) y12 (k0_pay38 y0 y1 y2 y3 y4 y5 y6 y7 y8 y9 y10 w) (k0_pay39 y12)
    = k0_pay35 y4 y5 y6 y8 y9 y10 y12 (k0_pay27 y0 y1 y7) (k0_pay28 y2 y3) w := rfl

end Second

/-- The column sums of two groups are those of their 512 rows. -/
theorem pay44_eq (u v : FVec Ideal S256x1024 .f32) (W : Fin 512 → Fin 1024 → ℝ) (z : Fin 1) (k : Fin 1024)
    (hu : ∀ (a : Fin 256) (r : Fin 512), r.val = 0 + a.val → u (ix2 a k) = ((W r k : ℝ) : EReal))
    (hv : ∀ (a : Fin 256) (r : Fin 512), r.val = 256 + a.val → v (ix2 a k) = ((W r k : ℝ) : EReal)) :
    k0_pay44 (F := Ideal) u v (ix2 z k) = ((∑ r, W r k : ℝ) : EReal) := by
  pointwise [k0_pay44]
  refine (congr (congrArg _ (Finset.sum_congr rfl fun a _ => hu a (Fin.castAdd 256 a) (Nat.zero_add _).symm))
    (Finset.sum_congr rfl fun a _ => hv a (Fin.natAdd 256 a) rfl)).trans ?_
  rw [sum_coe, sum_coe, ← EReal.coe_add]
  exact congrArg _ (Fin.sum_univ_add fun r : Fin (256 + 256) => W r k).symm

theorem pay45_eq (u v : FVec Ideal S256x1024 .f32) (w : Vec Ideal S1x1024 .f32) (z : Fin 1) (k : Fin 1024) :
    k0_pay45 (F := Ideal) u v w (ix2 z k) = (w (ix2 z k) : EReal) + k0_pay44 (F := Ideal) u v (ix2 z k) := by
  pointwise [k0_pay45]

/-! ## A point's 512 rows -/

section Body
variable (x0 x1 x2 x3 : Vec Ideal S512x512 .f32) (x4 x5 x6 : Vec Ideal S512x512 .bf16) (x7 : Vec Ideal S512x512 .f32) (x8 : Vec Ideal S512x384 .bf16) (x9 : Vec Ideal S512x256 .bf16) (x10 : Vec Ideal S512x128 .bf16) (x11 x12 : Vec Ideal S512x1024 .f32)
  (g : Vec Ideal S1x1024 .f32) (w : Vec Ideal S3328x1024 .bf16) (A : Args) (b : Fin 512 → Fin 2) (s : Fin 512 → Fin 4096)

/-- The point's blocks hold these reals. -/
structure Holds : Prop where
  qf : ∀ r (j : Fin 512), x0 (ix2 r j) = ((A.qf (b r) (s r) j : ℝ) : EReal)
  qr : ∀ r (j : Fin 512), x1 (ix2 r j) = ((A.qr (b r) (s r) j : ℝ) : EReal)
  vf : ∀ r (j : Fin 512), x2 (ix2 r j) = ((A.vf (b r) (s r) j : ℝ) : EReal)
  vr : ∀ r (j : Fin 512), x3 (ix2 r j) = ((A.vr (b r) (s r) j : ℝ) : EReal)
  zf : ∀ r (j : Fin 512), x4 (ix2 r j) = ((A.zf (b r) (s r) j : ℝ) : EReal)
  zr : ∀ r (j : Fin 512), x5 (ix2 r j) = ((A.zr (b r) (s r) j : ℝ) : EReal)
  hg : ∀ r (j : Fin 512), x6 (ix2 r j) = ((A.hg (b r) (s r) j : ℝ) : EReal)
  hq : ∀ r (j : Fin 512), x7 (ix2 r j) = ((In.hq A (In.H A (b r) (s r)) j : ℝ) : EReal)
  cq : ∀ r (j : Fin 384), x8 (ix2 r j) = ((A.cq (b r) (s r) j : ℝ) : EReal)
  ck : ∀ r (j : Fin 256), x9 (ix2 r j) = ((A.ck (b r) (s r) j : ℝ) : EReal)
  kr : ∀ r (j : Fin 128), x10 (ix2 r j) = ((beside 64 (A.kr (b r) (s r)) (fun _ => 0) j.val : ℝ) : EReal)
  d : ∀ r (j : Fin 1024), x11 (ix2 r j) = ((A.d (b r) (s r) j : ℝ) : EReal)
  x : ∀ r (j : Fin 1024), x12 (ix2 r j) = ((A.x (b r) (s r) j : ℝ) : EReal)
  g : ∀ z k, g (ix2 z k) = ((A.g k : ℝ) : EReal)
  w : ∀ l k, w (ix2 l k) = ((Host.wRow A.w k l.val : ℝ) : EReal)

variable {x0 x1 x2 x3 x4 x5 x6 x7 x8 x9 x10 x11 x12 g w A b s} (H : Holds x0 x1 x2 x3 x4 x5 x6 x7 x8 x9 x10 x11 x12 g w A b s)
include H

/-- Rows `o …` of a point's blocks are a group. -/
theorem Holds.group (o : ℕ) (ho : o + 256 ≤ 512) (h512 h384 h256 h128 h1024) :
    Group (k0_pay1 (View.ld x0 (Rect.unit (s := S512x512) ![o, 0] ![256, 512] h512))) (k0_pay2 (View.ld x1 (Rect.unit (s := S512x512) ![o, 0] ![256, 512] h512))) (k0_pay3 (View.ld x2 (Rect.unit (s := S512x512) ![o, 0] ![256, 512] h512))) (k0_pay4 (View.ld x3 (Rect.unit (s := S512x512) ![o, 0] ![256, 512] h512)))
        (k0_pay5 (View.ld x4 (Rect.unit (s := S512x512) ![o, 0] ![256, 512] h512))) (k0_pay6 (View.ld x5 (Rect.unit (s := S512x512) ![o, 0] ![256, 512] h512))) (k0_pay7 (View.ld x6 (Rect.unit (s := S512x512) ![o, 0] ![256, 512] h512))) (k0_pay8 (View.ld x7 (Rect.unit (s := S512x512) ![o, 0] ![256, 512] h512)))
        (k0_pay9 (View.ld x8 (Rect.unit (s := S512x384) ![o, 0] ![256, 384] h384))) (k0_pay10 (View.ld x9 (Rect.unit (s := S512x256) ![o, 0] ![256, 256] h256))) (k0_pay11 (View.ld x10 (Rect.unit (s := S512x128) ![o, 0] ![256, 128] h128))) (k0_pay12 (View.ld x11 (Rect.unit (s := S512x1024) ![o, 0] ![256, 1024] h1024))) (k0_pay13 (View.ld x12 (Rect.unit (s := S512x1024) ![o, 0] ![256, 1024] h1024))) g w A
      (fun r => b ⟨o + r.val, by omega⟩) (fun r => s ⟨o + r.val, by omega⟩) := by
  have q0 := H.qf; have q1 := H.qr; have q2 := H.vf; have q3 := H.vr; have q4 := H.zf; have q5 := H.zr; have q6 := H.hg; have q7 := H.hq
  have q8 := H.cq; have q9 := H.ck; have q10 := H.kr; have q11 := H.d; have q12 := H.x
  refine ⟨?_, ?_, ?_, ?_, ?_, ?_, ?_, ?_, ?_, ?_, ?_, ?_, ?_, H.g, H.w⟩
  all_goals
    intro r j
    pointwise [k0_pay1, k0_pay2, k0_pay3, k0_pay4, k0_pay5, k0_pay6, k0_pay7, k0_pay8, k0_pay9, k0_pay10, k0_pay11, k0_pay12, k0_pay13,
      q0, q1, q2, q3, q4, q5, q6, q7, q8, q9, q10, q11, q12]

end Body

/-! ## The eight parts of the projection's gradient in their columns -/

section Parts
variable (A : Args) (b : Fin 2) (s : Fin 4096)

theorem dp_q (j : Fin 512) : dp A b s (0 + j.val) = dq A b s j := by
  simp only [dp, parts, beside]
  repeat rw [dif_neg (by omega)]
  rw [dif_pos (by omega)]
  exact congrArg _ (Fin.ext (by simp only; omega))

theorem dp_v (j : Fin 512) : dp A b s (512 + j.val) = dv A b s j := by
  simp only [dp, parts, beside]
  repeat rw [dif_neg (by omega)]
  rw [dif_pos (by omega)]
  exact congrArg _ (Fin.ext (by simp only; omega))

theorem dp_zf (j : Fin 512) : dp A b s (1024 + j.val) = A.zf b s j := by
  simp only [dp, parts, beside]
  repeat rw [dif_neg (by omega)]
  rw [dif_pos (by omega)]
  exact congrArg _ (Fin.ext (by simp only; omega))

theorem dp_zr (j : Fin 512) : dp A b s (1536 + j.val) = A.zr b s j := by
  simp only [dp, parts, beside]
  repeat rw [dif_neg (by omega)]
  rw [dif_pos (by omega)]
  exact congrArg _ (Fin.ext (by simp only; omega))

theorem dp_hg (j : Fin 512) : dp A b s (2048 + j.val) = A.hg b s j := by
  simp only [dp, parts, beside]
  repeat rw [dif_neg (by omega)]
  rw [dif_pos (by omega)]
  exact congrArg _ (Fin.ext (by simp only; omega))

theorem dp_cq (j : Fin 384) : dp A b s (2560 + j.val) = A.cq b s j := by
  simp only [dp, parts, beside]
  repeat rw [dif_neg (by omega)]
  rw [dif_pos (by omega)]
  exact congrArg _ (Fin.ext (by simp only; omega))

theorem dp_ck (j : Fin 256) : dp A b s (2944 + j.val) = A.ck b s j := by
  simp only [dp, parts, beside]
  repeat rw [dif_neg (by omega)]
  rw [dif_pos (by omega)]
  exact congrArg _ (Fin.ext (by simp only; omega))

theorem dp_kr (j : Fin 128) : dp A b s (3200 + j.val) = beside 64 (A.kr b s) (fun _ => 0) j.val := by
  simp only [dp, parts]
  iterate 7 rw [beside, dif_neg (by omega)]
  exact congrArg (beside 64 _ _) (by omega)

end Parts

/-- The projection's gradient, at a point's rows. -/
def DP (A : Args) (b : Fin 512 → Fin 2) (s : Fin 512 → Fin 4096) (y : S512x3328.Idx) : EReal := ((dp A (b (y 0)) (s (y 0)) (y 1).val : ℝ) : EReal)

theorem lands {n f o : ℕ} (A : Args) (b : Fin 512 → Fin 2) (s : Fin 512 → Fin 4096) (ho : o + 256 ≤ 512) (y : (⟨2, ![256, n]⟩ : Shape).Idx → EReal) (u : Fin 256 → Fin n → ℝ)
    (hr) (hy : ∀ r j, y (ix2 r j) = ((u r j : ℝ) : EReal))
    (hd : ∀ (r : Fin 256) (j : Fin n), dp A (b ⟨o + r.val, by omega⟩) (s ⟨o + r.val, by omega⟩) (f + j.val) = u r j) (x : (⟨2, ![256, n]⟩ : Shape).Idx) :
    y x = DP A b s ((Rect.unit (s := S512x3328) ![o, f] ![256, n] hr).emb x) := by
  obtain ⟨r, j, rfl⟩ : ∃ r j, x = ix2 r j := ⟨x 0, x 1, by funext k; match k with | 0 => rfl | 1 => rfl⟩
  have e0 : (Rect.unit (s := S512x3328) ![o, f] ![256, n] hr).emb (ix2 r j) 0 = (⟨o + r.val, by omega⟩ : Fin 512) := Fin.ext (Idealize.ShloMosaic.ValueKit.rect_emb_unit_val _ _ _ _ _)
  have e1 : ((Rect.unit (s := S512x3328) ![o, f] ![256, n] hr).emb (ix2 r j) 1).val = f + j.val := Idealize.ShloMosaic.ValueKit.rect_emb_unit_val _ _ _ _ _
  rw [hy r j, ← hd r j, DP, e0, e1]

section Cut
variable {x0 x1 x2 x3 : Vec Ideal S512x512 .f32} {x4 x5 x6 : Vec Ideal S512x512 .bf16} {x7 : Vec Ideal S512x512 .f32} {x8 : Vec Ideal S512x384 .bf16} {x9 : Vec Ideal S512x256 .bf16}
  {x10 : Vec Ideal S512x128 .bf16} {x11 x12 : Vec Ideal S512x1024 .f32} {g : Vec Ideal S1x1024 .f32} {w : Vec Ideal S3328x1024 .bf16} {A : Args} {b : Fin 512 → Fin 2} {s : Fin 512 → Fin 4096}
  (H : Holds x0 x1 x2 x3 x4 x5 x6 x7 x8 x9 x10 x11 x12 g w A b s) (o : ℕ) (ho : o + 256 ≤ 512) (h512 h384 h256 h128 h1024)
include H ho

theorem Holds.dx_cut (x : S256x1024.Idx) (r : Fin 512) (k : Fin 1024) (hr : r.val = o + (x 0).val) (hk : k.val = (x 1).val) :
    k0_pay34 (F := Ideal) g (k0_pay5 (View.ld x4 (Rect.unit (s := S512x512) ![o, 0] ![256, 512] h512))) (k0_pay6 (View.ld x5 (Rect.unit (s := S512x512) ![o, 0] ![256, 512] h512))) (k0_pay7 (View.ld x6 (Rect.unit (s := S512x512) ![o, 0] ![256, 512] h512))) (k0_pay9 (View.ld x8 (Rect.unit (s := S512x384) ![o, 0] ![256, 384] h384))) (k0_pay10 (View.ld x9 (Rect.unit (s := S512x256) ![o, 0] ![256, 256] h256))) (k0_pay11 (View.ld x10 (Rect.unit (s := S512x128) ![o, 0] ![256, 128] h128))) (k0_pay12 (View.ld x11 (Rect.unit (s := S512x1024) ![o, 0] ![256, 1024] h1024))) (k0_pay13 (View.ld x12 (Rect.unit (s := S512x1024) ![o, 0] ![256, 1024] h1024)))
      (k0_pay27 (k0_pay1 (View.ld x0 (Rect.unit (s := S512x512) ![o, 0] ![256, 512] h512))) (k0_pay2 (View.ld x1 (Rect.unit (s := S512x512) ![o, 0] ![256, 512] h512))) (k0_pay8 (View.ld x7 (Rect.unit (s := S512x512) ![o, 0] ![256, 512] h512))))
      (k0_pay28 (k0_pay3 (View.ld x2 (Rect.unit (s := S512x512) ![o, 0] ![256, 512] h512))) (k0_pay4 (View.ld x3 (Rect.unit (s := S512x512) ![o, 0] ![256, 512] h512)))) w x = ((dx A (b r) (s r) k : ℝ) : EReal) := by
  obtain ⟨a, e, rfl⟩ : ∃ a e, x = ix2 a e := ⟨x 0, x 1, by funext k; match k with | 0 => rfl | 1 => rfl⟩
  obtain rfl : k = e := Fin.ext hk
  obtain rfl : r = ⟨o + a.val, lt_of_lt_of_le (Nat.add_lt_add_left a.isLt o) ho⟩ := Fin.ext hr
  exact (H.group o ho h512 h384 h256 h128 h1024).dx a k

theorem Holds.dg_cut (a : Fin 256) (r : Fin 512) (k : Fin 1024) (hr : r.val = o + a.val) :
    k0_pay35 (F := Ideal) (k0_pay5 (View.ld x4 (Rect.unit (s := S512x512) ![o, 0] ![256, 512] h512))) (k0_pay6 (View.ld x5 (Rect.unit (s := S512x512) ![o, 0] ![256, 512] h512))) (k0_pay7 (View.ld x6 (Rect.unit (s := S512x512) ![o, 0] ![256, 512] h512))) (k0_pay9 (View.ld x8 (Rect.unit (s := S512x384) ![o, 0] ![256, 384] h384))) (k0_pay10 (View.ld x9 (Rect.unit (s := S512x256) ![o, 0] ![256, 256] h256))) (k0_pay11 (View.ld x10 (Rect.unit (s := S512x128) ![o, 0] ![256, 128] h128))) (k0_pay13 (View.ld x12 (Rect.unit (s := S512x1024) ![o, 0] ![256, 1024] h1024)))
      (k0_pay27 (k0_pay1 (View.ld x0 (Rect.unit (s := S512x512) ![o, 0] ![256, 512] h512))) (k0_pay2 (View.ld x1 (Rect.unit (s := S512x512) ![o, 0] ![256, 512] h512))) (k0_pay8 (View.ld x7 (Rect.unit (s := S512x512) ![o, 0] ![256, 512] h512))))
      (k0_pay28 (k0_pay3 (View.ld x2 (Rect.unit (s := S512x512) ![o, 0] ![256, 512] h512))) (k0_pay4 (View.ld x3 (Rect.unit (s := S512x512) ![o, 0] ![256, 512] h512)))) w (ix2 a k) = ((dgRow A (b r) (s r) k : ℝ) : EReal) := by
  obtain rfl : r = ⟨o + a.val, lt_of_lt_of_le (Nat.add_lt_add_left a.isLt o) ho⟩ := Fin.ext hr
  exact (H.group o ho h512 h384 h256 h128 h1024).dg a k

end Cut

/-! ## What a point leaves -/

section Point
variable {m : (ℓ : Loc nD τ sig) → Buf (Elt Ideal) ℓ} {c : Dev nD} {t : Fin cfg0.N} {A : Args} {b : Fin 512 → Fin 2} {s : Fin 512 → Fin 4096}
  (ht : t.val < 16) (H : Holds (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (iblk m c 13 t) (iblk m c 14 t) A b s)
  (r : Fin 512) (k : Fin 1024) (l : Fin 3328) (z : Fin 1)
include ht H

theorem out15 : (outsAt0 m c t.val t.isLt).1 (ix2 r k) = ((dx A (b r) (s r) k : ℝ) : EReal) := by
  by_cases g : t.val % 16 = 0
  · rw [outsAt0_A m c t g (by omega)]
    frame_out
    canon_tiles x h
    · exact (congrFun (pay42_pay34 ..) x).trans (H.dx_cut 256 (by norm_num) _ _ _ _ _ x r k h0 h1)
    · exact H.dx_cut 0 (by norm_num) _ _ _ _ _ x r k (h0.trans (Nat.zero_add _).symm) h1
  · rw [outsAt0_B m c t g (by omega)]
    frame_out
    canon_tiles x h
    · exact (congrFun (pay42_pay34 ..) x).trans (H.dx_cut 256 (by norm_num) _ _ _ _ _ x r k h0 h1)
    · exact H.dx_cut 0 (by norm_num) _ _ _ _ _ x r k (h0.trans (Nat.zero_add _).symm) h1

theorem out16 : (outsAt0 m c t.val t.isLt).2.1 (ix2 r l) = ((dp A (b r) (s r) l.val : ℝ) : EReal) := by
  by_cases g : t.val % 16 = 0
  · rw [outsAt0_A m c t g (by omega)]
    frame_out
    have g1 := H.group 256 (by norm_num) inb_S512x512_S256x512_256_0 inb_S512x384_S256x384_256_0 inb_S512x256_S256x256_256_0 inb_S512x128_S256x128_256_0 inb_S512x1024_S256x1024_256_0
    have g0 := H.group 0 (by norm_num) inb_S512x512_S256x512_0_0 inb_S512x384_S256x384_0_0 inb_S512x256_S256x256_0_0 inb_S512x128_S256x128_0_0 inb_S512x1024_S256x1024_0_0
    refine View.canon_apply_of_pieces (Val := Elt Ideal) (S := S512x3328) (e := .bf16) (DP A b s) _ ?_ _ (View.cover_of_tiledBy (Val := Elt Ideal) (s := S512x3328) (e := .bf16) _ ![256, 128] (by sl_kernel_rfl) _)
    simp only [List.forall_mem_cons]
    exact ⟨lands (o := 256) (f := 3200) A b s (by norm_num) _ _ _ g1.kr (fun _ _ => dp_kr A _ _ _),
      lands (o := 256) (f := 2944) A b s (by norm_num) _ _ _ g1.ck (fun _ _ => dp_ck A _ _ _),
      lands (o := 256) (f := 2560) A b s (by norm_num) _ _ _ g1.cq (fun _ _ => dp_cq A _ _ _),
      lands (o := 256) (f := 2048) A b s (by norm_num) _ _ _ g1.hg (fun _ _ => dp_hg A _ _ _),
      lands (o := 256) (f := 1536) A b s (by norm_num) _ _ _ g1.zr (fun _ _ => dp_zr A _ _ _),
      lands (o := 256) (f := 1024) A b s (by norm_num) _ _ _ g1.zf (fun _ _ => dp_zf A _ _ _),
      lands (o := 256) (f := 512) A b s (by norm_num) _ _ _ g1.pay28 (fun _ _ => dp_v A _ _ _),
      lands (o := 256) (f := 0) A b s (by norm_num) _ _ _ g1.pay27 (fun _ _ => dp_q A _ _ _),
      lands (o := 0) (f := 3200) A b s (by norm_num) _ _ _ g0.kr (fun _ _ => dp_kr A _ _ _),
      lands (o := 0) (f := 2944) A b s (by norm_num) _ _ _ g0.ck (fun _ _ => dp_ck A _ _ _),
      lands (o := 0) (f := 2560) A b s (by norm_num) _ _ _ g0.cq (fun _ _ => dp_cq A _ _ _),
      lands (o := 0) (f := 2048) A b s (by norm_num) _ _ _ g0.hg (fun _ _ => dp_hg A _ _ _),
      lands (o := 0) (f := 1536) A b s (by norm_num) _ _ _ g0.zr (fun _ _ => dp_zr A _ _ _),
      lands (o := 0) (f := 1024) A b s (by norm_num) _ _ _ g0.zf (fun _ _ => dp_zf A _ _ _),
      lands (o := 0) (f := 512) A b s (by norm_num) _ _ _ g0.pay28 (fun _ _ => dp_v A _ _ _),
      lands (o := 0) (f := 0) A b s (by norm_num) _ _ _ g0.pay27 (fun _ _ => dp_q A _ _ _), fun _ h => absurd h (List.not_mem_nil)⟩
  · rw [outsAt0_B m c t g (by omega)]
    frame_out
    have g1 := H.group 256 (by norm_num) inb_S512x512_S256x512_256_0 inb_S512x384_S256x384_256_0 inb_S512x256_S256x256_256_0 inb_S512x128_S256x128_256_0 inb_S512x1024_S256x1024_256_0
    have g0 := H.group 0 (by norm_num) inb_S512x512_S256x512_0_0 inb_S512x384_S256x384_0_0 inb_S512x256_S256x256_0_0 inb_S512x128_S256x128_0_0 inb_S512x1024_S256x1024_0_0
    refine View.canon_apply_of_pieces (Val := Elt Ideal) (S := S512x3328) (e := .bf16) (DP A b s) _ ?_ _ (View.cover_of_tiledBy (Val := Elt Ideal) (s := S512x3328) (e := .bf16) _ ![256, 128] (by sl_kernel_rfl) _)
    simp only [List.forall_mem_cons]
    exact ⟨lands (o := 256) (f := 3200) A b s (by norm_num) _ _ _ g1.kr (fun _ _ => dp_kr A _ _ _),
      lands (o := 256) (f := 2944) A b s (by norm_num) _ _ _ g1.ck (fun _ _ => dp_ck A _ _ _),
      lands (o := 256) (f := 2560) A b s (by norm_num) _ _ _ g1.cq (fun _ _ => dp_cq A _ _ _),
      lands (o := 256) (f := 2048) A b s (by norm_num) _ _ _ g1.hg (fun _ _ => dp_hg A _ _ _),
      lands (o := 256) (f := 1536) A b s (by norm_num) _ _ _ g1.zr (fun _ _ => dp_zr A _ _ _),
      lands (o := 256) (f := 1024) A b s (by norm_num) _ _ _ g1.zf (fun _ _ => dp_zf A _ _ _),
      lands (o := 256) (f := 512) A b s (by norm_num) _ _ _ g1.pay28 (fun _ _ => dp_v A _ _ _),
      lands (o := 256) (f := 0) A b s (by norm_num) _ _ _ g1.pay27 (fun _ _ => dp_q A _ _ _),
      lands (o := 0) (f := 3200) A b s (by norm_num) _ _ _ g0.kr (fun _ _ => dp_kr A _ _ _),
      lands (o := 0) (f := 2944) A b s (by norm_num) _ _ _ g0.ck (fun _ _ => dp_ck A _ _ _),
      lands (o := 0) (f := 2560) A b s (by norm_num) _ _ _ g0.cq (fun _ _ => dp_cq A _ _ _),
      lands (o := 0) (f := 2048) A b s (by norm_num) _ _ _ g0.hg (fun _ _ => dp_hg A _ _ _),
      lands (o := 0) (f := 1536) A b s (by norm_num) _ _ _ g0.zr (fun _ _ => dp_zr A _ _ _),
      lands (o := 0) (f := 1024) A b s (by norm_num) _ _ _ g0.zf (fun _ _ => dp_zf A _ _ _),
      lands (o := 0) (f := 512) A b s (by norm_num) _ _ _ g0.pay28 (fun _ _ => dp_v A _ _ _),
      lands (o := 0) (f := 0) A b s (by norm_num) _ _ _ g0.pay27 (fun _ _ => dp_q A _ _ _), fun _ h => absurd h (List.not_mem_nil)⟩

theorem out17_first (g : t.val = 0) : (outsAt0 m c t.val t.isLt).2.2 (ix2 z k) = ((∑ r, dgRow A (b r) (s r) k : ℝ) : EReal) := by
  rw [outsAt0_A m c t (by omega) (by omega)]
  frame_out
  refine pay44_eq _ _ (fun r k => dgRow A (b r) (s r) k) z k (fun a r hr => H.dg_cut 0 (by norm_num) _ _ _ _ _ a r k hr) fun a r hr => ?_
  exact (congrFun (pay43_pay35 ..) _).trans (H.dg_cut 256 (by norm_num) _ _ _ _ _ a r k hr)

theorem out17_next (g : t.val ≠ 0) (v : ℝ) (hv : (outsAt0 m c (t.val - 1) (Nat.lt_of_le_of_lt (Nat.sub_le _ _) t.isLt)).2.2 (ix2 z k) = ((v : ℝ) : EReal)) :
    (outsAt0 m c t.val t.isLt).2.2 (ix2 z k) = ((v + ∑ r, dgRow A (b r) (s r) k : ℝ) : EReal) := by
  rw [outsAt0_B m c t (by omega) (by omega)]
  frame_out
  refine (pay45_eq _ _ _ z k).trans ((congr (congrArg _ hv) ?_).trans (EReal.coe_add _ _).symm)
  refine pay44_eq _ _ (fun r k => dgRow A (b r) (s r) k) z k (fun a r hr => H.dg_cut 0 (by norm_num) _ _ _ _ _ a r k hr) fun a r hr => ?_
  exact (congrFun (pay43_pay35 ..) _).trans (H.dg_cut 256 (by norm_num) _ _ _ _ _ a r k hr)

end Point

end Cert.In.Point
-- ==== Proof.InArrays.lean ====
/- The input projection's three final arrays on real arguments. -/
module

public import proofs.«01_k».proof.Proof.InPoint
public import proofs.«01_k».proof.Proof.FfnArrays

@[expose] public section

set_option maxRecDepth 16384

noncomputable section

open Idealize.ShloMosaic Idealize.ShloMosaic.TcCoe Idealize.SL.Sem
open Idealize.ShloMosaic.Pipeline (Dat)

namespace Cert.In.Arrays

open Cert.InBwdIdeal Cert.InBwdIdeal.Gen Cert.Lift Cert.Row Cert.In.Host Cert.In.Point
open Cert.Ffn.Arrays (two)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![t.val, 0] ∧ win0_15.index t = ![t.val, 0] ∧ win0_16.index t = ![t.val, 0]
    ∧ win0_13.index t = ![0, 0] ∧ win0_14.index t = ![0, 0] ∧ win0_17.index t = ![0, 0] :=
  (by decide +kernel : ∀ t : Fin grid0.N, _)

theorem t_lt (t : Fin cfg0.N) : t.val < 16 := lt_of_lt_of_eq t.isLt N_0

/-- A tile's row among all rows. -/
def R (i : ℕ) : Fin 512 → Fin 8192 := tileRow 16 512 (by norm_num) i

theorem R_val (t : Fin cfg0.N) (r : Fin 512) : (R t.val r).val = t.val * 512 + r.val := by
  simp only [R, tileRow, Nat.mod_eq_of_lt (t_lt t)]

/-! ## Where a block's elements lie -/

section
variable (t : Fin cfg0.N) (r : Fin 512) (k : Fin 1024) (l : Fin 3328) (z : Fin 1)

theorem emb0 (j : Fin 512) : (win0_0.blk t).view.emb (ix2 r j) = ix2 (R t.val r) j := by
  blk_ext [idx t] <;> simp only [R_val, Nat.zero_add]
theorem emb1 (j : Fin 512) : (win0_1.blk t).view.emb (ix2 r j) = ix2 (R t.val r) j := by
  blk_ext [idx t] <;> simp only [R_val, Nat.zero_add]
theorem emb2 (j : Fin 512) : (win0_2.blk t).view.emb (ix2 r j) = ix2 (R t.val r) j := by
  blk_ext [idx t] <;> simp only [R_val, Nat.zero_add]
theorem emb3 (j : Fin 512) : (win0_3.blk t).view.emb (ix2 r j) = ix2 (R t.val r) j := by
  blk_ext [idx t] <;> simp only [R_val, Nat.zero_add]
theorem emb4 (j : Fin 512) : (win0_4.blk t).view.emb (ix2 r j) = ix2 (R t.val r) j := by
  blk_ext [idx t] <;> simp only [R_val, Nat.zero_add]
theorem emb5 (j : Fin 512) : (win0_5.blk t).view.emb (ix2 r j) = ix2 (R t.val r) j := by
  blk_ext [idx t] <;> simp only [R_val, Nat.zero_add]
theorem emb6 (j : Fin 512) : (win0_6.blk t).view.emb (ix2 r j) = ix2 (R t.val r) j := by
  blk_ext [idx t] <;> simp only [R_val, Nat.zero_add]
theorem emb7 (j : Fin 512) : (win0_7.blk t).view.emb (ix2 r j) = ix2 (R t.val r) j := by
  blk_ext [idx t] <;> simp only [R_val, Nat.zero_add]
theorem emb8 (j : Fin 384) : (win0_8.blk t).view.emb (ix2 r j) = ix2 (R t.val r) j := by
  blk_ext [idx t] <;> simp only [R_val, Nat.zero_add]
theorem emb9 (j : Fin 256) : (win0_9.blk t).view.emb (ix2 r j) = ix2 (R t.val r) j := by
  blk_ext [idx t] <;> simp only [R_val, Nat.zero_add]
theorem emb10 (j : Fin 128) : (win0_10.blk t).view.emb (ix2 r j) = ix2 (R t.val r) j := by
  blk_ext [idx t] <;> simp only [R_val, Nat.zero_add]
theorem emb11 (j : Fin 1024) : (win0_11.blk t).view.emb (ix2 r j) = ix2 (R t.val r) j := by
  blk_ext [idx t] <;> simp only [R_val, Nat.zero_add]
theorem emb12 (j : Fin 1024) : (win0_12.blk t).view.emb (ix2 r j) = ix2 (R t.val r) j := by
  blk_ext [idx t] <;> simp only [R_val, Nat.zero_add]
theorem emb13 : (win0_13.blk t).view.emb (ix2 z k) = ix2 z k := by
  blk_ext [idx t]
theorem emb14 : (win0_14.blk t).view.emb (ix2 l k) = ix2 l k := by
  blk_ext [idx t]
theorem emb15 : (win0_15.blk t).view.emb (ix2 r k) = ix2 (R t.val r) k := by
  blk_ext [idx t] <;> simp only [R_val, Nat.zero_add]
theorem emb16 : (win0_16.blk t).view.emb (ix2 r l) = ix2 (R t.val r) l := by
  blk_ext [idx t] <;> simp only [R_val, Nat.zero_add]
theorem emb17 : (win0_17.blk t).view.emb (ix2 z k) = ix2 z k := by
  blk_ext [idx t]
end

/-! ## Each block is its operand read at the block's places -/

section
variable (c : Dev nD) (t : Fin cfg0.N) (f : (b : Ref sig .tc) → Buf (Elt Ideal) ((c : Thread nD τ).loc b)) (r : Fin 512) (k : Fin 1024) (l : Fin 3328) (z : Fin 1)

theorem read0 (j : Fin 512) : ((cfg0.win 0).blk t).view.read (Elt Ideal) (f (Pipeline.arrRef spec0 0)) (ix2 r j) = f main_v20 ((win0_0.blk t).view.emb (ix2 r j)) := rfl
theorem read1 (j : Fin 512) : ((cfg0.win 1).blk t).view.read (Elt Ideal) (f (Pipeline.arrRef spec0 1)) (ix2 r j) = f main_v21 ((win0_1.blk t).view.emb (ix2 r j)) := rfl
theorem read2 (j : Fin 512) : ((cfg0.win 2).blk t).view.read (Elt Ideal) (f (Pipeline.arrRef spec0 2)) (ix2 r j) = f main_v22 ((win0_2.blk t).view.emb (ix2 r j)) := rfl
theorem read3 (j : Fin 512) : ((cfg0.win 3).blk t).view.read (Elt Ideal) (f (Pipeline.arrRef spec0 3)) (ix2 r j) = f main_v23 ((win0_3.blk t).view.emb (ix2 r j)) := rfl
theorem read4 (j : Fin 512) : ((cfg0.win 4).blk t).view.read (Elt Ideal) (f (Pipeline.arrRef spec0 4)) (ix2 r j) = f main_v25 ((win0_4.blk t).view.emb (ix2 r j)) := rfl
theorem read5 (j : Fin 512) : ((cfg0.win 5).blk t).view.read (Elt Ideal) (f (Pipeline.arrRef spec0 5)) (ix2 r j) = f main_v27 ((win0_5.blk t).view.emb (ix2 r j)) := rfl
theorem read6 (j : Fin 512) : ((cfg0.win 6).blk t).view.read (Elt Ideal) (f (Pipeline.arrRef spec0 6)) (ix2 r j) = f main_v29 ((win0_6.blk t).view.emb (ix2 r j)) := rfl
theorem read7 (j : Fin 512) : ((cfg0.win 7).blk t).view.read (Elt Ideal) (f (Pipeline.arrRef spec0 7)) (ix2 r j) = f main_v19 ((win0_7.blk t).view.emb (ix2 r j)) := rfl
theorem read8 (j : Fin 384) : ((cfg0.win 8).blk t).view.read (Elt Ideal) (f (Pipeline.arrRef spec0 8)) (ix2 r j) = f main_v31 ((win0_8.blk t).view.emb (ix2 r j)) := rfl
theorem read9 (j : Fin 256) : ((cfg0.win 9).blk t).view.read (Elt Ideal) (f (Pipeline.arrRef spec0 9)) (ix2 r j) = f main_v33 ((win0_9.blk t).view.emb (ix2 r j)) := rfl
theorem read10 (j : Fin 128) : ((cfg0.win 10).blk t).view.read (Elt Ideal) (f (Pipeline.arrRef spec0 10)) (ix2 r j) = f main_v36 ((win0_10.blk t).view.emb (ix2 r j)) := rfl
theorem read11 (j : Fin 1024) : ((cfg0.win 11).blk t).view.read (Elt Ideal) (f (Pipeline.arrRef spec0 11)) (ix2 r j) = f main_v37 ((win0_11.blk t).view.emb (ix2 r j)) := rfl
theorem read12 (j : Fin 1024) : ((cfg0.win 12).blk t).view.read (Elt Ideal) (f (Pipeline.arrRef spec0 12)) (ix2 r j) = f main_v0 ((win0_12.blk t).view.emb (ix2 r j)) := rfl
theorem read13 : ((cfg0.win 13).blk t).view.read (Elt Ideal) (f (Pipeline.arrRef spec0 13)) (ix2 z k) = f main_arg12 ((win0_13.blk t).view.emb (ix2 z k)) := rfl
theorem read14 : ((cfg0.win 14).blk t).view.read (Elt Ideal) (f (Pipeline.arrRef spec0 14)) (ix2 l k) = f main_v4 ((win0_14.blk t).view.emb (ix2 l k)) := rfl
end

/-! ## The blocks at a point -/

section
variable (m : (ℓ : Loc nD τ sig) → Buf (Elt Ideal) ℓ) (c : Dev nD) (A : Args)

/-- The arguments hold the reals `A`. -/
structure On : Prop where
  qf : m ((c : Thread nD τ).loc main_arg0) = Host.X0 A
  qr : m ((c : Thread nD τ).loc main_arg1) = Host.X1 A
  vf : m ((c : Thread nD τ).loc main_arg2) = Host.X2 A
  vr : m ((c : Thread nD τ).loc main_arg3) = Host.X3 A
  zf : m ((c : Thread nD τ).loc main_arg4) = Host.X4 A
  zr : m ((c : Thread nD τ).loc main_arg5) = Host.X5 A
  hg : m ((c : Thread nD τ).loc main_arg6) = Host.X6 A
  cq : m ((c : Thread nD τ).loc main_arg7) = Host.X7 A
  ck : m ((c : Thread nD τ).loc main_arg8) = Host.X8 A
  kr : m ((c : Thread nD τ).loc main_arg9) = Host.X9 A
  d : m ((c : Thread nD τ).loc main_arg10) = Host.X10 A
  x : m ((c : Thread nD τ).loc main_arg11) = Host.X11 A
  g : m ((c : Thread nD τ).loc main_arg12) = Host.X12 A
  w : m ((c : Thread nD τ).loc main_arg13) = Host.X13 A

variable {m c A} (O : On m c A) (t : Fin cfg0.N)
include O

theorem holds : Holds (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) A
    (fun r => rowB (R t.val r)) (fun r => rowS (R t.val r)) := by
  constructor
  · intro r j
    refine (read0 c t (V m c) r j).trans ?_
    rw [emb0, V_qf, O.qf]
    exact flat5_eq _ _ A.qf (Host.X0 A) fun _ _ _ => rfl
  · intro r j
    refine (read1 c t (V m c) r j).trans ?_
    rw [emb1, V_qr, O.qr]
    exact flat5_eq _ _ A.qr (Host.X1 A) fun _ _ _ => rfl
  · intro r j
    refine (read2 c t (V m c) r j).trans ?_
    rw [emb2, V_vf, O.vf]
    exact flat5_eq _ _ A.vf (Host.X2 A) fun _ _ _ => rfl
  · intro r j
    refine (read3 c t (V m c) r j).trans ?_
    rw [emb3, V_vr, O.vr]
    exact flat5_eq _ _ A.vr (Host.X3 A) fun _ _ _ => rfl
  · intro r j
    refine (read4 c t (V m c) r j).trans ?_
    rw [emb4, V_zf, O.zf]
    exact flat5_eq _ _ A.zf (Host.X4 A) fun _ _ _ => rfl
  · intro r j
    refine (read5 c t (V m c) r j).trans ?_
    rw [emb5, V_zr, O.zr]
    exact flat5_eq _ _ A.zr (Host.X5 A) fun _ _ _ => rfl
  · intro r j
    refine (read6 c t (V m c) r j).trans ?_
    rw [emb6, V_hg, O.hg]
    exact flat5_eq _ _ A.hg (Host.X6 A) fun _ _ _ => rfl
  · intro r j
    refine (read7 c t (V m c) r j).trans ?_
    rw [emb7, V_hq, O.x, O.g, O.w]
    exact query_eq A _ _ _ _ (In.H A _ _) (fun k => Ffn.Host.normed_eq _ _ _ _ _ _ (fun k => Ffn.Host.flat_eq _ _ A.x _ fun _ _ _ => rfl) fun _ _ => rfl)
      fun l k => wPad_eq k A.w _ (fun _ _ _ => rfl) l
  · intro r j
    refine (read8 c t (V m c) r j).trans ?_
    rw [emb8, V_cq, O.cq]
    exact flat3_eq _ A.cq (Host.X7 A) (fun _ _ _ => rfl) j
  · intro r j
    refine (read9 c t (V m c) r j).trans ?_
    rw [emb9, V_ck, O.ck]
    exact flat2_eq _ A.ck (Host.X8 A) (fun _ _ _ => rfl) j
  · intro r j
    refine (read10 c t (V m c) r j).trans ?_
    rw [emb10, V_kr, O.kr]
    exact keyPad_eq _ A.kr (Host.X9 A) (fun _ _ _ => rfl) j
  · intro r j
    refine (read11 c t (V m c) r j).trans ?_
    rw [emb11, V_d, O.d]
    exact Ffn.Host.flat_eq _ _ A.d (Host.X10 A) fun _ _ _ => rfl
  · intro r j
    refine (read12 c t (V m c) r j).trans ?_
    rw [emb12, V_x, O.x]
    exact Ffn.Host.flat_eq _ _ A.x (Host.X11 A) fun _ _ _ => rfl
  · intro z k
    refine (read13 c t (V m c) k z).trans ?_
    rw [emb13, V_g, O.g]
    rfl
  · intro l k
    refine (read14 c t (V m c) k l).trans ?_
    rw [emb14, V_w, O.w]
    exact wPad_eq k A.w _ (fun _ _ _ => rfl) l

/-! ## The results -/

def G15 (A : Args) : FVec Ideal S8192x1024 .f32 := fun i => ((dx A (rowB (i 0)) (rowS (i 0)) (i 1) : ℝ) : EReal)
def G16 (A : Args) : FVec Ideal S8192x3328 .bf16 := fun i => ((dp A (rowB (i 0)) (rowS (i 0)) (i 1).val : ℝ) : EReal)
def G17 (A : Args) : FVec Ideal S1x1024 .f32 := fun i => ((dg A (i 1) : ℝ) : EReal)

/-! ## The running sum -/

omit O in
theorem tot (f : Fin 2 → Fin 4096 → ℝ) : ∑ i ∈ Finset.range 16, ∑ r, f (rowB (R i r)) (rowS (R i r)) = ∑ b, ∑ s, f b s :=
  (sum_tiles 16 512 (by norm_num) fun r => f (rowB r) (rowS r)).trans (sum_rows f)

theorem run17 (z : Fin 1) (k : Fin 1024) : ∀ (n : ℕ) (hn : n < cfg0.N), (outsAt0 m c n hn).2.2 (ix2 z k)
    = ((∑ i ∈ Finset.range (n + 1), ∑ r, dgRow A (rowB (R i r)) (rowS (R i r)) k : ℝ) : EReal)
  | 0, hn => by
    rw [Finset.sum_range_one]
    exact out17_first (t_lt ⟨0, hn⟩) (holds O ⟨0, hn⟩) k z rfl
  | n + 1, hn => by
    rw [Finset.sum_range_succ]
    exact out17_next (t_lt ⟨n + 1, hn⟩) (holds O ⟨n + 1, hn⟩) k z (Nat.succ_ne_zero n) _ (run17 z k n (Nat.lt_of_succ_lt hn))

omit O in
theorem flushLast : ∀ t : Fin cfg0.N, (cfg0.win 17).flush t = true → t.val = 15 :=
  (by decide +kernel : ∀ t : Fin grid0.N, (cfg0.win 17).flush t = true → t.val = 15)

/-! ## The final arrays -/

theorem arr15 : (dats m 0 c).arrAt 15 cfg0.N = G15 A := by
  refine (dats m 0 c).arrAt_eq_of_covers 15 (G15 A) (by decide +kernel) fun t hf y => ?_
  obtain ⟨r, k, rfl⟩ := two (n := 512) (k := 1024) y
  rw [after0_15]
  exact (out15 (t_lt t) (holds O t) r k).trans (congrArg (G15 A) (emb15 t r k)).symm

theorem arr16 : (dats m 0 c).arrAt 16 cfg0.N = G16 A := by
  refine (dats m 0 c).arrAt_eq_of_covers 16 (G16 A) (by decide +kernel) fun t hf y => ?_
  obtain ⟨r, l, rfl⟩ := two (n := 512) (k := 3328) y
  rw [after0_16]
  exact (out16 (t_lt t) (holds O t) r l).trans (congrArg (G16 A) (emb16 t r l)).symm

theorem arr17 : (dats m 0 c).arrAt 17 cfg0.N = G17 A := by
  refine (dats m 0 c).arrAt_eq_of_covers 17 (G17 A) (by decide +kernel) fun t hf y => ?_
  obtain ⟨z, k, rfl⟩ := two (n := 1) (k := 1024) y
  rw [after0_17]
  refine (run17 (A := A) O z k t.val t.isLt).trans ((congrArg (fun v : ℝ => (v : EReal)) ?_).trans (congrArg (G17 A) (emb17 t k z)).symm)
  rw [flushLast t hf]
  exact tot fun b s => dgRow A b s k

end

end Cert.In.Arrays
-- ==== Proof.InRef.lean ====
/- The input projection's reference on real arguments: its operations one after the other, down to its three results. -/
module

public import proofs.«01_k».proof.Proof.InSpec
public import proofs.«01_k».proof.Proof.AttSpec
public import proofs.«01_k».proof.Proof.Gen.InRefIdeal.Read

@[expose] public section

set_option maxRecDepth 16384

noncomputable section

open Idealize.ShloMosaic Idealize.ShloMosaic.TcCoe Idealize.SL.Sem

namespace Cert.In.Ref

open Cert.InRefIdeal Cert.InRefIdeal.Read Cert.Lift Cert.Row

/-- The arguments' arrays. -/
def X0 (A : Args) : (⟨S2x4096x512, .f32⟩ : BufTy).Contents (Elt Ideal) := fun i => ((A.qf (i 0) (i 1) (i 2) : ℝ) : EReal)
def X1 (A : Args) : (⟨S2x4096x512, .f32⟩ : BufTy).Contents (Elt Ideal) := fun i => ((A.qr (i 0) (i 1) (i 2) : ℝ) : EReal)
def X2 (A : Args) : (⟨S2x4096x512, .f32⟩ : BufTy).Contents (Elt Ideal) := fun i => ((A.vf (i 0) (i 1) (i 2) : ℝ) : EReal)
def X3 (A : Args) : (⟨S2x4096x512, .f32⟩ : BufTy).Contents (Elt Ideal) := fun i => ((A.vr (i 0) (i 1) (i 2) : ℝ) : EReal)
def X4 (A : Args) : (⟨S2x4096x512, .f32⟩ : BufTy).Contents (Elt Ideal) := fun i => ((A.zf (i 0) (i 1) (i 2) : ℝ) : EReal)
def X5 (A : Args) : (⟨S2x4096x512, .f32⟩ : BufTy).Contents (Elt Ideal) := fun i => ((A.zr (i 0) (i 1) (i 2) : ℝ) : EReal)
def X6 (A : Args) : (⟨S2x4096x512, .f32⟩ : BufTy).Contents (Elt Ideal) := fun i => ((A.hg (i 0) (i 1) (i 2) : ℝ) : EReal)
def X7 (A : Args) : (⟨S2x4096x384, .f32⟩ : BufTy).Contents (Elt Ideal) := fun i => ((A.cq (i 0) (i 1) (i 2) : ℝ) : EReal)
def X8 (A : Args) : (⟨S2x4096x256, .f32⟩ : BufTy).Contents (Elt Ideal) := fun i => ((A.ck (i 0) (i 1) (i 2) : ℝ) : EReal)
def X9 (A : Args) : (⟨S2x4096x64, .f32⟩ : BufTy).Contents (Elt Ideal) := fun i => ((A.kr (i 0) (i 1) (i 2) : ℝ) : EReal)
def X10 (A : Args) : (⟨S2x4096x1024, .f32⟩ : BufTy).Contents (Elt Ideal) := fun i => ((A.d (i 0) (i 1) (i 2) : ℝ) : EReal)
def X11 (A : Args) : (⟨S2x4096x1024, .f32⟩ : BufTy).Contents (Elt Ideal) := fun i => ((A.x (i 0) (i 1) (i 2) : ℝ) : EReal)
def X12 (A : Args) : (⟨S1x1024, .f32⟩ : BufTy).Contents (Elt Ideal) := fun i => ((A.g (i 1) : ℝ) : EReal)
def X13 (A : Args) : (⟨S1x1024x3264, .f32⟩ : BufTy).Contents (Elt Ideal) := fun i => ((A.w (i 1) (i 2) : ℝ) : EReal)

variable (A : Args) (b : Fin 2) (s : Fin 4096) (k : Fin 1024) (j : Fin 512) (n : Fin 3264)

theorem pos : (0 : ℝ) < 1024 := by norm_num

/-! ## Forward -/

theorem v7_eq (z : Fin 1) : val_main_v7 (F := Ideal) (X11 A) (ix3 b s z) = ((ms 1024 (A.x b s) : ℝ) : EReal) := by
  pointwise [val_main_v7, val_main_v6, val_main_v5, val_main_v4, val_main_v3, val_main_v2, val_main_v1, val_main_cst, val_main_cst_0, val_main_cst_1, X11]
  rw [ofBits_1024, ofBits_eps]
  simp only [← EReal.coe_mul, sum_coe, zero_add, div_real pos.ne', ← EReal.coe_add, ms]

theorem v8_eq (z : Fin 1) : val_main_v8 (F := Ideal) (X11 A) (ix3 b s z) = ((rr 1024 (A.x b s) : ℝ) : EReal) := by
  pointwise [val_main_v8, v7_eq]
  exact rsqrt_real (ms_pos _ pos)

theorem v11_eq (z : Fin 1) : val_main_v11 (F := Ideal) (X11 A) (ix3 b s z)
    = ((-(1 / 2) * (rr 1024 (A.x b s) / ms 1024 (A.x b s)) : ℝ) : EReal) := by
  pointwise [val_main_v11, val_main_v10, val_main_cst_2, val_main_v9, v7_eq, v8_eq]
  rw [ofBits_neg_half]
  simp only [div_real (ms_pos (A.x b s) pos).ne', ← EReal.coe_mul]

theorem v13_eq : val_main_v13 (F := Ideal) (X11 A) (ix3 b s k) = ((hat 1024 (A.x b s) k : ℝ) : EReal) := by
  pointwise [val_main_v13, val_main_v12, v8_eq, X11]
  simp only [← EReal.coe_mul, hat]

theorem v16_eq : val_main_v16 (F := Ideal) (X11 A) (X12 A) (ix3 b s k) = ((H A b s k : ℝ) : EReal) := by
  pointwise [val_main_v16, val_main_v15, val_main_v14, val_main_v0, v13_eq, X12]
  simp only [← EReal.coe_mul, H, rms]

theorem v19_eq : val_main_v19 (F := Ideal) (X11 A) (X12 A) (X13 A) (ix3 b s j) = ((hq A (H A b s) j : ℝ) : EReal) := by
  pointwise [val_main_v19, val_main_v18, val_main_v17, v16_eq, X13]
  simp only [← EReal.coe_mul, sum_coe, hq]

theorem sg_eq : val_main_v27_2 (F := Ideal) (X11 A) (X12 A) (X13 A) (ix3 b s j) = ((sg (hq A (H A b s) j) : ℝ) : EReal) := by
  pointwise [val_main_v27_2, val_main_call0_v4, val_main_call0_v3, val_main_call0_v2, val_main_call0_v1, val_main_call0_v0, val_main_call0_cst,
    val_main_call0_cst_0, v19_eq]
  simp only [← EReal.coe_neg, Ideal.exp_coe, ← EReal.coe_one, ← EReal.coe_add, div_real (den_ne _), sg]

/-! ## Backward -/

theorem v30_eq : val_main_v30 (F := Ideal) (X0 A) (X1 A) (X11 A) (X12 A) (X13 A) (ix3 b s j) = ((dq A b s j : ℝ) : EReal) := by
  pointwise [val_main_v30, val_main_call1_v2, val_main_call1_v1, val_main_call1_v0, val_main_v28, val_main_v27_1, val_main_call0_v7, val_main_call0_v6, val_main_call0_cst_1,
    v19_eq, sg_eq, X0, X1]
  simp only [← EReal.coe_one, ← EReal.coe_mul, ← EReal.coe_sub, ← EReal.coe_add]
  exact congrArg _ (slope_vjp _ _)

theorem v29_eq : val_main_v29 (F := Ideal) (X2 A) (X3 A) (ix3 b s j) = ((dv A b s j : ℝ) : EReal) := by
  pointwise [val_main_v29, X2, X3]
  simp only [← EReal.coe_add, dv]

theorem dite_else {p : Prop} {_ : Decidable p} {a : p → EReal} {b c : ¬p → EReal} (h : ∀ g, b g = c g) : dite p a b = dite p a c :=
  congrArg (dite p a) (funext h)

theorem v31_eq : val_main_v31 (F := Ideal) (X0 A) (X1 A) (X2 A) (X3 A) (X4 A) (X5 A) (X6 A) (X7 A) (X8 A) (X9 A) (X11 A) (X12 A) (X13 A) (ix3 b s n)
    = ((dp A b s n.val : ℝ) : EReal) := by
  pointwise [val_main_v31, v30_eq, v29_eq, X4, X5, X6, X7, X8, X9]
  simp only [dp, parts, coe_beside]
  iterate 7 refine dite_else fun _ => ?_
  rw [dif_pos (by omega)]

theorem v34_eq : val_main_v34 (F := Ideal) (X0 A) (X1 A) (X2 A) (X3 A) (X4 A) (X5 A) (X6 A) (X7 A) (X8 A) (X9 A) (X11 A) (X12 A) (X13 A) (ix3 b s k) = ((dH A b s k : ℝ) : EReal) := by
  pointwise [val_main_v34, val_main_v17, v31_eq, X13]
  simp only [← EReal.coe_mul, sum_coe, dH, dh]

theorem v41_eq : val_main_v41 (F := Ideal) (X0 A) (X1 A) (X2 A) (X3 A) (X4 A) (X5 A) (X6 A) (X7 A) (X8 A) (X9 A) (X11 A) (X12 A) (X13 A) (ix1 k) = ((dg A k : ℝ) : EReal) := by
  pointwise [val_main_v41, val_main_v38, val_main_v37, val_main_v36, val_main_cst_3, val_main_cst_4, v13_eq, v34_eq, sum_lead]
  simp only [← EReal.coe_mul, sum_coe, zero_add, Finset.univ_unique, Finset.sum_singleton, dg, dgRow, mul_comm]

theorem v40_eq : val_main_v40 (F := Ideal) (X0 A) (X1 A) (X2 A) (X3 A) (X4 A) (X5 A) (X6 A) (X7 A) (X8 A) (X9 A) (X11 A) (X12 A) (X13 A) (ix3 b s k) = ((dH A b s k * A.g k : ℝ) : EReal) := by
  pointwise [val_main_v40, val_main_v39, val_main_v14, val_main_v0, v34_eq, X12]
  simp only [← EReal.coe_mul]

theorem v50_eq (z : Fin 1) : val_main_v50 (F := Ideal) (X0 A) (X1 A) (X2 A) (X3 A) (X4 A) (X5 A) (X6 A) (X7 A) (X8 A) (X9 A) (X11 A) (X12 A) (X13 A) (ix3 b s z)
    = (((∑ j, A.x b s j * (dH A b s j * A.g j)) * (-(1 / 2) * (rr 1024 (A.x b s) / ms 1024 (A.x b s))) / 1024 : ℝ) : EReal) := by
  pointwise [val_main_v50, val_main_v49, val_main_cst_6, val_main_v48, val_main_v44, val_main_v43, val_main_v42, val_main_cst_5, v11_eq, X11, v40_eq]
  rw [ofBits_1024]
  simp only [← EReal.coe_mul, sum_coe, zero_add, div_real pos.ne']

theorem v56_eq : val_main_v56 (F := Ideal) (X0 A) (X1 A) (X2 A) (X3 A) (X4 A) (X5 A) (X6 A) (X7 A) (X8 A) (X9 A) (X10 A) (X11 A) (X12 A) (X13 A) (ix3 b s k) = ((dx A b s k : ℝ) : EReal) := by
  pointwise [val_main_v56, val_main_v55, val_main_v54, val_main_v53, val_main_v52, val_main_v51, val_main_cst_7, val_main_v47, val_main_v46, val_main_v45, v8_eq,
    v40_eq, v50_eq, X10, X11]
  simp only [← EReal.coe_mul, ← EReal.coe_add, sum_coe, zero_add, Finset.univ_unique, Finset.sum_singleton]
  refine congrArg _ ?_
  rw [add_assoc, add_assoc, ← add_assoc (dH A b s k * A.g k * rr 1024 (A.x b s))]
  exact congrArg (fun y : ℝ => A.d b s k + y) (rms_vjp _ _ _ pos k)

/-! ## The results, rows in one axis -/

variable (r : Fin 8192)

theorem v58_eq : val_main_v58 (F := Ideal) (X0 A) (X1 A) (X2 A) (X3 A) (X4 A) (X5 A) (X6 A) (X7 A) (X8 A) (X9 A) (X10 A) (X11 A) (X12 A) (X13 A) (ix2 r k) = ((dx A (rowB r) (rowS r) k : ℝ) : EReal) := by
  pointwise [val_main_v58, v56_eq]
  rfl

theorem v61_eq (l : Fin 3328) : val_main_v61 (F := Ideal) (X0 A) (X1 A) (X2 A) (X3 A) (X4 A) (X5 A) (X6 A) (X7 A) (X8 A) (X9 A) (X11 A) (X12 A) (X13 A) (ix2 r l) = ((dp A (rowB r) (rowS r) l.val : ℝ) : EReal) := by
  pointwise [val_main_v61, val_main_v60, val_main_v59, v31_eq, val_main_call2_v0, val_main_c]
  by_cases h : l.val < 3264
  · rw [dif_pos h]; rfl
  · rw [dif_neg h, dp, parts_zero _ _ _ _ _ _ _ _ _ (by omega)]
    exact Att.sitofp_zero

theorem v57_eq (z : Fin 1) : val_main_v57 (F := Ideal) (X0 A) (X1 A) (X2 A) (X3 A) (X4 A) (X5 A) (X6 A) (X7 A) (X8 A) (X9 A) (X11 A) (X12 A) (X13 A) (ix2 z k) = ((dg A k : ℝ) : EReal) := by
  pointwise [val_main_v57, v41_eq]

end Cert.In.Ref
-- ==== Proof.InClaim.lean ====
/- The input projection's gradient: from the stated precondition to real arguments, and the claim's parts. -/
module

public import proofs.«01_k».proof.Defs
public import proofs.«01_k».proof.Proof.InArrays
public import proofs.«01_k».proof.Proof.InRef
public import proofs.«01_k».proof.Proof.FfnClaim
public import proofs.«01_k».proof.Proof.Gen.InBwd.Frame
public import proofs.«01_k».proof.Proof.Gen.InRefIdeal.Run
public import proofs.«01_k».proof.Proof.Gen.Pre_finite_in
public import Idealize.ShloMosaic.Lib.Claim

@[expose] public section

set_option maxRecDepth 16384

noncomputable section

open Idealize.ShloMosaic Idealize.ShloMosaic.TcCoe Idealize.SL.Sem

namespace Cert.In.Claim

open Cert.Lift Cert.In.Arrays Cert.Att.Claim
open Cert.Ffn.Claim (one0 two1 three1)
open Cert.Ffn.Arrays (two)

section
open Cert.Pre_finite_in

/-- Where the precondition is true, all the arguments are real. -/
theorem real_of_pre (x0 x1 x2 x3 x4 x5 x6 : FVec Ideal S2x4096x512 .f32) (x7 : FVec Ideal S2x4096x384 .f32) (x8 : FVec Ideal S2x4096x256 .f32) (x9 : FVec Ideal S2x4096x64 .f32) (x10 x11 :
    FVec Ideal S2x4096x1024 .f32) (x12 : FVec Ideal S1x1024 .f32) (x13 : FVec Ideal S1x1024x3264 .f32)
    (h : fn (F := Ideal) x0 x1 x2 x3 x4 x5 x6 x7 x8 x9 x10 x11 x12 x13 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) ∧ (∀ i, ∃ r : ℝ, x4 i =
      (r : EReal)) ∧ (∀ i, ∃ r : ℝ, x5 i = (r : EReal)) ∧ (∀ i, ∃ r : ℝ, x6 i = (r : EReal)) ∧ (∀ i, ∃ r : ℝ, x7 i = (r : EReal)) ∧ (∀ i, ∃ r : ℝ, x8 i = (r : EReal)) ∧ (∀ i, ∃
      r : ℝ, x9 i = (r : EReal)) ∧ (∀ i, ∃ r : ℝ, x10 i = (r : EReal)) ∧ (∀ i, ∃ r : ℝ, x11 i = (r : EReal)) ∧ (∀ i, ∃ r : ℝ, x12 i = (r : EReal)) ∧ (∀ i, ∃ r : ℝ, x13 i = (r :
      EReal)) := by
  have h' := congrFun h (fun k => k.elim0)
  obtain ⟨h', h13⟩ := and_one h'
  obtain ⟨h', h12⟩ := and_one h'
  obtain ⟨h', h11⟩ := and_one h'
  obtain ⟨h', h10⟩ := and_one h'
  obtain ⟨h', h9⟩ := and_one h'
  obtain ⟨h', h8⟩ := and_one h'
  obtain ⟨h', h7⟩ := and_one h'
  obtain ⟨h', h6⟩ := and_one h'
  obtain ⟨h', h5⟩ := and_one h'
  obtain ⟨h', h4⟩ := and_one h'
  obtain ⟨h', h3⟩ := and_one h'
  obtain ⟨h', h2⟩ := and_one h'
  obtain ⟨h0, h1⟩ := and_one h'
  haveI : Subsingleton S_.Idx := ⟨fun a b => funext fun k => k.elim0⟩
  exact ⟨real_of_all x0 _ (fun _ => ofBits_inf) _ _ _ _ h0, real_of_all x1 _ (fun _ => ofBits_inf) _ _ _ _ h1, real_of_all x2 _ (fun _ => ofBits_inf) _ _ _ _ h2, real_of_all x3 _
    (fun _ => ofBits_inf) _ _ _ _ h3, real_of_all x4 _ (fun _ => ofBits_inf) _ _ _ _ h4, real_of_all x5 _ (fun _ => ofBits_inf) _ _ _ _ h5, real_of_all x6 _ (fun _ =>
    ofBits_inf) _ _ _ _ h6, real_of_all x7 _ (fun _ => ofBits_inf) _ _ _ _ h7, real_of_all x8 _ (fun _ => ofBits_inf) _ _ _ _ h8, real_of_all x9 _ (fun _ => ofBits_inf) _ _ _
    _ h9, real_of_all x10 _ (fun _ => ofBits_inf) _ _ _ _ h10, real_of_all x11 _ (fun _ => ofBits_inf) _ _ _ _ h11, real_of_all x12 _ (fun _ => ofBits_inf) _ _ _ _ h12,
    real_of_all x13 _ (fun _ => ofBits_inf) _ _ _ _ h13⟩

end

/-- The arguments as real arrays. -/
theorem args_of_pre (m : (ℓ : Loc Cert.InBwdIdeal.nD Cert.InBwdIdeal.τ Cert.InBwdIdeal.sig) → Buf (Elt Ideal) ℓ)
    (h : Cert.Pre_InBwdIdeal_finite_in m) (c : Dev Cert.InBwdIdeal.nD) : ∃ A : Args, On m c A := by
  obtain ⟨h0, h1, h2, h3, h4, h5, h6, h7, h8, h9, h10, h11, h12, h13⟩ := real_of_pre _ _ _ _ _ _ _ _ _ _ _ _ _ _ (h c)
  obtain ⟨qf, e_qf⟩ := exists_real _ h0
  obtain ⟨qr, e_qr⟩ := exists_real _ h1
  obtain ⟨vf, e_vf⟩ := exists_real _ h2
  obtain ⟨vr, e_vr⟩ := exists_real _ h3
  obtain ⟨zf, e_zf⟩ := exists_real _ h4
  obtain ⟨zr, e_zr⟩ := exists_real _ h5
  obtain ⟨hg, e_hg⟩ := exists_real _ h6
  obtain ⟨cq, e_cq⟩ := exists_real _ h7
  obtain ⟨ck, e_ck⟩ := exists_real _ h8
  obtain ⟨kr, e_kr⟩ := exists_real _ h9
  obtain ⟨d, e_d⟩ := exists_real _ h10
  obtain ⟨x, e_x⟩ := exists_real _ h11
  obtain ⟨g, e_g⟩ := exists_real _ h12
  obtain ⟨w, e_w⟩ := exists_real _ h13
  refine ⟨⟨fun a b c => qf (ix3 a b c), fun a b c => qr (ix3 a b c), fun a b c => vf (ix3 a b c), fun a b c => vr (ix3 a b c), fun a b c => zf (ix3 a b c), fun a b c => zr (ix3 a b
    c), fun a b c => hg (ix3 a b c), fun a b c => cq (ix3 a b c), fun a b c => ck (ix3 a b c), fun a b c => kr (ix3 a b c), fun a b c => d (ix3 a b c), fun a b c => x (ix3 a
    b c), fun a => g (ix2 0 a), fun a b => w (ix3 0 a b)⟩,
    ⟨e_qf.trans ?_, e_qr.trans ?_, e_vf.trans ?_, e_vr.trans ?_, e_zf.trans ?_, e_zr.trans ?_, e_hg.trans ?_, e_cq.trans ?_, e_ck.trans ?_, e_kr.trans ?_, e_d.trans ?_,
    e_x.trans ?_, e_g.trans ?_, e_w.trans ?_⟩⟩
  · exact funext fun i => congrArg (fun j => ((qf j : ℝ) : EReal)) (three i)
  · exact funext fun i => congrArg (fun j => ((qr j : ℝ) : EReal)) (three i)
  · exact funext fun i => congrArg (fun j => ((vf j : ℝ) : EReal)) (three i)
  · exact funext fun i => congrArg (fun j => ((vr j : ℝ) : EReal)) (three i)
  · exact funext fun i => congrArg (fun j => ((zf j : ℝ) : EReal)) (three i)
  · exact funext fun i => congrArg (fun j => ((zr j : ℝ) : EReal)) (three i)
  · exact funext fun i => congrArg (fun j => ((hg j : ℝ) : EReal)) (three i)
  · exact funext fun i => congrArg (fun j => ((cq j : ℝ) : EReal)) (three i)
  · exact funext fun i => congrArg (fun j => ((ck j : ℝ) : EReal)) (three i)
  · exact funext fun i => congrArg (fun j => ((kr j : ℝ) : EReal)) (three i)
  · exact funext fun i => congrArg (fun j => ((d j : ℝ) : EReal)) (three i)
  · exact funext fun i => congrArg (fun j => ((x j : ℝ) : EReal)) (three i)
  · exact funext fun i => congrArg (fun j => ((g j : ℝ) : EReal)) (two1 i)
  · exact funext fun i => congrArg (fun j => ((w j : ℝ) : EReal)) (three1 i)

theorem frame : Cert.quiescent_InBwd := fun m g _ => Cert.InBwd.Gen.frame m g

theorem frame_ideal : Cert.quiescent_InBwdIdeal := fun m g _ => Cert.InBwdIdeal.Gen.frame m g

theorem frame_ideal_pre : Cert.quiescent_InBwdIdeal_pre_finite_in := fun m g _ => Cert.InBwdIdeal.Gen.frame m g

theorem frame_ref : Cert.quiescent_InRefIdeal := fun m g _ =>
  (θ_run Cert.InRefIdeal.defs _ _).mono (fun r h => ⟨fun c => (h c).2.2.2, sem_eq_zero_of_no_sems (by decide) r.2⟩)
    (Cert.InRefIdeal.Value.run (F := Ideal) m g)

theorem frame_ref_pre : Cert.quiescent_InRefIdeal_pre_finite_in := fun m g _ => frame_ref m g trivial

theorem preserves : Cert.preserves_InBwd_InBwdIdeal := by
  trivial

section
open Cert.InRefIdeal Cert.InRefIdeal.Read

variable (A : Args)

theorem ref15 {x0 x1 x2 x3 x4 x5 x6 x7 x8 x9 x10 x11 x12 x13} (h0 : x0 = Ref.X0 A) (h1 : x1 = Ref.X1 A) (h2 : x2 = Ref.X2 A) (h3 : x3 = Ref.X3 A) (h4 : x4 = Ref.X4 A) (h5 : x5 = Ref.X5 A) (h6 : x6 = Ref.X6 A) (h7 : x7 = Ref.X7 A)
    (h8 : x8 = Ref.X8 A) (h9 : x9 = Ref.X9 A) (h10 : x10 = Ref.X10 A) (h11 : x11 = Ref.X11 A) (h12 : x12 = Ref.X12 A) (h13 : x13 = Ref.X13 A) :
    val_main_v58 (F := Ideal) x0 x1 x2 x3 x4 x5 x6 x7 x8 x9 x10 x11 x12 x13 = G15 A := by
  subst h0 h1 h2 h3 h4 h5 h6 h7 h8 h9 h10 h11 h12 h13
  funext i
  obtain ⟨a, b, rfl⟩ := two (n := 8192) (k := 1024) i
  exact Ref.v58_eq A b a

theorem ref16 {x0 x1 x2 x3 x4 x5 x6 x7 x8 x9 x11 x12 x13} (h0 : x0 = Ref.X0 A) (h1 : x1 = Ref.X1 A) (h2 : x2 = Ref.X2 A) (h3 : x3 = Ref.X3 A) (h4 : x4 = Ref.X4 A) (h5 : x5 = Ref.X5 A) (h6 : x6 = Ref.X6 A) (h7 : x7 = Ref.X7 A)
    (h8 : x8 = Ref.X8 A) (h9 : x9 = Ref.X9 A) (h11 : x11 = Ref.X11 A) (h12 : x12 = Ref.X12 A) (h13 : x13 = Ref.X13 A) :
    val_main_v61 (F := Ideal) x0 x1 x2 x3 x4 x5 x6 x7 x8 x9 x11 x12 x13 = G16 A := by
  subst h0 h1 h2 h3 h4 h5 h6 h7 h8 h9 h11 h12 h13
  funext i
  obtain ⟨a, b, rfl⟩ := two (n := 8192) (k := 3328) i
  exact Ref.v61_eq A a b

theorem ref17 {x0 x1 x2 x3 x4 x5 x6 x7 x8 x9 x11 x12 x13} (h0 : x0 = Ref.X0 A) (h1 : x1 = Ref.X1 A) (h2 : x2 = Ref.X2 A) (h3 : x3 = Ref.X3 A) (h4 : x4 = Ref.X4 A) (h5 : x5 = Ref.X5 A) (h6 : x6 = Ref.X6 A) (h7 : x7 = Ref.X7 A)
    (h8 : x8 = Ref.X8 A) (h9 : x9 = Ref.X9 A) (h11 : x11 = Ref.X11 A) (h12 : x12 = Ref.X12 A) (h13 : x13 = Ref.X13 A) :
    val_main_v57 (F := Ideal) x0 x1 x2 x3 x4 x5 x6 x7 x8 x9 x11 x12 x13 = G17 A := by
  subst h0 h1 h2 h3 h4 h5 h6 h7 h8 h9 h11 h12 h13
  funext i
  obtain ⟨a, b, rfl⟩ := two (n := 1) (k := 1024) i
  exact Ref.v57_eq A b a

/-- The plain gradient's run, on the real arguments `A`. -/
theorem ref_run (m : (ℓ : Loc nD τ sig) → Buf (Elt Ideal) ℓ) (g : Dev nD → PrngReg) (A : Dev nD → Args)
    (h : ∀ c : Dev nD, m ((c.tc : Thread nD τ).loc main_arg0) = Ref.X0 (A c)
      ∧ m ((c.tc : Thread nD τ).loc main_arg1) = Ref.X1 (A c)
      ∧ m ((c.tc : Thread nD τ).loc main_arg2) = Ref.X2 (A c)
      ∧ m ((c.tc : Thread nD τ).loc main_arg3) = Ref.X3 (A c)
      ∧ m ((c.tc : Thread nD τ).loc main_arg4) = Ref.X4 (A c)
      ∧ m ((c.tc : Thread nD τ).loc main_arg5) = Ref.X5 (A c)
      ∧ m ((c.tc : Thread nD τ).loc main_arg6) = Ref.X6 (A c)
      ∧ m ((c.tc : Thread nD τ).loc main_arg7) = Ref.X7 (A c)
      ∧ m ((c.tc : Thread nD τ).loc main_arg8) = Ref.X8 (A c)
      ∧ m ((c.tc : Thread nD τ).loc main_arg9) = Ref.X9 (A c)
      ∧ m ((c.tc : Thread nD τ).loc main_arg10) = Ref.X10 (A c)
      ∧ m ((c.tc : Thread nD τ).loc main_arg11) = Ref.X11 (A c)
      ∧ m ((c.tc : Thread nD τ).loc main_arg12) = Ref.X12 (A c)
      ∧ m ((c.tc : Thread nD τ).loc main_arg13) = Ref.X13 (A c)) :
    θ_run (defs (F := Ideal)) (onTc (τ := τ) (main (F := Ideal))) ⟨m, fun _ => 0, g⟩ fun r => ∀ c : Dev nD,
      r.2.mem ((c.tc : Thread nD τ).loc main_v58) = G15 (A c)
      ∧ r.2.mem ((c.tc : Thread nD τ).loc main_v61) = G16 (A c)
      ∧ r.2.mem ((c.tc : Thread nD τ).loc main_v57) = G17 (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs _ _).mono (fun r hr c => ?_) (Value.run (F := Ideal) m g)
  obtain ⟨h0, h1, h2, h3, h4, h5, h6, h7, h8, h9, h10, h11, h12, h13⟩ := h c
  obtain ⟨r0, r1, r2, rest⟩ := hr c
  refine ⟨r0.trans ?_, r1.trans ?_, r2.trans ?_, rest⟩
  · exact (val_main_v58_eq _ _).trans (ref15 _ h0 h1 h2 h3 h4 h5 h6 h7 h8 h9 h10 h11 h12 h13)
  · exact (val_main_v61_eq _ _).trans (ref16 _ h0 h1 h2 h3 h4 h5 h6 h7 h8 h9 h11 h12 h13)
  · exact (val_main_v57_eq _ _).trans (ref17 _ h0 h1 h2 h3 h4 h5 h6 h7 h8 h9 h11 h12 h13)

end

/-- The kernel and the plain gradient end with the same arrays. -/
theorem algebraic : Cert.algebraic_InBwdIdeal_InRefIdeal_pre_finite_in := by
  pair_intro
  · exact Cert.InBwdIdeal.Value.run_blocks m g
  · choose A O using args_of_pre m hpre
    refine (θ_run Cert.InRefIdeal.defs _ _).mono (fun r hr c => ?_) (ref_run m' g' A fun c => ?_)
    · obtain ⟨r0, r1, r2, rest⟩ := hr c
      exact ⟨r0.trans (arr15 (O c)).symm, r1.trans (arr16 (O c)).symm, r2.trans (arr17 (O c)).symm, rest⟩
    · obtain ⟨a0, a1, a2, a3, a4, a5, a6, a7, a8, a9, a10, a11, a12, a13⟩ := hagree c
      exact ⟨a0.trans (O c).qf, a1.trans (O c).qr, a2.trans (O c).vf, a3.trans (O c).vr, a4.trans (O c).zf, a5.trans (O c).zr, a6.trans (O c).hg, a7.trans (O c).cq, a8.trans (O c).ck,
        a9.trans (O c).kr, a10.trans (O c).d, a11.trans (O c).x, a12.trans (O c).g, a13.trans (O c).w⟩

end Cert.In.Claim
-- ==== Proof.OutSpec.lean ====
/- The output projection's two normed inputs over the reals, one row at a time, and the gradient. -/
module

public import proofs.«01_k».proof.Proof.Row

@[expose] public section

noncomputable section

open Idealize.ShloMosaic

namespace Cert.Out

open Cert.Row Cert.Lift

/-- The arguments: the cotangent, the recurrence's two directions, the output gate, the attention's rows, the two gains and the
    projection. -/
structure Args where
  d : Fin 2 → Fin 4096 → Fin 1024 → ℝ
  f : Fin 2 → Fin 4096 → Fin 512 → ℝ
  r : Fin 2 → Fin 4096 → Fin 512 → ℝ
  hg : Fin 2 → Fin 4096 → Fin 512 → ℝ
  a : Fin 2 → Fin 4096 → Fin 512 → ℝ
  gh : Fin 512 → ℝ
  gm : Fin 512 → ℝ
  w : Fin 1024 → Fin 1024 → ℝ

/-- Column `j` of head `h`, of eight heads of 64 columns. -/
def col (h : Fin 8) (j : Fin 64) : Fin 512 := ⟨h.val * 64 + j.val, by omega⟩
def hd (k : Fin 512) : Fin 8 := ⟨k.val / 64, by omega⟩
def off (k : Fin 512) : Fin 64 := ⟨k.val % 64, by omega⟩

theorem col_hd (k : Fin 512) : col (hd k) (off k) = k := Fin.ext (by simp only [col, hd, off]; omega)
theorem hd_col (h : Fin 8) (j : Fin 64) : hd (col h j) = h := Fin.ext (by simp only [col, hd]; omega)
theorem off_col (h : Fin 8) (j : Fin 64) : off (col h j) = j := Fin.ext (by simp only [col, off]; omega)

/-- Column `j` of head `h`, of four heads of 128 columns. -/
def wide (h : Fin 4) (j : Fin 128) : Fin 512 := ⟨h.val * 128 + j.val, by omega⟩

/-- A head's columns of a row. -/
def head (x : Fin 512 → ℝ) (h : Fin 8) (j : Fin 64) : ℝ := x (col h j)

/-- A product with the heads' matrix of ones sums over the column's head. -/
theorem sum_head (x : Fin 512 → ℝ) (k : Fin 512) : (∑ m : Fin 512, x m * (if m.val / 64 = k.val / 64 then 1 else 0)) = ∑ j, head x (hd k) j := by
  simp only [mul_ite, mul_one, mul_zero]
  rw [← Finset.sum_filter]
  refine Finset.sum_bij' (fun m _ => off m) (fun j _ => col (hd k) j) (fun _ _ => Finset.mem_univ _) (fun j _ => ?_) (fun m h => ?_)
    (fun j _ => off_col _ _) (fun m h => ?_)
  · exact Finset.mem_filter.2 ⟨Finset.mem_univ _, congrArg Fin.val (hd_col (hd k) j)⟩
  · have e : hd m = hd k := Fin.ext (Finset.mem_filter.1 h).2
    rw [← e, col_hd]
  · have e : hd m = hd k := Fin.ext (Finset.mem_filter.1 h).2
    rw [head, ← e, col_hd]

/-- The same of the four wide heads. -/
theorem sum_wide (x : Fin 512 → ℝ) (h : ℕ) (hh : h < 4) : (∑ m : Fin 512, (if h = m.val / 128 then 1 else 0) * x m) = ∑ j, x (wide ⟨h, hh⟩ j) := by
  simp only [ite_mul, one_mul, zero_mul]
  rw [← Finset.sum_filter]
  refine Finset.sum_bij' (fun m _ => (⟨m.val % 128, by omega⟩ : Fin 128)) (fun j _ => wide ⟨h, hh⟩ j) (fun _ _ => Finset.mem_univ _) (fun j _ => ?_) (fun m e => ?_)
    (fun j _ => ?_) (fun m e => ?_)
  · exact Finset.mem_filter.2 ⟨Finset.mem_univ _, by simp only [wide]; omega⟩
  · have e := (Finset.mem_filter.1 e).2
    exact Fin.ext (by simp only [wide]; omega)
  · exact Fin.ext (by simp only [wide]; omega)
  · have e := (Finset.mem_filter.1 e).2
    exact congrArg x (Fin.ext (by simp only [wide]; omega))

/-- A sum over the two leading axes of four. -/
theorem sum_lead4 {n0 n1 n2 n3 : ℕ} (h : (⟨4, ![n0, n1, n2, n3]⟩ : Shape).ReducesTo [0, 1] ⟨2, ![n2, n3]⟩)
    (v : (⟨4, ![n0, n1, n2, n3]⟩ : Shape).Idx → EReal) (init : EReal) (k : Fin n2) (l : Fin n3) :
    Ideal.hostReduceAdd h v init (ix2 k l) = init + ∑ i : Fin n0, ∑ j : Fin n1, v (ix4 i j k l) := by
  refine congrArg (init + ·) ((Finset.sum_filter_eq_sum_of_fiber _ (fun p : Fin n0 × Fin n1 => ix4 p.1 p.2 k l)
    (fun _ _ e => Prod.ext (congrFun e 0) (congrFun e 1)) (fun i => ⟨fun e => ⟨(i 0, i 1), ?_⟩, ?_⟩) v).trans ?_)
  · funext a
    apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨p, rfl⟩
    funext b
    apply Fin.ext
    match b with
    | ⟨0, _⟩ => rfl
    | ⟨1, _⟩ => rfl
  · simp only [Fintype.sum_prod_type]

theorem ofBits_64 : Ideal.ofBits .f32 0x42800000#32 = ((64 : ℝ) : EReal) := by
  simp [Ideal.ofBits, Ideal.ieee]
  rw [← EReal.coe_mul]
  norm_num
theorem ofBits_inv64 : Ideal.ofBits .f32 0x3C800000#32 = ((1 / 64 : ℝ) : EReal) := by
  simp [Ideal.ofBits, Ideal.ieee]
  rw [← EReal.coe_mul]
  norm_num
theorem ofBits_512 : Ideal.ofBits .f32 0x44000000#32 = ((512 : ℝ) : EReal) := by
  simp [Ideal.ofBits, Ideal.ieee]
  rw [← EReal.coe_mul]
  norm_num

section
variable (A : Args) (b : Fin 2) (s : Fin 4096)

/-- The two halves of the projection's input, their gradients. -/
def dya (k : Fin 512) : ℝ := ∑ n, A.d b s n * A.w ⟨k.val, by omega⟩ n
def dyb (k : Fin 512) : ℝ := ∑ n, A.d b s n * A.w ⟨512 + k.val, by omega⟩ n
/-- The recurrence's output, its norm's factor per head, and the normed row. -/
def o (k : Fin 512) : ℝ := A.f b s k + A.r b s k
def rh (h : Fin 8) : ℝ := rr 64 (head (o A b s) h)
def oh (h : Fin 8) (j : Fin 64) : ℝ := hat 64 (head (o A b s) h) j
/-- The gate, and the gradient behind it. -/
def sl (k : Fin 512) : ℝ := A.hg b s k * sg (A.hg b s k)
def ds (k : Fin 512) : ℝ := dya A b s k * sl A b s k
/-- The gate's gradient. -/
def dhg (k : Fin 512) : ℝ := dya A b s k * (oh A b s (hd k) (off k) * A.gh k) * slope (A.hg b s k)
/-- The recurrence output's gradient. -/
def do4 (h : Fin 8) (j : Fin 64) : ℝ := rmsBwd 64 (head (o A b s) h) (head A.gh h) (head (ds A b s) h) j
def dor (k : Fin 512) : ℝ := do4 A b s (hd k) (off k)
/-- The attention rows' gradient and its product with the rows, head by head. -/
def da (k : Fin 512) : ℝ := rmsBwd 512 (A.a b s) A.gm (dyb A b s) k
def delta (h : Fin 4) : ℝ := ∑ j, da A b s (wide h j) * A.a b s (wide h j)
/-- A row's share of the gains' gradients. -/
def ghRow (k : Fin 512) : ℝ := ds A b s k * oh A b s (hd k) (off k)
def gmRow (k : Fin 512) : ℝ := dyb A b s k * hat 512 (A.a b s) k

end

def dgh (A : Args) (k : Fin 512) : ℝ := ∑ b, ∑ s, ghRow A b s k
def dgm (A : Args) (k : Fin 512) : ℝ := ∑ b, ∑ s, gmRow A b s k

end Cert.Out
-- ==== Proof.OutHost.lean ====
/- What the output projection's host lines give the kernel on real arguments: the arguments' rows in one axis, and the weight. -/
module

public import proofs.«01_k».proof.Proof.OutSpec
public import proofs.«01_k».proof.Proof.FfnHost
public import proofs.«01_k».proof.Proof.InHost
public import proofs.«01_k».proof.Proof.Gen.OutBwdIdeal.Frame
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.Out.Host

open Cert.OutBwdIdeal Cert.OutBwdIdeal.Gen Cert.Lift Cert.Row
open Cert.In.Host (flat5)

/-- The projection's weight, as the kernel takes it. -/
def w16 (w : FVec Ideal S1x1024x1024 .f32) : FVec Ideal S1024x1024 .bf16 :=
  truncf .bf16 (shapeCast S1024x1024 w shapeCasts_S1x1024x1024_S1024x1024) bitsLt_bf16_f32

/-! ## The kernel's operands -/

section Entry
variable (m : (ℓ : Loc nD τ sig) → Buf (Elt Ideal) ℓ) (c : Dev nD)

theorem V_d : V m c main_v1 = (truncf .bf16 (Ffn.Host.flat (m ((c : Thread nD τ).loc main_arg0))) bitsLt_bf16_f32 : FVec Ideal S8192x1024 .bf16) := by
  unfold V
  after_reads_simp
  rfl

theorem V_f : V m c main_v2 = flat5 (m ((c : Thread nD τ).loc main_arg1)) := by
  unfold V
  after_reads_simp
  rfl

theorem V_r : V m c main_v3 = flat5 (m ((c : Thread nD τ).loc main_arg2)) := by
  unfold V
  after_reads_simp
  rfl

theorem V_hg : V m c main_v4 = flat5 (m ((c : Thread nD τ).loc main_arg3)) := by
  unfold V
  after_reads_simp
  rfl

theorem V_a : V m c main_v5 = flat5 (m ((c : Thread nD τ).loc main_arg4)) := by
  unfold V
  after_reads_simp
  rfl

theorem V_w : V m c main_v7 = w16 (m ((c : Thread nD τ).loc main_arg7)) := by
  unfold V
  after_reads_simp
  rfl

theorem V_gh : V m c main_arg5 = m ((c : Thread nD τ).loc main_arg5) := V_main_arg5 m c
theorem V_gm : V m c main_arg6 = m ((c : Thread nD τ).loc main_arg6) := V_main_arg6 m c

end Entry

/-! ## On real arguments -/

def X0 (A : Args) : FVec Ideal S2x4096x1024 .f32 := fun i => ((A.d (i 0) (i 1) (i 2) : ℝ) : EReal)
def X1 (A : Args) : FVec Ideal S2x4096x512 .f32 := fun i => ((A.f (i 0) (i 1) (i 2) : ℝ) : EReal)
def X2 (A : Args) : FVec Ideal S2x4096x512 .f32 := fun i => ((A.r (i 0) (i 1) (i 2) : ℝ) : EReal)
def X3 (A : Args) : FVec Ideal S2x4096x512 .f32 := fun i => ((A.hg (i 0) (i 1) (i 2) : ℝ) : EReal)
def X4 (A : Args) : FVec Ideal S2x4096x512 .f32 := fun i => ((A.a (i 0) (i 1) (i 2) : ℝ) : EReal)
def X5 (A : Args) : FVec Ideal S1x512 .f32 := fun i => ((A.gh (i 1) : ℝ) : EReal)
def X6 (A : Args) : FVec Ideal S1x512 .f32 := fun i => ((A.gm (i 1) : ℝ) : EReal)
def X7 (A : Args) : FVec Ideal S1x1024x1024 .f32 := fun i => ((A.w (i 1) (i 2) : ℝ) : EReal)

theorem w16_eq (w : FVec Ideal S1x1024x1024 .f32) (f : Fin 1024 → Fin 1024 → ℝ) (h : ∀ z k l, w (ix3 z k l) = ((f k l : ℝ) : EReal)) (k l : Fin 1024) :
    w16 w (ix2 k l) = ((f k l : ℝ) : EReal) := by
  pointwise [w16, h]

end Cert.Out.Host
-- ==== Proof.OutPoint.lean ====
/- One grid point of the output projection's gradient on real blocks: four groups of 256 rows. -/
module

public import proofs.«01_k».proof.Proof.OutHost
public import proofs.«01_k».proof.Proof.AttSpec
public import proofs.«01_k».proof.Proof.Gen.OutBwdIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Out.Point

open Cert.OutBwdIdeal Cert.OutBwdIdeal.Gen Cert.Lift Cert.Row

theorem pos64 : (0 : ℝ) < 64 := by norm_num
theorem pos : (0 : ℝ) < 512 := by norm_num

/-! ## The heads' matrices of ones -/

/-- The matrix of ones where row and column are of one head. -/
def E : FVec Ideal S512x512 .bf16 := k0_pay6 k0_pay2 k0_pay3 k0_pay4 k0_pay5 0#32

/-- The quotient of a column's number, as the kernel takes it from the truncated quotient. -/
def quot (d : BitVec 32) (x : ℕ) : BitVec 32 :=
  Scalar.select
    (IntOp.andi
      (IntOp.cmpi CmpIPredicate.ne
        (IntOp.subi (BitVec.setWidth 32 (IntOp.cmpi CmpIPredicate.sgt (BitVec.ofNat 32 x) 0#32))
          (BitVec.setWidth 32 (IntOp.cmpi CmpIPredicate.slt (BitVec.ofNat 32 x) 0#32)))
        (Scalar.subi (Scalar.extui (Scalar.cmpi CmpIPredicate.sgt d 0#32)) (Scalar.extui (Scalar.cmpi CmpIPredicate.slt d 0#32))))
      (IntOp.cmpi CmpIPredicate.ne (IntOp.remsi ArithUnit.vector (BitVec.ofNat 32 x) d) 0#32))
    (IntOp.subi (IntOp.divsi ArithUnit.vector (BitVec.ofNat 32 x) d) 1#32)
    (IntOp.divsi ArithUnit.vector (BitVec.ofNat 32 x) d)

theorem quot64 : ∀ n : Fin 512, quot 64#32 n.val = BitVec.ofNat 32 (n.val / 64) := by decide +kernel
theorem quot128 : ∀ n : Fin 512, quot 128#32 n.val = BitVec.ofNat 32 (n.val / 128) := by decide +kernel

/-- A comparison of two small numbers, as a real. -/
theorem same (a b : ℕ) (ha : a < 8) (hb : b < 8) :
    FloatOps.sitofp (F := Ideal) .f32 (BitVec.setWidth 32 (IntOp.cmpi CmpIPredicate.eq (BitVec.ofNat 32 a) (BitVec.ofNat 32 b))) = ((if a = b then 1 else 0 : ℝ) : EReal) := by
  by_cases h : a = b
  · subst h
    have e : BitVec.setWidth 32 (IntOp.cmpi CmpIPredicate.eq (BitVec.ofNat 32 a) (BitVec.ofNat 32 a)) = 1#32 := by
      interval_cases a <;> decide
    rw [e, if_pos rfl]
    simp [FloatOps.sitofp]
  · have e : BitVec.setWidth 32 (IntOp.cmpi CmpIPredicate.eq (BitVec.ofNat 32 a) (BitVec.ofNat 32 b)) = 0#32 := by
      interval_cases a <;> interval_cases b <;> first | exact absurd rfl h | decide
    rw [e, if_neg h]
    simp [FloatOps.sitofp]

theorem E_eq (n k : Fin 512) : E (ix2 n k) = ((if n.val / 64 = k.val / 64 then 1 else 0 : ℝ) : EReal) := by
  pointwise [E, k0_pay6, k0_pay2, k0_pay3, k0_pay4, k0_pay5]
  refine Eq.trans ?_ (same (n.val / 64) (k.val / 64) (by omega) (by omega))
  rw [← quot64 n, ← quot64 k]
  rfl

theorem D_eq (h : Fin 8) (k : Fin 512) : k0_pay7 (F := Ideal) (ix2 h k) = ((if h.val = k.val / 128 then 1 else 0 : ℝ) : EReal) := by
  pointwise [k0_pay7]
  refine Eq.trans ?_ (same h.val (k.val / 128) (by omega) (by omega))
  rw [← quot128 k]
  rfl

/-! ## A group of 256 rows -/

/-- A column's sum over its head, of an array split into three parts of which two are zero. -/
theorem exact_head (x : Fin 512 → ℝ) (k : Fin 512) :
    (∑ m, ((x m * (if m.val / 64 = k.val / 64 then 1 else 0) : ℝ) : EReal)) + (∑ m, (((x m - x m) * (if m.val / 64 = k.val / 64 then 1 else 0) : ℝ) : EReal))
      + (∑ m, (((x m - x m - (x m - x m)) * (if m.val / 64 = k.val / 64 then 1 else 0) : ℝ) : EReal)) = ((∑ j, head x (hd k) j : ℝ) : EReal) := by
  simp only [sum_coe, ← EReal.coe_add, sub_self, zero_mul, Finset.sum_const_zero, add_zero]
  exact congrArg _ (sum_head x k)

theorem exact_wide (x : Fin 512 → ℝ) (h : Fin 8) (hh : h.val < 4) :
    (∑ m : Fin 512, (((if h.val = m.val / 128 then 1 else 0) * x m : ℝ) : EReal)) + (∑ m : Fin 512, (((if h.val = m.val / 128 then 1 else 0) * (x m - x m) : ℝ) : EReal))
      + (∑ m : Fin 512, (((if h.val = m.val / 128 then 1 else 0) * (x m - x m - (x m - x m)) : ℝ) : EReal)) = ((∑ j, x (wide ⟨h.val, hh⟩ j) : ℝ) : EReal) := by
  simp only [sum_coe, ← EReal.coe_add, sub_self, mul_zero, Finset.sum_const_zero, add_zero]
  exact congrArg _ (sum_wide x h.val hh)

section Group
variable (y0 : FVec Ideal S256x1024 .bf16) (y1 y2 y3 y4 : FVec Ideal S256x512 .f32) (gh gm : FVec Ideal S1x512 .f32) (w0 w1 : Vec Ideal S512x1024 .bf16)
  (A : Args) (b : Fin 256 → Fin 2) (s : Fin 256 → Fin 4096)

/-- The group's rows, the gains and the weight's halves hold these reals. -/
structure Group : Prop where
  d : ∀ r (j : Fin 1024), y0 (ix2 r j) = ((A.d (b r) (s r) j : ℝ) : EReal)
  f : ∀ r (j : Fin 512), y1 (ix2 r j) = ((A.f (b r) (s r) j : ℝ) : EReal)
  r : ∀ r (j : Fin 512), y2 (ix2 r j) = ((A.r (b r) (s r) j : ℝ) : EReal)
  hg : ∀ r (j : Fin 512), y3 (ix2 r j) = ((A.hg (b r) (s r) j : ℝ) : EReal)
  a : ∀ r (j : Fin 512), y4 (ix2 r j) = ((A.a (b r) (s r) j : ℝ) : EReal)
  gh : ∀ z k, gh (ix2 z k) = ((A.gh k : ℝ) : EReal)
  gm : ∀ z k, gm (ix2 z k) = ((A.gm k : ℝ) : EReal)
  w0 : ∀ (k : Fin 512) l, w0 (ix2 k l) = ((A.w ⟨k.val, by omega⟩ l : ℝ) : EReal)
  w1 : ∀ (k : Fin 512) l, w1 (ix2 k l) = ((A.w ⟨512 + k.val, by omega⟩ l : ℝ) : EReal)

variable {y0 y1 y2 y3 y4 gh gm w0 w1 A b s} (H : Group y0 y1 y2 y3 y4 gh gm w0 w1 A b s) (r : Fin 256) (k : Fin 512) (z : Fin 1)
include H

theorem Group.pay28 : k0_pay28 (F := Ideal) y0 w0 (ix2 r k) = ((dya A (b r) (s r) k : ℝ) : EReal) := by
  have pd := H.d; have pw := H.w0
  pointwise [k0_pay28, pd, pw]
  simp only [← EReal.coe_mul, sum_coe, zero_add, dya]

theorem Group.pay29 : k0_pay29 (F := Ideal) y0 w1 (ix2 r k) = ((dyb A (b r) (s r) k : ℝ) : EReal) := by
  have pd := H.d; have pw := H.w1
  pointwise [k0_pay29, pd, pw]
  simp only [← EReal.coe_mul, sum_coe, zero_add, dyb]

theorem Group.pay30 : k0_pay30 (F := Ideal) y1 y2 (ix2 r k) = ((o A (b r) (s r) k : ℝ) : EReal) := by
  have pf := H.f; have pr := H.r
  pointwise [k0_pay30, pf, pr]
  simp only [← EReal.coe_add, o]

theorem Group.pay31 : k0_pay31 (F := Ideal) E y1 y2 (ix2 r k) = ((rh A (b r) (s r) (hd k) : ℝ) : EReal) := by
  have p := H.pay30
  have sq := exact_head (fun m => o A (b r) (s r) m * o A (b r) (s r) m) k
  pointwise [k0_pay31, p, E_eq]
  rw [ofBits_inv64, ofBits_eps]
  simp only [← EReal.coe_mul, ← EReal.coe_sub, zero_add] at sq ⊢
  rw [sq]
  simp only [← EReal.coe_mul, ← EReal.coe_add]
  have e : (∑ j, head (fun m => o A (b r) (s r) m * o A (b r) (s r) m) (hd k) j) * (1 / 64) + eps = ms 64 (head (o A (b r) (s r)) (hd k)) := by
    rw [ms, mul_one_div]
    rfl
  rw [e]
  exact rsqrt_real (ms_pos _ pos64)

theorem Group.pay32 : k0_pay32 (F := Ideal) E y1 y2 (ix2 r k) = ((oh A (b r) (s r) (hd k) (off k) : ℝ) : EReal) := by
  have p := H.pay30; have q := H.pay31
  have e : head (o A (b r) (s r)) (hd k) (off k) = o A (b r) (s r) k := congrArg (o A (b r) (s r)) (col_hd k)
  pointwise [k0_pay32, p, q]
  rw [← EReal.coe_mul, oh, hat, e]
  rfl

theorem Group.pay33 : k0_pay33 (F := Ideal) y3 (ix2 r k) = ((sg (A.hg (b r) (s r) k) : ℝ) : EReal) :=
  (congrArg Ideal.logistic (H.hg r k)).trans (logistic_real _)

theorem Group.pay34 : k0_pay34 (F := Ideal) y3 (ix2 r k) = ((sl A (b r) (s r) k : ℝ) : EReal) := by
  have p := H.hg; have q := H.pay33
  pointwise [k0_pay34, p, q]
  simp only [← EReal.coe_mul, sl]

theorem Group.dhg : k0_pay37 (F := Ideal) (k0_pay33 y3) (k0_pay35 E gh y0 y1 y2 w0) (k0_pay36 y3) (ix2 r k) = ((dhg A (b r) (s r) k : ℝ) : EReal) := by
  have p := H.hg; have p33 := H.pay33; have p28 := H.pay28; have p32 := H.pay32; have pg := H.gh
  pointwise [k0_pay37, k0_pay35, k0_pay36, p, p33, p28, p32, pg]
  simp only [← EReal.coe_one, ← EReal.coe_mul, ← EReal.coe_sub, ← EReal.coe_add, Out.dhg, Row.slope]

theorem Group.do : k0_pay38 (F := Ideal) E gh (k0_pay28 y0 w0) (k0_pay31 E y1 y2) (k0_pay32 E y1 y2) (k0_pay34 y3) (ix2 r k) = ((dor A (b r) (s r) k : ℝ) : EReal) := by
  have p28 := H.pay28; have p31 := H.pay31; have p32 := H.pay32; have p34 := H.pay34; have pg := H.gh
  have sq := exact_head (fun m => dya A (b r) (s r) m * sl A (b r) (s r) m * A.gh m * oh A (b r) (s r) (hd m) (off m)) k
  pointwise [k0_pay38, p28, p31, p32, p34, pg, E_eq]
  rw [ofBits_inv64]
  simp only [← EReal.coe_mul, ← EReal.coe_sub, zero_add] at sq ⊢
  rw [sq]
  simp only [← EReal.coe_mul, ← EReal.coe_sub]
  have e : ∑ j, head (fun m => dya A (b r) (s r) m * sl A (b r) (s r) m * A.gh m * oh A (b r) (s r) (hd m) (off m)) (hd k) j
      = ∑ j, head (ds A (b r) (s r)) (hd k) j * head A.gh (hd k) j * hat 64 (head (o A (b r) (s r)) (hd k)) j :=
    Finset.sum_congr rfl fun j _ => by simp only [head, hd_col, off_col]; rfl
  have e1 : head (ds A (b r) (s r)) (hd k) (off k) = ds A (b r) (s r) k := congrArg (ds A (b r) (s r)) (col_hd k)
  have e2 : head A.gh (hd k) (off k) = A.gh k := congrArg A.gh (col_hd k)
  rw [e, mul_one_div, dor, do4, rmsBwd, e1, e2]
  rfl

theorem Group.pay39 : k0_pay39 (F := Ideal) y4 (ix2 r z) = ((rr 512 (A.a (b r) (s r)) : ℝ) : EReal) := by
  have kx := H.a
  pointwise [k0_pay39, kx]
  rw [ofBits_512, ofBits_eps]
  simp only [← EReal.coe_mul, sum_coe, zero_add, div_real pos.ne', ← EReal.coe_add]
  exact rsqrt_real (ms_pos (A.a (b r) (s r)) pos)

theorem Group.pay40 : k0_pay40 (F := Ideal) y4 (ix2 r k) = ((hat 512 (A.a (b r) (s r)) k : ℝ) : EReal) := by
  have kx := H.a; have p39 := H.pay39
  pointwise [k0_pay40, kx, p39]
  simp only [← EReal.coe_mul, hat]

theorem Group.pay41 : k0_pay41 (F := Ideal) gm y4 (k0_pay29 y0 w1) (ix2 r k) = ((da A (b r) (s r) k : ℝ) : EReal) := by
  have p29 := H.pay29; have p39 := H.pay39; have p40 := H.pay40; have pg := H.gm
  pointwise [k0_pay41, p29, p39, p40, pg]
  rw [ofBits_512]
  simp only [← EReal.coe_mul, sum_coe, zero_add, div_real pos.ne', ← EReal.coe_sub, da, rmsBwd]

theorem Group.da : k0_pay45 (F := Ideal) (k0_pay41 gm y4 (k0_pay29 y0 w1)) (ix2 r k) = ((da A (b r) (s r) k : ℝ) : EReal) := by
  have p := H.pay41
  pointwise [k0_pay45, p]

theorem Group.gmRow : k0_pay42 (F := Ideal) y4 (k0_pay29 y0 w1) (ix2 r k) = ((gmRow A (b r) (s r) k : ℝ) : EReal) := by
  have p29 := H.pay29; have p40 := H.pay40
  pointwise [k0_pay42, p29, p40]
  simp only [← EReal.coe_mul, Out.gmRow]

theorem Group.ghRow : k0_pay46 (F := Ideal) (k0_pay28 y0 w0) (k0_pay32 E y1 y2) (k0_pay34 y3) (ix2 r k) = ((ghRow A (b r) (s r) k : ℝ) : EReal) := by
  have p28 := H.pay28; have p32 := H.pay32; have p34 := H.pay34
  pointwise [k0_pay46, p28, p32, p34]
  simp only [← EReal.coe_mul, Out.ghRow, ds]

theorem Group.delta (h : Fin 8) (hh : h.val < 4) : k0_pay44 (F := Ideal) k0_pay7 (k0_pay43 gm y4 (k0_pay29 y0 w1)) (ix2 h r)
    = ((delta A (b r) (s r) ⟨h.val, hh⟩ : ℝ) : EReal) := by
  have p41 := H.pay41; have ka := H.a
  have sq := exact_wide (fun m => Out.da A (b r) (s r) m * A.a (b r) (s r) m) h hh
  pointwise [k0_pay44, k0_pay43, p41, ka, D_eq]
  simp only [← EReal.coe_mul, ← EReal.coe_sub, zero_add] at sq ⊢
  exact sq

end Group

/-! ## A point's 1024 rows -/

section Body
variable (x0 : Vec Ideal S1024x1024 .bf16) (x1 x2 x3 x4 : Vec Ideal S1024x512 .f32) (x5 x6 : Vec Ideal S1x512 .f32) (x7 : Vec Ideal S1024x1024 .bf16)
  (A : Args) (b : Fin 1024 → Fin 2) (s : Fin 1024 → Fin 4096)

/-- The point's blocks hold these reals. -/
structure Holds : Prop where
  d : ∀ r (j : Fin 1024), x0 (ix2 r j) = ((A.d (b r) (s r) j : ℝ) : EReal)
  f : ∀ r (j : Fin 512), x1 (ix2 r j) = ((A.f (b r) (s r) j : ℝ) : EReal)
  r : ∀ r (j : Fin 512), x2 (ix2 r j) = ((A.r (b r) (s r) j : ℝ) : EReal)
  hg : ∀ r (j : Fin 512), x3 (ix2 r j) = ((A.hg (b r) (s r) j : ℝ) : EReal)
  a : ∀ r (j : Fin 512), x4 (ix2 r j) = ((A.a (b r) (s r) j : ℝ) : EReal)
  gh : ∀ z k, x5 (ix2 z k) = ((A.gh k : ℝ) : EReal)
  gm : ∀ z k, x6 (ix2 z k) = ((A.gm k : ℝ) : EReal)
  w : ∀ k l, x7 (ix2 k l) = ((A.w k l : ℝ) : EReal)

variable {x0 x1 x2 x3 x4 x5 x6 x7 A b s} (H : Holds x0 x1 x2 x3 x4 x5 x6 x7 A b s)
include H

/-- Rows `o …` of a point's blocks are a group. -/
theorem Holds.group (o : ℕ) (ho : o + 256 ≤ 1024) (h0 h5 w0 w1) :
    Group (k0_pay8 (View.ld x0 (Rect.unit (s := S1024x1024) ![o, 0] ![256, 1024] h0))) (k0_pay9 (View.ld x1 (Rect.unit (s := S1024x512) ![o, 0] ![256, 512] h5)))
      (k0_pay10 (View.ld x2 (Rect.unit (s := S1024x512) ![o, 0] ![256, 512] h5))) (k0_pay11 (View.ld x3 (Rect.unit (s := S1024x512) ![o, 0] ![256, 512] h5)))
      (k0_pay12 (View.ld x4 (Rect.unit (s := S1024x512) ![o, 0] ![256, 512] h5))) x5 x6 (View.ld x7 (Rect.unit (s := S1024x1024) ![0, 0] ![512, 1024] w0))
      (View.ld x7 (Rect.unit (s := S1024x1024) ![512, 0] ![512, 1024] w1)) A (fun r => b ⟨o + r.val, by omega⟩) (fun r => s ⟨o + r.val, by omega⟩) := by
  have q0 := H.d; have q1 := H.f; have q2 := H.r; have q3 := H.hg; have q4 := H.a; have q7 := H.w
  refine ⟨?_, ?_, ?_, ?_, ?_, H.gh, H.gm, ?_, ?_⟩
  all_goals
    intro r j
    pointwise [k0_pay8, k0_pay9, k0_pay10, k0_pay11, k0_pay12, q0, q1, q2, q3, q4, q7]
  all_goals exact congrArg (fun l : Fin 1024 => ((A.w l j : ℝ) : EReal)) (Fin.ext (by simp))

end Body

theorem row0 (D : FVec Ideal S8x256 .f32) (a : Fin 256) : k0_pay104 (F := Ideal) D (ix3 0 0 a) = D (ix2 0 a) := by
  pointwise [k0_pay104]
  try rfl

theorem row1 (D : FVec Ideal S8x256 .f32) (a : Fin 256) : k0_pay105 (F := Ideal) D (ix3 0 0 a) = D (ix2 1 a) := by
  pointwise [k0_pay105]
  try rfl

theorem row2 (D : FVec Ideal S8x256 .f32) (a : Fin 256) : k0_pay107 (F := Ideal) (k0_pay106 (F := Ideal) D) (ix3 0 0 a) = D (ix2 2 a) := by
  pointwise [k0_pay107, k0_pay106]
  try rfl

theorem row3 (D : FVec Ideal S8x256 .f32) (a : Fin 256) : k0_pay108 (F := Ideal) D (ix3 0 0 a) = D (ix2 3 a) := by
  pointwise [k0_pay108]
  try rfl

/-- The heads' row sums, at a point's rows. -/
def DE (A : Args) (b : Fin 1024 → Fin 2) (s : Fin 1024 → Fin 4096) (y : S4x1x1024.Idx) : EReal := ((delta A (b (y 2)) (s (y 2)) (y 0) : ℝ) : EReal)

theorem lands {o : ℕ} (A : Args) (b : Fin 1024 → Fin 2) (s : Fin 1024 → Fin 4096) (ho : o + 256 ≤ 1024) (h : Fin 4) (y : S1x1x256.Idx → EReal) (hr)
    (hy : ∀ a : Fin 256, y (ix3 0 0 a) = ((delta A (b ⟨o + a.val, lt_of_lt_of_le (Nat.add_lt_add_left a.isLt o) ho⟩) (s ⟨o + a.val, lt_of_lt_of_le (Nat.add_lt_add_left a.isLt o) ho⟩) h : ℝ) : EReal))
    (x : S1x1x256.Idx) : y x = DE A b s ((Rect.unit (s := S4x1x1024) ![h.val, 0, o] ![1, 1, 256] hr).emb x) := by
  obtain ⟨a, rfl⟩ : ∃ a : Fin 256, x = ix3 0 0 a := ⟨x 2, by funext k; match k with | 0 => exact Subsingleton.elim (α := Fin 1) _ _ | 1 => exact Subsingleton.elim (α := Fin 1) _ _ | 2 => rfl⟩
  have e0 : (Rect.unit (s := S4x1x1024) ![h.val, 0, o] ![1, 1, 256] hr).emb (ix3 0 0 a) 0 = h := Fin.ext (Idealize.ShloMosaic.ValueKit.rect_emb_unit_val _ _ _ _ _)
  have e2 : (Rect.unit (s := S4x1x1024) ![h.val, 0, o] ![1, 1, 256] hr).emb (ix3 0 0 a) 2 = (⟨o + a.val, lt_of_lt_of_le (Nat.add_lt_add_left a.isLt o) ho⟩ : Fin 1024) :=
    Fin.ext (Idealize.ShloMosaic.ValueKit.rect_emb_unit_val _ _ _ _ _)
  rw [hy a, DE, e0, e2]

section Cut
variable {x0 : Vec Ideal S1024x1024 .bf16} {x1 x2 x3 x4 : Vec Ideal S1024x512 .f32} {x5 x6 : Vec Ideal S1x512 .f32} {x7 : Vec Ideal S1024x1024 .bf16}
  {A : Args} {b : Fin 1024 → Fin 2} {s : Fin 1024 → Fin 4096}
  (H : Holds x0 x1 x2 x3 x4 x5 x6 x7 A b s) (o : ℕ) (ho : o + 256 ≤ 1024) (h0 h5)
  (w0 : ∀ a, (![0, 0] : Fin 2 → ℕ) a + (![512, 1024] : Fin 2 → ℕ) a ≤ S1024x1024.size a)
  (w1 : ∀ a, (![512, 0] : Fin 2 → ℕ) a + (![512, 1024] : Fin 2 → ℕ) a ≤ S1024x1024.size a)
include H ho w0 w1

theorem Holds.do_cut (x : S256x512.Idx) (r : Fin 1024) (k : Fin 512) (hr : r.val = o + (x 0).val) (hk : k.val = (x 1).val) :
    k0_pay38 (F := Ideal) E x5 (k0_pay28 (k0_pay8 (View.ld x0 (Rect.unit (s := S1024x1024) ![o, 0] ![256, 1024] h0))) (View.ld x7 (Rect.unit (s := S1024x1024) ![0, 0] ![512, 1024] w0))) (k0_pay31 E (k0_pay9 (View.ld x1 (Rect.unit (s := S1024x512) ![o, 0] ![256, 512] h5))) (k0_pay10 (View.ld x2 (Rect.unit (s := S1024x512) ![o, 0] ![256, 512] h5))))
      (k0_pay32 E (k0_pay9 (View.ld x1 (Rect.unit (s := S1024x512) ![o, 0] ![256, 512] h5))) (k0_pay10 (View.ld x2 (Rect.unit (s := S1024x512) ![o, 0] ![256, 512] h5)))) (k0_pay34 (k0_pay11 (View.ld x3 (Rect.unit (s := S1024x512) ![o, 0] ![256, 512] h5)))) x = ((dor A (b r) (s r) k : ℝ) : EReal) := by
  obtain ⟨a, e, rfl⟩ : ∃ a e, x = ix2 a e := ⟨x 0, x 1, by funext k; match k with | 0 => rfl | 1 => rfl⟩
  obtain rfl : k = e := Fin.ext hk
  obtain rfl : r = ⟨o + a.val, lt_of_lt_of_le (Nat.add_lt_add_left a.isLt o) ho⟩ := Fin.ext hr
  exact (H.group o ho h0 h5 w0 w1).do a k

theorem Holds.dhg_cut (x : S256x512.Idx) (r : Fin 1024) (k : Fin 512) (hr : r.val = o + (x 0).val) (hk : k.val = (x 1).val) :
    k0_pay37 (F := Ideal) (k0_pay33 (k0_pay11 (View.ld x3 (Rect.unit (s := S1024x512) ![o, 0] ![256, 512] h5)))) (k0_pay35 E x5 (k0_pay8 (View.ld x0 (Rect.unit (s := S1024x1024) ![o, 0] ![256, 1024] h0))) (k0_pay9 (View.ld x1 (Rect.unit (s := S1024x512) ![o, 0] ![256, 512] h5)))
      (k0_pay10 (View.ld x2 (Rect.unit (s := S1024x512) ![o, 0] ![256, 512] h5))) (View.ld x7 (Rect.unit (s := S1024x1024) ![0, 0] ![512, 1024] w0))) (k0_pay36 (k0_pay11 (View.ld x3 (Rect.unit (s := S1024x512) ![o, 0] ![256, 512] h5)))) x = ((dhg A (b r) (s r) k : ℝ) : EReal) := by
  obtain ⟨a, e, rfl⟩ : ∃ a e, x = ix2 a e := ⟨x 0, x 1, by funext k; match k with | 0 => rfl | 1 => rfl⟩
  obtain rfl : k = e := Fin.ext hk
  obtain rfl : r = ⟨o + a.val, lt_of_lt_of_le (Nat.add_lt_add_left a.isLt o) ho⟩ := Fin.ext hr
  exact (H.group o ho h0 h5 w0 w1).dhg a k

theorem Holds.da_cut (x : S256x512.Idx) (r : Fin 1024) (k : Fin 512) (hr : r.val = o + (x 0).val) (hk : k.val = (x 1).val) :
    k0_pay45 (F := Ideal) (k0_pay41 x6 (k0_pay12 (View.ld x4 (Rect.unit (s := S1024x512) ![o, 0] ![256, 512] h5))) (k0_pay29 (k0_pay8 (View.ld x0 (Rect.unit (s := S1024x1024) ![o, 0] ![256, 1024] h0))) (View.ld x7 (Rect.unit (s := S1024x1024) ![512, 0] ![512, 1024] w1)))) x = ((da A (b r) (s r) k : ℝ) : EReal) := by
  obtain ⟨a, e, rfl⟩ : ∃ a e, x = ix2 a e := ⟨x 0, x 1, by funext k; match k with | 0 => rfl | 1 => rfl⟩
  obtain rfl : k = e := Fin.ext hk
  obtain rfl : r = ⟨o + a.val, lt_of_lt_of_le (Nat.add_lt_add_left a.isLt o) ho⟩ := Fin.ext hr
  exact (H.group o ho h0 h5 w0 w1).da a k

theorem Holds.gmRow_cut (a : Fin 256) (r : Fin 1024) (k : Fin 512) (hr : r.val = o + a.val) :
    k0_pay42 (F := Ideal) (k0_pay12 (View.ld x4 (Rect.unit (s := S1024x512) ![o, 0] ![256, 512] h5))) (k0_pay29 (k0_pay8 (View.ld x0 (Rect.unit (s := S1024x1024) ![o, 0] ![256, 1024] h0))) (View.ld x7 (Rect.unit (s := S1024x1024) ![512, 0] ![512, 1024] w1))) (ix2 a k) = ((gmRow A (b r) (s r) k : ℝ) : EReal) := by
  obtain rfl : r = ⟨o + a.val, lt_of_lt_of_le (Nat.add_lt_add_left a.isLt o) ho⟩ := Fin.ext hr
  exact (H.group o ho h0 h5 w0 w1).gmRow a k

theorem Holds.ghRow_cut (a : Fin 256) (r : Fin 1024) (k : Fin 512) (hr : r.val = o + a.val) :
    k0_pay46 (F := Ideal) (k0_pay28 (k0_pay8 (View.ld x0 (Rect.unit (s := S1024x1024) ![o, 0] ![256, 1024] h0))) (View.ld x7 (Rect.unit (s := S1024x1024) ![0, 0] ![512, 1024] w0))) (k0_pay32 E (k0_pay9 (View.ld x1 (Rect.unit (s := S1024x512) ![o, 0] ![256, 512] h5))) (k0_pay10 (View.ld x2 (Rect.unit (s := S1024x512) ![o, 0] ![256, 512] h5)))) (k0_pay34 (k0_pay11 (View.ld x3 (Rect.unit (s := S1024x512) ![o, 0] ![256, 512] h5)))) (ix2 a k) = ((ghRow A (b r) (s r) k : ℝ) : EReal) := by
  obtain rfl : r = ⟨o + a.val, lt_of_lt_of_le (Nat.add_lt_add_left a.isLt o) ho⟩ := Fin.ext hr
  exact (H.group o ho h0 h5 w0 w1).ghRow a k

theorem Holds.delta_cut (h : Fin 8) (hh : h.val < 4) (a : Fin 256) (r : Fin 1024) (hr : r.val = o + a.val) :
    k0_pay44 (F := Ideal) k0_pay7 (k0_pay43 x6 (k0_pay12 (View.ld x4 (Rect.unit (s := S1024x512) ![o, 0] ![256, 512] h5))) (k0_pay29 (k0_pay8 (View.ld x0 (Rect.unit (s := S1024x1024) ![o, 0] ![256, 1024] h0))) (View.ld x7 (Rect.unit (s := S1024x1024) ![512, 0] ![512, 1024] w1)))) (ix2 h a) = ((delta A (b r) (s r) ⟨h.val, hh⟩ : ℝ) : EReal) := by
  obtain rfl : r = ⟨o + a.val, lt_of_lt_of_le (Nat.add_lt_add_left a.isLt o) ho⟩ := Fin.ext hr
  exact (H.group o ho h0 h5 w0 w1).delta a h hh

theorem Holds.delta0 (a : Fin 256) : k0_pay104 (F := Ideal) (k0_pay44 (F := Ideal) k0_pay7 (k0_pay43 x6 (k0_pay12 (View.ld x4 (Rect.unit (s := S1024x512) ![o, 0] ![256, 512] h5))) (k0_pay29 (k0_pay8 (View.ld x0 (Rect.unit (s := S1024x1024) ![o, 0] ![256, 1024] h0))) (View.ld x7 (Rect.unit (s := S1024x1024) ![512, 0] ![512, 1024] w1))))) (ix3 0 0 a)
    = ((delta A (b ⟨o + a.val, lt_of_lt_of_le (Nat.add_lt_add_left a.isLt o) ho⟩) (s ⟨o + a.val, lt_of_lt_of_le (Nat.add_lt_add_left a.isLt o) ho⟩) 0 : ℝ) : EReal) :=
  (row0 _ a).trans (H.delta_cut o ho h0 h5 w0 w1 0 (by decide) a ⟨o + a.val, lt_of_lt_of_le (Nat.add_lt_add_left a.isLt o) ho⟩ rfl)

theorem Holds.delta1 (a : Fin 256) : k0_pay105 (F := Ideal) (k0_pay44 (F := Ideal) k0_pay7 (k0_pay43 x6 (k0_pay12 (View.ld x4 (Rect.unit (s := S1024x512) ![o, 0] ![256, 512] h5))) (k0_pay29 (k0_pay8 (View.ld x0 (Rect.unit (s := S1024x1024) ![o, 0] ![256, 1024] h0))) (View.ld x7 (Rect.unit (s := S1024x1024) ![512, 0] ![512, 1024] w1))))) (ix3 0 0 a)
    = ((delta A (b ⟨o + a.val, lt_of_lt_of_le (Nat.add_lt_add_left a.isLt o) ho⟩) (s ⟨o + a.val, lt_of_lt_of_le (Nat.add_lt_add_left a.isLt o) ho⟩) 1 : ℝ) : EReal) :=
  (row1 _ a).trans (H.delta_cut o ho h0 h5 w0 w1 1 (by decide) a ⟨o + a.val, lt_of_lt_of_le (Nat.add_lt_add_left a.isLt o) ho⟩ rfl)

theorem Holds.delta2 (a : Fin 256) : k0_pay107 (F := Ideal) (k0_pay106 (F := Ideal) (k0_pay44 (F := Ideal) k0_pay7 (k0_pay43 x6 (k0_pay12 (View.ld x4 (Rect.unit (s := S1024x512) ![o, 0] ![256, 512] h5))) (k0_pay29 (k0_pay8 (View.ld x0 (Rect.unit (s := S1024x1024) ![o, 0] ![256, 1024] h0))) (View.ld x7 (Rect.unit (s := S1024x1024) ![512, 0] ![512, 1024] w1)))))) (ix3 0 0 a)
    = ((delta A (b ⟨o + a.val, lt_of_lt_of_le (Nat.add_lt_add_left a.isLt o) ho⟩) (s ⟨o + a.val, lt_of_lt_of_le (Nat.add_lt_add_left a.isLt o) ho⟩) 2 : ℝ) : EReal) :=
  (row2 _ a).trans (H.delta_cut o ho h0 h5 w0 w1 2 (by decide) a ⟨o + a.val, lt_of_lt_of_le (Nat.add_lt_add_left a.isLt o) ho⟩ rfl)

theorem Holds.delta3 (a : Fin 256) : k0_pay108 (F := Ideal) (k0_pay44 (F := Ideal) k0_pay7 (k0_pay43 x6 (k0_pay12 (View.ld x4 (Rect.unit (s := S1024x512) ![o, 0] ![256, 512] h5))) (k0_pay29 (k0_pay8 (View.ld x0 (Rect.unit (s := S1024x1024) ![o, 0] ![256, 1024] h0))) (View.ld x7 (Rect.unit (s := S1024x1024) ![512, 0] ![512, 1024] w1))))) (ix3 0 0 a)
    = ((delta A (b ⟨o + a.val, lt_of_lt_of_le (Nat.add_lt_add_left a.isLt o) ho⟩) (s ⟨o + a.val, lt_of_lt_of_le (Nat.add_lt_add_left a.isLt o) ho⟩) 3 : ℝ) : EReal) :=
  (row3 _ a).trans (H.delta_cut o ho h0 h5 w0 w1 3 (by decide) a ⟨o + a.val, lt_of_lt_of_le (Nat.add_lt_add_left a.isLt o) ho⟩ rfl)

end Cut

/-- The column sums of four groups are those of their 1024 rows. -/
theorem sums4 (u0 u1 u2 u3 : FVec Ideal S256x512 .f32) (W : Fin 1024 → Fin 512 → ℝ) (z : Fin 1) (k : Fin 512)
    (h0 : ∀ (a : Fin 256) (r : Fin 1024), r.val = 0 + a.val → u0 (ix2 a k) = ((W r k : ℝ) : EReal))
    (h1 : ∀ (a : Fin 256) (r : Fin 1024), r.val = 256 + a.val → u1 (ix2 a k) = ((W r k : ℝ) : EReal))
    (h2 : ∀ (a : Fin 256) (r : Fin 1024), r.val = 512 + a.val → u2 (ix2 a k) = ((W r k : ℝ) : EReal))
    (h3 : ∀ (a : Fin 256) (r : Fin 1024), r.val = 768 + a.val → u3 (ix2 a k) = ((W r k : ℝ) : EReal)) :
    k0_pay122 (F := Ideal) u0 u1 u2 u3 (ix2 z k) = ((∑ r, W r k : ℝ) : EReal) := by
  have g0 := fun a => h0 a ⟨0 + a.val, by omega⟩ rfl
  have g1 := fun a => h1 a ⟨256 + a.val, by omega⟩ rfl
  have g2 := fun a => h2 a ⟨512 + a.val, by omega⟩ rfl
  have g3 := fun a => h3 a ⟨768 + a.val, by omega⟩ rfl
  pointwise [k0_pay122, g0, g1, g2, g3]
  rw [← sum_coe]
  refine Finset.sum_congr rfl fun x _ => ?_
  split_ifs
  · rfl
  all_goals exact congrArg (fun r : Fin 1024 => ((W r k : ℝ) : EReal)) (Fin.ext (by simp; omega))

theorem pay123_eq (u0 u1 u2 u3 : FVec Ideal S256x512 .f32) (p : Vec Ideal S1x512 .f32) (z : Fin 1) (k : Fin 512) :
    k0_pay123 (F := Ideal) u0 u1 u2 u3 p (ix2 z k) = (p (ix2 z k) : EReal) + k0_pay122 (F := Ideal) u0 u1 u2 u3 (ix2 z k) := by
  pointwise [k0_pay123]

theorem pay1_eq (u : FVec Ideal S1x512 .f32) (p : Vec Ideal S1x512 .f32) (z : Fin 1) (k : Fin 512) :
    k0_pay1 (F := Ideal) u p (ix2 z k) = (p (ix2 z k) : EReal) + u (ix2 z k) := by
  pointwise [k0_pay1]

/-! ## What a point leaves -/

section Point
variable {m : (ℓ : Loc nD τ sig) → Buf (Elt Ideal) ℓ} {c : Dev nD} {t : Fin cfg0.N} {A : Args} {b : Fin 1024 → Fin 2} {s : Fin 1024 → Fin 4096}
  (ht : t.val < 8) (H : Holds (iblk m c 0 t) (iblk m c 1 t) (iblk m c 2 t) (iblk m c 3 t) (iblk m c 4 t) (iblk m c 5 t) (iblk m c 6 t) (iblk m c 7 t) A b s)
  (r : Fin 1024) (k : Fin 512) (z : Fin 1)
include ht H

theorem out8 : (outsAt0 m c t.val t.isLt).1 (ix2 r k) = ((dor A (b r) (s r) k : ℝ) : EReal) := by
  by_cases g : t.val % 8 = 0
  · rw [outsAt0_A m c t g (by omega) g (by omega)]
    frame_out
    canon_tiles x h
    · exact H.do_cut 768 (by norm_num) inb_S1024x1024_S256x1024_768_0 inb_S1024x512_S256x512_768_0 inb_S1024x1024_S512x1024_0_0 inb_S1024x1024_S512x1024_512_0 x r k h0 h1
    · exact H.do_cut 512 (by norm_num) inb_S1024x1024_S256x1024_512_0 inb_S1024x512_S256x512_512_0 inb_S1024x1024_S512x1024_0_0 inb_S1024x1024_S512x1024_512_0 x r k h0 h1
    · exact H.do_cut 256 (by norm_num) inb_S1024x1024_S256x1024_256_0 inb_S1024x512_S256x512_256_0 inb_S1024x1024_S512x1024_0_0 inb_S1024x1024_S512x1024_512_0 x r k h0 h1
    · exact H.do_cut 0 (by norm_num) inb_S1024x1024_S256x1024_0_0 inb_S1024x512_S256x512_0_0 inb_S1024x1024_S512x1024_0_0 inb_S1024x1024_S512x1024_512_0 x r k (h0.trans (Nat.zero_add _).symm) h1
  · rw [outsAt0_B m c t g (by omega) g (by omega)]
    frame_out
    canon_tiles x h
    · exact H.do_cut 768 (by norm_num) inb_S1024x1024_S256x1024_768_0 inb_S1024x512_S256x512_768_0 inb_S1024x1024_S512x1024_0_0 inb_S1024x1024_S512x1024_512_0 x r k h0 h1
    · exact H.do_cut 512 (by norm_num) inb_S1024x1024_S256x1024_512_0 inb_S1024x512_S256x512_512_0 inb_S1024x1024_S512x1024_0_0 inb_S1024x1024_S512x1024_512_0 x r k h0 h1
    · exact H.do_cut 256 (by norm_num) inb_S1024x1024_S256x1024_256_0 inb_S1024x512_S256x512_256_0 inb_S1024x1024_S512x1024_0_0 inb_S1024x1024_S512x1024_512_0 x r k h0 h1
    · exact H.do_cut 0 (by norm_num) inb_S1024x1024_S256x1024_0_0 inb_S1024x512_S256x512_0_0 inb_S1024x1024_S512x1024_0_0 inb_S1024x1024_S512x1024_512_0 x r k (h0.trans (Nat.zero_add _).symm) h1

theorem out9 : (outsAt0 m c t.val t.isLt).2.1 (ix2 r k) = ((dhg A (b r) (s r) k : ℝ) : EReal) := by
  by_cases g : t.val % 8 = 0
  · rw [outsAt0_A m c t g (by omega) g (by omega)]
    frame_out
    canon_tiles x h
    · exact H.dhg_cut 768 (by norm_num) inb_S1024x1024_S256x1024_768_0 inb_S1024x512_S256x512_768_0 inb_S1024x1024_S512x1024_0_0 inb_S1024x1024_S512x1024_512_0 x r k h0 h1
    · exact H.dhg_cut 512 (by norm_num) inb_S1024x1024_S256x1024_512_0 inb_S1024x512_S256x512_512_0 inb_S1024x1024_S512x1024_0_0 inb_S1024x1024_S512x1024_512_0 x r k h0 h1
    · exact H.dhg_cut 256 (by norm_num) inb_S1024x1024_S256x1024_256_0 inb_S1024x512_S256x512_256_0 inb_S1024x1024_S512x1024_0_0 inb_S1024x1024_S512x1024_512_0 x r k h0 h1
    · exact H.dhg_cut 0 (by norm_num) inb_S1024x1024_S256x1024_0_0 inb_S1024x512_S256x512_0_0 inb_S1024x1024_S512x1024_0_0 inb_S1024x1024_S512x1024_512_0 x r k (h0.trans (Nat.zero_add _).symm) h1
  · rw [outsAt0_B m c t g (by omega) g (by omega)]
    frame_out
    canon_tiles x h
    · exact H.dhg_cut 768 (by norm_num) inb_S1024x1024_S256x1024_768_0 inb_S1024x512_S256x512_768_0 inb_S1024x1024_S512x1024_0_0 inb_S1024x1024_S512x1024_512_0 x r k h0 h1
    · exact H.dhg_cut 512 (by norm_num) inb_S1024x1024_S256x1024_512_0 inb_S1024x512_S256x512_512_0 inb_S1024x1024_S512x1024_0_0 inb_S1024x1024_S512x1024_512_0 x r k h0 h1
    · exact H.dhg_cut 256 (by norm_num) inb_S1024x1024_S256x1024_256_0 inb_S1024x512_S256x512_256_0 inb_S1024x1024_S512x1024_0_0 inb_S1024x1024_S512x1024_512_0 x r k h0 h1
    · exact H.dhg_cut 0 (by norm_num) inb_S1024x1024_S256x1024_0_0 inb_S1024x512_S256x512_0_0 inb_S1024x1024_S512x1024_0_0 inb_S1024x1024_S512x1024_512_0 x r k (h0.trans (Nat.zero_add _).symm) h1

theorem out10 : (outsAt0 m c t.val t.isLt).2.2.1 (ix2 r k) = ((da A (b r) (s r) k : ℝ) : EReal) := by
  by_cases g : t.val % 8 = 0
  · rw [outsAt0_A m c t g (by omega) g (by omega)]
    frame_out
    canon_tiles x h
    · exact H.da_cut 768 (by norm_num) inb_S1024x1024_S256x1024_768_0 inb_S1024x512_S256x512_768_0 inb_S1024x1024_S512x1024_0_0 inb_S1024x1024_S512x1024_512_0 x r k h0 h1
    · exact H.da_cut 512 (by norm_num) inb_S1024x1024_S256x1024_512_0 inb_S1024x512_S256x512_512_0 inb_S1024x1024_S512x1024_0_0 inb_S1024x1024_S512x1024_512_0 x r k h0 h1
    · exact H.da_cut 256 (by norm_num) inb_S1024x1024_S256x1024_256_0 inb_S1024x512_S256x512_256_0 inb_S1024x1024_S512x1024_0_0 inb_S1024x1024_S512x1024_512_0 x r k h0 h1
    · exact H.da_cut 0 (by norm_num) inb_S1024x1024_S256x1024_0_0 inb_S1024x512_S256x512_0_0 inb_S1024x1024_S512x1024_0_0 inb_S1024x1024_S512x1024_512_0 x r k (h0.trans (Nat.zero_add _).symm) h1
  · rw [outsAt0_B m c t g (by omega) g (by omega)]
    frame_out
    canon_tiles x h
    · exact H.da_cut 768 (by norm_num) inb_S1024x1024_S256x1024_768_0 inb_S1024x512_S256x512_768_0 inb_S1024x1024_S512x1024_0_0 inb_S1024x1024_S512x1024_512_0 x r k h0 h1
    · exact H.da_cut 512 (by norm_num) inb_S1024x1024_S256x1024_512_0 inb_S1024x512_S256x512_512_0 inb_S1024x1024_S512x1024_0_0 inb_S1024x1024_S512x1024_512_0 x r k h0 h1
    · exact H.da_cut 256 (by norm_num) inb_S1024x1024_S256x1024_256_0 inb_S1024x512_S256x512_256_0 inb_S1024x1024_S512x1024_0_0 inb_S1024x1024_S512x1024_512_0 x r k h0 h1
    · exact H.da_cut 0 (by norm_num) inb_S1024x1024_S256x1024_0_0 inb_S1024x512_S256x512_0_0 inb_S1024x1024_S512x1024_0_0 inb_S1024x1024_S512x1024_512_0 x r k (h0.trans (Nat.zero_add _).symm) h1

theorem out11 (h : Fin 4) : (outsAt0 m c t.val t.isLt).2.2.2.1 (ix3 h z r) = ((delta A (b r) (s r) h : ℝ) : EReal) := by
  by_cases g : t.val % 8 = 0
  · rw [outsAt0_A m c t g (by omega) g (by omega)]
    frame_out
    refine View.canon_apply_of_pieces (Val := Elt Ideal) (S := S4x1x1024) (e := .f32) (DE A b s) _ ?_ _ (View.cover_of_tiledBy (Val := Elt Ideal) (s := S4x1x1024) (e := .f32) _ ![1, 1, 256] (by sl_kernel_rfl) _)
    simp only [List.forall_mem_cons]
    exact ⟨lands (o := 768) A b s (by norm_num) 3 _ _ fun a => H.delta3 768 (by norm_num) inb_S1024x1024_S256x1024_768_0 inb_S1024x512_S256x512_768_0 inb_S1024x1024_S512x1024_0_0 inb_S1024x1024_S512x1024_512_0 a,
      lands (o := 768) A b s (by norm_num) 2 _ _ fun a => H.delta2 768 (by norm_num) inb_S1024x1024_S256x1024_768_0 inb_S1024x512_S256x512_768_0 inb_S1024x1024_S512x1024_0_0 inb_S1024x1024_S512x1024_512_0 a,
      lands (o := 768) A b s (by norm_num) 1 _ _ fun a => H.delta1 768 (by norm_num) inb_S1024x1024_S256x1024_768_0 inb_S1024x512_S256x512_768_0 inb_S1024x1024_S512x1024_0_0 inb_S1024x1024_S512x1024_512_0 a,
      lands (o := 768) A b s (by norm_num) 0 _ _ fun a => H.delta0 768 (by norm_num) inb_S1024x1024_S256x1024_768_0 inb_S1024x512_S256x512_768_0 inb_S1024x1024_S512x1024_0_0 inb_S1024x1024_S512x1024_512_0 a,
      lands (o := 512) A b s (by norm_num) 3 _ _ fun a => H.delta3 512 (by norm_num) inb_S1024x1024_S256x1024_512_0 inb_S1024x512_S256x512_512_0 inb_S1024x1024_S512x1024_0_0 inb_S1024x1024_S512x1024_512_0 a,
      lands (o := 512) A b s (by norm_num) 2 _ _ fun a => H.delta2 512 (by norm_num) inb_S1024x1024_S256x1024_512_0 inb_S1024x512_S256x512_512_0 inb_S1024x1024_S512x1024_0_0 inb_S1024x1024_S512x1024_512_0 a,
      lands (o := 512) A b s (by norm_num) 1 _ _ fun a => H.delta1 512 (by norm_num) inb_S1024x1024_S256x1024_512_0 inb_S1024x512_S256x512_512_0 inb_S1024x1024_S512x1024_0_0 inb_S1024x1024_S512x1024_512_0 a,
      lands (o := 512) A b s (by norm_num) 0 _ _ fun a => H.delta0 512 (by norm_num) inb_S1024x1024_S256x1024_512_0 inb_S1024x512_S256x512_512_0 inb_S1024x1024_S512x1024_0_0 inb_S1024x1024_S512x1024_512_0 a,
      lands (o := 256) A b s (by norm_num) 3 _ _ fun a => H.delta3 256 (by norm_num) inb_S1024x1024_S256x1024_256_0 inb_S1024x512_S256x512_256_0 inb_S1024x1024_S512x1024_0_0 inb_S1024x1024_S512x1024_512_0 a,
      lands (o := 256) A b s (by norm_num) 2 _ _ fun a => H.delta2 256 (by norm_num) inb_S1024x1024_S256x1024_256_0 inb_S1024x512_S256x512_256_0 inb_S1024x1024_S512x1024_0_0 inb_S1024x1024_S512x1024_512_0 a,
      lands (o := 256) A b s (by norm_num) 1 _ _ fun a => H.delta1 256 (by norm_num) inb_S1024x1024_S256x1024_256_0 inb_S1024x512_S256x512_256_0 inb_S1024x1024_S512x1024_0_0 inb_S1024x1024_S512x1024_512_0 a,
      lands (o := 256) A b s (by norm_num) 0 _ _ fun a => H.delta0 256 (by norm_num) inb_S1024x1024_S256x1024_256_0 inb_S1024x512_S256x512_256_0 inb_S1024x1024_S512x1024_0_0 inb_S1024x1024_S512x1024_512_0 a,
      lands (o := 0) A b s (by norm_num) 3 _ _ fun a => H.delta3 0 (by norm_num) inb_S1024x1024_S256x1024_0_0 inb_S1024x512_S256x512_0_0 inb_S1024x1024_S512x1024_0_0 inb_S1024x1024_S512x1024_512_0 a,
      lands (o := 0) A b s (by norm_num) 2 _ _ fun a => H.delta2 0 (by norm_num) inb_S1024x1024_S256x1024_0_0 inb_S1024x512_S256x512_0_0 inb_S1024x1024_S512x1024_0_0 inb_S1024x1024_S512x1024_512_0 a,
      lands (o := 0) A b s (by norm_num) 1 _ _ fun a => H.delta1 0 (by norm_num) inb_S1024x1024_S256x1024_0_0 inb_S1024x512_S256x512_0_0 inb_S1024x1024_S512x1024_0_0 inb_S1024x1024_S512x1024_512_0 a,
      lands (o := 0) A b s (by norm_num) 0 _ _ fun a => H.delta0 0 (by norm_num) inb_S1024x1024_S256x1024_0_0 inb_S1024x512_S256x512_0_0 inb_S1024x1024_S512x1024_0_0 inb_S1024x1024_S512x1024_512_0 a, fun _ h => absurd h (List.not_mem_nil)⟩
  · rw [outsAt0_B m c t g (by omega) g (by omega)]
    frame_out
    refine View.canon_apply_of_pieces (Val := Elt Ideal) (S := S4x1x1024) (e := .f32) (DE A b s) _ ?_ _ (View.cover_of_tiledBy (Val := Elt Ideal) (s := S4x1x1024) (e := .f32) _ ![1, 1, 256] (by sl_kernel_rfl) _)
    simp only [List.forall_mem_cons]
    exact ⟨lands (o := 768) A b s (by norm_num) 3 _ _ fun a => H.delta3 768 (by norm_num) inb_S1024x1024_S256x1024_768_0 inb_S1024x512_S256x512_768_0 inb_S1024x1024_S512x1024_0_0 inb_S1024x1024_S512x1024_512_0 a,
      lands (o := 768) A b s (by norm_num) 2 _ _ fun a => H.delta2 768 (by norm_num) inb_S1024x1024_S256x1024_768_0 inb_S1024x512_S256x512_768_0 inb_S1024x1024_S512x1024_0_0 inb_S1024x1024_S512x1024_512_0 a,
      lands (o := 768) A b s (by norm_num) 1 _ _ fun a => H.delta1 768 (by norm_num) inb_S1024x1024_S256x1024_768_0 inb_S1024x512_S256x512_768_0 inb_S1024x1024_S512x1024_0_0 inb_S1024x1024_S512x1024_512_0 a,
      lands (o := 768) A b s (by norm_num) 0 _ _ fun a => H.delta0 768 (by norm_num) inb_S1024x1024_S256x1024_768_0 inb_S1024x512_S256x512_768_0 inb_S1024x1024_S512x1024_0_0 inb_S1024x1024_S512x1024_512_0 a,
      lands (o := 512) A b s (by norm_num) 3 _ _ fun a => H.delta3 512 (by norm_num) inb_S1024x1024_S256x1024_512_0 inb_S1024x512_S256x512_512_0 inb_S1024x1024_S512x1024_0_0 inb_S1024x1024_S512x1024_512_0 a,
      lands (o := 512) A b s (by norm_num) 2 _ _ fun a => H.delta2 512 (by norm_num) inb_S1024x1024_S256x1024_512_0 inb_S1024x512_S256x512_512_0 inb_S1024x1024_S512x1024_0_0 inb_S1024x1024_S512x1024_512_0 a,
      lands (o := 512) A b s (by norm_num) 1 _ _ fun a => H.delta1 512 (by norm_num) inb_S1024x1024_S256x1024_512_0 inb_S1024x512_S256x512_512_0 inb_S1024x1024_S512x1024_0_0 inb_S1024x1024_S512x1024_512_0 a,
      lands (o := 512) A b s (by norm_num) 0 _ _ fun a => H.delta0 512 (by norm_num) inb_S1024x1024_S256x1024_512_0 inb_S1024x512_S256x512_512_0 inb_S1024x1024_S512x1024_0_0 inb_S1024x1024_S512x1024_512_0 a,
      lands (o := 256) A b s (by norm_num) 3 _ _ fun a => H.delta3 256 (by norm_num) inb_S1024x1024_S256x1024_256_0 inb_S1024x512_S256x512_256_0 inb_S1024x1024_S512x1024_0_0 inb_S1024x1024_S512x1024_512_0 a,
      lands (o := 256) A b s (by norm_num) 2 _ _ fun a => H.delta2 256 (by norm_num) inb_S1024x1024_S256x1024_256_0 inb_S1024x512_S256x512_256_0 inb_S1024x1024_S512x1024_0_0 inb_S1024x1024_S512x1024_512_0 a,
      lands (o := 256) A b s (by norm_num) 1 _ _ fun a => H.delta1 256 (by norm_num) inb_S1024x1024_S256x1024_256_0 inb_S1024x512_S256x512_256_0 inb_S1024x1024_S512x1024_0_0 inb_S1024x1024_S512x1024_512_0 a,
      lands (o := 256) A b s (by norm_num) 0 _ _ fun a => H.delta0 256 (by norm_num) inb_S1024x1024_S256x1024_256_0 inb_S1024x512_S256x512_256_0 inb_S1024x1024_S512x1024_0_0 inb_S1024x1024_S512x1024_512_0 a,
      lands (o := 0) A b s (by norm_num) 3 _ _ fun a => H.delta3 0 (by norm_num) inb_S1024x1024_S256x1024_0_0 inb_S1024x512_S256x512_0_0 inb_S1024x1024_S512x1024_0_0 inb_S1024x1024_S512x1024_512_0 a,
      lands (o := 0) A b s (by norm_num) 2 _ _ fun a => H.delta2 0 (by norm_num) inb_S1024x1024_S256x1024_0_0 inb_S1024x512_S256x512_0_0 inb_S1024x1024_S512x1024_0_0 inb_S1024x1024_S512x1024_512_0 a,
      lands (o := 0) A b s (by norm_num) 1 _ _ fun a => H.delta1 0 (by norm_num) inb_S1024x1024_S256x1024_0_0 inb_S1024x512_S256x512_0_0 inb_S1024x1024_S512x1024_0_0 inb_S1024x1024_S512x1024_512_0 a,
      lands (o := 0) A b s (by norm_num) 0 _ _ fun a => H.delta0 0 (by norm_num) inb_S1024x1024_S256x1024_0_0 inb_S1024x512_S256x512_0_0 inb_S1024x1024_S512x1024_0_0 inb_S1024x1024_S512x1024_512_0 a, fun _ h => absurd h (List.not_mem_nil)⟩

theorem out12_first (g : t.val = 0) : (outsAt0 m c t.val t.isLt).2.2.2.2.1 (ix2 z k) = ((∑ r, ghRow A (b r) (s r) k : ℝ) : EReal) := by
  rw [outsAt0_A m c t (by omega) (by omega) (by omega) (by omega)]
  frame_out
  exact sums4 _ _ _ _ (fun r k => ghRow A (b r) (s r) k) z k
      (fun a r => H.ghRow_cut 0 (by norm_num) inb_S1024x1024_S256x1024_0_0 inb_S1024x512_S256x512_0_0 inb_S1024x1024_S512x1024_0_0 inb_S1024x1024_S512x1024_512_0 a r k)
      (fun a r => H.ghRow_cut 256 (by norm_num) inb_S1024x1024_S256x1024_256_0 inb_S1024x512_S256x512_256_0 inb_S1024x1024_S512x1024_0_0 inb_S1024x1024_S512x1024_512_0 a r k)
      (fun a r => H.ghRow_cut 512 (by norm_num) inb_S1024x1024_S256x1024_512_0 inb_S1024x512_S256x512_512_0 inb_S1024x1024_S512x1024_0_0 inb_S1024x1024_S512x1024_512_0 a r k)
      (fun a r => H.ghRow_cut 768 (by norm_num) inb_S1024x1024_S256x1024_768_0 inb_S1024x512_S256x512_768_0 inb_S1024x1024_S512x1024_0_0 inb_S1024x1024_S512x1024_512_0 a r k)

theorem out12_next (g : t.val ≠ 0) (v : ℝ) (hv : (outsAt0 m c (t.val - 1) (by omega)).2.2.2.2.1 (ix2 z k) = ((v : ℝ) : EReal)) :
    (outsAt0 m c t.val t.isLt).2.2.2.2.1 (ix2 z k) = ((v + ∑ r, ghRow A (b r) (s r) k : ℝ) : EReal) := by
  rw [outsAt0_B m c t (by omega) (by omega) (by omega) (by omega)]
  frame_out
  refine (pay123_eq _ _ _ _ _ z k).trans ((congr (congrArg _ hv) ?_).trans (EReal.coe_add _ _).symm)
  exact sums4 _ _ _ _ (fun r k => ghRow A (b r) (s r) k) z k
      (fun a r => H.ghRow_cut 0 (by norm_num) inb_S1024x1024_S256x1024_0_0 inb_S1024x512_S256x512_0_0 inb_S1024x1024_S512x1024_0_0 inb_S1024x1024_S512x1024_512_0 a r k)
      (fun a r => H.ghRow_cut 256 (by norm_num) inb_S1024x1024_S256x1024_256_0 inb_S1024x512_S256x512_256_0 inb_S1024x1024_S512x1024_0_0 inb_S1024x1024_S512x1024_512_0 a r k)
      (fun a r => H.ghRow_cut 512 (by norm_num) inb_S1024x1024_S256x1024_512_0 inb_S1024x512_S256x512_512_0 inb_S1024x1024_S512x1024_0_0 inb_S1024x1024_S512x1024_512_0 a r k)
      (fun a r => H.ghRow_cut 768 (by norm_num) inb_S1024x1024_S256x1024_768_0 inb_S1024x512_S256x512_768_0 inb_S1024x1024_S512x1024_0_0 inb_S1024x1024_S512x1024_512_0 a r k)

theorem out13_first (g : t.val = 0) : (outsAt0 m c t.val t.isLt).2.2.2.2.2 (ix2 z k) = ((∑ r, gmRow A (b r) (s r) k : ℝ) : EReal) := by
  rw [outsAt0_A m c t (by omega) (by omega) (by omega) (by omega)]
  frame_out
  exact sums4 _ _ _ _ (fun r k => gmRow A (b r) (s r) k) z k
      (fun a r => H.gmRow_cut 0 (by norm_num) inb_S1024x1024_S256x1024_0_0 inb_S1024x512_S256x512_0_0 inb_S1024x1024_S512x1024_0_0 inb_S1024x1024_S512x1024_512_0 a r k)
      (fun a r => H.gmRow_cut 256 (by norm_num) inb_S1024x1024_S256x1024_256_0 inb_S1024x512_S256x512_256_0 inb_S1024x1024_S512x1024_0_0 inb_S1024x1024_S512x1024_512_0 a r k)
      (fun a r => H.gmRow_cut 512 (by norm_num) inb_S1024x1024_S256x1024_512_0 inb_S1024x512_S256x512_512_0 inb_S1024x1024_S512x1024_0_0 inb_S1024x1024_S512x1024_512_0 a r k)
      (fun a r => H.gmRow_cut 768 (by norm_num) inb_S1024x1024_S256x1024_768_0 inb_S1024x512_S256x512_768_0 inb_S1024x1024_S512x1024_0_0 inb_S1024x1024_S512x1024_512_0 a r k)

theorem out13_next (g : t.val ≠ 0) (v : ℝ) (hv : (outsAt0 m c (t.val - 1) (by omega)).2.2.2.2.2 (ix2 z k) = ((v : ℝ) : EReal)) :
    (outsAt0 m c t.val t.isLt).2.2.2.2.2 (ix2 z k) = ((v + ∑ r, gmRow A (b r) (s r) k : ℝ) : EReal) := by
  rw [outsAt0_B m c t (by omega) (by omega) (by omega) (by omega)]
  frame_out
  refine (pay1_eq _ _ z k).trans ((congr (congrArg _ hv) ?_).trans (EReal.coe_add _ _).symm)
  exact sums4 _ _ _ _ (fun r k => gmRow A (b r) (s r) k) z k
      (fun a r => H.gmRow_cut 0 (by norm_num) inb_S1024x1024_S256x1024_0_0 inb_S1024x512_S256x512_0_0 inb_S1024x1024_S512x1024_0_0 inb_S1024x1024_S512x1024_512_0 a r k)
      (fun a r => H.gmRow_cut 256 (by norm_num) inb_S1024x1024_S256x1024_256_0 inb_S1024x512_S256x512_256_0 inb_S1024x1024_S512x1024_0_0 inb_S1024x1024_S512x1024_512_0 a r k)
      (fun a r => H.gmRow_cut 512 (by norm_num) inb_S1024x1024_S256x1024_512_0 inb_S1024x512_S256x512_512_0 inb_S1024x1024_S512x1024_0_0 inb_S1024x1024_S512x1024_512_0 a r k)
      (fun a r => H.gmRow_cut 768 (by norm_num) inb_S1024x1024_S256x1024_768_0 inb_S1024x512_S256x512_768_0 inb_S1024x1024_S512x1024_0_0 inb_S1024x1024_S512x1024_512_0 a r k)

end Point

end Cert.Out.Point
-- ==== Proof.OutArrays.lean ====
/- The output projection's six final arrays on real arguments. -/
module

public import proofs.«01_k».proof.Proof.OutPoint
public import proofs.«01_k».proof.Proof.FfnArrays

@[expose] public section

set_option maxRecDepth 16384

noncomputable section

open Idealize.ShloMosaic Idealize.ShloMosaic.TcCoe Idealize.SL.Sem
open Idealize.ShloMosaic.Pipeline (Dat)

namespace Cert.Out.Arrays

open Cert.OutBwdIdeal Cert.OutBwdIdeal.Gen Cert.Lift Cert.Row Cert.Out.Host Cert.Out.Point
open Cert.In.Host (flat5 flat5_eq)
open Cert.Ffn.Arrays (two)

theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_8.index t = ![t.val, 0] ∧ win0_9.index t = ![t.val, 0] ∧ win0_10.index t = ![t.val, 0]
    ∧ win0_5.index t = ![0, 0] ∧ win0_6.index t = ![0, 0] ∧ win0_7.index t = ![0, 0] ∧ win0_11.index t = ![0, 0, t.val]
    ∧ win0_12.index t = ![0, 0] ∧ win0_13.index t = ![0, 0] :=
  (by decide +kernel : ∀ t : Fin grid0.N, _)

theorem t_lt (t : Fin cfg0.N) : t.val < 8 := lt_of_lt_of_eq t.isLt N_0

/-- A tile's row among all rows. -/
def R (i : ℕ) : Fin 1024 → Fin 8192 := tileRow 8 1024 (by norm_num) i

theorem R_val (t : Fin cfg0.N) (r : Fin 1024) : (R t.val r).val = t.val * 1024 + r.val := by
  simp only [R, tileRow, Nat.mod_eq_of_lt (t_lt t)]

/-! ## Where a block's elements lie -/

section
variable (t : Fin cfg0.N) (r k l : Fin 1024) (j : Fin 512) (z : Fin 1) (n : Fin 4)

theorem emb0 (j : Fin 1024) : (win0_0.blk t).view.emb (ix2 r j) = ix2 (R t.val r) j := by
  blk_ext [idx t] <;> simp only [R_val, Nat.zero_add]
theorem emb1 (j : Fin 512) : (win0_1.blk t).view.emb (ix2 r j) = ix2 (R t.val r) j := by
  blk_ext [idx t] <;> simp only [R_val, Nat.zero_add]
theorem emb2 (j : Fin 512) : (win0_2.blk t).view.emb (ix2 r j) = ix2 (R t.val r) j := by
  blk_ext [idx t] <;> simp only [R_val, Nat.zero_add]
theorem emb3 (j : Fin 512) : (win0_3.blk t).view.emb (ix2 r j) = ix2 (R t.val r) j := by
  blk_ext [idx t] <;> simp only [R_val, Nat.zero_add]
theorem emb4 (j : Fin 512) : (win0_4.blk t).view.emb (ix2 r j) = ix2 (R t.val r) j := by
  blk_ext [idx t] <;> simp only [R_val, Nat.zero_add]
theorem emb5 : (win0_5.blk t).view.emb (ix2 z j) = ix2 z j := by
  blk_ext [idx t]
theorem emb6 : (win0_6.blk t).view.emb (ix2 z j) = ix2 z j := by
  blk_ext [idx t]
theorem emb12 : (win0_12.blk t).view.emb (ix2 z j) = ix2 z j := by
  blk_ext [idx t]
theorem emb13 : (win0_13.blk t).view.emb (ix2 z j) = ix2 z j := by
  blk_ext [idx t]
theorem emb7 : (win0_7.blk t).view.emb (ix2 k l) = ix2 k l := by
  blk_ext [idx t]
theorem emb8 : (win0_8.blk t).view.emb (ix2 r j) = ix2 (R t.val r) j := by
  blk_ext [idx t] <;> simp only [R_val, Nat.zero_add]
theorem emb9 : (win0_9.blk t).view.emb (ix2 r j) = ix2 (R t.val r) j := by
  blk_ext [idx t] <;> simp only [R_val, Nat.zero_add]
theorem emb10 : (win0_10.blk t).view.emb (ix2 r j) = ix2 (R t.val r) j := by
  blk_ext [idx t] <;> simp only [R_val, Nat.zero_add]
theorem emb11 : (win0_11.blk t).view.emb (ix3 n z r) = ix3 n z (R t.val r) := by
  blk_ext [idx t] <;> simp only [R_val, Nat.zero_add]
end

/-! ## Each block is its operand read at the block's places -/

section
variable (c : Dev nD) (t : Fin cfg0.N) (f : (b : Ref sig .tc) → Buf (Elt Ideal) ((c : Thread nD τ).loc b)) (r k l : Fin 1024) (j : Fin 512) (z : Fin 1)

theorem read0 (j : Fin 1024) : ((cfg0.win 0).blk t).view.read (Elt Ideal) (f (Pipeline.arrRef spec0 0)) (ix2 r j) = f main_v1 ((win0_0.blk t).view.emb (ix2 r j)) := rfl
theorem read1 (j : Fin 512) : ((cfg0.win 1).blk t).view.read (Elt Ideal) (f (Pipeline.arrRef spec0 1)) (ix2 r j) = f main_v2 ((win0_1.blk t).view.emb (ix2 r j)) := rfl
theorem read2 (j : Fin 512) : ((cfg0.win 2).blk t).view.read (Elt Ideal) (f (Pipeline.arrRef spec0 2)) (ix2 r j) = f main_v3 ((win0_2.blk t).view.emb (ix2 r j)) := rfl
theorem read3 (j : Fin 512) : ((cfg0.win 3).blk t).view.read (Elt Ideal) (f (Pipeline.arrRef spec0 3)) (ix2 r j) = f main_v4 ((win0_3.blk t).view.emb (ix2 r j)) := rfl
theorem read4 (j : Fin 512) : ((cfg0.win 4).blk t).view.read (Elt Ideal) (f (Pipeline.arrRef spec0 4)) (ix2 r j) = f main_v5 ((win0_4.blk t).view.emb (ix2 r j)) := rfl
theorem read5 : ((cfg0.win 5).blk t).view.read (Elt Ideal) (f (Pipeline.arrRef spec0 5)) (ix2 z j) = f main_arg5 ((win0_5.blk t).view.emb (ix2 z j)) := rfl
theorem read6 : ((cfg0.win 6).blk t).view.read (Elt Ideal) (f (Pipeline.arrRef spec0 6)) (ix2 z j) = f main_arg6 ((win0_6.blk t).view.emb (ix2 z j)) := rfl
theorem read7 : ((cfg0.win 7).blk t).view.read (Elt Ideal) (f (Pipeline.arrRef spec0 7)) (ix2 k l) = f main_v7 ((win0_7.blk t).view.emb (ix2 k l)) := rfl
end

/-! ## The blocks at a point -/

section
variable (m : (ℓ : Loc nD τ sig) → Buf (Elt Ideal) ℓ) (c : Dev nD) (A : Args)

/-- The arguments hold the reals `A`. -/
structure On : Prop where
  d : m ((c : Thread nD τ).loc main_arg0) = Host.X0 A
  f : m ((c : Thread nD τ).loc main_arg1) = Host.X1 A
  r : m ((c : Thread nD τ).loc main_arg2) = Host.X2 A
  hg : m ((c : Thread nD τ).loc main_arg3) = Host.X3 A
  a : m ((c : Thread nD τ).loc main_arg4) = Host.X4 A
  gh : m ((c : Thread nD τ).loc main_arg5) = Host.X5 A
  gm : m ((c : Thread nD τ).loc main_arg6) = Host.X6 A
  w : m ((c : Thread nD τ).loc main_arg7) = Host.X7 A

variable {m c A} (O : On m c A) (t : Fin cfg0.N)
include O

theorem holds : Holds (iblk m c 0 t) (iblk m c 1 t) (iblk m c 2 t) (iblk m c 3 t) (iblk m c 4 t) (iblk m c 5 t) (iblk m c 6 t) (iblk m c 7 t) A
    (fun r => rowB (R t.val r)) (fun r => rowS (R t.val r)) := by
  constructor
  · intro r j
    refine (read0 c t (V m c) r j).trans ?_
    rw [emb0, V_d, O.d]
    exact Ffn.Host.flat_eq _ _ A.d (Host.X0 A) fun _ _ _ => rfl
  · intro r j
    refine (read1 c t (V m c) r j).trans ?_
    rw [emb1, V_f, O.f]
    exact flat5_eq _ _ A.f (Host.X1 A) fun _ _ _ => rfl
  · intro r j
    refine (read2 c t (V m c) r j).trans ?_
    rw [emb2, V_r, O.r]
    exact flat5_eq _ _ A.r (Host.X2 A) fun _ _ _ => rfl
  · intro r j
    refine (read3 c t (V m c) r j).trans ?_
    rw [emb3, V_hg, O.hg]
    exact flat5_eq _ _ A.hg (Host.X3 A) fun _ _ _ => rfl
  · intro r j
    refine (read4 c t (V m c) r j).trans ?_
    rw [emb4, V_a, O.a]
    exact flat5_eq _ _ A.a (Host.X4 A) fun _ _ _ => rfl
  · intro z k
    refine (read5 c t (V m c) k z).trans ?_
    rw [emb5, V_gh, O.gh]
    rfl
  · intro z k
    refine (read6 c t (V m c) k z).trans ?_
    rw [emb6, V_gm, O.gm]
    rfl
  · intro k l
    refine (read7 c t (V m c) k l).trans ?_
    rw [emb7, V_w, O.w]
    exact w16_eq (Host.X7 A) A.w (fun _ _ _ => rfl) k l

/-! ## The results -/

def G8 (A : Args) : FVec Ideal S8192x512 .f32 := fun i => ((dor A (rowB (i 0)) (rowS (i 0)) (i 1) : ℝ) : EReal)
def G9 (A : Args) : FVec Ideal S8192x512 .bf16 := fun i => ((dhg A (rowB (i 0)) (rowS (i 0)) (i 1) : ℝ) : EReal)
def G10 (A : Args) : FVec Ideal S8192x512 .bf16 := fun i => ((da A (rowB (i 0)) (rowS (i 0)) (i 1) : ℝ) : EReal)
def G11 (A : Args) : FVec Ideal S4x1x8192 .f32 := fun i => ((delta A (rowB (i 2)) (rowS (i 2)) (i 0) : ℝ) : EReal)
def G12 (A : Args) : FVec Ideal S1x512 .f32 := fun i => ((dgh A (i 1) : ℝ) : EReal)
def G13 (A : Args) : FVec Ideal S1x512 .f32 := fun i => ((dgm A (i 1) : ℝ) : EReal)

/-! ## The running sums -/

omit O in
theorem tot (f : Fin 2 → Fin 4096 → ℝ) : ∑ i ∈ Finset.range 8, ∑ r, f (rowB (R i r)) (rowS (R i r)) = ∑ b, ∑ s, f b s :=
  (sum_tiles 8 1024 (by norm_num) fun r => f (rowB r) (rowS r)).trans (sum_rows f)

theorem run12 (z : Fin 1) (k : Fin 512) : ∀ (n : ℕ) (hn : n < cfg0.N), (outsAt0 m c n hn).2.2.2.2.1 (ix2 z k)
    = ((∑ i ∈ Finset.range (n + 1), ∑ r, ghRow A (rowB (R i r)) (rowS (R i r)) k : ℝ) : EReal)
  | 0, hn => by
    rw [Finset.sum_range_one]
    exact out12_first (t_lt ⟨0, hn⟩) (holds O ⟨0, hn⟩) k z rfl
  | n + 1, hn => by
    rw [Finset.sum_range_succ]
    exact out12_next (t_lt ⟨n + 1, hn⟩) (holds O ⟨n + 1, hn⟩) k z (Nat.succ_ne_zero n) _ (run12 z k n (Nat.lt_of_succ_lt hn))

omit O in
theorem flushLast12 : ∀ t : Fin cfg0.N, (cfg0.win 12).flush t = true → t.val = 7 :=
  (by decide +kernel : ∀ t : Fin grid0.N, (cfg0.win 12).flush t = true → t.val = 7)

theorem run13 (z : Fin 1) (k : Fin 512) : ∀ (n : ℕ) (hn : n < cfg0.N), (outsAt0 m c n hn).2.2.2.2.2 (ix2 z k)
    = ((∑ i ∈ Finset.range (n + 1), ∑ r, gmRow A (rowB (R i r)) (rowS (R i r)) k : ℝ) : EReal)
  | 0, hn => by
    rw [Finset.sum_range_one]
    exact out13_first (t_lt ⟨0, hn⟩) (holds O ⟨0, hn⟩) k z rfl
  | n + 1, hn => by
    rw [Finset.sum_range_succ]
    exact out13_next (t_lt ⟨n + 1, hn⟩) (holds O ⟨n + 1, hn⟩) k z (Nat.succ_ne_zero n) _ (run13 z k n (Nat.lt_of_succ_lt hn))

omit O in
theorem flushLast13 : ∀ t : Fin cfg0.N, (cfg0.win 13).flush t = true → t.val = 7 :=
  (by decide +kernel : ∀ t : Fin grid0.N, (cfg0.win 13).flush t = true → t.val = 7)

/-! ## The final arrays -/

theorem arr8 : (dats m 0 c).arrAt 8 cfg0.N = G8 A := by
  refine (dats m 0 c).arrAt_eq_of_covers 8 (G8 A) (by decide +kernel) fun t hf y => ?_
  obtain ⟨r, k, rfl⟩ := two (n := 1024) (k := 512) y
  rw [after0_8]
  exact (out8 (t_lt t) (holds O t) r k).trans (congrArg (G8 A) (emb8 t r k)).symm

theorem arr9 : (dats m 0 c).arrAt 9 cfg0.N = G9 A := by
  refine (dats m 0 c).arrAt_eq_of_covers 9 (G9 A) (by decide +kernel) fun t hf y => ?_
  obtain ⟨r, k, rfl⟩ := two (n := 1024) (k := 512) y
  rw [after0_9]
  exact (out9 (t_lt t) (holds O t) r k).trans (congrArg (G9 A) (emb9 t r k)).symm

theorem arr10 : (dats m 0 c).arrAt 10 cfg0.N = G10 A := by
  refine (dats m 0 c).arrAt_eq_of_covers 10 (G10 A) (by decide +kernel) fun t hf y => ?_
  obtain ⟨r, k, rfl⟩ := two (n := 1024) (k := 512) y
  rw [after0_10]
  exact (out10 (t_lt t) (holds O t) r k).trans (congrArg (G10 A) (emb10 t r k)).symm

theorem arr11 : (dats m 0 c).arrAt 11 cfg0.N = G11 A := by
  refine (dats m 0 c).arrAt_eq_of_covers 11 (G11 A) (by decide +kernel) fun t hf y => ?_
  obtain ⟨n, z, r, rfl⟩ : ∃ (n : Fin 4) (z : Fin 1) (r : Fin 1024), y = ix3 n z r := ⟨y 0, y 1, y 2, by funext k; match k with | 0 => rfl | 1 => rfl | 2 => rfl⟩
  rw [after0_11]
  exact (out11 (t_lt t) (holds O t) r z n).trans (congrArg (G11 A) (emb11 t r z n)).symm

theorem arr12 : (dats m 0 c).arrAt 12 cfg0.N = G12 A := by
  refine (dats m 0 c).arrAt_eq_of_covers 12 (G12 A) (by decide +kernel) fun t hf y => ?_
  obtain ⟨z, k, rfl⟩ := two (n := 1) (k := 512) y
  rw [after0_12]
  refine (run12 (A := A) O z k t.val t.isLt).trans ((congrArg (fun v : ℝ => (v : EReal)) ?_).trans (congrArg (G12 A) (emb12 t k z)).symm)
  rw [flushLast12 t hf]
  exact tot fun b s => ghRow A b s k

theorem arr13 : (dats m 0 c).arrAt 13 cfg0.N = G13 A := by
  refine (dats m 0 c).arrAt_eq_of_covers 13 (G13 A) (by decide +kernel) fun t hf y => ?_
  obtain ⟨z, k, rfl⟩ := two (n := 1) (k := 512) y
  rw [after0_13]
  refine (run13 (A := A) O z k t.val t.isLt).trans ((congrArg (fun v : ℝ => (v : EReal)) ?_).trans (congrArg (G13 A) (emb13 t k z)).symm)
  rw [flushLast13 t hf]
  exact tot fun b s => gmRow A b s k

end

end Cert.Out.Arrays
-- ==== Proof.OutRef.lean ====
/- The output projection's reference on real arguments: its operations one after the other, down to its six results. -/
module

public import proofs.«01_k».proof.Proof.OutSpec
public import proofs.«01_k».proof.Proof.Gen.OutRefIdeal.Read

@[expose] public section

set_option maxRecDepth 16384

noncomputable section

open Idealize.ShloMosaic Idealize.ShloMosaic.TcCoe Idealize.SL.Sem

namespace Cert.Out.Ref

open Cert.OutRefIdeal Cert.OutRefIdeal.Read Cert.Lift Cert.Row

/-- The arguments' arrays. -/
def X0 (A : Args) : (⟨S2x4096x1024, .f32⟩ : BufTy).Contents (Elt Ideal) := fun i => ((A.d (i 0) (i 1) (i 2) : ℝ) : EReal)
def X1 (A : Args) : (⟨S2x4096x512, .f32⟩ : BufTy).Contents (Elt Ideal) := fun i => ((A.f (i 0) (i 1) (i 2) : ℝ) : EReal)
def X2 (A : Args) : (⟨S2x4096x512, .f32⟩ : BufTy).Contents (Elt Ideal) := fun i => ((A.r (i 0) (i 1) (i 2) : ℝ) : EReal)
def X3 (A : Args) : (⟨S2x4096x512, .f32⟩ : BufTy).Contents (Elt Ideal) := fun i => ((A.hg (i 0) (i 1) (i 2) : ℝ) : EReal)
def X4 (A : Args) : (⟨S2x4096x512, .f32⟩ : BufTy).Contents (Elt Ideal) := fun i => ((A.a (i 0) (i 1) (i 2) : ℝ) : EReal)
def X5 (A : Args) : (⟨S1x512, .f32⟩ : BufTy).Contents (Elt Ideal) := fun i => ((A.gh (i 1) : ℝ) : EReal)
def X6 (A : Args) : (⟨S1x512, .f32⟩ : BufTy).Contents (Elt Ideal) := fun i => ((A.gm (i 1) : ℝ) : EReal)
def X7 (A : Args) : (⟨S1x1024x1024, .f32⟩ : BufTy).Contents (Elt Ideal) := fun i => ((A.w (i 1) (i 2) : ℝ) : EReal)

variable (A : Args) (b : Fin 2) (s : Fin 4096) (k : Fin 512) (h : Fin 8) (j : Fin 64) (z : Fin 1)

theorem pos64 : (0 : ℝ) < 64 := by norm_num
theorem pos : (0 : ℝ) < 512 := by norm_num

/-! ## The recurrence's half, forward -/

theorem v1_eq : val_main_v1 (F := Ideal) (X1 A) (X2 A) (ix4 b s h j) = ((head (o A b s) h j : ℝ) : EReal) := by
  pointwise [val_main_v1, val_main_v0, X1, X2]
  simp only [← EReal.coe_add]
  rfl

theorem v8_eq : val_main_v8 (F := Ideal) (X1 A) (X2 A) (ix4 b s h z) = ((ms 64 (head (o A b s) h) : ℝ) : EReal) := by
  pointwise [val_main_v8, val_main_v7, val_main_v6, val_main_v5, val_main_v4, val_main_v3, val_main_v2, val_main_cst, val_main_cst_0, val_main_cst_1, v1_eq]
  rw [ofBits_64, ofBits_eps]
  simp only [← EReal.coe_mul, sum_coe, zero_add, div_real pos64.ne', ← EReal.coe_add, ms]

theorem v9_eq : val_main_v9 (F := Ideal) (X1 A) (X2 A) (ix4 b s h z) = ((rh A b s h : ℝ) : EReal) := by
  pointwise [val_main_v9, v8_eq]
  exact rsqrt_real (ms_pos _ pos64)

theorem v12_eq : val_main_v12 (F := Ideal) (X1 A) (X2 A) (ix4 b s h z)
    = ((-(1 / 2) * (rr 64 (head (o A b s) h) / ms 64 (head (o A b s) h)) : ℝ) : EReal) := by
  pointwise [val_main_v12, val_main_v11, val_main_cst_2, val_main_v10, v8_eq, v9_eq]
  rw [ofBits_neg_half]
  simp only [rh, div_real (ms_pos (head (o A b s) h) pos64).ne', ← EReal.coe_mul]

theorem v14_eq : val_main_v14 (F := Ideal) (X1 A) (X2 A) (ix4 b s h j) = ((oh A b s h j : ℝ) : EReal) := by
  pointwise [val_main_v14, val_main_v13, v9_eq, v1_eq]
  simp only [← EReal.coe_mul, oh, hat, rh]

theorem v17_eq (y : Fin 1) : val_main_v17 (F := Ideal) (X5 A) (ix4 z y h j) = ((head A.gh h j : ℝ) : EReal) := by
  pointwise [val_main_v17, val_main_v16, val_main_v15, X5]
  rfl

theorem v20_eq : val_main_v20 (F := Ideal) (X1 A) (X2 A) (X5 A) (ix3 b s k) = ((oh A b s (hd k) (off k) * A.gh k : ℝ) : EReal) := by
  have key : ∀ h j, val_main_v19 (F := Ideal) (X1 A) (X2 A) (X5 A) (ix4 b s h j) = ((oh A b s h j * head A.gh h j : ℝ) : EReal) := fun h j => by
    pointwise [val_main_v19, val_main_v18, v14_eq, v17_eq]
    simp only [← EReal.coe_mul]
  have e : head A.gh (hd k) (off k) = A.gh k := congrArg A.gh (col_hd k)
  pointwise [val_main_v20, key]
  exact (congrArg (fun y : ℝ => ((oh A b s (hd k) (off k) * y : ℝ) : EReal)) e)

theorem sg_eq : val_main_v21_2 (F := Ideal) (X3 A) (ix3 b s k) = ((sg (A.hg b s k) : ℝ) : EReal) := by
  pointwise [val_main_v21_2, val_main_call0_v4, val_main_call0_v3, val_main_call0_v2, val_main_call0_v1, val_main_call0_v0, val_main_call0_cst,
    val_main_call0_cst_0, X3]
  simp only [← EReal.coe_neg, Ideal.exp_coe, ← EReal.coe_one, ← EReal.coe_add, div_real (den_ne _), sg]

theorem v21_eq : val_main_v21_0 (F := Ideal) (X3 A) (ix3 b s k) = ((sl A b s k : ℝ) : EReal) := by
  pointwise [val_main_v21_0, sg_eq, X3]
  simp only [← EReal.coe_mul, sl]

/-! ## The attention's half, forward -/

theorem v30_eq : val_main_v30 (F := Ideal) (X4 A) (ix3 b s z) = ((ms 512 (A.a b s) : ℝ) : EReal) := by
  pointwise [val_main_v30, val_main_v29, val_main_v28, val_main_v27, val_main_v26, val_main_v25, val_main_v24, val_main_cst_3, val_main_cst_4, val_main_cst_5, X4]
  rw [ofBits_512, ofBits_eps]
  simp only [← EReal.coe_mul, sum_coe, zero_add, div_real pos.ne', ← EReal.coe_add, ms]

theorem v31_eq : val_main_v31 (F := Ideal) (X4 A) (ix3 b s z) = ((rr 512 (A.a b s) : ℝ) : EReal) := by
  pointwise [val_main_v31, v30_eq]
  exact rsqrt_real (ms_pos _ pos)

theorem v34_eq : val_main_v34 (F := Ideal) (X4 A) (ix3 b s z) = ((-(1 / 2) * (rr 512 (A.a b s) / ms 512 (A.a b s)) : ℝ) : EReal) := by
  pointwise [val_main_v34, val_main_v33, val_main_cst_6, val_main_v32, v30_eq, v31_eq]
  rw [ofBits_neg_half]
  simp only [div_real (ms_pos (A.a b s) pos).ne', ← EReal.coe_mul]

theorem v36_eq : val_main_v36 (F := Ideal) (X4 A) (ix3 b s k) = ((hat 512 (A.a b s) k : ℝ) : EReal) := by
  pointwise [val_main_v36, val_main_v35, v31_eq, X4]
  simp only [← EReal.coe_mul, hat]

/-! ## Backward -/

theorem v45_eq (n : Fin 1024) : val_main_v45 (F := Ideal) (X0 A) (X7 A) (ix3 b s n) = ((∑ l, A.d b s l * A.w n l : ℝ) : EReal) := by
  pointwise [val_main_v45, val_main_v41, X0, X7]
  simp only [← EReal.coe_mul, sum_coe]

theorem v47_eq : val_main_v47 (F := Ideal) (X0 A) (X7 A) (ix3 b s k) = ((dya A b s k : ℝ) : EReal) := by
  pointwise [val_main_v47, v45_eq]
  rfl

theorem v48_eq : val_main_v48 (F := Ideal) (X0 A) (X7 A) (ix3 b s k) = ((dyb A b s k : ℝ) : EReal) := by
  pointwise [val_main_v48, v45_eq]
  rfl

theorem v54_eq : val_main_v54 (F := Ideal) (X0 A) (X4 A) (X7 A) (ix1 k) = ((dgm A k : ℝ) : EReal) := by
  pointwise [val_main_v54, val_main_v51, val_main_v50, val_main_v49, val_main_cst_7, val_main_cst_8, v36_eq, v48_eq, sum_lead]
  simp only [← EReal.coe_mul, sum_coe, zero_add, Finset.univ_unique, Finset.sum_singleton, dgm, gmRow, mul_comm]

theorem v53_eq : val_main_v53 (F := Ideal) (X0 A) (X6 A) (X7 A) (ix3 b s k) = ((dyb A b s k * A.gm k : ℝ) : EReal) := by
  pointwise [val_main_v53, val_main_v52, val_main_v37, val_main_v23, v48_eq, X6]
  simp only [← EReal.coe_mul]

theorem v62_eq : val_main_v62 (F := Ideal) (X0 A) (X4 A) (X6 A) (X7 A) (ix3 b s z)
    = (((∑ j, A.a b s j * (dyb A b s j * A.gm j)) * (-(1 / 2) * (rr 512 (A.a b s) / ms 512 (A.a b s))) / 512 : ℝ) : EReal) := by
  pointwise [val_main_v62, val_main_v61, val_main_cst_10, val_main_v60, val_main_v57, val_main_v56, val_main_v55, val_main_cst_9, v34_eq, X4, v53_eq]
  rw [ofBits_512]
  simp only [← EReal.coe_mul, sum_coe, zero_add, div_real pos.ne']

theorem v68_eq : val_main_v68 (F := Ideal) (X0 A) (X4 A) (X6 A) (X7 A) (ix3 b s k) = ((da A b s k : ℝ) : EReal) := by
  pointwise [val_main_v68, val_main_v67, val_main_v66, val_main_v65, val_main_v64, val_main_v63, val_main_cst_11, val_main_v59, val_main_v58, v31_eq,
    v53_eq, v62_eq, X4]
  simp only [← EReal.coe_mul, ← EReal.coe_add, sum_coe, zero_add, Finset.univ_unique, Finset.sum_singleton]
  exact congrArg _ (rms_vjp _ _ _ pos k)

theorem v72_eq : val_main_v72 (F := Ideal) (X0 A) (X1 A) (X2 A) (X3 A) (X5 A) (X7 A) (ix3 b s k) = ((dhg A b s k : ℝ) : EReal) := by
  pointwise [val_main_v72, val_main_call1_v2, val_main_call1_v1, val_main_call1_v0, val_main_v70, val_main_v21_1, val_main_call0_v7, val_main_call0_v6, val_main_call0_cst_1,
    v47_eq, v20_eq, sg_eq, X3]
  simp only [← EReal.coe_one, ← EReal.coe_mul, ← EReal.coe_sub, ← EReal.coe_add]
  refine congrArg _ ((slope_vjp _ _).trans ?_)
  rw [dhg, mul_comm (oh A b s (hd k) (off k) * A.gh k)]

theorem v73_eq : val_main_v73 (F := Ideal) (X0 A) (X3 A) (X7 A) (ix4 b s h j) = ((head (ds A b s) h j : ℝ) : EReal) := by
  pointwise [val_main_v73, val_main_v71, v47_eq, v21_eq]
  simp only [← EReal.coe_mul]
  rfl

theorem v79_eq : val_main_v79 (F := Ideal) (X0 A) (X1 A) (X2 A) (X3 A) (X7 A) (ix2 h j) = ((∑ b, ∑ s, head (ds A b s) h j * oh A b s h j : ℝ) : EReal) := by
  pointwise [val_main_v79, val_main_v76, val_main_v75, val_main_v74, val_main_cst_12, val_main_cst_13, v14_eq, v73_eq, sum_lead4]
  simp only [← EReal.coe_mul, sum_coe, zero_add, Finset.univ_unique, Finset.sum_singleton, mul_comm]

theorem v80_eq : val_main_v80 (F := Ideal) (X0 A) (X1 A) (X2 A) (X3 A) (X7 A) (ix1 k) = ((dgh A k : ℝ) : EReal) := by
  have e : ∀ b s, head (ds A b s) (hd k) (off k) = ds A b s k := fun b s => congrArg (ds A b s) (col_hd k)
  pointwise [val_main_v80, v79_eq]
  refine Eq.trans ?_ (congrArg (fun y : ℝ => (y : EReal)) (Finset.sum_congr rfl fun b _ => Finset.sum_congr rfl fun s _ =>
    congrArg (· * oh A b s (hd k) (off k)) (e b s)))
  rfl

theorem v78_eq : val_main_v78 (F := Ideal) (X0 A) (X3 A) (X5 A) (X7 A) (ix4 b s h j) = ((head (ds A b s) h j * head A.gh h j : ℝ) : EReal) := by
  pointwise [val_main_v78, val_main_v77, v73_eq, v17_eq]
  simp only [← EReal.coe_mul]

theorem v89_eq : val_main_v89 (F := Ideal) (X0 A) (X1 A) (X2 A) (X3 A) (X5 A) (X7 A) (ix4 b s h z)
    = (((∑ j, head (o A b s) h j * (head (ds A b s) h j * head A.gh h j)) * (-(1 / 2) * (rr 64 (head (o A b s) h) / ms 64 (head (o A b s) h))) / 64 : ℝ) : EReal) := by
  pointwise [val_main_v89, val_main_v88, val_main_cst_15, val_main_v87, val_main_v84, val_main_v83, val_main_v82, val_main_cst_14, v12_eq, v1_eq, v78_eq]
  rw [ofBits_64]
  simp only [← EReal.coe_mul, sum_coe, zero_add, div_real pos64.ne']

theorem v95_eq : val_main_v95 (F := Ideal) (X0 A) (X1 A) (X2 A) (X3 A) (X5 A) (X7 A) (ix4 b s h j) = ((do4 A b s h j : ℝ) : EReal) := by
  pointwise [val_main_v95, val_main_v94, val_main_v93, val_main_v92, val_main_v91, val_main_v90, val_main_cst_16, val_main_v86, val_main_v85, v9_eq,
    v78_eq, v89_eq, v1_eq]
  simp only [← EReal.coe_mul, ← EReal.coe_add, sum_coe, zero_add, Finset.univ_unique, Finset.sum_singleton]
  exact congrArg _ (rms_vjp _ _ _ pos64 j)

/-! ## The results, rows in one axis -/

variable (r : Fin 8192)

theorem v100_eq : val_main_v100 (F := Ideal) (X0 A) (X1 A) (X2 A) (X3 A) (X5 A) (X7 A) (ix2 r k) = ((dor A (rowB r) (rowS r) k : ℝ) : EReal) := by
  pointwise [val_main_v100, val_main_v96, v95_eq]
  rfl

theorem v102_eq : val_main_v102 (F := Ideal) (X0 A) (X1 A) (X2 A) (X3 A) (X5 A) (X7 A) (ix2 r k) = ((dhg A (rowB r) (rowS r) k : ℝ) : EReal) := by
  pointwise [val_main_v102, val_main_v101, v72_eq]
  rfl

theorem v104_eq : val_main_v104 (F := Ideal) (X0 A) (X4 A) (X6 A) (X7 A) (ix2 r k) = ((da A (rowB r) (rowS r) k : ℝ) : EReal) := by
  pointwise [val_main_v104, val_main_v103, v68_eq]
  rfl

theorem v106_eq (n : Fin 4) : val_main_v106 (F := Ideal) (X0 A) (X4 A) (X6 A) (X7 A) (ix3 n z r) = ((delta A (rowB r) (rowS r) n : ℝ) : EReal) := by
  have key : ∀ (j : Fin 128), val_main_v98 (F := Ideal) (X0 A) (X4 A) (X6 A) (X7 A) (ix3 r n j)
      = ((da A (rowB r) (rowS r) (wide n j) * A.a (rowB r) (rowS r) (wide n j) : ℝ) : EReal) := fun j => by
    pointwise [val_main_v98, val_main_v97, v68_eq, X4]
    simp only [← EReal.coe_mul]
    rfl
  pointwise [val_main_v106, val_main_v105, val_main_v99, val_main_cst_17, key]
  simp only [sum_coe, zero_add, delta]

theorem v81_eq : val_main_v81 (F := Ideal) (X0 A) (X1 A) (X2 A) (X3 A) (X7 A) (ix2 z k) = ((dgh A k : ℝ) : EReal) := by
  pointwise [val_main_v81, v80_eq]

theorem v69_eq : val_main_v69 (F := Ideal) (X0 A) (X4 A) (X7 A) (ix2 z k) = ((dgm A k : ℝ) : EReal) := by
  pointwise [val_main_v69, v54_eq]

end Cert.Out.Ref
-- ==== Proof.OutClaim.lean ====
/- The output projection's gradient: from the stated precondition to real arguments, and the claim's parts. -/
module

public import proofs.«01_k».proof.Defs
public import proofs.«01_k».proof.Proof.OutArrays
public import proofs.«01_k».proof.Proof.OutRef
public import proofs.«01_k».proof.Proof.FfnClaim
public import proofs.«01_k».proof.Proof.Gen.OutBwd.Frame
public import proofs.«01_k».proof.Proof.Gen.OutRefIdeal.Run
public import proofs.«01_k».proof.Proof.Gen.Pre_finite_out
public import Idealize.ShloMosaic.Lib.Claim

@[expose] public section

set_option maxRecDepth 16384

noncomputable section

open Idealize.ShloMosaic Idealize.ShloMosaic.TcCoe Idealize.SL.Sem

namespace Cert.Out.Claim

open Cert.Lift Cert.Out.Arrays Cert.Att.Claim
open Cert.Ffn.Claim (one0 two1 three1)
open Cert.Ffn.Arrays (two)

section
open Cert.Pre_finite_out

/-- Where the precondition is true, all the arguments are real. -/
theorem real_of_pre (x0 : FVec Ideal S2x4096x1024 .f32) (x1 x2 x3 x4 : FVec Ideal S2x4096x512 .f32) (x5 x6 : FVec Ideal S1x512 .f32) (x7 : FVec Ideal S1x1024x1024 .f32)
    (h : fn (F := Ideal) x0 x1 x2 x3 x4 x5 x6 x7 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) ∧ (∀ i, ∃ r : ℝ, x4 i =
      (r : EReal)) ∧ (∀ i, ∃ r : ℝ, x5 i = (r : EReal)) ∧ (∀ i, ∃ r : ℝ, x6 i = (r : EReal)) ∧ (∀ i, ∃ r : ℝ, x7 i = (r : EReal)) := by
  have h' := congrFun h (fun k => k.elim0)
  obtain ⟨h', h7⟩ := and_one h'
  obtain ⟨h', h6⟩ := and_one h'
  obtain ⟨h', h5⟩ := and_one h'
  obtain ⟨h', h4⟩ := and_one h'
  obtain ⟨h', h3⟩ := and_one h'
  obtain ⟨h', h2⟩ := and_one h'
  obtain ⟨h0, h1⟩ := and_one h'
  haveI : Subsingleton S_.Idx := ⟨fun a b => funext fun k => k.elim0⟩
  exact ⟨real_of_all x0 _ (fun _ => ofBits_inf) _ _ _ _ h0, real_of_all x1 _ (fun _ => ofBits_inf) _ _ _ _ h1, real_of_all x2 _ (fun _ => ofBits_inf) _ _ _ _ h2, real_of_all x3 _
    (fun _ => ofBits_inf) _ _ _ _ h3, real_of_all x4 _ (fun _ => ofBits_inf) _ _ _ _ h4, real_of_all x5 _ (fun _ => ofBits_inf) _ _ _ _ h5, real_of_all x6 _ (fun _ =>
    ofBits_inf) _ _ _ _ h6, real_of_all x7 _ (fun _ => ofBits_inf) _ _ _ _ h7⟩

end

/-- The arguments as real arrays. -/
theorem args_of_pre (m : (ℓ : Loc Cert.OutBwdIdeal.nD Cert.OutBwdIdeal.τ Cert.OutBwdIdeal.sig) → Buf (Elt Ideal) ℓ)
    (h : Cert.Pre_OutBwdIdeal_finite_out m) (c : Dev Cert.OutBwdIdeal.nD) : ∃ A : Args, On m c A := by
  obtain ⟨h0, h1, h2, h3, h4, h5, h6, h7⟩ := real_of_pre _ _ _ _ _ _ _ _ (h c)
  obtain ⟨d, e_d⟩ := exists_real _ h0
  obtain ⟨f, e_f⟩ := exists_real _ h1
  obtain ⟨r, e_r⟩ := exists_real _ h2
  obtain ⟨hg, e_hg⟩ := exists_real _ h3
  obtain ⟨a, e_a⟩ := exists_real _ h4
  obtain ⟨gh, e_gh⟩ := exists_real _ h5
  obtain ⟨gm, e_gm⟩ := exists_real _ h6
  obtain ⟨w, e_w⟩ := exists_real _ h7
  refine ⟨⟨fun ia ib ic => d (ix3 ia ib ic), fun ia ib ic => f (ix3 ia ib ic), fun ia ib ic => r (ix3 ia ib ic), fun ia ib ic => hg (ix3 ia ib ic), fun ia ib ic => a (ix3 ia ib ic),
    fun ia => gh (ix2 0 ia), fun ia => gm (ix2 0 ia), fun ia ib => w (ix3 0 ia ib)⟩,
    ⟨e_d.trans ?_, e_f.trans ?_, e_r.trans ?_, e_hg.trans ?_, e_a.trans ?_, e_gh.trans ?_, e_gm.trans ?_, e_w.trans ?_⟩⟩
  · exact funext fun i => congrArg (fun j => ((d j : ℝ) : EReal)) (three i)
  · exact funext fun i => congrArg (fun j => ((f j : ℝ) : EReal)) (three i)
  · exact funext fun i => congrArg (fun j => ((r j : ℝ) : EReal)) (three i)
  · exact funext fun i => congrArg (fun j => ((hg j : ℝ) : EReal)) (three i)
  · exact funext fun i => congrArg (fun j => ((a j : ℝ) : EReal)) (three i)
  · exact funext fun i => congrArg (fun j => ((gh j : ℝ) : EReal)) (two1 i)
  · exact funext fun i => congrArg (fun j => ((gm j : ℝ) : EReal)) (two1 i)
  · exact funext fun i => congrArg (fun j => ((w j : ℝ) : EReal)) (three1 i)

theorem frame : Cert.quiescent_OutBwd := fun m g _ => Cert.OutBwd.Gen.frame m g

theorem frame_ideal : Cert.quiescent_OutBwdIdeal := fun m g _ => Cert.OutBwdIdeal.Gen.frame m g

theorem frame_ideal_pre : Cert.quiescent_OutBwdIdeal_pre_finite_out := fun m g _ => Cert.OutBwdIdeal.Gen.frame m g

theorem frame_ref : Cert.quiescent_OutRefIdeal := fun m g _ =>
  (θ_run Cert.OutRefIdeal.defs _ _).mono (fun r h => ⟨fun c => (h c).2.2.2.2.2.2, sem_eq_zero_of_no_sems (by decide) r.2⟩)
    (Cert.OutRefIdeal.Value.run (F := Ideal) m g)

theorem frame_ref_pre : Cert.quiescent_OutRefIdeal_pre_finite_out := fun m g _ => frame_ref m g trivial

theorem preserves : Cert.preserves_OutBwd_OutBwdIdeal := by
  trivial

section
open Cert.OutRefIdeal Cert.OutRefIdeal.Read

variable (A : Args)

theorem ref8 {x0 x1 x2 x3 x5 x7} (h0 : x0 = Ref.X0 A) (h1 : x1 = Ref.X1 A) (h2 : x2 = Ref.X2 A) (h3 : x3 = Ref.X3 A) (h5 : x5 = Ref.X5 A) (h7 : x7 = Ref.X7 A) :
    val_main_v100 (F := Ideal) x0 x1 x2 x3 x5 x7 = G8 A := by
  subst h0 h1 h2 h3 h5 h7
  funext i
  obtain ⟨a, b, rfl⟩ := two (n := 8192) (k := 512) i
  exact Ref.v100_eq A b a

theorem ref9 {x0 x1 x2 x3 x5 x7} (h0 : x0 = Ref.X0 A) (h1 : x1 = Ref.X1 A) (h2 : x2 = Ref.X2 A) (h3 : x3 = Ref.X3 A) (h5 : x5 = Ref.X5 A) (h7 : x7 = Ref.X7 A) :
    val_main_v102 (F := Ideal) x0 x1 x2 x3 x5 x7 = G9 A := by
  subst h0 h1 h2 h3 h5 h7
  funext i
  obtain ⟨a, b, rfl⟩ := two (n := 8192) (k := 512) i
  exact Ref.v102_eq A b a

theorem ref10 {x0 x4 x6 x7} (h0 : x0 = Ref.X0 A) (h4 : x4 = Ref.X4 A) (h6 : x6 = Ref.X6 A) (h7 : x7 = Ref.X7 A) :
    val_main_v104 (F := Ideal) x0 x4 x6 x7 = G10 A := by
  subst h0 h4 h6 h7
  funext i
  obtain ⟨a, b, rfl⟩ := two (n := 8192) (k := 512) i
  exact Ref.v104_eq A b a

theorem ref11 {x0 x4 x6 x7} (h0 : x0 = Ref.X0 A) (h4 : x4 = Ref.X4 A) (h6 : x6 = Ref.X6 A) (h7 : x7 = Ref.X7 A) :
    val_main_v106 (F := Ideal) x0 x4 x6 x7 = G11 A := by
  subst h0 h4 h6 h7
  funext i
  obtain ⟨a, b, e, rfl⟩ : ∃ a b e, i = ix3 a b e := ⟨i 0, i 1, i 2, three i⟩
  exact Ref.v106_eq A b e a

theorem ref12 {x0 x1 x2 x3 x7} (h0 : x0 = Ref.X0 A) (h1 : x1 = Ref.X1 A) (h2 : x2 = Ref.X2 A) (h3 : x3 = Ref.X3 A) (h7 : x7 = Ref.X7 A) :
    val_main_v81 (F := Ideal) x0 x1 x2 x3 x7 = G12 A := by
  subst h0 h1 h2 h3 h7
  funext i
  obtain ⟨a, b, rfl⟩ := two (n := 1) (k := 512) i
  exact Ref.v81_eq A b a

theorem ref13 {x0 x4 x7} (h0 : x0 = Ref.X0 A) (h4 : x4 = Ref.X4 A) (h7 : x7 = Ref.X7 A) :
    val_main_v69 (F := Ideal) x0 x4 x7 = G13 A := by
  subst h0 h4 h7
  funext i
  obtain ⟨a, b, rfl⟩ := two (n := 1) (k := 512) i
  exact Ref.v69_eq A b a

/-- The plain gradient's run, on the real arguments `A`. -/
theorem ref_run (m : (ℓ : Loc nD τ sig) → Buf (Elt Ideal) ℓ) (g : Dev nD → PrngReg) (A : Dev nD → Args)
    (h : ∀ c : Dev nD, m ((c.tc : Thread nD τ).loc main_arg0) = Ref.X0 (A c)
      ∧ m ((c.tc : Thread nD τ).loc main_arg1) = Ref.X1 (A c)
      ∧ m ((c.tc : Thread nD τ).loc main_arg2) = Ref.X2 (A c)
      ∧ m ((c.tc : Thread nD τ).loc main_arg3) = Ref.X3 (A c)
      ∧ m ((c.tc : Thread nD τ).loc main_arg4) = Ref.X4 (A c)
      ∧ m ((c.tc : Thread nD τ).loc main_arg5) = Ref.X5 (A c)
      ∧ m ((c.tc : Thread nD τ).loc main_arg6) = Ref.X6 (A c)
      ∧ m ((c.tc : Thread nD τ).loc main_arg7) = Ref.X7 (A c)) :
    θ_run (defs (F := Ideal)) (onTc (τ := τ) (main (F := Ideal))) ⟨m, fun _ => 0, g⟩ fun r => ∀ c : Dev nD,
      r.2.mem ((c.tc : Thread nD τ).loc main_v100) = G8 (A c)
      ∧ r.2.mem ((c.tc : Thread nD τ).loc main_v102) = G9 (A c)
      ∧ r.2.mem ((c.tc : Thread nD τ).loc main_v104) = G10 (A c)
      ∧ r.2.mem ((c.tc : Thread nD τ).loc main_v106) = G11 (A c)
      ∧ r.2.mem ((c.tc : Thread nD τ).loc main_v81) = G12 (A c)
      ∧ r.2.mem ((c.tc : Thread nD τ).loc main_v69) = G13 (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r hr c => ?_) (Value.run (F := Ideal) m g)
  obtain ⟨h0, h1, h2, h3, h4, h5, h6, h7⟩ := h c
  obtain ⟨r0, r1, r2, r3, r4, r5, rest⟩ := hr c
  refine ⟨r0.trans ?_, r1.trans ?_, r2.trans ?_, r3.trans ?_, r4.trans ?_, r5.trans ?_, rest⟩
  · exact (val_main_v100_eq ..).trans (ref8 _ h0 h1 h2 h3 h5 h7)
  · exact (val_main_v102_eq ..).trans (ref9 _ h0 h1 h2 h3 h5 h7)
  · exact (val_main_v104_eq ..).trans (ref10 _ h0 h4 h6 h7)
  · exact (val_main_v106_eq ..).trans (ref11 _ h0 h4 h6 h7)
  · exact (val_main_v81_eq ..).trans (ref12 _ h0 h1 h2 h3 h7)
  · exact (val_main_v69_eq ..).trans (ref13 _ h0 h4 h7)

end

/-- The kernel and the plain gradient end with the same arrays. -/
theorem algebraic : Cert.algebraic_OutBwdIdeal_OutRefIdeal_pre_finite_out := by
  pair_intro
  · exact Cert.OutBwdIdeal.Value.run_blocks m g
  · choose A O using args_of_pre m hpre
    refine (θ_run Cert.OutRefIdeal.defs _ _).mono (fun r hr c => ?_) (ref_run m' g' A fun c => ?_)
    · obtain ⟨r0, r1, r2, r3, r4, r5, rest⟩ := hr c
      exact ⟨r0.trans (arr8 (O c)).symm, r1.trans (arr9 (O c)).symm, r2.trans (arr10 (O c)).symm, r3.trans (arr11 (O c)).symm, r4.trans (arr12 (O c)).symm, r5.trans (arr13 (O c)).symm, rest⟩
    · obtain ⟨a0, a1, a2, a3, a4, a5, a6, a7⟩ := hagree c
      exact ⟨a0.trans (O c).d, a1.trans (O c).f, a2.trans (O c).r, a3.trans (O c).hg, a4.trans (O c).a, a5.trans (O c).gh, a6.trans (O c).gm, a7.trans (O c).w⟩

end Cert.Out.Claim
-- ==== Proof.MlaSpec.lean ====
/- The gradient of the attention's queries, keys and values over the reals, one row at a time: the rotary turn back, the two up
   projections and the two norms; and the same on rows padded to whole lanes. -/
module

public import proofs.«01_k».proof.Proof.Row

@[expose] public section

noncomputable section

open Idealize.ShloMosaic

namespace Cert.Mla

open Cert.Row Cert.Lift

/-- The arguments: the cotangents of the queries, the keys' two parts and the values; the two low-rank rows; the gains and the
    projections. -/
structure Args where
  q : Fin 2 → Fin 4096 → Fin 4 → Fin 192 → ℝ
  n : Fin 2 → Fin 4096 → Fin 4 → Fin 128 → ℝ
  k : Fin 2 → Fin 4096 → Fin 4 → Fin 64 → ℝ
  v : Fin 2 → Fin 4096 → Fin 4 → Fin 128 → ℝ
  cq : Fin 2 → Fin 4096 → Fin 384 → ℝ
  ckv : Fin 2 → Fin 4096 → Fin 256 → ℝ
  gq : Fin 384 → ℝ
  wq : Fin 384 → Fin 768 → ℝ
  gk : Fin 256 → ℝ
  wk : Fin 256 → Fin 1024 → ℝ

theorem ofBits_384 : Ideal.ofBits .f32 0x43C00000#32 = ((384 : ℝ) : EReal) := by
  simp [Ideal.ofBits, Ideal.ieee]
  rw [← EReal.coe_mul]
  norm_num
theorem ofBits_256 : Ideal.ofBits .f32 0x43800000#32 = ((256 : ℝ) : EReal) := by
  simp [Ideal.ofBits, Ideal.ieee]
  rw [← EReal.coe_mul]
  norm_num
theorem ofBits_theta : Ideal.ofBits .f32 0x461C4000#32 = ((10000 : ℝ) : EReal) := by
  simp [Ideal.ofBits, Ideal.ieee]
  rw [← EReal.coe_mul]
  norm_num

theorem sitofp_real (n : ℕ) (h : n < 4096) : FloatOps.sitofp (F := Ideal) .f32 (BitVec.ofNat 32 n) = (((n : ℝ)) : EReal) := by
  have e : (BitVec.ofNat 32 n).toInt = (n : ℤ) := by
    rw [BitVec.toInt_eq_toNat_of_lt (by simp; omega)]
    simp
    omega
  simp [FloatOps.sitofp, e]

/-- A sum over blocks of `m`, block by block. -/
theorem sum_blocks (n m : ℕ) (f : Fin (n * m) → ℝ) (lt : ∀ (h : Fin n) (k : Fin m), m * h.val + k.val < n * m) :
    ∑ c, f c = ∑ h : Fin n, ∑ k : Fin m, f ⟨m * h.val + k.val, lt h k⟩ := by
  rw [← Fintype.sum_prod_type' (f := fun (h : Fin n) (k : Fin m) => f ⟨m * h.val + k.val, lt h k⟩)]
  refine (Fintype.sum_equiv finProdFinEquiv _ _ fun p => congrArg f (Fin.ext ?_)).symm
  exact add_comm _ _

/-- The rotary angle of a position and a pair of lanes. -/
def ang (s : Fin 4096) (j : Fin 32) : ℝ := s.val * (1 / (10000 : ℝ) ^ (2 * (j.val : ℝ) / 64))
def cs (s : Fin 4096) (j : Fin 32) : ℝ := Real.cos (ang s j)
def sn (s : Fin 4096) (j : Fin 32) : ℝ := Real.sin (ang s j)

/-- The rotary turn's gradient. -/
def back (s : Fin 4096) (x : Fin 64 → ℝ) (j : Fin 64) : ℝ :=
  if h : j.val < 32 then x ⟨j.val + 32, by omega⟩ * sn s ⟨j.val, h⟩ + x j * cs s ⟨j.val, h⟩
  else x j * cs s ⟨j.val - 32, by omega⟩ + -x ⟨j.val - 32, by omega⟩ * sn s ⟨j.val - 32, by omega⟩

section
variable (A : Args) (b : Fin 2) (s : Fin 4096)

/-- The query projection's gradient, head by head, and its row. -/
def dqp (h : Fin 4) (k : Fin 192) : ℝ :=
  if e : k.val < 128 then A.q b s h k else back s (fun j => A.q b s h ⟨j.val + 128, by omega⟩) ⟨k.val - 128, by omega⟩
/-- The key and value projection's gradient. -/
def dkp (h : Fin 4) (k : Fin 256) : ℝ := if e : k.val < 128 then A.n b s h ⟨k.val, e⟩ else A.v b s h ⟨k.val - 128, by omega⟩
/-- The shared rotary key's gradient. -/
def dkr (j : Fin 64) : ℝ := back s (fun j => ∑ h, A.k b s h j) j
/-- The keys' columns of all heads, then the values'. -/
def dkv (n : Fin 1024) : ℝ :=
  if e : n.val < 512 then A.n b s ⟨n.val / 128, by omega⟩ ⟨n.val % 128, by omega⟩
  else A.v b s ⟨(n.val - 512) / 128, by omega⟩ ⟨(n.val - 512) % 128, by omega⟩
/-- The normed rows' gradients. -/
def dxq (i : Fin 384) : ℝ := ∑ c : Fin 768, dqp A b s ⟨c.val / 192, by omega⟩ ⟨c.val % 192, by omega⟩ * A.wq i c
def dxk (i : Fin 256) : ℝ := ∑ c : Fin 1024, dkp A b s ⟨c.val / 256, by omega⟩ ⟨c.val % 256, by omega⟩ * A.wk i c
/-- The low-rank rows' gradients. -/
def dcq (i : Fin 384) : ℝ := rmsBwd 384 (A.cq b s) A.gq (dxq A b s) i
def dckv (i : Fin 256) : ℝ := rmsBwd 256 (A.ckv b s) A.gk (dxk A b s) i
/-- A row's share of the gains' gradients. -/
def gqRow (i : Fin 384) : ℝ := dxq A b s i * hat 384 (A.cq b s) i
def gkRow (i : Fin 256) : ℝ := dxk A b s i * hat 256 (A.ckv b s) i

end

def dgq (A : Args) (i : Fin 384) : ℝ := ∑ b, ∑ s, gqRow A b s i
def dgk (A : Args) (i : Fin 256) : ℝ := ∑ b, ∑ s, gkRow A b s i

/-! ## Rows padded to whole lanes -/

/-- The tables' rows: 32 lanes twice, then zero. -/
def padCos (s : Fin 4096) (l : Fin 128) : ℝ :=
  if h : l.val < 32 then cs s ⟨l.val, h⟩ else if h' : l.val < 64 then cs s ⟨l.val - 32, by omega⟩ else 0
def padSin (s : Fin 4096) (l : Fin 128) : ℝ :=
  if h : l.val < 32 then -sn s ⟨l.val, h⟩ else if h' : l.val < 64 then sn s ⟨l.val - 32, by omega⟩ else 0

/-- The turn back on 128 lanes: the halves of the first 64 change places; what the other lanes receive is never used. -/
def turn (s : Fin 4096) (x : Fin 128 → ℝ) (l : Fin 128) : ℝ :=
  x l * padCos s l + (if l.val < 32 then x ⟨(l.val + 32) % 128, by omega⟩ * padSin s ⟨(l.val + 32) % 128, by omega⟩
    else x ⟨(l.val + 96) % 128, by omega⟩ * padSin s ⟨(l.val + 96) % 128, by omega⟩)

theorem turn_eq (s : Fin 4096) (x : Fin 128 → ℝ) (j : Fin 64) : turn s x ⟨j.val, by omega⟩ = back s (fun k => x ⟨k.val, by omega⟩) j := by
  unfold turn back
  by_cases h : j.val < 32
  · have e : (⟨(j.val + 32) % 128, by omega⟩ : Fin 128) = ⟨j.val + 32, by omega⟩ := Fin.ext (by simp only; omega)
    have c : padCos s ⟨j.val, by omega⟩ = cs s ⟨j.val, h⟩ := dif_pos h
    have d : padSin s ⟨j.val + 32, by omega⟩ = sn s ⟨j.val, h⟩ := by
      unfold padSin
      rw [dif_neg (by simp), dif_pos (by simp only; omega)]
      exact congrArg (sn s) (Fin.ext (by simp))
    simp only [h, if_true, dif_pos, e, c, d]
    ring
  · have e : (⟨(j.val + 96) % 128, by omega⟩ : Fin 128) = ⟨j.val - 32, by omega⟩ := Fin.ext (by simp only; omega)
    have c : padCos s ⟨j.val, by omega⟩ = cs s ⟨j.val - 32, by omega⟩ := by
      unfold padCos
      rw [dif_neg h, dif_pos (by simp only; omega)]
    have d : padSin s ⟨j.val - 32, by omega⟩ = -sn s ⟨j.val - 32, by omega⟩ := dif_pos (by simp only; omega)
    simp only [h, if_false, dif_neg, not_false_iff, e, c, d]
    ring

/-- `n` lanes of a row from lane `o` on. -/
def cut {m : ℕ} (n o : ℕ) (ho : o + n ≤ m) (x : Fin m → ℝ) (k : Fin n) : ℝ := x ⟨o + k.val, by omega⟩

section
variable (A : Args) (b : Fin 2) (s : Fin 4096)

def padQ (n : Fin 1024) : ℝ := if h : n.val % 256 < 192 then A.q b s ⟨n.val / 256, by omega⟩ ⟨n.val % 256, h⟩ else 0
def padK (n : Fin 1024) : ℝ :=
  if h : n.val % 256 < 128 then A.n b s ⟨n.val / 256, by omega⟩ ⟨n.val % 256, h⟩
  else if h' : n.val % 256 < 192 then A.k b s ⟨n.val / 256, by omega⟩ ⟨n.val % 256 - 128, by omega⟩ else 0
def rowV (n : Fin 512) : ℝ := A.v b s ⟨n.val / 128, by omega⟩ ⟨n.val % 128, by omega⟩
def padWq (n : Fin 1024) (i : Fin 384) : ℝ := if h : n.val % 256 < 192 then A.wq i ⟨n.val / 256 * 192 + n.val % 256, by omega⟩ else 0
def colWk (i : Fin 256) (n : Fin 1024) : ℝ :=
  if h : n.val < 512 then A.wk i ⟨n.val / 128 * 256 + n.val % 128, by omega⟩
  else A.wk i ⟨(n.val - 512) / 128 * 256 + (n.val - 512) % 128 + 128, by omega⟩

/-- The turned rotary lanes of the head whose lanes begin at `o`. -/
def turnQ (o : ℕ) (ho : o + 256 ≤ 1024) (l : Fin 128) : ℝ := turn s (cut 128 (o + 128) (by omega) (padQ A b s)) l

/-- One head's share of the normed query row's gradient, and of the key row's. -/
def partQ (o : ℕ) (ho : o + 256 ≤ 1024) (i : Fin 384) : ℝ :=
  (∑ k, cut 128 o (by omega) (padQ A b s) k * cut 128 o (by omega) (fun n => padWq A n i) k)
    + ∑ l, turnQ A b s o ho l * cut 128 (o + 128) (by omega) (fun n => padWq A n i) l
def partK (o : ℕ) (ho : o + 256 ≤ 1024) (u : ℕ) (hu : u + 128 ≤ 512) (i : Fin 256) : ℝ :=
  ∑ k, cut 128 o (by omega) (padK A b s) k * cut 128 u (by omega) (colWk A i) k
def partV (i : Fin 256) : ℝ := ∑ n, rowV A b s n * cut 512 512 (by omega) (colWk A i) n

def sumQ (i : Fin 384) : ℝ :=
  partQ A b s 0 (by omega) i + partQ A b s 256 (by omega) i + partQ A b s 512 (by omega) i + partQ A b s 768 (by omega) i
def sumK (i : Fin 256) : ℝ :=
  partK A b s 0 (by omega) 0 (by omega) i + partK A b s 256 (by omega) 128 (by omega) i + partK A b s 512 (by omega) 256 (by omega) i
    + partK A b s 768 (by omega) 384 (by omega) i + partV A b s i
def rotK (l : Fin 128) : ℝ :=
  cut 128 128 (by omega) (padK A b s) l + cut 128 384 (by omega) (padK A b s) l + cut 128 640 (by omega) (padK A b s) l
    + cut 128 896 (by omega) (padK A b s) l

/-- The turned query row, all lanes. -/
def rowQ (n : Fin 1024) : ℝ :=
  if n.val % 256 < 128 then padQ A b s n else turnQ A b s (n.val / 256 * 256) (by omega) ⟨n.val % 256 - 128, by omega⟩

/-! ## The padded rows hold the same gradients -/

theorem turnQ_eq (h : Fin 4) (j : Fin 64) : turnQ A b s (256 * h.val) (by omega) ⟨j.val, by omega⟩
    = back s (fun j => A.q b s h ⟨j.val + 128, by omega⟩) j := by
  rw [turnQ, turn_eq]
  refine congrArg (fun x => back s x j) (funext fun k => ?_)
  have e : (256 * h.val + 128 + k.val) % 256 = k.val + 128 := by omega
  have d : (256 * h.val + 128 + k.val) / 256 = h.val := by omega
  simp only [cut, padQ, e, d]
  exact dif_pos (by omega)

theorem partQ_eq (h : Fin 4) (i : Fin 384) : partQ A b s (256 * h.val) (by omega) i
    = ∑ k : Fin 192, dqp A b s h k * A.wq i ⟨192 * h.val + k.val, by omega⟩ := by
  have lo : ∀ k : Fin 128, cut 128 (256 * h.val) (by omega) (padQ A b s) k * cut 128 (256 * h.val) (by omega) (fun n => padWq A n i) k
      = dqp A b s h ⟨k.val, by omega⟩ * A.wq i ⟨192 * h.val + k.val, by omega⟩ := fun k => by
    have e : (256 * h.val + k.val) % 256 = k.val := by omega
    have d : (256 * h.val + k.val) / 256 = h.val := by omega
    have lt : k.val < 192 := by omega
    simp only [cut, padQ, padWq, e, d, lt, dif_pos, dqp, k.isLt]
    exact congrArg (fun c => _ * A.wq i c) (Fin.ext (by simp only; omega))
  have hi : ∀ l : Fin 64, turnQ A b s (256 * h.val) (by omega) ⟨l.val, by omega⟩
        * cut 128 (256 * h.val + 128) (by omega) (fun n => padWq A n i) ⟨l.val, by omega⟩
      = dqp A b s h ⟨128 + l.val, by omega⟩ * A.wq i ⟨192 * h.val + (128 + l.val), by omega⟩ := fun l => by
    have e : (256 * h.val + 128 + l.val) % 256 = 128 + l.val := by omega
    have d : (256 * h.val + 128 + l.val) / 256 = h.val := by omega
    have lt : 128 + l.val < 192 := by omega
    have ge : ¬ 128 + l.val < 128 := by omega
    have f : (⟨128 + l.val - 128, by omega⟩ : Fin 64) = l := Fin.ext (by simp)
    rw [turnQ_eq]
    simp only [cut, padWq, e, d, lt, dif_pos, dqp, ge, not_false_iff, dif_neg, f]
    exact congrArg (fun c => _ * A.wq i c) (Fin.ext (by simp only; omega))
  have zero : ∀ l : Fin 64, cut 128 (256 * h.val + 128) (by omega) (fun n => padWq A n i) ⟨64 + l.val, by omega⟩ = 0 := fun l =>
    dif_neg (by simp only; omega)
  have s1 := Fin.sum_univ_add (a := 128) (b := 64) fun k : Fin (128 + 64) => dqp A b s h k * A.wq i ⟨192 * h.val + k.val, by omega⟩
  have s2 := Fin.sum_univ_add (a := 64) (b := 64) fun l : Fin (64 + 64) => turnQ A b s (256 * h.val) (by omega) l
        * cut 128 (256 * h.val + 128) (by omega) (fun n => padWq A n i) l
  refine Eq.trans ?_ s1.symm
  refine congr (congrArg _ (Finset.sum_congr rfl fun k _ => lo k)) (s2.trans ?_)
  exact (congrArg (_ + ·) (Finset.sum_eq_zero fun l _ => mul_eq_zero_of_right _ (zero l))).trans
    ((add_zero _).trans (Finset.sum_congr rfl fun l _ => hi l))

theorem sumQ_eq (i : Fin 384) : sumQ A b s i = dxq A b s i := by
  have t := sum_blocks 4 192 (fun c : Fin (4 * 192) => dqp A b s ⟨c.val / 192, by omega⟩ ⟨c.val % 192, by omega⟩ * A.wq i c)
    fun h k => by omega
  refine Eq.trans ?_ t.symm
  rw [Fin.sum_univ_four]
  have p : ∀ h : Fin 4, partQ A b s (256 * h.val) (by omega) i = ∑ k : Fin 192,
      (fun c : Fin (4 * 192) => dqp A b s ⟨c.val / 192, by omega⟩ ⟨c.val % 192, by omega⟩ * A.wq i c) ⟨192 * h.val + k.val, by omega⟩ := fun h => by
    refine (partQ_eq A b s h i).trans (Finset.sum_congr rfl fun k _ => ?_)
    have e : (⟨(192 * h.val + k.val) % 192, by omega⟩ : Fin 192) = k := Fin.ext (by simp only; omega)
    have d : (⟨(192 * h.val + k.val) / 192, by omega⟩ : Fin 4) = h := Fin.ext (by simp only; omega)
    simp only [e, d]
  exact congr (congrArg _ (congr (congrArg _ (congr (congrArg _ (p 0)) (p 1))) (p 2))) (p 3)

theorem partK_eq (h : Fin 4) (i : Fin 256) : partK A b s (256 * h.val) (by omega) (128 * h.val) (by omega) i
    = ∑ k : Fin 128, A.n b s h k * A.wk i ⟨256 * h.val + k.val, by omega⟩ := by
  refine Finset.sum_congr rfl fun k _ => ?_
  have e : (256 * h.val + k.val) % 256 = k.val := by omega
  have d : (256 * h.val + k.val) / 256 = h.val := by omega
  have lt : 128 * h.val + k.val < 512 := by omega
  simp only [cut, padK, colWk, e, d, lt, dif_pos, k.isLt]
  exact congrArg (fun c => _ * A.wk i c) (Fin.ext (by simp only; omega))

theorem partV_eq (i : Fin 256) : partV A b s i = ∑ h : Fin 4, ∑ k : Fin 128, A.v b s h k * A.wk i ⟨256 * h.val + (128 + k.val), by omega⟩ := by
  refine (sum_blocks 4 128 (fun n : Fin (4 * 128) => rowV A b s n * cut 512 512 (by omega) (colWk A i) n) fun h k => by omega).trans ?_
  refine Finset.sum_congr rfl fun h _ => Finset.sum_congr rfl fun k _ => ?_
  have e : (128 * h.val + k.val) % 128 = k.val := by omega
  have d : (128 * h.val + k.val) / 128 = h.val := by omega
  have ge : ¬ 512 + (128 * h.val + k.val) < 512 := by omega
  simp only [cut, rowV, colWk, e, d, ge, not_false_iff, dif_neg]
  exact congrArg (fun c => _ * A.wk i c) (Fin.ext (by simp only; omega))

theorem sumK_eq (i : Fin 256) : sumK A b s i = dxk A b s i := by
  have t := sum_blocks 4 256 (fun c : Fin (4 * 256) => dkp A b s ⟨c.val / 256, by omega⟩ ⟨c.val % 256, by omega⟩ * A.wk i c)
    fun h k => by omega
  have q : ∀ h : Fin 4, (∑ k : Fin 256,
      (fun c : Fin (4 * 256) => dkp A b s ⟨c.val / 256, by omega⟩ ⟨c.val % 256, by omega⟩ * A.wk i c) ⟨256 * h.val + k.val, by omega⟩)
      = partK A b s (256 * h.val) (by omega) (128 * h.val) (by omega) i
        + ∑ k : Fin 128, A.v b s h k * A.wk i ⟨256 * h.val + (128 + k.val), by omega⟩ := fun h => by
    rw [partK_eq]
    refine (Fin.sum_univ_add (a := 128) (b := 128) _).trans (congr (congrArg _ (Finset.sum_congr rfl fun k _ => ?_)) (Finset.sum_congr rfl fun k _ => ?_))
    · have e : (256 * h.val + k.val) % 256 = k.val := by omega
      have d : (256 * h.val + k.val) / 256 = h.val := by omega
      simp only [Fin.val_castAdd, e, d, dkp, k.isLt, dif_pos]
    · have e : (256 * h.val + (128 + k.val)) % 256 = 128 + k.val := by omega
      have d : (256 * h.val + (128 + k.val)) / 256 = h.val := by omega
      have ge : ¬ 128 + k.val < 128 := by omega
      have f : (⟨128 + k.val - 128, by omega⟩ : Fin 128) = k := Fin.ext (by simp)
      simp only [Fin.val_natAdd, e, d, dkp, ge, not_false_iff, dif_neg, f]
  refine Eq.trans ?_ t.symm
  rw [Fin.sum_univ_four, q 0, q 1, q 2, q 3, sumK, partV_eq, Fin.sum_univ_four]
  have r : ∀ a b c d e f g h : ℝ, a + b + c + d + (e + f + g + h) = a + e + (b + f) + (c + g) + (d + h) := fun a b c d e f g h => by ring
  exact r _ _ _ _ _ _ _ _

/-- The shared rotary key's lanes. -/
theorem rotK_eq (j : Fin 64) : turn s (rotK A b s) ⟨j.val, by omega⟩ = dkr A b s j := by
  rw [turn_eq, dkr]
  refine congrArg (fun x => back s x j) (funext fun k => ?_)
  have p : ∀ (h : Fin 4) (o : ℕ) (ho : o + 128 ≤ 1024), o = 256 * h.val + 128 → cut 128 o ho (padK A b s) ⟨k.val, by omega⟩ = A.k b s h k := by
    rintro h o ho rfl
    have e : (256 * h.val + 128 + k.val) % 256 = 128 + k.val := by omega
    have d : (256 * h.val + 128 + k.val) / 256 = h.val := by omega
    have ge : ¬ 128 + k.val < 128 := by omega
    have lt : 128 + k.val < 192 := by omega
    have f : (⟨128 + k.val - 128, by omega⟩ : Fin 64) = k := Fin.ext (by simp)
    simp only [cut, padK, e, d, ge, lt, not_false_iff, dif_neg, dif_pos, f]
  rw [Fin.sum_univ_four, rotK, p 0 128 _ rfl, p 1 384 _ rfl, p 2 640 _ rfl, p 3 896 _ rfl]

/-- The turned query row's lanes that are kept. -/
theorem rowQ_eq (h : Fin 4) (k : Fin 192) : rowQ A b s ⟨256 * h.val + k.val, by omega⟩ = dqp A b s h k := by
  have e : (256 * h.val + k.val) % 256 = k.val := by omega
  have d : (256 * h.val + k.val) / 256 = h.val := by omega
  by_cases g : k.val < 128
  · simp only [rowQ, dqp, padQ, e, d, g, if_true, dif_pos, k.isLt]
  · have t := turnQ_eq A b s h ⟨k.val - 128, by omega⟩
    have m : ∀ (o : ℕ) (ho : o + 256 ≤ 1024) (l : Fin 128), o = 256 * h.val → l.val = k.val - 128 →
        turnQ A b s o ho l = turnQ A b s (256 * h.val) (by omega) ⟨k.val - 128, by omega⟩ := by
      rintro o ho l rfl hl
      exact congrArg _ (Fin.ext hl)
    rw [rowQ, if_neg (by simp only [e]; exact g), m _ _ _ (by simp only [d]; omega) (by simp only [e]), t, dqp, dif_neg g]

end

end Cert.Mla
-- ==== Proof.MlaHost.lean ====
/- What the host lines before the queries' and keys' preparation gradient give the kernel on real arguments: rows padded to whole lanes,
   the weights and the rotary tables. -/
module

public import proofs.«01_k».proof.Proof.MlaSpec
public import proofs.«01_k».proof.Proof.OutSpec
public import proofs.«01_k».proof.Proof.InHost
public import proofs.«01_k».proof.Proof.Gen.MlaBwdIdeal.Frame
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.Mla.Host

open Cert.MlaBwdIdeal Cert.MlaBwdIdeal.Gen Cert.Lift Cert.Row
open Cert.In.Host (flat3 flat2 zero16 zero16_eq)

/-! ## The host lines, composed -/

/-- The query projection's weight: its columns are rows, each head's padded to 256. -/
def wQ (w : FVec Ideal S1x384x768 .f32) : FVec Ideal S1024x384 .bf16 :=
  shapeCast S1024x384
    (pad S4x256x384 ![0, 0, 0] ![0, 64, 0] ![0, 0, 0]
      (shapeCast S4x192x384
        (truncf .bf16 (transpose S768x384 [1, 0] (shapeCast S384x768 w shapeCasts_S1x384x768_S384x768) transposes_S384x768_S768x384_1_0) bitsLt_bf16_f32
          : FVec Ideal S768x384 .bf16) shapeCasts_S768x384_S4x192x384)
      zero16 pads_S4x192x384_S4x256x384_000_0640_000 h_S_)
    shapeCasts_S4x256x384_S1024x384

/-- The key and value projection's weight, a head's columns apart. -/
def w4 (w : FVec Ideal S1x256x1024 .f32) : FVec Ideal S256x4x256 .bf16 :=
  shapeCast S256x4x256 (truncf .bf16 (shapeCast S256x1024 w shapeCasts_S1x256x1024_S256x1024) bitsLt_bf16_f32 : FVec Ideal S256x1024 .bf16)
    shapeCasts_S256x1024_S256x4x256

/-- The key and value projection's weight: all heads' key columns, then all heads' value columns. -/
def wK (w : FVec Ideal S1x256x1024 .f32) : FVec Ideal S256x1024 .bf16 :=
  concatenate S256x1024 1
    [⟨S256x512, shapeCast S256x512 (extractStridedSlice S256x4x128 ![0, 0, 0] (w4 w) slices_S256x4x256_S256x4x128_0_0_0) shapeCasts_S256x4x128_S256x512⟩,
      ⟨S256x512, shapeCast S256x512 (extractStridedSlice S256x4x128 ![0, 0, 128] (w4 w) slices_S256x4x256_S256x4x128_0_0_128) shapeCasts_S256x4x128_S256x512⟩]
    concatenates_S256x512_S256x512_S256x1024_d1

/-- The power of the rotary base at a pair of lanes. -/
def base : FVec Ideal S32 .f32 :=
  Host.powf (broadcastInDim S32 ![] bcast_S_S32 (constant (F := Ideal) S_ .f32 0x461C4000#32))
    (Host.divf
      (addf (broadcastInDim S32 ![] bcast_S_S32 (constant (F := Ideal) S_ .f32 0x00000000#32))
        (mulf (broadcastInDim S32 ![] bcast_S_S32 (constant (F := Ideal) S_ .f32 0x40000000#32)) (sitofp .f32 (iotaInDim S32 32 0) : FVec Ideal S32 .f32)))
      (broadcastInDim S32 ![] bcast_S_S32 (constant (F := Ideal) S_ .f32 0x42800000#32)))

/-- The rotary angles. -/
def angle : FVec Ideal S4096x32 .f32 :=
  mulf
    (broadcastInDim S4096x32 ![0, 1] bcast_S4096x1_S4096x32_0_1
      (broadcastInDim S4096x1 ![0] bcast_S4096_S4096x1_0 (sitofp .f32 (iotaInDim S4096 32 0) : FVec Ideal S4096 .f32)))
    (broadcastInDim S4096x32 ![0, 1] bcast_S1x32_S4096x32_0_1
      (broadcastInDim S1x32 ![1] bcast_S32_S1x32_1 (Host.divf (broadcastInDim S32 ![] bcast_S_S32 (constant (F := Ideal) S_ .f32 0x3F800000#32)) base)))

def zeros : FVec Ideal S4096x64 .f32 := broadcastInDim S4096x64 ![] bcast_S_S4096x64 (constant (F := Ideal) S_ .f32 0x00000000#32)

/-- The tables. -/
def cosT : FVec Ideal S4096x128 .f32 :=
  concatenate S4096x128 1 [⟨S4096x32, Host.cos angle⟩, ⟨S4096x32, Host.cos angle⟩, ⟨S4096x64, zeros⟩] concatenates_S4096x32_S4096x32_S4096x64_S4096x128_d1
def sinT : FVec Ideal S4096x128 .f32 :=
  concatenate S4096x128 1 [⟨S4096x32, Host.negf (Host.sin angle)⟩, ⟨S4096x32, Host.sin angle⟩, ⟨S4096x64, zeros⟩]
    concatenates_S4096x32_S4096x32_S4096x64_S4096x128_d1

def zero32 : FVec Ideal S_ .f32 := sitofp .f32 (constantI S_ 32 0#32)

/-- Rows of four heads' 192 lanes, each head's padded to 256. -/
def lanes (x : FVec Ideal S2x4096x4x192 .f32) : FVec Ideal S8192x1024 .f32 :=
  shapeCast S8192x1024
    (pad S8192x4x256 ![0, 0, 0] ![0, 0, 64] ![0, 0, 0] (shapeCast S8192x4x192 x shapeCasts_S2x4096x4x192_S8192x4x192) zero32
      pads_S8192x4x192_S8192x4x256_000_000_0640 h_S_)
    shapeCasts_S8192x4x256_S8192x1024

/-- The keys' two parts side by side. -/
def both (x : FVec Ideal S2x4096x4x128 .f32) (y : FVec Ideal S2x4096x4x64 .f32) : FVec Ideal S2x4096x4x192 .f32 :=
  concatenate S2x4096x4x192 3 [⟨S2x4096x4x128, x⟩, ⟨S2x4096x4x64, y⟩] concatenates_S2x4096x4x128_S2x4096x4x64_S2x4096x4x192_d3

/-! ## The kernel's operands -/

section Entry
variable (m : (ℓ : Loc nD τ sig) → Buf (Elt Ideal) ℓ) (c : Dev nD)

theorem V_q : V m c main_v40 = (transpose S1024x8192 [1, 0] (lanes (m ((c : Thread nD τ).loc main_arg0))) transposes_S8192x1024_S1024x8192_1_0
    : FVec Ideal S1024x8192 .f32) := by
  unfold V
  after_reads_simp
  rfl

set_option maxHeartbeats 2000000 in
theorem V_k : V m c main_v44 = lanes (both (m ((c : Thread nD τ).loc main_arg1)) (m ((c : Thread nD τ).loc main_arg2))) := by
  unfold V
  after_reads_simp
  rfl

theorem V_v : V m c main_v45 = (shapeCast S8192x512 (m ((c : Thread nD τ).loc main_arg3) : FVec Ideal S2x4096x4x128 .f32) shapeCasts_S2x4096x4x128_S8192x512
    : FVec Ideal S8192x512 .f32) := by
  unfold V
  after_reads_simp
  rfl

theorem V_cq : V m c main_v46 = flat3 (m ((c : Thread nD τ).loc main_arg4)) := by
  unfold V
  after_reads_simp
  rfl

theorem V_ckv : V m c main_v47 = flat2 (m ((c : Thread nD τ).loc main_arg5)) := by
  unfold V
  after_reads_simp
  rfl

theorem V_wq : V m c main_v5 = wQ (m ((c : Thread nD τ).loc main_arg7)) := by
  unfold V
  after_reads_simp
  rfl

theorem V_wk : V m c main_v13 = wK (m ((c : Thread nD τ).loc main_arg9)) := by
  unfold V
  after_reads_simp
  rfl

theorem V_cos : V m c main_v34 = cosT := by
  unfold V
  after_reads_simp
  rfl

theorem V_sin : V m c main_v36 = sinT := by
  unfold V
  after_reads_simp
  rfl

theorem V_gq : V m c main_arg6 = m ((c : Thread nD τ).loc main_arg6) := V_main_arg6 m c
theorem V_gk : V m c main_arg8 = m ((c : Thread nD τ).loc main_arg8) := V_main_arg8 m c

end Entry

/-! ## On real arguments -/

def X0 (A : Args) : FVec Ideal S2x4096x4x192 .f32 := fun i => ((A.q (i 0) (i 1) (i 2) (i 3) : ℝ) : EReal)
def X1 (A : Args) : FVec Ideal S2x4096x4x128 .f32 := fun i => ((A.n (i 0) (i 1) (i 2) (i 3) : ℝ) : EReal)
def X2 (A : Args) : FVec Ideal S2x4096x4x64 .f32 := fun i => ((A.k (i 0) (i 1) (i 2) (i 3) : ℝ) : EReal)
def X3 (A : Args) : FVec Ideal S2x4096x4x128 .f32 := fun i => ((A.v (i 0) (i 1) (i 2) (i 3) : ℝ) : EReal)
def X4 (A : Args) : FVec Ideal S2x4096x384 .f32 := fun i => ((A.cq (i 0) (i 1) (i 2) : ℝ) : EReal)
def X5 (A : Args) : FVec Ideal S2x4096x256 .f32 := fun i => ((A.ckv (i 0) (i 1) (i 2) : ℝ) : EReal)
def X6 (A : Args) : FVec Ideal S1x384 .f32 := fun i => ((A.gq (i 1) : ℝ) : EReal)
def X7 (A : Args) : FVec Ideal S1x384x768 .f32 := fun i => ((A.wq (i 1) (i 2) : ℝ) : EReal)
def X8 (A : Args) : FVec Ideal S1x256 .f32 := fun i => ((A.gk (i 1) : ℝ) : EReal)
def X9 (A : Args) : FVec Ideal S1x256x1024 .f32 := fun i => ((A.wk (i 1) (i 2) : ℝ) : EReal)

section
variable (A : Args) (r : Fin 8192) (n : Fin 1024) (s : Fin 4096) (j : Fin 32) (l : Fin 128)

theorem zero32_eq (i : S_.Idx) : zero32 i = ((0 : ℝ) : EReal) := Att.sitofp_zero

theorem lanes_eq (x : FVec Ideal S2x4096x4x192 .f32) (f : Fin 2 → Fin 4096 → Fin 4 → Fin 192 → ℝ) (h : ∀ b s h k, x (ix4 b s h k) = ((f b s h k : ℝ) : EReal)) :
    lanes x (ix2 r n) = ((if e : n.val % 256 < 192 then f (rowB r) (rowS r) ⟨n.val / 256, by omega⟩ ⟨n.val % 256, e⟩ else 0 : ℝ) : EReal) := by
  pointwise [lanes, h, zero32_eq]
  by_cases e : n.val % 256 < 192
  · rw [dif_pos ⟨by omega, e⟩, dif_pos e]
    rfl
  · rw [dif_neg (fun h => e h.2), dif_neg e]

theorem both_eq (b : Fin 2) (s : Fin 4096) (h : Fin 4) (k : Fin 192) :
    both (X1 A) (X2 A) (ix4 b s h k) = ((if e : k.val < 128 then A.n b s h ⟨k.val, e⟩ else A.k b s h ⟨k.val - 128, by omega⟩ : ℝ) : EReal) := by
  pointwise [both, X1, X2]
  split_ifs <;> rfl

theorem q_eq : lanes (X0 A) (ix2 r n) = ((padQ A (rowB r) (rowS r) n : ℝ) : EReal) :=
  lanes_eq r n _ A.q fun _ _ _ _ => rfl

theorem k_eq : lanes (both (X1 A) (X2 A)) (ix2 r n) = ((padK A (rowB r) (rowS r) n : ℝ) : EReal) := by
  refine (lanes_eq r n _ _ (both_eq A)).trans (congrArg _ ?_)
  rw [padK]
  by_cases e : n.val % 256 < 128
  · simp only [e, dif_pos, show n.val % 256 < 192 by omega]
  · simp only [e, dif_neg, not_false_iff]

theorem v_eq (e : Fin 512) : shapeCast S8192x512 (X3 A) shapeCasts_S2x4096x4x128_S8192x512 (ix2 r e) = ((rowV A (rowB r) (rowS r) e : ℝ) : EReal) := by
  pointwise [X3]
  rfl

theorem wQ_eq (i : Fin 384) : wQ (X7 A) (ix2 n i) = ((padWq A n i : ℝ) : EReal) := by
  pointwise [wQ, X7, zero16_eq]
  rw [padWq]
  by_cases e : n.val % 256 < 192
  · rw [dif_pos ⟨by omega, e⟩, dif_pos e]
  · rw [dif_neg (fun h => e h.2), dif_neg e]

theorem wK_eq (i : Fin 256) : wK (X9 A) (ix2 i n) = ((colWk A i n : ℝ) : EReal) := by
  pointwise [wK, w4, X9]
  rw [colWk]
  by_cases e : n.val < 512
  · simp only [e, dif_pos]
  · have f : (n.val - 512) / 128 * 256 + (128 + (n.val - 512) % 128) = (n.val - 512) / 128 * 256 + (n.val - 512) % 128 + 128 := by omega
    simp only [e, dif_neg, not_false_iff, f]

theorem base_eq : base (ix1 j) = (((10000 : ℝ) ^ (2 * (j.val : ℝ) / 64) : ℝ) : EReal) := by
  pointwise [base]
  rw [ofBits_theta, Out.ofBits_64, ofBits_two, sitofp_real _ (by omega), ← EReal.coe_mul, div_real (by norm_num : (64 : ℝ) ≠ 0)]
  exact Ideal.pow_coe_coe _ _

theorem angle_eq : angle (ix2 s j) = ((ang s j : ℝ) : EReal) := by
  pointwise [angle, base_eq]
  rw [sitofp_real _ s.isLt, ← EReal.coe_one, div_real (Real.rpow_pos_of_pos (by norm_num) _).ne', ← EReal.coe_mul, ang]

theorem cos_eq : (Host.cos angle : FVec Ideal S4096x32 .f32) (ix2 s j) = ((cs s j : ℝ) : EReal) := by
  pointwise [angle_eq]
  rfl
theorem sin_eq : (Host.sin angle : FVec Ideal S4096x32 .f32) (ix2 s j) = ((sn s j : ℝ) : EReal) := by
  pointwise [angle_eq]
  rfl

theorem cosT_eq : cosT (ix2 s l) = ((padCos s l : ℝ) : EReal) := by
  pointwise [cosT, cos_eq, zeros]
  rw [padCos]
  by_cases e : l.val < 32
  · simp only [e, dif_pos]
  · by_cases f : l.val < 64
    · rw [dif_neg e, dif_pos (by omega), dif_neg e, dif_pos f]
    · rw [dif_neg e, dif_neg (by omega), dif_neg e, dif_neg f]
      rfl

theorem sinT_eq : sinT (ix2 s l) = ((padSin s l : ℝ) : EReal) := by
  pointwise [sinT, sin_eq, zeros]
  rw [padSin]
  by_cases e : l.val < 32
  · simp only [e, dif_pos, EReal.coe_neg]
  · by_cases f : l.val < 64
    · rw [dif_neg e, dif_pos (by omega), dif_neg e, dif_pos f]
    · rw [dif_neg e, dif_neg (by omega), dif_neg e, dif_neg f]
      rfl

end

end Cert.Mla.Host
-- ==== Proof.MlaPoint.lean ====
/- One grid point of the attention's preparation gradient on real blocks: 1024 rows, the four heads one after another. -/
module

public import proofs.«01_k».proof.Proof.MlaHost
public import proofs.«01_k».proof.Proof.AttSpec
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.Mla.Point

open Cert.MlaBwdIdeal Cert.MlaBwdIdeal.Gen Cert.Lift Cert.Row

theorem pos384 : (0 : ℝ) < 384 := by norm_num
theorem pos256 : (0 : ℝ) < 256 := by norm_num

/-! ## The turn back on 128 lanes -/

/-- The turn of an array's rows by two tables. -/
def turned (W v1 v3 : FVec Ideal S1024x128 .f32) : FVec Ideal S1024x128 .f32 :=
  addf (mulf W v1) (select (cmpi .slt (iota .tc S1024x128 32 [1] iota_S1024x128_d1_w32) (broadcast S1024x128 32#32))
    (dynamicRotate 1 96#32 none (mulf W v3) rotates_S1024x128_d1) (dynamicRotate 1 32#32 none (mulf W v3) rotates_S1024x128_d1))

theorem below32 : ∀ l : Fin 128, IntOp.cmpi CmpIPredicate.slt (BitVec.ofNat 32 l.val) 32#32 = if l.val < 32 then 1#1 else 0#1 := by decide +kernel

theorem rot96 (W : FVec Ideal S1024x128 .f32) (r : Fin 1024) (l : Fin 128) :
    dynamicRotate 1 96#32 none W rotates_S1024x128_d1 (ix2 r l) = W (ix2 r ⟨(l.val + 32) % 128, by omega⟩) := by
  refine dynamicRotate_apply 1 _ _ _ _ _ fun b => ?_
  match b with
  | 0 => rfl
  | 1 => exact congrArg (· % 128) (by simp)
theorem rot32 (W : FVec Ideal S1024x128 .f32) (r : Fin 1024) (l : Fin 128) :
    dynamicRotate 1 32#32 none W rotates_S1024x128_d1 (ix2 r l) = W (ix2 r ⟨(l.val + 96) % 128, by omega⟩) := by
  refine dynamicRotate_apply 1 _ _ _ _ _ fun b => ?_
  match b with
  | 0 => rfl
  | 1 => exact congrArg (· % 128) (by simp)

theorem turned_eq (W v1 v3 : FVec Ideal S1024x128 .f32) (w : Fin 1024 → Fin 128 → ℝ) (s : Fin 1024 → Fin 4096)
    (hw : ∀ r l, W (ix2 r l) = ((w r l : ℝ) : EReal)) (h1 : ∀ r l, v1 (ix2 r l) = ((padCos (s r) l : ℝ) : EReal))
    (h3 : ∀ r l, v3 (ix2 r l) = ((padSin (s r) l : ℝ) : EReal)) (r : Fin 1024) (l : Fin 128) :
    turned W v1 v3 (ix2 r l) = ((turn (s r) (w r) l : ℝ) : EReal) := by
  pointwise [turned, rot96, rot32, hw, h1, h3]
  rw [below32 l]
  unfold turn
  by_cases g : l.val < 32
  · simp only [g, if_true, ← EReal.coe_mul]
    exact (EReal.coe_add _ _).symm
  · simp only [g, if_false, ← EReal.coe_mul]
    exact (EReal.coe_add _ _).symm

/-! ## A head's arrays -/

section Head
variable (A : Args) (b : Fin 1024 → Fin 2) (s : Fin 1024 → Fin 4096) (v1 v3 : FVec Ideal S1024x128 .f32)

/-- The tables' rows. -/
structure Tables : Prop where
  c : ∀ r l, v1 (ix2 r l) = ((padCos (s r) l : ℝ) : EReal)
  n : ∀ r l, v3 (ix2 r l) = ((padSin (s r) l : ℝ) : EReal)

variable (Q : Vec Ideal S256x1024 .f32) (w0 w1 : Vec Ideal S128x384 .bf16) (o : ℕ) (ho : o + 256 ≤ 1024)

/-- A head's rows of the queries' gradient and of the padded weight. -/
structure Head : Prop where
  q : ∀ j r, Q (ix2 j r) = ((cut 256 o ho (padQ A (b r) (s r)) j : ℝ) : EReal)
  w0 : ∀ k i, w0 (ix2 k i) = ((cut 128 o (by omega) (fun n => padWq A n i) k : ℝ) : EReal)
  w1 : ∀ k i, w1 (ix2 k i) = ((cut 128 (o + 128) (by omega) (fun n => padWq A n i) k : ℝ) : EReal)

variable {A b s v1 v3 Q w0 w1 o ho} (T : Tables s v1 v3) (H : Head A b s Q w0 w1 o ho) (r : Fin 1024) (k l : Fin 128) (i : Fin 384)
include H

theorem Head.pay17 : k0_pay17 (F := Ideal) Q (ix2 r k) = ((cut 128 o (by omega) (padQ A (b r) (s r)) k : ℝ) : EReal) := by
  have q := H.q
  pointwise [k0_pay17, k0_pay16, q]
  simp only [cut, zero_add]

include T

theorem Head.pay18 : k0_pay18 (F := Ideal) v1 v3 Q (ix2 r l) = ((turnQ A (b r) (s r) o ho l : ℝ) : EReal) := by
  refine turned_eq (extractStridedSlice S1024x128 ![0, 128] (k0_pay16 (F := Ideal) Q) slices_S1024x256_o0_128_S1024x128) v1 v3
    (fun r => cut 128 (o + 128) (by omega) (padQ A (b r) (s r))) s (fun r l => ?_) T.c T.n r l
  have q := H.q
  pointwise [k0_pay16, q]
  simp only [cut, ← Nat.add_assoc]

/-- A head's share of the normed query row's gradient. -/
def share (v1 v3 : FVec Ideal S1024x128 .f32) (Q : Vec Ideal S256x1024 .f32) (w0 w1 : Vec Ideal S128x384 .bf16) : FVec Ideal S1024x384 .f32 :=
  addf (matmul (φ₂ := .bf16) dot_S1024x128_S128x384_S1024x384_1_0_0_1_n_n none (k0_pay17 Q) (shapeCast S128x384 w0 shapeCasts_S128x384_S128x384) (constant S1024x384 .f32 0x00000000#32))
    (matmul (φ₂ := .bf16) dot_S1024x128_S128x384_S1024x384_1_0_0_1_n_n none (k0_pay18 v1 v3 Q) (shapeCast S128x384 w1 shapeCasts_S128x384_S128x384) (constant S1024x384 .f32 0x00000000#32))

theorem Head.share_eq : share v1 v3 Q w0 w1 (ix2 r i) = ((partQ A (b r) (s r) o ho i : ℝ) : EReal) := by
  have p := H.pay17; have q := H.pay18 T; have w0 := H.w0; have w1 := H.w1
  pointwise [share, p, q, w0, w1]
  simp only [← EReal.coe_mul, sum_coe, zero_add, ← EReal.coe_add, partQ]

end Head

/-- A head's share of the normed key row's gradient. -/
theorem pay14_eq (K : FVec Ideal S1024x128 .bf16) (W : Vec Ideal S256x128 .bf16) (x : Fin 1024 → Fin 128 → ℝ) (w : Fin 256 → Fin 128 → ℝ)
    (hx : ∀ r k, K (ix2 r k) = ((x r k : ℝ) : EReal)) (hw : ∀ i k, W (ix2 i k) = ((w i k : ℝ) : EReal)) (r : Fin 1024) (i : Fin 256) :
    k0_pay14 (F := Ideal) K W (ix2 r i) = ((∑ k, x r k * w i k : ℝ) : EReal) := by
  pointwise [k0_pay14, hx, hw]
  simp only [← EReal.coe_mul, sum_coe, zero_add]

theorem pay13_eq (K : Vec Ideal S1024x128 .f32) (r : Fin 1024) (k : Fin 128) : k0_pay13 (F := Ideal) K (ix2 r k) = K (ix2 r k) := by
  pointwise [k0_pay13]
theorem pay37_eq (K : Vec Ideal S1024x512 .f32) (r : Fin 1024) (k : Fin 512) : k0_pay37 (F := Ideal) K (ix2 r k) = K (ix2 r k) := by
  pointwise [k0_pay37]

/-- The values' share of the normed key row's gradient. -/
def shareV (V : Vec Ideal S1024x512 .f32) (W : Vec Ideal S256x512 .bf16) : FVec Ideal S1024x256 .f32 :=
  matmul (φ₂ := .bf16) dot_S1024x512_S256x512_S1024x256_1_1_0_0_n_n none (k0_pay37 V) (shapeCast S256x512 W shapeCasts_S256x512_S256x512) (constant S1024x256 .f32 0x00000000#32)

theorem shareV_eq (V : Vec Ideal S1024x512 .f32) (W : Vec Ideal S256x512 .bf16) (x : Fin 1024 → Fin 512 → ℝ) (w : Fin 256 → Fin 512 → ℝ)
    (hx : ∀ r k, V (ix2 r k) = ((x r k : ℝ) : EReal)) (hw : ∀ i k, W (ix2 i k) = ((w i k : ℝ) : EReal)) (r : Fin 1024) (i : Fin 256) :
    shareV V W (ix2 r i) = ((∑ k, x r k * w i k : ℝ) : EReal) := by
  pointwise [shareV, pay37_eq, hx, hw]
  simp only [← EReal.coe_mul, sum_coe, zero_add]

/-! ## The norms' gradients -/

section Norms
variable (Y : FVec Ideal S1024x384 .f32) (x3 : Vec Ideal S1024x384 .f32) (x5 : Vec Ideal S1x384 .f32) (Z : FVec Ideal S1024x256 .f32) (x4 : Vec Ideal S1024x256 .f32)
  (x6 : Vec Ideal S1x256 .f32) (A : Args) (b : Fin 1024 → Fin 2) (s : Fin 1024 → Fin 4096)

/-- The low-rank rows, the gains and the normed rows' gradients. -/
structure Normed : Prop where
  y : ∀ r i, Y (ix2 r i) = ((dxq A (b r) (s r) i : ℝ) : EReal)
  z : ∀ r i, Z (ix2 r i) = ((dxk A (b r) (s r) i : ℝ) : EReal)
  cq : ∀ r i, x3 (ix2 r i) = ((A.cq (b r) (s r) i : ℝ) : EReal)
  ckv : ∀ r i, x4 (ix2 r i) = ((A.ckv (b r) (s r) i : ℝ) : EReal)
  gq : ∀ z i, x5 (ix2 z i) = ((A.gq i : ℝ) : EReal)
  gk : ∀ z i, x6 (ix2 z i) = ((A.gk i : ℝ) : EReal)

variable {Y x3 x5 Z x4 x6 A b s} (H : Normed Y x3 x5 Z x4 x6 A b s) (r : Fin 1024) (i : Fin 384) (l : Fin 256) (z : Fin 1)
include H

theorem Normed.pay41 : k0_pay41 (F := Ideal) x3 (ix2 r z) = ((rr 384 (A.cq (b r) (s r)) : ℝ) : EReal) := by
  have kx := H.cq
  pointwise [k0_pay41, k0_pay40, kx]
  rw [ofBits_384, ofBits_eps]
  simp only [← EReal.coe_mul, sum_coe, zero_add, div_real pos384.ne', ← EReal.coe_add]
  exact rsqrt_real (ms_pos (A.cq (b r) (s r)) pos384)

theorem Normed.pay42 : k0_pay42 (F := Ideal) x3 (ix2 r i) = ((hat 384 (A.cq (b r) (s r)) i : ℝ) : EReal) := by
  have kx := H.cq; have p := H.pay41
  pointwise [k0_pay42, k0_pay40, kx, p]
  simp only [← EReal.coe_mul, hat]

theorem Normed.dcq : k0_pay1 (F := Ideal) (k0_pay43 Y x3 x5) (ix2 r i) = ((dcq A (b r) (s r) i : ℝ) : EReal) := by
  have p := H.pay41; have q := H.pay42; have y := H.y; have g := H.gq
  pointwise [k0_pay1, k0_pay43, p, q, y, g]
  rw [ofBits_384]
  simp only [← EReal.coe_mul, sum_coe, zero_add, div_real pos384.ne', ← EReal.coe_sub, Mla.dcq, rmsBwd]

theorem Normed.gqRow : k0_pay44 (F := Ideal) Y x3 (ix2 r i) = ((gqRow A (b r) (s r) i : ℝ) : EReal) := by
  have q := H.pay42; have y := H.y
  pointwise [k0_pay44, q, y]
  simp only [← EReal.coe_mul, Mla.gqRow]

theorem Normed.pay46 : k0_pay46 (F := Ideal) x4 (ix2 r z) = ((rr 256 (A.ckv (b r) (s r)) : ℝ) : EReal) := by
  have kx := H.ckv
  pointwise [k0_pay46, k0_pay45, kx]
  rw [ofBits_256, ofBits_eps]
  simp only [← EReal.coe_mul, sum_coe, zero_add, div_real pos256.ne', ← EReal.coe_add]
  exact rsqrt_real (ms_pos (A.ckv (b r) (s r)) pos256)

theorem Normed.pay47 : k0_pay47 (F := Ideal) x4 (ix2 r l) = ((hat 256 (A.ckv (b r) (s r)) l : ℝ) : EReal) := by
  have kx := H.ckv; have p := H.pay46
  pointwise [k0_pay47, k0_pay45, kx, p]
  simp only [← EReal.coe_mul, hat]

theorem Normed.dckv : k0_pay2 (F := Ideal) (k0_pay46 x4) (k0_pay47 x4) (k0_pay48 Z x6) (k0_pay49 Z x4 x6) k0_pay50 (ix2 r l) = ((dckv A (b r) (s r) l : ℝ) : EReal) := by
  have p := H.pay46; have q := H.pay47; have y := H.z; have g := H.gk
  pointwise [k0_pay2, k0_pay48, k0_pay49, k0_pay50, p, q, y, g]
  rw [ofBits_256]
  simp only [← EReal.coe_mul, sum_coe, zero_add, div_real pos256.ne', ← EReal.coe_sub, Mla.dckv, rmsBwd]

theorem Normed.gq_first : k0_pay3 (F := Ideal) (k0_pay44 Y x3) (ix2 z i) = ((∑ r, Mla.gqRow A (b r) (s r) i : ℝ) : EReal) := by
  have p := H.gqRow
  pointwise [k0_pay3, p]
  simp only [sum_coe, zero_add]

theorem Normed.gk_first : k0_pay5 (F := Ideal) Z (k0_pay47 x4) (ix2 z l) = ((∑ r, gkRow A (b r) (s r) l : ℝ) : EReal) := by
  have p := H.pay47; have y := H.z
  pointwise [k0_pay5, p, y]
  simp only [← EReal.coe_mul, sum_coe, zero_add, gkRow]

end Norms

theorem pay4_eq (u : FVec Ideal S1024x384 .f32) (p : Vec Ideal S1x384 .f32) (z : Fin 1) (i : Fin 384) :
    k0_pay4 (F := Ideal) u p (ix2 z i) = (p (ix2 z i) : EReal) + k0_pay3 (F := Ideal) u (ix2 z i) := by
  pointwise [k0_pay4]
theorem pay6_eq (u v : FVec Ideal S1024x256 .f32) (p : Vec Ideal S1x256 .f32) (z : Fin 1) (l : Fin 256) :
    k0_pay6 (F := Ideal) u v p (ix2 z l) = (p (ix2 z l) : EReal) + k0_pay5 (F := Ideal) u v (ix2 z l) := by
  pointwise [k0_pay6]

/-! ## A point's blocks -/

section Blocks
variable (x0 x1 : Vec Ideal S1024x1024 .f32) (x2 : Vec Ideal S1024x512 .f32) (x3 : Vec Ideal S1024x384 .f32) (x4 : Vec Ideal S1024x256 .f32)
  (x5 : Vec Ideal S1x384 .f32) (x6 : Vec Ideal S1x256 .f32) (x7 : Vec Ideal S1024x384 .bf16) (x8 : Vec Ideal S256x1024 .bf16) (x9 x10 : Vec Ideal S1024x128 .f32)
  (A : Args) (b : Fin 1024 → Fin 2) (s : Fin 1024 → Fin 4096)

/-- The point's blocks hold these reals. -/
structure Holds : Prop where
  q : ∀ r n, x0 (ix2 n r) = ((padQ A (b r) (s r) n : ℝ) : EReal)
  k : ∀ r n, x1 (ix2 r n) = ((padK A (b r) (s r) n : ℝ) : EReal)
  v : ∀ r n, x2 (ix2 r n) = ((rowV A (b r) (s r) n : ℝ) : EReal)
  cq : ∀ r i, x3 (ix2 r i) = ((A.cq (b r) (s r) i : ℝ) : EReal)
  ckv : ∀ r i, x4 (ix2 r i) = ((A.ckv (b r) (s r) i : ℝ) : EReal)
  gq : ∀ z i, x5 (ix2 z i) = ((A.gq i : ℝ) : EReal)
  gk : ∀ z i, x6 (ix2 z i) = ((A.gk i : ℝ) : EReal)
  wq : ∀ n i, x7 (ix2 n i) = ((padWq A n i : ℝ) : EReal)
  wk : ∀ i n, x8 (ix2 i n) = ((colWk A i n : ℝ) : EReal)
  c : ∀ r l, x9 (ix2 r l) = ((padCos (s r) l : ℝ) : EReal)
  n : ∀ r l, x10 (ix2 r l) = ((padSin (s r) l : ℝ) : EReal)

/-- The normed query row's gradient and the normed key row's. -/
def yQ : FVec Ideal S1024x384 .f32 :=
  k0_pay35 (k0_pay26 (k0_pay7 x9) (k0_pay8 x10) (k0_pay19 (k0_pay7 x9) (k0_pay8 x10) (k0_pay12 x9 x10 (View.ld x0 (Rect.unit (s := S1024x1024) ![0, 0] ![256, 1024] inb_S1024x1024_S256x1024_0_0))
    (View.ld x7 (Rect.unit (s := S1024x384) ![0, 0] ![128, 384] inb_S1024x384_S128x384_0_0))
    (View.ld x7 (Rect.unit (s := S1024x384) ![128, 0] ![128, 384] inb_S1024x384_S128x384_128_0)))
    (View.ld x0 (Rect.unit (s := S1024x1024) ![256, 0] ![256, 1024] inb_S1024x1024_S256x1024_256_0))
    (View.ld x7 (Rect.unit (s := S1024x384) ![256, 0] ![128, 384] inb_S1024x384_S128x384_256_0))
    (View.ld x7 (Rect.unit (s := S1024x384) ![384, 0] ![128, 384] inb_S1024x384_S128x384_384_0)))
    (View.ld x0 (Rect.unit (s := S1024x1024) ![512, 0] ![256, 1024] inb_S1024x1024_S256x1024_512_0))
    (View.ld x7 (Rect.unit (s := S1024x384) ![512, 0] ![128, 384] inb_S1024x384_S128x384_512_0))
    (View.ld x7 (Rect.unit (s := S1024x384) ![640, 0] ![128, 384] inb_S1024x384_S128x384_640_0)))
    (k0_pay32 (k0_pay7 x9) (k0_pay8 x10) (View.ld x0 (Rect.unit (s := S1024x1024) ![768, 0] ![256, 1024] inb_S1024x1024_S256x1024_768_0)))
    (k0_pay33 (View.ld x0 (Rect.unit (s := S1024x1024) ![768, 0] ![256, 1024] inb_S1024x1024_S256x1024_768_0))
      (View.ld x7 (Rect.unit (s := S1024x384) ![768, 0] ![128, 384] inb_S1024x384_S128x384_768_0)))
    (k0_pay34 (View.ld x7 (Rect.unit (s := S1024x384) ![896, 0] ![128, 384] inb_S1024x384_S128x384_896_0)))
    (constant S1024x384 .f32 0x00000000#32)
def yK : FVec Ideal S1024x256 .f32 :=
  k0_pay38 (k0_pay28 (k0_pay21 (k0_pay14 (k0_pay13 (View.ld x1 (Rect.unit (s := S1024x1024) ![0, 0] ![1024, 128] inb_S1024x1024_S1024x128_0_0)))
    (View.ld x8 (Rect.unit (s := S256x1024) ![0, 0] ![256, 128] inb_S256x1024_S256x128_0_0)))
    (k0_pay20 (View.ld x1 (Rect.unit (s := S1024x1024) ![0, 256] ![1024, 128] inb_S1024x1024_S1024x128_0_256)))
    (View.ld x8 (Rect.unit (s := S256x1024) ![0, 128] ![256, 128] inb_S256x1024_S256x128_0_128)))
    (View.ld x1 (Rect.unit (s := S1024x1024) ![0, 512] ![1024, 128] inb_S1024x1024_S1024x128_0_512))
    (View.ld x8 (Rect.unit (s := S256x1024) ![0, 256] ![256, 128] inb_S256x1024_S256x128_0_256)))
    (View.ld x1 (Rect.unit (s := S1024x1024) ![0, 768] ![1024, 128] inb_S1024x1024_S1024x128_0_768))
    (View.ld x8 (Rect.unit (s := S256x1024) ![0, 384] ![256, 128] inb_S256x1024_S256x128_0_384)) x2
    (View.ld x8 (Rect.unit (s := S256x1024) ![0, 512] ![256, 512] inb_S256x1024_S256x512_0_512))

variable {x0 x1 x2 x3 x4 x5 x6 x7 x8 x9 x10 A b s} (H : Holds x0 x1 x2 x3 x4 x5 x6 x7 x8 x9 x10 A b s)
  (r : Fin 1024) (k : Fin 128) (i : Fin 384) (l : Fin 256)
include H

theorem Holds.tables : Tables s (k0_pay7 (F := Ideal) x9) (k0_pay8 (F := Ideal) x10) := by
  have hc := H.c; have hn := H.n
  constructor
  · intro r l
    pointwise [k0_pay7, hc]
  · intro r l
    pointwise [k0_pay8, hn]

theorem Holds.head (o : ℕ) (ho : o + 256 ≤ 1024) (h0 h7 h8) :
    Head A b s (View.ld x0 (Rect.unit (s := S1024x1024) ![o, 0] ![256, 1024] h0)) (View.ld x7 (Rect.unit (s := S1024x384) ![o, 0] ![128, 384] h7))
      (View.ld x7 (Rect.unit (s := S1024x384) ![o + 128, 0] ![128, 384] h8)) o ho := by
  have q := H.q; have w := H.wq
  constructor
  · intro j r
    pointwise [q, cut]
  · intro k i
    pointwise [w, cut]
  · intro k i
    pointwise [w, cut]

theorem Holds.key (o : ℕ) (ho : o + 128 ≤ 1024) (h) (r : Fin 1024) (k : Fin 128) :
    (View.ld x1 (Rect.unit (s := S1024x1024) ![0, o] ![1024, 128] h) : Vec Ideal S1024x128 .f32) (ix2 r k) = ((cut 128 o ho (padK A (b r) (s r)) k : ℝ) : EReal) := by
  have q := H.k
  pointwise [q, cut]

theorem Holds.weight (u : ℕ) (hu : u + 128 ≤ 1024) (h) (i : Fin 256) (k : Fin 128) :
    (View.ld x8 (Rect.unit (s := S256x1024) ![0, u] ![256, 128] h) : Vec Ideal S256x128 .bf16) (ix2 i k) = ((cut 128 u hu (colWk A i) k : ℝ) : EReal) := by
  have q := H.wk
  pointwise [q, cut]

theorem Holds.weightV (h) (i : Fin 256) (k : Fin 512) :
    (View.ld x8 (Rect.unit (s := S256x1024) ![0, 512] ![256, 512] h) : Vec Ideal S256x512 .bf16) (ix2 i k) = ((cut 512 512 (by omega) (colWk A i) k : ℝ) : EReal) := by
  have q := H.wk
  pointwise [q, cut]

theorem Holds.yQ_eq : yQ x0 x7 x9 x10 (ix2 r i) = ((dxq A (b r) (s r) i : ℝ) : EReal) := by
  have T := H.tables
  have e0 := (H.head 0 (by norm_num) inb_S1024x1024_S256x1024_0_0 inb_S1024x384_S128x384_0_0 inb_S1024x384_S128x384_128_0).share_eq T r i
  have e1 := (H.head 256 (by norm_num) inb_S1024x1024_S256x1024_256_0 inb_S1024x384_S128x384_256_0 inb_S1024x384_S128x384_384_0).share_eq T r i
  have e2 := (H.head 512 (by norm_num) inb_S1024x1024_S256x1024_512_0 inb_S1024x384_S128x384_512_0 inb_S1024x384_S128x384_640_0).share_eq T r i
  have e3 := (H.head 768 (by norm_num) inb_S1024x1024_S256x1024_768_0 inb_S1024x384_S128x384_768_0 inb_S1024x384_S128x384_896_0).share_eq T r i
  rw [← sumQ_eq, sumQ, EReal.coe_add, EReal.coe_add, EReal.coe_add, ← e0, ← e1, ← e2, ← e3]
  rfl

theorem Holds.yK_eq : yK x1 x2 x8 (ix2 r l) = ((dxk A (b r) (s r) l : ℝ) : EReal) := by
  have part : ∀ (o : ℕ) (ho : o + 128 ≤ 1024) (u : ℕ) (hu : u + 128 ≤ 1024) (h h'), k0_pay14 (F := Ideal)
      (k0_pay13 (View.ld x1 (Rect.unit (s := S1024x1024) ![0, o] ![1024, 128] h))) (View.ld x8 (Rect.unit (s := S256x1024) ![0, u] ![256, 128] h')) (ix2 r l)
      = ((∑ k, cut 128 o ho (padK A (b r) (s r)) k * cut 128 u hu (colWk A l) k : ℝ) : EReal) := fun o ho u hu h h' =>
    pay14_eq _ _ (fun r => cut 128 o ho (padK A (b r) (s r))) (fun i => cut 128 u hu (colWk A i)) (fun r k => (pay13_eq _ r k).trans (H.key o ho h r k))
      (fun i k => H.weight u hu h' i k) r l
  have e0 := part 0 (by norm_num) 0 (by norm_num) inb_S1024x1024_S1024x128_0_0 inb_S256x1024_S256x128_0_0
  have e1 := part 256 (by norm_num) 128 (by norm_num) inb_S1024x1024_S1024x128_0_256 inb_S256x1024_S256x128_0_128
  have e2 := part 512 (by norm_num) 256 (by norm_num) inb_S1024x1024_S1024x128_0_512 inb_S256x1024_S256x128_0_256
  have e3 := part 768 (by norm_num) 384 (by norm_num) inb_S1024x1024_S1024x128_0_768 inb_S256x1024_S256x128_0_384
  have e4 := shareV_eq x2 (View.ld x8 (Rect.unit (s := S256x1024) ![0, 512] ![256, 512] inb_S256x1024_S256x512_0_512)) (fun r => rowV A (b r) (s r))
    (fun i => cut 512 512 (by omega) (colWk A i)) H.v (fun i k => H.weightV _ i k) r l
  rw [← sumK_eq, sumK, partK, partK, partK, partK, partV, EReal.coe_add, EReal.coe_add, EReal.coe_add, EReal.coe_add, ← e0, ← e1, ← e2, ← e3, ← e4]
  rfl

theorem Holds.normed : Normed (yQ x0 x7 x9 x10) x3 x5 (yK x1 x2 x8) x4 x6 A b s :=
  ⟨fun r i => H.yQ_eq r i, fun r l => H.yK_eq r l, H.cq, H.ckv, H.gq, H.gk⟩

theorem Holds.dkr : k0_pay39 (F := Ideal) (k0_pay7 x9) (k0_pay8 x10) (k0_pay29 (k0_pay22 (k0_pay15 (View.ld x1 (Rect.unit (s := S1024x1024) ![0, 128] ![1024, 128] inb_S1024x1024_S1024x128_0_128)))
    (View.ld x1 (Rect.unit (s := S1024x1024) ![0, 384] ![1024, 128] inb_S1024x1024_S1024x128_0_384)))
    (View.ld x1 (Rect.unit (s := S1024x1024) ![0, 640] ![1024, 128] inb_S1024x1024_S1024x128_0_640)))
    (View.ld x1 (Rect.unit (s := S1024x1024) ![0, 896] ![1024, 128] inb_S1024x1024_S1024x128_0_896)) (ix2 r k)
    = ((turn (s r) (rotK A (b r) (s r)) k : ℝ) : EReal) := by
  refine turned_eq (addf (k0_pay29 (F := Ideal) (k0_pay22 (k0_pay15 (View.ld x1 (Rect.unit (s := S1024x1024) ![0, 128] ![1024, 128] inb_S1024x1024_S1024x128_0_128)))
    (View.ld x1 (Rect.unit (s := S1024x1024) ![0, 384] ![1024, 128] inb_S1024x1024_S1024x128_0_384)))
    (View.ld x1 (Rect.unit (s := S1024x1024) ![0, 640] ![1024, 128] inb_S1024x1024_S1024x128_0_640)))
    (shapeCast S1024x128 (View.ld x1 (Rect.unit (s := S1024x1024) ![0, 896] ![1024, 128] inb_S1024x1024_S1024x128_0_896)) shapeCasts_S1024x128_S1024x128)) _ _
    (fun r => rotK A (b r) (s r)) s (fun r k => ?_) H.tables.c H.tables.n r k
  have e0 := H.key 128 (by norm_num) inb_S1024x1024_S1024x128_0_128
  have e1 := H.key 384 (by norm_num) inb_S1024x1024_S1024x128_0_384
  have e2 := H.key 640 (by norm_num) inb_S1024x1024_S1024x128_0_640
  have e3 := H.key 896 (by norm_num) inb_S1024x1024_S1024x128_0_896
  generalize (View.ld x1 (Rect.unit (s := S1024x1024) ![0, 128] ![1024, 128] inb_S1024x1024_S1024x128_0_128) : Vec Ideal S1024x128 .f32) = k0 at e0 ⊢
  generalize (View.ld x1 (Rect.unit (s := S1024x1024) ![0, 384] ![1024, 128] inb_S1024x1024_S1024x128_0_384) : Vec Ideal S1024x128 .f32) = k1 at e1 ⊢
  generalize (View.ld x1 (Rect.unit (s := S1024x1024) ![0, 640] ![1024, 128] inb_S1024x1024_S1024x128_0_640) : Vec Ideal S1024x128 .f32) = k2 at e2 ⊢
  generalize (View.ld x1 (Rect.unit (s := S1024x1024) ![0, 896] ![1024, 128] inb_S1024x1024_S1024x128_0_896) : Vec Ideal S1024x128 .f32) = k3 at e3 ⊢
  pointwise [k0_pay29, k0_pay22, k0_pay15, e0, e1, e2, e3]
  simp only [← EReal.coe_add, rotK]

end Blocks

/-! ## What a point leaves -/

/-- Columns of a block of rows. -/
theorem lands {n f : ℕ} (G : Fin 1024 → Fin 1024 → ℝ) (hf : f + n ≤ 1024) (y : (⟨2, ![1024, n]⟩ : Shape).Idx → EReal) (u : Fin 1024 → Fin n → ℝ) (hr)
    (hy : ∀ r j, y (ix2 r j) = ((u r j : ℝ) : EReal)) (hd : ∀ r j, G r ⟨f + j.val, lt_of_lt_of_le (Nat.add_lt_add_left j.isLt f) hf⟩ = u r j)
    (x : (⟨2, ![1024, n]⟩ : Shape).Idx) : y x = (fun x : S1024x1024.Idx => ((G (x 0) (x 1) : ℝ) : EReal)) ((Rect.unit (s := S1024x1024) ![0, f] ![1024, n] hr).emb x) := by
  obtain ⟨r, j, rfl⟩ : ∃ r j, x = ix2 r j := ⟨x 0, x 1, by funext k; match k with | 0 => rfl | 1 => rfl⟩
  have e0 : (Rect.unit (s := S1024x1024) ![0, f] ![1024, n] hr).emb (ix2 r j) 0 = r :=
    Fin.ext ((Idealize.ShloMosaic.ValueKit.rect_emb_unit_val _ _ _ _ _).trans (Nat.zero_add _))
  have e1 : (Rect.unit (s := S1024x1024) ![0, f] ![1024, n] hr).emb (ix2 r j) 1 = (⟨f + j.val, lt_of_lt_of_le (Nat.add_lt_add_left j.isLt f) hf⟩ : Fin 1024) :=
    Fin.ext (Idealize.ShloMosaic.ValueKit.rect_emb_unit_val _ _ _ _ _)
  rw [hy r j, ← hd r j]
  show _ = ((G _ _ : ℝ) : EReal)
  rw [e0, e1]

section
variable (A : Args) (b : Fin 2) (s : Fin 4096)

theorem rowQ_lo (o : ℕ) (ho : o + 256 ≤ 1024) (h : o % 256 = 0) (k : Fin 128) : rowQ A b s ⟨o + k.val, by omega⟩ = cut 128 o (by omega) (padQ A b s) k :=
  if_pos (by simp only; omega)

theorem rowQ_hi (o : ℕ) (ho : o + 256 ≤ 1024) (h : o % 256 = 0) (l : Fin 128) : rowQ A b s ⟨o + 128 + l.val, by omega⟩ = turnQ A b s o ho l := by
  have m : ∀ (o' : ℕ) (ho' : o' + 256 ≤ 1024) (l' : Fin 128), o' = o → l' = l → turnQ A b s o' ho' l' = turnQ A b s o ho l := by
    rintro o' ho' l' rfl rfl
    rfl
  rw [rowQ, if_neg (by simp only; omega)]
  exact m _ _ _ (by simp only; omega) (Fin.ext (by simp only; omega))

theorem dkv_lo (h : Fin 4) (k : Fin 128) : dkv A b s ⟨128 * h.val + k.val, by omega⟩ = cut 128 (256 * h.val) (by omega) (padK A b s) k := by
  have e : (256 * h.val + k.val) % 256 = k.val := by omega
  have d : (256 * h.val + k.val) / 256 = h.val := by omega
  have e' : (128 * h.val + k.val) % 128 = k.val := by omega
  have d' : (128 * h.val + k.val) / 128 = h.val := by omega
  have lt : 128 * h.val + k.val < 512 := by omega
  simp only [dkv, cut, padK, e, d, e', d', lt, dif_pos, k.isLt]

theorem dkv_hi (n : Fin 512) : dkv A b s ⟨512 + n.val, by omega⟩ = rowV A b s n := by
  have e : 512 + n.val - 512 = n.val := by omega
  have ge : ¬ 512 + n.val < 512 := by omega
  simp only [dkv, rowV, e, ge, not_false_iff, dif_neg]

end

section Point
variable {m : (ℓ : Loc nD τ sig) → Buf (Elt Ideal) ℓ} {c : Dev nD} {t : Fin cfg0.N} {A : Args} {b : Fin 1024 → Fin 2} {s : Fin 1024 → Fin 4096}
  (ht : t.val < 8) (H : Holds (iblk m c 0 t) (iblk m c 1 t) (iblk m c 2 t) (iblk m c 3 t) (iblk m c 4 t) (iblk m c 5 t) (iblk m c 6 t) (iblk m c 7 t)
    (iblk m c 8 t) (iblk m c 9 t) (iblk m c 10 t) A b s)
  (r : Fin 1024) (k : Fin 384) (l : Fin 256) (n : Fin 1024) (z : Fin 1)
include ht H

theorem out11 : (outsAt0 m c t.val t.isLt).1 (ix2 r k) = ((dcq A (b r) (s r) k : ℝ) : EReal) := by
  have e := H.normed.dcq r k
  by_cases g : t.val % 8 = 0
  on_goal 1 => rw [outsAt0_A m c t g (by omega) g (by omega)]
  on_goal 2 => rw [outsAt0_B m c t g (by omega) g (by omega)]
  all_goals
    frame_out
    exact e

theorem out12 : (outsAt0 m c t.val t.isLt).2.1 (ix2 r l) = ((dckv A (b r) (s r) l : ℝ) : EReal) := by
  have e := H.normed.dckv r l
  by_cases g : t.val % 8 = 0
  on_goal 1 => rw [outsAt0_A m c t g (by omega) g (by omega)]
  on_goal 2 => rw [outsAt0_B m c t g (by omega) g (by omega)]
  all_goals
    frame_out
    exact e

theorem out13 (k : Fin 128) : (outsAt0 m c t.val t.isLt).2.2.1 (ix2 r k) = ((turn (s r) (rotK A (b r) (s r)) k : ℝ) : EReal) := by
  have e := H.dkr r k
  by_cases g : t.val % 8 = 0
  on_goal 1 => rw [outsAt0_A m c t g (by omega) g (by omega)]
  on_goal 2 => rw [outsAt0_B m c t g (by omega) g (by omega)]
  all_goals
    frame_out
    exact e

theorem out14 : (outsAt0 m c t.val t.isLt).2.2.2.1 (ix2 r n) = ((rowQ A (b r) (s r) n : ℝ) : EReal) := by
  have T := H.tables
  have h0 := H.head 0 (by norm_num) inb_S1024x1024_S256x1024_0_0 inb_S1024x384_S128x384_0_0 inb_S1024x384_S128x384_128_0
  have h1 := H.head 256 (by norm_num) inb_S1024x1024_S256x1024_256_0 inb_S1024x384_S128x384_256_0 inb_S1024x384_S128x384_384_0
  have h2 := H.head 512 (by norm_num) inb_S1024x1024_S256x1024_512_0 inb_S1024x384_S128x384_512_0 inb_S1024x384_S128x384_640_0
  have h3 := H.head 768 (by norm_num) inb_S1024x1024_S256x1024_768_0 inb_S1024x384_S128x384_768_0 inb_S1024x384_S128x384_896_0
  by_cases g : t.val % 8 = 0
  on_goal 1 => rw [outsAt0_A m c t g (by omega) g (by omega)]
  on_goal 2 => rw [outsAt0_B m c t g (by omega) g (by omega)]
  all_goals
    frame_out
    refine View.canon_apply_of_pieces (Val := Elt Ideal) (S := S1024x1024) (e := .bf16) (fun x => ((rowQ A (b (x 0)) (s (x 0)) (x 1) : ℝ) : EReal)) _ ?_ _
      (View.cover_of_tiledBy (Val := Elt Ideal) (s := S1024x1024) (e := .bf16) _ ![1024, 128] (by sl_kernel_rfl) _)
    simp only [List.forall_mem_cons]
    exact ⟨lands (f := 896) (fun r => rowQ A (b r) (s r)) (by norm_num) _ _ _ (h3.pay18 T) (fun r => rowQ_hi A (b r) (s r) 768 (by norm_num) rfl),
      lands (f := 768) (fun r => rowQ A (b r) (s r)) (by norm_num) _ _ _ h3.pay17 (fun r => rowQ_lo A (b r) (s r) 768 (by norm_num) rfl),
      lands (f := 640) (fun r => rowQ A (b r) (s r)) (by norm_num) _ _ _ (h2.pay18 T) (fun r => rowQ_hi A (b r) (s r) 512 (by norm_num) rfl),
      lands (f := 512) (fun r => rowQ A (b r) (s r)) (by norm_num) _ _ _ h2.pay17 (fun r => rowQ_lo A (b r) (s r) 512 (by norm_num) rfl),
      lands (f := 384) (fun r => rowQ A (b r) (s r)) (by norm_num) _ _ _ (h1.pay18 T) (fun r => rowQ_hi A (b r) (s r) 256 (by norm_num) rfl),
      lands (f := 256) (fun r => rowQ A (b r) (s r)) (by norm_num) _ _ _ h1.pay17 (fun r => rowQ_lo A (b r) (s r) 256 (by norm_num) rfl),
      lands (f := 128) (fun r => rowQ A (b r) (s r)) (by norm_num) _ _ _ (h0.pay18 T) (fun r => rowQ_hi A (b r) (s r) 0 (by norm_num) rfl),
      lands (f := 0) (fun r => rowQ A (b r) (s r)) (by norm_num) _ _ _ h0.pay17 (fun r => rowQ_lo A (b r) (s r) 0 (by norm_num) rfl),
      fun _ h => absurd h (List.not_mem_nil)⟩

theorem out15 : (outsAt0 m c t.val t.isLt).2.2.2.2.1 (ix2 r n) = ((dkv A (b r) (s r) n : ℝ) : EReal) := by
  have p : ∀ (o : ℕ) (ho : o + 128 ≤ 1024) (h) (r : Fin 1024) (k : Fin 128), k0_pay13 (F := Ideal)
      (View.ld (iblk m c 1 t : Vec Ideal S1024x1024 .f32) (Rect.unit (s := S1024x1024) ![0, o] ![1024, 128] h)) (ix2 r k)
      = ((cut 128 o ho (padK A (b r) (s r)) k : ℝ) : EReal) := fun o ho h r k => (pay13_eq _ r k).trans (H.key o ho h r k)
  have pv : ∀ (r : Fin 1024) (k : Fin 512), k0_pay37 (F := Ideal) (iblk m c 2 t : Vec Ideal S1024x512 .f32) (ix2 r k) = ((rowV A (b r) (s r) k : ℝ) : EReal) :=
    fun r k => (pay37_eq _ r k).trans (H.v r k)
  by_cases g : t.val % 8 = 0
  on_goal 1 => rw [outsAt0_A m c t g (by omega) g (by omega)]
  on_goal 2 => rw [outsAt0_B m c t g (by omega) g (by omega)]
  all_goals
    frame_out
    refine View.canon_apply_of_pieces (Val := Elt Ideal) (S := S1024x1024) (e := .bf16) (fun x => ((dkv A (b (x 0)) (s (x 0)) (x 1) : ℝ) : EReal)) _ ?_ _
      (View.cover_of_tiledBy (Val := Elt Ideal) (s := S1024x1024) (e := .bf16) _ ![1024, 128] (by sl_kernel_rfl) _)
    simp only [List.forall_mem_cons]
    exact ⟨lands (f := 512) (fun r => dkv A (b r) (s r)) (by norm_num) _ _ _ pv (fun r => dkv_hi A (b r) (s r)),
      lands (f := 384) (fun r => dkv A (b r) (s r)) (by norm_num) _ _ _ (p 768 (by norm_num) inb_S1024x1024_S1024x128_0_768) (fun r => dkv_lo A (b r) (s r) 3),
      lands (f := 256) (fun r => dkv A (b r) (s r)) (by norm_num) _ _ _ (p 512 (by norm_num) inb_S1024x1024_S1024x128_0_512) (fun r => dkv_lo A (b r) (s r) 2),
      lands (f := 128) (fun r => dkv A (b r) (s r)) (by norm_num) _ _ _ (p 256 (by norm_num) inb_S1024x1024_S1024x128_0_256) (fun r => dkv_lo A (b r) (s r) 1),
      lands (f := 0) (fun r => dkv A (b r) (s r)) (by norm_num) _ _ _ (p 0 (by norm_num) inb_S1024x1024_S1024x128_0_0) (fun r => dkv_lo A (b r) (s r) 0),
      fun _ h => absurd h (List.not_mem_nil)⟩

theorem out16_first (g : t.val = 0) : (outsAt0 m c t.val t.isLt).2.2.2.2.2.1 (ix2 z k) = ((∑ r, gqRow A (b r) (s r) k : ℝ) : EReal) := by
  rw [outsAt0_A m c t (by omega) (by omega) (by omega) (by omega)]
  frame_out
  exact H.normed.gq_first k z

theorem out16_next (g : t.val ≠ 0) (v : ℝ) (hv : (outsAt0 m c (t.val - 1) (Nat.lt_of_le_of_lt (Nat.sub_le _ _) t.isLt)).2.2.2.2.2.1 (ix2 z k) = ((v : ℝ) : EReal)) :
    (outsAt0 m c t.val t.isLt).2.2.2.2.2.1 (ix2 z k) = ((v + ∑ r, gqRow A (b r) (s r) k : ℝ) : EReal) := by
  rw [outsAt0_B m c t (by omega) (by omega) (by omega) (by omega)]
  frame_out
  exact (pay4_eq _ _ z k).trans ((congr (congrArg _ hv) (H.normed.gq_first k z)).trans (EReal.coe_add _ _).symm)

theorem out17_first (g : t.val = 0) : (outsAt0 m c t.val t.isLt).2.2.2.2.2.2 (ix2 z l) = ((∑ r, gkRow A (b r) (s r) l : ℝ) : EReal) := by
  rw [outsAt0_A m c t (by omega) (by omega) (by omega) (by omega)]
  frame_out
  exact H.normed.gk_first l z

theorem out17_next (g : t.val ≠ 0) (v : ℝ) (hv : (outsAt0 m c (t.val - 1) (Nat.lt_of_le_of_lt (Nat.sub_le _ _) t.isLt)).2.2.2.2.2.2 (ix2 z l) = ((v : ℝ) : EReal)) :
    (outsAt0 m c t.val t.isLt).2.2.2.2.2.2 (ix2 z l) = ((v + ∑ r, gkRow A (b r) (s r) l : ℝ) : EReal) := by
  rw [outsAt0_B m c t (by omega) (by omega) (by omega) (by omega)]
  frame_out
  exact (pay6_eq _ _ _ z l).trans ((congr (congrArg _ hv) (H.normed.gk_first l z)).trans (EReal.coe_add _ _).symm)

end Point

end Cert.Mla.Point
-- ==== Proof.MlaArrays.lean ====
/- The preparation gradient's seven final arrays on real arguments. -/
module

public import proofs.«01_k».proof.Proof.MlaPoint
public import proofs.«01_k».proof.Proof.FfnArrays

@[expose] public section

set_option maxRecDepth 16384

noncomputable section

open Idealize.ShloMosaic Idealize.ShloMosaic.TcCoe Idealize.SL.Sem
open Idealize.ShloMosaic.Pipeline (Dat)

namespace Cert.Mla.Arrays

open Cert.MlaBwdIdeal Cert.MlaBwdIdeal.Gen Cert.Lift Cert.Row Cert.Mla.Host Cert.Mla.Point
open Cert.In.Host (flat3_eq flat2_eq)
open Cert.Ffn.Arrays (two)

theorem idx : ∀ t : Fin cfg0.N, win0_0.index t = ![0, t.val] ∧ win0_1.index t = ![t.val, 0] ∧ win0_2.index t = ![t.val, 0] ∧ win0_3.index t = ![t.val, 0] ∧ win0_4.index t = ![t.val, 0]
    ∧ win0_11.index t = ![t.val, 0] ∧ win0_12.index t = ![t.val, 0] ∧ win0_13.index t = ![t.val, 0] ∧ win0_14.index t = ![t.val, 0] ∧ win0_15.index t = ![t.val, 0]
    ∧ win0_5.index t = ![0, 0] ∧ win0_6.index t = ![0, 0] ∧ win0_7.index t = ![0, 0] ∧ win0_8.index t = ![0, 0]
    ∧ win0_16.index t = ![0, 0] ∧ win0_17.index t = ![0, 0] ∧ win0_9.index t = ![t.val % 4, 0] ∧ win0_10.index t = ![t.val % 4, 0] :=
  (by decide +kernel : ∀ t : Fin grid0.N, _)

theorem t_lt (t : Fin cfg0.N) : t.val < 8 := lt_of_lt_of_eq t.isLt N_0

/-- A tile's row among all rows. -/
def R (i : ℕ) : Fin 1024 → Fin 8192 := tileRow 8 1024 (by norm_num) i

theorem R_val (t : Fin cfg0.N) (r : Fin 1024) : (R t.val r).val = t.val * 1024 + r.val := by
  simp only [R, tileRow, Nat.mod_eq_of_lt (t_lt t)]

theorem S_val (t : Fin cfg0.N) (r : Fin 1024) : (rowS (R t.val r)).val = t.val % 4 * 1024 + r.val := by
  have h := R_val t r
  show (R t.val r).val % 4096 = _
  omega

/-! ## Where a block's elements lie -/

section
variable (t : Fin cfg0.N) (r n : Fin 1024) (z : Fin 1) (i : Fin 384) (l : Fin 256) (k : Fin 128)

theorem emb0 : (win0_0.blk t).view.emb (ix2 n r) = ix2 n (R t.val r) := by
  blk_ext [idx t] <;> simp only [R_val, Nat.zero_add]
theorem emb1 (j : Fin 1024) : (win0_1.blk t).view.emb (ix2 r j) = ix2 (R t.val r) j := by
  blk_ext [idx t] <;> simp only [R_val, Nat.zero_add]
theorem emb2 (j : Fin 512) : (win0_2.blk t).view.emb (ix2 r j) = ix2 (R t.val r) j := by
  blk_ext [idx t] <;> simp only [R_val, Nat.zero_add]
theorem emb3 (j : Fin 384) : (win0_3.blk t).view.emb (ix2 r j) = ix2 (R t.val r) j := by
  blk_ext [idx t] <;> simp only [R_val, Nat.zero_add]
theorem emb4 (j : Fin 256) : (win0_4.blk t).view.emb (ix2 r j) = ix2 (R t.val r) j := by
  blk_ext [idx t] <;> simp only [R_val, Nat.zero_add]
theorem emb11 (j : Fin 384) : (win0_11.blk t).view.emb (ix2 r j) = ix2 (R t.val r) j := by
  blk_ext [idx t] <;> simp only [R_val, Nat.zero_add]
theorem emb12 (j : Fin 256) : (win0_12.blk t).view.emb (ix2 r j) = ix2 (R t.val r) j := by
  blk_ext [idx t] <;> simp only [R_val, Nat.zero_add]
theorem emb13 (j : Fin 128) : (win0_13.blk t).view.emb (ix2 r j) = ix2 (R t.val r) j := by
  blk_ext [idx t] <;> simp only [R_val, Nat.zero_add]
theorem emb14 (j : Fin 1024) : (win0_14.blk t).view.emb (ix2 r j) = ix2 (R t.val r) j := by
  blk_ext [idx t] <;> simp only [R_val, Nat.zero_add]
theorem emb15 (j : Fin 1024) : (win0_15.blk t).view.emb (ix2 r j) = ix2 (R t.val r) j := by
  blk_ext [idx t] <;> simp only [R_val, Nat.zero_add]
theorem emb5 (a : Fin 1) (j : Fin 384) : (win0_5.blk t).view.emb (ix2 a j) = ix2 a j := by
  blk_ext [idx t]
theorem emb6 (a : Fin 1) (j : Fin 256) : (win0_6.blk t).view.emb (ix2 a j) = ix2 a j := by
  blk_ext [idx t]
theorem emb7 (a : Fin 1024) (j : Fin 384) : (win0_7.blk t).view.emb (ix2 a j) = ix2 a j := by
  blk_ext [idx t]
theorem emb8 (a : Fin 256) (j : Fin 1024) : (win0_8.blk t).view.emb (ix2 a j) = ix2 a j := by
  blk_ext [idx t]
theorem emb16 (a : Fin 1) (j : Fin 384) : (win0_16.blk t).view.emb (ix2 a j) = ix2 a j := by
  blk_ext [idx t]
theorem emb17 (a : Fin 1) (j : Fin 256) : (win0_17.blk t).view.emb (ix2 a j) = ix2 a j := by
  blk_ext [idx t]
theorem emb9 : (win0_9.blk t).view.emb (ix2 r k) = ix2 (rowS (R t.val r)) k := by
  blk_ext [idx t] <;> simp only [S_val, Nat.zero_add]
theorem emb10 : (win0_10.blk t).view.emb (ix2 r k) = ix2 (rowS (R t.val r)) k := by
  blk_ext [idx t] <;> simp only [S_val, Nat.zero_add]
end

/-! ## Each block is its operand read at the block's places -/

section
variable (c : Dev nD) (t : Fin cfg0.N) (f : (b : Ref sig .tc) → Buf (Elt Ideal) ((c : Thread nD τ).loc b))

theorem read0 (a : Fin 1024) (j : Fin 1024) : ((cfg0.win 0).blk t).view.read (Elt Ideal) (f (Pipeline.arrRef spec0 0)) (ix2 a j) = f main_v40 ((win0_0.blk t).view.emb (ix2 a j)) := rfl
theorem read1 (a : Fin 1024) (j : Fin 1024) : ((cfg0.win 1).blk t).view.read (Elt Ideal) (f (Pipeline.arrRef spec0 1)) (ix2 a j) = f main_v44 ((win0_1.blk t).view.emb (ix2 a j)) := rfl
theorem read2 (a : Fin 1024) (j : Fin 512) : ((cfg0.win 2).blk t).view.read (Elt Ideal) (f (Pipeline.arrRef spec0 2)) (ix2 a j) = f main_v45 ((win0_2.blk t).view.emb (ix2 a j)) := rfl
theorem read3 (a : Fin 1024) (j : Fin 384) : ((cfg0.win 3).blk t).view.read (Elt Ideal) (f (Pipeline.arrRef spec0 3)) (ix2 a j) = f main_v46 ((win0_3.blk t).view.emb (ix2 a j)) := rfl
theorem read4 (a : Fin 1024) (j : Fin 256) : ((cfg0.win 4).blk t).view.read (Elt Ideal) (f (Pipeline.arrRef spec0 4)) (ix2 a j) = f main_v47 ((win0_4.blk t).view.emb (ix2 a j)) := rfl
theorem read5 (a : Fin 1) (j : Fin 384) : ((cfg0.win 5).blk t).view.read (Elt Ideal) (f (Pipeline.arrRef spec0 5)) (ix2 a j) = f main_arg6 ((win0_5.blk t).view.emb (ix2 a j)) := rfl
theorem read6 (a : Fin 1) (j : Fin 256) : ((cfg0.win 6).blk t).view.read (Elt Ideal) (f (Pipeline.arrRef spec0 6)) (ix2 a j) = f main_arg8 ((win0_6.blk t).view.emb (ix2 a j)) := rfl
theorem read7 (a : Fin 1024) (j : Fin 384) : ((cfg0.win 7).blk t).view.read (Elt Ideal) (f (Pipeline.arrRef spec0 7)) (ix2 a j) = f main_v5 ((win0_7.blk t).view.emb (ix2 a j)) := rfl
theorem read8 (a : Fin 256) (j : Fin 1024) : ((cfg0.win 8).blk t).view.read (Elt Ideal) (f (Pipeline.arrRef spec0 8)) (ix2 a j) = f main_v13 ((win0_8.blk t).view.emb (ix2 a j)) := rfl
theorem read9 (a : Fin 1024) (j : Fin 128) : ((cfg0.win 9).blk t).view.read (Elt Ideal) (f (Pipeline.arrRef spec0 9)) (ix2 a j) = f main_v34 ((win0_9.blk t).view.emb (ix2 a j)) := rfl
theorem read10 (a : Fin 1024) (j : Fin 128) : ((cfg0.win 10).blk t).view.read (Elt Ideal) (f (Pipeline.arrRef spec0 10)) (ix2 a j) = f main_v36 ((win0_10.blk t).view.emb (ix2 a j)) := rfl
end

/-! ## The blocks at a point -/

section
variable (m : (ℓ : Loc nD τ sig) → Buf (Elt Ideal) ℓ) (c : Dev nD) (A : Args)

/-- The arguments hold the reals `A`. -/
structure On : Prop where
  q : m ((c : Thread nD τ).loc main_arg0) = Host.X0 A
  n : m ((c : Thread nD τ).loc main_arg1) = Host.X1 A
  k : m ((c : Thread nD τ).loc main_arg2) = Host.X2 A
  v : m ((c : Thread nD τ).loc main_arg3) = Host.X3 A
  cq : m ((c : Thread nD τ).loc main_arg4) = Host.X4 A
  ckv : m ((c : Thread nD τ).loc main_arg5) = Host.X5 A
  gq : m ((c : Thread nD τ).loc main_arg6) = Host.X6 A
  wq : m ((c : Thread nD τ).loc main_arg7) = Host.X7 A
  gk : m ((c : Thread nD τ).loc main_arg8) = Host.X8 A
  wk : m ((c : Thread nD τ).loc main_arg9) = Host.X9 A

variable {m c A} (O : On m c A) (t : Fin cfg0.N)
include O

theorem holds : Holds (iblk m c 0 t) (iblk m c 1 t) (iblk m c 2 t) (iblk m c 3 t) (iblk m c 4 t) (iblk m c 5 t) (iblk m c 6 t) (iblk m c 7 t) (iblk m c 8 t) (iblk m c 9 t) (iblk m c 10 t) A
    (fun r => rowB (R t.val r)) (fun r => rowS (R t.val r)) := by
  constructor
  · intro r n
    refine (read0 c t (V m c) n r).trans ?_
    rw [emb0, V_q, O.q]
    exact q_eq A (R t.val r) n
  · intro r n
    refine (read1 c t (V m c) r n).trans ?_
    rw [emb1, V_k, O.n, O.k]
    exact k_eq A (R t.val r) n
  · intro r n
    refine (read2 c t (V m c) r n).trans ?_
    rw [emb2, V_v, O.v]
    exact v_eq A (R t.val r) n
  · intro r i
    refine (read3 c t (V m c) r i).trans ?_
    rw [emb3, V_cq, O.cq]
    exact flat3_eq _ A.cq (Host.X4 A) (fun _ _ _ => rfl) i
  · intro r i
    refine (read4 c t (V m c) r i).trans ?_
    rw [emb4, V_ckv, O.ckv]
    exact flat2_eq _ A.ckv (Host.X5 A) (fun _ _ _ => rfl) i
  · intro z i
    refine (read5 c t (V m c) z i).trans ?_
    rw [emb5, V_gq, O.gq]
    exact rfl
  · intro z i
    refine (read6 c t (V m c) z i).trans ?_
    rw [emb6, V_gk, O.gk]
    exact rfl
  · intro n i
    refine (read7 c t (V m c) n i).trans ?_
    rw [emb7, V_wq, O.wq]
    exact wQ_eq A n i
  · intro i n
    refine (read8 c t (V m c) i n).trans ?_
    rw [emb8, V_wk, O.wk]
    exact wK_eq A n i
  · intro r l
    refine (read9 c t (V m c) r l).trans ?_
    rw [emb9, V_cos]
    exact cosT_eq _ l
  · intro r l
    refine (read10 c t (V m c) r l).trans ?_
    rw [emb10, V_sin]
    exact sinT_eq _ l

/-! ## The results -/

def G11 (A : Args) : FVec Ideal S8192x384 .bf16 := fun i => ((dcq A (rowB (i 0)) (rowS (i 0)) (i 1) : ℝ) : EReal)
def G12 (A : Args) : FVec Ideal S8192x256 .bf16 := fun i => ((dckv A (rowB (i 0)) (rowS (i 0)) (i 1) : ℝ) : EReal)
def G13 (A : Args) : FVec Ideal S8192x128 .bf16 := fun i => ((turn (rowS (i 0)) (rotK A (rowB (i 0)) (rowS (i 0))) (i 1) : ℝ) : EReal)
def G14 (A : Args) : FVec Ideal S8192x1024 .bf16 := fun i => ((rowQ A (rowB (i 0)) (rowS (i 0)) (i 1) : ℝ) : EReal)
def G15 (A : Args) : FVec Ideal S8192x1024 .bf16 := fun i => ((dkv A (rowB (i 0)) (rowS (i 0)) (i 1) : ℝ) : EReal)
def G16 (A : Args) : FVec Ideal S1x384 .f32 := fun i => ((dgq A (i 1) : ℝ) : EReal)
def G17 (A : Args) : FVec Ideal S1x256 .f32 := fun i => ((dgk A (i 1) : ℝ) : EReal)

/-! ## The running sums -/

omit O in
theorem tot (f : Fin 2 → Fin 4096 → ℝ) : ∑ i ∈ Finset.range 8, ∑ r, f (rowB (R i r)) (rowS (R i r)) = ∑ b, ∑ s, f b s :=
  (sum_tiles 8 1024 (by norm_num) fun r => f (rowB r) (rowS r)).trans (sum_rows f)

theorem run16 (z : Fin 1) (k : Fin 384) : ∀ (n : ℕ) (hn : n < cfg0.N), (outsAt0 m c n hn).2.2.2.2.2.1 (ix2 z k)
    = ((∑ i ∈ Finset.range (n + 1), ∑ r, gqRow A (rowB (R i r)) (rowS (R i r)) k : ℝ) : EReal)
  | 0, hn => by
    rw [Finset.sum_range_one]
    exact out16_first (t_lt ⟨0, hn⟩) (holds O ⟨0, hn⟩) k z rfl
  | n + 1, hn => by
    rw [Finset.sum_range_succ]
    exact out16_next (t_lt ⟨n + 1, hn⟩) (holds O ⟨n + 1, hn⟩) k z (Nat.succ_ne_zero n) _ (run16 z k n (Nat.lt_of_succ_lt hn))

omit O in
theorem flushLast16 : ∀ t : Fin cfg0.N, (cfg0.win 16).flush t = true → t.val = 7 :=
  (by decide +kernel : ∀ t : Fin grid0.N, (cfg0.win 16).flush t = true → t.val = 7)

theorem run17 (z : Fin 1) (k : Fin 256) : ∀ (n : ℕ) (hn : n < cfg0.N), (outsAt0 m c n hn).2.2.2.2.2.2 (ix2 z k)
    = ((∑ i ∈ Finset.range (n + 1), ∑ r, gkRow A (rowB (R i r)) (rowS (R i r)) k : ℝ) : EReal)
  | 0, hn => by
    rw [Finset.sum_range_one]
    exact out17_first (t_lt ⟨0, hn⟩) (holds O ⟨0, hn⟩) k z rfl
  | n + 1, hn => by
    rw [Finset.sum_range_succ]
    exact out17_next (t_lt ⟨n + 1, hn⟩) (holds O ⟨n + 1, hn⟩) k z (Nat.succ_ne_zero n) _ (run17 z k n (Nat.lt_of_succ_lt hn))

omit O in
theorem flushLast17 : ∀ t : Fin cfg0.N, (cfg0.win 17).flush t = true → t.val = 7 :=
  (by decide +kernel : ∀ t : Fin grid0.N, (cfg0.win 17).flush t = true → t.val = 7)

/-! ## The final arrays -/

theorem arr11 : (dats m 0 c).arrAt 11 cfg0.N = G11 A := by
  refine (dats m 0 c).arrAt_eq_of_covers 11 (G11 A) (by decide +kernel) fun t hf y => ?_
  obtain ⟨r, k, rfl⟩ := two (n := 1024) (k := 384) y
  rw [after0_11]
  exact (out11 (t_lt t) (holds O t) r k).trans (congrArg (G11 A) (emb11 t r k)).symm

theorem arr12 : (dats m 0 c).arrAt 12 cfg0.N = G12 A := by
  refine (dats m 0 c).arrAt_eq_of_covers 12 (G12 A) (by decide +kernel) fun t hf y => ?_
  obtain ⟨r, k, rfl⟩ := two (n := 1024) (k := 256) y
  rw [after0_12]
  exact (out12 (t_lt t) (holds O t) r k).trans (congrArg (G12 A) (emb12 t r k)).symm

theorem arr13 : (dats m 0 c).arrAt 13 cfg0.N = G13 A := by
  refine (dats m 0 c).arrAt_eq_of_covers 13 (G13 A) (by decide +kernel) fun t hf y => ?_
  obtain ⟨r, k, rfl⟩ := two (n := 1024) (k := 128) y
  rw [after0_13]
  exact (out13 (t_lt t) (holds O t) r k).trans (congrArg (G13 A) (emb13 t r k)).symm

theorem arr14 : (dats m 0 c).arrAt 14 cfg0.N = G14 A := by
  refine (dats m 0 c).arrAt_eq_of_covers 14 (G14 A) (by decide +kernel) fun t hf y => ?_
  obtain ⟨r, k, rfl⟩ := two (n := 1024) (k := 1024) y
  rw [after0_14]
  exact (out14 (t_lt t) (holds O t) r k).trans (congrArg (G14 A) (emb14 t r k)).symm

theorem arr15 : (dats m 0 c).arrAt 15 cfg0.N = G15 A := by
  refine (dats m 0 c).arrAt_eq_of_covers 15 (G15 A) (by decide +kernel) fun t hf y => ?_
  obtain ⟨r, k, rfl⟩ := two (n := 1024) (k := 1024) y
  rw [after0_15]
  exact (out15 (t_lt t) (holds O t) r k).trans (congrArg (G15 A) (emb15 t r k)).symm

theorem arr16 : (dats m 0 c).arrAt 16 cfg0.N = G16 A := by
  refine (dats m 0 c).arrAt_eq_of_covers 16 (G16 A) (by decide +kernel) fun t hf y => ?_
  obtain ⟨z, k, rfl⟩ := two (n := 1) (k := 384) y
  rw [after0_16]
  refine (run16 (A := A) O z k t.val t.isLt).trans ((congrArg (fun v : ℝ => (v : EReal)) ?_).trans (congrArg (G16 A) (emb16 t z k)).symm)
  rw [flushLast16 t hf]
  exact tot fun b s => gqRow A b s k

theorem arr17 : (dats m 0 c).arrAt 17 cfg0.N = G17 A := by
  refine (dats m 0 c).arrAt_eq_of_covers 17 (G17 A) (by decide +kernel) fun t hf y => ?_
  obtain ⟨z, k, rfl⟩ := two (n := 1) (k := 256) y
  rw [after0_17]
  refine (run17 (A := A) O z k t.val t.isLt).trans ((congrArg (fun v : ℝ => (v : EReal)) ?_).trans (congrArg (G17 A) (emb17 t z k)).symm)
  rw [flushLast17 t hf]
  exact tot fun b s => gkRow A b s k

end

/-! ## The rotary lanes that the step keeps -/

def G49 (A : Args) : FVec Ideal S8192x64 .bf16 := fun i => ((dkr A (rowB (i 0)) (rowS (i 0)) (i 1) : ℝ) : EReal)
def G51 (A : Args) : FVec Ideal S8192x4x192 .bf16 := fun i => ((dqp A (rowB (i 0)) (rowS (i 0)) (i 1) (i 2) : ℝ) : EReal)

theorem slice49 (A : Args) : (extractStridedSlice S8192x64 ![0, 0] (G13 A) slices_S8192x128_S8192x64_0_0 : FVec Ideal S8192x64 .bf16) = G49 A := by
  funext i
  obtain ⟨r, k, rfl⟩ := two (n := 8192) (k := 64) i
  refine Eq.trans ?_ (congrArg (fun x : ℝ => (x : EReal)) (rotK_eq A (rowB r) (rowS r) k))
  pointwise [G13]

theorem slice51 (A : Args) : (extractStridedSlice S8192x4x192 ![0, 0, 0] (shapeCast S8192x4x256 (G14 A) shapeCasts_S8192x1024_S8192x4x256)
    slices_S8192x4x256_S8192x4x192_0_0_0 : FVec Ideal S8192x4x192 .bf16) = G51 A := by
  funext i
  obtain ⟨r, h, k, rfl⟩ : ∃ (r : Fin 8192) (h : Fin 4) (k : Fin 192), i = ix3 r h k := ⟨i 0, i 1, i 2, by funext k; match k with | 0 => rfl | 1 => rfl | 2 => rfl⟩
  refine Eq.trans ?_ (congrArg (fun x : ℝ => (x : EReal)) (rowQ_eq A (rowB r) (rowS r) h k))
  pointwise [G14]
  exact congrArg (fun n : Fin 1024 => ((rowQ A (rowB r) (rowS r) n : ℝ) : EReal)) (Fin.ext (by simp only; omega))

end Cert.Mla.Arrays
-- ==== Proof.MlaTurn.lean ====
/- The reference of the queries', keys' and values' gradient on real arguments: the turn back, the projections' rows and
   the three results that are those rows. -/
module

public import proofs.«01_k».proof.Proof.MlaSpec
public import proofs.«01_k».proof.Proof.AttSpec
public import proofs.«01_k».proof.Proof.OutSpec
public import proofs.«01_k».proof.Proof.Gen.MlaRefIdeal.Read

@[expose] public section

set_option maxRecDepth 16384

noncomputable section

open Idealize.ShloMosaic Idealize.ShloMosaic.TcCoe Idealize.SL.Sem

namespace Cert.Mla.Ref

open Cert.MlaRefIdeal Cert.MlaRefIdeal.Read Cert.Lift Cert.Row

/-- The arguments' arrays. -/
def X0 (A : Args) : (⟨S2x4096x4x192, .f32⟩ : BufTy).Contents (Elt Ideal) := fun i => ((A.q (i 0) (i 1) (i 2) (i 3) : ℝ) : EReal)
def X1 (A : Args) : (⟨S2x4096x4x128, .f32⟩ : BufTy).Contents (Elt Ideal) := fun i => ((A.n (i 0) (i 1) (i 2) (i 3) : ℝ) : EReal)
def X2 (A : Args) : (⟨S2x4096x4x64, .f32⟩ : BufTy).Contents (Elt Ideal) := fun i => ((A.k (i 0) (i 1) (i 2) (i 3) : ℝ) : EReal)
def X3 (A : Args) : (⟨S2x4096x4x128, .f32⟩ : BufTy).Contents (Elt Ideal) := fun i => ((A.v (i 0) (i 1) (i 2) (i 3) : ℝ) : EReal)
def X4 (A : Args) : (⟨S2x4096x384, .f32⟩ : BufTy).Contents (Elt Ideal) := fun i => ((A.cq (i 0) (i 1) (i 2) : ℝ) : EReal)
def X5 (A : Args) : (⟨S2x4096x256, .f32⟩ : BufTy).Contents (Elt Ideal) := fun i => ((A.ckv (i 0) (i 1) (i 2) : ℝ) : EReal)
def X6 (A : Args) : (⟨S1x384, .f32⟩ : BufTy).Contents (Elt Ideal) := fun i => ((A.gq (i 1) : ℝ) : EReal)
def X7 (A : Args) : (⟨S1x384x768, .f32⟩ : BufTy).Contents (Elt Ideal) := fun i => ((A.wq (i 1) (i 2) : ℝ) : EReal)
def X8 (A : Args) : (⟨S1x256, .f32⟩ : BufTy).Contents (Elt Ideal) := fun i => ((A.gk (i 1) : ℝ) : EReal)
def X9 (A : Args) : (⟨S1x256x1024, .f32⟩ : BufTy).Contents (Elt Ideal) := fun i => ((A.wk (i 1) (i 2) : ℝ) : EReal)

variable (A : Args) (b : Fin 2) (s : Fin 4096) (h : Fin 4) (i : Fin 384) (l : Fin 256) (j : Fin 32) (z : Fin 1)

theorem pos : (0 : ℝ) < 384 := by norm_num
theorem pos64 : (0 : ℝ) < 64 := by norm_num
theorem pos2 : (0 : ℝ) < 256 := by norm_num

/-! ## The tables -/

theorem pow_ne (y : ℝ) : (10000 : ℝ) ^ y ≠ 0 := (Real.rpow_pos_of_pos (by norm_num) y).ne'

theorem v47_eq : val_main_v47 (F := Ideal) (ix1 j) = (((10000 : ℝ) ^ (2 * (j.val : ℝ) / 64) : ℝ) : EReal) := by
  pointwise [val_main_v47, val_main_v46, val_main_cst_11, val_main_v45, val_main_v44, val_main_cst_10, val_main_v43, val_main_v42, val_main_cst_9, val_main_v41,
    val_main_v40, val_main_cst_8, val_main_v39]
  rw [ofBits_theta, Out.ofBits_64, ofBits_two, sitofp_real _ (by omega), ← EReal.coe_mul, div_real pos64.ne']
  exact Ideal.pow_coe_coe _ _

theorem v55_eq : val_main_v55 (F := Ideal) (ix2 s j) = ((ang s j : ℝ) : EReal) := by
  pointwise [val_main_v55, val_main_v54, val_main_v53, val_main_v52, val_main_v51, val_main_v50, val_main_v49, val_main_v48, val_main_cst_12, v47_eq]
  rw [sitofp_real _ s.isLt, ← EReal.coe_one, div_real (pow_ne _), ← EReal.coe_mul, ang]

theorem v56_eq : val_main_v56 (F := Ideal) (ix2 s j) = ((cs s j : ℝ) : EReal) := by
  pointwise [val_main_v56, v55_eq]
  rfl
theorem v57_eq : val_main_v57 (F := Ideal) (ix2 s j) = ((sn s j : ℝ) : EReal) := by
  pointwise [val_main_v57, v55_eq]
  rfl

/-! ## The turn back -/

theorem v105_eq (k : Fin 64) : val_main_v105 (F := Ideal) (X2 A) (ix3 b s k) = ((∑ h, A.k b s h k : ℝ) : EReal) := by
  pointwise [val_main_v105, val_main_v104, val_main_v103, val_main_cst_13, val_main_cst_14, X2]
  simp only [sum_coe, zero_add, Finset.univ_unique, Finset.sum_singleton]

theorem v120_eq : val_main_v120 (F := Ideal) (X2 A) (ix3 b s j)
    = (((∑ h, A.k b s h ⟨j.val + 32, by omega⟩) * sn s j + (∑ h, A.k b s h ⟨j.val, by omega⟩) * cs s j : ℝ) : EReal) := by
  pointwise [val_main_v120, val_main_v119, val_main_v118, val_main_v113, val_main_v112, val_main_v109, val_main_v108, val_main_v92, val_main_v85, v105_eq, v56_eq, v57_eq]
  simp only [← EReal.coe_mul, ← EReal.coe_add, add_comm 32]

theorem v117_eq : val_main_v117 (F := Ideal) (X2 A) (ix3 b s j)
    = (((∑ h, A.k b s h ⟨j.val + 32, by omega⟩) * cs s j + -(∑ h, A.k b s h ⟨j.val, by omega⟩) * sn s j : ℝ) : EReal) := by
  pointwise [val_main_v117, val_main_v116, val_main_v115, val_main_v114, val_main_v111, val_main_v110, val_main_v109, val_main_v108, val_main_v95, val_main_v88, v105_eq, v56_eq, v57_eq]
  simp only [← EReal.coe_neg, ← EReal.coe_mul, ← EReal.coe_add, add_comm 32]

theorem v121_eq (k : Fin 64) : val_main_v121 (F := Ideal) (X2 A) (ix3 b s k) = ((dkr A b s k : ℝ) : EReal) := by
  pointwise [val_main_v121, v120_eq, v117_eq]
  rw [dkr, back]
  by_cases e : k.val < 32
  · simp only [dif_pos e]
  · have f : (⟨k.val - 32 + 32, by omega⟩ : Fin 64) = k := Fin.ext (by simp only; omega)
    simp [e, f]

theorem v134_eq : val_main_v134 (F := Ideal) (X0 A) (ix4 b s h j)
    = ((A.q b s h ⟨j.val + 32 + 128, by omega⟩ * sn s j + A.q b s h ⟨j.val + 128, by omega⟩ * cs s j : ℝ) : EReal) := by
  pointwise [val_main_v134, val_main_v133, val_main_v132, val_main_v127, val_main_v126, val_main_v123, val_main_v122, val_main_v107, val_main_v75, val_main_v68,
    val_main_v64, val_main_v65, v56_eq, v57_eq, X0]
  simp only [← EReal.coe_mul, ← EReal.coe_add, add_comm 32, add_comm 128]

theorem v131_eq : val_main_v131 (F := Ideal) (X0 A) (ix4 b s h j)
    = ((A.q b s h ⟨j.val + 32 + 128, by omega⟩ * cs s j + -A.q b s h ⟨j.val + 128, by omega⟩ * sn s j : ℝ) : EReal) := by
  pointwise [val_main_v131, val_main_v130, val_main_v129, val_main_v128, val_main_v125, val_main_v124, val_main_v123, val_main_v122, val_main_v107, val_main_v78, val_main_v71,
    val_main_v64, val_main_v65, v56_eq, v57_eq, X0]
  simp only [← EReal.coe_neg, ← EReal.coe_mul, ← EReal.coe_add, add_comm 32, add_comm 128]

theorem v135_eq (k : Fin 64) : val_main_v135 (F := Ideal) (X0 A) (ix4 b s h k)
    = ((back s (fun j => A.q b s h ⟨j.val + 128, by omega⟩) k : ℝ) : EReal) := by
  pointwise [val_main_v135, v134_eq, v131_eq]
  rw [back]
  by_cases e : k.val < 32
  · simp only [dif_pos e]
  · have f : k.val - 32 + 32 = k.val := by omega
    simp [e, f]

theorem v142_eq (k : Fin 192) : val_main_v142 (F := Ideal) (X0 A) (ix4 b s h k) = ((dqp A b s h k : ℝ) : EReal) := by
  pointwise [val_main_v142, val_main_v141, val_main_v140, val_main_v106, val_main_cst_17, val_main_cst_18, v135_eq, X0]
  rw [dqp]
  by_cases e : k.val < 128
  · rw [dif_neg (by omega), dif_pos e, dif_pos e, zero_add]
  · rw [dif_pos (by omega), dif_neg e, dif_neg e, add_zero]

theorem v143_eq (c : Fin 768) : val_main_v143 (F := Ideal) (X0 A) (ix3 b s c)
    = ((dqp A b s ⟨c.val / 192, by omega⟩ ⟨c.val % 192, by omega⟩ : ℝ) : EReal) := by
  pointwise [val_main_v143, v142_eq]

theorem v138_eq (k : Fin 256) : val_main_v138 (F := Ideal) (X1 A) (X3 A) (ix4 b s h k) = ((dkp A b s h k : ℝ) : EReal) := by
  pointwise [val_main_v138, val_main_v137, val_main_v136, val_main_cst_15, val_main_cst_16, X1, X3]
  rw [dkp]
  by_cases e : k.val < 128
  · rw [dif_neg (by omega), dif_pos e, dif_pos e, zero_add]
  · rw [dif_pos (by omega), dif_neg e, dif_neg e, add_zero]

theorem v139_eq (c : Fin 1024) : val_main_v139 (F := Ideal) (X1 A) (X3 A) (ix3 b s c)
    = ((dkp A b s ⟨c.val / 256, by omega⟩ ⟨c.val % 256, by omega⟩ : ℝ) : EReal) := by
  pointwise [val_main_v139, v138_eq]

/-! ## The results -/

variable (r : Fin 8192)

theorem v200_eq (k : Fin 64) : val_main_v200 (F := Ideal) (X2 A) (ix2 r k) = ((dkr A (rowB r) (rowS r) k : ℝ) : EReal) := by
  pointwise [val_main_v200, val_main_v199, v121_eq]
  rfl
theorem v202_eq (k : Fin 192) : val_main_v202 (F := Ideal) (X0 A) (ix3 r h k) = ((dqp A (rowB r) (rowS r) h k : ℝ) : EReal) := by
  pointwise [val_main_v202, val_main_v201, v143_eq]
  have e : (h.val * 192 + k.val) / 192 = h.val := by omega
  have f : (h.val * 192 + k.val) % 192 = k.val := by omega
  simp only [e, f]
  rfl
theorem v208_eq (n : Fin 1024) : val_main_v208 (F := Ideal) (X1 A) (X3 A) (ix2 r n) = ((dkv A (rowB r) (rowS r) n : ℝ) : EReal) := by
  pointwise [val_main_v208, val_main_v207, val_main_v206, val_main_v205, val_main_v204, val_main_v203, val_main_v194, v139_eq]
  rw [dkv]
  by_cases e : n.val < 512
  · have f : (n.val / 128 * 256 + n.val % 128) / 256 = n.val / 128 := by omega
    have g : (n.val / 128 * 256 + n.val % 128) % 256 = n.val % 128 := by omega
    simp only [dif_pos e, f, g, dkp, dif_pos (Nat.mod_lt n.val (by norm_num : 0 < 128))]
    rfl
  · have f : ((n.val - 512) / 128 * 256 + (128 + (n.val - 512) % 128)) / 256 = (n.val - 512) / 128 := by omega
    have g : ((n.val - 512) / 128 * 256 + (128 + (n.val - 512) % 128)) % 256 = 128 + (n.val - 512) % 128 := by omega
    simp only [dif_neg e, f, g, dkp, dif_neg (show ¬ 128 + (n.val - 512) % 128 < 128 by omega), Nat.add_sub_cancel_left]
    rfl

end Cert.Mla.Ref
-- ==== Proof.MlaRef.lean ====
/- The reference of the queries', keys' and values' gradient on real arguments: the products, the gains and the norms, down to its other
   four results. -/
module

public import proofs.«01_k».proof.Proof.MlaTurn

@[expose] public section

set_option maxRecDepth 16384

noncomputable section

open Idealize.ShloMosaic Idealize.ShloMosaic.TcCoe Idealize.SL.Sem

namespace Cert.Mla.Ref

open Cert.MlaRefIdeal Cert.MlaRefIdeal.Read Cert.Lift Cert.Row

variable (A : Args) (b : Fin 2) (s : Fin 4096) (i : Fin 384) (l : Fin 256) (z : Fin 1)

/-! ## The rows' norms -/

theorem v7_eq : val_main_v7 (F := Ideal) (X4 A) (ix3 b s z) = ((ms 384 (A.cq b s) : ℝ) : EReal) := by
  pointwise [val_main_v7, val_main_v6, val_main_v5, val_main_v4, val_main_v3, val_main_v2, val_main_v1, val_main_cst, val_main_cst_0, val_main_cst_1, X4]
  rw [ofBits_384, ofBits_eps]
  simp only [← EReal.coe_mul, sum_coe, zero_add, div_real pos.ne', ← EReal.coe_add, ms]

theorem v8_eq : val_main_v8 (F := Ideal) (X4 A) (ix3 b s z) = ((rr 384 (A.cq b s) : ℝ) : EReal) := by
  pointwise [val_main_v8, v7_eq]
  exact rsqrt_real (ms_pos _ pos)

theorem v11_eq : val_main_v11 (F := Ideal) (X4 A) (ix3 b s z) = ((-(1 / 2) * (rr 384 (A.cq b s) / ms 384 (A.cq b s)) : ℝ) : EReal) := by
  pointwise [val_main_v11, val_main_v10, val_main_cst_2, val_main_v9, v7_eq, v8_eq]
  rw [ofBits_neg_half]
  simp only [div_real (ms_pos (A.cq b s) pos).ne', ← EReal.coe_mul]

theorem v13_eq : val_main_v13 (F := Ideal) (X4 A) (ix3 b s i) = ((hat 384 (A.cq b s) i : ℝ) : EReal) := by
  pointwise [val_main_v13, val_main_v12, v8_eq, X4]
  simp only [← EReal.coe_mul, hat]

theorem v26_eq : val_main_v26 (F := Ideal) (X5 A) (ix3 b s z) = ((ms 256 (A.ckv b s) : ℝ) : EReal) := by
  pointwise [val_main_v26, val_main_v25, val_main_v24, val_main_v23, val_main_v22, val_main_v21, val_main_v20, val_main_cst_3, val_main_cst_4, val_main_cst_5, X5]
  rw [ofBits_256, ofBits_eps]
  simp only [← EReal.coe_mul, sum_coe, zero_add, div_real pos2.ne', ← EReal.coe_add, ms]

theorem v27_eq : val_main_v27 (F := Ideal) (X5 A) (ix3 b s z) = ((rr 256 (A.ckv b s) : ℝ) : EReal) := by
  pointwise [val_main_v27, v26_eq]
  exact rsqrt_real (ms_pos _ pos2)

theorem v30_eq : val_main_v30 (F := Ideal) (X5 A) (ix3 b s z) = ((-(1 / 2) * (rr 256 (A.ckv b s) / ms 256 (A.ckv b s)) : ℝ) : EReal) := by
  pointwise [val_main_v30, val_main_v29, val_main_cst_6, val_main_v28, v26_eq, v27_eq]
  rw [ofBits_neg_half]
  simp only [div_real (ms_pos (A.ckv b s) pos2).ne', ← EReal.coe_mul]

theorem v32_eq : val_main_v32 (F := Ideal) (X5 A) (ix3 b s l) = ((hat 256 (A.ckv b s) l : ℝ) : EReal) := by
  pointwise [val_main_v32, val_main_v31, v27_eq, X5]
  simp only [← EReal.coe_mul, hat]

/-! ## The products and the gains -/

theorem v171_eq : val_main_v171 (F := Ideal) (X0 A) (X7 A) (ix3 b s i) = ((dxq A b s i : ℝ) : EReal) := by
  pointwise [val_main_v171, val_main_v17, v143_eq, X7]
  simp only [← EReal.coe_mul, sum_coe, dxq]

theorem v146_eq : val_main_v146 (F := Ideal) (X1 A) (X3 A) (X9 A) (ix3 b s l) = ((dxk A b s l : ℝ) : EReal) := by
  pointwise [val_main_v146, val_main_v36, v139_eq, X9]
  simp only [← EReal.coe_mul, sum_coe, dxk]

theorem v178_eq : val_main_v178 (F := Ideal) (X0 A) (X4 A) (X7 A) (ix1 i) = ((dgq A i : ℝ) : EReal) := by
  have h := v171_eq A
  simp only [dgq, gqRow]
  generalize dxq A = f at h ⊢
  unfold val_main_v178 val_main_v175 val_main_v174 val_main_v173
  generalize val_main_v171 (F := Ideal) (X0 A) (X7 A) = V at h ⊢
  pointwise [val_main_cst_25, val_main_cst_24, v13_eq, h, Cert.Row.sum_lead]
  simp only [← EReal.coe_mul, sum_coe, zero_add, Finset.univ_unique, Finset.sum_singleton, mul_comm]

theorem v153_eq : val_main_v153 (F := Ideal) (X1 A) (X3 A) (X5 A) (X9 A) (ix1 l) = ((dgk A l : ℝ) : EReal) := by
  have h := v146_eq A
  simp only [dgk, gkRow]
  generalize dxk A = f at h ⊢
  unfold val_main_v153 val_main_v150 val_main_v149 val_main_v148
  generalize val_main_v146 (F := Ideal) (X1 A) (X3 A) (X9 A) = V at h ⊢
  pointwise [val_main_cst_20, val_main_cst_19, v32_eq, h, Cert.Row.sum_lead]
  simp only [← EReal.coe_mul, sum_coe, zero_add, Finset.univ_unique, Finset.sum_singleton, mul_comm]

/-! ## The norms' gradients -/

theorem v176_eq : val_main_v176 (F := Ideal) (X6 A) (ix3 b s i) = ((A.gq i : ℝ) : EReal) := by
  pointwise [val_main_v176, val_main_v14, val_main_v0, X6]

/-- The normed row's gradient times the gain. -/
def yq : ℝ := dxq A b s i * A.gq i

theorem v177_eq : val_main_v177 (F := Ideal) (X0 A) (X6 A) (X7 A) (ix3 b s i) = ((yq A b s i : ℝ) : EReal) := by
  rw [val_main_v177, mulf_apply, v171_eq, v176_eq]
  exact (EReal.coe_mul _ _).symm

theorem v179_eq : val_main_v179 (F := Ideal) (X0 A) (X4 A) (X6 A) (X7 A) (ix3 b s i) = ((A.cq b s i * yq A b s i : ℝ) : EReal) := by
  rw [val_main_v179, mulf_apply, v177_eq]
  exact (EReal.coe_mul _ _).symm

theorem v181_eq : val_main_v181 (F := Ideal) (X0 A) (X4 A) (X6 A) (X7 A) (ix3 b s z) = ((∑ j, A.cq b s j * yq A b s j : ℝ) : EReal) := by
  have h := v179_eq A b s
  unfold val_main_v181 val_main_v180
  generalize val_main_v179 (F := Ideal) (X0 A) (X4 A) (X6 A) (X7 A) = V at h ⊢
  pointwise [val_main_cst_26, h]
  simp only [sum_coe, zero_add]

/-- The mean's share of the norm's gradient. -/
def yqMean : ℝ := (∑ j, A.cq b s j * yq A b s j) * (-(1 / 2) * (rr 384 (A.cq b s) / ms 384 (A.cq b s))) / 384

theorem v186_eq : val_main_v186 (F := Ideal) (X0 A) (X4 A) (X6 A) (X7 A) (ix3 b s z) = ((yqMean A b s : ℝ) : EReal) := by
  have h : val_main_v184 (F := Ideal) (X0 A) (X4 A) (X6 A) (X7 A) (ix3 b s z)
      = (((∑ j, A.cq b s j * yq A b s j) * (-(1 / 2) * (rr 384 (A.cq b s) / ms 384 (A.cq b s))) : ℝ) : EReal) := by
    rw [val_main_v184, mulf_apply, v181_eq, v11_eq]
    exact (EReal.coe_mul _ _).symm
  have g : val_main_v185 (F := Ideal) (ix3 b s z) = ((384 : ℝ) : EReal) := by
    pointwise [val_main_v185, val_main_cst_27]
    exact ofBits_384
  rw [val_main_v186, Host.divf_apply, h, g]
  exact div_real pos.ne' _

theorem v188_eq : val_main_v188 (F := Ideal) (X0 A) (X4 A) (X6 A) (X7 A) (ix3 b s i) = ((yqMean A b s : ℝ) : EReal) := by
  have h := v186_eq A b s
  generalize yqMean A b s = f at h ⊢
  unfold val_main_v188 val_main_v187
  generalize val_main_v186 (F := Ideal) (X0 A) (X4 A) (X6 A) (X7 A) = V at h ⊢
  pointwise [val_main_cst_28, h]
  simp only [zero_add, Finset.univ_unique, Finset.sum_singleton]

theorem v192_eq : val_main_v192 (F := Ideal) (X0 A) (X4 A) (X6 A) (X7 A) (ix3 b s i) = ((dcq A b s i : ℝ) : EReal) := by
  have g : val_main_v182 (F := Ideal) (X4 A) (ix3 b s i) = ((rr 384 (A.cq b s) : ℝ) : EReal) := by
    pointwise [val_main_v182, v8_eq]
  have x : X4 A (ix3 b s i) = ((A.cq b s i : ℝ) : EReal) := rfl
  rw [val_main_v192, addf_apply, val_main_v190, addf_apply, val_main_v183, mulf_apply, val_main_v189, mulf_apply, val_main_v191, mulf_apply,
    v177_eq, v188_eq, g, x]
  refine (?_ : _ = ((yq A b s i * rr 384 (A.cq b s) + A.cq b s i * yqMean A b s + yqMean A b s * A.cq b s i : ℝ) : EReal)).trans
    (congrArg _ (rms_vjp _ _ _ pos i))
  simp only [EReal.coe_mul, EReal.coe_add]
  rfl

theorem v151_eq : val_main_v151 (F := Ideal) (X8 A) (ix3 b s l) = ((A.gk l : ℝ) : EReal) := by
  pointwise [val_main_v151, val_main_v33, val_main_v19, X8]

/-- The normed row's gradient times the gain. -/
def yk : ℝ := dxk A b s l * A.gk l

theorem v152_eq : val_main_v152 (F := Ideal) (X1 A) (X3 A) (X8 A) (X9 A) (ix3 b s l) = ((yk A b s l : ℝ) : EReal) := by
  rw [val_main_v152, mulf_apply, v146_eq, v151_eq]
  exact (EReal.coe_mul _ _).symm

theorem v154_eq : val_main_v154 (F := Ideal) (X1 A) (X3 A) (X5 A) (X8 A) (X9 A) (ix3 b s l) = ((A.ckv b s l * yk A b s l : ℝ) : EReal) := by
  rw [val_main_v154, mulf_apply, v152_eq]
  exact (EReal.coe_mul _ _).symm

theorem v156_eq : val_main_v156 (F := Ideal) (X1 A) (X3 A) (X5 A) (X8 A) (X9 A) (ix3 b s z) = ((∑ j, A.ckv b s j * yk A b s j : ℝ) : EReal) := by
  have h := v154_eq A b s
  unfold val_main_v156 val_main_v155
  generalize val_main_v154 (F := Ideal) (X1 A) (X3 A) (X5 A) (X8 A) (X9 A) = V at h ⊢
  pointwise [val_main_cst_21, h]
  simp only [sum_coe, zero_add]

/-- The mean's share of the norm's gradient. -/
def ykMean : ℝ := (∑ j, A.ckv b s j * yk A b s j) * (-(1 / 2) * (rr 256 (A.ckv b s) / ms 256 (A.ckv b s))) / 256

theorem v161_eq : val_main_v161 (F := Ideal) (X1 A) (X3 A) (X5 A) (X8 A) (X9 A) (ix3 b s z) = ((ykMean A b s : ℝ) : EReal) := by
  have h : val_main_v159 (F := Ideal) (X1 A) (X3 A) (X5 A) (X8 A) (X9 A) (ix3 b s z)
      = (((∑ j, A.ckv b s j * yk A b s j) * (-(1 / 2) * (rr 256 (A.ckv b s) / ms 256 (A.ckv b s))) : ℝ) : EReal) := by
    rw [val_main_v159, mulf_apply, v156_eq, v30_eq]
    exact (EReal.coe_mul _ _).symm
  have g : val_main_v160 (F := Ideal) (ix3 b s z) = ((256 : ℝ) : EReal) := by
    pointwise [val_main_v160, val_main_cst_22]
    exact ofBits_256
  rw [val_main_v161, Host.divf_apply, h, g]
  exact div_real pos2.ne' _

theorem v163_eq : val_main_v163 (F := Ideal) (X1 A) (X3 A) (X5 A) (X8 A) (X9 A) (ix3 b s l) = ((ykMean A b s : ℝ) : EReal) := by
  have h := v161_eq A b s
  generalize ykMean A b s = f at h ⊢
  unfold val_main_v163 val_main_v162
  generalize val_main_v161 (F := Ideal) (X1 A) (X3 A) (X5 A) (X8 A) (X9 A) = V at h ⊢
  pointwise [val_main_cst_23, h]
  simp only [zero_add, Finset.univ_unique, Finset.sum_singleton]

theorem v167_eq : val_main_v167 (F := Ideal) (X1 A) (X3 A) (X5 A) (X8 A) (X9 A) (ix3 b s l) = ((dckv A b s l : ℝ) : EReal) := by
  have g : val_main_v157 (F := Ideal) (X5 A) (ix3 b s l) = ((rr 256 (A.ckv b s) : ℝ) : EReal) := by
    pointwise [val_main_v157, v27_eq]
  have x : X5 A (ix3 b s l) = ((A.ckv b s l : ℝ) : EReal) := rfl
  rw [val_main_v167, addf_apply, val_main_v165, addf_apply, val_main_v158, mulf_apply, val_main_v164, mulf_apply, val_main_v166, mulf_apply,
    v152_eq, v163_eq, g, x]
  refine (?_ : _ = ((yk A b s l * rr 256 (A.ckv b s) + A.ckv b s l * ykMean A b s + ykMean A b s * A.ckv b s l : ℝ) : EReal)).trans
    (congrArg _ (rms_vjp _ _ _ pos2 l))
  simp only [EReal.coe_mul, EReal.coe_add]
  rfl

/-! ## The results -/

variable (r : Fin 8192)

theorem v196_eq : val_main_v196 (F := Ideal) (X0 A) (X4 A) (X6 A) (X7 A) (ix2 r i) = ((dcq A (rowB r) (rowS r) i : ℝ) : EReal) := by
  pointwise [val_main_v196, val_main_v195, v192_eq]
  rfl
theorem v198_eq : val_main_v198 (F := Ideal) (X1 A) (X3 A) (X5 A) (X8 A) (X9 A) (ix2 r l) = ((dckv A (rowB r) (rowS r) l : ℝ) : EReal) := by
  pointwise [val_main_v198, val_main_v197, v167_eq]
  rfl
theorem v193_eq : val_main_v193 (F := Ideal) (X0 A) (X4 A) (X7 A) (ix2 z i) = ((dgq A i : ℝ) : EReal) := by
  pointwise [val_main_v193, v178_eq]
theorem v168_eq : val_main_v168 (F := Ideal) (X1 A) (X3 A) (X5 A) (X9 A) (ix2 z l) = ((dgk A l : ℝ) : EReal) := by
  pointwise [val_main_v168, v153_eq]

end Cert.Mla.Ref
-- ==== Proof.MlaClaim.lean ====
/- The query and key preparation gradient: from the stated precondition to real arguments, and the claim's parts. -/
module

public import proofs.«01_k».proof.Defs
public import proofs.«01_k».proof.Proof.MlaArrays
public import proofs.«01_k».proof.Proof.MlaRef
public import proofs.«01_k».proof.Proof.FfnClaim
public import proofs.«01_k».proof.Proof.Gen.MlaBwd.Frame
public import proofs.«01_k».proof.Proof.Gen.MlaRefIdeal.Run
public import proofs.«01_k».proof.Proof.Gen.Pre_finite_mla
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.Mla.Claim

open Cert.Lift Cert.Mla.Arrays Cert.Att.Claim
open Cert.Ffn.Claim (one0 two1 three1)
open Cert.Ffn.Arrays (two)

section
open Cert.Pre_finite_mla

/-- Where the precondition is true, all the arguments are real. -/
theorem real_of_pre (x0 : FVec Ideal S2x4096x4x192 .f32) (x1 : FVec Ideal S2x4096x4x128 .f32) (x2 : FVec Ideal S2x4096x4x64 .f32) (x3 : FVec Ideal S2x4096x4x128 .f32) (x4 : FVec Ideal
    S2x4096x384 .f32) (x5 : FVec Ideal S2x4096x256 .f32) (x6 : FVec Ideal S1x384 .f32) (x7 : FVec Ideal S1x384x768 .f32) (x8 : FVec Ideal S1x256 .f32) (x9 : FVec Ideal
    S1x256x1024 .f32)
    (h : fn (F := Ideal) x0 x1 x2 x3 x4 x5 x6 x7 x8 x9 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) ∧ (∀ i, ∃ r : ℝ, x4 i =
      (r : EReal)) ∧ (∀ i, ∃ r : ℝ, x5 i = (r : EReal)) ∧ (∀ i, ∃ r : ℝ, x6 i = (r : EReal)) ∧ (∀ i, ∃ r : ℝ, x7 i = (r : EReal)) ∧ (∀ i, ∃ r : ℝ, x8 i = (r : EReal)) ∧ (∀ i, ∃
      r : ℝ, x9 i = (r : EReal)) := by
  have h' := congrFun h (fun k => k.elim0)
  obtain ⟨h', h9⟩ := and_one h'
  obtain ⟨h', h8⟩ := and_one h'
  obtain ⟨h', h7⟩ := and_one h'
  obtain ⟨h', h6⟩ := and_one h'
  obtain ⟨h', h5⟩ := and_one h'
  obtain ⟨h', h4⟩ := and_one h'
  obtain ⟨h', h3⟩ := and_one h'
  obtain ⟨h', h2⟩ := and_one h'
  obtain ⟨h0, h1⟩ := and_one h'
  haveI : Subsingleton S_.Idx := ⟨fun a b => funext fun k => k.elim0⟩
  exact ⟨real_of_all x0 _ (fun _ => ofBits_inf) _ _ _ _ h0, real_of_all x1 _ (fun _ => ofBits_inf) _ _ _ _ h1, real_of_all x2 _ (fun _ => ofBits_inf) _ _ _ _ h2, real_of_all x3 _
    (fun _ => ofBits_inf) _ _ _ _ h3, real_of_all x4 _ (fun _ => ofBits_inf) _ _ _ _ h4, real_of_all x5 _ (fun _ => ofBits_inf) _ _ _ _ h5, real_of_all x6 _ (fun _ =>
    ofBits_inf) _ _ _ _ h6, real_of_all x7 _ (fun _ => ofBits_inf) _ _ _ _ h7, real_of_all x8 _ (fun _ => ofBits_inf) _ _ _ _ h8, real_of_all x9 _ (fun _ => ofBits_inf) _ _ _
    _ h9⟩

end

/-- The arguments as real arrays. -/
theorem args_of_pre (m : (ℓ : Loc Cert.MlaBwdIdeal.nD Cert.MlaBwdIdeal.τ Cert.MlaBwdIdeal.sig) → Buf (Elt Ideal) ℓ)
    (h : Cert.Pre_MlaBwdIdeal_finite_mla m) (c : Dev Cert.MlaBwdIdeal.nD) : ∃ A : Args, On m c A := by
  obtain ⟨h0, h1, h2, h3, h4, h5, h6, h7, h8, h9⟩ := real_of_pre _ _ _ _ _ _ _ _ _ _ (h c)
  obtain ⟨q, e_q⟩ := exists_real _ h0
  obtain ⟨n, e_n⟩ := exists_real _ h1
  obtain ⟨k, e_k⟩ := exists_real _ h2
  obtain ⟨v, e_v⟩ := exists_real _ h3
  obtain ⟨cq, e_cq⟩ := exists_real _ h4
  obtain ⟨ckv, e_ckv⟩ := exists_real _ h5
  obtain ⟨gq, e_gq⟩ := exists_real _ h6
  obtain ⟨wq, e_wq⟩ := exists_real _ h7
  obtain ⟨gk, e_gk⟩ := exists_real _ h8
  obtain ⟨wk, e_wk⟩ := exists_real _ h9
  refine ⟨⟨fun ia ib ic id => q (ix4 ia ib ic id), fun ia ib ic id => n (ix4 ia ib ic id), fun ia ib ic id => k (ix4 ia ib ic id), fun ia ib ic id => v (ix4 ia ib ic id), fun ia ib
    ic => cq (ix3 ia ib ic), fun ia ib ic => ckv (ix3 ia ib ic), fun ia => gq (ix2 0 ia), fun ia ib => wq (ix3 0 ia ib), fun ia => gk (ix2 0 ia), fun ia ib => wk (ix3 0 ia
    ib)⟩,
    ⟨e_q.trans ?_, e_n.trans ?_, e_k.trans ?_, e_v.trans ?_, e_cq.trans ?_, e_ckv.trans ?_, e_gq.trans ?_, e_wq.trans ?_, e_gk.trans ?_, e_wk.trans ?_⟩⟩
  · exact funext fun i => congrArg (fun j => ((q j : ℝ) : EReal)) (four i)
  · exact funext fun i => congrArg (fun j => ((n j : ℝ) : EReal)) (four i)
  · exact funext fun i => congrArg (fun j => ((k j : ℝ) : EReal)) (four i)
  · exact funext fun i => congrArg (fun j => ((v j : ℝ) : EReal)) (four i)
  · exact funext fun i => congrArg (fun j => ((cq j : ℝ) : EReal)) (three i)
  · exact funext fun i => congrArg (fun j => ((ckv j : ℝ) : EReal)) (three i)
  · exact funext fun i => congrArg (fun j => ((gq j : ℝ) : EReal)) (two1 i)
  · exact funext fun i => congrArg (fun j => ((wq j : ℝ) : EReal)) (three1 i)
  · exact funext fun i => congrArg (fun j => ((gk j : ℝ) : EReal)) (two1 i)
  · exact funext fun i => congrArg (fun j => ((wk j : ℝ) : EReal)) (three1 i)

theorem frame : Cert.quiescent_MlaBwd := fun m g _ => Cert.MlaBwd.Gen.frame m g

theorem frame_ideal : Cert.quiescent_MlaBwdIdeal := fun m g _ => Cert.MlaBwdIdeal.Gen.frame m g

theorem frame_ideal_pre : Cert.quiescent_MlaBwdIdeal_pre_finite_mla := fun m g _ => Cert.MlaBwdIdeal.Gen.frame m g

theorem frame_ref : Cert.quiescent_MlaRefIdeal := fun m g _ =>
  (θ_run Cert.MlaRefIdeal.defs _ _).mono (fun r h => ⟨fun c => (h c).2.2.2.2.2.2.2, sem_eq_zero_of_no_sems (by decide) r.2⟩)
    (Cert.MlaRefIdeal.Value.run (F := Ideal) m g)

theorem frame_ref_pre : Cert.quiescent_MlaRefIdeal_pre_finite_mla := fun m g _ => frame_ref m g trivial

theorem preserves : Cert.preserves_MlaBwd_MlaBwdIdeal := by
  trivial

section
open Cert.MlaRefIdeal Cert.MlaRefIdeal.Read

variable (A : Args)

theorem ref11 {x0 x4 x6 x7} (h0 : x0 = Ref.X0 A) (h4 : x4 = Ref.X4 A) (h6 : x6 = Ref.X6 A) (h7 : x7 = Ref.X7 A) :
    val_main_v196 (F := Ideal) x0 x4 x6 x7 = G11 A := by
  subst h0 h4 h6 h7
  funext i
  obtain ⟨a, b, rfl⟩ := two (n := 8192) (k := 384) i
  exact Ref.v196_eq ..

theorem ref12 {x1 x3 x5 x8 x9} (h1 : x1 = Ref.X1 A) (h3 : x3 = Ref.X3 A) (h5 : x5 = Ref.X5 A) (h8 : x8 = Ref.X8 A) (h9 : x9 = Ref.X9 A) :
    val_main_v198 (F := Ideal) x1 x3 x5 x8 x9 = G12 A := by
  subst h1 h3 h5 h8 h9
  funext i
  obtain ⟨a, b, rfl⟩ := two (n := 8192) (k := 256) i
  exact Ref.v198_eq ..

theorem ref49 {x2} (h2 : x2 = Ref.X2 A) :
    val_main_v200 (F := Ideal) x2 = G49 A := by
  subst h2
  funext i
  obtain ⟨a, b, rfl⟩ := two (n := 8192) (k := 64) i
  exact Ref.v200_eq ..

theorem ref51 {x0} (h0 : x0 = Ref.X0 A) :
    val_main_v202 (F := Ideal) x0 = G51 A := by
  subst h0
  funext i
  obtain ⟨a, b, e, rfl⟩ : ∃ a b e, i = ix3 a b e := ⟨i 0, i 1, i 2, three i⟩
  exact Ref.v202_eq ..

theorem ref15 {x1 x3} (h1 : x1 = Ref.X1 A) (h3 : x3 = Ref.X3 A) :
    val_main_v208 (F := Ideal) x1 x3 = G15 A := by
  subst h1 h3
  funext i
  obtain ⟨a, b, rfl⟩ := two (n := 8192) (k := 1024) i
  exact Ref.v208_eq ..

theorem ref16 {x0 x4 x7} (h0 : x0 = Ref.X0 A) (h4 : x4 = Ref.X4 A) (h7 : x7 = Ref.X7 A) :
    val_main_v193 (F := Ideal) x0 x4 x7 = G16 A := by
  subst h0 h4 h7
  funext i
  obtain ⟨a, b, rfl⟩ := two (n := 1) (k := 384) i
  exact Ref.v193_eq ..

theorem ref17 {x1 x3 x5 x9} (h1 : x1 = Ref.X1 A) (h3 : x3 = Ref.X3 A) (h5 : x5 = Ref.X5 A) (h9 : x9 = Ref.X9 A) :
    val_main_v168 (F := Ideal) x1 x3 x5 x9 = G17 A := by
  subst h1 h3 h5 h9
  funext i
  obtain ⟨a, b, rfl⟩ := two (n := 1) (k := 256) i
  exact Ref.v168_eq ..

/-- The plain gradient's run, on the real arguments `A`. -/
theorem ref_run (m : (ℓ : Loc nD τ sig) → Buf (Elt Ideal) ℓ) (g : Dev nD → PrngReg) (A : Dev nD → Args)
    (h : ∀ c : Dev nD, m ((c.tc : Thread nD τ).loc main_arg0) = Ref.X0 (A c)
      ∧ m ((c.tc : Thread nD τ).loc main_arg1) = Ref.X1 (A c)
      ∧ m ((c.tc : Thread nD τ).loc main_arg2) = Ref.X2 (A c)
      ∧ m ((c.tc : Thread nD τ).loc main_arg3) = Ref.X3 (A c)
      ∧ m ((c.tc : Thread nD τ).loc main_arg4) = Ref.X4 (A c)
      ∧ m ((c.tc : Thread nD τ).loc main_arg5) = Ref.X5 (A c)
      ∧ m ((c.tc : Thread nD τ).loc main_arg6) = Ref.X6 (A c)
      ∧ m ((c.tc : Thread nD τ).loc main_arg7) = Ref.X7 (A c)
      ∧ m ((c.tc : Thread nD τ).loc main_arg8) = Ref.X8 (A c)
      ∧ m ((c.tc : Thread nD τ).loc main_arg9) = Ref.X9 (A c)) :
    θ_run (defs (F := Ideal)) (onTc (τ := τ) (main (F := Ideal))) ⟨m, fun _ => 0, g⟩ fun r => ∀ c : Dev nD,
      r.2.mem ((c.tc : Thread nD τ).loc main_v196) = G11 (A c)
      ∧ r.2.mem ((c.tc : Thread nD τ).loc main_v198) = G12 (A c)
      ∧ r.2.mem ((c.tc : Thread nD τ).loc main_v200) = G49 (A c)
      ∧ r.2.mem ((c.tc : Thread nD τ).loc main_v202) = G51 (A c)
      ∧ r.2.mem ((c.tc : Thread nD τ).loc main_v208) = G15 (A c)
      ∧ r.2.mem ((c.tc : Thread nD τ).loc main_v193) = G16 (A c)
      ∧ r.2.mem ((c.tc : Thread nD τ).loc main_v168) = G17 (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r hr c => ?_) (Value.run (F := Ideal) m g)
  obtain ⟨h0, h1, h2, h3, h4, h5, h6, h7, h8, h9⟩ := h c
  obtain ⟨r0, r1, r2, r3, r4, r5, r6, rest⟩ := hr c
  refine ⟨r0.trans ?_, r1.trans ?_, r2.trans ?_, r3.trans ?_, r4.trans ?_, r5.trans ?_, r6.trans ?_, rest⟩
  · exact (val_main_v196_eq ..).trans (ref11 _ h0 h4 h6 h7)
  · exact (val_main_v198_eq ..).trans (ref12 _ h1 h3 h5 h8 h9)
  · exact (val_main_v200_eq ..).trans (ref49 _ h2)
  · exact (val_main_v202_eq ..).trans (ref51 _ h0)
  · exact (val_main_v208_eq ..).trans (ref15 _ h1 h3)
  · exact (val_main_v193_eq ..).trans (ref16 _ h0 h4 h7)
  · exact (val_main_v168_eq ..).trans (ref17 _ h1 h3 h5 h9)

end

/-! ## The kernel's run -/

section
open Cert.MlaBwdIdeal Cert.MlaBwdIdeal.Gen

/-- The rotary lanes of the key's gradient. -/
def cut49 (x : FVec Ideal S8192x128 .bf16) : FVec Ideal S8192x64 .bf16 := extractStridedSlice S8192x64 ![0, 0] x slices_S8192x128_S8192x64_0_0

/-- The lanes that are used of each head's query gradient. -/
def cut51 (x : FVec Ideal S8192x1024 .bf16) : FVec Ideal S8192x4x192 .bf16 :=
  extractStridedSlice S8192x4x192 ![0, 0, 0] (shapeCast S8192x4x256 x shapeCasts_S8192x1024_S8192x4x256) slices_S8192x4x256_S8192x4x192_0_0_0

variable (m : (ℓ : Loc nD τ sig) → Buf (Elt Ideal) ℓ) (g : Dev nD → PrngReg) (c : Dev nD)

theorem arr_inj : Function.Injective (Pipeline.arrRef spec0) := by decide +kernel

theorem tail49 : Pipeline.afterTail₀ cfgs (dats m) 0 (V0 m) [hostOps1] c main_v49 = cut49 ((dats m 0 c).arrAt 13 cfg0.N) := by
  unfold Pipeline.afterTail₀
  after_reads_simp
  exact congrArg cut49 (Pipeline.withArrays_arr spec0 arr_inj c _ _ 13)

theorem tail51 : Pipeline.afterTail₀ cfgs (dats m) 0 (V0 m) [hostOps1] c main_v51 = cut51 ((dats m 0 c).arrAt 14 cfg0.N) := by
  unfold Pipeline.afterTail₀
  after_reads_simp
  exact congrArg cut51 (Pipeline.withArrays_arr spec0 arr_inj c _ _ 14)

/-- What the kernel leaves: its region's arrays, two of them cut by the lines after the region, and its arguments as they were. -/
theorem run_blocks : θ_run (defs (F := Ideal)) (onTc (τ := τ) (main (F := Ideal))) ⟨m, fun _ => 0, g⟩ fun r => ∀ c : Dev nD,
      r.2.mem ((c.tc : Thread nD τ).loc main_v48_0) = (dats m 0 c).arrAt 11 cfg0.N
      ∧ r.2.mem ((c.tc : Thread nD τ).loc main_v48_1) = (dats m 0 c).arrAt 12 cfg0.N
      ∧ r.2.mem ((c.tc : Thread nD τ).loc main_v49) = cut49 ((dats m 0 c).arrAt 13 cfg0.N)
      ∧ r.2.mem ((c.tc : Thread nD τ).loc main_v51) = cut51 ((dats m 0 c).arrAt 14 cfg0.N)
      ∧ r.2.mem ((c.tc : Thread nD τ).loc main_v48_4) = (dats m 0 c).arrAt 15 cfg0.N
      ∧ r.2.mem ((c.tc : Thread nD τ).loc main_v48_5) = (dats m 0 c).arrAt 16 cfg0.N
      ∧ r.2.mem ((c.tc : Thread nD τ).loc main_v48_6) = (dats m 0 c).arrAt 17 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (θ_run_and (run_main m g) (unchanged m g))
  obtain ⟨hA, hR⟩ := h.1 c
  exact ⟨hA 11, hA 12, (hR main_v49 (Pipeline.mem_restRefs_of main_v49 (by decide) (by decide))).trans (tail49 m c),
    (hR main_v51 (Pipeline.mem_restRefs_of main_v51 (by decide) (by decide))).trans (tail51 m c), hA 15, hA 16, hA 17, h.2 c⟩

variable {m c} {A : Args} (O : On m c A)
include O

theorem arr49 : cut49 ((dats m 0 c).arrAt 13 cfg0.N) = G49 A :=
  (congrArg cut49 (arr13 O)).trans (slice49 A)

theorem arr51 : cut51 ((dats m 0 c).arrAt 14 cfg0.N) = G51 A :=
  (congrArg cut51 (arr14 O)).trans (slice51 A)

end

/-- The kernel and the plain gradient end with the same arrays. -/
theorem algebraic : Cert.algebraic_MlaBwdIdeal_MlaRefIdeal_pre_finite_mla := by
  pair_intro
  · exact run_blocks m g
  · choose A O using args_of_pre m hpre
    refine (θ_run Cert.MlaRefIdeal.defs _ _).mono (fun r hr c => ?_) (ref_run m' g' A fun c => ?_)
    · obtain ⟨r0, r1, r2, r3, r4, r5, r6, rest⟩ := hr c
      exact ⟨r0.trans (arr11 (O c)).symm, r1.trans (arr12 (O c)).symm, r2.trans (arr49 (O c)).symm, r3.trans (arr51 (O c)).symm, r4.trans (arr15 (O c)).symm, r5.trans (arr16 (O
        c)).symm, r6.trans (arr17 (O c)).symm, rest⟩
    · obtain ⟨a0, a1, a2, a3, a4, a5, a6, a7, a8, a9⟩ := hagree c
      exact ⟨a0.trans (O c).q, a1.trans (O c).n, a2.trans (O c).k, a3.trans (O c).v, a4.trans (O c).cq, a5.trans (O c).ckv, a6.trans (O c).gq, a7.trans (O c).wq, a8.trans (O c).gk,
        a9.trans (O c).wk⟩

end Cert.Mla.Claim
-- ==== Proof.AfwSpec.lean ====
/- The attention, forward, as real expressions: each row's softmax-weighted sum of the values and its log-sum to base 2. -/
module

public import proofs.«01_k».proof.Proof.AttSpec

@[expose] public section

set_option maxRecDepth 16384

noncomputable section

open Idealize.ShloMosaic

namespace Cert.Afw

open Cert.Att Cert.Lift

/-- The arguments: q, k without its rotary part, k's rotary part (one for all heads) and v. -/
structure Args where
  q : Fin 2 → Fin 4096 → Fin 4 → Fin 192 → ℝ
  kn : Fin 2 → Fin 4096 → Fin 4 → Fin 128 → ℝ
  kr : Fin 2 → Fin 4096 → Fin 64 → ℝ
  v : Fin 2 → Fin 4096 → Fin 4 → Fin 128 → ℝ

/-- With a cotangent that nothing here reads. -/
def Args.full (A : Args) : Att.Args := ⟨A.q, A.kn, A.kr, A.v, fun _ _ _ _ => 0⟩

/-- A row's output and log-sum, from its scores. -/
def outRow {n : ℕ} (f v : Fin n → ℝ) : ℝ := ∑ j, softmax (fun j => f j * sc) j * v j
def lseRow {n : ℕ} (f : Fin n → ℝ) : ℝ := Real.log (∑ j, Real.exp (f j * sc)) / Real.log 2

variable (A : Args)

def o (b : Fin 2) (s : Fin 4096) (h : Fin 4) (e : Fin 128) : ℝ := outRow (raw A.full b h s) fun j => A.v b j h e
def lse (b : Fin 2) (h : Fin 4) (s : Fin 4096) : ℝ := lseRow (raw A.full b h s)

theorem log2_ne : Real.log 2 ≠ 0 := (Real.log_pos (by norm_num)).ne'

/-- The row through its greatest score: exponentials of differences, their sum, and the quotient. -/
theorem outRow_shift {n : ℕ} [NeZero n] (f v : Fin n → ℝ) (M : ℝ) :
    (∑ j, Real.exp (f j * sc - M) * v j) / ∑ j, Real.exp (f j * sc - M) = outRow f v := by
  rw [outRow, Finset.sum_div]
  refine Finset.sum_congr rfl fun j _ => ?_
  rw [← softmax_shift _ M]
  exact (div_mul_eq_mul_div _ _ _).symm

/-- The log-sum through the greatest score. -/
theorem lseRow_shift {n : ℕ} [NeZero n] (f : Fin n → ℝ) (M : ℝ) :
    M * (sc * (Real.log 2)⁻¹) + Real.log (∑ j, Real.exp (f j * sc - M * sc)) * (Real.log 2)⁻¹ = lseRow f := by
  have h : ∑ j, Real.exp (f j * sc - M * sc) = (∑ j, Real.exp (f j * sc)) / Real.exp (M * sc) := by
    rw [Finset.sum_div]
    exact Finset.sum_congr rfl fun j _ => Real.exp_sub _ _
  rw [h, Real.log_div (sum_exp_pos _).ne' (Real.exp_pos _).ne', Real.log_exp, lseRow]
  have := log2_ne
  field_simp
  ring

end Cert.Afw
-- ==== Proof.AfwPoint.lean ====
/- One grid point of the forward attention on real blocks: four groups of 256 rows against all the keys. -/
module

public import proofs.«01_k».proof.Proof.AfwSpec
public import proofs.«01_k».proof.Proof.FfnArrays
public import proofs.«01_k».proof.Proof.Gen.AttnFwdIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Afw.Point

open Cert.AttnFwdIdeal Cert.AttnFwdIdeal.Gen Cert.Lift Cert.Att

theorem named_scale2 : (Named.named κ "scale_log2e" 0x3DD53B95#32 : Ideal .f32) = ((sc * (Real.log 2)⁻¹ : ℝ) : EReal) :=
  IdealRules.named_const.ideal_named_scalar _ _ _ _ rfl

theorem named_log2e : (Named.named κ "log2e" 0x3FB8AA3B#32 : Ideal .f32) = (((Real.log 2)⁻¹ : ℝ) : EReal) :=
  IdealRules.named_const.ideal_named_scalar _ _ _ _ rfl

section Group
variable (x1 : Vec Ideal S4096x256 .bf16) (x2 : Vec Ideal S4096x128 .bf16) (qg : Vec Ideal S256x256 .bf16)
  (K : Fin 4096 → Fin 256 → ℝ) (V : Fin 4096 → Fin 128 → ℝ) (Q : Fin 256 → Fin 256 → ℝ)

/-- A row's scores. -/
def score {n : ℕ} (K : Fin 4096 → Fin 256 → ℝ) (Q : Fin n → Fin 256 → ℝ) (i : Fin n) (j : Fin 4096) : ℝ := ∑ d, Q i d * K j d

variable (h1 : ∀ j d, x1 (ix2 j d) = ((K j d : ℝ) : EReal)) (h2 : ∀ j e, x2 (ix2 j e) = ((V j e : ℝ) : EReal))
  (hq : ∀ i d, qg (ix2 i d) = ((Q i d : ℝ) : EReal))

include h1 hq in
theorem pay4_eq (i : Fin 256) (j : Fin 4096) : k0_pay4 (F := Ideal) x1 qg (ix2 i j) = ((score K Q i j : ℝ) : EReal) := by
  pointwise [k0_pay4, k0_pay2, h1, hq]
  simp only [← EReal.coe_mul, sum_coe, zero_add, score]

include h1 hq in
theorem pay8_eq (i : Fin 256) (z : Fin 1) : k0_pay8 (F := Ideal) x1 qg (ix2 i z) = ((rmax (score K Q i) : ℝ) : EReal) := by
  have h4 := pay4_eq x1 qg K Q h1 hq
  have key : Finset.univ.fold (max : Ideal .f32 → Ideal .f32 → Ideal .f32) (Ideal.ofBits .f32 0xFF800000#32)
      (fun j => ((score K Q i j : ℝ) : EReal)) = ((rmax (score K Q i) : ℝ) : EReal) := by
    rw [ofBits_neg_inf]
    exact fold_max_eq _
  pointwise [k0_pay8, h4]
  generalize rmax (score K Q i) = M at key ⊢
  generalize (fun j => ((score K Q i j : ℝ) : EReal)) = f at key ⊢
  exact key

include h1 hq in
theorem pay12_eq (i : Fin 256) (j : Fin 4096) : k0_pay12 (F := Ideal) x1 qg (ix2 i j)
    = ((Real.exp (score K Q i j * sc - rmax (score K Q i) * sc) : ℝ) : EReal) := by
  have h4 := pay4_eq x1 qg K Q h1 hq
  have h8 := pay8_eq x1 qg K Q h1 hq
  pointwise [k0_pay12, h4, h8, named_scale2]
  simp only [← EReal.coe_mul, ← EReal.coe_sub]
  refine (exp2_real _).trans (congrArg (fun x : ℝ => ((Real.exp x : ℝ) : EReal)) ?_)
  have := log2_ne
  field_simp

include h1 hq in
theorem pay17_eq (i : Fin 256) (z : Fin 1) : k0_pay17 (F := Ideal) (k0_pay12 x1 qg) (ix2 i z)
    = ((∑ j, Real.exp (score K Q i j * sc - rmax (score K Q i) * sc) : ℝ) : EReal) := by
  have h12 := pay12_eq x1 qg K Q h1 hq
  pointwise [k0_pay17, h12]
  simp only [sum_coe, zero_add]

include h1 h2 hq in
theorem out_group (i : Fin 256) (e : Fin 128) : k0_pay21 (F := Ideal) (k0_pay3 x2) (k0_pay12 x1 qg) (ix2 i e)
    = ((outRow (score K Q i) (fun j => V j e) : ℝ) : EReal) := by
  have h12 := pay12_eq x1 qg K Q h1 hq
  have h17 := pay17_eq x1 qg K Q h1 hq
  pointwise [k0_pay21, k0_pay3, h12, h17, h2]
  simp only [← EReal.coe_mul, sum_coe, zero_add]
  rw [div_real (sum_exp_pos _).ne']
  exact congrArg _ (outRow_shift _ _ _)

include h1 hq in
theorem lse_group (i : Fin 256) (z z' : Fin 1) : k0_pay22 (F := Ideal) (k0_pay8 x1 qg) (k0_pay12 x1 qg) (ix3 z z' i)
    = ((lseRow (score K Q i) : ℝ) : EReal) := by
  have h8 := pay8_eq x1 qg K Q h1 hq
  have h17 := pay17_eq x1 qg K Q h1 hq
  pointwise [k0_pay22, h8, h17, named_scale2, named_log2e]
  rw [log_real (sum_exp_pos _)]
  simp only [← EReal.coe_mul, ← EReal.coe_add]
  exact congrArg _ (lseRow_shift _ _)

/-! The other three groups are the first one's operations. -/

theorem out_1 (v3 : FVec Ideal S4096x128 .bf16) : k0_pay23 (F := Ideal) v3 (k0_pay13 x1 qg) = k0_pay21 v3 (k0_pay12 x1 qg) := rfl
theorem out_2 (v3 : FVec Ideal S4096x128 .bf16) : k0_pay25 (F := Ideal) v3 (k0_pay15 (k0_pay6 x1 qg) (k0_pay14 x1 qg)) (k0_pay19 (k0_pay6 x1 qg) (k0_pay14 x1 qg))
    = k0_pay21 v3 (k0_pay12 x1 qg) := rfl
theorem out_3 (v3 : FVec Ideal S4096x128 .bf16) : k0_pay27 (F := Ideal) v3 (k0_pay16 (k0_pay7 x1 qg) (k0_pay11 x1 qg)) (k0_pay20 (k0_pay7 x1 qg) (k0_pay11 x1 qg))
    = k0_pay21 v3 (k0_pay12 x1 qg) := rfl
theorem lse_1 : k0_pay24 (F := Ideal) (k0_pay9 x1 qg) (k0_pay18 (k0_pay13 x1 qg)) = k0_pay22 (k0_pay8 x1 qg) (k0_pay12 x1 qg) := rfl
theorem lse_2 : k0_pay26 (F := Ideal) (k0_pay10 x1 qg) (k0_pay19 (k0_pay6 x1 qg) (k0_pay14 x1 qg)) = k0_pay22 (k0_pay8 x1 qg) (k0_pay12 x1 qg) := rfl
theorem lse_3 : k0_pay1 (F := Ideal) (k0_pay28 (k0_pay11 x1 qg)) (k0_pay29 (k0_pay20 (k0_pay7 x1 qg) (k0_pay11 x1 qg))) = k0_pay22 (k0_pay8 x1 qg) (k0_pay12 x1 qg) := rfl

end Group

section Point
variable (x0 : Vec Ideal S1024x256 .bf16) (x1 : Vec Ideal S4096x256 .bf16) (x2 : Vec Ideal S4096x128 .bf16)
  (K : Fin 4096 → Fin 256 → ℝ) (V : Fin 4096 → Fin 128 → ℝ) (Q : Fin 1024 → Fin 256 → ℝ)
  (hQ : ∀ i d, x0 (ix2 i d) = ((Q i d : ℝ) : EReal)) (hK : ∀ j d, x1 (ix2 j d) = ((K j d : ℝ) : EReal)) (hV : ∀ j e, x2 (ix2 j e) = ((V j e : ℝ) : EReal))

include hQ in
theorem ld_q (n : ℕ) (hn : n + 256 ≤ 1024) (hr) (i : Fin 256) (d : Fin 256) :
    View.ld x0 (Rect.unit (s := S1024x256) ![n, 0] ![256, 256] hr) (ix2 i d) = ((Q ⟨n + i.val, by omega⟩ d : ℝ) : EReal) := by
  pointwise [hQ]

include hQ hK hV in
theorem out_rows (n : ℕ) (hn : n + 256 ≤ 1024) (hr) (x : S256x128.Idx) (s : Fin 1024) (e : Fin 128) (hs : s.val = n + (x 0).val) (he : e.val = (x 1).val) :
    k0_pay21 (F := Ideal) (k0_pay3 x2) (k0_pay12 x1 (View.ld x0 (Rect.unit (s := S1024x256) ![n, 0] ![256, 256] hr))) x
      = ((outRow (score K Q s) (fun j => V j e) : ℝ) : EReal) := by
  obtain ⟨a, b, rfl⟩ := Cert.Ffn.Arrays.two (n := 256) (k := 128) x
  obtain rfl : e = b := Fin.ext he
  obtain rfl : s = ⟨n + a.val, lt_of_lt_of_le (Nat.add_lt_add_left a.isLt n) hn⟩ := Fin.ext hs
  exact out_group x1 x2 _ K V (fun i => Q ⟨n + i.val, by omega⟩) hK hV (ld_q x0 Q hQ n hn hr) a e

include hQ hK in
theorem lse_rows (n : ℕ) (hn : n + 256 ≤ 1024) (hr) (x : S1x1x256.Idx) (s : Fin 1024) (hs : s.val = n + (x 2).val) :
    k0_pay22 (F := Ideal) (k0_pay8 x1 (View.ld x0 (Rect.unit (s := S1024x256) ![n, 0] ![256, 256] hr)))
        (k0_pay12 x1 (View.ld x0 (Rect.unit (s := S1024x256) ![n, 0] ![256, 256] hr))) x
      = ((lseRow (score K Q s) : ℝ) : EReal) := by
  obtain ⟨z, z', a, rfl⟩ : ∃ (z z' : Fin 1) (a : Fin 256), x = ix3 z z' a := ⟨x 0, x 1, x 2, by funext k; match k with | 0 => rfl | 1 => rfl | 2 => rfl⟩
  obtain rfl : s = ⟨n + a.val, lt_of_lt_of_le (Nat.add_lt_add_left a.isLt n) hn⟩ := Fin.ext hs
  exact lse_group x1 _ K (fun i => Q ⟨n + i.val, by omega⟩) hK (ld_q x0 Q hQ n hn hr) a z z'

include hQ hK hV in
theorem out_point (s : Fin 1024) (e : Fin 128) : out0_3 (F := Ideal) x0 x1 x2 (ix2 s e) = ((outRow (score K Q s) (fun j => V j e) : ℝ) : EReal) := by
  unfold_out out0_3
  frame_out
  simp only [out_1, out_2, out_3]
  canon_tiles x h <;> exact out_rows x0 x1 x2 K V Q hQ hK hV _ (by norm_num) _ x s e (by change s.val = _ at h0; omega) h1

include hQ hK in
theorem lse_point (z z' : Fin 1) (s : Fin 1024) : out0_4 (F := Ideal) x0 x1 x2 (ix3 z z' s) = ((lseRow (score K Q s) : ℝ) : EReal) := by
  unfold_out out0_4
  frame_out
  simp only [lse_1, lse_2, lse_3]
  canon_tiles x h <;> exact lse_rows x0 x1 K Q hQ hK _ (by norm_num) _ x s (by change s.val = _ at h2; omega)

end Point

end Cert.Afw.Point
-- ==== Proof.AfwArrays.lean ====
/- The forward attention's two final arrays on real arguments. -/
module

public import proofs.«01_k».proof.Proof.AfwPoint
public import proofs.«01_k».proof.Proof.AttHost

@[expose] public section

set_option maxRecDepth 16384

noncomputable section

open Idealize.ShloMosaic Idealize.ShloMosaic.TcCoe Idealize.SL.Sem
open Idealize.ShloMosaic.Pipeline (Dat)

namespace Cert.Afw.Arrays

open Cert.AttnFwdIdeal Cert.AttnFwdIdeal.Gen Cert.Lift Cert.Att Cert.Att.Host Cert.Afw.Point

theorem idx : ∀ t : Fin cfg0.N, win0_0.index t = ![t.val / 16 * 4 + t.val % 4, t.val / 4 % 4] ∧ win0_1.index t = ![t.val / 16, t.val / 4 % 4]
    ∧ win0_2.index t = ![t.val / 16, t.val / 4 % 4] ∧ win0_3.index t = ![t.val / 16 * 4 + t.val % 4, t.val / 4 % 4]
    ∧ win0_4.index t = ![t.val / 4 % 4, 0, t.val / 16 * 4 + t.val % 4] :=
  (by decide +kernel : ∀ t : Fin grid0.N, _)

theorem t_lt (t : Fin cfg0.N) : t.val < 32 := lt_of_lt_of_eq t.isLt N_0

/-! ## Where a block's elements lie -/

section
variable (t : Fin cfg0.N)

/-- The point's batch entry, head, and its rows' places. -/
def bt (t : Fin cfg0.N) : Fin 2 := ⟨t.val / 16, by have := t_lt t; omega⟩
def ht (t : Fin cfg0.N) : Fin 4 := ⟨t.val / 4 % 4, by omega⟩
def qt (t : Fin cfg0.N) (s : Fin 1024) : Fin 4096 := ⟨t.val % 4 * 1024 + s.val, by omega⟩

theorem emb0 (s : Fin 1024) (d : Fin 256) : (win0_0.blk t).view.emb (ix2 s d) = ix2 (row (bt t) (qt t s)) (col256 (ht t) d) := by
  blk_ext [idx t] <;> simp only [row, col256, bt, ht, qt] <;> omega
theorem emb1 (j : Fin 4096) (d : Fin 256) : (win0_1.blk t).view.emb (ix2 j d) = ix2 (row (bt t) j) (col256 (ht t) d) := by
  blk_ext [idx t] <;> simp only [row, col256, bt, ht]
theorem emb2 (j : Fin 4096) (e : Fin 128) : (win0_2.blk t).view.emb (ix2 j e) = ix2 (row (bt t) j) (col128 (ht t) e) := by
  blk_ext [idx t] <;> simp only [row, col128, bt, ht]
theorem emb3 (s : Fin 1024) (e : Fin 128) : (win0_3.blk t).view.emb (ix2 s e) = ix2 (row (bt t) (qt t s)) (col128 (ht t) e) := by
  blk_ext [idx t] <;> simp only [row, col128, bt, ht, qt] <;> omega
theorem emb4 (z z' : Fin 1) (s : Fin 1024) : (win0_4.blk t).view.emb (ix3 z z' s) = ix3 (ht t) z' (row (bt t) (qt t s)) := by
  blk_ext [idx t] <;> simp only [row, bt, ht, qt] <;> omega
end

/-! ## Each block is its operand read at the block's places -/

section
variable (c : Dev nD) (t : Fin cfg0.N) (f : (b : Ref sig .tc) → Buf (Elt Ideal) ((c : Thread nD τ).loc b))

theorem read0 (s : Fin 1024) (d : Fin 256) : ((cfg0.win 0).blk t).view.read (Elt Ideal) (f (Pipeline.arrRef spec0 0)) (ix2 s d) = f main_v5 ((win0_0.blk t).view.emb (ix2 s d)) := rfl
theorem read1 (j : Fin 4096) (d : Fin 256) : ((cfg0.win 1).blk t).view.read (Elt Ideal) (f (Pipeline.arrRef spec0 1)) (ix2 j d) = f main_v8 ((win0_1.blk t).view.emb (ix2 j d)) := rfl
theorem read2 (j : Fin 4096) (e : Fin 128) : ((cfg0.win 2).blk t).view.read (Elt Ideal) (f (Pipeline.arrRef spec0 2)) (ix2 j e) = f main_v10 ((win0_2.blk t).view.emb (ix2 j e)) := rfl

end

/-! ## The kernel's operands -/

section
variable (m : (ℓ : Loc nD τ sig) → Buf (Elt Ideal) ℓ) (c : Dev nD)

theorem V_q : V m c main_v5 = (truncf .bf16 (shapeCast S8192x1024 (pad S2x4096x4x256 ![0, 0, 0, 0] ![0, 0, 0, 64] ![0, 0, 0, 0]
    (m ((c : Thread nD τ).loc main_arg0) : FVec Ideal S2x4096x4x192 .f32) (sitofp .f32 (constantI S_ 32 0#32) : FVec Ideal S_ .f32) pads_S2x4096x4x192_S2x4096x4x256_000_000_000_0640 h_S_)
    shapeCasts_S2x4096x4x256_S8192x1024) bitsLt_bf16_f32 : FVec Ideal S8192x1024 .bf16) := by
  unfold V
  after_reads_simp
  rfl

theorem V_k : V m c main_v8 = (truncf .bf16 (shapeCast S8192x1024 (pad S2x4096x4x256 ![0, 0, 0, 0] ![0, 0, 0, 64] ![0, 0, 0, 0]
    (key (m ((c : Thread nD τ).loc main_arg1)) (m ((c : Thread nD τ).loc main_arg2))) (sitofp .f32 (constantI S_ 32 0#32) : FVec Ideal S_ .f32) pads_S2x4096x4x192_S2x4096x4x256_000_000_000_0640 h_S_)
    shapeCasts_S2x4096x4x256_S8192x1024) bitsLt_bf16_f32 : FVec Ideal S8192x1024 .bf16) := by
  unfold V
  after_reads_simp
  rfl

theorem V_v : V m c main_v10 = (truncf .bf16 (shapeCast S8192x512 (m ((c : Thread nD τ).loc main_arg3) : FVec Ideal S2x4096x4x128 .f32)
    shapeCasts_S2x4096x4x128_S8192x512) bitsLt_bf16_f32 : FVec Ideal S8192x512 .bf16) := by
  unfold V
  after_reads_simp
  rfl
end

/-! ## The blocks at a point -/

section
variable (m : (ℓ : Loc nD τ sig) → Buf (Elt Ideal) ℓ) (c : Dev nD) (A : Afw.Args)

/-- The arguments hold the reals `A`. -/
structure On : Prop where
  q : m ((c : Thread nD τ).loc main_arg0) = X0 A.full
  kn : m ((c : Thread nD τ).loc main_arg1) = X1 A.full
  kr : m ((c : Thread nD τ).loc main_arg2) = X2 A.full
  v : m ((c : Thread nD τ).loc main_arg3) = X3 A.full

variable {m c A} (O : On m c A) (t : Fin cfg0.N)
include O

theorem q_block (s : Fin 1024) (d : Fin 256) : (iblk m c 0 t : Vec Ideal S1024x256 .bf16) (ix2 s d) = ((pad256 (A.q (bt t) (qt t s) (ht t)) d : ℝ) : EReal) := by
  refine (read0 c t (V m c) s d).trans ?_
  rw [emb0, V_q, O.q]
  exact padded_eq _ _ _ (X0 A.full) A.q (fun _ _ _ _ => rfl) d

theorem k_block (j : Fin 4096) (d : Fin 256) : (iblk m c 1 t : Vec Ideal S4096x256 .bf16) (ix2 j d) = ((pad256 (A.full.k (bt t) j (ht t)) d : ℝ) : EReal) := by
  refine (read1 c t (V m c) j d).trans ?_
  rw [emb1, V_k, O.kn, O.kr]
  exact padded_eq _ _ _ (key (X1 A.full) (X2 A.full)) A.full.k (fun b i h d => key_eq A.full b h i d) d

theorem v_block (j : Fin 4096) (e : Fin 128) : (iblk m c 2 t : Vec Ideal S4096x128 .bf16) (ix2 j e) = ((A.v (bt t) j (ht t) e : ℝ) : EReal) := by
  refine (read2 c t (V m c) j e).trans ?_
  rw [emb2, V_v, O.v]
  exact flat_eq _ _ _ (X3 A.full) A.v (fun _ _ _ _ => rfl) e

/-! ## What a point writes -/

omit O in
theorem score_eq (A : Afw.Args) (b : Fin 2) (h : Fin 4) (f : Fin 1024 → Fin 4096) (s : Fin 1024) :
    score (fun j => pad256 (A.full.k b j h)) (fun s => pad256 (A.q b (f s) h)) s = raw A.full b h (f s) := by
  funext j
  rw [score, sum_pad]
  rfl

theorem o_point (s : Fin 1024) (e : Fin 128) : out0_3 (F := Ideal) (iblk m c 0 t) (iblk m c 1 t) (iblk m c 2 t) (ix2 s e) = ((o A (bt t) (qt t s) (ht t) e : ℝ) : EReal) := by
  rw [out_point _ _ _ _ _ _ (q_block O t) (k_block O t) (v_block O t), score_eq]
  rfl

theorem lse_at (z z' : Fin 1) (s : Fin 1024) : out0_4 (F := Ideal) (iblk m c 0 t) (iblk m c 1 t) (iblk m c 2 t) (ix3 z z' s) = ((Afw.lse A (bt t) (ht t) (qt t s) : ℝ) : EReal) := by
  rw [lse_point _ _ _ _ _ (q_block O t) (k_block O t), score_eq]
  rfl

/-! ## The final arrays -/

/-- The two results in the kernel's layouts. -/
def g3 (A : Afw.Args) (s : Fin 8192) (r : Fin 512) : ℝ := o A ⟨s.val / 4096, by omega⟩ ⟨s.val % 4096, by omega⟩ ⟨r.val / 128, by omega⟩ ⟨r.val % 128, by omega⟩
def g4 (A : Afw.Args) (h : Fin 4) (s : Fin 8192) : ℝ := Afw.lse A ⟨s.val / 4096, by omega⟩ h ⟨s.val % 4096, by omega⟩
def G3 (A : Afw.Args) : FVec Ideal S8192x512 .f32 := fun i => ((g3 A (i 0) (i 1) : ℝ) : EReal)
def G4 (A : Afw.Args) : FVec Ideal S4x1x8192 .f32 := fun i => ((g4 A (i 0) (i 2) : ℝ) : EReal)

omit O in
theorem G3_at (b : Fin 2) (i : Fin 4096) (h : Fin 4) (e : Fin 128) : G3 A (ix2 (row b i) (col128 h e)) = ((o A b i h e : ℝ) : EReal) := by
  show ((g3 A (row b i) (col128 h e) : ℝ) : EReal) = _
  unfold g3
  simp only [row_div, row_mod, col128_div, col128_mod]
omit O in
theorem G4_at (b : Fin 2) (i : Fin 4096) (h : Fin 4) (z : Fin 1) : G4 A (ix3 h z (row b i)) = ((Afw.lse A b h i : ℝ) : EReal) := by
  show ((g4 A h (row b i) : ℝ) : EReal) = _
  unfold g4
  simp only [row_div, row_mod]

theorem arr3 : (dats m 0 c).arrAt 3 cfg0.N = G3 A := by
  refine (dats m 0 c).arrAt_eq_of_covers 3 (G3 A) (by decide +kernel) fun t hf y => ?_
  obtain ⟨s, e, rfl⟩ := Cert.Ffn.Arrays.two (n := 1024) (k := 128) y
  rw [after0_3]
  exact (o_point O t s e).trans ((congrArg (G3 A) (emb3 t s e)).trans (G3_at _ _ _ _)).symm

theorem arr4 : (dats m 0 c).arrAt 4 cfg0.N = G4 A := by
  refine (dats m 0 c).arrAt_eq_of_covers 4 (G4 A) (by decide +kernel) fun t hf y => ?_
  obtain ⟨z, z', s, rfl⟩ : ∃ (z z' : Fin 1) (s : Fin 1024), y = ix3 z z' s := ⟨y 0, y 1, y 2, by funext k; match k with | 0 => rfl | 1 => rfl | 2 => rfl⟩
  rw [after0_4]
  have e := (lse_at O t z z' s).trans ((congrArg (G4 A) (emb4 t z z' s)).trans (G4_at _ _ _ _)).symm
  -- the comparison with the window's block needs neither the values nor the place
  generalize (win0_4.blk t).view.emb (ix3 z z' s) = y at e ⊢
  generalize out0_4 (F := Ideal) (iblk m c 0 t) (iblk m c 1 t) (iblk m c 2 t) = w at e ⊢
  exact e

end

end Cert.Afw.Arrays
-- ==== Proof.AfwRef.lean ====
/- The forward attention's reference on real arguments: its operations one after the other. -/
module

public import proofs.«01_k».proof.Proof.AfwSpec
public import proofs.«01_k».proof.Proof.Gen.AfwRefIdeal.Read

@[expose] public section

set_option maxRecDepth 16384

noncomputable section

open Idealize.ShloMosaic Idealize.ShloMosaic.TcCoe Idealize.SL.Sem

namespace Cert.Afw.Ref

open Cert.AfwRefIdeal Cert.AfwRefIdeal.Read Cert.Lift Cert.Att

/-- The arguments' arrays. -/
def X0 (A : Afw.Args) : (⟨S2x4096x4x192, .f32⟩ : BufTy).Contents (Elt Ideal) := fun i => ((A.q (i 0) (i 1) (i 2) (i 3) : ℝ) : EReal)
def X1 (A : Afw.Args) : (⟨S2x4096x4x128, .f32⟩ : BufTy).Contents (Elt Ideal) := fun i => ((A.kn (i 0) (i 1) (i 2) (i 3) : ℝ) : EReal)
def X2 (A : Afw.Args) : (⟨S2x4096x64, .f32⟩ : BufTy).Contents (Elt Ideal) := fun i => ((A.kr (i 0) (i 1) (i 2) : ℝ) : EReal)
def X3 (A : Afw.Args) : (⟨S2x4096x4x128, .f32⟩ : BufTy).Contents (Elt Ideal) := fun i => ((A.v (i 0) (i 1) (i 2) (i 3) : ℝ) : EReal)

variable (A : Afw.Args) (b : Fin 2) (h : Fin 4) (i j : Fin 4096)

theorem raw_split : raw A.full b h i j = ∑ d : Fin 128, A.q b i h ⟨d.val, by omega⟩ * A.kn b j h d
    + ∑ d : Fin 64, A.q b i h ⟨128 + d.val, by omega⟩ * A.kr b j d := by
  unfold raw
  rw [Fin.sum_univ_two_halves 128 64 rfl]
  refine congrArg₂ (· + ·) ?_ ?_ <;> exact Finset.sum_congr rfl fun d _ => by simp [Att.Args.k, Args.full]

theorem v6_eq : val_main_v6 (F := Ideal) ix0 = ((sc : ℝ) : EReal) := by
  pointwise [val_main_v6, val_main_cst]
  rw [ofBits_192, rsqrt_real (by norm_num)]
  rfl

theorem v8_eq : val_main_v8 (F := Ideal) (X0 A) (X1 A) (X2 A) (ix4 b h i j) = ((raw A.full b h i j * sc : ℝ) : EReal) := by
  pointwise [val_main_v8, val_main_v5, val_main_v4, val_main_v3, val_main_v2, val_main_v1, val_main_v0, val_main_v7, X0, X1, X2, v6_eq]
  simp only [← EReal.coe_mul, sum_coe, ← EReal.coe_add, raw_split, mul_comm (A.kr _ _ _)]

/-- The row's greatest score. -/
def mx (A : Afw.Args) (b : Fin 2) (h : Fin 4) (i : Fin 4096) : ℝ := rmax fun j => raw A.full b h i j * sc

theorem v9_eq : val_main_v9 (F := Ideal) (X0 A) (X1 A) (X2 A) (ix3 b h i) = ((mx A b h i : ℝ) : EReal) := by
  have key : Finset.univ.fold (max : Ideal .f32 → Ideal .f32 → Ideal .f32) (Ideal.ofBits .f32 0xFF800000#32)
      (fun j => ((raw A.full b h i j * sc : ℝ) : EReal)) = ((mx A b h i : ℝ) : EReal) := by
    rw [ofBits_neg_inf]
    exact fold_max_eq _
  pointwise [val_main_v9, val_main_cst_0, v8_eq]
  generalize mx A b h i = M at key ⊢
  generalize (fun j => ((raw A.full b h i j * sc : ℝ) : EReal)) = f at key ⊢
  exact key

theorem v10_eq : val_main_v10 (F := Ideal) (ix3 b h i) = (⊥ : EReal) := by
  pointwise [val_main_v10, val_main_cst_1]
  exact ofBits_neg_inf

theorem max_of_bot (x y : Ideal .f32) (hx : x = (⊥ : EReal)) : max x y = y := by
  subst hx
  exact max_eq_right (bot_le (α := EReal))

theorem v11_eq : val_main_v11 (F := Ideal) (X0 A) (X1 A) (X2 A) (ix3 b h i) = ((mx A b h i : ℝ) : EReal) := by
  rw [val_main_v11_apply, v9_eq]
  exact max_of_bot _ _ (v10_eq b h i)

theorem v15_eq : val_main_v15 (F := Ideal) (X0 A) (X1 A) (X2 A) (ix4 b h i j) = ((Real.exp (raw A.full b h i j * sc - mx A b h i) : ℝ) : EReal) := by
  pointwise [val_main_v15, val_main_v14, val_main_v13, val_main_v12, v8_eq, v11_eq]
  simp only [← EReal.coe_sub, Ideal.exp_coe]

theorem v16_eq : val_main_v16 (F := Ideal) (X0 A) (X1 A) (X2 A) (ix3 b h i) = ((∑ j : Fin 4096, Real.exp (raw A.full b h i j * sc - mx A b h i) : ℝ) : EReal) := by
  pointwise [val_main_v16, val_main_cst_2, v15_eq]
  simp only [sum_coe, zero_add]

theorem v19_eq : val_main_v19 (F := Ideal) (X0 A) (X1 A) (X2 A) (ix4 b h i j) = ((softmax (fun j => raw A.full b h i j * sc) j : ℝ) : EReal) := by
  pointwise [val_main_v19, val_main_v18, val_main_v17, v15_eq, v16_eq]
  rw [div_real (sum_exp_pos _).ne']
  exact congrArg _ (softmax_shift (fun j => raw A.full b h i j * sc) (mx A b h i) j)

theorem v21_eq (e : Fin 128) : val_main_v21 (F := Ideal) (X0 A) (X1 A) (X2 A) (X3 A) (ix4 b i h e) = ((o A b i h e : ℝ) : EReal) := by
  pointwise [val_main_v21, val_main_v20, X3, v19_eq]
  simp only [← EReal.coe_mul, sum_coe, o, outRow, mul_comm]

theorem v27_eq : val_main_v27 (F := Ideal) (X0 A) (X1 A) (X2 A) (ix3 b h i) = ((lse A b h i : ℝ) : EReal) := by
  pointwise [val_main_v27, val_main_v24, val_main_v23, val_main_cst_3, val_main_v22, v8_eq, val_main_v26, val_main_v25, val_main_cst_4]
  simp only [Ideal.exp_coe, sum_coe, zero_add]
  rw [ofBits_two, log_real (sum_exp_pos _), log_real (by norm_num), div_real log2_ne]
  rfl

/-! ## The results -/

theorem v28_eq (s : Fin 8192) (r : Fin 512) : val_main_v28 (F := Ideal) (X0 A) (X1 A) (X2 A) (X3 A) (ix2 s r)
    = ((o A ⟨s.val / 4096, by omega⟩ ⟨s.val % 4096, by omega⟩ ⟨r.val / 128, by omega⟩ ⟨r.val % 128, by omega⟩ : ℝ) : EReal) := by
  pointwise [val_main_v28, v21_eq]

theorem v30_eq (z : Fin 1) (s : Fin 8192) : val_main_v30 (F := Ideal) (X0 A) (X1 A) (X2 A) (ix3 h z s)
    = ((lse A ⟨s.val / 4096, by omega⟩ h ⟨s.val % 4096, by omega⟩ : ℝ) : EReal) := by
  pointwise [val_main_v30, val_main_v29, v27_eq]

end Cert.Afw.Ref
-- ==== Proof.AfwClaim.lean ====
/- The forward attention: from the stated precondition to real arguments, and the claim's parts. -/
module

public import proofs.«01_k».proof.Defs
public import proofs.«01_k».proof.Proof.AfwArrays
public import proofs.«01_k».proof.Proof.AfwRef
public import proofs.«01_k».proof.Proof.FfnClaim
public import proofs.«01_k».proof.Proof.Gen.AttnFwd.Frame
public import proofs.«01_k».proof.Proof.Gen.AfwRefIdeal.Run
public import proofs.«01_k».proof.Proof.Gen.Pre_finite_afw
public import Idealize.ShloMosaic.Lib.Claim

@[expose] public section

set_option maxRecDepth 16384

noncomputable section

open Idealize.ShloMosaic Idealize.ShloMosaic.TcCoe Idealize.SL.Sem

namespace Cert.Afw.Claim

open Cert.Lift Cert.Afw.Arrays Cert.Att.Claim
open Cert.Ffn.Claim (one0 two1 three1)
open Cert.Ffn.Arrays (two)

section
open Cert.Pre_finite_afw

/-- Where the precondition is true, all the arguments are real. -/
theorem real_of_pre (x0 : FVec Ideal S2x4096x4x192 .f32) (x1 : FVec Ideal S2x4096x4x128 .f32) (x2 : FVec Ideal S2x4096x64 .f32) (x3 : FVec Ideal S2x4096x4x128 .f32)
    (h : fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) := by
  have h' := congrFun h (fun k => k.elim0)
  obtain ⟨h', h3⟩ := and_one h'
  obtain ⟨h', h2⟩ := and_one h'
  obtain ⟨h0, h1⟩ := and_one h'
  haveI : Subsingleton S_.Idx := ⟨fun a b => funext fun k => k.elim0⟩
  exact ⟨real_of_all x0 _ (fun _ => ofBits_inf) _ _ _ _ h0, real_of_all x1 _ (fun _ => ofBits_inf) _ _ _ _ h1, real_of_all x2 _ (fun _ => ofBits_inf) _ _ _ _ h2, real_of_all x3 _
    (fun _ => ofBits_inf) _ _ _ _ h3⟩

end

/-- The arguments as real arrays. -/
theorem args_of_pre (m : (ℓ : Loc Cert.AttnFwdIdeal.nD Cert.AttnFwdIdeal.τ Cert.AttnFwdIdeal.sig) → Buf (Elt Ideal) ℓ)
    (h : Cert.Pre_AttnFwdIdeal_finite_afw m) (c : Dev Cert.AttnFwdIdeal.nD) : ∃ A : Afw.Args, On m c A := by
  obtain ⟨h0, h1, h2, h3⟩ := real_of_pre _ _ _ _ (h c)
  obtain ⟨q, e_q⟩ := exists_real _ h0
  obtain ⟨kn, e_kn⟩ := exists_real _ h1
  obtain ⟨kr, e_kr⟩ := exists_real _ h2
  obtain ⟨v, e_v⟩ := exists_real _ h3
  refine ⟨⟨fun ia ib ic id => q (ix4 ia ib ic id), fun ia ib ic id => kn (ix4 ia ib ic id), fun ia ib ic => kr (ix3 ia ib ic), fun ia ib ic id => v (ix4 ia ib ic id)⟩,
    ⟨e_q.trans ?_, e_kn.trans ?_, e_kr.trans ?_, e_v.trans ?_⟩⟩
  · exact funext fun i => congrArg (fun j => ((q j : ℝ) : EReal)) (four i)
  · exact funext fun i => congrArg (fun j => ((kn j : ℝ) : EReal)) (four i)
  · exact funext fun i => congrArg (fun j => ((kr j : ℝ) : EReal)) (three i)
  · exact funext fun i => congrArg (fun j => ((v j : ℝ) : EReal)) (four i)

theorem frame : Cert.quiescent_AttnFwd := fun m g _ => Cert.AttnFwd.Gen.frame m g

theorem frame_ideal : Cert.quiescent_AttnFwdIdeal := fun m g _ => Cert.AttnFwdIdeal.Gen.frame m g

theorem frame_ideal_pre : Cert.quiescent_AttnFwdIdeal_pre_finite_afw := fun m g _ => Cert.AttnFwdIdeal.Gen.frame m g

theorem frame_ref : Cert.quiescent_AfwRefIdeal := fun m g _ =>
  (θ_run Cert.AfwRefIdeal.defs _ _).mono (fun r h => ⟨fun c => (h c).2.2, sem_eq_zero_of_no_sems (by decide) r.2⟩)
    (Cert.AfwRefIdeal.Value.run (F := Ideal) m g)

theorem frame_ref_pre : Cert.quiescent_AfwRefIdeal_pre_finite_afw := fun m g _ => frame_ref m g trivial

theorem preserves : Cert.preserves_AttnFwd_AttnFwdIdeal :=
  ⟨IdealRules.named_const.statement Cert.AttnFwdIdeal.κ "scale_log2e" .f32 0x3DD53B95#32 _ rfl,
    IdealRules.named_const.statement Cert.AttnFwdIdeal.κ "log2e" .f32 0x3FB8AA3B#32 _ rfl⟩

section
open Cert.AfwRefIdeal Cert.AfwRefIdeal.Read

variable (A : Afw.Args)

theorem ref3 {x0 x1 x2 x3} (h0 : x0 = Ref.X0 A) (h1 : x1 = Ref.X1 A) (h2 : x2 = Ref.X2 A) (h3 : x3 = Ref.X3 A) :
    val_main_v28 (F := Ideal) x0 x1 x2 x3 = G3 A := by
  subst h0 h1 h2 h3
  funext i
  obtain ⟨a, b, rfl⟩ := two (n := 8192) (k := 512) i
  exact Ref.v28_eq ..

theorem ref4 {x0 x1 x2} (h0 : x0 = Ref.X0 A) (h1 : x1 = Ref.X1 A) (h2 : x2 = Ref.X2 A) :
    val_main_v30 (F := Ideal) x0 x1 x2 = G4 A := by
  subst h0 h1 h2
  funext i
  obtain ⟨a, b, e, rfl⟩ : ∃ a b e, i = ix3 a b e := ⟨i 0, i 1, i 2, three i⟩
  exact Ref.v30_eq ..

/-- The plain attention's run, on the real arguments `A`. -/
theorem ref_run (m : (ℓ : Loc nD τ sig) → Buf (Elt Ideal) ℓ) (g : Dev nD → PrngReg) (A : Dev nD → Afw.Args)
    (h : ∀ c : Dev nD, m ((c.tc : Thread nD τ).loc main_arg0) = Ref.X0 (A c)
      ∧ m ((c.tc : Thread nD τ).loc main_arg1) = Ref.X1 (A c)
      ∧ m ((c.tc : Thread nD τ).loc main_arg2) = Ref.X2 (A c)
      ∧ m ((c.tc : Thread nD τ).loc main_arg3) = Ref.X3 (A c)) :
    θ_run (defs (F := Ideal)) (onTc (τ := τ) (main (F := Ideal))) ⟨m, fun _ => 0, g⟩ fun r => ∀ c : Dev nD,
      r.2.mem ((c.tc : Thread nD τ).loc main_v28) = G3 (A c)
      ∧ r.2.mem ((c.tc : Thread nD τ).loc main_v30) = G4 (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r hr c => ?_) (Value.run (F := Ideal) m g)
  obtain ⟨h0, h1, h2, h3⟩ := h c
  obtain ⟨r0, r1, rest⟩ := hr c
  refine ⟨r0.trans ?_, r1.trans ?_, rest⟩
  · exact (val_main_v28_eq ..).trans (ref3 _ h0 h1 h2 h3)
  · exact (val_main_v30_eq ..).trans (ref4 _ h0 h1 h2)

end

/-- The kernel and the plain attention end with the same arrays. -/
theorem algebraic : Cert.algebraic_AttnFwdIdeal_AfwRefIdeal_pre_finite_afw := by
  pair_intro
  · exact Cert.AttnFwdIdeal.Value.run_blocks m g
  · choose A O using args_of_pre m hpre
    refine (θ_run Cert.AfwRefIdeal.defs _ _).mono (fun r hr c => ?_) (ref_run m' g' A fun c => ?_)
    · obtain ⟨r0, r1, rest⟩ := hr c
      exact ⟨r0.trans (arr3 (O c)).symm, r1.trans (arr4 (O c)).symm, rest⟩
    · obtain ⟨a0, a1, a2, a3⟩ := hagree c
      exact ⟨a0.trans (O c).q, a1.trans (O c).kn, a2.trans (O c).kr, a3.trans (O c).v⟩

end Cert.Afw.Claim
-- ==== Proof.InfSpec.lean ====
/- The first norm and the input projection over the reals, one row at a time. -/
module

public import proofs.«01_k».proof.Proof.InSpec

@[expose] public section

noncomputable section

namespace Cert.Inf

open Cert.Row Cert.In

/-- The arguments: the rows, the gain and the projection. -/
structure Args where
  x : Fin 2 → Fin 4096 → Fin 1024 → ℝ
  g : Fin 1024 → ℝ
  w : Fin 1024 → Fin 3264 → ℝ

/-- The product of a row with the projection's column `n`; the columns behind the last one are zero. -/
def col (w : Fin 1024 → ℕ → ℝ) (h : Fin 1024 → ℝ) (n : ℕ) : ℝ := ∑ k, h k * w k n

section
variable (A : Args) (r : Fin 8192)

def wide (k : Fin 1024) : ℕ → ℝ := beside 3264 (A.w k) fun _ => 0
def row (r : Fin 8192) : Fin 1024 → ℝ := A.x (rowB r) (rowS r)
def H : Fin 1024 → ℝ := rms 1024 (row A r) A.g
def proj : ℕ → ℝ := col (wide A) (H A r)

theorem proj_zero (n : ℕ) (hn : 3264 ≤ n) : proj A r n = 0 := by
  unfold proj col
  refine Finset.sum_eq_zero fun k _ => ?_
  rw [show wide A k n = 0 from dif_neg (by omega), mul_zero]

end

end Cert.Inf
-- ==== Proof.InfPoint.lean ====
/- One grid point of the forward input projection on real blocks: two groups of 256 rows. -/
module

public import proofs.«01_k».proof.Proof.InfSpec
public import proofs.«01_k».proof.Proof.FfnArrays
public import proofs.«01_k».proof.Proof.Gen.InFwdIdeal.Value
public import Idealize.ShloMosaic.Lib.Pipeline.ValueKit

@[expose] public section

set_option maxRecDepth 16384

noncomputable section

open Idealize.ShloMosaic Idealize.ShloMosaic.TcCoe Idealize.SL.Sem

namespace Cert.Inf.Point

open Cert.InFwdIdeal Cert.InFwdIdeal.Gen Cert.Lift Cert.Row

theorem pos : (0 : ℝ) < 1024 := by norm_num

/-! ## A group of 256 rows -/

section Group
variable (g : Vec Ideal S1x1024 .f32) (y : Vec Ideal S256x1024 .f32) (γ : Fin 1024 → ℝ) (f : Fin 256 → Fin 1024 → ℝ)
  (hg : ∀ z k, g (ix2 z k) = ((γ k : ℝ) : EReal)) (hy : ∀ r k, y (ix2 r k) = ((f r k : ℝ) : EReal))
  (W : Fin 1024 → ℕ → ℝ) (o : ℕ)

include hg hy in
theorem normed (r : Fin 256) (k : Fin 1024) : k0_pay2 (F := Ideal) g y (ix2 r k) = ((rms 1024 (f r) γ k : ℝ) : EReal) := by
  have r1 : ∀ r, Ideal.rsqrt ((ms 1024 (f r) : ℝ) : EReal) = ((rr 1024 (f r) : ℝ) : EReal) := fun r => rsqrt_real (ms_pos _ pos)
  pointwise [k0_pay2, hg, hy]
  rw [ofBits_1024, ofBits_eps]
  simp only [← EReal.coe_mul, sum_coe, zero_add, div_real pos.ne', ← EReal.coe_add]
  refine (congrArg (fun v : EReal => ((f r k : ℝ) : EReal) * v * ((γ k : ℝ) : EReal)) (r1 r)).trans ?_
  simp only [← EReal.coe_mul, rms, hat]

include hg hy in
theorem prod512 (w : Vec Ideal S512x1024 .bf16) (hw : ∀ j k, w (ix2 j k) = ((W k (o + j.val) : ℝ) : EReal)) (r : Fin 256) (j : Fin 512) :
    k0_pay3 (F := Ideal) g y w (ix2 r j) = ((col W (rms 1024 (f r) γ) (o + j.val) : ℝ) : EReal) := by
  have h := normed g y γ f hg hy
  pointwise [k0_pay3, h, hw]
  simp only [← EReal.coe_mul, sum_coe, zero_add, col]

include hg hy in
theorem prod384 (w : Vec Ideal S384x1024 .bf16) (hw : ∀ j k, w (ix2 j k) = ((W k (o + j.val) : ℝ) : EReal)) (r : Fin 256) (j : Fin 384) :
    k0_pay8 (F := Ideal) (k0_pay2 g y) w (ix2 r j) = ((col W (rms 1024 (f r) γ) (o + j.val) : ℝ) : EReal) := by
  have h := normed g y γ f hg hy
  pointwise [k0_pay8, h, hw]
  simp only [← EReal.coe_mul, sum_coe, zero_add, col]

include hg hy in
theorem prod256 (w : Vec Ideal S256x1024 .bf16) (hw : ∀ j k, w (ix2 j k) = ((W k (o + j.val) : ℝ) : EReal)) (r : Fin 256) (j : Fin 256) :
    k0_pay9 (F := Ideal) (k0_pay2 g y) w (ix2 r j) = ((col W (rms 1024 (f r) γ) (o + j.val) : ℝ) : EReal) := by
  have h := normed g y γ f hg hy
  pointwise [k0_pay9, h, hw]
  simp only [← EReal.coe_mul, sum_coe, zero_add, col]

include hg hy in
theorem prod128 (w : Vec Ideal S128x1024 .bf16) (hw : ∀ j k, w (ix2 j k) = ((W k (o + j.val) : ℝ) : EReal)) (r : Fin 256) (j : Fin 128) :
    k0_pay10 (F := Ideal) (k0_pay2 g y) w (ix2 r j) = ((col W (rms 1024 (f r) γ) (o + j.val) : ℝ) : EReal) := by
  have h := normed g y γ f hg hy
  pointwise [k0_pay10, h, hw]
  simp only [← EReal.coe_mul, sum_coe, zero_add, col]

/-! The other products of 512 columns are the first one's operations, and the second group's are the first group's. -/

section Same
variable (w : Vec Ideal S512x1024 .bf16) (w3 : Vec Ideal S384x1024 .bf16) (w2 : Vec Ideal S256x1024 .bf16) (w1 : Vec Ideal S128x1024 .bf16)

theorem same4 : k0_pay4 (F := Ideal) g y w = k0_pay3 g y w := rfl
theorem same5 : k0_pay5 (F := Ideal) g y w = k0_pay3 g y w := rfl
theorem same6 : k0_pay6 (F := Ideal) g y w = k0_pay3 g y w := rfl
theorem same7 : k0_pay7 (F := Ideal) g y w = k0_pay3 g y w := rfl
theorem same11 : k0_pay11 (F := Ideal) g (k0_pay1 y) = k0_pay2 g y := rfl
theorem same12 : k0_pay12 (F := Ideal) g (k0_pay1 y) w = k0_pay3 g y w := rfl
theorem same13 : k0_pay13 (F := Ideal) g (k0_pay1 y) w = k0_pay3 g y w := rfl
theorem same14 : k0_pay14 (F := Ideal) g (k0_pay1 y) w = k0_pay3 g y w := rfl
theorem same15 : k0_pay15 (F := Ideal) g (k0_pay1 y) w = k0_pay3 g y w := rfl
theorem same17 : k0_pay17 (F := Ideal) (k0_pay11 g (k0_pay1 y)) (k0_pay16 w) = k0_pay3 g y w := rfl
theorem same18 : k0_pay18 (F := Ideal) (k0_pay11 g (k0_pay1 y)) w3 = k0_pay8 (k0_pay2 g y) w3 := rfl
theorem same19 : k0_pay19 (F := Ideal) (k0_pay11 g (k0_pay1 y)) w2 = k0_pay9 (k0_pay2 g y) w2 := rfl
theorem same20 : k0_pay20 (F := Ideal) (k0_pay11 g (k0_pay1 y)) w1 = k0_pay10 (k0_pay2 g y) w1 := rfl

end Same

end Group

/-! ## A point's 512 rows -/

section Point
variable (x0 : Vec Ideal S512x1024 .f32) (x1 : Vec Ideal S1x1024 .f32) (x2 : Vec Ideal S3328x1024 .bf16)
  (X : Fin 512 → Fin 1024 → ℝ) (γ : Fin 1024 → ℝ) (W : Fin 1024 → ℕ → ℝ)
  (hX : ∀ r k, x0 (ix2 r k) = ((X r k : ℝ) : EReal)) (hG : ∀ z k, x1 (ix2 z k) = ((γ k : ℝ) : EReal)) (hW : ∀ l k, x2 (ix2 l k) = ((W k l.val : ℝ) : EReal))

include hX in
theorem ld_x (n : ℕ) (hn : n + 256 ≤ 512) (hr) (r : Fin 256) (k : Fin 1024) :
    View.ld x0 (Rect.unit (s := S512x1024) ![n, 0] ![256, 1024] hr) (ix2 r k) = ((X ⟨n + r.val, by omega⟩ k : ℝ) : EReal) := by
  pointwise [hX]

include hX hG in
theorem rowsH (n : ℕ) (hn : n + 256 ≤ 512) (hr) (x : S256x1024.Idx) (s : Fin 512) (k : Fin 1024) (hs : s.val = n + (x 0).val) (hk : k.val = (x 1).val) :
    k0_pay2 (F := Ideal) x1 (View.ld x0 (Rect.unit (s := S512x1024) ![n, 0] ![256, 1024] hr)) x
      = ((rms 1024 (X s) γ k : ℝ) : EReal) := by
  obtain ⟨a, b, rfl⟩ := Cert.Ffn.Arrays.two (n := 256) (k := 1024) x
  obtain rfl : k = b := Fin.ext hk
  obtain rfl : s = ⟨n + a.val, lt_of_lt_of_le (Nat.add_lt_add_left a.isLt n) hn⟩ := Fin.ext hs
  exact normed _ _ γ (fun i => X ⟨n + i.val, by omega⟩) hG (ld_x x0 X hX n hn hr) a k

include hX hG in
theorem out_h (s : Fin 512) (k : Fin 1024) : out0_3 (F := Ideal) x0 x1 x2 (ix2 s k) = ((rms 1024 (X s) γ k : ℝ) : EReal) := by
  unfold_out out0_3
  frame_out
  simp only [same11]
  canon_tiles x h
  · exact rowsH x0 x1 X γ hX hG 256 (by norm_num) _ x s k h0 h1
  · exact rowsH x0 x1 X γ hX hG 0 (by norm_num) _ x s k (h0.trans (Nat.zero_add _).symm) h1

include hW in
theorem ld512 (o : ℕ) (ho : o + 512 ≤ 3328) (hw) (j : Fin 512) (k : Fin 1024) :
    View.ld x2 (Rect.unit (s := S3328x1024) ![o, 0] ![512, 1024] hw) (ix2 j k) = ((W k (o + j.val) : ℝ) : EReal) := by
  pointwise [hW]

include hX hG hW in
theorem rows512 (n : ℕ) (hn : n + 256 ≤ 512) (hr) (o : ℕ) (ho : o + 512 ≤ 3328) (hw) (x : S256x512.Idx) (s : Fin 512) (j : Fin 512) (hs : s.val = n + (x 0).val) (hj : j.val = (x 1).val) :
    k0_pay3 (F := Ideal) x1 (View.ld x0 (Rect.unit (s := S512x1024) ![n, 0] ![256, 1024] hr))
        (View.ld x2 (Rect.unit (s := S3328x1024) ![o, 0] ![512, 1024] hw)) x
      = ((col W (rms 1024 (X s) γ) (o + j.val) : ℝ) : EReal) := by
  obtain ⟨a, b, rfl⟩ := Cert.Ffn.Arrays.two (n := 256) (k := 512) x
  obtain rfl : j = b := Fin.ext hj
  obtain rfl : s = ⟨n + a.val, lt_of_lt_of_le (Nat.add_lt_add_left a.isLt n) hn⟩ := Fin.ext hs
  exact prod512 _ _ γ (fun i => X ⟨n + i.val, by omega⟩) hG (ld_x x0 X hX n hn hr) W o _ (ld512 x2 W hW o ho hw) a j

include hW in
theorem ld384 (o : ℕ) (ho : o + 384 ≤ 3328) (hw) (j : Fin 384) (k : Fin 1024) :
    View.ld x2 (Rect.unit (s := S3328x1024) ![o, 0] ![384, 1024] hw) (ix2 j k) = ((W k (o + j.val) : ℝ) : EReal) := by
  pointwise [hW]

include hX hG hW in
theorem rows384 (n : ℕ) (hn : n + 256 ≤ 512) (hr) (o : ℕ) (ho : o + 384 ≤ 3328) (hw) (x : S256x384.Idx) (s : Fin 512) (j : Fin 384) (hs : s.val = n + (x 0).val) (hj : j.val = (x 1).val) :
    k0_pay8 (F := Ideal) (k0_pay2 x1 (View.ld x0 (Rect.unit (s := S512x1024) ![n, 0] ![256, 1024] hr)))
        (View.ld x2 (Rect.unit (s := S3328x1024) ![o, 0] ![384, 1024] hw)) x
      = ((col W (rms 1024 (X s) γ) (o + j.val) : ℝ) : EReal) := by
  obtain ⟨a, b, rfl⟩ := Cert.Ffn.Arrays.two (n := 256) (k := 384) x
  obtain rfl : j = b := Fin.ext hj
  obtain rfl : s = ⟨n + a.val, lt_of_lt_of_le (Nat.add_lt_add_left a.isLt n) hn⟩ := Fin.ext hs
  exact prod384 _ _ γ (fun i => X ⟨n + i.val, by omega⟩) hG (ld_x x0 X hX n hn hr) W o _ (ld384 x2 W hW o ho hw) a j

include hW in
theorem ld256 (o : ℕ) (ho : o + 256 ≤ 3328) (hw) (j : Fin 256) (k : Fin 1024) :
    View.ld x2 (Rect.unit (s := S3328x1024) ![o, 0] ![256, 1024] hw) (ix2 j k) = ((W k (o + j.val) : ℝ) : EReal) := by
  pointwise [hW]

include hX hG hW in
theorem rows256 (n : ℕ) (hn : n + 256 ≤ 512) (hr) (o : ℕ) (ho : o + 256 ≤ 3328) (hw) (x : S256x256.Idx) (s : Fin 512) (j : Fin 256) (hs : s.val = n + (x 0).val) (hj : j.val = (x 1).val) :
    k0_pay9 (F := Ideal) (k0_pay2 x1 (View.ld x0 (Rect.unit (s := S512x1024) ![n, 0] ![256, 1024] hr)))
        (View.ld x2 (Rect.unit (s := S3328x1024) ![o, 0] ![256, 1024] hw)) x
      = ((col W (rms 1024 (X s) γ) (o + j.val) : ℝ) : EReal) := by
  obtain ⟨a, b, rfl⟩ := Cert.Ffn.Arrays.two (n := 256) (k := 256) x
  obtain rfl : j = b := Fin.ext hj
  obtain rfl : s = ⟨n + a.val, lt_of_lt_of_le (Nat.add_lt_add_left a.isLt n) hn⟩ := Fin.ext hs
  exact prod256 _ _ γ (fun i => X ⟨n + i.val, by omega⟩) hG (ld_x x0 X hX n hn hr) W o _ (ld256 x2 W hW o ho hw) a j

include hW in
theorem ld128 (o : ℕ) (ho : o + 128 ≤ 3328) (hw) (j : Fin 128) (k : Fin 1024) :
    View.ld x2 (Rect.unit (s := S3328x1024) ![o, 0] ![128, 1024] hw) (ix2 j k) = ((W k (o + j.val) : ℝ) : EReal) := by
  pointwise [hW]

include hX hG hW in
theorem rows128 (n : ℕ) (hn : n + 256 ≤ 512) (hr) (o : ℕ) (ho : o + 128 ≤ 3328) (hw) (x : S256x128.Idx) (s : Fin 512) (j : Fin 128) (hs : s.val = n + (x 0).val) (hj : j.val = (x 1).val) :
    k0_pay10 (F := Ideal) (k0_pay2 x1 (View.ld x0 (Rect.unit (s := S512x1024) ![n, 0] ![256, 1024] hr)))
        (View.ld x2 (Rect.unit (s := S3328x1024) ![o, 0] ![128, 1024] hw)) x
      = ((col W (rms 1024 (X s) γ) (o + j.val) : ℝ) : EReal) := by
  obtain ⟨a, b, rfl⟩ := Cert.Ffn.Arrays.two (n := 256) (k := 128) x
  obtain rfl : j = b := Fin.ext hj
  obtain rfl : s = ⟨n + a.val, lt_of_lt_of_le (Nat.add_lt_add_left a.isLt n) hn⟩ := Fin.ext hs
  exact prod128 _ _ γ (fun i => X ⟨n + i.val, by omega⟩) hG (ld_x x0 X hX n hn hr) W o _ (ld128 x2 W hW o ho hw) a j

include hX hG hW in
theorem out_4 (s : Fin 512) (j : Fin 512) : out0_4 (F := Ideal) x0 x1 x2 (ix2 s j) = ((col W (rms 1024 (X s) γ) (0 + j.val) : ℝ) : EReal) := by
  unfold_out out0_4
  frame_out
  simp only [same12]
  canon_tiles x h
  · exact rows512 x0 x1 x2 X γ W hX hG hW 256 (by norm_num) _ 0 (by norm_num) _ x s j h0 h1
  · exact rows512 x0 x1 x2 X γ W hX hG hW 0 (by norm_num) _ 0 (by norm_num) _ x s j (h0.trans (Nat.zero_add _).symm) h1

include hX hG hW in
theorem out_5 (s : Fin 512) (j : Fin 512) : out0_5 (F := Ideal) x0 x1 x2 (ix2 s j) = ((col W (rms 1024 (X s) γ) (512 + j.val) : ℝ) : EReal) := by
  unfold_out out0_5
  frame_out
  simp only [same13, same4]
  canon_tiles x h
  · exact rows512 x0 x1 x2 X γ W hX hG hW 256 (by norm_num) _ 512 (by norm_num) _ x s j h0 h1
  · exact rows512 x0 x1 x2 X γ W hX hG hW 0 (by norm_num) _ 512 (by norm_num) _ x s j (h0.trans (Nat.zero_add _).symm) h1

include hX hG hW in
theorem out_6 (s : Fin 512) (j : Fin 512) : out0_6 (F := Ideal) x0 x1 x2 (ix2 s j) = ((col W (rms 1024 (X s) γ) (1024 + j.val) : ℝ) : EReal) := by
  unfold_out out0_6
  frame_out
  simp only [same14, same5]
  canon_tiles x h
  · exact rows512 x0 x1 x2 X γ W hX hG hW 256 (by norm_num) _ 1024 (by norm_num) _ x s j h0 h1
  · exact rows512 x0 x1 x2 X γ W hX hG hW 0 (by norm_num) _ 1024 (by norm_num) _ x s j (h0.trans (Nat.zero_add _).symm) h1

include hX hG hW in
theorem out_7 (s : Fin 512) (j : Fin 512) : out0_7 (F := Ideal) x0 x1 x2 (ix2 s j) = ((col W (rms 1024 (X s) γ) (1536 + j.val) : ℝ) : EReal) := by
  unfold_out out0_7
  frame_out
  simp only [same15, same6]
  canon_tiles x h
  · exact rows512 x0 x1 x2 X γ W hX hG hW 256 (by norm_num) _ 1536 (by norm_num) _ x s j h0 h1
  · exact rows512 x0 x1 x2 X γ W hX hG hW 0 (by norm_num) _ 1536 (by norm_num) _ x s j (h0.trans (Nat.zero_add _).symm) h1

include hX hG hW in
theorem out_8 (s : Fin 512) (j : Fin 512) : out0_8 (F := Ideal) x0 x1 x2 (ix2 s j) = ((col W (rms 1024 (X s) γ) (2048 + j.val) : ℝ) : EReal) := by
  unfold_out out0_8
  frame_out
  simp only [same17, same7]
  canon_tiles x h
  · exact rows512 x0 x1 x2 X γ W hX hG hW 256 (by norm_num) _ 2048 (by norm_num) _ x s j h0 h1
  · exact rows512 x0 x1 x2 X γ W hX hG hW 0 (by norm_num) _ 2048 (by norm_num) _ x s j (h0.trans (Nat.zero_add _).symm) h1

include hX hG hW in
theorem out_9 (s : Fin 512) (j : Fin 384) : out0_9 (F := Ideal) x0 x1 x2 (ix2 s j) = ((col W (rms 1024 (X s) γ) (2560 + j.val) : ℝ) : EReal) := by
  unfold_out out0_9
  frame_out
  simp only [same18]
  canon_tiles x h
  · exact rows384 x0 x1 x2 X γ W hX hG hW 256 (by norm_num) _ 2560 (by norm_num) _ x s j h0 h1
  · exact rows384 x0 x1 x2 X γ W hX hG hW 0 (by norm_num) _ 2560 (by norm_num) _ x s j (h0.trans (Nat.zero_add _).symm) h1

include hX hG hW in
theorem out_10 (s : Fin 512) (j : Fin 256) : out0_10 (F := Ideal) x0 x1 x2 (ix2 s j) = ((col W (rms 1024 (X s) γ) (2944 + j.val) : ℝ) : EReal) := by
  unfold_out out0_10
  frame_out
  simp only [same19]
  canon_tiles x h
  · exact rows256 x0 x1 x2 X γ W hX hG hW 256 (by norm_num) _ 2944 (by norm_num) _ x s j h0 h1
  · exact rows256 x0 x1 x2 X γ W hX hG hW 0 (by norm_num) _ 2944 (by norm_num) _ x s j (h0.trans (Nat.zero_add _).symm) h1

include hX hG hW in
theorem out_11 (s : Fin 512) (j : Fin 128) : out0_11 (F := Ideal) x0 x1 x2 (ix2 s j) = ((col W (rms 1024 (X s) γ) (3200 + j.val) : ℝ) : EReal) := by
  unfold_out out0_11
  frame_out
  simp only [same20]
  canon_tiles x h
  · exact rows128 x0 x1 x2 X γ W hX hG hW 256 (by norm_num) _ 3200 (by norm_num) _ x s j h0 h1
  · exact rows128 x0 x1 x2 X γ W hX hG hW 0 (by norm_num) _ 3200 (by norm_num) _ x s j (h0.trans (Nat.zero_add _).symm) h1

end Point

end Cert.Inf.Point
-- ==== Proof.InfArrays.lean ====
/- The forward input projection's nine final arrays on real arguments. -/
module

public import proofs.«01_k».proof.Proof.InfPoint
public import proofs.«01_k».proof.Proof.InHost

@[expose] public section

set_option maxRecDepth 16384

noncomputable section

open Idealize.ShloMosaic Idealize.ShloMosaic.TcCoe Idealize.SL.Sem
open Idealize.ShloMosaic.Pipeline (Dat)

namespace Cert.Inf.Arrays

open Cert.InFwdIdeal Cert.InFwdIdeal.Gen Cert.Lift Cert.Row Cert.Inf.Point
open Cert.Ffn.Arrays (two)

theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] :=
  (by decide +kernel : ∀ t : Fin grid0.N, _)

theorem t_lt (t : Fin cfg0.N) : t.val < 16 := lt_of_lt_of_eq t.isLt N_0

/-- A tile's row among all rows. -/
def R (i : ℕ) : Fin 512 → Fin 8192 := tileRow 16 512 (by norm_num) i

theorem R_val (t : Fin cfg0.N) (r : Fin 512) : (R t.val r).val = t.val * 512 + r.val := by
  simp only [R, tileRow, Nat.mod_eq_of_lt (t_lt t)]

/-! ## Where a block's elements lie -/

section
variable (t : Fin cfg0.N) (r : Fin 512) (k : Fin 1024) (l : Fin 3328) (z : Fin 1)

theorem emb0 : (win0_0.blk t).view.emb (ix2 r k) = ix2 (R t.val r) k := by
  blk_ext [idx t] <;> simp only [R_val, Nat.zero_add]
theorem emb1 : (win0_1.blk t).view.emb (ix2 z k) = ix2 z k := by
  blk_ext [idx t]
theorem emb2 : (win0_2.blk t).view.emb (ix2 l k) = ix2 l k := by
  blk_ext [idx t]
theorem emb3 : (win0_3.blk t).view.emb (ix2 r k) = ix2 (R t.val r) k := by
  blk_ext [idx t] <;> simp only [R_val, Nat.zero_add]
theorem emb4 (j : Fin 512) : (win0_4.blk t).view.emb (ix2 r j) = ix2 (R t.val r) j := by
  blk_ext [idx t] <;> simp only [R_val, Nat.zero_add]
theorem emb5 (j : Fin 512) : (win0_5.blk t).view.emb (ix2 r j) = ix2 (R t.val r) j := by
  blk_ext [idx t] <;> simp only [R_val, Nat.zero_add]
theorem emb6 (j : Fin 512) : (win0_6.blk t).view.emb (ix2 r j) = ix2 (R t.val r) j := by
  blk_ext [idx t] <;> simp only [R_val, Nat.zero_add]
theorem emb7 (j : Fin 512) : (win0_7.blk t).view.emb (ix2 r j) = ix2 (R t.val r) j := by
  blk_ext [idx t] <;> simp only [R_val, Nat.zero_add]
theorem emb8 (j : Fin 512) : (win0_8.blk t).view.emb (ix2 r j) = ix2 (R t.val r) j := by
  blk_ext [idx t] <;> simp only [R_val, Nat.zero_add]
theorem emb9 (j : Fin 384) : (win0_9.blk t).view.emb (ix2 r j) = ix2 (R t.val r) j := by
  blk_ext [idx t] <;> simp only [R_val, Nat.zero_add]
theorem emb10 (j : Fin 256) : (win0_10.blk t).view.emb (ix2 r j) = ix2 (R t.val r) j := by
  blk_ext [idx t] <;> simp only [R_val, Nat.zero_add]
theorem emb11 (j : Fin 128) : (win0_11.blk t).view.emb (ix2 r j) = ix2 (R t.val r) j := by
  blk_ext [idx t] <;> simp only [R_val, Nat.zero_add]
end

/-! ## Each block is its operand read at the block's places -/

section
variable (c : Dev nD) (t : Fin cfg0.N) (f : (b : Ref sig .tc) → Buf (Elt Ideal) ((c : Thread nD τ).loc b)) (r : Fin 512) (k : Fin 1024) (l : Fin 3328) (z : Fin 1)

theorem read0 : ((cfg0.win 0).blk t).view.read (Elt Ideal) (f (Pipeline.arrRef spec0 0)) (ix2 r k) = f main_v0 ((win0_0.blk t).view.emb (ix2 r k)) := rfl
theorem read1 : ((cfg0.win 1).blk t).view.read (Elt Ideal) (f (Pipeline.arrRef spec0 1)) (ix2 z k) = f main_arg1 ((win0_1.blk t).view.emb (ix2 z k)) := rfl
theorem read2 : ((cfg0.win 2).blk t).view.read (Elt Ideal) (f (Pipeline.arrRef spec0 2)) (ix2 l k) = f main_v4 ((win0_2.blk t).view.emb (ix2 l k)) := rfl
end

/-! ## The kernel's operands -/

section
variable (m : (ℓ : Loc nD τ sig) → Buf (Elt Ideal) ℓ) (c : Dev nD)

theorem V_x : V m c main_v0 = Ffn.Host.flat (m ((c : Thread nD τ).loc main_arg0)) := by
  unfold V
  after_reads_simp
  rfl

theorem V_w : V m c main_v4 = In.Host.wPad (m ((c : Thread nD τ).loc main_arg2)) := by
  unfold V
  after_reads_simp
  rfl

theorem V_g : V m c main_arg1 = m ((c : Thread nD τ).loc main_arg1) := V_main_arg1 m c

end

/-! ## The blocks at a point -/

def X0 (A : Args) : FVec Ideal S2x4096x1024 .f32 := fun i => ((A.x (i 0) (i 1) (i 2) : ℝ) : EReal)
def X1 (A : Args) : FVec Ideal S1x1024 .f32 := fun i => ((A.g (i 1) : ℝ) : EReal)
def X2 (A : Args) : FVec Ideal S1x1024x3264 .f32 := fun i => ((A.w (i 1) (i 2) : ℝ) : EReal)

section
variable (m : (ℓ : Loc nD τ sig) → Buf (Elt Ideal) ℓ) (c : Dev nD) (A : Args)

/-- The arguments hold the reals `A`. -/
structure On : Prop where
  x : m ((c : Thread nD τ).loc main_arg0) = X0 A
  g : m ((c : Thread nD τ).loc main_arg1) = X1 A
  w : m ((c : Thread nD τ).loc main_arg2) = X2 A

variable {m c A} (O : On m c A) (t : Fin cfg0.N)
include O

theorem x_block (r : Fin 512) (k : Fin 1024) : (iblk m c 0 t : Vec Ideal S512x1024 .f32) (ix2 r k) = ((row A (R t.val r) k : ℝ) : EReal) := by
  refine (read0 c t (V m c) r k).trans ?_
  rw [emb0, V_x, O.x]
  exact Ffn.Host.flat_eq _ _ A.x (X0 A) fun _ _ _ => rfl

theorem g_block (z : Fin 1) (k : Fin 1024) : (iblk m c 1 t : Vec Ideal S1x1024 .f32) (ix2 z k) = ((A.g k : ℝ) : EReal) := by
  refine (read1 c t (V m c) k z).trans ?_
  rw [emb1, V_g, O.g]
  rfl

theorem w_block (l : Fin 3328) (k : Fin 1024) : (iblk m c 2 t : Vec Ideal S3328x1024 .bf16) (ix2 l k) = ((wide A k l.val : ℝ) : EReal) := by
  refine (read2 c t (V m c) k l).trans ?_
  rw [emb2, V_w, O.w]
  exact In.Host.wPad_eq k A.w (X2 A) (fun _ _ _ => rfl) l

/-! ## The final arrays -/

def G3 (A : Args) : FVec Ideal S8192x1024 .bf16 := fun i => ((H A (i 0) (i 1) : ℝ) : EReal)
def G4 (A : Args) : FVec Ideal S8192x512 .f32 := fun i => ((proj A (i 0) (0 + (i 1).val) : ℝ) : EReal)
def G5 (A : Args) : FVec Ideal S8192x512 .f32 := fun i => ((proj A (i 0) (512 + (i 1).val) : ℝ) : EReal)
def G6 (A : Args) : FVec Ideal S8192x512 .f32 := fun i => ((proj A (i 0) (1024 + (i 1).val) : ℝ) : EReal)
def G7 (A : Args) : FVec Ideal S8192x512 .f32 := fun i => ((proj A (i 0) (1536 + (i 1).val) : ℝ) : EReal)
def G8 (A : Args) : FVec Ideal S8192x512 .f32 := fun i => ((proj A (i 0) (2048 + (i 1).val) : ℝ) : EReal)
def G9 (A : Args) : FVec Ideal S8192x384 .f32 := fun i => ((proj A (i 0) (2560 + (i 1).val) : ℝ) : EReal)
def G10 (A : Args) : FVec Ideal S8192x256 .f32 := fun i => ((proj A (i 0) (2944 + (i 1).val) : ℝ) : EReal)
def G11 (A : Args) : FVec Ideal S8192x128 .f32 := fun i => ((proj A (i 0) (3200 + (i 1).val) : ℝ) : EReal)

theorem arr3 : (dats m 0 c).arrAt 3 cfg0.N = G3 A := by
  refine (dats m 0 c).arrAt_eq_of_covers 3 (G3 A) (by decide +kernel) fun t hf y => ?_
  obtain ⟨r, k, rfl⟩ := two (n := 512) (k := 1024) y
  rw [after0_3]
  have e := (out_h _ _ (iblk m c 2 t) _ _ (x_block O t) (g_block O t) r k).trans (congrArg (G3 A) (emb3 t r k)).symm
  generalize (win0_3.blk t).view.emb (ix2 r k) = y at e ⊢
  generalize out0_3 (F := Ideal) (iblk m c 0 t) (iblk m c 1 t) (iblk m c 2 t) = w at e ⊢
  exact e

theorem arr4 : (dats m 0 c).arrAt 4 cfg0.N = G4 A := by
  refine (dats m 0 c).arrAt_eq_of_covers 4 (G4 A) (by decide +kernel) fun t hf y => ?_
  obtain ⟨r, k, rfl⟩ := two (n := 512) (k := 512) y
  rw [after0_4]
  have e := (out_4 _ _ _ _ _ _ (x_block O t) (g_block O t) (w_block O t) r k).trans (congrArg (G4 A) (emb4 t r k)).symm
  generalize (win0_4.blk t).view.emb (ix2 r k) = y at e ⊢
  generalize out0_4 (F := Ideal) (iblk m c 0 t) (iblk m c 1 t) (iblk m c 2 t) = w at e ⊢
  exact e

theorem arr5 : (dats m 0 c).arrAt 5 cfg0.N = G5 A := by
  refine (dats m 0 c).arrAt_eq_of_covers 5 (G5 A) (by decide +kernel) fun t hf y => ?_
  obtain ⟨r, k, rfl⟩ := two (n := 512) (k := 512) y
  rw [after0_5]
  have e := (out_5 _ _ _ _ _ _ (x_block O t) (g_block O t) (w_block O t) r k).trans (congrArg (G5 A) (emb5 t r k)).symm
  generalize (win0_5.blk t).view.emb (ix2 r k) = y at e ⊢
  generalize out0_5 (F := Ideal) (iblk m c 0 t) (iblk m c 1 t) (iblk m c 2 t) = w at e ⊢
  exact e

theorem arr6 : (dats m 0 c).arrAt 6 cfg0.N = G6 A := by
  refine (dats m 0 c).arrAt_eq_of_covers 6 (G6 A) (by decide +kernel) fun t hf y => ?_
  obtain ⟨r, k, rfl⟩ := two (n := 512) (k := 512) y
  rw [after0_6]
  have e := (out_6 _ _ _ _ _ _ (x_block O t) (g_block O t) (w_block O t) r k).trans (congrArg (G6 A) (emb6 t r k)).symm
  generalize (win0_6.blk t).view.emb (ix2 r k) = y at e ⊢
  generalize out0_6 (F := Ideal) (iblk m c 0 t) (iblk m c 1 t) (iblk m c 2 t) = w at e ⊢
  exact e

theorem arr7 : (dats m 0 c).arrAt 7 cfg0.N = G7 A := by
  refine (dats m 0 c).arrAt_eq_of_covers 7 (G7 A) (by decide +kernel) fun t hf y => ?_
  obtain ⟨r, k, rfl⟩ := two (n := 512) (k := 512) y
  rw [after0_7]
  have e := (out_7 _ _ _ _ _ _ (x_block O t) (g_block O t) (w_block O t) r k).trans (congrArg (G7 A) (emb7 t r k)).symm
  generalize (win0_7.blk t).view.emb (ix2 r k) = y at e ⊢
  generalize out0_7 (F := Ideal) (iblk m c 0 t) (iblk m c 1 t) (iblk m c 2 t) = w at e ⊢
  exact e

theorem arr8 : (dats m 0 c).arrAt 8 cfg0.N = G8 A := by
  refine (dats m 0 c).arrAt_eq_of_covers 8 (G8 A) (by decide +kernel) fun t hf y => ?_
  obtain ⟨r, k, rfl⟩ := two (n := 512) (k := 512) y
  rw [after0_8]
  have e := (out_8 _ _ _ _ _ _ (x_block O t) (g_block O t) (w_block O t) r k).trans (congrArg (G8 A) (emb8 t r k)).symm
  generalize (win0_8.blk t).view.emb (ix2 r k) = y at e ⊢
  generalize out0_8 (F := Ideal) (iblk m c 0 t) (iblk m c 1 t) (iblk m c 2 t) = w at e ⊢
  exact e

theorem arr9 : (dats m 0 c).arrAt 9 cfg0.N = G9 A := by
  refine (dats m 0 c).arrAt_eq_of_covers 9 (G9 A) (by decide +kernel) fun t hf y => ?_
  obtain ⟨r, k, rfl⟩ := two (n := 512) (k := 384) y
  rw [after0_9]
  have e := (out_9 _ _ _ _ _ _ (x_block O t) (g_block O t) (w_block O t) r k).trans (congrArg (G9 A) (emb9 t r k)).symm
  generalize (win0_9.blk t).view.emb (ix2 r k) = y at e ⊢
  generalize out0_9 (F := Ideal) (iblk m c 0 t) (iblk m c 1 t) (iblk m c 2 t) = w at e ⊢
  exact e

theorem arr10 : (dats m 0 c).arrAt 10 cfg0.N = G10 A := by
  refine (dats m 0 c).arrAt_eq_of_covers 10 (G10 A) (by decide +kernel) fun t hf y => ?_
  obtain ⟨r, k, rfl⟩ := two (n := 512) (k := 256) y
  rw [after0_10]
  have e := (out_10 _ _ _ _ _ _ (x_block O t) (g_block O t) (w_block O t) r k).trans (congrArg (G10 A) (emb10 t r k)).symm
  generalize (win0_10.blk t).view.emb (ix2 r k) = y at e ⊢
  generalize out0_10 (F := Ideal) (iblk m c 0 t) (iblk m c 1 t) (iblk m c 2 t) = w at e ⊢
  exact e

theorem arr11 : (dats m 0 c).arrAt 11 cfg0.N = G11 A := by
  refine (dats m 0 c).arrAt_eq_of_covers 11 (G11 A) (by decide +kernel) fun t hf y => ?_
  obtain ⟨r, k, rfl⟩ := two (n := 512) (k := 128) y
  rw [after0_11]
  have e := (out_11 _ _ _ _ _ _ (x_block O t) (g_block O t) (w_block O t) r k).trans (congrArg (G11 A) (emb11 t r k)).symm
  generalize (win0_11.blk t).view.emb (ix2 r k) = y at e ⊢
  generalize out0_11 (F := Ideal) (iblk m c 0 t) (iblk m c 1 t) (iblk m c 2 t) = w at e ⊢
  exact e

end

end Cert.Inf.Arrays
-- ==== Proof.InfRef.lean ====
/- The forward input projection's reference on real arguments: its operations one after the other, down to its nine results. -/
module

public import proofs.«01_k».proof.Proof.InfSpec
public import proofs.«01_k».proof.Proof.AttSpec
public import proofs.«01_k».proof.Proof.Gen.InfRefIdeal.Read

@[expose] public section

set_option maxRecDepth 16384

noncomputable section

open Idealize.ShloMosaic Idealize.ShloMosaic.TcCoe Idealize.SL.Sem

namespace Cert.Inf.Ref

open Cert.InfRefIdeal Cert.InfRefIdeal.Read Cert.Lift Cert.Row

/-- The arguments' arrays. -/
def X0 (A : Args) : (⟨S2x4096x1024, .f32⟩ : BufTy).Contents (Elt Ideal) := fun i => ((A.x (i 0) (i 1) (i 2) : ℝ) : EReal)
def X1 (A : Args) : (⟨S1x1024, .f32⟩ : BufTy).Contents (Elt Ideal) := fun i => ((A.g (i 1) : ℝ) : EReal)
def X2 (A : Args) : (⟨S1x1024x3264, .f32⟩ : BufTy).Contents (Elt Ideal) := fun i => ((A.w (i 1) (i 2) : ℝ) : EReal)

variable (A : Args) (b : Fin 2) (s : Fin 4096) (r : Fin 8192) (k : Fin 1024) (n : Fin 3264)

theorem pos : (0 : ℝ) < 1024 := by norm_num

theorem v7_eq (z : Fin 1) : val_main_v7 (F := Ideal) (X0 A) (ix3 b s z) = ((ms 1024 (A.x b s) : ℝ) : EReal) := by
  pointwise [val_main_v7, val_main_v6, val_main_v5, val_main_v4, val_main_v3, val_main_v2, val_main_v1, val_main_cst, val_main_cst_0, val_main_cst_1, X0]
  rw [ofBits_1024, ofBits_eps]
  simp only [← EReal.coe_mul, sum_coe, zero_add, div_real pos.ne', ← EReal.coe_add, ms]

theorem v8_eq (z : Fin 1) : val_main_v8 (F := Ideal) (X0 A) (ix3 b s z) = ((rr 1024 (A.x b s) : ℝ) : EReal) := by
  pointwise [val_main_v8, v7_eq]
  exact rsqrt_real (ms_pos _ pos)

theorem v13_eq : val_main_v13 (F := Ideal) (X0 A) (X1 A) (ix3 b s k) = ((rms 1024 (A.x b s) A.g k : ℝ) : EReal) := by
  pointwise [val_main_v13, val_main_v12, val_main_v11, val_main_v10, val_main_v9, val_main_v0, v8_eq, X0, X1]
  simp only [← EReal.coe_mul, rms, hat]

theorem v14_eq : val_main_v14 (F := Ideal) (X0 A) (X1 A) (ix2 r k) = ((H A r k : ℝ) : EReal) := by
  pointwise [val_main_v14, v13_eq]
  rfl

theorem v25_eq : val_main_v25 (F := Ideal) (X0 A) (X1 A) (ix2 r k) = ((H A r k : ℝ) : EReal) := by
  pointwise [val_main_v25, v14_eq]

theorem v16_eq : val_main_v16 (F := Ideal) (X0 A) (X1 A) (X2 A) (ix2 r n) = ((proj A r n.val : ℝ) : EReal) := by
  have e : ∀ k, wide A k n.val = A.w k n := fun k => dif_pos n.isLt
  pointwise [val_main_v16, val_main_v15, v14_eq, X2]
  simp only [← EReal.coe_mul, sum_coe, proj, col, e]

/-! ## The eight parts -/

theorem v17_eq (j : Fin 512) : val_main_v17 (F := Ideal) (X0 A) (X1 A) (X2 A) (ix2 r j) = ((proj A r (0 + j.val) : ℝ) : EReal) := by
  pointwise [val_main_v17, v16_eq]

theorem v18_eq (j : Fin 512) : val_main_v18 (F := Ideal) (X0 A) (X1 A) (X2 A) (ix2 r j) = ((proj A r (512 + j.val) : ℝ) : EReal) := by
  pointwise [val_main_v18, v16_eq]

theorem v19_eq (j : Fin 512) : val_main_v19 (F := Ideal) (X0 A) (X1 A) (X2 A) (ix2 r j) = ((proj A r (1024 + j.val) : ℝ) : EReal) := by
  pointwise [val_main_v19, v16_eq]

theorem v20_eq (j : Fin 512) : val_main_v20 (F := Ideal) (X0 A) (X1 A) (X2 A) (ix2 r j) = ((proj A r (1536 + j.val) : ℝ) : EReal) := by
  pointwise [val_main_v20, v16_eq]

theorem v21_eq (j : Fin 512) : val_main_v21 (F := Ideal) (X0 A) (X1 A) (X2 A) (ix2 r j) = ((proj A r (2048 + j.val) : ℝ) : EReal) := by
  pointwise [val_main_v21, v16_eq]

theorem v22_eq (j : Fin 384) : val_main_v22 (F := Ideal) (X0 A) (X1 A) (X2 A) (ix2 r j) = ((proj A r (2560 + j.val) : ℝ) : EReal) := by
  pointwise [val_main_v22, v16_eq]

theorem v23_eq (j : Fin 256) : val_main_v23 (F := Ideal) (X0 A) (X1 A) (X2 A) (ix2 r j) = ((proj A r (2944 + j.val) : ℝ) : EReal) := by
  pointwise [val_main_v23, v16_eq]

theorem v24_eq (j : Fin 64) : val_main_v24 (F := Ideal) (X0 A) (X1 A) (X2 A) (ix2 r j) = ((proj A r (3200 + j.val) : ℝ) : EReal) := by
  pointwise [val_main_v24, v16_eq]

theorem v26_eq (j : Fin 128) : val_main_v26 (F := Ideal) (X0 A) (X1 A) (X2 A) (ix2 r j) = ((proj A r (3200 + j.val) : ℝ) : EReal) := by
  have z : ∀ i, val_main_call0_v0 (F := Ideal) i = ((0 : ℝ) : EReal) := fun i => Att.sitofp_zero
  pointwise [val_main_v26, v24_eq, z]
  split
  · rfl
  · rw [proj_zero A r _ (by omega)]

end Cert.Inf.Ref
-- ==== Proof.InfClaim.lean ====
/- The forward input projection: from the stated precondition to real arguments, and the claim's parts. -/
module

public import proofs.«01_k».proof.Defs
public import proofs.«01_k».proof.Proof.InfArrays
public import proofs.«01_k».proof.Proof.InfRef
public import proofs.«01_k».proof.Proof.FfnClaim
public import proofs.«01_k».proof.Proof.Gen.InFwd.Frame
public import proofs.«01_k».proof.Proof.Gen.InfRefIdeal.Run
public import proofs.«01_k».proof.Proof.Gen.Pre_finite_inf
public import Idealize.ShloMosaic.Lib.Claim

@[expose] public section

set_option maxRecDepth 16384

noncomputable section

open Idealize.ShloMosaic Idealize.ShloMosaic.TcCoe Idealize.SL.Sem

namespace Cert.Inf.Claim

open Cert.Lift Cert.Inf.Arrays Cert.Att.Claim
open Cert.Ffn.Claim (one0 two1 three1)
open Cert.Ffn.Arrays (two)

section
open Cert.Pre_finite_inf

/-- Where the precondition is true, all the arguments are real. -/
theorem real_of_pre (x0 : FVec Ideal S2x4096x1024 .f32) (x1 : FVec Ideal S1x1024 .f32) (x2 : FVec Ideal S1x1024x3264 .f32)
    (h : fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h' := congrFun h (fun k => k.elim0)
  obtain ⟨h', h2⟩ := and_one h'
  obtain ⟨h0, h1⟩ := and_one h'
  haveI : Subsingleton S_.Idx := ⟨fun a b => funext fun k => k.elim0⟩
  exact ⟨real_of_all x0 _ (fun _ => ofBits_inf) _ _ _ _ h0, real_of_all x1 _ (fun _ => ofBits_inf) _ _ _ _ h1, real_of_all x2 _ (fun _ => ofBits_inf) _ _ _ _ h2⟩

end

/-- The arguments as real arrays. -/
theorem args_of_pre (m : (ℓ : Loc Cert.InFwdIdeal.nD Cert.InFwdIdeal.τ Cert.InFwdIdeal.sig) → Buf (Elt Ideal) ℓ)
    (h : Cert.Pre_InFwdIdeal_finite_inf m) (c : Dev Cert.InFwdIdeal.nD) : ∃ A : Inf.Args, On m c A := by
  obtain ⟨h0, h1, h2⟩ := real_of_pre _ _ _ (h c)
  obtain ⟨x, e_x⟩ := exists_real _ h0
  obtain ⟨g, e_g⟩ := exists_real _ h1
  obtain ⟨w, e_w⟩ := exists_real _ h2
  refine ⟨⟨fun ia ib ic => x (ix3 ia ib ic), fun ia => g (ix2 0 ia), fun ia ib => w (ix3 0 ia ib)⟩,
    ⟨e_x.trans ?_, e_g.trans ?_, e_w.trans ?_⟩⟩
  · exact funext fun i => congrArg (fun j => ((x j : ℝ) : EReal)) (three i)
  · exact funext fun i => congrArg (fun j => ((g j : ℝ) : EReal)) (two1 i)
  · exact funext fun i => congrArg (fun j => ((w j : ℝ) : EReal)) (three1 i)

theorem frame : Cert.quiescent_InFwd := fun m g _ => Cert.InFwd.Gen.frame m g

theorem frame_ideal : Cert.quiescent_InFwdIdeal := fun m g _ => Cert.InFwdIdeal.Gen.frame m g

theorem frame_ideal_pre : Cert.quiescent_InFwdIdeal_pre_finite_inf := fun m g _ => Cert.InFwdIdeal.Gen.frame m g

theorem frame_ref : Cert.quiescent_InfRefIdeal := fun m g _ =>
  (θ_run Cert.InfRefIdeal.defs _ _).mono (fun r h => ⟨fun c => (h c).2.2.2.2.2.2.2.2.2, sem_eq_zero_of_no_sems (by decide) r.2⟩)
    (Cert.InfRefIdeal.Value.run (F := Ideal) m g)

theorem frame_ref_pre : Cert.quiescent_InfRefIdeal_pre_finite_inf := fun m g _ => frame_ref m g trivial

theorem preserves : Cert.preserves_InFwd_InFwdIdeal := by
  trivial

section
open Cert.InfRefIdeal Cert.InfRefIdeal.Read

variable (A : Inf.Args)

theorem ref3 {x0 x1} (h0 : x0 = Ref.X0 A) (h1 : x1 = Ref.X1 A) :
    val_main_v25 (F := Ideal) x0 x1 = G3 A := by
  subst h0 h1
  funext i
  obtain ⟨a, b, rfl⟩ := two (n := 8192) (k := 1024) i
  exact Ref.v25_eq A a b

theorem ref4 {x0 x1 x2} (h0 : x0 = Ref.X0 A) (h1 : x1 = Ref.X1 A) (h2 : x2 = Ref.X2 A) :
    val_main_v17 (F := Ideal) x0 x1 x2 = G4 A := by
  subst h0 h1 h2
  funext i
  obtain ⟨a, b, rfl⟩ := two (n := 8192) (k := 512) i
  exact Ref.v17_eq A a b

theorem ref5 {x0 x1 x2} (h0 : x0 = Ref.X0 A) (h1 : x1 = Ref.X1 A) (h2 : x2 = Ref.X2 A) :
    val_main_v18 (F := Ideal) x0 x1 x2 = G5 A := by
  subst h0 h1 h2
  funext i
  obtain ⟨a, b, rfl⟩ := two (n := 8192) (k := 512) i
  exact Ref.v18_eq A a b

theorem ref6 {x0 x1 x2} (h0 : x0 = Ref.X0 A) (h1 : x1 = Ref.X1 A) (h2 : x2 = Ref.X2 A) :
    val_main_v19 (F := Ideal) x0 x1 x2 = G6 A := by
  subst h0 h1 h2
  funext i
  obtain ⟨a, b, rfl⟩ := two (n := 8192) (k := 512) i
  exact Ref.v19_eq A a b

theorem ref7 {x0 x1 x2} (h0 : x0 = Ref.X0 A) (h1 : x1 = Ref.X1 A) (h2 : x2 = Ref.X2 A) :
    val_main_v20 (F := Ideal) x0 x1 x2 = G7 A := by
  subst h0 h1 h2
  funext i
  obtain ⟨a, b, rfl⟩ := two (n := 8192) (k := 512) i
  exact Ref.v20_eq A a b

theorem ref8 {x0 x1 x2} (h0 : x0 = Ref.X0 A) (h1 : x1 = Ref.X1 A) (h2 : x2 = Ref.X2 A) :
    val_main_v21 (F := Ideal) x0 x1 x2 = G8 A := by
  subst h0 h1 h2
  funext i
  obtain ⟨a, b, rfl⟩ := two (n := 8192) (k := 512) i
  exact Ref.v21_eq A a b

theorem ref9 {x0 x1 x2} (h0 : x0 = Ref.X0 A) (h1 : x1 = Ref.X1 A) (h2 : x2 = Ref.X2 A) :
    val_main_v22 (F := Ideal) x0 x1 x2 = G9 A := by
  subst h0 h1 h2
  funext i
  obtain ⟨a, b, rfl⟩ := two (n := 8192) (k := 384) i
  exact Ref.v22_eq A a b

theorem ref10 {x0 x1 x2} (h0 : x0 = Ref.X0 A) (h1 : x1 = Ref.X1 A) (h2 : x2 = Ref.X2 A) :
    val_main_v23 (F := Ideal) x0 x1 x2 = G10 A := by
  subst h0 h1 h2
  funext i
  obtain ⟨a, b, rfl⟩ := two (n := 8192) (k := 256) i
  exact Ref.v23_eq A a b

theorem ref11 {x0 x1 x2} (h0 : x0 = Ref.X0 A) (h1 : x1 = Ref.X1 A) (h2 : x2 = Ref.X2 A) :
    val_main_v26 (F := Ideal) x0 x1 x2 = G11 A := by
  subst h0 h1 h2
  funext i
  obtain ⟨a, b, rfl⟩ := two (n := 8192) (k := 128) i
  exact Ref.v26_eq A a b

/-- The plain projection's run, on the real arguments `A`. -/
theorem ref_run (m : (ℓ : Loc nD τ sig) → Buf (Elt Ideal) ℓ) (g : Dev nD → PrngReg) (A : Dev nD → Inf.Args)
    (h : ∀ c : Dev nD, m ((c.tc : Thread nD τ).loc main_arg0) = Ref.X0 (A c)
      ∧ m ((c.tc : Thread nD τ).loc main_arg1) = Ref.X1 (A c)
      ∧ m ((c.tc : Thread nD τ).loc main_arg2) = Ref.X2 (A c)) :
    θ_run (defs (F := Ideal)) (onTc (τ := τ) (main (F := Ideal))) ⟨m, fun _ => 0, g⟩ fun r => ∀ c : Dev nD,
      r.2.mem ((c.tc : Thread nD τ).loc main_v25) = G3 (A c)
      ∧ r.2.mem ((c.tc : Thread nD τ).loc main_v17) = G4 (A c)
      ∧ r.2.mem ((c.tc : Thread nD τ).loc main_v18) = G5 (A c)
      ∧ r.2.mem ((c.tc : Thread nD τ).loc main_v19) = G6 (A c)
      ∧ r.2.mem ((c.tc : Thread nD τ).loc main_v20) = G7 (A c)
      ∧ r.2.mem ((c.tc : Thread nD τ).loc main_v21) = G8 (A c)
      ∧ r.2.mem ((c.tc : Thread nD τ).loc main_v22) = G9 (A c)
      ∧ r.2.mem ((c.tc : Thread nD τ).loc main_v23) = G10 (A c)
      ∧ r.2.mem ((c.tc : Thread nD τ).loc main_v26) = G11 (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r hr c => ?_) (Value.run (F := Ideal) m g)
  obtain ⟨h0, h1, h2⟩ := h c
  obtain ⟨r0, r1, r2, r3, r4, r5, r6, r7, r8, rest⟩ := hr c
  refine ⟨r0.trans ?_, r1.trans ?_, r2.trans ?_, r3.trans ?_, r4.trans ?_, r5.trans ?_, r6.trans ?_, r7.trans ?_, r8.trans ?_, rest⟩
  · exact (val_main_v25_eq ..).trans (ref3 _ h0 h1)
  · exact (val_main_v17_eq ..).trans (ref4 _ h0 h1 h2)
  · exact (val_main_v18_eq ..).trans (ref5 _ h0 h1 h2)
  · exact (val_main_v19_eq ..).trans (ref6 _ h0 h1 h2)
  · exact (val_main_v20_eq ..).trans (ref7 _ h0 h1 h2)
  · exact (val_main_v21_eq ..).trans (ref8 _ h0 h1 h2)
  · exact (val_main_v22_eq ..).trans (ref9 _ h0 h1 h2)
  · exact (val_main_v23_eq ..).trans (ref10 _ h0 h1 h2)
  · exact (val_main_v26_eq ..).trans (ref11 _ h0 h1 h2)

end

/-- The kernel and the plain projection end with the same arrays. -/
theorem algebraic : Cert.algebraic_InFwdIdeal_InfRefIdeal_pre_finite_inf := by
  pair_intro
  · exact Cert.InFwdIdeal.Value.run_blocks m g
  · choose A O using args_of_pre m hpre
    refine (θ_run Cert.InfRefIdeal.defs _ _).mono (fun r hr c => ?_) (ref_run m' g' A fun c => ?_)
    · obtain ⟨r0, r1, r2, r3, r4, r5, r6, r7, r8, rest⟩ := hr c
      exact ⟨r0.trans (arr3 (O c)).symm, r1.trans (arr4 (O c)).symm, r2.trans (arr5 (O c)).symm, r3.trans (arr6 (O c)).symm, r4.trans (arr7 (O c)).symm, r5.trans (arr8 (O c)).symm,
        r6.trans (arr9 (O c)).symm, r7.trans (arr10 (O c)).symm, r8.trans (arr11 (O c)).symm, rest⟩
    · obtain ⟨a0, a1, a2⟩ := hagree c
      exact ⟨a0.trans (O c).x, a1.trans (O c).g, a2.trans (O c).w⟩

end Cert.Inf.Claim
-- ==== Proof.lean ====
module

public import proofs.«01_k».proof.Defs
public import proofs.«01_k».proof.Proof.Gen.AttnBwd
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnRefIdeal
public import proofs.«01_k».proof.Proof.Gen.Pre_finite_att
public import proofs.«01_k».proof.Proof.Gen.AttnBwdIdeal.Value
public import proofs.«01_k».proof.Proof.Gen.AttnRefIdeal.Run
public import proofs.«01_k».proof.Proof.Gen.AttnRefIdeal.Read
public import proofs.«01_k».proof.Proof.Gen.FfnBwd.Frame
public import proofs.«01_k».proof.Proof.Gen.FfnBwdIdeal.Frame
public import proofs.«01_k».proof.Proof.Gen.FfnBwdIdeal.Value
public import proofs.«01_k».proof.Proof.Gen.FfnRefIdeal.Run
public import proofs.«01_k».proof.Proof.Gen.FfnRefIdeal.Read
public import proofs.«01_k».proof.Proof.Gen.Pre_finite_ffn
public import proofs.«01_k».proof.Proof.AttClaim
public import proofs.«01_k».proof.Proof.FfnClaim
public import proofs.«01_k».proof.Proof.InClaim
public import proofs.«01_k».proof.Proof.OutClaim
public import proofs.«01_k».proof.Proof.MlaClaim
public import proofs.«01_k».proof.Proof.AfwClaim
public import proofs.«01_k».proof.Proof.InfClaim
public import proofs.«01_k».proof.Proof.Gen.InBwd.Frame
public import proofs.«01_k».proof.Proof.Gen.InBwdIdeal.Frame
public import proofs.«01_k».proof.Proof.Gen.InBwdIdeal.Value
public import proofs.«01_k».proof.Proof.Gen.InRefIdeal.Run
public import proofs.«01_k».proof.Proof.Gen.InRefIdeal.Read
public import proofs.«01_k».proof.Proof.Gen.Pre_finite_in
public import proofs.«01_k».proof.Proof.Gen.OutBwd.Frame
public import proofs.«01_k».proof.Proof.Gen.OutBwdIdeal.Frame
public import proofs.«01_k».proof.Proof.Gen.OutBwdIdeal.Value
public import proofs.«01_k».proof.Proof.Gen.OutRefIdeal.Run
public import proofs.«01_k».proof.Proof.Gen.OutRefIdeal.Read
public import proofs.«01_k».proof.Proof.Gen.Pre_finite_out
public import proofs.«01_k».proof.Proof.Gen.MlaBwd.Frame
public import proofs.«01_k».proof.Proof.Gen.MlaBwdIdeal.Frame
public import proofs.«01_k».proof.Proof.Gen.MlaRefIdeal.Run
public import proofs.«01_k».proof.Proof.Gen.MlaRefIdeal.Read
public import proofs.«01_k».proof.Proof.Gen.Pre_finite_mla
public import proofs.«01_k».proof.Proof.Gen.AttnFwd.Frame
public import proofs.«01_k».proof.Proof.Gen.AttnFwdIdeal.Frame
public import proofs.«01_k».proof.Proof.Gen.AttnFwdIdeal.Value
public import proofs.«01_k».proof.Proof.Gen.AfwRefIdeal.Run
public import proofs.«01_k».proof.Proof.Gen.AfwRefIdeal.Read
public import proofs.«01_k».proof.Proof.Gen.Pre_finite_afw
public import proofs.«01_k».proof.Proof.Gen.InFwd.Frame
public import proofs.«01_k».proof.Proof.Gen.InFwdIdeal.Frame
public import proofs.«01_k».proof.Proof.Gen.InFwdIdeal.Value
public import proofs.«01_k».proof.Proof.Gen.InfRefIdeal.Run
public import proofs.«01_k».proof.Proof.Gen.InfRefIdeal.Read
public import proofs.«01_k».proof.Proof.Gen.Pre_finite_inf
public import Idealize.ShloMosaic.Adequacy
public import Idealize.ShloMosaic.Init

@[expose] public section

noncomputable section

namespace Cert.Proof

open Idealize.ShloMosaic Idealize.SL.Sem Cert.AttnBwd

theorem claim : Cert.Claim := ⟨Cert.AttnBwd.Gen.facts, Cert.AttnBwdIdeal.Gen.facts, Cert.AttnRefIdeal.Gen.facts,
  Cert.FfnBwd.Gen.facts, Cert.FfnBwdIdeal.Gen.facts, Cert.FfnRefIdeal.Gen.facts, Cert.InBwd.Gen.facts, Cert.InBwdIdeal.Gen.facts, Cert.InRefIdeal.Gen.facts,
  Cert.OutBwd.Gen.facts, Cert.OutBwdIdeal.Gen.facts, Cert.OutRefIdeal.Gen.facts,
  Cert.MlaBwd.Gen.facts, Cert.MlaBwdIdeal.Gen.facts, Cert.MlaRefIdeal.Gen.facts,
  Cert.AttnFwd.Gen.facts, Cert.AttnFwdIdeal.Gen.facts, Cert.AfwRefIdeal.Gen.facts,
  Cert.InFwd.Gen.facts, Cert.InFwdIdeal.Gen.facts, Cert.InfRefIdeal.Gen.facts,
  Cert.Pre_finite_att.Gen.facts, Cert.Pre_finite_ffn.Gen.facts, Cert.Pre_finite_in.Gen.facts, Cert.Pre_finite_out.Gen.facts, Cert.Pre_finite_mla.Gen.facts, Cert.Pre_finite_afw.Gen.facts, Cert.Pre_finite_inf.Gen.facts,
  Cert.Att.Claim.frame, Cert.Att.Claim.frame_ideal, Cert.Att.Claim.frame_ideal_pre, Cert.Att.Claim.frame_ref, Cert.Att.Claim.frame_ref_pre,
  Cert.Ffn.Claim.frame, Cert.Ffn.Claim.frame_ideal, Cert.Ffn.Claim.frame_ideal_pre, Cert.Ffn.Claim.frame_ref, Cert.Ffn.Claim.frame_ref_pre,
  Cert.In.Claim.frame, Cert.In.Claim.frame_ideal, Cert.In.Claim.frame_ideal_pre, Cert.In.Claim.frame_ref, Cert.In.Claim.frame_ref_pre,
  Cert.Out.Claim.frame, Cert.Out.Claim.frame_ideal, Cert.Out.Claim.frame_ideal_pre, Cert.Out.Claim.frame_ref, Cert.Out.Claim.frame_ref_pre,
  Cert.Mla.Claim.frame, Cert.Mla.Claim.frame_ideal, Cert.Mla.Claim.frame_ideal_pre, Cert.Mla.Claim.frame_ref, Cert.Mla.Claim.frame_ref_pre,
  Cert.Afw.Claim.frame, Cert.Afw.Claim.frame_ideal, Cert.Afw.Claim.frame_ideal_pre, Cert.Afw.Claim.frame_ref, Cert.Afw.Claim.frame_ref_pre,
  Cert.Inf.Claim.frame, Cert.Inf.Claim.frame_ideal, Cert.Inf.Claim.frame_ideal_pre, Cert.Inf.Claim.frame_ref, Cert.Inf.Claim.frame_ref_pre,
  Cert.Att.Claim.preserves, Cert.Att.Claim.algebraic,
  Cert.Ffn.Claim.preserves, Cert.Ffn.Claim.algebraic,
  Cert.In.Claim.preserves, Cert.In.Claim.algebraic,
  Cert.Out.Claim.preserves, Cert.Out.Claim.algebraic,
  Cert.Mla.Claim.preserves, Cert.Mla.Claim.algebraic,
  Cert.Afw.Claim.preserves, Cert.Afw.Claim.algebraic,
  Cert.Inf.Claim.preserves, Cert.Inf.Claim.algebraic⟩

end Cert.Proof

end
